-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_tables [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_tables [hPre_ids_in_tables : Cert.Pre_ids_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ids_in_tables [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_tables m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ids_in_tables [hReferenceIdeal : Cert.ReferenceIdeal.Facts] [hPre_ids_in_tables : Cert.Pre_ids_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_ids_in_tables [hKernelIdeal : Cert.KernelIdeal.Facts] [hReferenceIdeal : Cert.ReferenceIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ids_in_tables : Cert.Pre_ids_in_tables.Facts),
    quiescent_Kernel (hKernel := hKernel)
    ∧ quiescent_KernelIdeal (hKernelIdeal := hKernelIdeal)
    ∧ quiescent_KernelIdeal_pre_ids_in_tables (hKernelIdeal := hKernelIdeal) (hPre_ids_in_tables := hPre_ids_in_tables)
    ∧ quiescent_ReferenceIdeal (hReferenceIdeal := hReferenceIdeal)
    ∧ quiescent_ReferenceIdeal_pre_ids_in_tables (hReferenceIdeal := hReferenceIdeal) (hPre_ids_in_tables := hPre_ids_in_tables)
    ∧ preserves_Kernel_KernelIdeal
    ∧ algebraic_KernelIdeal_ReferenceIdeal_pre_ids_in_tables (hKernelIdeal := hKernelIdeal) (hReferenceIdeal := hReferenceIdeal) (hPre_ids_in_tables := hPre_ids_in_tables)
-- ==== Pre_ids_in_tables.lean ====
abbrev S16384x2 : Shape := ⟨2, ![16384, 2]⟩
abbrev S1000000x32 : Shape := ⟨2, ![1000000, 32]⟩
abbrev S32x10 : Shape := ⟨2, ![32, 10]⟩
abbrev S10 : Shape := ⟨1, ![10]⟩
abbrev S20x10 : Shape := ⟨2, ![20, 10]⟩
abbrev S10x1 : Shape := ⟨2, ![10, 1]⟩
abbrev S1 : Shape := ⟨1, ![1]⟩
abbrev S_ : Shape := ⟨0, ![]⟩

class Facts : Prop where
  bcast_S_S16384x2 : S_.BroadcastsInDim S16384x2 (![] : Fin 0 → Fin S16384x2.rank)

variable [Facts]

def fn {F : FTy → Type} [FloatOps F] (main_arg0 : IVec S16384x2 32) (main_arg1 : FVec F S1000000x32 .f32) (main_arg2 : FVec F S1000000x32 .f32) (main_arg3 : FVec F S32x10 .f32) (main_arg4 : FVec F S10 .f32) (main_arg5 : FVec F S32x10 .f32) (main_arg6 : FVec F S10 .f32) (main_arg7 : FVec F S20x10 .f32) (main_arg8 : FVec F S10 .f32) (main_arg9 : FVec F S10x1 .f32) (main_arg10 : FVec F S1 .f32) : IVec S16384x2 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 1000000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  main_v4
-- ==== Kernel.lean ====
abbrev S16384x2 : Shape := ⟨2, ![16384, 2]⟩
abbrev S1000000x32 : Shape := ⟨2, ![1000000, 32]⟩
abbrev S32x10 : Shape := ⟨2, ![32, 10]⟩
abbrev S10 : Shape := ⟨1, ![10]⟩
abbrev S20x10 : Shape := ⟨2, ![20, 10]⟩
abbrev S10x1 : Shape := ⟨2, ![10, 1]⟩
abbrev S1 : Shape := ⟨1, ![1]⟩
abbrev S_ : Shape := ⟨0, ![]⟩
abbrev S1007616x32 : Shape := ⟨2, ![1007616, 32]⟩
abbrev S32x1007616 : Shape := ⟨2, ![32, 1007616]⟩
abbrev S32x16 : Shape := ⟨2, ![32, 16]⟩
abbrev S16 : Shape := ⟨1, ![16]⟩
abbrev S8x8 : Shape := ⟨2, ![8, 8]⟩
abbrev S8x1x8x1 : Shape := ⟨4, ![8, 1, 8, 1]⟩
abbrev S1x32x1x16 : Shape := ⟨4, ![1, 32, 1, 16]⟩
abbrev S8x32x8x16 : Shape := ⟨4, ![8, 32, 8, 16]⟩
abbrev S256x128 : Shape := ⟨2, ![256, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S16x1 : Shape := ⟨2, ![16, 1]⟩
abbrev S8192 : Shape := ⟨1, ![8192]⟩
abbrev S1x8192 : Shape := ⟨2, ![1, 8192]⟩
abbrev S16x8192 : Shape := ⟨2, ![16, 8192]⟩
abbrev S131072x128 : Shape := ⟨2, ![131072, 128]⟩
abbrev S2x32x8192 : Shape := ⟨3, ![2, 32, 8192]⟩
abbrev S2 : Shape := ⟨1, ![2]⟩
abbrev S2x1x8192 : Shape := ⟨3, ![2, 1, 8192]⟩
abbrev S2x8192x128 : Shape := ⟨3, ![2, 8192, 128]⟩
abbrev S1x32x8192 : Shape := ⟨3, ![1, 32, 8192]⟩
abbrev S32x8192 : Shape := ⟨2, ![32, 8192]⟩
abbrev S1x1x8192 : Shape := ⟨3, ![1, 1, 8192]⟩
abbrev S256x8192 : Shape := ⟨2, ![256, 8192]⟩
abbrev S8192x128 : Shape := ⟨2, ![8192, 128]⟩
abbrev S1x8192x128 : Shape := ⟨3, ![1, 8192, 128]⟩
abbrev S16384x1 : Shape := ⟨2, ![16384, 1]⟩
abbrev S16384 : Shape := ⟨1, ![16384]⟩
abbrev S32x4x128 : Shape := ⟨3, ![32, 4, 128]⟩
abbrev S16384x128 : Shape := ⟨2, ![16384, 128]⟩
abbrev S4x128 : Shape := ⟨2, ![4, 128]⟩
abbrev S128x128 : Shape := ⟨2, ![128, 128]⟩
abbrev S1x4x128 : Shape := ⟨3, ![1, 4, 128]⟩
abbrev S10x10 : Shape := ⟨2, ![10, 10]⟩
abbrev S16x10 : Shape := ⟨2, ![16, 10]⟩
abbrev S1x16x1x10 : Shape := ⟨4, ![1, 16, 1, 10]⟩
abbrev S8x16x1x10 : Shape := ⟨4, ![8, 16, 1, 10]⟩
abbrev S128x10 : Shape := ⟨2, ![128, 10]⟩
abbrev S1x10 : Shape := ⟨2, ![1, 10]⟩
abbrev S1x1 : Shape := ⟨2, ![1, 1]⟩
abbrev S2048x128 : Shape := ⟨2, ![2048, 128]⟩
abbrev S2048x1 : Shape := ⟨2, ![2048, 1]⟩
abbrev S2048x10 : Shape := ⟨2, ![2048, 10]⟩

abbrev nBuf : Table → Nat
  | .hbm => 126
  | .local .tc .vmem => 38
  | .local .scVector .vmem => 6
  | _ => 0

abbrev bufTy : (tb : Table) → Fin (nBuf tb) → BufTy
  | .hbm, ⟨0, _⟩ => ⟨S16384x2, .i32⟩
  | .hbm, ⟨1, _⟩ => ⟨S1000000x32, .f32⟩
  | .hbm, ⟨2, _⟩ => ⟨S1000000x32, .f32⟩
  | .hbm, ⟨3, _⟩ => ⟨S32x10, .f32⟩
  | .hbm, ⟨4, _⟩ => ⟨S10, .f32⟩
  | .hbm, ⟨5, _⟩ => ⟨S32x10, .f32⟩
  | .hbm, ⟨6, _⟩ => ⟨S10, .f32⟩
  | .hbm, ⟨7, _⟩ => ⟨S20x10, .f32⟩
  | .hbm, ⟨8, _⟩ => ⟨S10, .f32⟩
  | .hbm, ⟨9, _⟩ => ⟨S10x1, .f32⟩
  | .hbm, ⟨10, _⟩ => ⟨S1, .f32⟩
  | .hbm, ⟨11, _⟩ => ⟨S_, .i32⟩
  | .hbm, ⟨12, _⟩ => ⟨S_, .f32⟩
  | .hbm, ⟨13, _⟩ => ⟨S1007616x32, .f32⟩
  | .hbm, ⟨14, _⟩ => ⟨S32x1007616, .f32⟩
  | .hbm, ⟨15, _⟩ => ⟨S_, .i32⟩
  | .hbm, ⟨16, _⟩ => ⟨S_, .f32⟩
  | .hbm, ⟨17, _⟩ => ⟨S1007616x32, .f32⟩
  | .hbm, ⟨18, _⟩ => ⟨S32x1007616, .f32⟩
  | .hbm, ⟨19, _⟩ => ⟨S_, .i32⟩
  | .hbm, ⟨20, _⟩ => ⟨S_, .f32⟩
  | .hbm, ⟨21, _⟩ => ⟨S32x16, .f32⟩
  | .hbm, ⟨22, _⟩ => ⟨S_, .i32⟩
  | .hbm, ⟨23, _⟩ => ⟨S_, .f32⟩
  | .hbm, ⟨24, _⟩ => ⟨S16, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S8x1x8x1, .f32⟩
  | .hbm, ⟨33, _⟩ => ⟨S1x32x1x16, .f32⟩
  | .hbm, ⟨34, _⟩ => ⟨S8x32x8x16, .f32⟩
  | .hbm, ⟨35, _⟩ => ⟨S8x32x8x16, .f32⟩
  | .hbm, ⟨36, _⟩ => ⟨S8x32x8x16, .f32⟩
  | .hbm, ⟨37, _⟩ => ⟨S256x128, .f32⟩
  | .hbm, ⟨38, _⟩ => ⟨S1x16, .f32⟩
  | .hbm, ⟨39, _⟩ => ⟨S8x16, .f32⟩
  | .hbm, ⟨40, _⟩ => ⟨S128, .f32⟩
  | .hbm, ⟨41, _⟩ => ⟨S1x128, .f32⟩
  | .hbm, ⟨42, _⟩ => ⟨S_, .i32⟩
  | .hbm, ⟨43, _⟩ => ⟨S_, .f32⟩
  | .hbm, ⟨44, _⟩ => ⟨S32x16, .f32⟩
  | .hbm, ⟨45, _⟩ => ⟨S_, .i32⟩
  | .hbm, ⟨46, _⟩ => ⟨S_, .f32⟩
  | .hbm, ⟨47, _⟩ => ⟨S16, .f32⟩
  | .hbm, ⟨48, _⟩ => ⟨S8x8, .i32⟩
  | .hbm, ⟨49, _⟩ => ⟨S8x8, .i32⟩
  | .hbm, ⟨50, _⟩ => ⟨S_, .i32⟩
  | .hbm, ⟨51, _⟩ => ⟨S8x8, .i32⟩
  | .hbm, ⟨52, _⟩ => ⟨S8x8, .i32⟩
  | .hbm, ⟨53, _⟩ => ⟨S8x8, .i1⟩
  | .hbm, ⟨54, _⟩ => ⟨S8x8, .f32⟩
  | .hbm, ⟨55, _⟩ => ⟨S8x1x8x1, .f32⟩
  | .hbm, ⟨56, _⟩ => ⟨S1x32x1x16, .f32⟩
  | .hbm, ⟨57, _⟩ => ⟨S8x32x8x16, .f32⟩
  | .hbm, ⟨58, _⟩ => ⟨S8x32x8x16, .f32⟩
  | .hbm, ⟨59, _⟩ => ⟨S8x32x8x16, .f32⟩
  | .hbm, ⟨60, _⟩ => ⟨S256x128, .f32⟩
  | .hbm, ⟨61, _⟩ => ⟨S1x16, .f32⟩
  | .hbm, ⟨62, _⟩ => ⟨S8x16, .f32⟩
  | .hbm, ⟨63, _⟩ => ⟨S128, .f32⟩
  | .hbm, ⟨64, _⟩ => ⟨S1x128, .f32⟩
  | .hbm, ⟨65, _⟩ => ⟨S16, .i32⟩
  | .hbm, ⟨66, _⟩ => ⟨S_, .i32⟩
  | .hbm, ⟨67, _⟩ => ⟨S16, .i32⟩
  | .hbm, ⟨68, _⟩ => ⟨S16, .i32⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16x1, .i32⟩
  | .hbm, ⟨73, _⟩ => ⟨S_, .i32⟩
  | .hbm, ⟨74, _⟩ => ⟨S16x1, .i32⟩
  | .hbm, ⟨75, _⟩ => ⟨S16x1, .i32⟩
  | .hbm, ⟨76, _⟩ => ⟨S8192, .i32⟩
  | .hbm, ⟨77, _⟩ => ⟨S1x8192, .i32⟩
  | .hbm, ⟨78, _⟩ => ⟨S16x8192, .i32⟩
  | .hbm, ⟨79, _⟩ => ⟨S16x8192, .i32⟩
  | .hbm, ⟨80, _⟩ => ⟨S16x8192, .i32⟩
  | .hbm, ⟨81, _⟩ => ⟨S_, .i32⟩
  | .hbm, ⟨82, _⟩ => ⟨S16x8192, .i32⟩
  | .hbm, ⟨83, _⟩ => ⟨S16x8192, .i1⟩
  | .hbm, ⟨84, _⟩ => ⟨S16x8192, .f32⟩
  | .hbm, ⟨85, _⟩ => ⟨S131072x128, .f32⟩
  | .hbm, ⟨86, _⟩ => ⟨S131072x128, .f32⟩
  | .hbm, ⟨87, _⟩ => ⟨S16384x1, .i32⟩
  | .hbm, ⟨88, _⟩ => ⟨S16384, .i32⟩
  | .hbm, ⟨89, _⟩ => ⟨S16384x1, .i32⟩
  | .hbm, ⟨90, _⟩ => ⟨S16384, .i32⟩
  | .hbm, ⟨91, _⟩ => ⟨S_, .i32⟩
  | .hbm, ⟨92, _⟩ => ⟨S16384, .i32⟩
  | .hbm, ⟨93, _⟩ => ⟨S16384, .i32⟩
  | .hbm, ⟨94, _⟩ => ⟨S32x4x128, .i32⟩
  | .hbm, ⟨95, _⟩ => ⟨S_, .i32⟩
  | .hbm, ⟨96, _⟩ => ⟨S16384, .i32⟩
  | .hbm, ⟨97, _⟩ => ⟨S16384, .i32⟩
  | .hbm, ⟨98, _⟩ => ⟨S32x4x128, .i32⟩
  | .hbm, ⟨99, _⟩ => ⟨S_, .i32⟩
  | .hbm, ⟨100, _⟩ => ⟨S16384, .i32⟩
  | .hbm, ⟨101, _⟩ => ⟨S16384, .i32⟩
  | .hbm, ⟨102, _⟩ => ⟨S16384x1, .i32⟩
  | .hbm, ⟨103, _⟩ => ⟨S_, .i32⟩
  | .hbm, ⟨104, _⟩ => ⟨S16384, .i32⟩
  | .hbm, ⟨105, _⟩ => ⟨S16384, .i32⟩
  | .hbm, ⟨106, _⟩ => ⟨S16384x1, .i32⟩
  | .hbm, ⟨107, _⟩ => ⟨S16384x128, .f32⟩
  | .hbm, ⟨108, _⟩ => ⟨S16384x128, .f32⟩
  | .hbm, ⟨109, _⟩ => ⟨S10x10, .f32⟩
  | .hbm, ⟨110, _⟩ => ⟨S_, .i32⟩
  | .hbm, ⟨111, _⟩ => ⟨S_, .f32⟩
  | .hbm, ⟨112, _⟩ => ⟨S16x10, .f32⟩
  | .hbm, ⟨113, _⟩ => ⟨S1x16x1x10, .f32⟩
  | .hbm, ⟨114, _⟩ => ⟨S8x16x1x10, .f32⟩
  | .hbm, ⟨115, _⟩ => ⟨S128x10, .f32⟩
  | .hbm, ⟨116, _⟩ => ⟨S10x10, .f32⟩
  | .hbm, ⟨117, _⟩ => ⟨S_, .i32⟩
  | .hbm, ⟨118, _⟩ => ⟨S_, .f32⟩
  | .hbm, ⟨119, _⟩ => ⟨S16x10, .f32⟩
  | .hbm, ⟨120, _⟩ => ⟨S1x16x1x10, .f32⟩
  | .hbm, ⟨121, _⟩ => ⟨S8x16x1x10, .f32⟩
  | .hbm, ⟨122, _⟩ => ⟨S128x10, .f32⟩
  | .hbm, ⟨123, _⟩ => ⟨S1x10, .f32⟩
  | .hbm, ⟨124, _⟩ => ⟨S1x1, .f32⟩
  | .hbm, ⟨125, _⟩ => ⟨S16384x1, .f32⟩
  | .local .tc .vmem, ⟨0, _⟩ => ⟨S2x32x8192, .f32⟩
  | .local .tc .vmem, ⟨1, _⟩ => ⟨S2x32x8192, .f32⟩
  | .local .tc .vmem, ⟨2, _⟩ => ⟨S2x32x8192, .f32⟩
  | .local .tc .vmem, ⟨3, _⟩ => ⟨S2x32x8192, .f32⟩
  | .local .tc .vmem, ⟨4, _⟩ => ⟨S2x32x8192, .f32⟩
  | .local .tc .vmem, ⟨5, _⟩ => ⟨S2x32x8192, .f32⟩
  | .local .tc .vmem, ⟨6, _⟩ => ⟨S2x32x8192, .f32⟩
  | .local .tc .vmem, ⟨7, _⟩ => ⟨S2x32x8192, .f32⟩
  | .local .tc .vmem, ⟨8, _⟩ => ⟨S2x32x8192, .f32⟩
  | .local .tc .vmem, ⟨9, _⟩ => ⟨S2x32x8192, .f32⟩
  | .local .tc .vmem, ⟨10, _⟩ => ⟨S2x32x8192, .f32⟩
  | .local .tc .vmem, ⟨11, _⟩ => ⟨S2x32x8192, .f32⟩
  | .local .tc .vmem, ⟨12, _⟩ => ⟨S2x32x8192, .f32⟩
  | .local .tc .vmem, ⟨13, _⟩ => ⟨S2x32x8192, .f32⟩
  | .local .tc .vmem, ⟨14, _⟩ => ⟨S2x32x8192, .f32⟩
  | .local .tc .vmem, ⟨15, _⟩ => ⟨S2x32x8192, .f32⟩
  | .local .tc .vmem, ⟨16, _⟩ => ⟨S256x128, .f32⟩
  | .local .tc .vmem, ⟨17, _⟩ => ⟨S1x128, .f32⟩
  | .local .tc .vmem, ⟨18, _⟩ => ⟨S256x128, .f32⟩
  | .local .tc .vmem, ⟨19, _⟩ => ⟨S1x128, .f32⟩
  | .local .tc .vmem, ⟨20, _⟩ => ⟨S2x1x8192, .f32⟩
  | .local .tc .vmem, ⟨21, _⟩ => ⟨S2x8192x128, .f32⟩
  | .local .tc .vmem, ⟨22, _⟩ => ⟨S2x8192x128, .f32⟩
  | .local .tc .vmem, ⟨23, _⟩ => ⟨S2048x128, .f32⟩
  | .local .tc .vmem, ⟨24, _⟩ => ⟨S2048x128, .f32⟩
  | .local .tc .vmem, ⟨25, _⟩ => ⟨S2048x128, .f32⟩
  | .local .tc .vmem, ⟨26, _⟩ => ⟨S2048x128, .f32⟩
  | .local .tc .vmem, ⟨27, _⟩ => ⟨S2048x1, .i32⟩
  | .local .tc .vmem, ⟨28, _⟩ => ⟨S2048x1, .i32⟩
  | .local .tc .vmem, ⟨29, _⟩ => ⟨S2048x1, .i32⟩
  | .local .tc .vmem, ⟨30, _⟩ => ⟨S2048x1, .i32⟩
  | .local .tc .vmem, ⟨31, _⟩ => ⟨S128x10, .f32⟩
  | .local .tc .vmem, ⟨32, _⟩ => ⟨S128x10, .f32⟩
  | .local .tc .vmem, ⟨33, _⟩ => ⟨S1x10, .f32⟩
  | .local .tc .vmem, ⟨34, _⟩ => ⟨S10x1, .f32⟩
  | .local .tc .vmem, ⟨35, _⟩ => ⟨S1x1, .f32⟩
  | .local .tc .vmem, ⟨36, _⟩ => ⟨S2048x1, .f32⟩
  | .local .tc .vmem, ⟨37, _⟩ => ⟨S2048x1, .f32⟩
  | .local .scVector .vmem, ⟨0, _⟩ => ⟨S4x128, .i32⟩
  | .local .scVector .vmem, ⟨1, _⟩ => ⟨S4x128, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTables nBuf rfl bufTy 4 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_c_2 : Ref sig .tc := ⟨.hbm, 22, rfl⟩
abbrev main_call3_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_call5_v0 : Ref sig .tc := ⟨.hbm, 43, rfl⟩
abbrev main_v17 : Ref sig .tc := ⟨.hbm, 44, rfl⟩
abbrev main_c_5 : Ref sig .tc := ⟨.hbm, 45, rfl⟩
abbrev main_call6_v0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call7_v0 : Ref sig .tc := ⟨.hbm, 55, rfl⟩
abbrev main_call7_v1 : Ref sig .tc := ⟨.hbm, 56, rfl⟩
abbrev main_call7_v2 : Ref sig .tc := ⟨.hbm, 57, rfl⟩
abbrev main_call7_v3 : Ref sig .tc := ⟨.hbm, 58, rfl⟩
abbrev main_call7_v4 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_c_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_9 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_10 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46_0 : Ref sig .tc := ⟨.hbm, 85, rfl⟩
abbrev main_v46_1 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_12 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c_13 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_14 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63_0 : Ref sig .tc := ⟨.hbm, 107, rfl⟩
abbrev main_v63_1 : Ref sig .tc := ⟨.hbm, 108, rfl⟩
abbrev main_v64 : Ref sig .tc := ⟨.hbm, 109, rfl⟩
abbrev main_c_15 : Ref sig .tc := ⟨.hbm, 110, rfl⟩
abbrev main_call8_v0 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_16 : Ref sig .tc := ⟨.hbm, 117, rfl⟩
abbrev main_call9_v0 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v46_0_scv : Ref sig .scVector := ⟨.hbm, 85, rfl⟩
abbrev main_v46_1_scv : Ref sig .scVector := ⟨.hbm, 86, rfl⟩
abbrev main_v53_scv : Ref sig .scVector := ⟨.hbm, 94, rfl⟩
abbrev main_v56_scv : Ref sig .scVector := ⟨.hbm, 98, rfl⟩
abbrev main_v63_0_scv : Ref sig .scVector := ⟨.hbm, 107, rfl⟩
abbrev main_v63_1_scv : Ref sig .scVector := ⟨.hbm, 108, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped12 : Ref sig .tc := ⟨.vmem, 6, rfl⟩
abbrev cc0_scoped14 : Ref sig .tc := ⟨.vmem, 7, rfl⟩
abbrev cc0_scoped16 : Ref sig .tc := ⟨.vmem, 8, rfl⟩
abbrev cc0_scoped18 : Ref sig .tc := ⟨.vmem, 9, rfl⟩
abbrev cc0_scoped20 : Ref sig .tc := ⟨.vmem, 10, rfl⟩
abbrev cc0_scoped22 : Ref sig .tc := ⟨.vmem, 11, rfl⟩
abbrev cc0_scoped24 : Ref sig .tc := ⟨.vmem, 12, rfl⟩
abbrev cc0_scoped26 : Ref sig .tc := ⟨.vmem, 13, rfl⟩
abbrev cc0_scoped28 : Ref sig .tc := ⟨.vmem, 14, rfl⟩
abbrev cc0_scoped30 : Ref sig .tc := ⟨.vmem, 15, rfl⟩
abbrev cc0_scoped32 : Ref sig .tc := ⟨.vmem, 16, rfl⟩
abbrev cc0_scoped33 : Ref sig .tc := ⟨.vmem, 17, rfl⟩
abbrev cc0_scoped34 : Ref sig .tc := ⟨.vmem, 18, rfl⟩
abbrev cc0_scoped35 : Ref sig .tc := ⟨.vmem, 19, rfl⟩
abbrev cc0_scoped36 : Ref sig .tc := ⟨.vmem, 20, rfl⟩
abbrev cc0_scoped38 : Ref sig .tc := ⟨.vmem, 21, rfl⟩
abbrev cc0_scoped40 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc2_sem0_0 : DmaSem sig := 56
abbrev cc2_sem0_1 : DmaSem sig := 57
abbrev cc2_sem1_0 : DmaSem sig := 58
abbrev cc2_sem1_1 : DmaSem sig := 59
abbrev cc2_sem2_0 : DmaSem sig := 60
abbrev cc2_sem2_1 : DmaSem sig := 61
abbrev cc2_sem3_0 : DmaSem sig := 62
abbrev cc2_sem3_1 : DmaSem sig := 63
abbrev cc2_sem4_0 : DmaSem sig := 64
abbrev cc2_sem5_0 : DmaSem sig := 65
abbrev cc2_sem6_0 : DmaSem sig := 66
abbrev cc2_sem7_0 : DmaSem sig := 67
abbrev cc2_sem8_0 : DmaSem sig := 68
abbrev cc2_sem9_0 : DmaSem sig := 69
abbrev cc2_sem9_1 : DmaSem sig := 70
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 : Fin 1 → Nat :=
  let c0_i32_33_r0 : BitVec 32 := 0#32
  let c2_i32_r0 : BitVec 32 := 2#32
  let v32_r0 : BitVec 32 := Scalar.remui c0_i32_33_r0 c2_i32_r0
  ![v32_r0.toNat]
def k0_off2 : Fin 3 → Nat :=
  let c0_i32_33_r0 : BitVec 32 := 0#32
  let c2_i32_r0 : BitVec 32 := 2#32
  let v32_r0 : BitVec 32 := Scalar.remui c0_i32_33_r0 c2_i32_r0
  let c0_i32_35_r0 : BitVec 32 := 0#32
  let c0_i32_36_r0 : BitVec 32 := 0#32
  ![v32_r0.toNat, 0, 0]
def k0_off3 (c0_i32_34_r0 : BitVec 32) : Fin 2 → Nat :=
  let c0_i32_37_r0 : BitVec 32 := 0#32
  let c8192_i32_r0 : BitVec 32 := 8192#32
  let c122_i32_r0 : BitVec 32 := 122#32
  let v33_r0 : BitVec 32 := Scalar.minsi c0_i32_34_r0 c122_i32_r0
  let v34_r0 : BitVec 32 := Scalar.muli c8192_i32_r0 v33_r0
  ![0, v34_r0.toNat]
def k0_off4 : Fin 3 → Nat :=
  let c0_i32_184_r0 : BitVec 32 := 0#32
  let c2_i32_185_r0 : BitVec 32 := 2#32
  let v176_r0 : BitVec 32 := Scalar.remui c0_i32_184_r0 c2_i32_185_r0
  let c0_i32_186_r0 : BitVec 32 := 0#32
  let c0_i32_187_r0 : BitVec 32 := 0#32
  ![v176_r0.toNat, 0, 0]
@[reducible] def k0_t1_loop : Scf.Loop 32 :=
  let c0_i32_222_r0 : BitVec 32 := 0#32
  let c16_i32_223_r0 : BitVec 32 := 16#32
  let v183_r0 : BitVec 32 := Scalar.addi c0_i32_222_r0 c16_i32_223_r0
  let c1_i32_224_r0 : BitVec 32 := 1#32
  ⟨c0_i32_222_r0, v183_r0, c1_i32_224_r0⟩
def k0_off5 (arg11_r0 : BitVec 32) : Fin 1 → Nat :=
  let c2_i32_708_r0 : BitVec 32 := 2#32
  let v1032_r0 : BitVec 32 := Scalar.remui arg11_r0 c2_i32_708_r0
  ![v1032_r0.toNat]
def k0_cond1 (k0_t1 : Fin k0_t1_loop.trips) (arg53_r0 : BitVec 32) : BitVec 1 :=
  let c0_i32_274_r0 : BitVec 32 := 0#32
  let c0_i32_258_r0 : BitVec 32 := 0#32
  let v221_r0 : BitVec 32 := Scalar.addi arg53_r0 c0_i32_258_r0
  let v237_r0 : BitVec 32 := Scalar.addi c0_i32_274_r0 v221_r0
  let c122_i32_275_r0 : BitVec 32 := 122#32
  let v238_r0 : BitVec 32 := Scalar.minsi v237_r0 c122_i32_275_r0
  let c0_i32_276_r0 : BitVec 32 := 0#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v239_r0 : BitVec 32 := Scalar.addi c0_i32_276_r0 v231_r0
  let c122_i32_277_r0 : BitVec 32 := 122#32
  let v240_r0 : BitVec 32 := Scalar.minsi v239_r0 c122_i32_277_r0
  let v241_r0 : BitVec 1 := Scalar.cmpi .ne v238_r0 v240_r0
  let c0_i32_222_r0 : BitVec 32 := 0#32
  let c1_i32_224_r0 : BitVec 32 := 1#32
  let arg10_r0 : BitVec 32 := Scf.iv c0_i32_222_r0 c1_i32_224_r0 k0_t1
  let c15_i32_278_r0 : BitVec 32 := 15#32
  let v242_r0 : BitVec 1 := Scalar.cmpi .sge arg10_r0 c15_i32_278_r0
  let true_279_r0 : BitVec 1 := 1#1
  let v243_r0 : BitVec 1 := Scalar.xori v242_r0 true_279_r0
  let v244_r0 : BitVec 1 := Scalar.andi v241_r0 v243_r0
  let true_280_r0 : BitVec 1 := 1#1
  let v245_r0 : BitVec 1 := Scalar.andi v244_r0 true_280_r0
  let v246_r0 : BitVec 32 := Scalar.extui v245_r0
  let c0_i32_281_r0 : BitVec 32 := 0#32
  let v247_r0 : BitVec 1 := Scalar.cmpi .ne v246_r0 c0_i32_281_r0
  v247_r0

def k0_off6 (arg11_r0 : BitVec 32) : Fin 3 → Nat :=
  let c2_i32_708_r0 : BitVec 32 := 2#32
  let v1032_r0 : BitVec 32 := Scalar.remui arg11_r0 c2_i32_708_r0
  let c0_i32_712_r0 : BitVec 32 := 0#32
  let c0_i32_713_r0 : BitVec 32 := 0#32
  ![v1032_r0.toNat, 0, 0]
def k0_off7 (arg53_r0 : BitVec 32) : Fin 2 → Nat :=
  let c0_i32_714_r0 : BitVec 32 := 0#32
  let c8192_i32_711_r0 : BitVec 32 := 8192#32
  let c0_i32_709_r0 : BitVec 32 := 0#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c0_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off8 (arg13_r0 : BitVec 32) : Fin 1 → Nat :=
  let c2_i32_708_r0 : BitVec 32 := 2#32
  let v1032_r0 : BitVec 32 := Scalar.remui arg13_r0 c2_i32_708_r0
  ![v1032_r0.toNat]
def k0_cond2 (k0_t1 : Fin k0_t1_loop.trips) (arg53_r0 : BitVec 32) : BitVec 1 :=
  let c16_i32_284_r0 : BitVec 32 := 16#32
  let c0_i32_258_r0 : BitVec 32 := 0#32
  let v221_r0 : BitVec 32 := Scalar.addi arg53_r0 c0_i32_258_r0
  let v251_r0 : BitVec 32 := Scalar.addi c16_i32_284_r0 v221_r0
  let c122_i32_285_r0 : BitVec 32 := 122#32
  let v252_r0 : BitVec 32 := Scalar.minsi v251_r0 c122_i32_285_r0
  let c16_i32_286_r0 : BitVec 32 := 16#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v253_r0 : BitVec 32 := Scalar.addi c16_i32_286_r0 v231_r0
  let c122_i32_287_r0 : BitVec 32 := 122#32
  let v254_r0 : BitVec 32 := Scalar.minsi v253_r0 c122_i32_287_r0
  let v255_r0 : BitVec 1 := Scalar.cmpi .ne v252_r0 v254_r0
  let c0_i32_222_r0 : BitVec 32 := 0#32
  let c1_i32_224_r0 : BitVec 32 := 1#32
  let arg10_r0 : BitVec 32 := Scf.iv c0_i32_222_r0 c1_i32_224_r0 k0_t1
  let c15_i32_288_r0 : BitVec 32 := 15#32
  let v256_r0 : BitVec 1 := Scalar.cmpi .sge arg10_r0 c15_i32_288_r0
  let true_289_r0 : BitVec 1 := 1#1
  let v257_r0 : BitVec 1 := Scalar.xori v256_r0 true_289_r0
  let v258_r0 : BitVec 1 := Scalar.andi v255_r0 v257_r0
  let true_290_r0 : BitVec 1 := 1#1
  let v259_r0 : BitVec 1 := Scalar.andi v258_r0 true_290_r0
  let v260_r0 : BitVec 32 := Scalar.extui v259_r0
  let c0_i32_291_r0 : BitVec 32 := 0#32
  let v261_r0 : BitVec 1 := Scalar.cmpi .ne v260_r0 c0_i32_291_r0
  v261_r0

def k0_off9 (arg13_r0 : BitVec 32) : Fin 3 → Nat :=
  let c2_i32_708_r0 : BitVec 32 := 2#32
  let v1032_r0 : BitVec 32 := Scalar.remui arg13_r0 c2_i32_708_r0
  let c0_i32_712_r0 : BitVec 32 := 0#32
  let c0_i32_713_r0 : BitVec 32 := 0#32
  ![v1032_r0.toNat, 0, 0]
def k0_off10 (arg53_r0 : BitVec 32) : Fin 2 → Nat :=
  let c0_i32_714_r0 : BitVec 32 := 0#32
  let c8192_i32_711_r0 : BitVec 32 := 8192#32
  let c16_i32_709_r0 : BitVec 32 := 16#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c16_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off11 (arg15_r0 : BitVec 32) : Fin 1 → Nat :=
  let c2_i32_708_r0 : BitVec 32 := 2#32
  let v1032_r0 : BitVec 32 := Scalar.remui arg15_r0 c2_i32_708_r0
  ![v1032_r0.toNat]
def k0_cond3 (k0_t1 : Fin k0_t1_loop.trips) (arg53_r0 : BitVec 32) : BitVec 1 :=
  let c32_i32_294_r0 : BitVec 32 := 32#32
  let c0_i32_258_r0 : BitVec 32 := 0#32
  let v221_r0 : BitVec 32 := Scalar.addi arg53_r0 c0_i32_258_r0
  let v265_r0 : BitVec 32 := Scalar.addi c32_i32_294_r0 v221_r0
  let c122_i32_295_r0 : BitVec 32 := 122#32
  let v266_r0 : BitVec 32 := Scalar.minsi v265_r0 c122_i32_295_r0
  let c32_i32_296_r0 : BitVec 32 := 32#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v267_r0 : BitVec 32 := Scalar.addi c32_i32_296_r0 v231_r0
  let c122_i32_297_r0 : BitVec 32 := 122#32
  let v268_r0 : BitVec 32 := Scalar.minsi v267_r0 c122_i32_297_r0
  let v269_r0 : BitVec 1 := Scalar.cmpi .ne v266_r0 v268_r0
  let c0_i32_222_r0 : BitVec 32 := 0#32
  let c1_i32_224_r0 : BitVec 32 := 1#32
  let arg10_r0 : BitVec 32 := Scf.iv c0_i32_222_r0 c1_i32_224_r0 k0_t1
  let c15_i32_298_r0 : BitVec 32 := 15#32
  let v270_r0 : BitVec 1 := Scalar.cmpi .sge arg10_r0 c15_i32_298_r0
  let true_299_r0 : BitVec 1 := 1#1
  let v271_r0 : BitVec 1 := Scalar.xori v270_r0 true_299_r0
  let v272_r0 : BitVec 1 := Scalar.andi v269_r0 v271_r0
  let true_300_r0 : BitVec 1 := 1#1
  let v273_r0 : BitVec 1 := Scalar.andi v272_r0 true_300_r0
  let v274_r0 : BitVec 32 := Scalar.extui v273_r0
  let c0_i32_301_r0 : BitVec 32 := 0#32
  let v275_r0 : BitVec 1 := Scalar.cmpi .ne v274_r0 c0_i32_301_r0
  v275_r0

def k0_off12 (arg15_r0 : BitVec 32) : Fin 3 → Nat :=
  let c2_i32_708_r0 : BitVec 32 := 2#32
  let v1032_r0 : BitVec 32 := Scalar.remui arg15_r0 c2_i32_708_r0
  let c0_i32_712_r0 : BitVec 32 := 0#32
  let c0_i32_713_r0 : BitVec 32 := 0#32
  ![v1032_r0.toNat, 0, 0]
def k0_off13 (arg53_r0 : BitVec 32) : Fin 2 → Nat :=
  let c0_i32_714_r0 : BitVec 32 := 0#32
  let c8192_i32_711_r0 : BitVec 32 := 8192#32
  let c32_i32_709_r0 : BitVec 32 := 32#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c32_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off14 (arg17_r0 : BitVec 32) : Fin 1 → Nat :=
  let c2_i32_708_r0 : BitVec 32 := 2#32
  let v1032_r0 : BitVec 32 := Scalar.remui arg17_r0 c2_i32_708_r0
  ![v1032_r0.toNat]
def k0_cond4 (k0_t1 : Fin k0_t1_loop.trips) (arg53_r0 : BitVec 32) : BitVec 1 :=
  let c48_i32_304_r0 : BitVec 32 := 48#32
  let c0_i32_258_r0 : BitVec 32 := 0#32
  let v221_r0 : BitVec 32 := Scalar.addi arg53_r0 c0_i32_258_r0
  let v279_r0 : BitVec 32 := Scalar.addi c48_i32_304_r0 v221_r0
  let c122_i32_305_r0 : BitVec 32 := 122#32
  let v280_r0 : BitVec 32 := Scalar.minsi v279_r0 c122_i32_305_r0
  let c48_i32_306_r0 : BitVec 32 := 48#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v281_r0 : BitVec 32 := Scalar.addi c48_i32_306_r0 v231_r0
  let c122_i32_307_r0 : BitVec 32 := 122#32
  let v282_r0 : BitVec 32 := Scalar.minsi v281_r0 c122_i32_307_r0
  let v283_r0 : BitVec 1 := Scalar.cmpi .ne v280_r0 v282_r0
  let c0_i32_222_r0 : BitVec 32 := 0#32
  let c1_i32_224_r0 : BitVec 32 := 1#32
  let arg10_r0 : BitVec 32 := Scf.iv c0_i32_222_r0 c1_i32_224_r0 k0_t1
  let c15_i32_308_r0 : BitVec 32 := 15#32
  let v284_r0 : BitVec 1 := Scalar.cmpi .sge arg10_r0 c15_i32_308_r0
  let true_309_r0 : BitVec 1 := 1#1
  let v285_r0 : BitVec 1 := Scalar.xori v284_r0 true_309_r0
  let v286_r0 : BitVec 1 := Scalar.andi v283_r0 v285_r0
  let true_310_r0 : BitVec 1 := 1#1
  let v287_r0 : BitVec 1 := Scalar.andi v286_r0 true_310_r0
  let v288_r0 : BitVec 32 := Scalar.extui v287_r0
  let c0_i32_311_r0 : BitVec 32 := 0#32
  let v289_r0 : BitVec 1 := Scalar.cmpi .ne v288_r0 c0_i32_311_r0
  v289_r0

def k0_off15 (arg17_r0 : BitVec 32) : Fin 3 → Nat :=
  let c2_i32_708_r0 : BitVec 32 := 2#32
  let v1032_r0 : BitVec 32 := Scalar.remui arg17_r0 c2_i32_708_r0
  let c0_i32_712_r0 : BitVec 32 := 0#32
  let c0_i32_713_r0 : BitVec 32 := 0#32
  ![v1032_r0.toNat, 0, 0]
def k0_off16 (arg53_r0 : BitVec 32) : Fin 2 → Nat :=
  let c0_i32_714_r0 : BitVec 32 := 0#32
  let c8192_i32_711_r0 : BitVec 32 := 8192#32
  let c48_i32_709_r0 : BitVec 32 := 48#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c48_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off17 (arg19_r0 : BitVec 32) : Fin 1 → Nat :=
  let c2_i32_708_r0 : BitVec 32 := 2#32
  let v1032_r0 : BitVec 32 := Scalar.remui arg19_r0 c2_i32_708_r0
  ![v1032_r0.toNat]
def k0_cond5 (k0_t1 : Fin k0_t1_loop.trips) (arg53_r0 : BitVec 32) : BitVec 1 :=
  let c64_i32_314_r0 : BitVec 32 := 64#32
  let c0_i32_258_r0 : BitVec 32 := 0#32
  let v221_r0 : BitVec 32 := Scalar.addi arg53_r0 c0_i32_258_r0
  let v293_r0 : BitVec 32 := Scalar.addi c64_i32_314_r0 v221_r0
  let c122_i32_315_r0 : BitVec 32 := 122#32
  let v294_r0 : BitVec 32 := Scalar.minsi v293_r0 c122_i32_315_r0
  let c64_i32_316_r0 : BitVec 32 := 64#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v295_r0 : BitVec 32 := Scalar.addi c64_i32_316_r0 v231_r0
  let c122_i32_317_r0 : BitVec 32 := 122#32
  let v296_r0 : BitVec 32 := Scalar.minsi v295_r0 c122_i32_317_r0
  let v297_r0 : BitVec 1 := Scalar.cmpi .ne v294_r0 v296_r0
  let c0_i32_222_r0 : BitVec 32 := 0#32
  let c1_i32_224_r0 : BitVec 32 := 1#32
  let arg10_r0 : BitVec 32 := Scf.iv c0_i32_222_r0 c1_i32_224_r0 k0_t1
  let c15_i32_318_r0 : BitVec 32 := 15#32
  let v298_r0 : BitVec 1 := Scalar.cmpi .sge arg10_r0 c15_i32_318_r0
  let true_319_r0 : BitVec 1 := 1#1
  let v299_r0 : BitVec 1 := Scalar.xori v298_r0 true_319_r0
  let v300_r0 : BitVec 1 := Scalar.andi v297_r0 v299_r0
  let true_320_r0 : BitVec 1 := 1#1
  let v301_r0 : BitVec 1 := Scalar.andi v300_r0 true_320_r0
  let v302_r0 : BitVec 32 := Scalar.extui v301_r0
  let c0_i32_321_r0 : BitVec 32 := 0#32
  let v303_r0 : BitVec 1 := Scalar.cmpi .ne v302_r0 c0_i32_321_r0
  v303_r0

def k0_off18 (arg19_r0 : BitVec 32) : Fin 3 → Nat :=
  let c2_i32_708_r0 : BitVec 32 := 2#32
  let v1032_r0 : BitVec 32 := Scalar.remui arg19_r0 c2_i32_708_r0
  let c0_i32_712_r0 : BitVec 32 := 0#32
  let c0_i32_713_r0 : BitVec 32 := 0#32
  ![v1032_r0.toNat, 0, 0]
def k0_off19 (arg53_r0 : BitVec 32) : Fin 2 → Nat :=
  let c0_i32_714_r0 : BitVec 32 := 0#32
  let c8192_i32_711_r0 : BitVec 32 := 8192#32
  let c64_i32_709_r0 : BitVec 32 := 64#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c64_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off20 (arg21_r0 : BitVec 32) : Fin 1 → Nat :=
  let c2_i32_708_r0 : BitVec 32 := 2#32
  let v1032_r0 : BitVec 32 := Scalar.remui arg21_r0 c2_i32_708_r0
  ![v1032_r0.toNat]
def k0_cond6 (k0_t1 : Fin k0_t1_loop.trips) (arg53_r0 : BitVec 32) : BitVec 1 :=
  let c80_i32_324_r0 : BitVec 32 := 80#32
  let c0_i32_258_r0 : BitVec 32 := 0#32
  let v221_r0 : BitVec 32 := Scalar.addi arg53_r0 c0_i32_258_r0
  let v307_r0 : BitVec 32 := Scalar.addi c80_i32_324_r0 v221_r0
  let c122_i32_325_r0 : BitVec 32 := 122#32
  let v308_r0 : BitVec 32 := Scalar.minsi v307_r0 c122_i32_325_r0
  let c80_i32_326_r0 : BitVec 32 := 80#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v309_r0 : BitVec 32 := Scalar.addi c80_i32_326_r0 v231_r0
  let c122_i32_327_r0 : BitVec 32 := 122#32
  let v310_r0 : BitVec 32 := Scalar.minsi v309_r0 c122_i32_327_r0
  let v311_r0 : BitVec 1 := Scalar.cmpi .ne v308_r0 v310_r0
  let c0_i32_222_r0 : BitVec 32 := 0#32
  let c1_i32_224_r0 : BitVec 32 := 1#32
  let arg10_r0 : BitVec 32 := Scf.iv c0_i32_222_r0 c1_i32_224_r0 k0_t1
  let c15_i32_328_r0 : BitVec 32 := 15#32
  let v312_r0 : BitVec 1 := Scalar.cmpi .sge arg10_r0 c15_i32_328_r0
  let true_329_r0 : BitVec 1 := 1#1
  let v313_r0 : BitVec 1 := Scalar.xori v312_r0 true_329_r0
  let v314_r0 : BitVec 1 := Scalar.andi v311_r0 v313_r0
  let true_330_r0 : BitVec 1 := 1#1
  let v315_r0 : BitVec 1 := Scalar.andi v314_r0 true_330_r0
  let v316_r0 : BitVec 32 := Scalar.extui v315_r0
  let c0_i32_331_r0 : BitVec 32 := 0#32
  let v317_r0 : BitVec 1 := Scalar.cmpi .ne v316_r0 c0_i32_331_r0
  v317_r0

def k0_off21 (arg21_r0 : BitVec 32) : Fin 3 → Nat :=
  let c2_i32_708_r0 : BitVec 32 := 2#32
  let v1032_r0 : BitVec 32 := Scalar.remui arg21_r0 c2_i32_708_r0
  let c0_i32_712_r0 : BitVec 32 := 0#32
  let c0_i32_713_r0 : BitVec 32 := 0#32
  ![v1032_r0.toNat, 0, 0]
def k0_off22 (arg53_r0 : BitVec 32) : Fin 2 → Nat :=
  let c0_i32_714_r0 : BitVec 32 := 0#32
  let c8192_i32_711_r0 : BitVec 32 := 8192#32
  let c80_i32_709_r0 : BitVec 32 := 80#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c80_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off23 (arg23_r0 : BitVec 32) : Fin 1 → Nat :=
  let c2_i32_708_r0 : BitVec 32 := 2#32
  let v1032_r0 : BitVec 32 := Scalar.remui arg23_r0 c2_i32_708_r0
  ![v1032_r0.toNat]
def k0_cond7 (k0_t1 : Fin k0_t1_loop.trips) (arg53_r0 : BitVec 32) : BitVec 1 :=
  let c96_i32_334_r0 : BitVec 32 := 96#32
  let c0_i32_258_r0 : BitVec 32 := 0#32
  let v221_r0 : BitVec 32 := Scalar.addi arg53_r0 c0_i32_258_r0
  let v321_r0 : BitVec 32 := Scalar.addi c96_i32_334_r0 v221_r0
  let c122_i32_335_r0 : BitVec 32 := 122#32
  let v322_r0 : BitVec 32 := Scalar.minsi v321_r0 c122_i32_335_r0
  let c96_i32_336_r0 : BitVec 32 := 96#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v323_r0 : BitVec 32 := Scalar.addi c96_i32_336_r0 v231_r0
  let c122_i32_337_r0 : BitVec 32 := 122#32
  let v324_r0 : BitVec 32 := Scalar.minsi v323_r0 c122_i32_337_r0
  let v325_r0 : BitVec 1 := Scalar.cmpi .ne v322_r0 v324_r0
  let c0_i32_222_r0 : BitVec 32 := 0#32
  let c1_i32_224_r0 : BitVec 32 := 1#32
  let arg10_r0 : BitVec 32 := Scf.iv c0_i32_222_r0 c1_i32_224_r0 k0_t1
  let c15_i32_338_r0 : BitVec 32 := 15#32
  let v326_r0 : BitVec 1 := Scalar.cmpi .sge arg10_r0 c15_i32_338_r0
  let true_339_r0 : BitVec 1 := 1#1
  let v327_r0 : BitVec 1 := Scalar.xori v326_r0 true_339_r0
  let v328_r0 : BitVec 1 := Scalar.andi v325_r0 v327_r0
  let true_340_r0 : BitVec 1 := 1#1
  let v329_r0 : BitVec 1 := Scalar.andi v328_r0 true_340_r0
  let v330_r0 : BitVec 32 := Scalar.extui v329_r0
  let c0_i32_341_r0 : BitVec 32 := 0#32
  let v331_r0 : BitVec 1 := Scalar.cmpi .ne v330_r0 c0_i32_341_r0
  v331_r0

def k0_off24 (arg23_r0 : BitVec 32) : Fin 3 → Nat :=
  let c2_i32_708_r0 : BitVec 32 := 2#32
  let v1032_r0 : BitVec 32 := Scalar.remui arg23_r0 c2_i32_708_r0
  let c0_i32_712_r0 : BitVec 32 := 0#32
  let c0_i32_713_r0 : BitVec 32 := 0#32
  ![v1032_r0.toNat, 0, 0]
def k0_off25 (arg53_r0 : BitVec 32) : Fin 2 → Nat :=
  let c0_i32_714_r0 : BitVec 32 := 0#32
  let c8192_i32_711_r0 : BitVec 32 := 8192#32
  let c96_i32_709_r0 : BitVec 32 := 96#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c96_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off26 (arg25_r0 : BitVec 32) : Fin 1 → Nat :=
  let c2_i32_708_r0 : BitVec 32 := 2#32
  let v1032_r0 : BitVec 32 := Scalar.remui arg25_r0 c2_i32_708_r0
  ![v1032_r0.toNat]
def k0_cond8 (k0_t1 : Fin k0_t1_loop.trips) (arg53_r0 : BitVec 32) : BitVec 1 :=
  let c112_i32_344_r0 : BitVec 32 := 112#32
  let c0_i32_258_r0 : BitVec 32 := 0#32
  let v221_r0 : BitVec 32 := Scalar.addi arg53_r0 c0_i32_258_r0
  let v335_r0 : BitVec 32 := Scalar.addi c112_i32_344_r0 v221_r0
  let c122_i32_345_r0 : BitVec 32 := 122#32
  let v336_r0 : BitVec 32 := Scalar.minsi v335_r0 c122_i32_345_r0
  let c112_i32_346_r0 : BitVec 32 := 112#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v337_r0 : BitVec 32 := Scalar.addi c112_i32_346_r0 v231_r0
  let c122_i32_347_r0 : BitVec 32 := 122#32
  let v338_r0 : BitVec 32 := Scalar.minsi v337_r0 c122_i32_347_r0
  let v339_r0 : BitVec 1 := Scalar.cmpi .ne v336_r0 v338_r0
  let c0_i32_222_r0 : BitVec 32 := 0#32
  let c1_i32_224_r0 : BitVec 32 := 1#32
  let arg10_r0 : BitVec 32 := Scf.iv c0_i32_222_r0 c1_i32_224_r0 k0_t1
  let c15_i32_348_r0 : BitVec 32 := 15#32
  let v340_r0 : BitVec 1 := Scalar.cmpi .sge arg10_r0 c15_i32_348_r0
  let true_349_r0 : BitVec 1 := 1#1
  let v341_r0 : BitVec 1 := Scalar.xori v340_r0 true_349_r0
  let v342_r0 : BitVec 1 := Scalar.andi v339_r0 v341_r0
  let true_350_r0 : BitVec 1 := 1#1
  let v343_r0 : BitVec 1 := Scalar.andi v342_r0 true_350_r0
  let v344_r0 : BitVec 32 := Scalar.extui v343_r0
  let c0_i32_351_r0 : BitVec 32 := 0#32
  let v345_r0 : BitVec 1 := Scalar.cmpi .ne v344_r0 c0_i32_351_r0
  v345_r0

def k0_off27 (arg25_r0 : BitVec 32) : Fin 3 → Nat :=
  let c2_i32_708_r0 : BitVec 32 := 2#32
  let v1032_r0 : BitVec 32 := Scalar.remui arg25_r0 c2_i32_708_r0
  let c0_i32_712_r0 : BitVec 32 := 0#32
  let c0_i32_713_r0 : BitVec 32 := 0#32
  ![v1032_r0.toNat, 0, 0]
def k0_off28 (arg53_r0 : BitVec 32) : Fin 2 → Nat :=
  let c0_i32_714_r0 : BitVec 32 := 0#32
  let c8192_i32_711_r0 : BitVec 32 := 8192#32
  let c112_i32_709_r0 : BitVec 32 := 112#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c112_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off29 (arg27_r0 : BitVec 32) : Fin 1 → Nat :=
  let c2_i32_708_r0 : BitVec 32 := 2#32
  let v1032_r0 : BitVec 32 := Scalar.remui arg27_r0 c2_i32_708_r0
  ![v1032_r0.toNat]
def k0_cond9 (k0_t1 : Fin k0_t1_loop.trips) (arg53_r0 : BitVec 32) : BitVec 1 :=
  let c0_i32_354_r0 : BitVec 32 := 0#32
  let c0_i32_258_r0 : BitVec 32 := 0#32
  let v221_r0 : BitVec 32 := Scalar.addi arg53_r0 c0_i32_258_r0
  let v349_r0 : BitVec 32 := Scalar.addi c0_i32_354_r0 v221_r0
  let c122_i32_355_r0 : BitVec 32 := 122#32
  let v350_r0 : BitVec 32 := Scalar.minsi v349_r0 c122_i32_355_r0
  let c0_i32_356_r0 : BitVec 32 := 0#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v351_r0 : BitVec 32 := Scalar.addi c0_i32_356_r0 v231_r0
  let c122_i32_357_r0 : BitVec 32 := 122#32
  let v352_r0 : BitVec 32 := Scalar.minsi v351_r0 c122_i32_357_r0
  let v353_r0 : BitVec 1 := Scalar.cmpi .ne v350_r0 v352_r0
  let c0_i32_222_r0 : BitVec 32 := 0#32
  let c1_i32_224_r0 : BitVec 32 := 1#32
  let arg10_r0 : BitVec 32 := Scf.iv c0_i32_222_r0 c1_i32_224_r0 k0_t1
  let c15_i32_358_r0 : BitVec 32 := 15#32
  let v354_r0 : BitVec 1 := Scalar.cmpi .sge arg10_r0 c15_i32_358_r0
  let true_359_r0 : BitVec 1 := 1#1
  let v355_r0 : BitVec 1 := Scalar.xori v354_r0 true_359_r0
  let v356_r0 : BitVec 1 := Scalar.andi v353_r0 v355_r0
  let true_360_r0 : BitVec 1 := 1#1
  let v357_r0 : BitVec 1 := Scalar.andi v356_r0 true_360_r0
  let v358_r0 : BitVec 32 := Scalar.extui v357_r0
  let c0_i32_361_r0 : BitVec 32 := 0#32
  let v359_r0 : BitVec 1 := Scalar.cmpi .ne v358_r0 c0_i32_361_r0
  v359_r0

def k0_off30 (arg27_r0 : BitVec 32) : Fin 3 → Nat :=
  let c2_i32_708_r0 : BitVec 32 := 2#32
  let v1032_r0 : BitVec 32 := Scalar.remui arg27_r0 c2_i32_708_r0
  let c0_i32_712_r0 : BitVec 32 := 0#32
  let c0_i32_713_r0 : BitVec 32 := 0#32
  ![v1032_r0.toNat, 0, 0]
def k0_off31 (arg53_r0 : BitVec 32) : Fin 2 → Nat :=
  let c0_i32_714_r0 : BitVec 32 := 0#32
  let c8192_i32_711_r0 : BitVec 32 := 8192#32
  let c0_i32_709_r0 : BitVec 32 := 0#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c0_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off32 (arg29_r0 : BitVec 32) : Fin 1 → Nat :=
  let c2_i32_708_r0 : BitVec 32 := 2#32
  let v1032_r0 : BitVec 32 := Scalar.remui arg29_r0 c2_i32_708_r0
  ![v1032_r0.toNat]
def k0_cond10 (k0_t1 : Fin k0_t1_loop.trips) (arg53_r0 : BitVec 32) : BitVec 1 :=
  let c16_i32_364_r0 : BitVec 32 := 16#32
  let c0_i32_258_r0 : BitVec 32 := 0#32
  let v221_r0 : BitVec 32 := Scalar.addi arg53_r0 c0_i32_258_r0
  let v363_r0 : BitVec 32 := Scalar.addi c16_i32_364_r0 v221_r0
  let c122_i32_365_r0 : BitVec 32 := 122#32
  let v364_r0 : BitVec 32 := Scalar.minsi v363_r0 c122_i32_365_r0
  let c16_i32_366_r0 : BitVec 32 := 16#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v365_r0 : BitVec 32 := Scalar.addi c16_i32_366_r0 v231_r0
  let c122_i32_367_r0 : BitVec 32 := 122#32
  let v366_r0 : BitVec 32 := Scalar.minsi v365_r0 c122_i32_367_r0
  let v367_r0 : BitVec 1 := Scalar.cmpi .ne v364_r0 v366_r0
  let c0_i32_222_r0 : BitVec 32 := 0#32
  let c1_i32_224_r0 : BitVec 32 := 1#32
  let arg10_r0 : BitVec 32 := Scf.iv c0_i32_222_r0 c1_i32_224_r0 k0_t1
  let c15_i32_368_r0 : BitVec 32 := 15#32
  let v368_r0 : BitVec 1 := Scalar.cmpi .sge arg10_r0 c15_i32_368_r0
  let true_369_r0 : BitVec 1 := 1#1
  let v369_r0 : BitVec 1 := Scalar.xori v368_r0 true_369_r0
  let v370_r0 : BitVec 1 := Scalar.andi v367_r0 v369_r0
  let true_370_r0 : BitVec 1 := 1#1
  let v371_r0 : BitVec 1 := Scalar.andi v370_r0 true_370_r0
  let v372_r0 : BitVec 32 := Scalar.extui v371_r0
  let c0_i32_371_r0 : BitVec 32 := 0#32
  let v373_r0 : BitVec 1 := Scalar.cmpi .ne v372_r0 c0_i32_371_r0
  v373_r0

def k0_off33 (arg29_r0 : BitVec 32) : Fin 3 → Nat :=
  let c2_i32_708_r0 : BitVec 32 := 2#32
  let v1032_r0 : BitVec 32 := Scalar.remui arg29_r0 c2_i32_708_r0
  let c0_i32_712_r0 : BitVec 32 := 0#32
  let c0_i32_713_r0 : BitVec 32 := 0#32
  ![v1032_r0.toNat, 0, 0]
def k0_off34 (arg53_r0 : BitVec 32) : Fin 2 → Nat :=
  let c0_i32_714_r0 : BitVec 32 := 0#32
  let c8192_i32_711_r0 : BitVec 32 := 8192#32
  let c16_i32_709_r0 : BitVec 32 := 16#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c16_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off35 (arg31_r0 : BitVec 32) : Fin 1 → Nat :=
  let c2_i32_708_r0 : BitVec 32 := 2#32
  let v1032_r0 : BitVec 32 := Scalar.remui arg31_r0 c2_i32_708_r0
  ![v1032_r0.toNat]
def k0_cond11 (k0_t1 : Fin k0_t1_loop.trips) (arg53_r0 : BitVec 32) : BitVec 1 :=
  let c32_i32_374_r0 : BitVec 32 := 32#32
  let c0_i32_258_r0 : BitVec 32 := 0#32
  let v221_r0 : BitVec 32 := Scalar.addi arg53_r0 c0_i32_258_r0
  let v377_r0 : BitVec 32 := Scalar.addi c32_i32_374_r0 v221_r0
  let c122_i32_375_r0 : BitVec 32 := 122#32
  let v378_r0 : BitVec 32 := Scalar.minsi v377_r0 c122_i32_375_r0
  let c32_i32_376_r0 : BitVec 32 := 32#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v379_r0 : BitVec 32 := Scalar.addi c32_i32_376_r0 v231_r0
  let c122_i32_377_r0 : BitVec 32 := 122#32
  let v380_r0 : BitVec 32 := Scalar.minsi v379_r0 c122_i32_377_r0
  let v381_r0 : BitVec 1 := Scalar.cmpi .ne v378_r0 v380_r0
  let c0_i32_222_r0 : BitVec 32 := 0#32
  let c1_i32_224_r0 : BitVec 32 := 1#32
  let arg10_r0 : BitVec 32 := Scf.iv c0_i32_222_r0 c1_i32_224_r0 k0_t1
  let c15_i32_378_r0 : BitVec 32 := 15#32
  let v382_r0 : BitVec 1 := Scalar.cmpi .sge arg10_r0 c15_i32_378_r0
  let true_379_r0 : BitVec 1 := 1#1
  let v383_r0 : BitVec 1 := Scalar.xori v382_r0 true_379_r0
  let v384_r0 : BitVec 1 := Scalar.andi v381_r0 v383_r0
  let true_380_r0 : BitVec 1 := 1#1
  let v385_r0 : BitVec 1 := Scalar.andi v384_r0 true_380_r0
  let v386_r0 : BitVec 32 := Scalar.extui v385_r0
  let c0_i32_381_r0 : BitVec 32 := 0#32
  let v387_r0 : BitVec 1 := Scalar.cmpi .ne v386_r0 c0_i32_381_r0
  v387_r0

def k0_off36 (arg31_r0 : BitVec 32) : Fin 3 → Nat :=
  let c2_i32_708_r0 : BitVec 32 := 2#32
  let v1032_r0 : BitVec 32 := Scalar.remui arg31_r0 c2_i32_708_r0
  let c0_i32_712_r0 : BitVec 32 := 0#32
  let c0_i32_713_r0 : BitVec 32 := 0#32
  ![v1032_r0.toNat, 0, 0]
def k0_off37 (arg53_r0 : BitVec 32) : Fin 2 → Nat :=
  let c0_i32_714_r0 : BitVec 32 := 0#32
  let c8192_i32_711_r0 : BitVec 32 := 8192#32
  let c32_i32_709_r0 : BitVec 32 := 32#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c32_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off38 (arg33_r0 : BitVec 32) : Fin 1 → Nat :=
  let c2_i32_708_r0 : BitVec 32 := 2#32
  let v1032_r0 : BitVec 32 := Scalar.remui arg33_r0 c2_i32_708_r0
  ![v1032_r0.toNat]
def k0_cond12 (k0_t1 : Fin k0_t1_loop.trips) (arg53_r0 : BitVec 32) : BitVec 1 :=
  let c48_i32_384_r0 : BitVec 32 := 48#32
  let c0_i32_258_r0 : BitVec 32 := 0#32
  let v221_r0 : BitVec 32 := Scalar.addi arg53_r0 c0_i32_258_r0
  let v391_r0 : BitVec 32 := Scalar.addi c48_i32_384_r0 v221_r0
  let c122_i32_385_r0 : BitVec 32 := 122#32
  let v392_r0 : BitVec 32 := Scalar.minsi v391_r0 c122_i32_385_r0
  let c48_i32_386_r0 : BitVec 32 := 48#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v393_r0 : BitVec 32 := Scalar.addi c48_i32_386_r0 v231_r0
  let c122_i32_387_r0 : BitVec 32 := 122#32
  let v394_r0 : BitVec 32 := Scalar.minsi v393_r0 c122_i32_387_r0
  let v395_r0 : BitVec 1 := Scalar.cmpi .ne v392_r0 v394_r0
  let c0_i32_222_r0 : BitVec 32 := 0#32
  let c1_i32_224_r0 : BitVec 32 := 1#32
  let arg10_r0 : BitVec 32 := Scf.iv c0_i32_222_r0 c1_i32_224_r0 k0_t1
  let c15_i32_388_r0 : BitVec 32 := 15#32
  let v396_r0 : BitVec 1 := Scalar.cmpi .sge arg10_r0 c15_i32_388_r0
  let true_389_r0 : BitVec 1 := 1#1
  let v397_r0 : BitVec 1 := Scalar.xori v396_r0 true_389_r0
  let v398_r0 : BitVec 1 := Scalar.andi v395_r0 v397_r0
  let true_390_r0 : BitVec 1 := 1#1
  let v399_r0 : BitVec 1 := Scalar.andi v398_r0 true_390_r0
  let v400_r0 : BitVec 32 := Scalar.extui v399_r0
  let c0_i32_391_r0 : BitVec 32 := 0#32
  let v401_r0 : BitVec 1 := Scalar.cmpi .ne v400_r0 c0_i32_391_r0
  v401_r0

def k0_off39 (arg33_r0 : BitVec 32) : Fin 3 → Nat :=
  let c2_i32_708_r0 : BitVec 32 := 2#32
  let v1032_r0 : BitVec 32 := Scalar.remui arg33_r0 c2_i32_708_r0
  let c0_i32_712_r0 : BitVec 32 := 0#32
  let c0_i32_713_r0 : BitVec 32 := 0#32
  ![v1032_r0.toNat, 0, 0]
def k0_off40 (arg53_r0 : BitVec 32) : Fin 2 → Nat :=
  let c0_i32_714_r0 : BitVec 32 := 0#32
  let c8192_i32_711_r0 : BitVec 32 := 8192#32
  let c48_i32_709_r0 : BitVec 32 := 48#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c48_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off41 (arg35_r0 : BitVec 32) : Fin 1 → Nat :=
  let c2_i32_708_r0 : BitVec 32 := 2#32
  let v1032_r0 : BitVec 32 := Scalar.remui arg35_r0 c2_i32_708_r0
  ![v1032_r0.toNat]
def k0_cond13 (k0_t1 : Fin k0_t1_loop.trips) (arg53_r0 : BitVec 32) : BitVec 1 :=
  let c64_i32_394_r0 : BitVec 32 := 64#32
  let c0_i32_258_r0 : BitVec 32 := 0#32
  let v221_r0 : BitVec 32 := Scalar.addi arg53_r0 c0_i32_258_r0
  let v405_r0 : BitVec 32 := Scalar.addi c64_i32_394_r0 v221_r0
  let c122_i32_395_r0 : BitVec 32 := 122#32
  let v406_r0 : BitVec 32 := Scalar.minsi v405_r0 c122_i32_395_r0
  let c64_i32_396_r0 : BitVec 32 := 64#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v407_r0 : BitVec 32 := Scalar.addi c64_i32_396_r0 v231_r0
  let c122_i32_397_r0 : BitVec 32 := 122#32
  let v408_r0 : BitVec 32 := Scalar.minsi v407_r0 c122_i32_397_r0
  let v409_r0 : BitVec 1 := Scalar.cmpi .ne v406_r0 v408_r0
  let c0_i32_222_r0 : BitVec 32 := 0#32
  let c1_i32_224_r0 : BitVec 32 := 1#32
  let arg10_r0 : BitVec 32 := Scf.iv c0_i32_222_r0 c1_i32_224_r0 k0_t1
  let c15_i32_398_r0 : BitVec 32 := 15#32
  let v410_r0 : BitVec 1 := Scalar.cmpi .sge arg10_r0 c15_i32_398_r0
  let true_399_r0 : BitVec 1 := 1#1
  let v411_r0 : BitVec 1 := Scalar.xori v410_r0 true_399_r0
  let v412_r0 : BitVec 1 := Scalar.andi v409_r0 v411_r0
  let true_400_r0 : BitVec 1 := 1#1
  let v413_r0 : BitVec 1 := Scalar.andi v412_r0 true_400_r0
  let v414_r0 : BitVec 32 := Scalar.extui v413_r0
  let c0_i32_401_r0 : BitVec 32 := 0#32
  let v415_r0 : BitVec 1 := Scalar.cmpi .ne v414_r0 c0_i32_401_r0
  v415_r0

def k0_off42 (arg35_r0 : BitVec 32) : Fin 3 → Nat :=
  let c2_i32_708_r0 : BitVec 32 := 2#32
  let v1032_r0 : BitVec 32 := Scalar.remui arg35_r0 c2_i32_708_r0
  let c0_i32_712_r0 : BitVec 32 := 0#32
  let c0_i32_713_r0 : BitVec 32 := 0#32
  ![v1032_r0.toNat, 0, 0]
def k0_off43 (arg53_r0 : BitVec 32) : Fin 2 → Nat :=
  let c0_i32_714_r0 : BitVec 32 := 0#32
  let c8192_i32_711_r0 : BitVec 32 := 8192#32
  let c64_i32_709_r0 : BitVec 32 := 64#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c64_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off44 (arg37_r0 : BitVec 32) : Fin 1 → Nat :=
  let c2_i32_708_r0 : BitVec 32 := 2#32
  let v1032_r0 : BitVec 32 := Scalar.remui arg37_r0 c2_i32_708_r0
  ![v1032_r0.toNat]
def k0_cond14 (k0_t1 : Fin k0_t1_loop.trips) (arg53_r0 : BitVec 32) : BitVec 1 :=
  let c80_i32_404_r0 : BitVec 32 := 80#32
  let c0_i32_258_r0 : BitVec 32 := 0#32
  let v221_r0 : BitVec 32 := Scalar.addi arg53_r0 c0_i32_258_r0
  let v419_r0 : BitVec 32 := Scalar.addi c80_i32_404_r0 v221_r0
  let c122_i32_405_r0 : BitVec 32 := 122#32
  let v420_r0 : BitVec 32 := Scalar.minsi v419_r0 c122_i32_405_r0
  let c80_i32_406_r0 : BitVec 32 := 80#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v421_r0 : BitVec 32 := Scalar.addi c80_i32_406_r0 v231_r0
  let c122_i32_407_r0 : BitVec 32 := 122#32
  let v422_r0 : BitVec 32 := Scalar.minsi v421_r0 c122_i32_407_r0
  let v423_r0 : BitVec 1 := Scalar.cmpi .ne v420_r0 v422_r0
  let c0_i32_222_r0 : BitVec 32 := 0#32
  let c1_i32_224_r0 : BitVec 32 := 1#32
  let arg10_r0 : BitVec 32 := Scf.iv c0_i32_222_r0 c1_i32_224_r0 k0_t1
  let c15_i32_408_r0 : BitVec 32 := 15#32
  let v424_r0 : BitVec 1 := Scalar.cmpi .sge arg10_r0 c15_i32_408_r0
  let true_409_r0 : BitVec 1 := 1#1
  let v425_r0 : BitVec 1 := Scalar.xori v424_r0 true_409_r0
  let v426_r0 : BitVec 1 := Scalar.andi v423_r0 v425_r0
  let true_410_r0 : BitVec 1 := 1#1
  let v427_r0 : BitVec 1 := Scalar.andi v426_r0 true_410_r0
  let v428_r0 : BitVec 32 := Scalar.extui v427_r0
  let c0_i32_411_r0 : BitVec 32 := 0#32
  let v429_r0 : BitVec 1 := Scalar.cmpi .ne v428_r0 c0_i32_411_r0
  v429_r0

def k0_off45 (arg37_r0 : BitVec 32) : Fin 3 → Nat :=
  let c2_i32_708_r0 : BitVec 32 := 2#32
  let v1032_r0 : BitVec 32 := Scalar.remui arg37_r0 c2_i32_708_r0
  let c0_i32_712_r0 : BitVec 32 := 0#32
  let c0_i32_713_r0 : BitVec 32 := 0#32
  ![v1032_r0.toNat, 0, 0]
def k0_off46 (arg53_r0 : BitVec 32) : Fin 2 → Nat :=
  let c0_i32_714_r0 : BitVec 32 := 0#32
  let c8192_i32_711_r0 : BitVec 32 := 8192#32
  let c80_i32_709_r0 : BitVec 32 := 80#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c80_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off47 (arg39_r0 : BitVec 32) : Fin 1 → Nat :=
  let c2_i32_708_r0 : BitVec 32 := 2#32
  let v1032_r0 : BitVec 32 := Scalar.remui arg39_r0 c2_i32_708_r0
  ![v1032_r0.toNat]
def k0_cond15 (k0_t1 : Fin k0_t1_loop.trips) (arg53_r0 : BitVec 32) : BitVec 1 :=
  let c96_i32_414_r0 : BitVec 32 := 96#32
  let c0_i32_258_r0 : BitVec 32 := 0#32
  let v221_r0 : BitVec 32 := Scalar.addi arg53_r0 c0_i32_258_r0
  let v433_r0 : BitVec 32 := Scalar.addi c96_i32_414_r0 v221_r0
  let c122_i32_415_r0 : BitVec 32 := 122#32
  let v434_r0 : BitVec 32 := Scalar.minsi v433_r0 c122_i32_415_r0
  let c96_i32_416_r0 : BitVec 32 := 96#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v435_r0 : BitVec 32 := Scalar.addi c96_i32_416_r0 v231_r0
  let c122_i32_417_r0 : BitVec 32 := 122#32
  let v436_r0 : BitVec 32 := Scalar.minsi v435_r0 c122_i32_417_r0
  let v437_r0 : BitVec 1 := Scalar.cmpi .ne v434_r0 v436_r0
  let c0_i32_222_r0 : BitVec 32 := 0#32
  let c1_i32_224_r0 : BitVec 32 := 1#32
  let arg10_r0 : BitVec 32 := Scf.iv c0_i32_222_r0 c1_i32_224_r0 k0_t1
  let c15_i32_418_r0 : BitVec 32 := 15#32
  let v438_r0 : BitVec 1 := Scalar.cmpi .sge arg10_r0 c15_i32_418_r0
  let true_419_r0 : BitVec 1 := 1#1
  let v439_r0 : BitVec 1 := Scalar.xori v438_r0 true_419_r0
  let v440_r0 : BitVec 1 := Scalar.andi v437_r0 v439_r0
  let true_420_r0 : BitVec 1 := 1#1
  let v441_r0 : BitVec 1 := Scalar.andi v440_r0 true_420_r0
  let v442_r0 : BitVec 32 := Scalar.extui v441_r0
  let c0_i32_421_r0 : BitVec 32 := 0#32
  let v443_r0 : BitVec 1 := Scalar.cmpi .ne v442_r0 c0_i32_421_r0
  v443_r0

def k0_off48 (arg39_r0 : BitVec 32) : Fin 3 → Nat :=
  let c2_i32_708_r0 : BitVec 32 := 2#32
  let v1032_r0 : BitVec 32 := Scalar.remui arg39_r0 c2_i32_708_r0
  let c0_i32_712_r0 : BitVec 32 := 0#32
  let c0_i32_713_r0 : BitVec 32 := 0#32
  ![v1032_r0.toNat, 0, 0]
def k0_off49 (arg53_r0 : BitVec 32) : Fin 2 → Nat :=
  let c0_i32_714_r0 : BitVec 32 := 0#32
  let c8192_i32_711_r0 : BitVec 32 := 8192#32
  let c96_i32_709_r0 : BitVec 32 := 96#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c96_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off50 (arg41_r0 : BitVec 32) : Fin 1 → Nat :=
  let c2_i32_708_r0 : BitVec 32 := 2#32
  let v1032_r0 : BitVec 32 := Scalar.remui arg41_r0 c2_i32_708_r0
  ![v1032_r0.toNat]
def k0_cond16 (k0_t1 : Fin k0_t1_loop.trips) (arg53_r0 : BitVec 32) : BitVec 1 :=
  let c112_i32_424_r0 : BitVec 32 := 112#32
  let c0_i32_258_r0 : BitVec 32 := 0#32
  let v221_r0 : BitVec 32 := Scalar.addi arg53_r0 c0_i32_258_r0
  let v447_r0 : BitVec 32 := Scalar.addi c112_i32_424_r0 v221_r0
  let c122_i32_425_r0 : BitVec 32 := 122#32
  let v448_r0 : BitVec 32 := Scalar.minsi v447_r0 c122_i32_425_r0
  let c112_i32_426_r0 : BitVec 32 := 112#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v449_r0 : BitVec 32 := Scalar.addi c112_i32_426_r0 v231_r0
  let c122_i32_427_r0 : BitVec 32 := 122#32
  let v450_r0 : BitVec 32 := Scalar.minsi v449_r0 c122_i32_427_r0
  let v451_r0 : BitVec 1 := Scalar.cmpi .ne v448_r0 v450_r0
  let c0_i32_222_r0 : BitVec 32 := 0#32
  let c1_i32_224_r0 : BitVec 32 := 1#32
  let arg10_r0 : BitVec 32 := Scf.iv c0_i32_222_r0 c1_i32_224_r0 k0_t1
  let c15_i32_428_r0 : BitVec 32 := 15#32
  let v452_r0 : BitVec 1 := Scalar.cmpi .sge arg10_r0 c15_i32_428_r0
  let true_429_r0 : BitVec 1 := 1#1
  let v453_r0 : BitVec 1 := Scalar.xori v452_r0 true_429_r0
  let v454_r0 : BitVec 1 := Scalar.andi v451_r0 v453_r0
  let true_430_r0 : BitVec 1 := 1#1
  let v455_r0 : BitVec 1 := Scalar.andi v454_r0 true_430_r0
  let v456_r0 : BitVec 32 := Scalar.extui v455_r0
  let c0_i32_431_r0 : BitVec 32 := 0#32
  let v457_r0 : BitVec 1 := Scalar.cmpi .ne v456_r0 c0_i32_431_r0
  v457_r0

def k0_off51 (arg41_r0 : BitVec 32) : Fin 3 → Nat :=
  let c2_i32_708_r0 : BitVec 32 := 2#32
  let v1032_r0 : BitVec 32 := Scalar.remui arg41_r0 c2_i32_708_r0
  let c0_i32_712_r0 : BitVec 32 := 0#32
  let c0_i32_713_r0 : BitVec 32 := 0#32
  ![v1032_r0.toNat, 0, 0]
def k0_off52 (arg53_r0 : BitVec 32) : Fin 2 → Nat :=
  let c0_i32_714_r0 : BitVec 32 := 0#32
  let c8192_i32_711_r0 : BitVec 32 := 8192#32
  let c112_i32_709_r0 : BitVec 32 := 112#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.addi c112_i32_709_r0 v231_r0
  let c122_i32_710_r0 : BitVec 32 := 122#32
  let v1034_r0 : BitVec 32 := Scalar.minsi v1033_r0 c122_i32_710_r0
  let v1035_r0 : BitVec 32 := Scalar.muli c8192_i32_711_r0 v1034_r0
  ![0, v1035_r0.toNat]
def k0_off53 (arg47_r0 : BitVec 32) : Fin 1 → Nat :=
  let c2_i32_708_r0 : BitVec 32 := 2#32
  let v1032_r0 : BitVec 32 := Scalar.remui arg47_r0 c2_i32_708_r0
  ![v1032_r0.toNat]
def k0_cond17 (k0_t1 : Fin k0_t1_loop.trips) (arg53_r0 : BitVec 32) : BitVec 1 :=
  let c0_i32_258_r0 : BitVec 32 := 0#32
  let v221_r0 : BitVec 32 := Scalar.addi arg53_r0 c0_i32_258_r0
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v461_r0 : BitVec 1 := Scalar.cmpi .ne v221_r0 v231_r0
  let c0_i32_222_r0 : BitVec 32 := 0#32
  let c1_i32_224_r0 : BitVec 32 := 1#32
  let arg10_r0 : BitVec 32 := Scf.iv c0_i32_222_r0 c1_i32_224_r0 k0_t1
  let c15_i32_434_r0 : BitVec 32 := 15#32
  let v462_r0 : BitVec 1 := Scalar.cmpi .sge arg10_r0 c15_i32_434_r0
  let true_435_r0 : BitVec 1 := 1#1
  let v463_r0 : BitVec 1 := Scalar.xori v462_r0 true_435_r0
  let v464_r0 : BitVec 1 := Scalar.andi v461_r0 v463_r0
  let true_436_r0 : BitVec 1 := 1#1
  let v465_r0 : BitVec 1 := Scalar.andi v464_r0 true_436_r0
  let v466_r0 : BitVec 32 := Scalar.extui v465_r0
  let c0_i32_437_r0 : BitVec 32 := 0#32
  let v467_r0 : BitVec 1 := Scalar.cmpi .ne v466_r0 c0_i32_437_r0
  v467_r0

def k0_off54 (arg47_r0 : BitVec 32) : Fin 3 → Nat :=
  let c2_i32_708_r0 : BitVec 32 := 2#32
  let v1032_r0 : BitVec 32 := Scalar.remui arg47_r0 c2_i32_708_r0
  let c0_i32_710_r0 : BitVec 32 := 0#32
  let c0_i32_711_r0 : BitVec 32 := 0#32
  ![v1032_r0.toNat, 0, 0]
def k0_off55 (arg53_r0 : BitVec 32) : Fin 2 → Nat :=
  let c1_i32_709_r0 : BitVec 32 := 1#32
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v1033_r0 : BitVec 32 := Scalar.muli c1_i32_709_r0 v231_r0
  let c0_i32_712_r0 : BitVec 32 := 0#32
  ![v1033_r0.toNat, 0]
def k0_off56 (arg12_r0 : BitVec 32) : Fin 1 → Nat :=
  let c2_i32_711_r0 : BitVec 32 := 2#32
  let v1035_r0 : BitVec 32 := Scalar.remui arg12_r0 c2_i32_711_r0
  ![v1035_r0.toNat]
def k0_cond18 (k0_t1 : Fin k0_t1_loop.trips) (arg53_r0 : BitVec 32) : BitVec 1 :=
  let c0_i32_274_r0 : BitVec 32 := 0#32
  let c0_i32_258_r0 : BitVec 32 := 0#32
  let v221_r0 : BitVec 32 := Scalar.addi arg53_r0 c0_i32_258_r0
  let v237_r0 : BitVec 32 := Scalar.addi c0_i32_274_r0 v221_r0
  let c122_i32_275_r0 : BitVec 32 := 122#32
  let v238_r0 : BitVec 32 := Scalar.minsi v237_r0 c122_i32_275_r0
  let c0_i32_444_r0 : BitVec 32 := 0#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v479_r0 : BitVec 32 := Scalar.addi c0_i32_444_r0 v226_r0
  let c122_i32_445_r0 : BitVec 32 := 122#32
  let v480_r0 : BitVec 32 := Scalar.minsi v479_r0 c122_i32_445_r0
  let v481_r0 : BitVec 1 := Scalar.cmpi .ne v238_r0 v480_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v482_r0 : BitVec 1 := Scalar.ori v481_r0 v219_r0
  let c0_i32_446_r0 : BitVec 32 := 0#32
  let v483_r0 : BitVec 1 := Scalar.cmpi .sge arg10_r0 c0_i32_446_r0
  let v484_r0 : BitVec 1 := Scalar.andi v482_r0 v483_r0
  let v485_r0 : BitVec 32 := Scalar.extui v484_r0
  let c0_i32_447_r0 : BitVec 32 := 0#32
  let v486_r0 : BitVec 1 := Scalar.cmpi .ne v485_r0 c0_i32_447_r0
  v486_r0

def k0_off57 (arg12_r0 : BitVec 32) : Fin 3 → Nat :=
  let c2_i32_711_r0 : BitVec 32 := 2#32
  let v1035_r0 : BitVec 32 := Scalar.remui arg12_r0 c2_i32_711_r0
  let c0_i32_712_r0 : BitVec 32 := 0#32
  let c0_i32_713_r0 : BitVec 32 := 0#32
  ![v1035_r0.toNat, 0, 0]
def k0_off58 (arg53_r0 : BitVec 32) : Fin 2 → Nat :=
  let c0_i32_714_r0 : BitVec 32 := 0#32
  let c8192_i32_710_r0 : BitVec 32 := 8192#32
  let c0_i32_708_r0 : BitVec 32 := 0#32
  let c0_i32_258_r0 : BitVec 32 := 0#32
  let v221_r0 : BitVec 32 := Scalar.addi arg53_r0 c0_i32_258_r0
  let v1032_r0 : BitVec 32 := Scalar.addi c0_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off59 (arg14_r0 : BitVec 32) : Fin 1 → Nat :=
  let c2_i32_711_r0 : BitVec 32 := 2#32
  let v1035_r0 : BitVec 32 := Scalar.remui arg14_r0 c2_i32_711_r0
  ![v1035_r0.toNat]
def k0_cond19 (k0_t1 : Fin k0_t1_loop.trips) (arg53_r0 : BitVec 32) : BitVec 1 :=
  let c16_i32_284_r0 : BitVec 32 := 16#32
  let c0_i32_258_r0 : BitVec 32 := 0#32
  let v221_r0 : BitVec 32 := Scalar.addi arg53_r0 c0_i32_258_r0
  let v251_r0 : BitVec 32 := Scalar.addi c16_i32_284_r0 v221_r0
  let c122_i32_285_r0 : BitVec 32 := 122#32
  let v252_r0 : BitVec 32 := Scalar.minsi v251_r0 c122_i32_285_r0
  let c16_i32_448_r0 : BitVec 32 := 16#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v487_r0 : BitVec 32 := Scalar.addi c16_i32_448_r0 v226_r0
  let c122_i32_449_r0 : BitVec 32 := 122#32
  let v488_r0 : BitVec 32 := Scalar.minsi v487_r0 c122_i32_449_r0
  let v489_r0 : BitVec 1 := Scalar.cmpi .ne v252_r0 v488_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v490_r0 : BitVec 1 := Scalar.ori v489_r0 v219_r0
  let c0_i32_450_r0 : BitVec 32 := 0#32
  let v491_r0 : BitVec 1 := Scalar.cmpi .sge arg10_r0 c0_i32_450_r0
  let v492_r0 : BitVec 1 := Scalar.andi v490_r0 v491_r0
  let v493_r0 : BitVec 32 := Scalar.extui v492_r0
  let c0_i32_451_r0 : BitVec 32 := 0#32
  let v494_r0 : BitVec 1 := Scalar.cmpi .ne v493_r0 c0_i32_451_r0
  v494_r0

def k0_off60 (arg14_r0 : BitVec 32) : Fin 3 → Nat :=
  let c2_i32_711_r0 : BitVec 32 := 2#32
  let v1035_r0 : BitVec 32 := Scalar.remui arg14_r0 c2_i32_711_r0
  let c0_i32_712_r0 : BitVec 32 := 0#32
  let c0_i32_713_r0 : BitVec 32 := 0#32
  ![v1035_r0.toNat, 0, 0]
def k0_off61 (arg53_r0 : BitVec 32) : Fin 2 → Nat :=
  let c0_i32_714_r0 : BitVec 32 := 0#32
  let c8192_i32_710_r0 : BitVec 32 := 8192#32
  let c16_i32_708_r0 : BitVec 32 := 16#32
  let c0_i32_258_r0 : BitVec 32 := 0#32
  let v221_r0 : BitVec 32 := Scalar.addi arg53_r0 c0_i32_258_r0
  let v1032_r0 : BitVec 32 := Scalar.addi c16_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off62 (arg16_r0 : BitVec 32) : Fin 1 → Nat :=
  let c2_i32_711_r0 : BitVec 32 := 2#32
  let v1035_r0 : BitVec 32 := Scalar.remui arg16_r0 c2_i32_711_r0
  ![v1035_r0.toNat]
def k0_cond20 (k0_t1 : Fin k0_t1_loop.trips) (arg53_r0 : BitVec 32) : BitVec 1 :=
  let c32_i32_294_r0 : BitVec 32 := 32#32
  let c0_i32_258_r0 : BitVec 32 := 0#32
  let v221_r0 : BitVec 32 := Scalar.addi arg53_r0 c0_i32_258_r0
  let v265_r0 : BitVec 32 := Scalar.addi c32_i32_294_r0 v221_r0
  let c122_i32_295_r0 : BitVec 32 := 122#32
  let v266_r0 : BitVec 32 := Scalar.minsi v265_r0 c122_i32_295_r0
  let c32_i32_452_r0 : BitVec 32 := 32#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v495_r0 : BitVec 32 := Scalar.addi c32_i32_452_r0 v226_r0
  let c122_i32_453_r0 : BitVec 32 := 122#32
  let v496_r0 : BitVec 32 := Scalar.minsi v495_r0 c122_i32_453_r0
  let v497_r0 : BitVec 1 := Scalar.cmpi .ne v266_r0 v496_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v498_r0 : BitVec 1 := Scalar.ori v497_r0 v219_r0
  let c0_i32_454_r0 : BitVec 32 := 0#32
  let v499_r0 : BitVec 1 := Scalar.cmpi .sge arg10_r0 c0_i32_454_r0
  let v500_r0 : BitVec 1 := Scalar.andi v498_r0 v499_r0
  let v501_r0 : BitVec 32 := Scalar.extui v500_r0
  let c0_i32_455_r0 : BitVec 32 := 0#32
  let v502_r0 : BitVec 1 := Scalar.cmpi .ne v501_r0 c0_i32_455_r0
  v502_r0

def k0_off63 (arg16_r0 : BitVec 32) : Fin 3 → Nat :=
  let c2_i32_711_r0 : BitVec 32 := 2#32
  let v1035_r0 : BitVec 32 := Scalar.remui arg16_r0 c2_i32_711_r0
  let c0_i32_712_r0 : BitVec 32 := 0#32
  let c0_i32_713_r0 : BitVec 32 := 0#32
  ![v1035_r0.toNat, 0, 0]
def k0_off64 (arg53_r0 : BitVec 32) : Fin 2 → Nat :=
  let c0_i32_714_r0 : BitVec 32 := 0#32
  let c8192_i32_710_r0 : BitVec 32 := 8192#32
  let c32_i32_708_r0 : BitVec 32 := 32#32
  let c0_i32_258_r0 : BitVec 32 := 0#32
  let v221_r0 : BitVec 32 := Scalar.addi arg53_r0 c0_i32_258_r0
  let v1032_r0 : BitVec 32 := Scalar.addi c32_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off65 (arg18_r0 : BitVec 32) : Fin 1 → Nat :=
  let c2_i32_711_r0 : BitVec 32 := 2#32
  let v1035_r0 : BitVec 32 := Scalar.remui arg18_r0 c2_i32_711_r0
  ![v1035_r0.toNat]
def k0_cond21 (k0_t1 : Fin k0_t1_loop.trips) (arg53_r0 : BitVec 32) : BitVec 1 :=
  let c48_i32_304_r0 : BitVec 32 := 48#32
  let c0_i32_258_r0 : BitVec 32 := 0#32
  let v221_r0 : BitVec 32 := Scalar.addi arg53_r0 c0_i32_258_r0
  let v279_r0 : BitVec 32 := Scalar.addi c48_i32_304_r0 v221_r0
  let c122_i32_305_r0 : BitVec 32 := 122#32
  let v280_r0 : BitVec 32 := Scalar.minsi v279_r0 c122_i32_305_r0
  let c48_i32_456_r0 : BitVec 32 := 48#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v503_r0 : BitVec 32 := Scalar.addi c48_i32_456_r0 v226_r0
  let c122_i32_457_r0 : BitVec 32 := 122#32
  let v504_r0 : BitVec 32 := Scalar.minsi v503_r0 c122_i32_457_r0
  let v505_r0 : BitVec 1 := Scalar.cmpi .ne v280_r0 v504_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v506_r0 : BitVec 1 := Scalar.ori v505_r0 v219_r0
  let c0_i32_458_r0 : BitVec 32 := 0#32
  let v507_r0 : BitVec 1 := Scalar.cmpi .sge arg10_r0 c0_i32_458_r0
  let v508_r0 : BitVec 1 := Scalar.andi v506_r0 v507_r0
  let v509_r0 : BitVec 32 := Scalar.extui v508_r0
  let c0_i32_459_r0 : BitVec 32 := 0#32
  let v510_r0 : BitVec 1 := Scalar.cmpi .ne v509_r0 c0_i32_459_r0
  v510_r0

def k0_off66 (arg18_r0 : BitVec 32) : Fin 3 → Nat :=
  let c2_i32_711_r0 : BitVec 32 := 2#32
  let v1035_r0 : BitVec 32 := Scalar.remui arg18_r0 c2_i32_711_r0
  let c0_i32_712_r0 : BitVec 32 := 0#32
  let c0_i32_713_r0 : BitVec 32 := 0#32
  ![v1035_r0.toNat, 0, 0]
def k0_off67 (arg53_r0 : BitVec 32) : Fin 2 → Nat :=
  let c0_i32_714_r0 : BitVec 32 := 0#32
  let c8192_i32_710_r0 : BitVec 32 := 8192#32
  let c48_i32_708_r0 : BitVec 32 := 48#32
  let c0_i32_258_r0 : BitVec 32 := 0#32
  let v221_r0 : BitVec 32 := Scalar.addi arg53_r0 c0_i32_258_r0
  let v1032_r0 : BitVec 32 := Scalar.addi c48_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off68 (arg20_r0 : BitVec 32) : Fin 1 → Nat :=
  let c2_i32_711_r0 : BitVec 32 := 2#32
  let v1035_r0 : BitVec 32 := Scalar.remui arg20_r0 c2_i32_711_r0
  ![v1035_r0.toNat]
def k0_cond22 (k0_t1 : Fin k0_t1_loop.trips) (arg53_r0 : BitVec 32) : BitVec 1 :=
  let c64_i32_314_r0 : BitVec 32 := 64#32
  let c0_i32_258_r0 : BitVec 32 := 0#32
  let v221_r0 : BitVec 32 := Scalar.addi arg53_r0 c0_i32_258_r0
  let v293_r0 : BitVec 32 := Scalar.addi c64_i32_314_r0 v221_r0
  let c122_i32_315_r0 : BitVec 32 := 122#32
  let v294_r0 : BitVec 32 := Scalar.minsi v293_r0 c122_i32_315_r0
  let c64_i32_460_r0 : BitVec 32 := 64#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v511_r0 : BitVec 32 := Scalar.addi c64_i32_460_r0 v226_r0
  let c122_i32_461_r0 : BitVec 32 := 122#32
  let v512_r0 : BitVec 32 := Scalar.minsi v511_r0 c122_i32_461_r0
  let v513_r0 : BitVec 1 := Scalar.cmpi .ne v294_r0 v512_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v514_r0 : BitVec 1 := Scalar.ori v513_r0 v219_r0
  let c0_i32_462_r0 : BitVec 32 := 0#32
  let v515_r0 : BitVec 1 := Scalar.cmpi .sge arg10_r0 c0_i32_462_r0
  let v516_r0 : BitVec 1 := Scalar.andi v514_r0 v515_r0
  let v517_r0 : BitVec 32 := Scalar.extui v516_r0
  let c0_i32_463_r0 : BitVec 32 := 0#32
  let v518_r0 : BitVec 1 := Scalar.cmpi .ne v517_r0 c0_i32_463_r0
  v518_r0

def k0_off69 (arg20_r0 : BitVec 32) : Fin 3 → Nat :=
  let c2_i32_711_r0 : BitVec 32 := 2#32
  let v1035_r0 : BitVec 32 := Scalar.remui arg20_r0 c2_i32_711_r0
  let c0_i32_712_r0 : BitVec 32 := 0#32
  let c0_i32_713_r0 : BitVec 32 := 0#32
  ![v1035_r0.toNat, 0, 0]
def k0_off70 (arg53_r0 : BitVec 32) : Fin 2 → Nat :=
  let c0_i32_714_r0 : BitVec 32 := 0#32
  let c8192_i32_710_r0 : BitVec 32 := 8192#32
  let c64_i32_708_r0 : BitVec 32 := 64#32
  let c0_i32_258_r0 : BitVec 32 := 0#32
  let v221_r0 : BitVec 32 := Scalar.addi arg53_r0 c0_i32_258_r0
  let v1032_r0 : BitVec 32 := Scalar.addi c64_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off71 (arg22_r0 : BitVec 32) : Fin 1 → Nat :=
  let c2_i32_711_r0 : BitVec 32 := 2#32
  let v1035_r0 : BitVec 32 := Scalar.remui arg22_r0 c2_i32_711_r0
  ![v1035_r0.toNat]
def k0_cond23 (k0_t1 : Fin k0_t1_loop.trips) (arg53_r0 : BitVec 32) : BitVec 1 :=
  let c80_i32_324_r0 : BitVec 32 := 80#32
  let c0_i32_258_r0 : BitVec 32 := 0#32
  let v221_r0 : BitVec 32 := Scalar.addi arg53_r0 c0_i32_258_r0
  let v307_r0 : BitVec 32 := Scalar.addi c80_i32_324_r0 v221_r0
  let c122_i32_325_r0 : BitVec 32 := 122#32
  let v308_r0 : BitVec 32 := Scalar.minsi v307_r0 c122_i32_325_r0
  let c80_i32_464_r0 : BitVec 32 := 80#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v519_r0 : BitVec 32 := Scalar.addi c80_i32_464_r0 v226_r0
  let c122_i32_465_r0 : BitVec 32 := 122#32
  let v520_r0 : BitVec 32 := Scalar.minsi v519_r0 c122_i32_465_r0
  let v521_r0 : BitVec 1 := Scalar.cmpi .ne v308_r0 v520_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v522_r0 : BitVec 1 := Scalar.ori v521_r0 v219_r0
  let c0_i32_466_r0 : BitVec 32 := 0#32
  let v523_r0 : BitVec 1 := Scalar.cmpi .sge arg10_r0 c0_i32_466_r0
  let v524_r0 : BitVec 1 := Scalar.andi v522_r0 v523_r0
  let v525_r0 : BitVec 32 := Scalar.extui v524_r0
  let c0_i32_467_r0 : BitVec 32 := 0#32
  let v526_r0 : BitVec 1 := Scalar.cmpi .ne v525_r0 c0_i32_467_r0
  v526_r0

def k0_off72 (arg22_r0 : BitVec 32) : Fin 3 → Nat :=
  let c2_i32_711_r0 : BitVec 32 := 2#32
  let v1035_r0 : BitVec 32 := Scalar.remui arg22_r0 c2_i32_711_r0
  let c0_i32_712_r0 : BitVec 32 := 0#32
  let c0_i32_713_r0 : BitVec 32 := 0#32
  ![v1035_r0.toNat, 0, 0]
def k0_off73 (arg53_r0 : BitVec 32) : Fin 2 → Nat :=
  let c0_i32_714_r0 : BitVec 32 := 0#32
  let c8192_i32_710_r0 : BitVec 32 := 8192#32
  let c80_i32_708_r0 : BitVec 32 := 80#32
  let c0_i32_258_r0 : BitVec 32 := 0#32
  let v221_r0 : BitVec 32 := Scalar.addi arg53_r0 c0_i32_258_r0
  let v1032_r0 : BitVec 32 := Scalar.addi c80_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off74 (arg24_r0 : BitVec 32) : Fin 1 → Nat :=
  let c2_i32_711_r0 : BitVec 32 := 2#32
  let v1035_r0 : BitVec 32 := Scalar.remui arg24_r0 c2_i32_711_r0
  ![v1035_r0.toNat]
def k0_cond24 (k0_t1 : Fin k0_t1_loop.trips) (arg53_r0 : BitVec 32) : BitVec 1 :=
  let c96_i32_334_r0 : BitVec 32 := 96#32
  let c0_i32_258_r0 : BitVec 32 := 0#32
  let v221_r0 : BitVec 32 := Scalar.addi arg53_r0 c0_i32_258_r0
  let v321_r0 : BitVec 32 := Scalar.addi c96_i32_334_r0 v221_r0
  let c122_i32_335_r0 : BitVec 32 := 122#32
  let v322_r0 : BitVec 32 := Scalar.minsi v321_r0 c122_i32_335_r0
  let c96_i32_468_r0 : BitVec 32 := 96#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v527_r0 : BitVec 32 := Scalar.addi c96_i32_468_r0 v226_r0
  let c122_i32_469_r0 : BitVec 32 := 122#32
  let v528_r0 : BitVec 32 := Scalar.minsi v527_r0 c122_i32_469_r0
  let v529_r0 : BitVec 1 := Scalar.cmpi .ne v322_r0 v528_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v530_r0 : BitVec 1 := Scalar.ori v529_r0 v219_r0
  let c0_i32_470_r0 : BitVec 32 := 0#32
  let v531_r0 : BitVec 1 := Scalar.cmpi .sge arg10_r0 c0_i32_470_r0
  let v532_r0 : BitVec 1 := Scalar.andi v530_r0 v531_r0
  let v533_r0 : BitVec 32 := Scalar.extui v532_r0
  let c0_i32_471_r0 : BitVec 32 := 0#32
  let v534_r0 : BitVec 1 := Scalar.cmpi .ne v533_r0 c0_i32_471_r0
  v534_r0

def k0_off75 (arg24_r0 : BitVec 32) : Fin 3 → Nat :=
  let c2_i32_711_r0 : BitVec 32 := 2#32
  let v1035_r0 : BitVec 32 := Scalar.remui arg24_r0 c2_i32_711_r0
  let c0_i32_712_r0 : BitVec 32 := 0#32
  let c0_i32_713_r0 : BitVec 32 := 0#32
  ![v1035_r0.toNat, 0, 0]
def k0_off76 (arg53_r0 : BitVec 32) : Fin 2 → Nat :=
  let c0_i32_714_r0 : BitVec 32 := 0#32
  let c8192_i32_710_r0 : BitVec 32 := 8192#32
  let c96_i32_708_r0 : BitVec 32 := 96#32
  let c0_i32_258_r0 : BitVec 32 := 0#32
  let v221_r0 : BitVec 32 := Scalar.addi arg53_r0 c0_i32_258_r0
  let v1032_r0 : BitVec 32 := Scalar.addi c96_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off77 (arg26_r0 : BitVec 32) : Fin 1 → Nat :=
  let c2_i32_711_r0 : BitVec 32 := 2#32
  let v1035_r0 : BitVec 32 := Scalar.remui arg26_r0 c2_i32_711_r0
  ![v1035_r0.toNat]
def k0_cond25 (k0_t1 : Fin k0_t1_loop.trips) (arg53_r0 : BitVec 32) : BitVec 1 :=
  let c112_i32_344_r0 : BitVec 32 := 112#32
  let c0_i32_258_r0 : BitVec 32 := 0#32
  let v221_r0 : BitVec 32 := Scalar.addi arg53_r0 c0_i32_258_r0
  let v335_r0 : BitVec 32 := Scalar.addi c112_i32_344_r0 v221_r0
  let c122_i32_345_r0 : BitVec 32 := 122#32
  let v336_r0 : BitVec 32 := Scalar.minsi v335_r0 c122_i32_345_r0
  let c112_i32_472_r0 : BitVec 32 := 112#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v535_r0 : BitVec 32 := Scalar.addi c112_i32_472_r0 v226_r0
  let c122_i32_473_r0 : BitVec 32 := 122#32
  let v536_r0 : BitVec 32 := Scalar.minsi v535_r0 c122_i32_473_r0
  let v537_r0 : BitVec 1 := Scalar.cmpi .ne v336_r0 v536_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v538_r0 : BitVec 1 := Scalar.ori v537_r0 v219_r0
  let c0_i32_474_r0 : BitVec 32 := 0#32
  let v539_r0 : BitVec 1 := Scalar.cmpi .sge arg10_r0 c0_i32_474_r0
  let v540_r0 : BitVec 1 := Scalar.andi v538_r0 v539_r0
  let v541_r0 : BitVec 32 := Scalar.extui v540_r0
  let c0_i32_475_r0 : BitVec 32 := 0#32
  let v542_r0 : BitVec 1 := Scalar.cmpi .ne v541_r0 c0_i32_475_r0
  v542_r0

def k0_off78 (arg26_r0 : BitVec 32) : Fin 3 → Nat :=
  let c2_i32_711_r0 : BitVec 32 := 2#32
  let v1035_r0 : BitVec 32 := Scalar.remui arg26_r0 c2_i32_711_r0
  let c0_i32_712_r0 : BitVec 32 := 0#32
  let c0_i32_713_r0 : BitVec 32 := 0#32
  ![v1035_r0.toNat, 0, 0]
def k0_off79 (arg53_r0 : BitVec 32) : Fin 2 → Nat :=
  let c0_i32_714_r0 : BitVec 32 := 0#32
  let c8192_i32_710_r0 : BitVec 32 := 8192#32
  let c112_i32_708_r0 : BitVec 32 := 112#32
  let c0_i32_258_r0 : BitVec 32 := 0#32
  let v221_r0 : BitVec 32 := Scalar.addi arg53_r0 c0_i32_258_r0
  let v1032_r0 : BitVec 32 := Scalar.addi c112_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off80 (arg28_r0 : BitVec 32) : Fin 1 → Nat :=
  let c2_i32_711_r0 : BitVec 32 := 2#32
  let v1035_r0 : BitVec 32 := Scalar.remui arg28_r0 c2_i32_711_r0
  ![v1035_r0.toNat]
def k0_cond26 (k0_t1 : Fin k0_t1_loop.trips) (arg53_r0 : BitVec 32) : BitVec 1 :=
  let c0_i32_354_r0 : BitVec 32 := 0#32
  let c0_i32_258_r0 : BitVec 32 := 0#32
  let v221_r0 : BitVec 32 := Scalar.addi arg53_r0 c0_i32_258_r0
  let v349_r0 : BitVec 32 := Scalar.addi c0_i32_354_r0 v221_r0
  let c122_i32_355_r0 : BitVec 32 := 122#32
  let v350_r0 : BitVec 32 := Scalar.minsi v349_r0 c122_i32_355_r0
  let c0_i32_476_r0 : BitVec 32 := 0#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v543_r0 : BitVec 32 := Scalar.addi c0_i32_476_r0 v226_r0
  let c122_i32_477_r0 : BitVec 32 := 122#32
  let v544_r0 : BitVec 32 := Scalar.minsi v543_r0 c122_i32_477_r0
  let v545_r0 : BitVec 1 := Scalar.cmpi .ne v350_r0 v544_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v546_r0 : BitVec 1 := Scalar.ori v545_r0 v219_r0
  let c0_i32_478_r0 : BitVec 32 := 0#32
  let v547_r0 : BitVec 1 := Scalar.cmpi .sge arg10_r0 c0_i32_478_r0
  let v548_r0 : BitVec 1 := Scalar.andi v546_r0 v547_r0
  let v549_r0 : BitVec 32 := Scalar.extui v548_r0
  let c0_i32_479_r0 : BitVec 32 := 0#32
  let v550_r0 : BitVec 1 := Scalar.cmpi .ne v549_r0 c0_i32_479_r0
  v550_r0

def k0_off81 (arg28_r0 : BitVec 32) : Fin 3 → Nat :=
  let c2_i32_711_r0 : BitVec 32 := 2#32
  let v1035_r0 : BitVec 32 := Scalar.remui arg28_r0 c2_i32_711_r0
  let c0_i32_712_r0 : BitVec 32 := 0#32
  let c0_i32_713_r0 : BitVec 32 := 0#32
  ![v1035_r0.toNat, 0, 0]
def k0_off82 (arg53_r0 : BitVec 32) : Fin 2 → Nat :=
  let c0_i32_714_r0 : BitVec 32 := 0#32
  let c8192_i32_710_r0 : BitVec 32 := 8192#32
  let c0_i32_708_r0 : BitVec 32 := 0#32
  let c0_i32_258_r0 : BitVec 32 := 0#32
  let v221_r0 : BitVec 32 := Scalar.addi arg53_r0 c0_i32_258_r0
  let v1032_r0 : BitVec 32 := Scalar.addi c0_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off83 (arg30_r0 : BitVec 32) : Fin 1 → Nat :=
  let c2_i32_711_r0 : BitVec 32 := 2#32
  let v1035_r0 : BitVec 32 := Scalar.remui arg30_r0 c2_i32_711_r0
  ![v1035_r0.toNat]
def k0_cond27 (k0_t1 : Fin k0_t1_loop.trips) (arg53_r0 : BitVec 32) : BitVec 1 :=
  let c16_i32_364_r0 : BitVec 32 := 16#32
  let c0_i32_258_r0 : BitVec 32 := 0#32
  let v221_r0 : BitVec 32 := Scalar.addi arg53_r0 c0_i32_258_r0
  let v363_r0 : BitVec 32 := Scalar.addi c16_i32_364_r0 v221_r0
  let c122_i32_365_r0 : BitVec 32 := 122#32
  let v364_r0 : BitVec 32 := Scalar.minsi v363_r0 c122_i32_365_r0
  let c16_i32_480_r0 : BitVec 32 := 16#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v551_r0 : BitVec 32 := Scalar.addi c16_i32_480_r0 v226_r0
  let c122_i32_481_r0 : BitVec 32 := 122#32
  let v552_r0 : BitVec 32 := Scalar.minsi v551_r0 c122_i32_481_r0
  let v553_r0 : BitVec 1 := Scalar.cmpi .ne v364_r0 v552_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v554_r0 : BitVec 1 := Scalar.ori v553_r0 v219_r0
  let c0_i32_482_r0 : BitVec 32 := 0#32
  let v555_r0 : BitVec 1 := Scalar.cmpi .sge arg10_r0 c0_i32_482_r0
  let v556_r0 : BitVec 1 := Scalar.andi v554_r0 v555_r0
  let v557_r0 : BitVec 32 := Scalar.extui v556_r0
  let c0_i32_483_r0 : BitVec 32 := 0#32
  let v558_r0 : BitVec 1 := Scalar.cmpi .ne v557_r0 c0_i32_483_r0
  v558_r0

def k0_off84 (arg30_r0 : BitVec 32) : Fin 3 → Nat :=
  let c2_i32_711_r0 : BitVec 32 := 2#32
  let v1035_r0 : BitVec 32 := Scalar.remui arg30_r0 c2_i32_711_r0
  let c0_i32_712_r0 : BitVec 32 := 0#32
  let c0_i32_713_r0 : BitVec 32 := 0#32
  ![v1035_r0.toNat, 0, 0]
def k0_off85 (arg53_r0 : BitVec 32) : Fin 2 → Nat :=
  let c0_i32_714_r0 : BitVec 32 := 0#32
  let c8192_i32_710_r0 : BitVec 32 := 8192#32
  let c16_i32_708_r0 : BitVec 32 := 16#32
  let c0_i32_258_r0 : BitVec 32 := 0#32
  let v221_r0 : BitVec 32 := Scalar.addi arg53_r0 c0_i32_258_r0
  let v1032_r0 : BitVec 32 := Scalar.addi c16_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off86 (arg32_r0 : BitVec 32) : Fin 1 → Nat :=
  let c2_i32_711_r0 : BitVec 32 := 2#32
  let v1035_r0 : BitVec 32 := Scalar.remui arg32_r0 c2_i32_711_r0
  ![v1035_r0.toNat]
def k0_cond28 (k0_t1 : Fin k0_t1_loop.trips) (arg53_r0 : BitVec 32) : BitVec 1 :=
  let c32_i32_374_r0 : BitVec 32 := 32#32
  let c0_i32_258_r0 : BitVec 32 := 0#32
  let v221_r0 : BitVec 32 := Scalar.addi arg53_r0 c0_i32_258_r0
  let v377_r0 : BitVec 32 := Scalar.addi c32_i32_374_r0 v221_r0
  let c122_i32_375_r0 : BitVec 32 := 122#32
  let v378_r0 : BitVec 32 := Scalar.minsi v377_r0 c122_i32_375_r0
  let c32_i32_484_r0 : BitVec 32 := 32#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v559_r0 : BitVec 32 := Scalar.addi c32_i32_484_r0 v226_r0
  let c122_i32_485_r0 : BitVec 32 := 122#32
  let v560_r0 : BitVec 32 := Scalar.minsi v559_r0 c122_i32_485_r0
  let v561_r0 : BitVec 1 := Scalar.cmpi .ne v378_r0 v560_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v562_r0 : BitVec 1 := Scalar.ori v561_r0 v219_r0
  let c0_i32_486_r0 : BitVec 32 := 0#32
  let v563_r0 : BitVec 1 := Scalar.cmpi .sge arg10_r0 c0_i32_486_r0
  let v564_r0 : BitVec 1 := Scalar.andi v562_r0 v563_r0
  let v565_r0 : BitVec 32 := Scalar.extui v564_r0
  let c0_i32_487_r0 : BitVec 32 := 0#32
  let v566_r0 : BitVec 1 := Scalar.cmpi .ne v565_r0 c0_i32_487_r0
  v566_r0

def k0_off87 (arg32_r0 : BitVec 32) : Fin 3 → Nat :=
  let c2_i32_711_r0 : BitVec 32 := 2#32
  let v1035_r0 : BitVec 32 := Scalar.remui arg32_r0 c2_i32_711_r0
  let c0_i32_712_r0 : BitVec 32 := 0#32
  let c0_i32_713_r0 : BitVec 32 := 0#32
  ![v1035_r0.toNat, 0, 0]
def k0_off88 (arg53_r0 : BitVec 32) : Fin 2 → Nat :=
  let c0_i32_714_r0 : BitVec 32 := 0#32
  let c8192_i32_710_r0 : BitVec 32 := 8192#32
  let c32_i32_708_r0 : BitVec 32 := 32#32
  let c0_i32_258_r0 : BitVec 32 := 0#32
  let v221_r0 : BitVec 32 := Scalar.addi arg53_r0 c0_i32_258_r0
  let v1032_r0 : BitVec 32 := Scalar.addi c32_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off89 (arg34_r0 : BitVec 32) : Fin 1 → Nat :=
  let c2_i32_711_r0 : BitVec 32 := 2#32
  let v1035_r0 : BitVec 32 := Scalar.remui arg34_r0 c2_i32_711_r0
  ![v1035_r0.toNat]
def k0_cond29 (k0_t1 : Fin k0_t1_loop.trips) (arg53_r0 : BitVec 32) : BitVec 1 :=
  let c48_i32_384_r0 : BitVec 32 := 48#32
  let c0_i32_258_r0 : BitVec 32 := 0#32
  let v221_r0 : BitVec 32 := Scalar.addi arg53_r0 c0_i32_258_r0
  let v391_r0 : BitVec 32 := Scalar.addi c48_i32_384_r0 v221_r0
  let c122_i32_385_r0 : BitVec 32 := 122#32
  let v392_r0 : BitVec 32 := Scalar.minsi v391_r0 c122_i32_385_r0
  let c48_i32_488_r0 : BitVec 32 := 48#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v567_r0 : BitVec 32 := Scalar.addi c48_i32_488_r0 v226_r0
  let c122_i32_489_r0 : BitVec 32 := 122#32
  let v568_r0 : BitVec 32 := Scalar.minsi v567_r0 c122_i32_489_r0
  let v569_r0 : BitVec 1 := Scalar.cmpi .ne v392_r0 v568_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v570_r0 : BitVec 1 := Scalar.ori v569_r0 v219_r0
  let c0_i32_490_r0 : BitVec 32 := 0#32
  let v571_r0 : BitVec 1 := Scalar.cmpi .sge arg10_r0 c0_i32_490_r0
  let v572_r0 : BitVec 1 := Scalar.andi v570_r0 v571_r0
  let v573_r0 : BitVec 32 := Scalar.extui v572_r0
  let c0_i32_491_r0 : BitVec 32 := 0#32
  let v574_r0 : BitVec 1 := Scalar.cmpi .ne v573_r0 c0_i32_491_r0
  v574_r0

def k0_off90 (arg34_r0 : BitVec 32) : Fin 3 → Nat :=
  let c2_i32_711_r0 : BitVec 32 := 2#32
  let v1035_r0 : BitVec 32 := Scalar.remui arg34_r0 c2_i32_711_r0
  let c0_i32_712_r0 : BitVec 32 := 0#32
  let c0_i32_713_r0 : BitVec 32 := 0#32
  ![v1035_r0.toNat, 0, 0]
def k0_off91 (arg53_r0 : BitVec 32) : Fin 2 → Nat :=
  let c0_i32_714_r0 : BitVec 32 := 0#32
  let c8192_i32_710_r0 : BitVec 32 := 8192#32
  let c48_i32_708_r0 : BitVec 32 := 48#32
  let c0_i32_258_r0 : BitVec 32 := 0#32
  let v221_r0 : BitVec 32 := Scalar.addi arg53_r0 c0_i32_258_r0
  let v1032_r0 : BitVec 32 := Scalar.addi c48_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off92 (arg36_r0 : BitVec 32) : Fin 1 → Nat :=
  let c2_i32_711_r0 : BitVec 32 := 2#32
  let v1035_r0 : BitVec 32 := Scalar.remui arg36_r0 c2_i32_711_r0
  ![v1035_r0.toNat]
def k0_cond30 (k0_t1 : Fin k0_t1_loop.trips) (arg53_r0 : BitVec 32) : BitVec 1 :=
  let c64_i32_394_r0 : BitVec 32 := 64#32
  let c0_i32_258_r0 : BitVec 32 := 0#32
  let v221_r0 : BitVec 32 := Scalar.addi arg53_r0 c0_i32_258_r0
  let v405_r0 : BitVec 32 := Scalar.addi c64_i32_394_r0 v221_r0
  let c122_i32_395_r0 : BitVec 32 := 122#32
  let v406_r0 : BitVec 32 := Scalar.minsi v405_r0 c122_i32_395_r0
  let c64_i32_492_r0 : BitVec 32 := 64#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v575_r0 : BitVec 32 := Scalar.addi c64_i32_492_r0 v226_r0
  let c122_i32_493_r0 : BitVec 32 := 122#32
  let v576_r0 : BitVec 32 := Scalar.minsi v575_r0 c122_i32_493_r0
  let v577_r0 : BitVec 1 := Scalar.cmpi .ne v406_r0 v576_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v578_r0 : BitVec 1 := Scalar.ori v577_r0 v219_r0
  let c0_i32_494_r0 : BitVec 32 := 0#32
  let v579_r0 : BitVec 1 := Scalar.cmpi .sge arg10_r0 c0_i32_494_r0
  let v580_r0 : BitVec 1 := Scalar.andi v578_r0 v579_r0
  let v581_r0 : BitVec 32 := Scalar.extui v580_r0
  let c0_i32_495_r0 : BitVec 32 := 0#32
  let v582_r0 : BitVec 1 := Scalar.cmpi .ne v581_r0 c0_i32_495_r0
  v582_r0

def k0_off93 (arg36_r0 : BitVec 32) : Fin 3 → Nat :=
  let c2_i32_711_r0 : BitVec 32 := 2#32
  let v1035_r0 : BitVec 32 := Scalar.remui arg36_r0 c2_i32_711_r0
  let c0_i32_712_r0 : BitVec 32 := 0#32
  let c0_i32_713_r0 : BitVec 32 := 0#32
  ![v1035_r0.toNat, 0, 0]
def k0_off94 (arg53_r0 : BitVec 32) : Fin 2 → Nat :=
  let c0_i32_714_r0 : BitVec 32 := 0#32
  let c8192_i32_710_r0 : BitVec 32 := 8192#32
  let c64_i32_708_r0 : BitVec 32 := 64#32
  let c0_i32_258_r0 : BitVec 32 := 0#32
  let v221_r0 : BitVec 32 := Scalar.addi arg53_r0 c0_i32_258_r0
  let v1032_r0 : BitVec 32 := Scalar.addi c64_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off95 (arg38_r0 : BitVec 32) : Fin 1 → Nat :=
  let c2_i32_711_r0 : BitVec 32 := 2#32
  let v1035_r0 : BitVec 32 := Scalar.remui arg38_r0 c2_i32_711_r0
  ![v1035_r0.toNat]
def k0_cond31 (k0_t1 : Fin k0_t1_loop.trips) (arg53_r0 : BitVec 32) : BitVec 1 :=
  let c80_i32_404_r0 : BitVec 32 := 80#32
  let c0_i32_258_r0 : BitVec 32 := 0#32
  let v221_r0 : BitVec 32 := Scalar.addi arg53_r0 c0_i32_258_r0
  let v419_r0 : BitVec 32 := Scalar.addi c80_i32_404_r0 v221_r0
  let c122_i32_405_r0 : BitVec 32 := 122#32
  let v420_r0 : BitVec 32 := Scalar.minsi v419_r0 c122_i32_405_r0
  let c80_i32_496_r0 : BitVec 32 := 80#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v583_r0 : BitVec 32 := Scalar.addi c80_i32_496_r0 v226_r0
  let c122_i32_497_r0 : BitVec 32 := 122#32
  let v584_r0 : BitVec 32 := Scalar.minsi v583_r0 c122_i32_497_r0
  let v585_r0 : BitVec 1 := Scalar.cmpi .ne v420_r0 v584_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v586_r0 : BitVec 1 := Scalar.ori v585_r0 v219_r0
  let c0_i32_498_r0 : BitVec 32 := 0#32
  let v587_r0 : BitVec 1 := Scalar.cmpi .sge arg10_r0 c0_i32_498_r0
  let v588_r0 : BitVec 1 := Scalar.andi v586_r0 v587_r0
  let v589_r0 : BitVec 32 := Scalar.extui v588_r0
  let c0_i32_499_r0 : BitVec 32 := 0#32
  let v590_r0 : BitVec 1 := Scalar.cmpi .ne v589_r0 c0_i32_499_r0
  v590_r0

def k0_off96 (arg38_r0 : BitVec 32) : Fin 3 → Nat :=
  let c2_i32_711_r0 : BitVec 32 := 2#32
  let v1035_r0 : BitVec 32 := Scalar.remui arg38_r0 c2_i32_711_r0
  let c0_i32_712_r0 : BitVec 32 := 0#32
  let c0_i32_713_r0 : BitVec 32 := 0#32
  ![v1035_r0.toNat, 0, 0]
def k0_off97 (arg53_r0 : BitVec 32) : Fin 2 → Nat :=
  let c0_i32_714_r0 : BitVec 32 := 0#32
  let c8192_i32_710_r0 : BitVec 32 := 8192#32
  let c80_i32_708_r0 : BitVec 32 := 80#32
  let c0_i32_258_r0 : BitVec 32 := 0#32
  let v221_r0 : BitVec 32 := Scalar.addi arg53_r0 c0_i32_258_r0
  let v1032_r0 : BitVec 32 := Scalar.addi c80_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off98 (arg40_r0 : BitVec 32) : Fin 1 → Nat :=
  let c2_i32_711_r0 : BitVec 32 := 2#32
  let v1035_r0 : BitVec 32 := Scalar.remui arg40_r0 c2_i32_711_r0
  ![v1035_r0.toNat]
def k0_cond32 (k0_t1 : Fin k0_t1_loop.trips) (arg53_r0 : BitVec 32) : BitVec 1 :=
  let c96_i32_414_r0 : BitVec 32 := 96#32
  let c0_i32_258_r0 : BitVec 32 := 0#32
  let v221_r0 : BitVec 32 := Scalar.addi arg53_r0 c0_i32_258_r0
  let v433_r0 : BitVec 32 := Scalar.addi c96_i32_414_r0 v221_r0
  let c122_i32_415_r0 : BitVec 32 := 122#32
  let v434_r0 : BitVec 32 := Scalar.minsi v433_r0 c122_i32_415_r0
  let c96_i32_500_r0 : BitVec 32 := 96#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v591_r0 : BitVec 32 := Scalar.addi c96_i32_500_r0 v226_r0
  let c122_i32_501_r0 : BitVec 32 := 122#32
  let v592_r0 : BitVec 32 := Scalar.minsi v591_r0 c122_i32_501_r0
  let v593_r0 : BitVec 1 := Scalar.cmpi .ne v434_r0 v592_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v594_r0 : BitVec 1 := Scalar.ori v593_r0 v219_r0
  let c0_i32_502_r0 : BitVec 32 := 0#32
  let v595_r0 : BitVec 1 := Scalar.cmpi .sge arg10_r0 c0_i32_502_r0
  let v596_r0 : BitVec 1 := Scalar.andi v594_r0 v595_r0
  let v597_r0 : BitVec 32 := Scalar.extui v596_r0
  let c0_i32_503_r0 : BitVec 32 := 0#32
  let v598_r0 : BitVec 1 := Scalar.cmpi .ne v597_r0 c0_i32_503_r0
  v598_r0

def k0_off99 (arg40_r0 : BitVec 32) : Fin 3 → Nat :=
  let c2_i32_711_r0 : BitVec 32 := 2#32
  let v1035_r0 : BitVec 32 := Scalar.remui arg40_r0 c2_i32_711_r0
  let c0_i32_712_r0 : BitVec 32 := 0#32
  let c0_i32_713_r0 : BitVec 32 := 0#32
  ![v1035_r0.toNat, 0, 0]
def k0_off100 (arg53_r0 : BitVec 32) : Fin 2 → Nat :=
  let c0_i32_714_r0 : BitVec 32 := 0#32
  let c8192_i32_710_r0 : BitVec 32 := 8192#32
  let c96_i32_708_r0 : BitVec 32 := 96#32
  let c0_i32_258_r0 : BitVec 32 := 0#32
  let v221_r0 : BitVec 32 := Scalar.addi arg53_r0 c0_i32_258_r0
  let v1032_r0 : BitVec 32 := Scalar.addi c96_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off101 (arg42_r0 : BitVec 32) : Fin 1 → Nat :=
  let c2_i32_711_r0 : BitVec 32 := 2#32
  let v1035_r0 : BitVec 32 := Scalar.remui arg42_r0 c2_i32_711_r0
  ![v1035_r0.toNat]
def k0_cond33 (k0_t1 : Fin k0_t1_loop.trips) (arg53_r0 : BitVec 32) : BitVec 1 :=
  let c112_i32_424_r0 : BitVec 32 := 112#32
  let c0_i32_258_r0 : BitVec 32 := 0#32
  let v221_r0 : BitVec 32 := Scalar.addi arg53_r0 c0_i32_258_r0
  let v447_r0 : BitVec 32 := Scalar.addi c112_i32_424_r0 v221_r0
  let c122_i32_425_r0 : BitVec 32 := 122#32
  let v448_r0 : BitVec 32 := Scalar.minsi v447_r0 c122_i32_425_r0
  let c112_i32_504_r0 : BitVec 32 := 112#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v599_r0 : BitVec 32 := Scalar.addi c112_i32_504_r0 v226_r0
  let c122_i32_505_r0 : BitVec 32 := 122#32
  let v600_r0 : BitVec 32 := Scalar.minsi v599_r0 c122_i32_505_r0
  let v601_r0 : BitVec 1 := Scalar.cmpi .ne v448_r0 v600_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v602_r0 : BitVec 1 := Scalar.ori v601_r0 v219_r0
  let c0_i32_506_r0 : BitVec 32 := 0#32
  let v603_r0 : BitVec 1 := Scalar.cmpi .sge arg10_r0 c0_i32_506_r0
  let v604_r0 : BitVec 1 := Scalar.andi v602_r0 v603_r0
  let v605_r0 : BitVec 32 := Scalar.extui v604_r0
  let c0_i32_507_r0 : BitVec 32 := 0#32
  let v606_r0 : BitVec 1 := Scalar.cmpi .ne v605_r0 c0_i32_507_r0
  v606_r0

def k0_off102 (arg42_r0 : BitVec 32) : Fin 3 → Nat :=
  let c2_i32_711_r0 : BitVec 32 := 2#32
  let v1035_r0 : BitVec 32 := Scalar.remui arg42_r0 c2_i32_711_r0
  let c0_i32_712_r0 : BitVec 32 := 0#32
  let c0_i32_713_r0 : BitVec 32 := 0#32
  ![v1035_r0.toNat, 0, 0]
def k0_off103 (arg53_r0 : BitVec 32) : Fin 2 → Nat :=
  let c0_i32_714_r0 : BitVec 32 := 0#32
  let c8192_i32_710_r0 : BitVec 32 := 8192#32
  let c112_i32_708_r0 : BitVec 32 := 112#32
  let c0_i32_258_r0 : BitVec 32 := 0#32
  let v221_r0 : BitVec 32 := Scalar.addi arg53_r0 c0_i32_258_r0
  let v1032_r0 : BitVec 32 := Scalar.addi c112_i32_708_r0 v221_r0
  let c122_i32_709_r0 : BitVec 32 := 122#32
  let v1033_r0 : BitVec 32 := Scalar.minsi v1032_r0 c122_i32_709_r0
  let v1034_r0 : BitVec 32 := Scalar.muli c8192_i32_710_r0 v1033_r0
  ![0, v1034_r0.toNat]
def k0_off104 (arg48_r0 : BitVec 32) : Fin 1 → Nat :=
  let c2_i32_709_r0 : BitVec 32 := 2#32
  let v1033_r0 : BitVec 32 := Scalar.remui arg48_r0 c2_i32_709_r0
  ![v1033_r0.toNat]
def k0_cond34 (k0_t1 : Fin k0_t1_loop.trips) (arg53_r0 : BitVec 32) : BitVec 1 :=
  let c0_i32_258_r0 : BitVec 32 := 0#32
  let v221_r0 : BitVec 32 := Scalar.addi arg53_r0 c0_i32_258_r0
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v607_r0 : BitVec 1 := Scalar.cmpi .ne v221_r0 v226_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let v608_r0 : BitVec 1 := Scalar.ori v607_r0 v219_r0
  let c0_i32_508_r0 : BitVec 32 := 0#32
  let v609_r0 : BitVec 1 := Scalar.cmpi .sge arg10_r0 c0_i32_508_r0
  let v610_r0 : BitVec 1 := Scalar.andi v608_r0 v609_r0
  let v611_r0 : BitVec 32 := Scalar.extui v610_r0
  let c0_i32_509_r0 : BitVec 32 := 0#32
  let v612_r0 : BitVec 1 := Scalar.cmpi .ne v611_r0 c0_i32_509_r0
  v612_r0

def k0_off105 (arg48_r0 : BitVec 32) : Fin 3 → Nat :=
  let c2_i32_709_r0 : BitVec 32 := 2#32
  let v1033_r0 : BitVec 32 := Scalar.remui arg48_r0 c2_i32_709_r0
  let c0_i32_710_r0 : BitVec 32 := 0#32
  let c0_i32_711_r0 : BitVec 32 := 0#32
  ![v1033_r0.toNat, 0, 0]
def k0_off106 (arg53_r0 : BitVec 32) : Fin 2 → Nat :=
  let c1_i32_708_r0 : BitVec 32 := 1#32
  let c0_i32_258_r0 : BitVec 32 := 0#32
  let v221_r0 : BitVec 32 := Scalar.addi arg53_r0 c0_i32_258_r0
  let v1032_r0 : BitVec 32 := Scalar.muli c1_i32_708_r0 v221_r0
  let c0_i32_712_r0 : BitVec 32 := 0#32
  ![v1032_r0.toNat, 0]
def k0_off107 (arg48_r0 : BitVec 32) : Fin 3 → Nat :=
  let c2_i32_530_r0 : BitVec 32 := 2#32
  let v641_r0 : BitVec 32 := Scalar.remui arg48_r0 c2_i32_530_r0
  let v644_r0 : Index := Scalar.indexCast v641_r0
  let c0_r0 : Index := 0#32
  let c0_533_r0 : Index := 0#32
  ![v644_r0.toNat, 0, 0]

def k0_chk2 (arg48_r0 : BitVec 32) : Prop :=
  (∀ a, (k0_off107 arg48_r0) a + S1x1x8192.size a ≤ S2x1x8192.size a)
theorem k0_off107_inb : ∀ (arg48_r0 : BitVec 32) (k0_hw2 : k0_chk2 arg48_r0), ∀ a, (k0_off107 arg48_r0) a + S1x1x8192.size a ≤ S2x1x8192.size a := fun arg48_r0 k0_hw2 => k0_hw2

def k0_off108 (arg12_r0 : BitVec 32) : Fin 3 → Nat :=
  let c2_i32_514_r0 : BitVec 32 := 2#32
  let v625_r0 : BitVec 32 := Scalar.remui arg12_r0 c2_i32_514_r0
  let v647_r0 : Index := Scalar.indexCast v625_r0
  let c0_534_r0 : Index := 0#32
  let c0_535_r0 : Index := 0#32
  ![v647_r0.toNat, 0, 0]

def k0_chk3 (arg12_r0 : BitVec 32) : Prop :=
  (∀ a, (k0_off108 arg12_r0) a + S1x32x8192.size a ≤ S2x32x8192.size a)
theorem k0_off108_inb : ∀ (arg12_r0 : BitVec 32) (k0_hw3 : k0_chk3 arg12_r0), ∀ a, (k0_off108 arg12_r0) a + S1x32x8192.size a ≤ S2x32x8192.size a := fun arg12_r0 k0_hw3 => k0_hw3

def k0_off109 (arg14_r0 : BitVec 32) : Fin 3 → Nat :=
  let c2_i32_515_r0 : BitVec 32 := 2#32
  let v626_r0 : BitVec 32 := Scalar.remui arg14_r0 c2_i32_515_r0
  let v650_r0 : Index := Scalar.indexCast v626_r0
  let c0_536_r0 : Index := 0#32
  let c0_537_r0 : Index := 0#32
  ![v650_r0.toNat, 0, 0]

def k0_chk4 (arg14_r0 : BitVec 32) : Prop :=
  (∀ a, (k0_off109 arg14_r0) a + S1x32x8192.size a ≤ S2x32x8192.size a)
theorem k0_off109_inb : ∀ (arg14_r0 : BitVec 32) (k0_hw4 : k0_chk4 arg14_r0), ∀ a, (k0_off109 arg14_r0) a + S1x32x8192.size a ≤ S2x32x8192.size a := fun arg14_r0 k0_hw4 => k0_hw4

def k0_off110 (arg16_r0 : BitVec 32) : Fin 3 → Nat :=
  let c2_i32_516_r0 : BitVec 32 := 2#32
  let v627_r0 : BitVec 32 := Scalar.remui arg16_r0 c2_i32_516_r0
  let v653_r0 : Index := Scalar.indexCast v627_r0
  let c0_538_r0 : Index := 0#32
  let c0_539_r0 : Index := 0#32
  ![v653_r0.toNat, 0, 0]

def k0_chk5 (arg16_r0 : BitVec 32) : Prop :=
  (∀ a, (k0_off110 arg16_r0) a + S1x32x8192.size a ≤ S2x32x8192.size a)
theorem k0_off110_inb : ∀ (arg16_r0 : BitVec 32) (k0_hw5 : k0_chk5 arg16_r0), ∀ a, (k0_off110 arg16_r0) a + S1x32x8192.size a ≤ S2x32x8192.size a := fun arg16_r0 k0_hw5 => k0_hw5

def k0_off111 (arg18_r0 : BitVec 32) : Fin 3 → Nat :=
  let c2_i32_517_r0 : BitVec 32 := 2#32
  let v628_r0 : BitVec 32 := Scalar.remui arg18_r0 c2_i32_517_r0
  let v656_r0 : Index := Scalar.indexCast v628_r0
  let c0_540_r0 : Index := 0#32
  let c0_541_r0 : Index := 0#32
  ![v656_r0.toNat, 0, 0]

def k0_chk6 (arg18_r0 : BitVec 32) : Prop :=
  (∀ a, (k0_off111 arg18_r0) a + S1x32x8192.size a ≤ S2x32x8192.size a)
theorem k0_off111_inb : ∀ (arg18_r0 : BitVec 32) (k0_hw6 : k0_chk6 arg18_r0), ∀ a, (k0_off111 arg18_r0) a + S1x32x8192.size a ≤ S2x32x8192.size a := fun arg18_r0 k0_hw6 => k0_hw6

def k0_off112 (arg20_r0 : BitVec 32) : Fin 3 → Nat :=
  let c2_i32_518_r0 : BitVec 32 := 2#32
  let v629_r0 : BitVec 32 := Scalar.remui arg20_r0 c2_i32_518_r0
  let v659_r0 : Index := Scalar.indexCast v629_r0
  let c0_542_r0 : Index := 0#32
  let c0_543_r0 : Index := 0#32
  ![v659_r0.toNat, 0, 0]

def k0_chk7 (arg20_r0 : BitVec 32) : Prop :=
  (∀ a, (k0_off112 arg20_r0) a + S1x32x8192.size a ≤ S2x32x8192.size a)
theorem k0_off112_inb : ∀ (arg20_r0 : BitVec 32) (k0_hw7 : k0_chk7 arg20_r0), ∀ a, (k0_off112 arg20_r0) a + S1x32x8192.size a ≤ S2x32x8192.size a := fun arg20_r0 k0_hw7 => k0_hw7

def k0_off113 (arg22_r0 : BitVec 32) : Fin 3 → Nat :=
  let c2_i32_519_r0 : BitVec 32 := 2#32
  let v630_r0 : BitVec 32 := Scalar.remui arg22_r0 c2_i32_519_r0
  let v662_r0 : Index := Scalar.indexCast v630_r0
  let c0_544_r0 : Index := 0#32
  let c0_545_r0 : Index := 0#32
  ![v662_r0.toNat, 0, 0]

def k0_chk8 (arg22_r0 : BitVec 32) : Prop :=
  (∀ a, (k0_off113 arg22_r0) a + S1x32x8192.size a ≤ S2x32x8192.size a)
theorem k0_off113_inb : ∀ (arg22_r0 : BitVec 32) (k0_hw8 : k0_chk8 arg22_r0), ∀ a, (k0_off113 arg22_r0) a + S1x32x8192.size a ≤ S2x32x8192.size a := fun arg22_r0 k0_hw8 => k0_hw8

def k0_off114 (arg24_r0 : BitVec 32) : Fin 3 → Nat :=
  let c2_i32_520_r0 : BitVec 32 := 2#32
  let v631_r0 : BitVec 32 := Scalar.remui arg24_r0 c2_i32_520_r0
  let v665_r0 : Index := Scalar.indexCast v631_r0
  let c0_546_r0 : Index := 0#32
  let c0_547_r0 : Index := 0#32
  ![v665_r0.toNat, 0, 0]

def k0_chk9 (arg24_r0 : BitVec 32) : Prop :=
  (∀ a, (k0_off114 arg24_r0) a + S1x32x8192.size a ≤ S2x32x8192.size a)
theorem k0_off114_inb : ∀ (arg24_r0 : BitVec 32) (k0_hw9 : k0_chk9 arg24_r0), ∀ a, (k0_off114 arg24_r0) a + S1x32x8192.size a ≤ S2x32x8192.size a := fun arg24_r0 k0_hw9 => k0_hw9

def k0_off115 (arg26_r0 : BitVec 32) : Fin 3 → Nat :=
  let c2_i32_521_r0 : BitVec 32 := 2#32
  let v632_r0 : BitVec 32 := Scalar.remui arg26_r0 c2_i32_521_r0
  let v668_r0 : Index := Scalar.indexCast v632_r0
  let c0_548_r0 : Index := 0#32
  let c0_549_r0 : Index := 0#32
  ![v668_r0.toNat, 0, 0]

def k0_chk10 (arg26_r0 : BitVec 32) : Prop :=
  (∀ a, (k0_off115 arg26_r0) a + S1x32x8192.size a ≤ S2x32x8192.size a)
theorem k0_off115_inb : ∀ (arg26_r0 : BitVec 32) (k0_hw10 : k0_chk10 arg26_r0), ∀ a, (k0_off115 arg26_r0) a + S1x32x8192.size a ≤ S2x32x8192.size a := fun arg26_r0 k0_hw10 => k0_hw10

def k0_off116 (arg28_r0 : BitVec 32) : Fin 3 → Nat :=
  let c2_i32_522_r0 : BitVec 32 := 2#32
  let v633_r0 : BitVec 32 := Scalar.remui arg28_r0 c2_i32_522_r0
  let v674_r0 : Index := Scalar.indexCast v633_r0
  let c0_550_r0 : Index := 0#32
  let c0_551_r0 : Index := 0#32
  ![v674_r0.toNat, 0, 0]

def k0_chk11 (arg28_r0 : BitVec 32) : Prop :=
  (∀ a, (k0_off116 arg28_r0) a + S1x32x8192.size a ≤ S2x32x8192.size a)
theorem k0_off116_inb : ∀ (arg28_r0 : BitVec 32) (k0_hw11 : k0_chk11 arg28_r0), ∀ a, (k0_off116 arg28_r0) a + S1x32x8192.size a ≤ S2x32x8192.size a := fun arg28_r0 k0_hw11 => k0_hw11

def k0_off117 (arg30_r0 : BitVec 32) : Fin 3 → Nat :=
  let c2_i32_523_r0 : BitVec 32 := 2#32
  let v634_r0 : BitVec 32 := Scalar.remui arg30_r0 c2_i32_523_r0
  let v677_r0 : Index := Scalar.indexCast v634_r0
  let c0_552_r0 : Index := 0#32
  let c0_553_r0 : Index := 0#32
  ![v677_r0.toNat, 0, 0]

def k0_chk12 (arg30_r0 : BitVec 32) : Prop :=
  (∀ a, (k0_off117 arg30_r0) a + S1x32x8192.size a ≤ S2x32x8192.size a)
theorem k0_off117_inb : ∀ (arg30_r0 : BitVec 32) (k0_hw12 : k0_chk12 arg30_r0), ∀ a, (k0_off117 arg30_r0) a + S1x32x8192.size a ≤ S2x32x8192.size a := fun arg30_r0 k0_hw12 => k0_hw12

def k0_off118 (arg32_r0 : BitVec 32) : Fin 3 → Nat :=
  let c2_i32_524_r0 : BitVec 32 := 2#32
  let v635_r0 : BitVec 32 := Scalar.remui arg32_r0 c2_i32_524_r0
  let v680_r0 : Index := Scalar.indexCast v635_r0
  let c0_554_r0 : Index := 0#32
  let c0_555_r0 : Index := 0#32
  ![v680_r0.toNat, 0, 0]

def k0_chk13 (arg32_r0 : BitVec 32) : Prop :=
  (∀ a, (k0_off118 arg32_r0) a + S1x32x8192.size a ≤ S2x32x8192.size a)
theorem k0_off118_inb : ∀ (arg32_r0 : BitVec 32) (k0_hw13 : k0_chk13 arg32_r0), ∀ a, (k0_off118 arg32_r0) a + S1x32x8192.size a ≤ S2x32x8192.size a := fun arg32_r0 k0_hw13 => k0_hw13

def k0_off119 (arg34_r0 : BitVec 32) : Fin 3 → Nat :=
  let c2_i32_525_r0 : BitVec 32 := 2#32
  let v636_r0 : BitVec 32 := Scalar.remui arg34_r0 c2_i32_525_r0
  let v683_r0 : Index := Scalar.indexCast v636_r0
  let c0_556_r0 : Index := 0#32
  let c0_557_r0 : Index := 0#32
  ![v683_r0.toNat, 0, 0]

def k0_chk14 (arg34_r0 : BitVec 32) : Prop :=
  (∀ a, (k0_off119 arg34_r0) a + S1x32x8192.size a ≤ S2x32x8192.size a)
theorem k0_off119_inb : ∀ (arg34_r0 : BitVec 32) (k0_hw14 : k0_chk14 arg34_r0), ∀ a, (k0_off119 arg34_r0) a + S1x32x8192.size a ≤ S2x32x8192.size a := fun arg34_r0 k0_hw14 => k0_hw14

def k0_off120 (arg36_r0 : BitVec 32) : Fin 3 → Nat :=
  let c2_i32_526_r0 : BitVec 32 := 2#32
  let v637_r0 : BitVec 32 := Scalar.remui arg36_r0 c2_i32_526_r0
  let v686_r0 : Index := Scalar.indexCast v637_r0
  let c0_558_r0 : Index := 0#32
  let c0_559_r0 : Index := 0#32
  ![v686_r0.toNat, 0, 0]

def k0_chk15 (arg36_r0 : BitVec 32) : Prop :=
  (∀ a, (k0_off120 arg36_r0) a + S1x32x8192.size a ≤ S2x32x8192.size a)
theorem k0_off120_inb : ∀ (arg36_r0 : BitVec 32) (k0_hw15 : k0_chk15 arg36_r0), ∀ a, (k0_off120 arg36_r0) a + S1x32x8192.size a ≤ S2x32x8192.size a := fun arg36_r0 k0_hw15 => k0_hw15

def k0_off121 (arg38_r0 : BitVec 32) : Fin 3 → Nat :=
  let c2_i32_527_r0 : BitVec 32 := 2#32
  let v638_r0 : BitVec 32 := Scalar.remui arg38_r0 c2_i32_527_r0
  let v689_r0 : Index := Scalar.indexCast v638_r0
  let c0_560_r0 : Index := 0#32
  let c0_561_r0 : Index := 0#32
  ![v689_r0.toNat, 0, 0]

def k0_chk16 (arg38_r0 : BitVec 32) : Prop :=
  (∀ a, (k0_off121 arg38_r0) a + S1x32x8192.size a ≤ S2x32x8192.size a)
theorem k0_off121_inb : ∀ (arg38_r0 : BitVec 32) (k0_hw16 : k0_chk16 arg38_r0), ∀ a, (k0_off121 arg38_r0) a + S1x32x8192.size a ≤ S2x32x8192.size a := fun arg38_r0 k0_hw16 => k0_hw16

def k0_off122 (arg40_r0 : BitVec 32) : Fin 3 → Nat :=
  let c2_i32_528_r0 : BitVec 32 := 2#32
  let v639_r0 : BitVec 32 := Scalar.remui arg40_r0 c2_i32_528_r0
  let v692_r0 : Index := Scalar.indexCast v639_r0
  let c0_562_r0 : Index := 0#32
  let c0_563_r0 : Index := 0#32
  ![v692_r0.toNat, 0, 0]

def k0_chk17 (arg40_r0 : BitVec 32) : Prop :=
  (∀ a, (k0_off122 arg40_r0) a + S1x32x8192.size a ≤ S2x32x8192.size a)
theorem k0_off122_inb : ∀ (arg40_r0 : BitVec 32) (k0_hw17 : k0_chk17 arg40_r0), ∀ a, (k0_off122 arg40_r0) a + S1x32x8192.size a ≤ S2x32x8192.size a := fun arg40_r0 k0_hw17 => k0_hw17

def k0_off123 (arg42_r0 : BitVec 32) : Fin 3 → Nat :=
  let c2_i32_529_r0 : BitVec 32 := 2#32
  let v640_r0 : BitVec 32 := Scalar.remui arg42_r0 c2_i32_529_r0
  let v695_r0 : Index := Scalar.indexCast v640_r0
  let c0_564_r0 : Index := 0#32
  let c0_565_r0 : Index := 0#32
  ![v695_r0.toNat, 0, 0]

def k0_chk18 (arg42_r0 : BitVec 32) : Prop :=
  (∀ a, (k0_off123 arg42_r0) a + S1x32x8192.size a ≤ S2x32x8192.size a)
theorem k0_off123_inb : ∀ (arg42_r0 : BitVec 32) (k0_hw18 : k0_chk18 arg42_r0), ∀ a, (k0_off123 arg42_r0) a + S1x32x8192.size a ≤ S2x32x8192.size a := fun arg42_r0 k0_hw18 => k0_hw18

def k0_off124 (arg49_r0 : BitVec 32) : Fin 3 → Nat :=
  let c2_i32_531_r0 : BitVec 32 := 2#32
  let v642_r0 : BitVec 32 := Scalar.remui arg49_r0 c2_i32_531_r0
  let v717_r0 : Index := Scalar.indexCast v642_r0
  let c0_574_r0 : Index := 0#32
  let c0_575_r0 : Index := 0#32
  ![v717_r0.toNat, 0, 0]

def k0_chk19 (arg49_r0 : BitVec 32) : Prop :=
  (∀ a, (k0_off124 arg49_r0) a + S1x8192x128.size a ≤ S2x8192x128.size a)
theorem k0_off124_inb : ∀ (arg49_r0 : BitVec 32) (k0_hw19 : k0_chk19 arg49_r0), ∀ a, (k0_off124 arg49_r0) a + S1x8192x128.size a ≤ S2x8192x128.size a := fun arg49_r0 k0_hw19 => k0_hw19

def k0_off125 (arg51_r0 : BitVec 32) : Fin 3 → Nat :=
  let c2_i32_532_r0 : BitVec 32 := 2#32
  let v643_r0 : BitVec 32 := Scalar.remui arg51_r0 c2_i32_532_r0
  let v727_r0 : Index := Scalar.indexCast v643_r0
  let c0_579_r0 : Index := 0#32
  let c0_580_r0 : Index := 0#32
  ![v727_r0.toNat, 0, 0]

def k0_chk20 (arg51_r0 : BitVec 32) : Prop :=
  (∀ a, (k0_off125 arg51_r0) a + S1x8192x128.size a ≤ S2x8192x128.size a)
theorem k0_off125_inb : ∀ (arg51_r0 : BitVec 32) (k0_hw20 : k0_chk20 arg51_r0), ∀ a, (k0_off125 arg51_r0) a + S1x8192x128.size a ≤ S2x8192x128.size a := fun arg51_r0 k0_hw20 => k0_hw20

def k0_off126 (arg49_r0 : BitVec 32) : Fin 1 → Nat :=
  let c2_i32_708_r0 : BitVec 32 := 2#32
  let v1032_r0 : BitVec 32 := Scalar.remui arg49_r0 c2_i32_708_r0
  ![v1032_r0.toNat]
def k0_cond54 (k0_t1 : Fin k0_t1_loop.trips) (arg53_r0 : BitVec 32) : BitVec 1 :=
  let c0_i32_258_r0 : BitVec 32 := 0#32
  let v221_r0 : BitVec 32 := Scalar.addi arg53_r0 c0_i32_258_r0
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v816_r0 : BitVec 1 := Scalar.cmpi .ne v221_r0 v231_r0
  let c0_i32_222_r0 : BitVec 32 := 0#32
  let c1_i32_224_r0 : BitVec 32 := 1#32
  let arg10_r0 : BitVec 32 := Scf.iv c0_i32_222_r0 c1_i32_224_r0 k0_t1
  let c15_i32_257_r0 : BitVec 32 := 15#32
  let v220_r0 : BitVec 1 := Scalar.cmpi .eq arg10_r0 c15_i32_257_r0
  let v817_r0 : BitVec 1 := Scalar.ori v816_r0 v220_r0
  let v818_r0 : BitVec 32 := Scalar.extui v817_r0
  let c0_i32_614_r0 : BitVec 32 := 0#32
  let v819_r0 : BitVec 1 := Scalar.cmpi .ne v818_r0 c0_i32_614_r0
  v819_r0

def k0_off127 (arg53_r0 : BitVec 32) : Fin 2 → Nat :=
  let c8192_i32_709_r0 : BitVec 32 := 8192#32
  let c0_i32_258_r0 : BitVec 32 := 0#32
  let v221_r0 : BitVec 32 := Scalar.addi arg53_r0 c0_i32_258_r0
  let v1033_r0 : BitVec 32 := Scalar.muli c8192_i32_709_r0 v221_r0
  let c0_i32_710_r0 : BitVec 32 := 0#32
  ![v1033_r0.toNat, 0]
def k0_off128 (arg49_r0 : BitVec 32) : Fin 3 → Nat :=
  let c2_i32_708_r0 : BitVec 32 := 2#32
  let v1032_r0 : BitVec 32 := Scalar.remui arg49_r0 c2_i32_708_r0
  let c0_i32_711_r0 : BitVec 32 := 0#32
  let c0_i32_712_r0 : BitVec 32 := 0#32
  ![v1032_r0.toNat, 0, 0]
def k0_off129 (arg51_r0 : BitVec 32) : Fin 1 → Nat :=
  let c2_i32_708_r0 : BitVec 32 := 2#32
  let v1032_r0 : BitVec 32 := Scalar.remui arg51_r0 c2_i32_708_r0
  ![v1032_r0.toNat]
def k0_cond55 (k0_t1 : Fin k0_t1_loop.trips) (arg53_r0 : BitVec 32) : BitVec 1 :=
  let c0_i32_258_r0 : BitVec 32 := 0#32
  let v221_r0 : BitVec 32 := Scalar.addi arg53_r0 c0_i32_258_r0
  let true_265_r0 : BitVec 1 := 1#1
  let c1_i32_264_r0 : BitVec 32 := 1#32
  let v227_r0 : BitVec 32 := Scalar.addi arg53_r0 c1_i32_264_r0
  let v228_r0 : BitVec 32 := Scalar.select true_265_r0 v227_r0 arg53_r0
  let c16_i32_266_r0 : BitVec 32 := 16#32
  let v229_r0 : BitVec 1 := Scalar.cmpi .eq v228_r0 c16_i32_266_r0
  let c0_i32_267_r0 : BitVec 32 := 0#32
  let v230_r0 : BitVec 32 := Scalar.select v229_r0 c0_i32_267_r0 v228_r0
  let c0_i32_268_r0 : BitVec 32 := 0#32
  let v231_r0 : BitVec 32 := Scalar.addi v230_r0 c0_i32_268_r0
  let v823_r0 : BitVec 1 := Scalar.cmpi .ne v221_r0 v231_r0
  let c0_i32_222_r0 : BitVec 32 := 0#32
  let c1_i32_224_r0 : BitVec 32 := 1#32
  let arg10_r0 : BitVec 32 := Scf.iv c0_i32_222_r0 c1_i32_224_r0 k0_t1
  let c15_i32_257_r0 : BitVec 32 := 15#32
  let v220_r0 : BitVec 1 := Scalar.cmpi .eq arg10_r0 c15_i32_257_r0
  let v824_r0 : BitVec 1 := Scalar.ori v823_r0 v220_r0
  let v825_r0 : BitVec 32 := Scalar.extui v824_r0
  let c0_i32_617_r0 : BitVec 32 := 0#32
  let v826_r0 : BitVec 1 := Scalar.cmpi .ne v825_r0 c0_i32_617_r0
  v826_r0

def k0_off130 (arg53_r0 : BitVec 32) : Fin 2 → Nat :=
  let c8192_i32_709_r0 : BitVec 32 := 8192#32
  let c0_i32_258_r0 : BitVec 32 := 0#32
  let v221_r0 : BitVec 32 := Scalar.addi arg53_r0 c0_i32_258_r0
  let v1033_r0 : BitVec 32 := Scalar.muli c8192_i32_709_r0 v221_r0
  let c0_i32_710_r0 : BitVec 32 := 0#32
  ![v1033_r0.toNat, 0]
def k0_off131 (arg51_r0 : BitVec 32) : Fin 3 → Nat :=
  let c2_i32_708_r0 : BitVec 32 := 2#32
  let v1032_r0 : BitVec 32 := Scalar.remui arg51_r0 c2_i32_708_r0
  let c0_i32_711_r0 : BitVec 32 := 0#32
  let c0_i32_712_r0 : BitVec 32 := 0#32
  ![v1032_r0.toNat, 0, 0]
def k0_off132 (arg50_r0 : BitVec 32) : Fin 1 → Nat :=
  let c2_i32_708_r0 : BitVec 32 := 2#32
  let v1032_r0 : BitVec 32 := Scalar.remui arg50_r0 c2_i32_708_r0
  ![v1032_r0.toNat]
def k0_cond73 (k0_t1 : Fin k0_t1_loop.trips) (arg53_r0 : BitVec 32) : BitVec 1 :=
  let c0_i32_258_r0 : BitVec 32 := 0#32
  let v221_r0 : BitVec 32 := Scalar.addi arg53_r0 c0_i32_258_r0
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v932_r0 : BitVec 1 := Scalar.cmpi .ne v221_r0 v226_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let true_671_r0 : BitVec 1 := 1#1
  let v933_r0 : BitVec 1 := Scalar.xori v219_r0 true_671_r0
  let v934_r0 : BitVec 1 := Scalar.andi v932_r0 v933_r0
  let v935_r0 : BitVec 32 := Scalar.extui v934_r0
  let c0_i32_672_r0 : BitVec 32 := 0#32
  let v936_r0 : BitVec 1 := Scalar.cmpi .ne v935_r0 c0_i32_672_r0
  v936_r0

def k0_off133 (arg53_r0 : BitVec 32) : Fin 2 → Nat :=
  let c8192_i32_709_r0 : BitVec 32 := 8192#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v1033_r0 : BitVec 32 := Scalar.muli c8192_i32_709_r0 v226_r0
  let c0_i32_710_r0 : BitVec 32 := 0#32
  ![v1033_r0.toNat, 0]
def k0_off134 (arg50_r0 : BitVec 32) : Fin 3 → Nat :=
  let c2_i32_708_r0 : BitVec 32 := 2#32
  let v1032_r0 : BitVec 32 := Scalar.remui arg50_r0 c2_i32_708_r0
  let c0_i32_711_r0 : BitVec 32 := 0#32
  let c0_i32_712_r0 : BitVec 32 := 0#32
  ![v1032_r0.toNat, 0, 0]
def k0_off135 (arg52_r0 : BitVec 32) : Fin 1 → Nat :=
  let c2_i32_708_r0 : BitVec 32 := 2#32
  let v1032_r0 : BitVec 32 := Scalar.remui arg52_r0 c2_i32_708_r0
  ![v1032_r0.toNat]
def k0_cond74 (k0_t1 : Fin k0_t1_loop.trips) (arg53_r0 : BitVec 32) : BitVec 1 :=
  let c0_i32_258_r0 : BitVec 32 := 0#32
  let v221_r0 : BitVec 32 := Scalar.addi arg53_r0 c0_i32_258_r0
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v940_r0 : BitVec 1 := Scalar.cmpi .ne v221_r0 v226_r0
  let c0_i32_222_r0 : BitVec 32 := 0#32
  let c1_i32_224_r0 : BitVec 32 := 1#32
  let arg10_r0 : BitVec 32 := Scf.iv c0_i32_222_r0 c1_i32_224_r0 k0_t1
  let c0_i32_256_r0 : BitVec 32 := 0#32
  let v219_r0 : BitVec 1 := Scalar.cmpi .eq arg10_r0 c0_i32_256_r0
  let true_675_r0 : BitVec 1 := 1#1
  let v941_r0 : BitVec 1 := Scalar.xori v219_r0 true_675_r0
  let v942_r0 : BitVec 1 := Scalar.andi v940_r0 v941_r0
  let v943_r0 : BitVec 32 := Scalar.extui v942_r0
  let c0_i32_676_r0 : BitVec 32 := 0#32
  let v944_r0 : BitVec 1 := Scalar.cmpi .ne v943_r0 c0_i32_676_r0
  v944_r0

def k0_off136 (arg53_r0 : BitVec 32) : Fin 2 → Nat :=
  let c8192_i32_709_r0 : BitVec 32 := 8192#32
  let true_260_r0 : BitVec 1 := 1#1
  let c1_i32_259_r0 : BitVec 32 := 1#32
  let v222_r0 : BitVec 32 := Scalar.subi arg53_r0 c1_i32_259_r0
  let v223_r0 : BitVec 32 := Scalar.select true_260_r0 v222_r0 arg53_r0
  let c_m1_i32_261_r0 : BitVec 32 := 4294967295#32
  let v224_r0 : BitVec 1 := Scalar.cmpi .eq v223_r0 c_m1_i32_261_r0
  let c15_i32_262_r0 : BitVec 32 := 15#32
  let v225_r0 : BitVec 32 := Scalar.select v224_r0 c15_i32_262_r0 v223_r0
  let c0_i32_263_r0 : BitVec 32 := 0#32
  let v226_r0 : BitVec 32 := Scalar.addi v225_r0 c0_i32_263_r0
  let v1033_r0 : BitVec 32 := Scalar.muli c8192_i32_709_r0 v226_r0
  let c0_i32_710_r0 : BitVec 32 := 0#32
  ![v1033_r0.toNat, 0]
def k0_off137 (arg52_r0 : BitVec 32) : Fin 3 → Nat :=
  let c2_i32_708_r0 : BitVec 32 := 2#32
  let v1032_r0 : BitVec 32 := Scalar.remui arg52_r0 c2_i32_708_r0
  let c0_i32_711_r0 : BitVec 32 := 0#32
  let c0_i32_712_r0 : BitVec 32 := 0#32
  ![v1032_r0.toNat, 0, 0]

def k0_chk1_0 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) : Prop :=
  (∀ (k0_h1 : k0_cond1 k0_t1 arg53_r0 = 1#1), ∀ a, (k0_off5 arg11_r0) a + S1.size a ≤ S2.size a) ∧
  (∀ (k0_h1 : k0_cond1 k0_t1 arg53_r0 = 1#1), ∀ a, (k0_off6 arg11_r0) a + S1x32x8192.size a ≤ S2x32x8192.size a) ∧
  (∀ (k0_h1 : k0_cond1 k0_t1 arg53_r0 = 1#1), ∀ a, (k0_off7 arg53_r0) a + S32x8192.size a ≤ S32x1007616.size a) ∧
  (∀ (k0_h2 : k0_cond2 k0_t1 arg53_r0 = 1#1), ∀ a, (k0_off8 arg13_r0) a + S1.size a ≤ S2.size a) ∧
  (∀ (k0_h2 : k0_cond2 k0_t1 arg53_r0 = 1#1), ∀ a, (k0_off9 arg13_r0) a + S1x32x8192.size a ≤ S2x32x8192.size a) ∧
  (∀ (k0_h2 : k0_cond2 k0_t1 arg53_r0 = 1#1), ∀ a, (k0_off10 arg53_r0) a + S32x8192.size a ≤ S32x1007616.size a) ∧
  (∀ (k0_h3 : k0_cond3 k0_t1 arg53_r0 = 1#1), ∀ a, (k0_off11 arg15_r0) a + S1.size a ≤ S2.size a) ∧
  (∀ (k0_h3 : k0_cond3 k0_t1 arg53_r0 = 1#1), ∀ a, (k0_off12 arg15_r0) a + S1x32x8192.size a ≤ S2x32x8192.size a) ∧
  (∀ (k0_h3 : k0_cond3 k0_t1 arg53_r0 = 1#1), ∀ a, (k0_off13 arg53_r0) a + S32x8192.size a ≤ S32x1007616.size a) ∧
  (∀ (k0_h4 : k0_cond4 k0_t1 arg53_r0 = 1#1), ∀ a, (k0_off14 arg17_r0) a + S1.size a ≤ S2.size a) ∧
  (∀ (k0_h4 : k0_cond4 k0_t1 arg53_r0 = 1#1), ∀ a, (k0_off15 arg17_r0) a + S1x32x8192.size a ≤ S2x32x8192.size a) ∧
  (∀ (k0_h4 : k0_cond4 k0_t1 arg53_r0 = 1#1), ∀ a, (k0_off16 arg53_r0) a + S32x8192.size a ≤ S32x1007616.size a) ∧
  (∀ (k0_h5 : k0_cond5 k0_t1 arg53_r0 = 1#1), ∀ a, (k0_off17 arg19_r0) a + S1.size a ≤ S2.size a) ∧
  (∀ (k0_h5 : k0_cond5 k0_t1 arg53_r0 = 1#1), ∀ a, (k0_off18 arg19_r0) a + S1x32x8192.size a ≤ S2x32x8192.size a) ∧
  (∀ (k0_h5 : k0_cond5 k0_t1 arg53_r0 = 1#1), ∀ a, (k0_off19 arg53_r0) a + S32x8192.size a ≤ S32x1007616.size a) ∧
  (∀ (k0_h6 : k0_cond6 k0_t1 arg53_r0 = 1#1), ∀ a, (k0_off20 arg21_r0) a + S1.size a ≤ S2.size a) ∧
  (∀ (k0_h6 : k0_cond6 k0_t1 arg53_r0 = 1#1), ∀ a, (k0_off21 arg21_r0) a + S1x32x8192.size a ≤ S2x32x8192.size a) ∧
  (∀ (k0_h6 : k0_cond6 k0_t1 arg53_r0 = 1#1), ∀ a, (k0_off22 arg53_r0) a + S32x8192.size a ≤ S32x1007616.size a) ∧
  (∀ (k0_h7 : k0_cond7 k0_t1 arg53_r0 = 1#1), ∀ a, (k0_off23 arg23_r0) a + S1.size a ≤ S2.size a) ∧
  (∀ (k0_h7 : k0_cond7 k0_t1 arg53_r0 = 1#1), ∀ a, (k0_off24 arg23_r0) a + S1x32x8192.size a ≤ S2x32x8192.size a) ∧
  (∀ (k0_h7 : k0_cond7 k0_t1 arg53_r0 = 1#1), ∀ a, (k0_off25 arg53_r0) a + S32x8192.size a ≤ S32x1007616.size a) ∧
  (∀ (k0_h8 : k0_cond8 k0_t1 arg53_r0 = 1#1), ∀ a, (k0_off26 arg25_r0) a + S1.size a ≤ S2.size a) ∧
  (∀ (k0_h8 : k0_cond8 k0_t1 arg53_r0 = 1#1), ∀ a, (k0_off27 arg25_r0) a + S1x32x8192.size a ≤ S2x32x8192.size a) ∧
  (∀ (k0_h8 : k0_cond8 k0_t1 arg53_r0 = 1#1), ∀ a, (k0_off28 arg53_r0) a + S32x8192.size a ≤ S32x1007616.size a) ∧
  (∀ (k0_h9 : k0_cond9 k0_t1 arg53_r0 = 1#1), ∀ a, (k0_off29 arg27_r0) a + S1.size a ≤ S2.size a) ∧
  (∀ (k0_h9 : k0_cond9 k0_t1 arg53_r0 = 1#1), ∀ a, (k0_off30 arg27_r0) a + S1x32x8192.size a ≤ S2x32x8192.size a) ∧
  (∀ (k0_h9 : k0_cond9 k0_t1 arg53_r0 = 1#1), ∀ a, (k0_off31 arg53_r0) a + S32x8192.size a ≤ S32x1007616.size a) ∧
  (∀ (k0_h10 : k0_cond10 k0_t1 arg53_r0 = 1#1), ∀ a, (k0_off32 arg29_r0) a + S1.size a ≤ S2.size a) ∧
  (∀ (k0_h10 : k0_cond10 k0_t1 arg53_r0 = 1#1), ∀ a, (k0_off33 arg29_r0) a + S1x32x8192.size a ≤ S2x32x8192.size a) ∧
  (∀ (k0_h10 : k0_cond10 k0_t1 arg53_r0 = 1#1), ∀ a, (k0_off34 arg53_r0) a + S32x8192.size a ≤ S32x1007616.size a) ∧
  (∀ (k0_h11 : k0_cond11 k0_t1 arg53_r0 = 1#1), ∀ a, (k0_off35 arg31_r0) a + S1.size a ≤ S2.size a) ∧
  (∀ (k0_h11 : k0_cond11 k0_t1 arg53_r0 = 1#1), ∀ a, (k0_off36 arg31_r0) a + S1x32x8192.size a ≤ S2x32x8192.size a)
def k0_chk1_1 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) : Prop :=
  (∀ (k0_h11 : k0_cond11 k0_t1 arg53_r0 = 1#1), ∀ a, (k0_off37 arg53_r0) a + S32x8192.size a ≤ S32x1007616.size a) ∧
  (∀ (k0_h12 : k0_cond12 k0_t1 arg53_r0 = 1#1), ∀ a, (k0_off38 arg33_r0) a + S1.size a ≤ S2.size a) ∧
  (∀ (k0_h12 : k0_cond12 k0_t1 arg53_r0 = 1#1), ∀ a, (k0_off39 arg33_r0) a + S1x32x8192.size a ≤ S2x32x8192.size a) ∧
  (∀ (k0_h12 : k0_cond12 k0_t1 arg53_r0 = 1#1), ∀ a, (k0_off40 arg53_r0) a + S32x8192.size a ≤ S32x1007616.size a) ∧
  (∀ (k0_h13 : k0_cond13 k0_t1 arg53_r0 = 1#1), ∀ a, (k0_off41 arg35_r0) a + S1.size a ≤ S2.size a) ∧
  (∀ (k0_h13 : k0_cond13 k0_t1 arg53_r0 = 1#1), ∀ a, (k0_off42 arg35_r0) a + S1x32x8192.size a ≤ S2x32x8192.size a) ∧
  (∀ (k0_h13 : k0_cond13 k0_t1 arg53_r0 = 1#1), ∀ a, (k0_off43 arg53_r0) a + S32x8192.size a ≤ S32x1007616.size a) ∧
  (∀ (k0_h14 : k0_cond14 k0_t1 arg53_r0 = 1#1), ∀ a, (k0_off44 arg37_r0) a + S1.size a ≤ S2.size a) ∧
  (∀ (k0_h14 : k0_cond14 k0_t1 arg53_r0 = 1#1), ∀ a, (k0_off45 arg37_r0) a + S1x32x8192.size a ≤ S2x32x8192.size a) ∧
  (∀ (k0_h14 : k0_cond14 k0_t1 arg53_r0 = 1#1), ∀ a, (k0_off46 arg53_r0) a + S32x8192.size a ≤ S32x1007616.size a) ∧
  (∀ (k0_h15 : k0_cond15 k0_t1 arg53_r0 = 1#1), ∀ a, (k0_off47 arg39_r0) a + S1.size a ≤ S2.size a) ∧
  (∀ (k0_h15 : k0_cond15 k0_t1 arg53_r0 = 1#1), ∀ a, (k0_off48 arg39_r0) a + S1x32x8192.size a ≤ S2x32x8192.size a) ∧
  (∀ (k0_h15 : k0_cond15 k0_t1 arg53_r0 = 1#1), ∀ a, (k0_off49 arg53_r0) a + S32x8192.size a ≤ S32x1007616.size a) ∧
  (∀ (k0_h16 : k0_cond16 k0_t1 arg53_r0 = 1#1), ∀ a, (k0_off50 arg41_r0) a + S1.size a ≤ S2.size a) ∧
  (∀ (k0_h16 : k0_cond16 k0_t1 arg53_r0 = 1#1), ∀ a, (k0_off51 arg41_r0) a + S1x32x8192.size a ≤ S2x32x8192.size a) ∧
  (∀ (k0_h16 : k0_cond16 k0_t1 arg53_r0 = 1#1), ∀ a, (k0_off52 arg53_r0) a + S32x8192.size a ≤ S32x1007616.size a) ∧
  (∀ (k0_h17 : k0_cond17 k0_t1 arg53_r0 = 1#1), ∀ a, (k0_off53 arg47_r0) a + S1.size a ≤ S2.size a) ∧
  (∀ (k0_h17 : k0_cond17 k0_t1 arg53_r0 = 1#1), ∀ a, (k0_off54 arg47_r0) a + S1x1x8192.size a ≤ S2x1x8192.size a) ∧
  (∀ (k0_h17 : k0_cond17 k0_t1 arg53_r0 = 1#1), ∀ a, (k0_off55 arg53_r0) a + S1x8192.size a ≤ S16x8192.size a) ∧
  (∀ (k0_h18 : k0_cond18 k0_t1 arg53_r0 = 1#1), ∀ a, (k0_off56 arg12_r0) a + S1.size a ≤ S2.size a) ∧
  (∀ (k0_h18 : k0_cond18 k0_t1 arg53_r0 = 1#1), ∀ a, (k0_off57 arg12_r0) a + S1x32x8192.size a ≤ S2x32x8192.size a) ∧
  (∀ (k0_h18 : k0_cond18 k0_t1 arg53_r0 = 1#1), ∀ a, (k0_off58 arg53_r0) a + S32x8192.size a ≤ S32x1007616.size a) ∧
  (∀ (k0_h19 : k0_cond19 k0_t1 arg53_r0 = 1#1), ∀ a, (k0_off59 arg14_r0) a + S1.size a ≤ S2.size a) ∧
  (∀ (k0_h19 : k0_cond19 k0_t1 arg53_r0 = 1#1), ∀ a, (k0_off60 arg14_r0) a + S1x32x8192.size a ≤ S2x32x8192.size a) ∧
  (∀ (k0_h19 : k0_cond19 k0_t1 arg53_r0 = 1#1), ∀ a, (k0_off61 arg53_r0) a + S32x8192.size a ≤ S32x1007616.size a) ∧
  (∀ (k0_h20 : k0_cond20 k0_t1 arg53_r0 = 1#1), ∀ a, (k0_off62 arg16_r0) a + S1.size a ≤ S2.size a) ∧
  (∀ (k0_h20 : k0_cond20 k0_t1 arg53_r0 = 1#1), ∀ a, (k0_off63 arg16_r0) a + S1x32x8192.size a ≤ S2x32x8192.size a) ∧
  (∀ (k0_h20 : k0_cond20 k0_t1 arg53_r0 = 1#1), ∀ a, (k0_off64 arg53_r0) a + S32x8192.size a ≤ S32x1007616.size a) ∧
  (∀ (k0_h21 : k0_cond21 k0_t1 arg53_r0 = 1#1), ∀ a, (k0_off65 arg18_r0) a + S1.size a ≤ S2.size a) ∧
  (∀ (k0_h21 : k0_cond21 k0_t1 arg53_r0 = 1#1), ∀ a, (k0_off66 arg18_r0) a + S1x32x8192.size a ≤ S2x32x8192.size a) ∧
  (∀ (k0_h21 : k0_cond21 k0_t1 arg53_r0 = 1#1), ∀ a, (k0_off67 arg53_r0) a + S32x8192.size a ≤ S32x1007616.size a) ∧
  (∀ (k0_h22 : k0_cond22 k0_t1 arg53_r0 = 1#1), ∀ a, (k0_off68 arg20_r0) a + S1.size a ≤ S2.size a)
def k0_chk1_2 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) : Prop :=
  (∀ (k0_h22 : k0_cond22 k0_t1 arg53_r0 = 1#1), ∀ a, (k0_off69 arg20_r0) a + S1x32x8192.size a ≤ S2x32x8192.size a) ∧
  (∀ (k0_h22 : k0_cond22 k0_t1 arg53_r0 = 1#1), ∀ a, (k0_off70 arg53_r0) a + S32x8192.size a ≤ S32x1007616.size a) ∧
  (∀ (k0_h23 : k0_cond23 k0_t1 arg53_r0 = 1#1), ∀ a, (k0_off71 arg22_r0) a + S1.size a ≤ S2.size a) ∧
  (∀ (k0_h23 : k0_cond23 k0_t1 arg53_r0 = 1#1), ∀ a, (k0_off72 arg22_r0) a + S1x32x8192.size a ≤ S2x32x8192.size a) ∧
  (∀ (k0_h23 : k0_cond23 k0_t1 arg53_r0 = 1#1), ∀ a, (k0_off73 arg53_r0) a + S32x8192.size a ≤ S32x1007616.size a) ∧
  (∀ (k0_h24 : k0_cond24 k0_t1 arg53_r0 = 1#1), ∀ a, (k0_off74 arg24_r0) a + S1.size a ≤ S2.size a) ∧
  (∀ (k0_h24 : k0_cond24 k0_t1 arg53_r0 = 1#1), ∀ a, (k0_off75 arg24_r0) a + S1x32x8192.size a ≤ S2x32x8192.size a) ∧
  (∀ (k0_h24 : k0_cond24 k0_t1 arg53_r0 = 1#1), ∀ a, (k0_off76 arg53_r0) a + S32x8192.size a ≤ S32x1007616.size a) ∧
  (∀ (k0_h25 : k0_cond25 k0_t1 arg53_r0 = 1#1), ∀ a, (k0_off77 arg26_r0) a + S1.size a ≤ S2.size a) ∧
  (∀ (k0_h25 : k0_cond25 k0_t1 arg53_r0 = 1#1), ∀ a, (k0_off78 arg26_r0) a + S1x32x8192.size a ≤ S2x32x8192.size a) ∧
  (∀ (k0_h25 : k0_cond25 k0_t1 arg53_r0 = 1#1), ∀ a, (k0_off79 arg53_r0) a + S32x8192.size a ≤ S32x1007616.size a) ∧
  (∀ (k0_h26 : k0_cond26 k0_t1 arg53_r0 = 1#1), ∀ a, (k0_off80 arg28_r0) a + S1.size a ≤ S2.size a) ∧
  (∀ (k0_h26 : k0_cond26 k0_t1 arg53_r0 = 1#1), ∀ a, (k0_off81 arg28_r0) a + S1x32x8192.size a ≤ S2x32x8192.size a) ∧
  (∀ (k0_h26 : k0_cond26 k0_t1 arg53_r0 = 1#1), ∀ a, (k0_off82 arg53_r0) a + S32x8192.size a ≤ S32x1007616.size a) ∧
  (∀ (k0_h27 : k0_cond27 k0_t1 arg53_r0 = 1#1), ∀ a, (k0_off83 arg30_r0) a + S1.size a ≤ S2.size a) ∧
  (∀ (k0_h27 : k0_cond27 k0_t1 arg53_r0 = 1#1), ∀ a, (k0_off84 arg30_r0) a + S1x32x8192.size a ≤ S2x32x8192.size a) ∧
  (∀ (k0_h27 : k0_cond27 k0_t1 arg53_r0 = 1#1), ∀ a, (k0_off85 arg53_r0) a + S32x8192.size a ≤ S32x1007616.size a) ∧
  (∀ (k0_h28 : k0_cond28 k0_t1 arg53_r0 = 1#1), ∀ a, (k0_off86 arg32_r0) a + S1.size a ≤ S2.size a) ∧
  (∀ (k0_h28 : k0_cond28 k0_t1 arg53_r0 = 1#1), ∀ a, (k0_off87 arg32_r0) a + S1x32x8192.size a ≤ S2x32x8192.size a) ∧
  (∀ (k0_h28 : k0_cond28 k0_t1 arg53_r0 = 1#1), ∀ a, (k0_off88 arg53_r0) a + S32x8192.size a ≤ S32x1007616.size a) ∧
  (∀ (k0_h29 : k0_cond29 k0_t1 arg53_r0 = 1#1), ∀ a, (k0_off89 arg34_r0) a + S1.size a ≤ S2.size a) ∧
  (∀ (k0_h29 : k0_cond29 k0_t1 arg53_r0 = 1#1), ∀ a, (k0_off90 arg34_r0) a + S1x32x8192.size a ≤ S2x32x8192.size a) ∧
  (∀ (k0_h29 : k0_cond29 k0_t1 arg53_r0 = 1#1), ∀ a, (k0_off91 arg53_r0) a + S32x8192.size a ≤ S32x1007616.size a) ∧
  (∀ (k0_h30 : k0_cond30 k0_t1 arg53_r0 = 1#1), ∀ a, (k0_off92 arg36_r0) a + S1.size a ≤ S2.size a) ∧
  (∀ (k0_h30 : k0_cond30 k0_t1 arg53_r0 = 1#1), ∀ a, (k0_off93 arg36_r0) a + S1x32x8192.size a ≤ S2x32x8192.size a) ∧
  (∀ (k0_h30 : k0_cond30 k0_t1 arg53_r0 = 1#1), ∀ a, (k0_off94 arg53_r0) a + S32x8192.size a ≤ S32x1007616.size a) ∧
  (∀ (k0_h31 : k0_cond31 k0_t1 arg53_r0 = 1#1), ∀ a, (k0_off95 arg38_r0) a + S1.size a ≤ S2.size a) ∧
  (∀ (k0_h31 : k0_cond31 k0_t1 arg53_r0 = 1#1), ∀ a, (k0_off96 arg38_r0) a + S1x32x8192.size a ≤ S2x32x8192.size a) ∧
  (∀ (k0_h31 : k0_cond31 k0_t1 arg53_r0 = 1#1), ∀ a, (k0_off97 arg53_r0) a + S32x8192.size a ≤ S32x1007616.size a) ∧
  (∀ (k0_h32 : k0_cond32 k0_t1 arg53_r0 = 1#1), ∀ a, (k0_off98 arg40_r0) a + S1.size a ≤ S2.size a) ∧
  (∀ (k0_h32 : k0_cond32 k0_t1 arg53_r0 = 1#1), ∀ a, (k0_off99 arg40_r0) a + S1x32x8192.size a ≤ S2x32x8192.size a) ∧
  (∀ (k0_h32 : k0_cond32 k0_t1 arg53_r0 = 1#1), ∀ a, (k0_off100 arg53_r0) a + S32x8192.size a ≤ S32x1007616.size a)
def k0_chk1_3 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) : Prop :=
  (∀ (k0_h33 : k0_cond33 k0_t1 arg53_r0 = 1#1), ∀ a, (k0_off101 arg42_r0) a + S1.size a ≤ S2.size a) ∧
  (∀ (k0_h33 : k0_cond33 k0_t1 arg53_r0 = 1#1), ∀ a, (k0_off102 arg42_r0) a + S1x32x8192.size a ≤ S2x32x8192.size a) ∧
  (∀ (k0_h33 : k0_cond33 k0_t1 arg53_r0 = 1#1), ∀ a, (k0_off103 arg53_r0) a + S32x8192.size a ≤ S32x1007616.size a) ∧
  (∀ (k0_h34 : k0_cond34 k0_t1 arg53_r0 = 1#1), ∀ a, (k0_off104 arg48_r0) a + S1.size a ≤ S2.size a) ∧
  (∀ (k0_h34 : k0_cond34 k0_t1 arg53_r0 = 1#1), ∀ a, (k0_off105 arg48_r0) a + S1x1x8192.size a ≤ S2x1x8192.size a) ∧
  (∀ (k0_h34 : k0_cond34 k0_t1 arg53_r0 = 1#1), ∀ a, (k0_off106 arg53_r0) a + S1x8192.size a ≤ S16x8192.size a) ∧
  (∀ (k0_h54 : k0_cond54 k0_t1 arg53_r0 = 1#1), ∀ a, (k0_off126 arg49_r0) a + S1.size a ≤ S2.size a) ∧
  (∀ (k0_h54 : k0_cond54 k0_t1 arg53_r0 = 1#1), ∀ a, (k0_off127 arg53_r0) a + S8192x128.size a ≤ S131072x128.size a) ∧
  (∀ (k0_h54 : k0_cond54 k0_t1 arg53_r0 = 1#1), ∀ a, (k0_off128 arg49_r0) a + S1x8192x128.size a ≤ S2x8192x128.size a) ∧
  (∀ (k0_h55 : k0_cond55 k0_t1 arg53_r0 = 1#1), ∀ a, (k0_off129 arg51_r0) a + S1.size a ≤ S2.size a) ∧
  (∀ (k0_h55 : k0_cond55 k0_t1 arg53_r0 = 1#1), ∀ a, (k0_off130 arg53_r0) a + S8192x128.size a ≤ S131072x128.size a) ∧
  (∀ (k0_h55 : k0_cond55 k0_t1 arg53_r0 = 1#1), ∀ a, (k0_off131 arg51_r0) a + S1x8192x128.size a ≤ S2x8192x128.size a) ∧
  (∀ (k0_h73 : k0_cond73 k0_t1 arg53_r0 = 1#1), ∀ a, (k0_off132 arg50_r0) a + S1.size a ≤ S2.size a) ∧
  (∀ (k0_h73 : k0_cond73 k0_t1 arg53_r0 = 1#1), ∀ a, (k0_off133 arg53_r0) a + S8192x128.size a ≤ S131072x128.size a) ∧
  (∀ (k0_h73 : k0_cond73 k0_t1 arg53_r0 = 1#1), ∀ a, (k0_off134 arg50_r0) a + S1x8192x128.size a ≤ S2x8192x128.size a) ∧
  (∀ (k0_h74 : k0_cond74 k0_t1 arg53_r0 = 1#1), ∀ a, (k0_off135 arg52_r0) a + S1.size a ≤ S2.size a) ∧
  (∀ (k0_h74 : k0_cond74 k0_t1 arg53_r0 = 1#1), ∀ a, (k0_off136 arg53_r0) a + S8192x128.size a ≤ S131072x128.size a) ∧
  (∀ (k0_h74 : k0_cond74 k0_t1 arg53_r0 = 1#1), ∀ a, (k0_off137 arg52_r0) a + S1x8192x128.size a ≤ S2x8192x128.size a)
def k0_chk1 (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) : Prop :=
  k0_chk1_0 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 ∧
  k0_chk1_1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 ∧
  k0_chk1_2 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 ∧
  k0_chk1_3 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0
theorem k0_off5_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h1 : k0_cond1 k0_t1 arg53_r0 = 1#1), ∀ a, (k0_off5 arg11_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h1 => k0_hw1.1.1 k0_h1
theorem k0_off6_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h1 : k0_cond1 k0_t1 arg53_r0 = 1#1), ∀ a, (k0_off6 arg11_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h1 => k0_hw1.1.2.1 k0_h1
theorem k0_off7_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h1 : k0_cond1 k0_t1 arg53_r0 = 1#1), ∀ a, (k0_off7 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h1 => k0_hw1.1.2.2.1 k0_h1
theorem k0_off8_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h2 : k0_cond2 k0_t1 arg53_r0 = 1#1), ∀ a, (k0_off8 arg13_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h2 => k0_hw1.1.2.2.2.1 k0_h2
theorem k0_off9_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h2 : k0_cond2 k0_t1 arg53_r0 = 1#1), ∀ a, (k0_off9 arg13_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h2 => k0_hw1.1.2.2.2.2.1 k0_h2
theorem k0_off10_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h2 : k0_cond2 k0_t1 arg53_r0 = 1#1), ∀ a, (k0_off10 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h2 => k0_hw1.1.2.2.2.2.2.1 k0_h2
theorem k0_off11_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h3 : k0_cond3 k0_t1 arg53_r0 = 1#1), ∀ a, (k0_off11 arg15_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h3 => k0_hw1.1.2.2.2.2.2.2.1 k0_h3
theorem k0_off12_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h3 : k0_cond3 k0_t1 arg53_r0 = 1#1), ∀ a, (k0_off12 arg15_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h3 => k0_hw1.1.2.2.2.2.2.2.2.1 k0_h3
theorem k0_off13_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h3 : k0_cond3 k0_t1 arg53_r0 = 1#1), ∀ a, (k0_off13 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h3 => k0_hw1.1.2.2.2.2.2.2.2.2.1 k0_h3
theorem k0_off14_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h4 : k0_cond4 k0_t1 arg53_r0 = 1#1), ∀ a, (k0_off14 arg17_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h4 => k0_hw1.1.2.2.2.2.2.2.2.2.2.1 k0_h4
theorem k0_off15_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h4 : k0_cond4 k0_t1 arg53_r0 = 1#1), ∀ a, (k0_off15 arg17_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h4 => k0_hw1.1.2.2.2.2.2.2.2.2.2.2.1 k0_h4
theorem k0_off16_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h4 : k0_cond4 k0_t1 arg53_r0 = 1#1), ∀ a, (k0_off16 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h4 => k0_hw1.1.2.2.2.2.2.2.2.2.2.2.2.1 k0_h4
theorem k0_off17_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h5 : k0_cond5 k0_t1 arg53_r0 = 1#1), ∀ a, (k0_off17 arg19_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h5 => k0_hw1.1.2.2.2.2.2.2.2.2.2.2.2.2.1 k0_h5
theorem k0_off18_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h5 : k0_cond5 k0_t1 arg53_r0 = 1#1), ∀ a, (k0_off18 arg19_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h5 => k0_hw1.1.2.2.2.2.2.2.2.2.2.2.2.2.2.1 k0_h5
theorem k0_off19_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h5 : k0_cond5 k0_t1 arg53_r0 = 1#1), ∀ a, (k0_off19 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h5 => k0_hw1.1.2.2.2.2.2.2.2.2.2.2.2.2.2.2.1 k0_h5
theorem k0_off20_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h6 : k0_cond6 k0_t1 arg53_r0 = 1#1), ∀ a, (k0_off20 arg21_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h6 => k0_hw1.1.2.2.2.2.2.2.2.2.2.2.2.2.2.2.2.1 k0_h6
theorem k0_off21_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h6 : k0_cond6 k0_t1 arg53_r0 = 1#1), ∀ a, (k0_off21 arg21_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h6 => k0_hw1.1.2.2.2.2.2.2.2.2.2.2.2.2.2.2.2.2.1 k0_h6
theorem k0_off22_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h6 : k0_cond6 k0_t1 arg53_r0 = 1#1), ∀ a, (k0_off22 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h6 => k0_hw1.1.2.2.2.2.2.2.2.2.2.2.2.2.2.2.2.2.2.1 k0_h6
theorem k0_off23_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h7 : k0_cond7 k0_t1 arg53_r0 = 1#1), ∀ a, (k0_off23 arg23_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h7 => k0_hw1.1.2.2.2.2.2.2.2.2.2.2.2.2.2.2.2.2.2.2.1 k0_h7
theorem k0_off24_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h7 : k0_cond7 k0_t1 arg53_r0 = 1#1), ∀ a, (k0_off24 arg23_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h7 => k0_hw1.1.2.2.2.2.2.2.2.2.2.2.2.2.2.2.2.2.2.2.2.1 k0_h7
theorem k0_off25_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h7 : k0_cond7 k0_t1 arg53_r0 = 1#1), ∀ a, (k0_off25 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h7 => k0_hw1.1.2.2.2.2.2.2.2.2.2.2.2.2.2.2.2.2.2.2.2.2.1 k0_h7
theorem k0_off26_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h8 : k0_cond8 k0_t1 arg53_r0 = 1#1), ∀ a, (k0_off26 arg25_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h8 => k0_hw1.1.2.2.2.2.2.2.2.2.2.2.2.2.2.2.2.2.2.2.2.2.2.1 k0_h8
theorem k0_off27_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h8 : k0_cond8 k0_t1 arg53_r0 = 1#1), ∀ a, (k0_off27 arg25_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h8 => k0_hw1.1.2.2.2.2.2.2.2.2.2.2.2.2.2.2.2.2.2.2.2.2.2.2.1 k0_h8
theorem k0_off28_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h8 : k0_cond8 k0_t1 arg53_r0 = 1#1), ∀ a, (k0_off28 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h8 => k0_hw1.1.2.2.2.2.2.2.2.2.2.2.2.2.2.2.2.2.2.2.2.2.2.2.2.1 k0_h8
theorem k0_off29_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h9 : k0_cond9 k0_t1 arg53_r0 = 1#1), ∀ a, (k0_off29 arg27_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h9 => k0_hw1.1.2.2.2.2.2.2.2.2.2.2.2.2.2.2.2.2.2.2.2.2.2.2.2.2.1 k0_h9
theorem k0_off30_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h9 : k0_cond9 k0_t1 arg53_r0 = 1#1), ∀ a, (k0_off30 arg27_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h9 => k0_hw1.1.2.2.2.2.2.2.2.2.2.2.2.2.2.2.2.2.2.2.2.2.2.2.2.2.2.1 k0_h9
theorem k0_off31_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h9 : k0_cond9 k0_t1 arg53_r0 = 1#1), ∀ a, (k0_off31 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h9 => k0_hw1.1.2.2.2.2.2.2.2.2.2.2.2.2.2.2.2.2.2.2.2.2.2.2.2.2.2.2.1 k0_h9
theorem k0_off32_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h10 : k0_cond10 k0_t1 arg53_r0 = 1#1), ∀ a, (k0_off32 arg29_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h10 => k0_hw1.1.2.2.2.2.2.2.2.2.2.2.2.2.2.2.2.2.2.2.2.2.2.2.2.2.2.2.2.1 k0_h10
theorem k0_off33_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h10 : k0_cond10 k0_t1 arg53_r0 = 1#1), ∀ a, (k0_off33 arg29_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h10 => k0_hw1.1.2.2.2.2.2.2.2.2.2.2.2.2.2.2.2.2.2.2.2.2.2.2.2.2.2.2.2.2.1 k0_h10
theorem k0_off34_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h10 : k0_cond10 k0_t1 arg53_r0 = 1#1), ∀ a, (k0_off34 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h10 => k0_hw1.1.2.2.2.2.2.2.2.2.2.2.2.2.2.2.2.2.2.2.2.2.2.2.2.2.2.2.2.2.2.1 k0_h10
theorem k0_off35_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h11 : k0_cond11 k0_t1 arg53_r0 = 1#1), ∀ a, (k0_off35 arg31_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h11 => k0_hw1.1.2.2.2.2.2.2.2.2.2.2.2.2.2.2.2.2.2.2.2.2.2.2.2.2.2.2.2.2.2.2.1 k0_h11
theorem k0_off36_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h11 : k0_cond11 k0_t1 arg53_r0 = 1#1), ∀ a, (k0_off36 arg31_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h11 => k0_hw1.1.2.2.2.2.2.2.2.2.2.2.2.2.2.2.2.2.2.2.2.2.2.2.2.2.2.2.2.2.2.2.2 k0_h11
theorem k0_off37_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h11 : k0_cond11 k0_t1 arg53_r0 = 1#1), ∀ a, (k0_off37 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h11 => k0_hw1.2.1.1 k0_h11
theorem k0_off38_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h12 : k0_cond12 k0_t1 arg53_r0 = 1#1), ∀ a, (k0_off38 arg33_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h12 => k0_hw1.2.1.2.1 k0_h12
theorem k0_off39_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h12 : k0_cond12 k0_t1 arg53_r0 = 1#1), ∀ a, (k0_off39 arg33_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h12 => k0_hw1.2.1.2.2.1 k0_h12
theorem k0_off40_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h12 : k0_cond12 k0_t1 arg53_r0 = 1#1), ∀ a, (k0_off40 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h12 => k0_hw1.2.1.2.2.2.1 k0_h12
theorem k0_off41_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h13 : k0_cond13 k0_t1 arg53_r0 = 1#1), ∀ a, (k0_off41 arg35_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h13 => k0_hw1.2.1.2.2.2.2.1 k0_h13
theorem k0_off42_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h13 : k0_cond13 k0_t1 arg53_r0 = 1#1), ∀ a, (k0_off42 arg35_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h13 => k0_hw1.2.1.2.2.2.2.2.1 k0_h13
theorem k0_off43_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h13 : k0_cond13 k0_t1 arg53_r0 = 1#1), ∀ a, (k0_off43 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h13 => k0_hw1.2.1.2.2.2.2.2.2.1 k0_h13
theorem k0_off44_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h14 : k0_cond14 k0_t1 arg53_r0 = 1#1), ∀ a, (k0_off44 arg37_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h14 => k0_hw1.2.1.2.2.2.2.2.2.2.1 k0_h14
theorem k0_off45_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h14 : k0_cond14 k0_t1 arg53_r0 = 1#1), ∀ a, (k0_off45 arg37_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h14 => k0_hw1.2.1.2.2.2.2.2.2.2.2.1 k0_h14
theorem k0_off46_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h14 : k0_cond14 k0_t1 arg53_r0 = 1#1), ∀ a, (k0_off46 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h14 => k0_hw1.2.1.2.2.2.2.2.2.2.2.2.1 k0_h14
theorem k0_off47_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h15 : k0_cond15 k0_t1 arg53_r0 = 1#1), ∀ a, (k0_off47 arg39_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h15 => k0_hw1.2.1.2.2.2.2.2.2.2.2.2.2.1 k0_h15
theorem k0_off48_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h15 : k0_cond15 k0_t1 arg53_r0 = 1#1), ∀ a, (k0_off48 arg39_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h15 => k0_hw1.2.1.2.2.2.2.2.2.2.2.2.2.2.1 k0_h15
theorem k0_off49_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h15 : k0_cond15 k0_t1 arg53_r0 = 1#1), ∀ a, (k0_off49 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h15 => k0_hw1.2.1.2.2.2.2.2.2.2.2.2.2.2.2.1 k0_h15
theorem k0_off50_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h16 : k0_cond16 k0_t1 arg53_r0 = 1#1), ∀ a, (k0_off50 arg41_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h16 => k0_hw1.2.1.2.2.2.2.2.2.2.2.2.2.2.2.2.1 k0_h16
theorem k0_off51_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h16 : k0_cond16 k0_t1 arg53_r0 = 1#1), ∀ a, (k0_off51 arg41_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h16 => k0_hw1.2.1.2.2.2.2.2.2.2.2.2.2.2.2.2.2.1 k0_h16
theorem k0_off52_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h16 : k0_cond16 k0_t1 arg53_r0 = 1#1), ∀ a, (k0_off52 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h16 => k0_hw1.2.1.2.2.2.2.2.2.2.2.2.2.2.2.2.2.2.1 k0_h16
theorem k0_off53_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h17 : k0_cond17 k0_t1 arg53_r0 = 1#1), ∀ a, (k0_off53 arg47_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h17 => k0_hw1.2.1.2.2.2.2.2.2.2.2.2.2.2.2.2.2.2.2.1 k0_h17
theorem k0_off54_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h17 : k0_cond17 k0_t1 arg53_r0 = 1#1), ∀ a, (k0_off54 arg47_r0) a + S1x1x8192.size a ≤ S2x1x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h17 => k0_hw1.2.1.2.2.2.2.2.2.2.2.2.2.2.2.2.2.2.2.2.1 k0_h17
theorem k0_off55_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h17 : k0_cond17 k0_t1 arg53_r0 = 1#1), ∀ a, (k0_off55 arg53_r0) a + S1x8192.size a ≤ S16x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h17 => k0_hw1.2.1.2.2.2.2.2.2.2.2.2.2.2.2.2.2.2.2.2.2.1 k0_h17
theorem k0_off56_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h18 : k0_cond18 k0_t1 arg53_r0 = 1#1), ∀ a, (k0_off56 arg12_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h18 => k0_hw1.2.1.2.2.2.2.2.2.2.2.2.2.2.2.2.2.2.2.2.2.2.1 k0_h18
theorem k0_off57_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h18 : k0_cond18 k0_t1 arg53_r0 = 1#1), ∀ a, (k0_off57 arg12_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h18 => k0_hw1.2.1.2.2.2.2.2.2.2.2.2.2.2.2.2.2.2.2.2.2.2.2.1 k0_h18
theorem k0_off58_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h18 : k0_cond18 k0_t1 arg53_r0 = 1#1), ∀ a, (k0_off58 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h18 => k0_hw1.2.1.2.2.2.2.2.2.2.2.2.2.2.2.2.2.2.2.2.2.2.2.2.1 k0_h18
theorem k0_off59_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h19 : k0_cond19 k0_t1 arg53_r0 = 1#1), ∀ a, (k0_off59 arg14_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h19 => k0_hw1.2.1.2.2.2.2.2.2.2.2.2.2.2.2.2.2.2.2.2.2.2.2.2.2.1 k0_h19
theorem k0_off60_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h19 : k0_cond19 k0_t1 arg53_r0 = 1#1), ∀ a, (k0_off60 arg14_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h19 => k0_hw1.2.1.2.2.2.2.2.2.2.2.2.2.2.2.2.2.2.2.2.2.2.2.2.2.2.1 k0_h19
theorem k0_off61_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h19 : k0_cond19 k0_t1 arg53_r0 = 1#1), ∀ a, (k0_off61 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h19 => k0_hw1.2.1.2.2.2.2.2.2.2.2.2.2.2.2.2.2.2.2.2.2.2.2.2.2.2.2.1 k0_h19
theorem k0_off62_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h20 : k0_cond20 k0_t1 arg53_r0 = 1#1), ∀ a, (k0_off62 arg16_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h20 => k0_hw1.2.1.2.2.2.2.2.2.2.2.2.2.2.2.2.2.2.2.2.2.2.2.2.2.2.2.2.1 k0_h20
theorem k0_off63_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h20 : k0_cond20 k0_t1 arg53_r0 = 1#1), ∀ a, (k0_off63 arg16_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h20 => k0_hw1.2.1.2.2.2.2.2.2.2.2.2.2.2.2.2.2.2.2.2.2.2.2.2.2.2.2.2.2.1 k0_h20
theorem k0_off64_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h20 : k0_cond20 k0_t1 arg53_r0 = 1#1), ∀ a, (k0_off64 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h20 => k0_hw1.2.1.2.2.2.2.2.2.2.2.2.2.2.2.2.2.2.2.2.2.2.2.2.2.2.2.2.2.2.1 k0_h20
theorem k0_off65_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h21 : k0_cond21 k0_t1 arg53_r0 = 1#1), ∀ a, (k0_off65 arg18_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h21 => k0_hw1.2.1.2.2.2.2.2.2.2.2.2.2.2.2.2.2.2.2.2.2.2.2.2.2.2.2.2.2.2.2.1 k0_h21
theorem k0_off66_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h21 : k0_cond21 k0_t1 arg53_r0 = 1#1), ∀ a, (k0_off66 arg18_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h21 => k0_hw1.2.1.2.2.2.2.2.2.2.2.2.2.2.2.2.2.2.2.2.2.2.2.2.2.2.2.2.2.2.2.2.1 k0_h21
theorem k0_off67_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h21 : k0_cond21 k0_t1 arg53_r0 = 1#1), ∀ a, (k0_off67 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h21 => k0_hw1.2.1.2.2.2.2.2.2.2.2.2.2.2.2.2.2.2.2.2.2.2.2.2.2.2.2.2.2.2.2.2.2.1 k0_h21
theorem k0_off68_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h22 : k0_cond22 k0_t1 arg53_r0 = 1#1), ∀ a, (k0_off68 arg20_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h22 => k0_hw1.2.1.2.2.2.2.2.2.2.2.2.2.2.2.2.2.2.2.2.2.2.2.2.2.2.2.2.2.2.2.2.2.2 k0_h22
theorem k0_off69_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h22 : k0_cond22 k0_t1 arg53_r0 = 1#1), ∀ a, (k0_off69 arg20_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h22 => k0_hw1.2.2.1.1 k0_h22
theorem k0_off70_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h22 : k0_cond22 k0_t1 arg53_r0 = 1#1), ∀ a, (k0_off70 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h22 => k0_hw1.2.2.1.2.1 k0_h22
theorem k0_off71_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h23 : k0_cond23 k0_t1 arg53_r0 = 1#1), ∀ a, (k0_off71 arg22_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h23 => k0_hw1.2.2.1.2.2.1 k0_h23
theorem k0_off72_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h23 : k0_cond23 k0_t1 arg53_r0 = 1#1), ∀ a, (k0_off72 arg22_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h23 => k0_hw1.2.2.1.2.2.2.1 k0_h23
theorem k0_off73_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h23 : k0_cond23 k0_t1 arg53_r0 = 1#1), ∀ a, (k0_off73 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h23 => k0_hw1.2.2.1.2.2.2.2.1 k0_h23
theorem k0_off74_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h24 : k0_cond24 k0_t1 arg53_r0 = 1#1), ∀ a, (k0_off74 arg24_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h24 => k0_hw1.2.2.1.2.2.2.2.2.1 k0_h24
theorem k0_off75_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h24 : k0_cond24 k0_t1 arg53_r0 = 1#1), ∀ a, (k0_off75 arg24_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h24 => k0_hw1.2.2.1.2.2.2.2.2.2.1 k0_h24
theorem k0_off76_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h24 : k0_cond24 k0_t1 arg53_r0 = 1#1), ∀ a, (k0_off76 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h24 => k0_hw1.2.2.1.2.2.2.2.2.2.2.1 k0_h24
theorem k0_off77_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h25 : k0_cond25 k0_t1 arg53_r0 = 1#1), ∀ a, (k0_off77 arg26_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h25 => k0_hw1.2.2.1.2.2.2.2.2.2.2.2.1 k0_h25
theorem k0_off78_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h25 : k0_cond25 k0_t1 arg53_r0 = 1#1), ∀ a, (k0_off78 arg26_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h25 => k0_hw1.2.2.1.2.2.2.2.2.2.2.2.2.1 k0_h25
theorem k0_off79_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h25 : k0_cond25 k0_t1 arg53_r0 = 1#1), ∀ a, (k0_off79 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h25 => k0_hw1.2.2.1.2.2.2.2.2.2.2.2.2.2.1 k0_h25
theorem k0_off80_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h26 : k0_cond26 k0_t1 arg53_r0 = 1#1), ∀ a, (k0_off80 arg28_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h26 => k0_hw1.2.2.1.2.2.2.2.2.2.2.2.2.2.2.1 k0_h26
theorem k0_off81_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h26 : k0_cond26 k0_t1 arg53_r0 = 1#1), ∀ a, (k0_off81 arg28_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h26 => k0_hw1.2.2.1.2.2.2.2.2.2.2.2.2.2.2.2.1 k0_h26
theorem k0_off82_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h26 : k0_cond26 k0_t1 arg53_r0 = 1#1), ∀ a, (k0_off82 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h26 => k0_hw1.2.2.1.2.2.2.2.2.2.2.2.2.2.2.2.2.1 k0_h26
theorem k0_off83_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h27 : k0_cond27 k0_t1 arg53_r0 = 1#1), ∀ a, (k0_off83 arg30_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h27 => k0_hw1.2.2.1.2.2.2.2.2.2.2.2.2.2.2.2.2.2.1 k0_h27
theorem k0_off84_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h27 : k0_cond27 k0_t1 arg53_r0 = 1#1), ∀ a, (k0_off84 arg30_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h27 => k0_hw1.2.2.1.2.2.2.2.2.2.2.2.2.2.2.2.2.2.2.1 k0_h27
theorem k0_off85_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h27 : k0_cond27 k0_t1 arg53_r0 = 1#1), ∀ a, (k0_off85 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h27 => k0_hw1.2.2.1.2.2.2.2.2.2.2.2.2.2.2.2.2.2.2.2.1 k0_h27
theorem k0_off86_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h28 : k0_cond28 k0_t1 arg53_r0 = 1#1), ∀ a, (k0_off86 arg32_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h28 => k0_hw1.2.2.1.2.2.2.2.2.2.2.2.2.2.2.2.2.2.2.2.2.1 k0_h28
theorem k0_off87_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h28 : k0_cond28 k0_t1 arg53_r0 = 1#1), ∀ a, (k0_off87 arg32_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h28 => k0_hw1.2.2.1.2.2.2.2.2.2.2.2.2.2.2.2.2.2.2.2.2.2.1 k0_h28
theorem k0_off88_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h28 : k0_cond28 k0_t1 arg53_r0 = 1#1), ∀ a, (k0_off88 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h28 => k0_hw1.2.2.1.2.2.2.2.2.2.2.2.2.2.2.2.2.2.2.2.2.2.2.1 k0_h28
theorem k0_off89_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h29 : k0_cond29 k0_t1 arg53_r0 = 1#1), ∀ a, (k0_off89 arg34_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h29 => k0_hw1.2.2.1.2.2.2.2.2.2.2.2.2.2.2.2.2.2.2.2.2.2.2.2.1 k0_h29
theorem k0_off90_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h29 : k0_cond29 k0_t1 arg53_r0 = 1#1), ∀ a, (k0_off90 arg34_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h29 => k0_hw1.2.2.1.2.2.2.2.2.2.2.2.2.2.2.2.2.2.2.2.2.2.2.2.2.1 k0_h29
theorem k0_off91_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h29 : k0_cond29 k0_t1 arg53_r0 = 1#1), ∀ a, (k0_off91 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h29 => k0_hw1.2.2.1.2.2.2.2.2.2.2.2.2.2.2.2.2.2.2.2.2.2.2.2.2.2.1 k0_h29
theorem k0_off92_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h30 : k0_cond30 k0_t1 arg53_r0 = 1#1), ∀ a, (k0_off92 arg36_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h30 => k0_hw1.2.2.1.2.2.2.2.2.2.2.2.2.2.2.2.2.2.2.2.2.2.2.2.2.2.2.1 k0_h30
theorem k0_off93_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h30 : k0_cond30 k0_t1 arg53_r0 = 1#1), ∀ a, (k0_off93 arg36_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h30 => k0_hw1.2.2.1.2.2.2.2.2.2.2.2.2.2.2.2.2.2.2.2.2.2.2.2.2.2.2.2.1 k0_h30
theorem k0_off94_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h30 : k0_cond30 k0_t1 arg53_r0 = 1#1), ∀ a, (k0_off94 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h30 => k0_hw1.2.2.1.2.2.2.2.2.2.2.2.2.2.2.2.2.2.2.2.2.2.2.2.2.2.2.2.2.1 k0_h30
theorem k0_off95_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h31 : k0_cond31 k0_t1 arg53_r0 = 1#1), ∀ a, (k0_off95 arg38_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h31 => k0_hw1.2.2.1.2.2.2.2.2.2.2.2.2.2.2.2.2.2.2.2.2.2.2.2.2.2.2.2.2.2.1 k0_h31
theorem k0_off96_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h31 : k0_cond31 k0_t1 arg53_r0 = 1#1), ∀ a, (k0_off96 arg38_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h31 => k0_hw1.2.2.1.2.2.2.2.2.2.2.2.2.2.2.2.2.2.2.2.2.2.2.2.2.2.2.2.2.2.2.1 k0_h31
theorem k0_off97_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h31 : k0_cond31 k0_t1 arg53_r0 = 1#1), ∀ a, (k0_off97 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h31 => k0_hw1.2.2.1.2.2.2.2.2.2.2.2.2.2.2.2.2.2.2.2.2.2.2.2.2.2.2.2.2.2.2.2.1 k0_h31
theorem k0_off98_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h32 : k0_cond32 k0_t1 arg53_r0 = 1#1), ∀ a, (k0_off98 arg40_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h32 => k0_hw1.2.2.1.2.2.2.2.2.2.2.2.2.2.2.2.2.2.2.2.2.2.2.2.2.2.2.2.2.2.2.2.2.1 k0_h32
theorem k0_off99_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h32 : k0_cond32 k0_t1 arg53_r0 = 1#1), ∀ a, (k0_off99 arg40_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h32 => k0_hw1.2.2.1.2.2.2.2.2.2.2.2.2.2.2.2.2.2.2.2.2.2.2.2.2.2.2.2.2.2.2.2.2.2.1 k0_h32
theorem k0_off100_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h32 : k0_cond32 k0_t1 arg53_r0 = 1#1), ∀ a, (k0_off100 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h32 => k0_hw1.2.2.1.2.2.2.2.2.2.2.2.2.2.2.2.2.2.2.2.2.2.2.2.2.2.2.2.2.2.2.2.2.2.2 k0_h32
theorem k0_off101_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h33 : k0_cond33 k0_t1 arg53_r0 = 1#1), ∀ a, (k0_off101 arg42_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h33 => k0_hw1.2.2.2.1 k0_h33
theorem k0_off102_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h33 : k0_cond33 k0_t1 arg53_r0 = 1#1), ∀ a, (k0_off102 arg42_r0) a + S1x32x8192.size a ≤ S2x32x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h33 => k0_hw1.2.2.2.2.1 k0_h33
theorem k0_off103_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h33 : k0_cond33 k0_t1 arg53_r0 = 1#1), ∀ a, (k0_off103 arg53_r0) a + S32x8192.size a ≤ S32x1007616.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h33 => k0_hw1.2.2.2.2.2.1 k0_h33
theorem k0_off104_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h34 : k0_cond34 k0_t1 arg53_r0 = 1#1), ∀ a, (k0_off104 arg48_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h34 => k0_hw1.2.2.2.2.2.2.1 k0_h34
theorem k0_off105_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h34 : k0_cond34 k0_t1 arg53_r0 = 1#1), ∀ a, (k0_off105 arg48_r0) a + S1x1x8192.size a ≤ S2x1x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h34 => k0_hw1.2.2.2.2.2.2.2.1 k0_h34
theorem k0_off106_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h34 : k0_cond34 k0_t1 arg53_r0 = 1#1), ∀ a, (k0_off106 arg53_r0) a + S1x8192.size a ≤ S16x8192.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h34 => k0_hw1.2.2.2.2.2.2.2.2.1 k0_h34
theorem k0_off126_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h54 : k0_cond54 k0_t1 arg53_r0 = 1#1), ∀ a, (k0_off126 arg49_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h54 => k0_hw1.2.2.2.2.2.2.2.2.2.1 k0_h54
theorem k0_off127_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h54 : k0_cond54 k0_t1 arg53_r0 = 1#1), ∀ a, (k0_off127 arg53_r0) a + S8192x128.size a ≤ S131072x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h54 => k0_hw1.2.2.2.2.2.2.2.2.2.2.1 k0_h54
theorem k0_off128_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h54 : k0_cond54 k0_t1 arg53_r0 = 1#1), ∀ a, (k0_off128 arg49_r0) a + S1x8192x128.size a ≤ S2x8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h54 => k0_hw1.2.2.2.2.2.2.2.2.2.2.2.1 k0_h54
theorem k0_off129_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h55 : k0_cond55 k0_t1 arg53_r0 = 1#1), ∀ a, (k0_off129 arg51_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h55 => k0_hw1.2.2.2.2.2.2.2.2.2.2.2.2.1 k0_h55
theorem k0_off130_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h55 : k0_cond55 k0_t1 arg53_r0 = 1#1), ∀ a, (k0_off130 arg53_r0) a + S8192x128.size a ≤ S131072x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h55 => k0_hw1.2.2.2.2.2.2.2.2.2.2.2.2.2.1 k0_h55
theorem k0_off131_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h55 : k0_cond55 k0_t1 arg53_r0 = 1#1), ∀ a, (k0_off131 arg51_r0) a + S1x8192x128.size a ≤ S2x8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h55 => k0_hw1.2.2.2.2.2.2.2.2.2.2.2.2.2.2.1 k0_h55
theorem k0_off132_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h73 : k0_cond73 k0_t1 arg53_r0 = 1#1), ∀ a, (k0_off132 arg50_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h73 => k0_hw1.2.2.2.2.2.2.2.2.2.2.2.2.2.2.2.1 k0_h73
theorem k0_off133_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h73 : k0_cond73 k0_t1 arg53_r0 = 1#1), ∀ a, (k0_off133 arg53_r0) a + S8192x128.size a ≤ S131072x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h73 => k0_hw1.2.2.2.2.2.2.2.2.2.2.2.2.2.2.2.2.1 k0_h73
theorem k0_off134_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h73 : k0_cond73 k0_t1 arg53_r0 = 1#1), ∀ a, (k0_off134 arg50_r0) a + S1x8192x128.size a ≤ S2x8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h73 => k0_hw1.2.2.2.2.2.2.2.2.2.2.2.2.2.2.2.2.2.1 k0_h73
theorem k0_off135_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h74 : k0_cond74 k0_t1 arg53_r0 = 1#1), ∀ a, (k0_off135 arg52_r0) a + S1.size a ≤ S2.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h74 => k0_hw1.2.2.2.2.2.2.2.2.2.2.2.2.2.2.2.2.2.2.1 k0_h74
theorem k0_off136_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h74 : k0_cond74 k0_t1 arg53_r0 = 1#1), ∀ a, (k0_off136 arg53_r0) a + S8192x128.size a ≤ S131072x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h74 => k0_hw1.2.2.2.2.2.2.2.2.2.2.2.2.2.2.2.2.2.2.2.1 k0_h74
theorem k0_off137_inb : ∀ (k0_t1 : Fin k0_t1_loop.trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg28_r0 : BitVec 32) (arg29_r0 : BitVec 32) (arg30_r0 : BitVec 32) (arg31_r0 : BitVec 32) (arg32_r0 : BitVec 32) (arg33_r0 : BitVec 32) (arg34_r0 : BitVec 32) (arg35_r0 : BitVec 32) (arg36_r0 : BitVec 32) (arg37_r0 : BitVec 32) (arg38_r0 : BitVec 32) (arg39_r0 : BitVec 32) (arg40_r0 : BitVec 32) (arg41_r0 : BitVec 32) (arg42_r0 : BitVec 32) (arg47_r0 : BitVec 32) (arg48_r0 : BitVec 32) (arg49_r0 : BitVec 32) (arg50_r0 : BitVec 32) (arg51_r0 : BitVec 32) (arg52_r0 : BitVec 32) (arg53_r0 : BitVec 32) (k0_hw1 : k0_chk1 k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0), ∀ (k0_h74 : k0_cond74 k0_t1 arg53_r0 = 1#1), ∀ a, (k0_off137 arg52_r0) a + S1x8192x128.size a ≤ S2x8192x128.size a := fun k0_t1 arg11_r0 arg12_r0 arg13_r0 arg14_r0 arg15_r0 arg16_r0 arg17_r0 arg18_r0 arg19_r0 arg20_r0 arg21_r0 arg22_r0 arg23_r0 arg24_r0 arg25_r0 arg26_r0 arg27_r0 arg28_r0 arg29_r0 arg30_r0 arg31_r0 arg32_r0 arg33_r0 arg34_r0 arg35_r0 arg36_r0 arg37_r0 arg38_r0 arg39_r0 arg40_r0 arg41_r0 arg42_r0 arg47_r0 arg48_r0 arg49_r0 arg50_r0 arg51_r0 arg52_r0 arg53_r0 k0_hw1 k0_h74 => k0_hw1.2.2.2.2.2.2.2.2.2.2.2.2.2.2.2.2.2.2.2.2 k0_h74

def k0_off138 (v184_39_r0 : BitVec 32) : Fin 1 → Nat :=
  let c2_i32_246_r0 : BitVec 32 := 2#32
  let v205_r0 : BitVec 32 := Scalar.remui v184_39_r0 c2_i32_246_r0
  ![v205_r0.toNat]

def k0_off139 (v184_42_r0 : BitVec 32) : Fin 2 → Nat :=
  let c8192_i32_247_r0 : BitVec 32 := 8192#32
  let true_227_r0 : BitVec 1 := 1#1
  let c1_i32_226_r0 : BitVec 32 := 1#32
  let v185_r0 : BitVec 32 := Scalar.subi v184_42_r0 c1_i32_226_r0
  let v186_r0 : BitVec 32 := Scalar.select true_227_r0 v185_r0 v184_42_r0
  let c_m1_i32_228_r0 : BitVec 32 := 4294967295#32
  let v187_r0 : BitVec 1 := Scalar.cmpi .eq v186_r0 c_m1_i32_228_r0
  let c15_i32_229_r0 : BitVec 32 := 15#32
  let v188_r0 : BitVec 32 := Scalar.select v187_r0 c15_i32_229_r0 v186_r0
  let c0_i32_230_r0 : BitVec 32 := 0#32
  let v189_r0 : BitVec 32 := Scalar.addi v188_r0 c0_i32_230_r0
  let v206_r0 : BitVec 32 := Scalar.muli c8192_i32_247_r0 v189_r0
  let c0_i32_248_r0 : BitVec 32 := 0#32
  ![v206_r0.toNat, 0]

def k0_off140 (v184_39_r0 : BitVec 32) : Fin 3 → Nat :=
  let c2_i32_246_r0 : BitVec 32 := 2#32
  let v205_r0 : BitVec 32 := Scalar.remui v184_39_r0 c2_i32_246_r0
  let c0_i32_249_r0 : BitVec 32 := 0#32
  let c0_i32_250_r0 : BitVec 32 := 0#32
  ![v205_r0.toNat, 0, 0]

def k0_chk21 (v184_39_r0 : BitVec 32) : Prop :=
  (∀ a, (k0_off138 v184_39_r0) a + S1.size a ≤ S2.size a) ∧
  (∀ a, (k0_off140 v184_39_r0) a + S1x8192x128.size a ≤ S2x8192x128.size a)
theorem k0_off138_inb : ∀ (v184_39_r0 : BitVec 32) (k0_hw21 : k0_chk21 v184_39_r0), ∀ a, (k0_off138 v184_39_r0) a + S1.size a ≤ S2.size a := fun v184_39_r0 k0_hw21 => k0_hw21.1
theorem k0_off140_inb : ∀ (v184_39_r0 : BitVec 32) (k0_hw21 : k0_chk21 v184_39_r0), ∀ a, (k0_off140 v184_39_r0) a + S1x8192x128.size a ≤ S2x8192x128.size a := fun v184_39_r0 k0_hw21 => k0_hw21.2

def k0_off141 (v184_41_r0 : BitVec 32) : Fin 1 → Nat :=
  let c2_i32_251_r0 : BitVec 32 := 2#32
  let v212_r0 : BitVec 32 := Scalar.remui v184_41_r0 c2_i32_251_r0
  ![v212_r0.toNat]

def k0_off142 (v184_42_r0 : BitVec 32) : Fin 2 → Nat :=
  let c8192_i32_252_r0 : BitVec 32 := 8192#32
  let true_227_r0 : BitVec 1 := 1#1
  let c1_i32_226_r0 : BitVec 32 := 1#32
  let v185_r0 : BitVec 32 := Scalar.subi v184_42_r0 c1_i32_226_r0
  let v186_r0 : BitVec 32 := Scalar.select true_227_r0 v185_r0 v184_42_r0
  let c_m1_i32_228_r0 : BitVec 32 := 4294967295#32
  let v187_r0 : BitVec 1 := Scalar.cmpi .eq v186_r0 c_m1_i32_228_r0
  let c15_i32_229_r0 : BitVec 32 := 15#32
  let v188_r0 : BitVec 32 := Scalar.select v187_r0 c15_i32_229_r0 v186_r0
  let c0_i32_230_r0 : BitVec 32 := 0#32
  let v189_r0 : BitVec 32 := Scalar.addi v188_r0 c0_i32_230_r0
  let v213_r0 : BitVec 32 := Scalar.muli c8192_i32_252_r0 v189_r0
  let c0_i32_253_r0 : BitVec 32 := 0#32
  ![v213_r0.toNat, 0]

def k0_chk22 (v184_42_r0 : BitVec 32) : Prop :=
  (∀ a, (k0_off139 v184_42_r0) a + S8192x128.size a ≤ S131072x128.size a) ∧
  (∀ a, (k0_off142 v184_42_r0) a + S8192x128.size a ≤ S131072x128.size a)
theorem k0_off139_inb : ∀ (v184_42_r0 : BitVec 32) (k0_hw22 : k0_chk22 v184_42_r0), ∀ a, (k0_off139 v184_42_r0) a + S8192x128.size a ≤ S131072x128.size a := fun v184_42_r0 k0_hw22 => k0_hw22.1
theorem k0_off142_inb : ∀ (v184_42_r0 : BitVec 32) (k0_hw22 : k0_chk22 v184_42_r0), ∀ a, (k0_off142 v184_42_r0) a + S8192x128.size a ≤ S131072x128.size a := fun v184_42_r0 k0_hw22 => k0_hw22.2

def k0_off143 (v184_41_r0 : BitVec 32) : Fin 3 → Nat :=
  let c2_i32_251_r0 : BitVec 32 := 2#32
  let v212_r0 : BitVec 32 := Scalar.remui v184_41_r0 c2_i32_251_r0
  let c0_i32_254_r0 : BitVec 32 := 0#32
  let c0_i32_255_r0 : BitVec 32 := 0#32
  ![v212_r0.toNat, 0, 0]

def k0_chk23 (v184_41_r0 : BitVec 32) : Prop :=
  (∀ a, (k0_off141 v184_41_r0) a + S1.size a ≤ S2.size a) ∧
  (∀ a, (k0_off143 v184_41_r0) a + S1x8192x128.size a ≤ S2x8192x128.size a)
theorem k0_off141_inb : ∀ (v184_41_r0 : BitVec 32) (k0_hw23 : k0_chk23 v184_41_r0), ∀ a, (k0_off141 v184_41_r0) a + S1.size a ≤ S2.size a := fun v184_41_r0 k0_hw23 => k0_hw23.1
theorem k0_off143_inb : ∀ (v184_41_r0 : BitVec 32) (k0_hw23 : k0_chk23 v184_41_r0), ∀ a, (k0_off143 v184_41_r0) a + S1x8192x128.size a ≤ S2x8192x128.size a := fun v184_41_r0 k0_hw23 => k0_hw23.2

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62_r0 : BitVec 32 := 0#32
  let c0_i32_63_r0 : BitVec 32 := 0#32
  ![v1.toNat, 0, 0]
def k1_off2 (i : grid1.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v21 : BitVec 32 := Scalar.addi v2 c0_i32_22
  let c0_i32_62_r2 : BitVec 32 := 0#32
  ![v21.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2 : Shape := ⟨2, ![16384, 2]⟩
abbrev S1000000x32 : Shape := ⟨2, ![1000000, 32]⟩
abbrev S32x10 : Shape := ⟨2, ![32, 10]⟩
abbrev S10 : Shape := ⟨1, ![10]⟩
abbrev S20x10 : Shape := ⟨2, ![20, 10]⟩
abbrev S10x1 : Shape := ⟨2, ![10, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x32 : Shape := ⟨2, ![16384, 32]⟩
abbrev S16384x10 : Shape := ⟨2, ![16384, 10]⟩
abbrev S1x10 : Shape := ⟨2, ![1, 10]⟩
abbrev S16384x20 : Shape := ⟨2, ![16384, 20]⟩

abbrev nBuf : Space → Nat
  | .hbm => 95
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S1000000x32, .f32⟩
  | .hbm, ⟨2, _⟩ => ⟨S1000000x32, .f32⟩
  | .hbm, ⟨3, _⟩ => ⟨S32x10, .f32⟩
  | .hbm, ⟨4, _⟩ => ⟨S10, .f32⟩
  | .hbm, ⟨5, _⟩ => ⟨S32x10, .f32⟩
  | .hbm, ⟨6, _⟩ => ⟨S10, .f32⟩
  | .hbm, ⟨7, _⟩ => ⟨S20x10, .f32⟩
  | .hbm, ⟨8, _⟩ => ⟨S10, .f32⟩
  | .hbm, ⟨9, _⟩ => ⟨S10x1, .f32⟩
  | .hbm, ⟨10, _⟩ => ⟨S1, .f32⟩
  | .hbm, ⟨11, _⟩ => ⟨S16384x1, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S1, .i32⟩
  | .hbm, ⟨22, _⟩ => ⟨S_, .i32⟩
  | .hbm, ⟨23, _⟩ => ⟨S16384x1, .i32⟩
  | .hbm, ⟨24, _⟩ => ⟨S16384x1, .i1⟩
  | .hbm, ⟨25, _⟩ => ⟨S1x1, .i32⟩
  | .hbm, ⟨26, _⟩ => ⟨S16384x1, .i32⟩
  | .hbm, ⟨27, _⟩ => ⟨S16384x1, .i1⟩
  | .hbm, ⟨28, _⟩ => ⟨S16384x1, .i1⟩
  | .hbm, ⟨29, _⟩ => ⟨S_, .i1⟩
  | .hbm, ⟨30, _⟩ => ⟨S16384, .i1⟩
  | .hbm, ⟨31, _⟩ => ⟨S16384x32, .f32⟩
  | .hbm, ⟨32, _⟩ => ⟨S16384x32, .i1⟩
  | .hbm, ⟨33, _⟩ => ⟨S_, .f32⟩
  | .hbm, ⟨34, _⟩ => ⟨S16384x32, .f32⟩
  | .hbm, ⟨35, _⟩ => ⟨S16384x32, .f32⟩
  | .hbm, ⟨36, _⟩ => ⟨S16384x1, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S1, .i32⟩
  | .hbm, ⟨47, _⟩ => ⟨S_, .i32⟩
  | .hbm, ⟨48, _⟩ => ⟨S16384x1, .i32⟩
  | .hbm, ⟨49, _⟩ => ⟨S16384x1, .i1⟩
  | .hbm, ⟨50, _⟩ => ⟨S1x1, .i32⟩
  | .hbm, ⟨51, _⟩ => ⟨S16384x1, .i32⟩
  | .hbm, ⟨52, _⟩ => ⟨S16384x1, .i1⟩
  | .hbm, ⟨53, _⟩ => ⟨S16384x1, .i1⟩
  | .hbm, ⟨54, _⟩ => ⟨S_, .i1⟩
  | .hbm, ⟨55, _⟩ => ⟨S16384, .i1⟩
  | .hbm, ⟨56, _⟩ => ⟨S16384x32, .f32⟩
  | .hbm, ⟨57, _⟩ => ⟨S16384x32, .i1⟩
  | .hbm, ⟨58, _⟩ => ⟨S_, .f32⟩
  | .hbm, ⟨59, _⟩ => ⟨S16384x32, .f32⟩
  | .hbm, ⟨60, _⟩ => ⟨S16384x32, .f32⟩
  | .hbm, ⟨61, _⟩ => ⟨S16384x10, .f32⟩
  | .hbm, ⟨62, _⟩ => ⟨S1x10, .f32⟩
  | .hbm, ⟨63, _⟩ => ⟨S16384x10, .f32⟩
  | .hbm, ⟨64, _⟩ => ⟨S16384x10, .f32⟩
  | .hbm, ⟨65, _⟩ => ⟨S_, .f32⟩
  | .hbm, ⟨66, _⟩ => ⟨S16384x10, .f32⟩
  | .hbm, ⟨67, _⟩ => ⟨S16384x10, .f32⟩
  | .hbm, ⟨68, _⟩ => ⟨S16384x10, .f32⟩
  | .hbm, ⟨69, _⟩ => ⟨S1x10, .f32⟩
  | .hbm, ⟨70, _⟩ => ⟨S16384x10, .f32⟩
  | .hbm, ⟨71, _⟩ => ⟨S16384x10, .f32⟩
  | .hbm, ⟨72, _⟩ => ⟨S_, .f32⟩
  | .hbm, ⟨73, _⟩ => ⟨S16384x10, .f32⟩
  | .hbm, ⟨74, _⟩ => ⟨S16384x10, .f32⟩
  | .hbm, ⟨75, _⟩ => ⟨S16384x20, .f32⟩
  | .hbm, ⟨76, _⟩ => ⟨S16384x10, .f32⟩
  | .hbm, ⟨77, _⟩ => ⟨S1x10, .f32⟩
  | .hbm, ⟨78, _⟩ => ⟨S16384x10, .f32⟩
  | .hbm, ⟨79, _⟩ => ⟨S16384x10, .f32⟩
  | .hbm, ⟨80, _⟩ => ⟨S_, .f32⟩
  | .hbm, ⟨81, _⟩ => ⟨S16384x10, .f32⟩
  | .hbm, ⟨82, _⟩ => ⟨S16384x10, .f32⟩
  | .hbm, ⟨83, _⟩ => ⟨S16384x1, .f32⟩
  | .hbm, ⟨84, _⟩ => ⟨S1x1, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_call2_cst : Ref sig .tc := ⟨.hbm, 65, rfl⟩
abbrev main_call2_v0 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_call3_cst : Ref sig .tc := ⟨.hbm, 72, rfl⟩
abbrev main_call3_v0 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_call4_cst : Ref sig .tc := ⟨.hbm, 80, rfl⟩
abbrev main_call4_v0 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst : Ref sig .tc := ⟨.hbm, 89, rfl⟩
abbrev main_v28 : Ref sig .tc := ⟨.hbm, 90, rfl⟩
abbrev main_v29 : Ref sig .tc := ⟨.hbm, 91, rfl⟩
abbrev main_cst_0 : Ref sig .tc := ⟨.hbm, 92, rfl⟩
abbrev main_v30 : Ref sig .tc := ⟨.hbm, 93, rfl⟩
abbrev main_v31 : Ref sig .tc := ⟨.hbm, 94, rfl⟩

abbrev nD : Nat := 1
abbrev τ : Topo := Topo.v7x

variable {F : FTy → Type} [FloatOps F]
-- ==== Proof.Base.lean ====
/-
  The program as its launch theorem sees it: the label signature, the SparseCore configuration, the resource algebra
  (the handshakes' rounds, the pipelines' rounds, the copies' counters).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

/-- The machine's resource algebra. -/
abbrev 𝕄 (F : FTy → Type) : Type := MT nD τ sig (HIx 1) (Elt F) ℕ UU ℕ

abbrev EH : Emb UH (𝕄 F) := embL
abbrev EC : UEmb Counters (𝕄 F) := countersEmb

end Cert.Proof

end
-- ==== Proof.HostOps.lean ====
/-
  The host operations of @main, as three straight lines: before the scan, between the scan and the gather, between the
  gather and the last call; and @main as those lines with the three calls between them.
-/
module

public import proofs.«01_k».proof.Proof.Base
public import Idealize.ShloMosaic.Lib.StableHlo.RunRead

@[expose] public section

noncomputable section

namespace Cert.Proof

open Cert.KernelIdeal Cert.KernelIdeal.Gen

open Idealize.ShloMosaic
open Idealize.SL.Sem

variable {F : FTy → Type} [FloatOps F]

/-- The operations before the scan. -/
def opsA : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S1000000x32, .f32⟩) main_call0.v0 main_call0.v1 (fun x v => pad S1007616x32 ![0, 0] ![7616, 0] ![0, 0] x v pads_S1000000x32_S1007616x32_076160_000 h_S_),
   StableHlo.unary main_v0 main_v1 ((transpose S32x1007616 [1, 0] · transposes_S1007616x32_S32x1007616_1_0) : (⟨S1007616x32, .f32⟩ : BufTy).Contents (Elt F) → (⟨S32x1007616, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_arg2 : StableHlo.TRef sig ⟨S1000000x32, .f32⟩) main_call1.v0 main_call1.v1 (fun x v => pad S1007616x32 ![0, 0] ![7616, 0] ![0, 0] x v pads_S1000000x32_S1007616x32_076160_000 h_S_),
   StableHlo.unary main_v2 main_v3 ((transpose S32x1007616 [1, 0] · transposes_S1007616x32_S32x1007616_1_0) : (⟨S1007616x32, .f32⟩ : BufTy).Contents (Elt F) → (⟨S32x1007616, .f32⟩ : BufTy).Contents (Elt F)),
   StableHlo.nullary main_c_1 (constantI S_ 32 0#32),
   StableHlo.TRef.unary (.of main_c_1 : StableHlo.TRef sig ⟨S_, .i32⟩) main_call2.v0 (sitofp .f32),
   StableHlo.TRef.binary (.of main_arg3 : StableHlo.TRef sig ⟨S32x10, .f32⟩) main_call2.v0 main_call2.v1 (fun x v => pad S32x16 ![0, 0] ![0, 6] ![0, 0] x v pads_S32x10_S32x16_000_060 h_S_),
   StableHlo.nullary main_c_2 (constantI S_ 32 0#32),
   StableHlo.TRef.unary (.of main_c_2 : StableHlo.TRef sig ⟨S_, .i32⟩) main_call3.v0 (sitofp .f32),
   StableHlo.TRef.binary (.of main_arg4 : StableHlo.TRef sig ⟨S10, .f32⟩) main_call3.v0 main_call3.v1 (fun x v => pad S16 ![0] ![6] ![0] x v pads_S10_S16_060 h_S_),
   StableHlo.nullary main_v6 (iotaInDim S8x8 32 0),
   StableHlo.nullary main_v7 (iotaInDim S8x8 32 1),
   StableHlo.nullary main_c_3 (constantI S_ 32 0#32),
   StableHlo.unary main_c_3 main_v8 (broadcastInDim S8x8 ![] bcast_S_S8x8 : (⟨S_, .i32⟩ : BufTy).Contents (Elt F) → (⟨S8x8, .i32⟩ : BufTy).Contents (Elt F)),
   StableHlo.binary main_v6 main_v8 main_v9 (addi : (⟨S8x8, .i32⟩ : BufTy).Contents (Elt F) → (⟨S8x8, .i32⟩ : BufTy).Contents (Elt F) → (⟨S8x8, .i32⟩ : BufTy).Contents (Elt F)),
   StableHlo.binary main_v9 main_v7 main_v10 (cmpi .eq : (⟨S8x8, .i32⟩ : BufTy).Contents (Elt F) → (⟨S8x8, .i32⟩ : BufTy).Contents (Elt F) → (⟨S8x8, .i1⟩ : BufTy).Contents (Elt F)),
   StableHlo.unary main_v10 main_v11 (uitofp .f32 : (⟨S8x8, .i1⟩ : BufTy).Contents (Elt F) → (⟨S8x8, .f32⟩ : BufTy).Contents (Elt F)),
   StableHlo.TRef.unary (.of main_v11 : StableHlo.TRef sig ⟨S8x8, .f32⟩) main_call4.v0 (broadcastInDim S8x1x8x1 ![0, 2] bcast_S8x8_S8x1x8x1_0_2),
   StableHlo.TRef.unary (.of main_v4 : StableHlo.TRef sig ⟨S32x16, .f32⟩) main_call4.v1 (broadcastInDim S1x32x1x16 ![1, 3] bcast_S32x16_S1x32x1x16_1_3),
   StableHlo.TRef.unary main_call4.v0 main_call4.v2 (broadcastInDim S8x32x8x16 ![0, 1, 2, 3] bcast_S8x1x8x1_S8x32x8x16_0_1_2_3),
   StableHlo.TRef.unary main_call4.v1 main_call4.v3 (broadcastInDim S8x32x8x16 ![0, 1, 2, 3] bcast_S1x32x1x16_S8x32x8x16_0_1_2_3),
   StableHlo.TRef.binary main_call4.v2 main_call4.v3 main_call4.v4 mulf,
   StableHlo.TRef.reshape main_call4.v4 main_call4.v5 (rfl : (.f32 : EltTy) = .f32) shapeCasts_S8x32x8x16_S256x128,
   StableHlo.reshape main_v5 main_v13 (rfl : (.f32 : EltTy) = .f32) shapeCasts_S16_S1x16,
   StableHlo.unary main_v13 main_v14 (broadcastInDim S8x16 ![0, 1] bcast_S1x16_S8x16_0_1 : (⟨S1x16, .f32⟩ : BufTy).Contents (Elt F) → (⟨S8x16, .f32⟩ : BufTy).Contents (Elt F)),
   StableHlo.reshape main_v14 main_v15 (rfl : (.f32 : EltTy) = .f32) shapeCasts_S8x16_S128,
   StableHlo.reshape main_v15 main_v16 (rfl : (.f32 : EltTy) = .f32) shapeCasts_S128_S1x128,
   StableHlo.nullary main_c_4 (constantI S_ 32 0#32),
   StableHlo.TRef.unary (.of main_c_4 : StableHlo.TRef sig ⟨S_, .i32⟩) main_call5.v0 (sitofp .f32),
   StableHlo.TRef.binary (.of main_arg5 : StableHlo.TRef sig ⟨S32x10, .f32⟩) main_call5.v0 main_call5.v1 (fun x v => pad S32x16 ![0, 0] ![0, 6] ![0, 0] x v pads_S32x10_S32x16_000_060 h_S_),
   StableHlo.nullary main_c_5 (constantI S_ 32 0#32),
   StableHlo.TRef.unary (.of main_c_5 : StableHlo.TRef sig ⟨S_, .i32⟩) main_call6.v0 (sitofp .f32),
   StableHlo.TRef.binary (.of main_arg6 : StableHlo.TRef sig ⟨S10, .f32⟩) main_call6.v0 main_call6.v1 (fun x v => pad S16 ![0] ![6] ![0] x v pads_S10_S16_060 h_S_),
   StableHlo.nullary main_v19 (iotaInDim S8x8 32 0),
   StableHlo.nullary main_v20 (iotaInDim S8x8 32 1),
   StableHlo.nullary main_c_6 (constantI S_ 32 0#32),
   StableHlo.unary main_c_6 main_v21 (broadcastInDim S8x8 ![] bcast_S_S8x8 : (⟨S_, .i32⟩ : BufTy).Contents (Elt F) → (⟨S8x8, .i32⟩ : BufTy).Contents (Elt F)),
   StableHlo.binary main_v19 main_v21 main_v22 (addi : (⟨S8x8, .i32⟩ : BufTy).Contents (Elt F) → (⟨S8x8, .i32⟩ : BufTy).Contents (Elt F) → (⟨S8x8, .i32⟩ : BufTy).Contents (Elt F)),
   StableHlo.binary main_v22 main_v20 main_v23 (cmpi .eq : (⟨S8x8, .i32⟩ : BufTy).Contents (Elt F) → (⟨S8x8, .i32⟩ : BufTy).Contents (Elt F) → (⟨S8x8, .i1⟩ : BufTy).Contents (Elt F)),
   StableHlo.unary main_v23 main_v24 (uitofp .f32 : (⟨S8x8, .i1⟩ : BufTy).Contents (Elt F) → (⟨S8x8, .f32⟩ : BufTy).Contents (Elt F)),
   StableHlo.TRef.unary (.of main_v24 : StableHlo.TRef sig ⟨S8x8, .f32⟩) main_call7.v0 (broadcastInDim S8x1x8x1 ![0, 2] bcast_S8x8_S8x1x8x1_0_2),
   StableHlo.TRef.unary (.of main_v17 : StableHlo.TRef sig ⟨S32x16, .f32⟩) main_call7.v1 (broadcastInDim S1x32x1x16 ![1, 3] bcast_S32x16_S1x32x1x16_1_3),
   StableHlo.TRef.unary main_call7.v0 main_call7.v2 (broadcastInDim S8x32x8x16 ![0, 1, 2, 3] bcast_S8x1x8x1_S8x32x8x16_0_1_2_3),
   StableHlo.TRef.unary main_call7.v1 main_call7.v3 (broadcastInDim S8x32x8x16 ![0, 1, 2, 3] bcast_S1x32x1x16_S8x32x8x16_0_1_2_3),
   StableHlo.TRef.binary main_call7.v2 main_call7.v3 main_call7.v4 mulf,
   StableHlo.TRef.reshape main_call7.v4 main_call7.v5 (rfl : (.f32 : EltTy) = .f32) shapeCasts_S8x32x8x16_S256x128,
   StableHlo.reshape main_v18 main_v26 (rfl : (.f32 : EltTy) = .f32) shapeCasts_S16_S1x16,
   StableHlo.unary main_v26 main_v27 (broadcastInDim S8x16 ![0, 1] bcast_S1x16_S8x16_0_1 : (⟨S1x16, .f32⟩ : BufTy).Contents (Elt F) → (⟨S8x16, .f32⟩ : BufTy).Contents (Elt F)),
   StableHlo.reshape main_v27 main_v28 (rfl : (.f32 : EltTy) = .f32) shapeCasts_S8x16_S128,
   StableHlo.reshape main_v28 main_v29 (rfl : (.f32 : EltTy) = .f32) shapeCasts_S128_S1x128,
   StableHlo.nullary main_v30 (iotaInDim S16 32 0),
   StableHlo.nullary main_c_7 (constantI S_ 32 112#32),
   StableHlo.unary main_c_7 main_v31 (broadcastInDim S16 ![] bcast_S_S16 : (⟨S_, .i32⟩ : BufTy).Contents (Elt F) → (⟨S16, .i32⟩ : BufTy).Contents (Elt F)),
   StableHlo.binary main_v31 main_v30 main_v32 (addi : (⟨S16, .i32⟩ : BufTy).Contents (Elt F) → (⟨S16, .i32⟩ : BufTy).Contents (Elt F) → (⟨S16, .i32⟩ : BufTy).Contents (Elt F)),
   StableHlo.nullary main_c_8 (constantI S_ 32 122#32),
   StableHlo.unary main_c_8 main_v33 (broadcastInDim S16 ![] bcast_S_S16 : (⟨S_, .i32⟩ : BufTy).Contents (Elt F) → (⟨S16, .i32⟩ : BufTy).Contents (Elt F)),
   StableHlo.binary main_v32 main_v33 main_v34 (minsi : (⟨S16, .i32⟩ : BufTy).Contents (Elt F) → (⟨S16, .i32⟩ : BufTy).Contents (Elt F) → (⟨S16, .i32⟩ : BufTy).Contents (Elt F)),
   StableHlo.unary main_v34 main_v35 (broadcastInDim S16x1 ![0] bcast_S16_S16x1_0 : (⟨S16, .i32⟩ : BufTy).Contents (Elt F) → (⟨S16x1, .i32⟩ : BufTy).Contents (Elt F)),
   StableHlo.nullary main_c_9 (constantI S_ 32 8192#32),
   StableHlo.unary main_c_9 main_v36 (broadcastInDim S16x1 ![] bcast_S_S16x1 : (⟨S_, .i32⟩ : BufTy).Contents (Elt F) → (⟨S16x1, .i32⟩ : BufTy).Contents (Elt F)),
   StableHlo.binary main_v35 main_v36 main_v37 (muli : (⟨S16x1, .i32⟩ : BufTy).Contents (Elt F) → (⟨S16x1, .i32⟩ : BufTy).Contents (Elt F) → (⟨S16x1, .i32⟩ : BufTy).Contents (Elt F)),
   StableHlo.nullary main_v38 (iotaInDim S8192 32 0),
   StableHlo.unary main_v38 main_v39 (broadcastInDim S1x8192 ![1] bcast_S8192_S1x8192_1 : (⟨S8192, .i32⟩ : BufTy).Contents (Elt F) → (⟨S1x8192, .i32⟩ : BufTy).Contents (Elt F)),
   StableHlo.unary main_v37 main_v40 (broadcastInDim S16x8192 ![0, 1] bcast_S16x1_S16x8192_0_1 : (⟨S16x1, .i32⟩ : BufTy).Contents (Elt F) → (⟨S16x8192, .i32⟩ : BufTy).Contents (Elt F)),
   StableHlo.unary main_v39 main_v41 (broadcastInDim S16x8192 ![0, 1] bcast_S1x8192_S16x8192_0_1 : (⟨S1x8192, .i32⟩ : BufTy).Contents (Elt F) → (⟨S16x8192, .i32⟩ : BufTy).Contents (Elt F)),
   StableHlo.binary main_v40 main_v41 main_v42 (addi : (⟨S16x8192, .i32⟩ : BufTy).Contents (Elt F) → (⟨S16x8192, .i32⟩ : BufTy).Contents (Elt F) → (⟨S16x8192, .i32⟩ : BufTy).Contents (Elt F)),
   StableHlo.nullary main_c_10 (constantI S_ 32 1000000#32),
   StableHlo.unary main_c_10 main_v43 (broadcastInDim S16x8192 ![] bcast_S_S16x8192 : (⟨S_, .i32⟩ : BufTy).Contents (Elt F) → (⟨S16x8192, .i32⟩ : BufTy).Contents (Elt F)),
   StableHlo.binary main_v42 main_v43 main_v44 (cmpi .slt : (⟨S16x8192, .i32⟩ : BufTy).Contents (Elt F) → (⟨S16x8192, .i32⟩ : BufTy).Contents (Elt F) → (⟨S16x8192, .i1⟩ : BufTy).Contents (Elt F)),
   StableHlo.unary main_v44 main_v45 (uitofp .f32 : (⟨S16x8192, .i1⟩ : BufTy).Contents (Elt F) → (⟨S16x8192, .f32⟩ : BufTy).Contents (Elt F))]

/-- The operations between the scan and the gather. -/
def opsB : List (HloOp τ sig (Elt F)) :=
  [StableHlo.unary main_arg0 main_v47 ((extractStridedSlice S16384x1 ![0, 0] · slices_S16384x2_S16384x1_0_0) : (⟨S16384x2, .i32⟩ : BufTy).Contents (Elt F) → (⟨S16384x1, .i32⟩ : BufTy).Contents (Elt F)),
   StableHlo.reshape main_v47 main_v48 (rfl : (.i32 : EltTy) = .i32) shapeCasts_S16384x1_S16384,
   StableHlo.unary main_arg0 main_v49 ((extractStridedSlice S16384x1 ![0, 1] · slices_S16384x2_S16384x1_0_1) : (⟨S16384x2, .i32⟩ : BufTy).Contents (Elt F) → (⟨S16384x1, .i32⟩ : BufTy).Contents (Elt F)),
   StableHlo.reshape main_v49 main_v50 (rfl : (.i32 : EltTy) = .i32) shapeCasts_S16384x1_S16384,
   StableHlo.nullary main_c_11 (constantI S_ 32 131071#32),
   StableHlo.unary main_c_11 main_v51 (broadcastInDim S16384 ![] bcast_S_S16384 : (⟨S_, .i32⟩ : BufTy).Contents (Elt F) → (⟨S16384, .i32⟩ : BufTy).Contents (Elt F)),
   StableHlo.binary main_v48 main_v51 main_v52 (andi : (⟨S16384, .i32⟩ : BufTy).Contents (Elt F) → (⟨S16384, .i32⟩ : BufTy).Contents (Elt F) → (⟨S16384, .i32⟩ : BufTy).Contents (Elt F)),
   StableHlo.reshape main_v52 main_v53 (rfl : (.i32 : EltTy) = .i32) shapeCasts_S16384_S32x4x128,
   StableHlo.nullary main_c_12 (constantI S_ 32 131071#32),
   StableHlo.unary main_c_12 main_v54 (broadcastInDim S16384 ![] bcast_S_S16384 : (⟨S_, .i32⟩ : BufTy).Contents (Elt F) → (⟨S16384, .i32⟩ : BufTy).Contents (Elt F)),
   StableHlo.binary main_v50 main_v54 main_v55 (andi : (⟨S16384, .i32⟩ : BufTy).Contents (Elt F) → (⟨S16384, .i32⟩ : BufTy).Contents (Elt F) → (⟨S16384, .i32⟩ : BufTy).Contents (Elt F)),
   StableHlo.reshape main_v55 main_v56 (rfl : (.i32 : EltTy) = .i32) shapeCasts_S16384_S32x4x128,
   StableHlo.nullary main_c_13 (constantI S_ 32 17#32),
   StableHlo.unary main_c_13 main_v57 (broadcastInDim S16384 ![] bcast_S_S16384 : (⟨S_, .i32⟩ : BufTy).Contents (Elt F) → (⟨S16384, .i32⟩ : BufTy).Contents (Elt F)),
   StableHlo.binary main_v48 main_v57 main_v58 (Host.shrsi : (⟨S16384, .i32⟩ : BufTy).Contents (Elt F) → (⟨S16384, .i32⟩ : BufTy).Contents (Elt F) → (⟨S16384, .i32⟩ : BufTy).Contents (Elt F)),
   StableHlo.reshape main_v58 main_v59 (rfl : (.i32 : EltTy) = .i32) shapeCasts_S16384_S16384x1,
   StableHlo.nullary main_c_14 (constantI S_ 32 17#32),
   StableHlo.unary main_c_14 main_v60 (broadcastInDim S16384 ![] bcast_S_S16384 : (⟨S_, .i32⟩ : BufTy).Contents (Elt F) → (⟨S16384, .i32⟩ : BufTy).Contents (Elt F)),
   StableHlo.binary main_v50 main_v60 main_v61 (Host.shrsi : (⟨S16384, .i32⟩ : BufTy).Contents (Elt F) → (⟨S16384, .i32⟩ : BufTy).Contents (Elt F) → (⟨S16384, .i32⟩ : BufTy).Contents (Elt F)),
   StableHlo.reshape main_v61 main_v62 (rfl : (.i32 : EltTy) = .i32) shapeCasts_S16384_S16384x1]

/-- The operations between the gather and the last call. -/
def opsC : List (HloOp τ sig (Elt F)) :=
  [StableHlo.unary main_arg7 main_v64 ((extractStridedSlice S10x10 ![0, 0] · slices_S20x10_S10x10_0_0) : (⟨S20x10, .f32⟩ : BufTy).Contents (Elt F) → (⟨S10x10, .f32⟩ : BufTy).Contents (Elt F)),
   StableHlo.nullary main_c_15 (constantI S_ 32 0#32),
   StableHlo.TRef.unary (.of main_c_15 : StableHlo.TRef sig ⟨S_, .i32⟩) main_call8.v0 (sitofp .f32),
   StableHlo.TRef.binary (.of main_v64 : StableHlo.TRef sig ⟨S10x10, .f32⟩) main_call8.v0 main_call8.v1 (fun x v => pad S16x10 ![0, 0] ![6, 0] ![0, 0] x v pads_S10x10_S16x10_060_000 h_S_),
   StableHlo.reshape main_v65 main_v66 (rfl : (.f32 : EltTy) = .f32) shapeCasts_S16x10_S1x16x1x10,
   StableHlo.unary main_v66 main_v67 (broadcastInDim S8x16x1x10 ![0, 1, 2, 3] bcast_S1x16x1x10_S8x16x1x10_0_1_2_3 : (⟨S1x16x1x10, .f32⟩ : BufTy).Contents (Elt F) → (⟨S8x16x1x10, .f32⟩ : BufTy).Contents (Elt F)),
   StableHlo.reshape main_v67 main_v68 (rfl : (.f32 : EltTy) = .f32) shapeCasts_S8x16x1x10_S128x10,
   StableHlo.unary main_arg7 main_v69 ((extractStridedSlice S10x10 ![10, 0] · slices_S20x10_S10x10_10_0) : (⟨S20x10, .f32⟩ : BufTy).Contents (Elt F) → (⟨S10x10, .f32⟩ : BufTy).Contents (Elt F)),
   StableHlo.nullary main_c_16 (constantI S_ 32 0#32),
   StableHlo.TRef.unary (.of main_c_16 : StableHlo.TRef sig ⟨S_, .i32⟩) main_call9.v0 (sitofp .f32),
   StableHlo.TRef.binary (.of main_v69 : StableHlo.TRef sig ⟨S10x10, .f32⟩) main_call9.v0 main_call9.v1 (fun x v => pad S16x10 ![0, 0] ![6, 0] ![0, 0] x v pads_S10x10_S16x10_060_000 h_S_),
   StableHlo.reshape main_v70 main_v71 (rfl : (.f32 : EltTy) = .f32) shapeCasts_S16x10_S1x16x1x10,
   StableHlo.unary main_v71 main_v72 (broadcastInDim S8x16x1x10 ![0, 1, 2, 3] bcast_S1x16x1x10_S8x16x1x10_0_1_2_3 : (⟨S1x16x1x10, .f32⟩ : BufTy).Contents (Elt F) → (⟨S8x16x1x10, .f32⟩ : BufTy).Contents (Elt F)),
   StableHlo.reshape main_v72 main_v73 (rfl : (.f32 : EltTy) = .f32) shapeCasts_S8x16x1x10_S128x10,
   StableHlo.reshape main_arg8 main_v74 (rfl : (.f32 : EltTy) = .f32) shapeCasts_S10_S1x10,
   StableHlo.reshape main_arg10 main_v75 (rfl : (.f32 : EltTy) = .f32) shapeCasts_S1_S1x1]

/-- A call of a pipeline's region, as @main makes it. -/
abbrev enter (p : Fin 2) : Prog (TpuEff nD τ sig (Elt F) (SparseCore.Sig (ΛP (F := F)) 1) .tc) PUnit :=
  Prog.lift (.customCall (SparseCore.inner (Pipeline.entry p)) ())

set_option maxHeartbeats 4000000 in
set_option maxRecDepth 65536 in
theorem main_eq (d : Dev nD) : (main (F := F) d : Prog (TpuEff nD τ sig (Elt F) (SparseCore.Sig (ΛP (F := F)) 1) .tc) PUnit) =
    (StableHlo.seq opsA >>= fun _ => enter 0 >>= fun _ => StableHlo.seq opsB >>= fun _ => (sc (F := F)).run d 0 >>= fun _ =>
      StableHlo.seq opsC >>= fun _ => enter 1) := by
  rfl

end Cert.Proof

end
-- ==== Proof.Ring.lean ====
/-
  The double-buffered input windows and output rings of a software pipeline, as resources: what a window holds before
  its trip, after the issue of the next block's copy, after the wait for the current block's.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

variable (d : Dev nD)

/-- A double-buffered input window: two slots, a semaphore each, and the `N` blocks it fetches in order. -/
structure Win (F : FTy → Type) (d : Dev nD) (s : Shape) where
  N : ℕ
  hN : 0 < N
  hs : 0 < s.numel
  dst : Fin 2 → Memref sig .tc .vmem s .f32
  sem : Fin 2 → DmaSem sig
  src : ℕ → Memref sig .tc .hbm s .f32
  fs : (k : ℕ) → Buf (Elt F) ((src k).view.loc (d.tc : Thread nD τ))

/-- The slot of trip `k`. -/
def sl (k : ℕ) : Fin 2 := ⟨k % 2, Nat.mod_lt _ (by decide)⟩

theorem sl_add_two (k : ℕ) : sl (k + 2) = sl k := by simp [sl]
theorem sl_succ_succ (k : ℕ) : sl (k + 1 + 1) = sl k := sl_add_two k

/-- The waits of the core so far lie within `B`, and it owes `O`. -/
abbrev Owe (F : FTy → Type) (d : Dev nD) (O : CellTallies nD τ sig (HIx 1)) (B : Set (SemLoc sig × HIx 1)) : sProp (𝕄 F) :=
  Pipeline.owesWithin d O B

theorem Owe_insert {O : CellTallies nD τ sig (HIx 1)} {B : Set (SemLoc sig × HIx 1)} {W : Waits sig (HIx 1)} {sm : SemLoc sig}
    (hB : ∀ sm, (sm, none) ∈ B) (hW : (↑W : Set _) ⊆ B) :
    (owes (d.tc : Thread nD τ) O (insert (sm, none) W) : sProp (𝕄 F)) ⊢ Owe F d O B := by
  unfold Owe Pipeline.owesWithin
  iintro H
  iexists (insert (sm, none) W)
  isplitr
  · ipureintro
    intro p hp
    rcases Finset.mem_insert.mp (Finset.mem_coe.mp hp) with h | h
    · exact h ▸ hB sm
    · exact hW h
  · iexact H

namespace Win

variable {d} {s : Shape} (w : Win F d s)

/-- The `k`-th block. -/
def blk (k : ℕ) : s.Idx → Elt F .f32 := (w.src k).view.read (Elt F) (w.fs k)

/-- The `k`-th block's elements of the source. -/
def piece (k : ℕ) : sProp (𝕄 F) := (w.src k).view.loc (d.tc : Thread nD τ) ↦[(w.src k).view.set]{fullShare} w.fs k

/-- A slot at contents `x`. -/
def landed (j : Fin 2) (x : s.Idx → Elt F .f32) : sProp (𝕄 F) :=
  iprop(∃ f : Buf (Elt F) ((w.dst j).view.loc (d.tc : Thread nD τ)),
    ((w.dst j).view.loc (d.tc : Thread nD τ) ↦[(w.dst j).view.set]{fullShare} f) ∗ ⌜(w.dst j).view.read (Elt F) f = x⌝)

/-- A slot's semaphore at rest. -/
def rest (j : Fin 2) : sProp (𝕄 F) := semVal ((d.tc : Thread nD τ), .dma (w.sem j)) 0

/-- A slot no copy is in flight on. -/
def free (j : Fin 2) : sProp (𝕄 F) :=
  iprop((∃ f : Buf (Elt F) ((w.dst j).view.loc (d.tc : Thread nD τ)),
    ((w.dst j).view.loc (d.tc : Thread nD τ) ↦[(w.dst j).view.set]{fullShare} f)) ∗ w.rest j)

/-- The `k`-th block's copy in flight. -/
def inFl (k : ℕ) : sProp (𝕄 F) :=
  Transfers.Flight EC (d.tc : Thread nD τ) (.dma (w.sem (sl k))) none ((w.dst (sl k)).view.dmaCredit)
    iprop(w.landed (sl k) (w.blk k) ∗ w.piece k)

/-- The blocks fetched before `k`, and those from `k` on. -/
def done (k : ℕ) : sProp (𝕄 F) := bigSep (Finset.range k) fun i => w.piece i
def todo (k : ℕ) : sProp (𝕄 F) := bigSep (Finset.Ico k w.N) fun i => w.piece i

theorem landed_free (j : Fin 2) (x) : iprop(w.landed j x ∗ w.rest j) ⊢ w.free j := by
  unfold landed free
  iintro ⟨⟨%f, Hf, -⟩, Hr⟩
  isplitl [Hf]
  · iexists f; iexact Hf
  · iexact Hr

theorem done_succ (k : ℕ) : w.done (k + 1) = iprop(w.piece k ∗ w.done k) := by
  unfold done
  rw [Finset.range_add_one, bigSep_insert (by simp)]; rfl

theorem todo_cons (k : ℕ) (h : k < w.N) : w.todo k = iprop(w.piece k ∗ w.todo (k + 1)) := by
  unfold todo
  rw [← Finset.insert_Ico_add_one_left_eq_Ico h, bigSep_insert (by simp)]; rfl

theorem todo_nil (k : ℕ) (h : w.N ≤ k) : w.todo k = BI.emp := by
  unfold todo
  rw [Finset.Ico_eq_empty (by omega), bigSep_empty]

/-- Before trip `k`. -/
def W0 (k : ℕ) : sProp (𝕄 F) :=
  if k < w.N then iprop(w.inFl k ∗ w.free (sl (k + 1)) ∗ w.done k ∗ w.todo (k + 1))
  else iprop((w.landed (sl (w.N - 1)) (w.blk (w.N - 1)) ∗ w.rest (sl (w.N - 1))) ∗ w.free (sl w.N) ∗ w.done w.N)

/-- After trip `k`'s issue of block `k + 1`. -/
def W1 (k : ℕ) : sProp (𝕄 F) :=
  if k + 1 < w.N then iprop(w.inFl k ∗ w.inFl (k + 1) ∗ w.done k ∗ w.todo (k + 2)) else w.W0 k

/-- After trip `k`'s wait for block `k`, apart from that slot's contents. -/
def W2r (k : ℕ) : sProp (𝕄 F) :=
  iprop(w.rest (sl (min k (w.N - 1))) ∗ if k + 1 < w.N then iprop(w.inFl (k + 1) ∗ w.done (k + 1) ∗ w.todo (k + 2))
    else iprop(w.free (sl w.N) ∗ w.done w.N))

/-- The slot read in trip `k`. -/
def W2l (k : ℕ) : sProp (𝕄 F) := w.landed (sl (min k (w.N - 1))) (w.blk (min k (w.N - 1)))

theorem W2_W0 (k : ℕ) : iprop(w.W2l k ∗ w.W2r k) ⊢ w.W0 (k + 1) := by
  unfold W2l W2r W0
  split
  · rename_i h
    rw [Nat.min_eq_left (by omega), sl_succ_succ]
    iintro ⟨Hl, Hr, Hf, Hd, Ht⟩
    isplitl [Hf]; · iexact Hf
    isplitl [Hl Hr]
    · iapply (w.landed_free (sl k)) $$ [Hl Hr]
      isplitl [Hl] <;> iassumption
    isplitl [Hd] <;> iassumption
  · rename_i h
    rw [Nat.min_eq_right (by omega)]
    iintro ⟨Hl, Hr, Hf, Hd⟩
    isplitl [Hl Hr]
    · isplitl [Hl] <;> iassumption
    isplitl [Hf] <;> iassumption

/-- Enter the loop. -/
theorem W0_zero : iprop(w.inFl 0 ∗ w.free 1 ∗ w.todo 1) ⊢ w.W0 0 := by
  unfold W0 done
  rw [if_pos w.hN, Finset.range_zero, bigSep_empty]
  iintro ⟨Hf, H1, Ht⟩
  isplitl [Hf]; · iexact Hf
  isplitl [H1]; · iexact H1
  isplitr
  · iempintro
  · iexact Ht

/-- Leave the loop. -/
theorem W0_end (k : ℕ) (hk : w.N ≤ k) : w.W0 k ⊢ iprop(w.free 0 ∗ w.free 1 ∗ w.done w.N) := by
  unfold W0
  rw [if_neg (by omega)]
  iintro ⟨⟨Hl, Hr⟩, Hf, Hd⟩
  ihave Hfr := (w.landed_free (sl (w.N - 1)) (w.blk (w.N - 1))) $$ [Hl Hr]
  · isplitl [Hl] <;> iassumption
  have hN := w.hN
  rcases Nat.mod_two_eq_zero_or_one w.N with h | h
  · have e1 : sl w.N = 0 := by unfold sl; ext; simpa using h
    have e2 : sl (w.N - 1) = 1 := by unfold sl; ext; simp; omega
    rw [e1, e2]
    isplitl [Hf]; · iexact Hf
    isplitl [Hfr] <;> iassumption
  · have e1 : sl w.N = 1 := by unfold sl; ext; simpa using h
    have e2 : sl (w.N - 1) = 0 := by unfold sl; ext; simp; omega
    rw [e1, e2]
    isplitl [Hfr]; · iexact Hfr
    isplitl [Hf] <;> iassumption

variable (bd : Option 𝒱₀.V) {α : Type} {Q : α → sProp (𝕄 F)}

/-- The copy of a block into its free slot. -/
theorem wp_start (k : ℕ) {hsrc hdst hsem} {J : PUnit → Prog (TpuEff nD τ sig (Elt F) Λ₀ .tc) α} :
    iprop(w.free (sl k) ∗ w.piece k)
      ⊢ iprop((w.inFl k -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (.op (.enqueueDma (w.src k) (.here (w.dst (sl k))) (.dma (w.sem (sl k))) hsrc hdst hsem) J) Q) := by
  unfold free piece rest
  iintro ⟨⟨⟨%f, Hf⟩, Hv⟩, Hp⟩ HJ
  iapply (Transfers.wp_dmaLocal EC 𝒱₀ (d.tc : Thread nD τ) bd none ((w.dst (sl k)).view.dmaCredit) rfl
      (View.dmaCredit_pos _ w.hs) (Finset.Subset.refl _)) $$ [Hf Hv Hp]
  · isplitl [Hp]; · iexact Hp
    isplitl [Hf]; · iexact Hf
    iexact Hv
  iintro HF
  iapply HJ
  unfold inFl
  iapply (Transfers.Flight_mono EC (d.tc : Thread nD τ)) $$ HF
  unfold landed piece
  iintro ⟨Hd, Hs⟩
  isplitl [Hd]
  · iexists _
    isplitl [Hd]; · iexact Hd
    ipureintro
    rw [View.read_write_univ]
    rfl
  · iexact Hs

/-- The wait for a block. -/
theorem wp_await (k : ℕ) {O : CellTallies nD τ sig (HIx 1)} {B : Set (SemLoc sig × HIx 1)} (hB : ∀ sm, (sm, none) ∈ B)
    {sp : Space} {s' : Shape} {srcw : Memref sig .tc sp s' .f32}
    {hsrc hdst} {J : PUnit → Prog (TpuEff nD τ sig (Elt F) Λ₀ .tc) α} :
    iprop(w.inFl k ∗ Owe F d O B ∗ Transfers.MayWaits (d.tc : Thread nD τ) none O)
      ⊢ iprop((iprop(w.landed (sl k) (w.blk k) ∗ w.piece k ∗ w.rest (sl k) ∗ Owe F d O B) -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (.op (.waitDma2 (w.sem (sl k)) srcw (w.dst (sl k)) hsrc hdst) J) Q) := by
  unfold inFl rest
  iintro ⟨HF, ⟨%W, %hW, HO⟩, #HM⟩ HJ
  iapply (Transfers.wp_waitLocalO EC 𝒱₀ (d.tc : Thread nD τ) bd none rfl) $$ [HF HO]
  · isplitl [HF]; · iexact HF
    isplitl [HO]; · iexact HO
    iapply (Transfers.MayWaits.elim (.dma (w.sem (sl k)))) $$ HM
  iintro ⟨⟨Hl, Hp⟩, Hv, HO⟩
  iapply HJ
  isplitl [Hl]; · iexact Hl
  isplitl [Hp]; · iexact Hp
  isplitl [Hv]; · iexact Hv
  iapply (Owe_insert d hB hW) $$ HO

/-- Trip `k`'s issue, as printed: under a condition that says there is a next block. -/
theorem wp_issue (k : ℕ) {P : Prop} [Decidable P] (hP : P ↔ k + 1 < w.N)
    {srcP : P → Memref sig .tc .hbm s .f32} {dstP : P → Memref sig .tc .vmem s .f32} {semP : P → DmaSem sig}
    (hsrcE : ∀ h, srcP h = w.src (k + 1)) (hdstE : ∀ h, dstP h = w.dst (sl (k + 1))) (hsemE : ∀ h, semP h = w.sem (sl (k + 1)))
    {h1 : ∀ h, (srcP h).view.WordExact} {h2 : ∀ h, (dstP h).view.WordExact} {h3 : ∀ h, DmaTarget.Typed (nD := nD) .hbm (.dma (semP h)) (DmaTarget.here (τ := τ) (p := (d.tc : Thread nD τ).2) (dstP h))}
    {J J' : Prog (TpuEff nD τ sig (Elt F) Λ₀ .tc) α} (hJ : J' = J) :
    w.W0 k ⊢ iprop((w.W1 k -∗ wp frame (wpE (defs₀ (F := F)) 𝒱₀ (d.tc : Thread nD τ) bd) Set.univ J Q)
        -∗ wp frame (wpE (defs₀ (F := F)) 𝒱₀ (d.tc : Thread nD τ) bd) Set.univ
          (if h : P then Prog.lift (.enqueueDma (srcP h) (.here (dstP h)) (.dma (semP h)) (h1 h) (h2 h) (h3 h)) >>= fun _ => J' else J) Q) := by
  subst hJ
  by_cases h : P
  · rw [dif_pos h]
    have hk := hP.mp h
    obtain rfl : srcP = fun _ => w.src (k + 1) := funext hsrcE
    obtain rfl : dstP = fun _ => w.dst (sl (k + 1)) := funext hdstE
    obtain rfl : semP = fun _ => w.sem (sl (k + 1)) := funext hsemE
    unfold W1 W0
    rw [if_pos hk, if_pos (by omega), w.todo_cons (k + 1) hk]
    iintro ⟨Hi, Hf, Hd, Hp, Ht⟩ HJ
    iapply (w.wp_start bd (k + 1)) $$ [Hf Hp]
    · isplitl [Hf] <;> iassumption
    iintro Hi'
    iapply HJ
    isplitl [Hi]; · iexact Hi
    isplitl [Hi']; · iexact Hi'
    isplitl [Hd] <;> iassumption
  · rw [dif_neg h]
    have hk := fun h' => h (hP.mpr h')
    unfold W1
    rw [if_neg hk]
    iintro H HJ
    iapply HJ $$ H

/-- Trip `k`'s wait, as printed. -/
theorem wp_wait (k : ℕ) {O : CellTallies nD τ sig (HIx 1)} {B : Set (SemLoc sig × HIx 1)} (hB : ∀ sm, (sm, none) ∈ B)
    {P : Prop} [Decidable P] (hP : P ↔ k < w.N)
    {srcP : P → Memref sig .tc .hbm s .f32} {dstP : P → Memref sig .tc .vmem s .f32} {semP : P → DmaSem sig}
    (hdstE : ∀ h, dstP h = w.dst (sl k)) (hsemE : ∀ h, semP h = w.sem (sl k))
    {h1 : ∀ h, (srcP h).view.WordExact} {h2 : ∀ h, (dstP h).view.WordExact}
    {J J' : Prog (TpuEff nD τ sig (Elt F) Λ₀ .tc) α} (hJ : J' = J) :
    iprop(w.W1 k ∗ Owe F d O B ∗ Transfers.MayWaits (d.tc : Thread nD τ) none O)
      ⊢ iprop((iprop((w.W2l k ∗ w.W2r k) ∗ Owe F d O B) -∗ wp frame (wpE (defs₀ (F := F)) 𝒱₀ (d.tc : Thread nD τ) bd) Set.univ J Q)
        -∗ wp frame (wpE (defs₀ (F := F)) 𝒱₀ (d.tc : Thread nD τ) bd) Set.univ
          (if h : P then Prog.lift (.waitDma2 (semP h) (srcP h) (dstP h) (h1 h) (h2 h)) >>= fun _ => J' else J) Q) := by
  subst hJ
  by_cases h : P
  · rw [dif_pos h]
    have hk := hP.mp h
    obtain rfl : dstP = fun _ => w.dst (sl k) := funext hdstE
    obtain rfl : semP = fun _ => w.sem (sl k) := funext hsemE
    unfold W2l W2r W1 W0
    rw [Nat.min_eq_left (by omega), w.done_succ k]
    by_cases hk' : k + 1 < w.N
    · rw [if_pos hk', if_pos hk']
      iintro ⟨⟨Hi, Hi', Hd, Ht⟩, HO, HM⟩ HJ
      iapply (w.wp_await bd k hB) $$ [Hi HO HM]
      · isplitl [Hi]; · iexact Hi
        isplitl [HO] <;> iassumption
      iintro ⟨Hl, Hp, Hr, HO⟩
      iapply HJ
      isplitr [HO]
      · isplitl [Hl]; · iexact Hl
        isplitl [Hr]; · iexact Hr
        isplitl [Hi']; · iexact Hi'
        isplitr [Ht]
        · isplitl [Hp] <;> iassumption
        · iexact Ht
      · iexact HO
    · rw [if_neg hk', if_neg hk', if_pos hk]
      obtain hkN : w.N = k + 1 := by omega
      iintro ⟨⟨Hi, Hf, Hd, -⟩, HO, HM⟩ HJ
      iapply (w.wp_await bd k hB) $$ [Hi HO HM]
      · isplitl [Hi]; · iexact Hi
        isplitl [HO] <;> iassumption
      iintro ⟨Hl, Hp, Hr, HO⟩
      iapply HJ
      isplitr [HO]
      · isplitl [Hl]; · iexact Hl
        isplitl [Hr]; · iexact Hr
        rw [hkN, w.done_succ k]
        isplitl [Hf]; · iexact Hf
        isplitl [Hp] <;> iassumption
      · iexact HO
  · rw [dif_neg h]
    have hk : ¬ k < w.N := fun h' => h (hP.mpr h')
    unfold W2l W2r W1 W0
    rw [if_neg (by omega : ¬ k + 1 < w.N), if_neg hk, Nat.min_eq_right (by omega)]
    iintro ⟨⟨⟨Hl, Hr⟩, Hf, Hd⟩, HO, -⟩ HJ
    iapply HJ
    isplitr [HO]
    · isplitl [Hl]; · iexact Hl
      isplitl [Hr]; · iexact Hr
      rw [if_neg (by omega : ¬ k + 1 < w.N)]
      isplitl [Hf] <;> iassumption
    · iexact HO

/-- The slot's contents as a load through the two-slot buffer delivers them. -/
abbrev asSlot {r s : Shape} (h : r.Squeezes s) (x : s.Idx → Elt F .f32) : r.Idx → Elt F .f32 :=
  fun i => x ((Shape.reshapeEquiv h.numel_eq).symm i)

/-- A load of the slot trip `k` reads. -/
theorem wp_read (k : ℕ) {S : Shape} {al : Memref sig .tc .vmem S .f32} {r : Rect S} {hr : ∀ a, r.stride a = 1} {hsq : r.shape.Squeezes s}
    (hdst : w.dst (sl (min k (w.N - 1))) = (al.slice r hr).squeeze s hsq) {hl : al.view.LoadsAt r.toLoadRect}
    {J : (r.shape.Idx → Elt F .f32) → Prog (TpuEff nD τ sig (Elt F) Λ₀ .tc) α} :
    w.W2l k ⊢ iprop((w.W2l k -∗ wp frame (wpE (defs₀ (F := F)) 𝒱₀ (d.tc : Thread nD τ) bd) Set.univ
            (J (asSlot hsq (w.blk (min k (w.N - 1))))) Q)
        -∗ wp frame (wpE (defs₀ (F := F)) 𝒱₀ (d.tc : Thread nD τ) bd) Set.univ
          (Prog.lift (.load al r.toLoadRect hl) >>= J) Q) := by
  unfold W2l landed
  rw [hdst]
  iintro ⟨%f, Hf, %hf⟩ HJ
  have hS : (al.access r).set ⊆ ((al.slice r hr).squeeze s hsq).view.set :=
    (View.set_reshape (al.access r) hsq.numel_eq).ge
  iapply (wp_load_rect 𝒱₀ (d.tc : Thread nD τ) bd Set.univ (m := al) (r := r) (hl := hl) (k := J) hS) $$ Hf
  iintro Hf
  have e : (al.access r).read (Elt F) f = asSlot hsq (w.blk (min k (w.N - 1))) := by
    rw [← hf]
    funext i
    unfold asSlot
    have key : ∀ j, ((al.slice r hr).squeeze s hsq).view.read (Elt F) f j
        = (al.access r).read (Elt F) f (Shape.reshapeEquiv hsq.numel_eq j) := fun _ => rfl
    rw [key, Equiv.apply_symm_apply]
  rw [e]
  iapply HJ
  iexists f
  isplitl [Hf]; · iexact Hf
  ipureintro; exact hf

end Win

/-- A double-buffered output ring: two slots, a semaphore each, the `N` blocks written out in order and their values. -/
structure Out (F : FTy → Type) (d : Dev nD) (s : Shape) where
  N : ℕ
  hs : 0 < s.numel
  buf : Fin 2 → Memref sig .tc .vmem s .f32
  sem : Fin 2 → DmaSem sig
  dst : ℕ → Memref sig .tc .hbm s .f32
  z : ℕ → s.Idx → Elt F .f32

namespace Out

variable {d} {s : Shape} (o : Out F d s)

/-- A slot at any contents; at contents `x`. -/
def slot (j : Fin 2) : sProp (𝕄 F) :=
  iprop(∃ f : Buf (Elt F) ((o.buf j).view.loc (d.tc : Thread nD τ)),
    ((o.buf j).view.loc (d.tc : Thread nD τ) ↦[(o.buf j).view.set]{fullShare} f))
def slotAt (j : Fin 2) (x : s.Idx → Elt F .f32) : sProp (𝕄 F) :=
  iprop(∃ f : Buf (Elt F) ((o.buf j).view.loc (d.tc : Thread nD τ)),
    ((o.buf j).view.loc (d.tc : Thread nD τ) ↦[(o.buf j).view.set]{fullShare} f) ∗ ⌜(o.buf j).view.read (Elt F) f = x⌝)
def rest (j : Fin 2) : sProp (𝕄 F) := semVal ((d.tc : Thread nD τ), .dma (o.sem j)) 0
def free (j : Fin 2) : sProp (𝕄 F) := iprop(o.slot j ∗ o.rest j)

/-- A block of the result at any contents; at its value. -/
def blank (k : ℕ) : sProp (𝕄 F) :=
  iprop(∃ f : Buf (Elt F) ((o.dst k).view.loc (d.tc : Thread nD τ)),
    ((o.dst k).view.loc (d.tc : Thread nD τ) ↦[(o.dst k).view.set]{fullShare} f))
def written (k : ℕ) : sProp (𝕄 F) :=
  iprop(∃ f : Buf (Elt F) ((o.dst k).view.loc (d.tc : Thread nD τ)),
    ((o.dst k).view.loc (d.tc : Thread nD τ) ↦[(o.dst k).view.set]{fullShare} f) ∗ ⌜(o.dst k).view.read (Elt F) f = o.z k⌝)

/-- The `k`-th block's copy in flight. -/
def inFl (k : ℕ) : sProp (𝕄 F) :=
  Transfers.Flight EC (d.tc : Thread nD τ) (.dma (o.sem (sl k))) none ((o.dst k).view.dmaCredit)
    iprop(o.written k ∗ o.slot (sl k))

def done (k : ℕ) : sProp (𝕄 F) := bigSep (Finset.range k) fun i => o.written i
def todo (k : ℕ) : sProp (𝕄 F) := bigSep (Finset.Ico k o.N) fun i => o.blank i

theorem done_succ (k : ℕ) : o.done (k + 1) = iprop(o.written k ∗ o.done k) := by
  unfold done
  rw [Finset.range_add_one, bigSep_insert (by simp)]; rfl

theorem todo_cons (k : ℕ) (h : k < o.N) : o.todo k = iprop(o.blank k ∗ o.todo (k + 1)) := by
  unfold todo
  rw [← Finset.insert_Ico_add_one_left_eq_Ico h, bigSep_insert (by simp)]; rfl

theorem done_zero : o.done 0 = BI.emp := by
  unfold done
  rw [Finset.range_zero, bigSep_empty]

/-- The copy of the block before `k`, or the other slot free if there is none. -/
def prev (k : ℕ) : sProp (𝕄 F) :=
  if k = 0 then iprop(o.free 1 ∗ o.done 0) else iprop(o.inFl (k - 1) ∗ o.done (k - 1))

/-- Before trip `k`, apart from the slot it writes. -/
def O0r (k : ℕ) : sProp (𝕄 F) := iprop(o.rest (sl k) ∗ o.prev k ∗ o.todo k)

/-- Before trip `k`. -/
def O0 (k : ℕ) : sProp (𝕄 F) := iprop(o.slot (sl k) ∗ o.O0r k)

/-- After trip `k`'s issue. -/
def O1 (k : ℕ) : sProp (𝕄 F) := iprop(o.inFl k ∗ o.prev k ∗ o.todo (k + 1))

variable (bd : Option 𝒱₀.V) {α : Type} {Q : α → sProp (𝕄 F)}

/-- The load of a slot whose contents nothing reads. -/
theorem wp_peek (j : Fin 2) {S : Shape} {al : Memref sig .tc .vmem S .f32} {r : Rect S} {hr : ∀ a, r.stride a = 1} {hsq : r.shape.Squeezes s}
    (hbuf : o.buf j = (al.slice r hr).squeeze s hsq) {hl : al.view.LoadsAt r.toLoadRect}
    {J : (r.shape.Idx → Elt F .f32) → Prog (TpuEff nD τ sig (Elt F) Λ₀ .tc) α} {J' : Prog (TpuEff nD τ sig (Elt F) Λ₀ .tc) α} (hJ : ∀ x, J x = J') :
    o.slot j ⊢ iprop((o.slot j -∗ wp frame (wpE (defs₀ (F := F)) 𝒱₀ (d.tc : Thread nD τ) bd) Set.univ J' Q)
        -∗ wp frame (wpE (defs₀ (F := F)) 𝒱₀ (d.tc : Thread nD τ) bd) Set.univ
          (Prog.lift (.load al r.toLoadRect hl) >>= J) Q) := by
  unfold slot
  rw [hbuf]
  iintro ⟨%f, Hf⟩ HJ
  have hS : (al.access r).set ⊆ ((al.slice r hr).squeeze s hsq).view.set :=
    (View.set_reshape (al.access r) hsq.numel_eq).ge
  iapply (wp_load_rect 𝒱₀ (d.tc : Thread nD τ) bd Set.univ (m := al) (r := r) (hl := hl) (k := J) hS) $$ Hf
  iintro Hf
  rw [hJ]
  iapply HJ
  iexists f
  iexact Hf

/-- The store of a block into its slot. -/
theorem wp_fill (j : Fin 2) {S : Shape} {al : Memref sig .tc .vmem S .f32} {r : Rect S} {hr : ∀ a, r.stride a = 1} {hsq : r.shape.Squeezes s}
    (hbuf : o.buf j = (al.slice r hr).squeeze s hsq) {x : r.shape.Idx → Elt F .f32} {hx hm}
    {J : PUnit → Prog (TpuEff nD τ sig (Elt F) Λ₀ .tc) α} :
    o.slot j ⊢ iprop((o.slotAt j (fun i => x (Shape.reshapeEquiv hsq.numel_eq i)) -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (Prog.lift (.store al r x Finset.univ hx hm) >>= J) Q) := by
  unfold slot slotAt
  rw [hbuf]
  iintro ⟨%f, Hf⟩ HJ
  have hS : (al.access r).setOn Finset.univ ⊆ ((al.slice r hr).squeeze s hsq).view.set :=
    (View.set_reshape (al.access r) hsq.numel_eq).ge
  iapply (wp_store 𝒱₀ (d.tc : Thread nD τ) bd Set.univ (m := al) (r := r) (w := x) (hx := hx) (hm := hm) (k := J) hS) $$ Hf
  iintro Hf
  iapply HJ
  iexists _
  isplitl [Hf]; · iexact Hf
  ipureintro
  funext i
  exact congrFun ((al.access r).read_write_univ (Val := Elt F) f x) (Shape.reshapeEquiv hsq.numel_eq i)

/-- Trip `k`'s issue, as printed: under a condition that holds. -/
theorem wp_issue (k : ℕ) (hk : k < o.N) {P : Prop} [Decidable P] (hP : P)
    {srcP : P → Memref sig .tc .vmem s .f32} {dstP : P → Memref sig .tc .hbm s .f32} {semP : P → DmaSem sig}
    (hsrcE : ∀ h, srcP h = o.buf (sl k)) (hdstE : ∀ h, dstP h = o.dst k) (hsemE : ∀ h, semP h = o.sem (sl k))
    {h1 : ∀ h, (srcP h).view.WordExact} {h2 : ∀ h, (dstP h).view.WordExact} {h3 : ∀ h, DmaTarget.Typed (nD := nD) .vmem (.dma (semP h)) (DmaTarget.here (τ := τ) (p := (d.tc : Thread nD τ).2) (dstP h))}
    {J J' : Prog (TpuEff nD τ sig (Elt F) Λ₀ .tc) α} :
    iprop(o.slotAt (sl k) (o.z k) ∗ o.O0r k)
      ⊢ iprop((o.O1 k -∗ wp frame (wpE (defs₀ (F := F)) 𝒱₀ (d.tc : Thread nD τ) bd) Set.univ J Q)
        -∗ wp frame (wpE (defs₀ (F := F)) 𝒱₀ (d.tc : Thread nD τ) bd) Set.univ
          (if h : P then Prog.lift (.enqueueDma (srcP h) (.here (dstP h)) (.dma (semP h)) (h1 h) (h2 h) (h3 h)) >>= fun _ => J else J') Q) := by
  rw [dif_pos hP]
  obtain rfl : srcP = fun _ => o.buf (sl k) := funext hsrcE
  obtain rfl : dstP = fun _ => o.dst k := funext hdstE
  obtain rfl : semP = fun _ => o.sem (sl k) := funext hsemE
  unfold O0r O1
  rw [o.todo_cons k hk]
  unfold slotAt blank rest
  iintro ⟨⟨%f, Hf, %hf⟩, Hv, Hp, ⟨%g, Hg⟩, Ht⟩ HJ
  iapply (Transfers.wp_dmaLocal EC 𝒱₀ (d.tc : Thread nD τ) bd none ((o.dst k).view.dmaCredit) rfl
      (View.dmaCredit_pos _ o.hs) (Finset.Subset.refl _)) $$ [Hf Hv Hg]
  · isplitl [Hf]; · iexact Hf
    isplitl [Hg]; · iexact Hg
    iexact Hv
  iintro HF
  iapply HJ
  isplitl [HF]
  · unfold inFl
    iapply (Transfers.Flight_mono EC (d.tc : Thread nD τ)) $$ HF
    unfold written slot
    iintro ⟨Hd, Hs⟩
    isplitl [Hd]
    · iexists _
      isplitl [Hd]; · iexact Hd
      ipureintro
      rw [View.read_write_univ]
      exact hf
    · iexists f; iexact Hs
  isplitl [Hp] <;> iassumption

/-- A wait for a block. -/
theorem wp_await (k : ℕ) {O : CellTallies nD τ sig (HIx 1)} {B : Set (SemLoc sig × HIx 1)} (hB : ∀ sm, (sm, none) ∈ B)
    {sp : Space} {s' : Shape} {srcw : Memref sig .tc sp s' .f32}
    {hsrc hdst} {J : PUnit → Prog (TpuEff nD τ sig (Elt F) Λ₀ .tc) α} :
    iprop(o.inFl k ∗ Owe F d O B ∗ Transfers.MayWaits (d.tc : Thread nD τ) none O)
      ⊢ iprop((iprop(o.written k ∗ o.free (sl k) ∗ Owe F d O B) -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (Prog.lift (.waitDma2 (o.sem (sl k)) srcw (o.dst k) hsrc hdst) >>= J) Q) := by
  unfold inFl free rest
  iintro ⟨HF, ⟨%W, %hW, HO⟩, #HM⟩ HJ
  iapply (Transfers.wp_waitLocalO EC 𝒱₀ (d.tc : Thread nD τ) bd (k := J) none rfl) $$ [HF HO]
  · isplitl [HF]; · iexact HF
    isplitl [HO]; · iexact HO
    iapply (Transfers.MayWaits.elim (.dma (o.sem (sl k)))) $$ HM
  iintro ⟨⟨Hl, Hp⟩, Hv, HO⟩
  iapply HJ
  isplitl [Hl]; · iexact Hl
  isplitr [HO]
  · isplitl [Hp]; · iexact Hp
    iexact Hv
  iapply (Owe_insert d hB hW) $$ HO

/-- Trip `k`'s wait for the block before, as printed. -/
theorem wp_wait (k : ℕ) {O : CellTallies nD τ sig (HIx 1)} {B : Set (SemLoc sig × HIx 1)} (hB : ∀ sm, (sm, none) ∈ B)
    {P : Prop} [Decidable P] (hP : P ↔ 0 < k)
    {srcP : P → Memref sig .tc .vmem s .f32} {dstP : P → Memref sig .tc .hbm s .f32} {semP : P → DmaSem sig}
    (hdstE : ∀ h, dstP h = o.dst (k - 1)) (hsemE : ∀ h, semP h = o.sem (sl (k - 1)))
    {h1 : ∀ h, (srcP h).view.WordExact} {h2 : ∀ h, (dstP h).view.WordExact}
    {J J' : Prog (TpuEff nD τ sig (Elt F) Λ₀ .tc) α} (hJ : J' = J) :
    iprop(o.O1 k ∗ Owe F d O B ∗ Transfers.MayWaits (d.tc : Thread nD τ) none O)
      ⊢ iprop((iprop(o.O0 (k + 1) ∗ Owe F d O B) -∗ wp frame (wpE (defs₀ (F := F)) 𝒱₀ (d.tc : Thread nD τ) bd) Set.univ J Q)
        -∗ wp frame (wpE (defs₀ (F := F)) 𝒱₀ (d.tc : Thread nD τ) bd) Set.univ
          (if h : P then Prog.lift (.waitDma2 (semP h) (srcP h) (dstP h) (h1 h) (h2 h)) >>= fun _ => J' else J) Q) := by
  subst hJ
  by_cases h : P
  · rw [dif_pos h]
    obtain ⟨k, rfl⟩ : ∃ m, k = m + 1 := ⟨k - 1, by have := hP.mp h; omega⟩
    obtain rfl : dstP = fun _ => o.dst k := funext hdstE
    obtain rfl : semP = fun _ => o.sem (sl k) := funext hsemE
    unfold O0 O0r O1 prev
    rw [if_neg (by omega), if_neg (by omega), sl_succ_succ, Nat.add_sub_cancel, Nat.add_sub_cancel, o.done_succ k]
    iintro ⟨⟨Hi, ⟨Hp, Hd⟩, Ht⟩, HO, HM⟩ HJ
    iapply (o.wp_await bd k hB) $$ [Hp HO HM]
    · isplitl [Hp]; · iexact Hp
      isplitl [HO] <;> iassumption
    iintro ⟨Hw, Hf, HO⟩
    unfold free
    icases Hf with ⟨Hs, Hr⟩
    iapply HJ
    isplitr [HO]
    · isplitl [Hs]; · iexact Hs
      isplitl [Hr]; · iexact Hr
      isplitr [Ht]
      · isplitl [Hi]; · iexact Hi
        isplitl [Hw] <;> iassumption
      · iexact Ht
    · iexact HO
  · rw [dif_neg h]
    obtain rfl : k = 0 := by by_contra hk; exact h (hP.mpr (Nat.pos_of_ne_zero hk))
    unfold O0 O0r O1 prev free
    rw [if_pos rfl, if_neg (by omega)]
    iintro ⟨⟨Hi, ⟨⟨Hs, Hr⟩, Hd⟩, Ht⟩, HO, HM⟩ HJ
    iapply HJ
    isplitr [HO]
    · isplitl [Hs]; · iexact Hs
      isplitl [Hr]; · iexact Hr
      isplitr [Ht]
      · isplitl [Hi]; · iexact Hi
        iexact Hd
      · iexact Ht
    · iexact HO

end Out

end Cert.Proof

end
-- ==== Proof.ScanDefs.lean ====
/-
  The scan: its references, the values its loop carries, its slots.
-/
module

public import proofs.«01_k».proof.Proof.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers of the scan -/

/-- The references the scan runs over. -/
structure Bufs where
  arg1 : Memref sig .tc .hbm S32x1007616 .f32
  harg1 : arg1.IsWhole
  arg2 : Memref sig .tc .hbm S32x1007616 .f32
  harg2 : arg2.IsWhole
  arg3 : Memref sig .tc .hbm S256x128 .f32
  harg3 : arg3.IsWhole
  arg4 : Memref sig .tc .hbm S1x128 .f32
  harg4 : arg4.IsWhole
  arg5 : Memref sig .tc .hbm S256x128 .f32
  harg5 : arg5.IsWhole
  arg6 : Memref sig .tc .hbm S1x128 .f32
  harg6 : arg6.IsWhole
  arg7 : Memref sig .tc .hbm S16x8192 .f32
  harg7 : arg7.IsWhole
  arg8 : Memref sig .tc .hbm S131072x128 .f32
  harg8 : arg8.IsWhole
  arg9 : Memref sig .tc .hbm S131072x128 .f32
  harg9 : arg9.IsWhole
  alloca : Memref sig .tc .vmem S2x32x8192 .f32
  halloca : alloca.IsWhole
  v0 : DmaSems sig S2
  alloca_0 : Memref sig .tc .vmem S2x32x8192 .f32
  halloca_0 : alloca_0.IsWhole
  v1 : DmaSems sig S2
  alloca_1 : Memref sig .tc .vmem S2x32x8192 .f32
  halloca_1 : alloca_1.IsWhole
  v2 : DmaSems sig S2
  alloca_2 : Memref sig .tc .vmem S2x32x8192 .f32
  halloca_2 : alloca_2.IsWhole
  v3 : DmaSems sig S2
  alloca_3 : Memref sig .tc .vmem S2x32x8192 .f32
  halloca_3 : alloca_3.IsWhole
  v4 : DmaSems sig S2
  alloca_4 : Memref sig .tc .vmem S2x32x8192 .f32
  halloca_4 : alloca_4.IsWhole
  v5 : DmaSems sig S2
  alloca_5 : Memref sig .tc .vmem S2x32x8192 .f32
  halloca_5 : alloca_5.IsWhole
  v6 : DmaSems sig S2
  alloca_6 : Memref sig .tc .vmem S2x32x8192 .f32
  halloca_6 : alloca_6.IsWhole
  v7 : DmaSems sig S2
  alloca_7 : Memref sig .tc .vmem S2x32x8192 .f32
  halloca_7 : alloca_7.IsWhole
  v8 : DmaSems sig S2
  alloca_8 : Memref sig .tc .vmem S2x32x8192 .f32
  halloca_8 : alloca_8.IsWhole
  v9 : DmaSems sig S2
  alloca_9 : Memref sig .tc .vmem S2x32x8192 .f32
  halloca_9 : alloca_9.IsWhole
  v10 : DmaSems sig S2
  alloca_10 : Memref sig .tc .vmem S2x32x8192 .f32
  halloca_10 : alloca_10.IsWhole
  v11 : DmaSems sig S2
  alloca_11 : Memref sig .tc .vmem S2x32x8192 .f32
  halloca_11 : alloca_11.IsWhole
  v12 : DmaSems sig S2
  alloca_12 : Memref sig .tc .vmem S2x32x8192 .f32
  halloca_12 : alloca_12.IsWhole
  v13 : DmaSems sig S2
  alloca_13 : Memref sig .tc .vmem S2x32x8192 .f32
  halloca_13 : alloca_13.IsWhole
  v14 : DmaSems sig S2
  alloca_14 : Memref sig .tc .vmem S2x32x8192 .f32
  halloca_14 : alloca_14.IsWhole
  v15 : DmaSems sig S2
  alloca_15 : Memref sig .tc .vmem S256x128 .f32
  halloca_15 : alloca_15.IsWhole
  alloca_16 : Memref sig .tc .vmem S1x128 .f32
  halloca_16 : alloca_16.IsWhole
  alloca_17 : Memref sig .tc .vmem S256x128 .f32
  halloca_17 : alloca_17.IsWhole
  alloca_18 : Memref sig .tc .vmem S1x128 .f32
  halloca_18 : alloca_18.IsWhole
  alloca_19 : Memref sig .tc .vmem S2x1x8192 .f32
  halloca_19 : alloca_19.IsWhole
  v16 : DmaSems sig S2
  alloca_20 : Memref sig .tc .vmem S2x8192x128 .f32
  halloca_20 : alloca_20.IsWhole
  v17 : DmaSems sig S2
  alloca_21 : Memref sig .tc .vmem S2x8192x128 .f32
  halloca_21 : alloca_21.IsWhole
  v18 : DmaSems sig S2
  v219_r1 : DmaSems sig S_
  v219_r2 : DmaSems sig S_
  v219_r3 : DmaSems sig S_
  v219_r4 : DmaSems sig S_

/-- Contents of the arrays and weights the scan reads. -/
structure Ctn (F : FTy → Type) (d : Dev nD) (B : Bufs) where

  f1 : Buf (Elt F) (B.arg1.view.loc (d.tc : Thread nD τ))
  f2 : Buf (Elt F) (B.arg2.view.loc (d.tc : Thread nD τ))
  f3 : Buf (Elt F) (B.arg3.view.loc (d.tc : Thread nD τ))
  f4 : Buf (Elt F) (B.arg4.view.loc (d.tc : Thread nD τ))
  f5 : Buf (Elt F) (B.arg5.view.loc (d.tc : Thread nD τ))
  f6 : Buf (Elt F) (B.arg6.view.loc (d.tc : Thread nD τ))
  f7 : Buf (Elt F) (B.arg7.view.loc (d.tc : Thread nD τ))

/-! ## The values the loop carries -/

def iss (N k : ℕ) : BitVec 32 := BitVec.ofNat 32 (min (k + 1) N)
def con (N k : ℕ) : BitVec 32 := BitVec.ofNat 32 (if k = 16 then N else min k (N - 1))
def fin1 (k : ℕ) : BitVec 32 := BitVec.ofNat 32 (if k = 16 then 1 else 0)
def iv32 (k : ℕ) : BitVec 32 := BitVec.ofNat 32 k
def prv (k : ℕ) : BitVec 32 := BitVec.ofNat 32 (k - 1)
def cyc (k : ℕ) : BitVec 32 := BitVec.ofNat 32 (k % 16)

/-! ## The checks of a trip -/

theorem chk1_ok : ∀ t : Fin k0_t1_loop.trips, k0_chk1 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) := by decide +kernel
theorem chk2_ok : ∀ t : Fin k0_t1_loop.trips, k0_chk2 (con 16 t.val) := by decide +kernel
theorem chk3_ok : ∀ t : Fin k0_t1_loop.trips, k0_chk3 (con 16 t.val) := by decide +kernel
theorem chk4_ok : ∀ t : Fin k0_t1_loop.trips, k0_chk4 (con 16 t.val) := by decide +kernel
theorem chk5_ok : ∀ t : Fin k0_t1_loop.trips, k0_chk5 (con 16 t.val) := by decide +kernel
theorem chk6_ok : ∀ t : Fin k0_t1_loop.trips, k0_chk6 (con 16 t.val) := by decide +kernel
theorem chk7_ok : ∀ t : Fin k0_t1_loop.trips, k0_chk7 (con 16 t.val) := by decide +kernel
theorem chk8_ok : ∀ t : Fin k0_t1_loop.trips, k0_chk8 (con 16 t.val) := by decide +kernel
theorem chk9_ok : ∀ t : Fin k0_t1_loop.trips, k0_chk9 (con 16 t.val) := by decide +kernel
theorem chk10_ok : ∀ t : Fin k0_t1_loop.trips, k0_chk10 (con 11 t.val) := by decide +kernel
theorem chk11_ok : ∀ t : Fin k0_t1_loop.trips, k0_chk11 (con 16 t.val) := by decide +kernel
theorem chk12_ok : ∀ t : Fin k0_t1_loop.trips, k0_chk12 (con 16 t.val) := by decide +kernel
theorem chk13_ok : ∀ t : Fin k0_t1_loop.trips, k0_chk13 (con 16 t.val) := by decide +kernel
theorem chk14_ok : ∀ t : Fin k0_t1_loop.trips, k0_chk14 (con 16 t.val) := by decide +kernel
theorem chk15_ok : ∀ t : Fin k0_t1_loop.trips, k0_chk15 (con 16 t.val) := by decide +kernel
theorem chk16_ok : ∀ t : Fin k0_t1_loop.trips, k0_chk16 (con 16 t.val) := by decide +kernel
theorem chk17_ok : ∀ t : Fin k0_t1_loop.trips, k0_chk17 (con 16 t.val) := by decide +kernel
theorem chk18_ok : ∀ t : Fin k0_t1_loop.trips, k0_chk18 (con 11 t.val) := by decide +kernel
theorem chk19_ok : ∀ t : Fin k0_t1_loop.trips, k0_chk19 (iv32 t.val) := by decide +kernel
theorem chk20_ok : ∀ t : Fin k0_t1_loop.trips, k0_chk20 (iv32 t.val) := by decide +kernel

/-! ## Slots, blocks and rings -/

def slot3 (al : Memref sig .tc .vmem S2x32x8192 .f32) (j : Fin 2) : Memref sig .tc .vmem S32x8192 .f32 :=
  (al.slice (Rect.unit (s := S2x32x8192) ![j.val, 0, 0] S1x32x8192.size (by revert j; decide)) (fun _ => rfl)).squeeze S32x8192 squeezes_S1x32x8192_S32x8192
def slotM (al : Memref sig .tc .vmem S2x1x8192 .f32) (j : Fin 2) : Memref sig .tc .vmem S1x8192 .f32 :=
  (al.slice (Rect.unit (s := S2x1x8192) ![j.val, 0, 0] S1x1x8192.size (by revert j; decide)) (fun _ => rfl)).squeeze S1x8192 squeezes_S1x1x8192_S1x8192
def slotO (al : Memref sig .tc .vmem S2x8192x128 .f32) (j : Fin 2) : Memref sig .tc .vmem S8192x128 .f32 :=
  (al.slice (Rect.unit (s := S2x8192x128) ![j.val, 0, 0] S1x8192x128.size (by revert j; decide)) (fun _ => rfl)).squeeze S8192x128 squeezes_S1x8192x128_S8192x128
def semOf (v : DmaSems sig S2) (j : Fin 2) : DmaSem sig :=
  ((v.slice (Rect.unit (s := S2) ![j.val] S1.size (by revert j; decide))).squeeze S_ squeezes_S1_S_).sem
theorem srcB_inb (b : ℕ) : ∀ a, (![0, 8192 * min b 122] : Fin 2 → ℕ) a + S32x8192.size a ≤ S32x1007616.size a := by
  intro a; fin_cases a <;> simp [S32x1007616, S32x8192] <;> omega
theorem srcM_inb (b : ℕ) : ∀ a, (![min b 15, 0] : Fin 2 → ℕ) a + S1x8192.size a ≤ S16x8192.size a := by
  intro a; fin_cases a <;> simp [S16x8192, S1x8192] <;> omega
theorem outB_inb (b : ℕ) : ∀ a, (![8192 * min b 15, 0] : Fin 2 → ℕ) a + S8192x128.size a ≤ S131072x128.size a := by
  intro a; fin_cases a <;> simp [S131072x128, S8192x128] <;> omega
def srcB (a : Memref sig .tc .hbm S32x1007616 .f32) (b : ℕ) : Memref sig .tc .hbm S32x8192 .f32 :=
  a.slice (Rect.unit (s := S32x1007616) ![0, 8192 * min b 122] S32x8192.size (srcB_inb b)) (fun _ => rfl)
def srcM (a : Memref sig .tc .hbm S16x8192 .f32) (b : ℕ) : Memref sig .tc .hbm S1x8192 .f32 :=
  a.slice (Rect.unit (s := S16x8192) ![min b 15, 0] S1x8192.size (srcM_inb b)) (fun _ => rfl)
def outB (a : Memref sig .tc .hbm S131072x128 .f32) (b : ℕ) : Memref sig .tc .hbm S8192x128 .f32 :=
  a.slice (Rect.unit (s := S131072x128) ![8192 * min b 15, 0] S8192x128.size (outB_inb b)) (fun _ => rfl)

/-! The slices of the kernel, as the definitions above. -/

theorem slot3_eq (al : Memref sig .tc .vmem S2x32x8192 .f32) (j : Fin 2) {off : Fin 3 → ℕ} (h : off = ![j.val, 0, 0]) (p : ∀ a, off a + S1x32x8192.size a ≤ S2x32x8192.size a) :
    slot3 al j = (al.slice (Rect.unit (s := S2x32x8192) off S1x32x8192.size p) (fun _ => rfl)).squeeze S32x8192 squeezes_S1x32x8192_S32x8192 := by subst h; rfl
theorem slotM_eq (al : Memref sig .tc .vmem S2x1x8192 .f32) (j : Fin 2) {off : Fin 3 → ℕ} (h : off = ![j.val, 0, 0]) (p : ∀ a, off a + S1x1x8192.size a ≤ S2x1x8192.size a) :
    slotM al j = (al.slice (Rect.unit (s := S2x1x8192) off S1x1x8192.size p) (fun _ => rfl)).squeeze S1x8192 squeezes_S1x1x8192_S1x8192 := by subst h; rfl
theorem slotO_eq (al : Memref sig .tc .vmem S2x8192x128 .f32) (j : Fin 2) {off : Fin 3 → ℕ} (h : off = ![j.val, 0, 0]) (p : ∀ a, off a + S1x8192x128.size a ≤ S2x8192x128.size a) :
    slotO al j = (al.slice (Rect.unit (s := S2x8192x128) off S1x8192x128.size p) (fun _ => rfl)).squeeze S8192x128 squeezes_S1x8192x128_S8192x128 := by subst h; rfl
theorem semOf_eq (v : DmaSems sig S2) (j : Fin 2) {off : Fin 1 → ℕ} (h : off = ![j.val]) (p : ∀ a, off a + S1.size a ≤ S2.size a) :
    semOf v j = ((v.slice (Rect.unit (s := S2) off S1.size p)).squeeze S_ squeezes_S1_S_).sem := by subst h; rfl
theorem srcB_eq (a : Memref sig .tc .hbm S32x1007616 .f32) (b : ℕ) {off : Fin 2 → ℕ} (h : off = ![0, 8192 * min b 122]) (p : ∀ a, off a + S32x8192.size a ≤ S32x1007616.size a) :
    srcB a b = a.slice (Rect.unit (s := S32x1007616) off S32x8192.size p) (fun _ => rfl) := by subst h; rfl
theorem srcM_eq (a : Memref sig .tc .hbm S16x8192 .f32) (b : ℕ) {off : Fin 2 → ℕ} (h : off = ![min b 15, 0]) (p : ∀ a, off a + S1x8192.size a ≤ S16x8192.size a) :
    srcM a b = a.slice (Rect.unit (s := S16x8192) off S1x8192.size p) (fun _ => rfl) := by subst h; rfl
theorem outB_eq (a : Memref sig .tc .hbm S131072x128 .f32) (b : ℕ) {off : Fin 2 → ℕ} (h : off = ![8192 * min b 15, 0]) (p : ∀ a, off a + S8192x128.size a ≤ S131072x128.size a) :
    outB a b = a.slice (Rect.unit (s := S131072x128) off S8192x128.size p) (fun _ => rfl) := by subst h; rfl

/-! ## The windows -/

variable {d : Dev nD}

/-- The window of lane group `j` over a table: blocks `16 j + k`. -/
@[reducible] def tabWin (al : Memref sig .tc .vmem S2x32x8192 .f32) (v : DmaSems sig S2) (a : Memref sig .tc .hbm S32x1007616 .f32)
    (f : Buf (Elt F) (a.view.loc (d.tc : Thread nD τ))) (j N : ℕ) (hN : 0 < N) : Win F d S32x8192 where
  N := N
  hN := hN
  hs := by decide
  dst := slot3 al
  sem := semOf v
  src := fun k => srcB a (16 * j + k)
  fs := fun k => (show Buf (Elt F) ((srcB a (16 * j + k)).view.loc (d.tc : Thread nD τ)) from f)

/-- The window of the mask: its rows one by one. -/
@[reducible] def maskWin (al : Memref sig .tc .vmem S2x1x8192 .f32) (v : DmaSems sig S2) (a : Memref sig .tc .hbm S16x8192 .f32)
    (f : Buf (Elt F) (a.view.loc (d.tc : Thread nD τ))) : Win F d S1x8192 where
  N := 16
  hN := by decide
  hs := by decide
  dst := slotM al
  sem := semOf v
  src := fun k => srcM a k
  fs := fun _ => f

variable {B : Bufs} (C : Ctn F d B)

@[reducible] def w0 : Win F d S32x8192 := tabWin B.alloca B.v0 B.arg1 C.f1 0 16 (by decide)
@[reducible] def w1 : Win F d S32x8192 := tabWin B.alloca_0 B.v1 B.arg1 C.f1 1 16 (by decide)
@[reducible] def w2 : Win F d S32x8192 := tabWin B.alloca_1 B.v2 B.arg1 C.f1 2 16 (by decide)
@[reducible] def w3 : Win F d S32x8192 := tabWin B.alloca_2 B.v3 B.arg1 C.f1 3 16 (by decide)
@[reducible] def w4 : Win F d S32x8192 := tabWin B.alloca_3 B.v4 B.arg1 C.f1 4 16 (by decide)
@[reducible] def w5 : Win F d S32x8192 := tabWin B.alloca_4 B.v5 B.arg1 C.f1 5 16 (by decide)
@[reducible] def w6 : Win F d S32x8192 := tabWin B.alloca_5 B.v6 B.arg1 C.f1 6 16 (by decide)
@[reducible] def w7 : Win F d S32x8192 := tabWin B.alloca_6 B.v7 B.arg1 C.f1 7 11 (by decide)
@[reducible] def w8 : Win F d S32x8192 := tabWin B.alloca_7 B.v8 B.arg2 C.f2 0 16 (by decide)
@[reducible] def w9 : Win F d S32x8192 := tabWin B.alloca_8 B.v9 B.arg2 C.f2 1 16 (by decide)
@[reducible] def w10 : Win F d S32x8192 := tabWin B.alloca_9 B.v10 B.arg2 C.f2 2 16 (by decide)
@[reducible] def w11 : Win F d S32x8192 := tabWin B.alloca_10 B.v11 B.arg2 C.f2 3 16 (by decide)
@[reducible] def w12 : Win F d S32x8192 := tabWin B.alloca_11 B.v12 B.arg2 C.f2 4 16 (by decide)
@[reducible] def w13 : Win F d S32x8192 := tabWin B.alloca_12 B.v13 B.arg2 C.f2 5 16 (by decide)
@[reducible] def w14 : Win F d S32x8192 := tabWin B.alloca_13 B.v14 B.arg2 C.f2 6 16 (by decide)
@[reducible] def w15 : Win F d S32x8192 := tabWin B.alloca_14 B.v15 B.arg2 C.f2 7 11 (by decide)
@[reducible] def w16 : Win F d S1x8192 := maskWin B.alloca_19 B.v16 B.arg7 C.f7

variable [FloatOps F]

/-! ## The values a trip loads and stores -/

def p_v645 (k : ℕ) : Vec F S1x1x8192 .f32 := Win.asSlot squeezes_S1x1x8192_S1x8192 ((w16 C).blk (min k ((w16 C).N - 1)))
def p_v648 (k : ℕ) : Vec F S1x32x8192 .f32 := Win.asSlot squeezes_S1x32x8192_S32x8192 ((w0 C).blk (min k ((w0 C).N - 1)))
def p_v651 (k : ℕ) : Vec F S1x32x8192 .f32 := Win.asSlot squeezes_S1x32x8192_S32x8192 ((w1 C).blk (min k ((w1 C).N - 1)))
def p_v654 (k : ℕ) : Vec F S1x32x8192 .f32 := Win.asSlot squeezes_S1x32x8192_S32x8192 ((w2 C).blk (min k ((w2 C).N - 1)))
def p_v646 (k : ℕ) := k0_pay1 (p_v645 C k)
def p_v649 (k : ℕ) := k0_pay2 (p_v648 C k)
def p_v652 (k : ℕ) := k0_pay3 (p_v651 C k)
def p_v655 (k : ℕ) := k0_pay4 (p_v654 C k)
def p_v657 (k : ℕ) : Vec F S1x32x8192 .f32 := Win.asSlot squeezes_S1x32x8192_S32x8192 ((w3 C).blk (min k ((w3 C).N - 1)))
def p_v660 (k : ℕ) : Vec F S1x32x8192 .f32 := Win.asSlot squeezes_S1x32x8192_S32x8192 ((w4 C).blk (min k ((w4 C).N - 1)))
def p_v663 (k : ℕ) : Vec F S1x32x8192 .f32 := Win.asSlot squeezes_S1x32x8192_S32x8192 ((w5 C).blk (min k ((w5 C).N - 1)))
def p_v666 (k : ℕ) : Vec F S1x32x8192 .f32 := Win.asSlot squeezes_S1x32x8192_S32x8192 ((w6 C).blk (min k ((w6 C).N - 1)))
def p_v669 (k : ℕ) : Vec F S1x32x8192 .f32 := Win.asSlot squeezes_S1x32x8192_S32x8192 ((w7 C).blk (min k ((w7 C).N - 1)))
def p_v675 (k : ℕ) : Vec F S1x32x8192 .f32 := Win.asSlot squeezes_S1x32x8192_S32x8192 ((w8 C).blk (min k ((w8 C).N - 1)))
def p_v678 (k : ℕ) : Vec F S1x32x8192 .f32 := Win.asSlot squeezes_S1x32x8192_S32x8192 ((w9 C).blk (min k ((w9 C).N - 1)))
def p_v681 (k : ℕ) : Vec F S1x32x8192 .f32 := Win.asSlot squeezes_S1x32x8192_S32x8192 ((w10 C).blk (min k ((w10 C).N - 1)))
def p_v684 (k : ℕ) : Vec F S1x32x8192 .f32 := Win.asSlot squeezes_S1x32x8192_S32x8192 ((w11 C).blk (min k ((w11 C).N - 1)))
def p_v687 (k : ℕ) : Vec F S1x32x8192 .f32 := Win.asSlot squeezes_S1x32x8192_S32x8192 ((w12 C).blk (min k ((w12 C).N - 1)))
def p_v690 (k : ℕ) : Vec F S1x32x8192 .f32 := Win.asSlot squeezes_S1x32x8192_S32x8192 ((w13 C).blk (min k ((w13 C).N - 1)))
def p_v673 (k : ℕ) := k0_pay5 (p_v646 C k) (p_v649 C k) (p_v652 C k) (p_v655 C k) (p_v657 C k) (p_v660 C k) (p_v663 C k) (p_v666 C k) (p_v669 C k)
def p_v676 (k : ℕ) := k0_pay6 (p_v675 C k)
def p_v679 (k : ℕ) := k0_pay7 (p_v678 C k)
def p_v682 (k : ℕ) := k0_pay8 (p_v681 C k)
def p_v685 (k : ℕ) := k0_pay9 (p_v684 C k)
def p_v688 (k : ℕ) := k0_pay10 (p_v687 C k)
def p_v691 (k : ℕ) := k0_pay11 (p_v690 C k)
def p_v693 (k : ℕ) : Vec F S1x32x8192 .f32 := Win.asSlot squeezes_S1x32x8192_S32x8192 ((w14 C).blk (min k ((w14 C).N - 1)))
def p_v696 (k : ℕ) : Vec F S1x32x8192 .f32 := Win.asSlot squeezes_S1x32x8192_S32x8192 ((w15 C).blk (min k ((w15 C).N - 1)))
def p_v702 (_ : ℕ) : Vec F S256x128 .f32 := B.arg3.view.read (Elt F) C.f3
def p_v707 (_ : ℕ) : Vec F S256x128 .f32 := B.arg5.view.read (Elt F) C.f5
def p_v711 (_ : ℕ) : Vec F S1x128 .f32 := B.arg4.view.read (Elt F) C.f4
def p_v721 (_ : ℕ) : Vec F S1x128 .f32 := B.arg6.view.read (Elt F) C.f6
def z1 (k : ℕ) : S8192x128.Idx → Elt F .f32 := fun i => k0_pay12 (p_v673 C k) (p_v702 C k) (p_v711 C k) (Shape.reshapeEquiv squeezes_S1x8192x128_S8192x128.numel_eq i)
def z2 (k : ℕ) : S8192x128.Idx → Elt F .f32 := fun i => k0_pay13 (p_v646 C k) (p_v676 C k) (p_v679 C k) (p_v682 C k) (p_v685 C k) (p_v688 C k) (p_v691 C k) (p_v693 C k) (p_v696 C k) (p_v707 C k) (p_v721 C k) (Shape.reshapeEquiv squeezes_S1x8192x128_S8192x128.numel_eq i)
@[reducible] def o1 : Out F d S8192x128 where
  N := 16
  hs := by decide
  buf := slotO B.alloca_20
  sem := semOf B.v17
  dst := fun k => outB B.arg8 k
  z := z1 C
@[reducible] def o2 : Out F d S8192x128 where
  N := 16
  hs := by decide
  buf := slotO B.alloca_21
  sem := semOf B.v18
  dst := fun k => outB B.arg9 k
  z := z2 C

/-! ## The scalars of a trip -/

def s_arg10 (t : Fin k0_t1_loop.trips) : BitVec 32 := Scf.iv 0#32 1#32 t
section
variable (t : Fin k0_t1_loop.trips)

def s_v219 : BitVec 1 := Scalar.cmpi .eq (s_arg10 t) 0#32
def s_v220 : BitVec 1 := Scalar.cmpi .eq (s_arg10 t) 15#32
def s_v221 : BitVec 32 := Scalar.addi (cyc t.val) 0#32
def s_v222 : BitVec 32 := Scalar.subi (cyc t.val) 1#32
def s_v223 : BitVec 32 := Scalar.select 1#1 (s_v222 t) (cyc t.val)
def s_v224 : BitVec 1 := Scalar.cmpi .eq (s_v223 t) 4294967295#32
def s_v225 : BitVec 32 := Scalar.select (s_v224 t) 15#32 (s_v223 t)
def s_v226 : BitVec 32 := Scalar.addi (s_v225 t) 0#32
def s_v227 : BitVec 32 := Scalar.addi (cyc t.val) 1#32
def s_v228 : BitVec 32 := Scalar.select 1#1 (s_v227 t) (cyc t.val)
def s_v229 : BitVec 1 := Scalar.cmpi .eq (s_v228 t) 16#32
def s_v230 : BitVec 32 := Scalar.select (s_v229 t) 0#32 (s_v228 t)
def s_v231 : BitVec 32 := Scalar.addi (s_v230 t) 0#32
def s_v237 : BitVec 32 := Scalar.addi 0#32 (s_v221 t)
def s_v238 : BitVec 32 := Scalar.minsi (s_v237 t) 122#32
def s_v239 : BitVec 32 := Scalar.addi 0#32 (s_v231 t)
def s_v240 : BitVec 32 := Scalar.minsi (s_v239 t) 122#32
def s_v241 : BitVec 1 := Scalar.cmpi .ne (s_v238 t) (s_v240 t)
def s_v242 : BitVec 1 := Scalar.cmpi .sge (s_arg10 t) 15#32
def s_v243 : BitVec 1 := Scalar.xori (s_v242 t) 1#1
def s_v244 : BitVec 1 := Scalar.andi (s_v241 t) (s_v243 t)
def s_v248 : BitVec 1 := Scalar.andi (s_v244 t) 1#1
def s_v249 : BitVec 32 := Scalar.addi (iss 16 t.val) 1#32
def s_v250 : BitVec 32 := Scalar.select (s_v248 t) (s_v249 t) (iss 16 t.val)
def s_v251 : BitVec 32 := Scalar.addi 16#32 (s_v221 t)
def s_v252 : BitVec 32 := Scalar.minsi (s_v251 t) 122#32
def s_v253 : BitVec 32 := Scalar.addi 16#32 (s_v231 t)
def s_v254 : BitVec 32 := Scalar.minsi (s_v253 t) 122#32
def s_v255 : BitVec 1 := Scalar.cmpi .ne (s_v252 t) (s_v254 t)
def s_v256 : BitVec 1 := Scalar.cmpi .sge (s_arg10 t) 15#32
def s_v257 : BitVec 1 := Scalar.xori (s_v256 t) 1#1
def s_v258 : BitVec 1 := Scalar.andi (s_v255 t) (s_v257 t)
def s_v262 : BitVec 1 := Scalar.andi (s_v258 t) 1#1
def s_v263 : BitVec 32 := Scalar.addi (iss 16 t.val) 1#32
def s_v264 : BitVec 32 := Scalar.select (s_v262 t) (s_v263 t) (iss 16 t.val)
def s_v265 : BitVec 32 := Scalar.addi 32#32 (s_v221 t)
def s_v266 : BitVec 32 := Scalar.minsi (s_v265 t) 122#32
def s_v267 : BitVec 32 := Scalar.addi 32#32 (s_v231 t)
def s_v268 : BitVec 32 := Scalar.minsi (s_v267 t) 122#32
def s_v269 : BitVec 1 := Scalar.cmpi .ne (s_v266 t) (s_v268 t)
def s_v270 : BitVec 1 := Scalar.cmpi .sge (s_arg10 t) 15#32
def s_v271 : BitVec 1 := Scalar.xori (s_v270 t) 1#1
def s_v272 : BitVec 1 := Scalar.andi (s_v269 t) (s_v271 t)
def s_v276 : BitVec 1 := Scalar.andi (s_v272 t) 1#1
def s_v277 : BitVec 32 := Scalar.addi (iss 16 t.val) 1#32
def s_v278 : BitVec 32 := Scalar.select (s_v276 t) (s_v277 t) (iss 16 t.val)
def s_v279 : BitVec 32 := Scalar.addi 48#32 (s_v221 t)
def s_v280 : BitVec 32 := Scalar.minsi (s_v279 t) 122#32
def s_v281 : BitVec 32 := Scalar.addi 48#32 (s_v231 t)
def s_v282 : BitVec 32 := Scalar.minsi (s_v281 t) 122#32
def s_v283 : BitVec 1 := Scalar.cmpi .ne (s_v280 t) (s_v282 t)
def s_v284 : BitVec 1 := Scalar.cmpi .sge (s_arg10 t) 15#32
def s_v285 : BitVec 1 := Scalar.xori (s_v284 t) 1#1
def s_v286 : BitVec 1 := Scalar.andi (s_v283 t) (s_v285 t)
def s_v290 : BitVec 1 := Scalar.andi (s_v286 t) 1#1
def s_v291 : BitVec 32 := Scalar.addi (iss 16 t.val) 1#32
def s_v292 : BitVec 32 := Scalar.select (s_v290 t) (s_v291 t) (iss 16 t.val)
def s_v293 : BitVec 32 := Scalar.addi 64#32 (s_v221 t)
def s_v294 : BitVec 32 := Scalar.minsi (s_v293 t) 122#32
def s_v295 : BitVec 32 := Scalar.addi 64#32 (s_v231 t)
def s_v296 : BitVec 32 := Scalar.minsi (s_v295 t) 122#32
def s_v297 : BitVec 1 := Scalar.cmpi .ne (s_v294 t) (s_v296 t)
def s_v298 : BitVec 1 := Scalar.cmpi .sge (s_arg10 t) 15#32
def s_v299 : BitVec 1 := Scalar.xori (s_v298 t) 1#1
def s_v300 : BitVec 1 := Scalar.andi (s_v297 t) (s_v299 t)
def s_v304 : BitVec 1 := Scalar.andi (s_v300 t) 1#1
def s_v305 : BitVec 32 := Scalar.addi (iss 16 t.val) 1#32
def s_v306 : BitVec 32 := Scalar.select (s_v304 t) (s_v305 t) (iss 16 t.val)
def s_v307 : BitVec 32 := Scalar.addi 80#32 (s_v221 t)
def s_v308 : BitVec 32 := Scalar.minsi (s_v307 t) 122#32
def s_v309 : BitVec 32 := Scalar.addi 80#32 (s_v231 t)
def s_v310 : BitVec 32 := Scalar.minsi (s_v309 t) 122#32
def s_v311 : BitVec 1 := Scalar.cmpi .ne (s_v308 t) (s_v310 t)
def s_v312 : BitVec 1 := Scalar.cmpi .sge (s_arg10 t) 15#32
def s_v313 : BitVec 1 := Scalar.xori (s_v312 t) 1#1
def s_v314 : BitVec 1 := Scalar.andi (s_v311 t) (s_v313 t)
def s_v318 : BitVec 1 := Scalar.andi (s_v314 t) 1#1
def s_v319 : BitVec 32 := Scalar.addi (iss 16 t.val) 1#32
def s_v320 : BitVec 32 := Scalar.select (s_v318 t) (s_v319 t) (iss 16 t.val)
def s_v321 : BitVec 32 := Scalar.addi 96#32 (s_v221 t)
def s_v322 : BitVec 32 := Scalar.minsi (s_v321 t) 122#32
def s_v323 : BitVec 32 := Scalar.addi 96#32 (s_v231 t)
def s_v324 : BitVec 32 := Scalar.minsi (s_v323 t) 122#32
def s_v325 : BitVec 1 := Scalar.cmpi .ne (s_v322 t) (s_v324 t)
def s_v326 : BitVec 1 := Scalar.cmpi .sge (s_arg10 t) 15#32
def s_v327 : BitVec 1 := Scalar.xori (s_v326 t) 1#1
def s_v328 : BitVec 1 := Scalar.andi (s_v325 t) (s_v327 t)
def s_v332 : BitVec 1 := Scalar.andi (s_v328 t) 1#1
def s_v333 : BitVec 32 := Scalar.addi (iss 16 t.val) 1#32
def s_v334 : BitVec 32 := Scalar.select (s_v332 t) (s_v333 t) (iss 16 t.val)
def s_v335 : BitVec 32 := Scalar.addi 112#32 (s_v221 t)
def s_v336 : BitVec 32 := Scalar.minsi (s_v335 t) 122#32
def s_v337 : BitVec 32 := Scalar.addi 112#32 (s_v231 t)
def s_v338 : BitVec 32 := Scalar.minsi (s_v337 t) 122#32
def s_v339 : BitVec 1 := Scalar.cmpi .ne (s_v336 t) (s_v338 t)
def s_v340 : BitVec 1 := Scalar.cmpi .sge (s_arg10 t) 15#32
def s_v341 : BitVec 1 := Scalar.xori (s_v340 t) 1#1
def s_v342 : BitVec 1 := Scalar.andi (s_v339 t) (s_v341 t)
def s_v346 : BitVec 1 := Scalar.andi (s_v342 t) 1#1
def s_v347 : BitVec 32 := Scalar.addi (iss 11 t.val) 1#32
def s_v348 : BitVec 32 := Scalar.select (s_v346 t) (s_v347 t) (iss 11 t.val)
def s_v349 : BitVec 32 := Scalar.addi 0#32 (s_v221 t)
def s_v350 : BitVec 32 := Scalar.minsi (s_v349 t) 122#32
def s_v351 : BitVec 32 := Scalar.addi 0#32 (s_v231 t)
def s_v352 : BitVec 32 := Scalar.minsi (s_v351 t) 122#32
def s_v353 : BitVec 1 := Scalar.cmpi .ne (s_v350 t) (s_v352 t)
def s_v354 : BitVec 1 := Scalar.cmpi .sge (s_arg10 t) 15#32
def s_v355 : BitVec 1 := Scalar.xori (s_v354 t) 1#1
def s_v356 : BitVec 1 := Scalar.andi (s_v353 t) (s_v355 t)
def s_v360 : BitVec 1 := Scalar.andi (s_v356 t) 1#1
def s_v361 : BitVec 32 := Scalar.addi (iss 16 t.val) 1#32
def s_v362 : BitVec 32 := Scalar.select (s_v360 t) (s_v361 t) (iss 16 t.val)
def s_v363 : BitVec 32 := Scalar.addi 16#32 (s_v221 t)
def s_v364 : BitVec 32 := Scalar.minsi (s_v363 t) 122#32
def s_v365 : BitVec 32 := Scalar.addi 16#32 (s_v231 t)
def s_v366 : BitVec 32 := Scalar.minsi (s_v365 t) 122#32
def s_v367 : BitVec 1 := Scalar.cmpi .ne (s_v364 t) (s_v366 t)
def s_v368 : BitVec 1 := Scalar.cmpi .sge (s_arg10 t) 15#32
def s_v369 : BitVec 1 := Scalar.xori (s_v368 t) 1#1
def s_v370 : BitVec 1 := Scalar.andi (s_v367 t) (s_v369 t)
def s_v371 : BitVec 1 := Scalar.andi (s_v370 t) 1#1
def s_v372 : BitVec 32 := Scalar.extui (s_v371 t)
def s_v374 : BitVec 1 := Scalar.andi (s_v370 t) 1#1
def s_v375 : BitVec 32 := Scalar.addi (iss 16 t.val) 1#32
def s_v376 : BitVec 32 := Scalar.select (s_v374 t) (s_v375 t) (iss 16 t.val)
def s_v377 : BitVec 32 := Scalar.addi 32#32 (s_v221 t)
def s_v378 : BitVec 32 := Scalar.minsi (s_v377 t) 122#32
def s_v379 : BitVec 32 := Scalar.addi 32#32 (s_v231 t)
def s_v380 : BitVec 32 := Scalar.minsi (s_v379 t) 122#32
def s_v381 : BitVec 1 := Scalar.cmpi .ne (s_v378 t) (s_v380 t)
def s_v382 : BitVec 1 := Scalar.cmpi .sge (s_arg10 t) 15#32
def s_v383 : BitVec 1 := Scalar.xori (s_v382 t) 1#1
def s_v384 : BitVec 1 := Scalar.andi (s_v381 t) (s_v383 t)
def s_v388 : BitVec 1 := Scalar.andi (s_v384 t) 1#1
def s_v389 : BitVec 32 := Scalar.addi (iss 16 t.val) 1#32
def s_v390 : BitVec 32 := Scalar.select (s_v388 t) (s_v389 t) (iss 16 t.val)
def s_v391 : BitVec 32 := Scalar.addi 48#32 (s_v221 t)
def s_v392 : BitVec 32 := Scalar.minsi (s_v391 t) 122#32
def s_v393 : BitVec 32 := Scalar.addi 48#32 (s_v231 t)
def s_v394 : BitVec 32 := Scalar.minsi (s_v393 t) 122#32
def s_v395 : BitVec 1 := Scalar.cmpi .ne (s_v392 t) (s_v394 t)
def s_v396 : BitVec 1 := Scalar.cmpi .sge (s_arg10 t) 15#32
def s_v397 : BitVec 1 := Scalar.xori (s_v396 t) 1#1
def s_v398 : BitVec 1 := Scalar.andi (s_v395 t) (s_v397 t)
def s_v402 : BitVec 1 := Scalar.andi (s_v398 t) 1#1
def s_v403 : BitVec 32 := Scalar.addi (iss 16 t.val) 1#32
def s_v404 : BitVec 32 := Scalar.select (s_v402 t) (s_v403 t) (iss 16 t.val)
def s_v405 : BitVec 32 := Scalar.addi 64#32 (s_v221 t)
def s_v406 : BitVec 32 := Scalar.minsi (s_v405 t) 122#32
def s_v407 : BitVec 32 := Scalar.addi 64#32 (s_v231 t)
def s_v408 : BitVec 32 := Scalar.minsi (s_v407 t) 122#32
def s_v409 : BitVec 1 := Scalar.cmpi .ne (s_v406 t) (s_v408 t)
def s_v410 : BitVec 1 := Scalar.cmpi .sge (s_arg10 t) 15#32
def s_v411 : BitVec 1 := Scalar.xori (s_v410 t) 1#1
def s_v412 : BitVec 1 := Scalar.andi (s_v409 t) (s_v411 t)
def s_v416 : BitVec 1 := Scalar.andi (s_v412 t) 1#1
def s_v417 : BitVec 32 := Scalar.addi (iss 16 t.val) 1#32
def s_v418 : BitVec 32 := Scalar.select (s_v416 t) (s_v417 t) (iss 16 t.val)
def s_v419 : BitVec 32 := Scalar.addi 80#32 (s_v221 t)
def s_v420 : BitVec 32 := Scalar.minsi (s_v419 t) 122#32
def s_v421 : BitVec 32 := Scalar.addi 80#32 (s_v231 t)
def s_v422 : BitVec 32 := Scalar.minsi (s_v421 t) 122#32
def s_v423 : BitVec 1 := Scalar.cmpi .ne (s_v420 t) (s_v422 t)
def s_v424 : BitVec 1 := Scalar.cmpi .sge (s_arg10 t) 15#32
def s_v425 : BitVec 1 := Scalar.xori (s_v424 t) 1#1
def s_v426 : BitVec 1 := Scalar.andi (s_v423 t) (s_v425 t)
def s_v430 : BitVec 1 := Scalar.andi (s_v426 t) 1#1
def s_v431 : BitVec 32 := Scalar.addi (iss 16 t.val) 1#32
def s_v432 : BitVec 32 := Scalar.select (s_v430 t) (s_v431 t) (iss 16 t.val)
def s_v433 : BitVec 32 := Scalar.addi 96#32 (s_v221 t)
def s_v434 : BitVec 32 := Scalar.minsi (s_v433 t) 122#32
def s_v435 : BitVec 32 := Scalar.addi 96#32 (s_v231 t)
def s_v436 : BitVec 32 := Scalar.minsi (s_v435 t) 122#32
def s_v437 : BitVec 1 := Scalar.cmpi .ne (s_v434 t) (s_v436 t)
def s_v438 : BitVec 1 := Scalar.cmpi .sge (s_arg10 t) 15#32
def s_v439 : BitVec 1 := Scalar.xori (s_v438 t) 1#1
def s_v440 : BitVec 1 := Scalar.andi (s_v437 t) (s_v439 t)
def s_v444 : BitVec 1 := Scalar.andi (s_v440 t) 1#1
def s_v445 : BitVec 32 := Scalar.addi (iss 16 t.val) 1#32
def s_v446 : BitVec 32 := Scalar.select (s_v444 t) (s_v445 t) (iss 16 t.val)
def s_v447 : BitVec 32 := Scalar.addi 112#32 (s_v221 t)
def s_v448 : BitVec 32 := Scalar.minsi (s_v447 t) 122#32
def s_v449 : BitVec 32 := Scalar.addi 112#32 (s_v231 t)
def s_v450 : BitVec 32 := Scalar.minsi (s_v449 t) 122#32
def s_v451 : BitVec 1 := Scalar.cmpi .ne (s_v448 t) (s_v450 t)
def s_v452 : BitVec 1 := Scalar.cmpi .sge (s_arg10 t) 15#32
def s_v453 : BitVec 1 := Scalar.xori (s_v452 t) 1#1
def s_v454 : BitVec 1 := Scalar.andi (s_v451 t) (s_v453 t)
def s_v458 : BitVec 1 := Scalar.andi (s_v454 t) 1#1
def s_v459 : BitVec 32 := Scalar.addi (iss 11 t.val) 1#32
def s_v460 : BitVec 32 := Scalar.select (s_v458 t) (s_v459 t) (iss 11 t.val)
def s_v461 : BitVec 1 := Scalar.cmpi .ne (s_v221 t) (s_v231 t)
def s_v462 : BitVec 1 := Scalar.cmpi .sge (s_arg10 t) 15#32
def s_v463 : BitVec 1 := Scalar.xori (s_v462 t) 1#1
def s_v464 : BitVec 1 := Scalar.andi (s_v461 t) (s_v463 t)
def s_v468 : BitVec 1 := Scalar.andi (s_v464 t) 1#1
def s_v469 : BitVec 32 := Scalar.addi (iss 16 t.val) 1#32
def s_v470 : BitVec 32 := Scalar.select (s_v468 t) (s_v469 t) (iss 16 t.val)
def s_v479 : BitVec 32 := Scalar.addi 0#32 (s_v226 t)
def s_v480 : BitVec 32 := Scalar.minsi (s_v479 t) 122#32
def s_v487 : BitVec 32 := Scalar.addi 16#32 (s_v226 t)
def s_v488 : BitVec 32 := Scalar.minsi (s_v487 t) 122#32
def s_v495 : BitVec 32 := Scalar.addi 32#32 (s_v226 t)
def s_v496 : BitVec 32 := Scalar.minsi (s_v495 t) 122#32
def s_v503 : BitVec 32 := Scalar.addi 48#32 (s_v226 t)
def s_v504 : BitVec 32 := Scalar.minsi (s_v503 t) 122#32
def s_v511 : BitVec 32 := Scalar.addi 64#32 (s_v226 t)
def s_v512 : BitVec 32 := Scalar.minsi (s_v511 t) 122#32
def s_v519 : BitVec 32 := Scalar.addi 80#32 (s_v226 t)
def s_v520 : BitVec 32 := Scalar.minsi (s_v519 t) 122#32
def s_v527 : BitVec 32 := Scalar.addi 96#32 (s_v226 t)
def s_v528 : BitVec 32 := Scalar.minsi (s_v527 t) 122#32
def s_v535 : BitVec 32 := Scalar.addi 112#32 (s_v226 t)
def s_v536 : BitVec 32 := Scalar.minsi (s_v535 t) 122#32
def s_v543 : BitVec 32 := Scalar.addi 0#32 (s_v226 t)
def s_v544 : BitVec 32 := Scalar.minsi (s_v543 t) 122#32
def s_v545 : BitVec 1 := Scalar.cmpi .ne (s_v350 t) (s_v544 t)
def s_v546 : BitVec 1 := Scalar.ori (s_v545 t) (s_v219 t)
def s_v547 : BitVec 1 := Scalar.cmpi .sge (s_arg10 t) 0#32
def s_v548 : BitVec 1 := Scalar.andi (s_v546 t) (s_v547 t)
def s_v549 : BitVec 32 := Scalar.extui (s_v548 t)
def s_v551 : BitVec 32 := Scalar.addi 16#32 (s_v226 t)
def s_v552 : BitVec 32 := Scalar.minsi (s_v551 t) 122#32
def s_v559 : BitVec 32 := Scalar.addi 32#32 (s_v226 t)
def s_v560 : BitVec 32 := Scalar.minsi (s_v559 t) 122#32
def s_v567 : BitVec 32 := Scalar.addi 48#32 (s_v226 t)
def s_v568 : BitVec 32 := Scalar.minsi (s_v567 t) 122#32
def s_v575 : BitVec 32 := Scalar.addi 64#32 (s_v226 t)
def s_v576 : BitVec 32 := Scalar.minsi (s_v575 t) 122#32
def s_v583 : BitVec 32 := Scalar.addi 80#32 (s_v226 t)
def s_v584 : BitVec 32 := Scalar.minsi (s_v583 t) 122#32
def s_v585 : BitVec 1 := Scalar.cmpi .ne (s_v420 t) (s_v584 t)
def s_v591 : BitVec 32 := Scalar.addi 96#32 (s_v226 t)
def s_v592 : BitVec 32 := Scalar.minsi (s_v591 t) 122#32
def s_v599 : BitVec 32 := Scalar.addi 112#32 (s_v226 t)
def s_v600 : BitVec 32 := Scalar.minsi (s_v599 t) 122#32
def s_v613 : BitVec 1 := Scalar.cmpi .ne (s_v221 t) (s_v226 t)
def s_v614 : BitVec 1 := Scalar.ori (s_v613 t) (s_v219 t)
def s_v615 : BitVec 1 := Scalar.cmpi .sge (s_arg10 t) 0#32
def s_v616 : BitVec 1 := Scalar.andi (s_v614 t) (s_v615 t)
def s_v617 : BitVec 32 := Scalar.extui (s_v616 t)
def s_v618 : BitVec 1 := Scalar.cmpi .ne (s_v617 t) 0#32
def s_v619 : BitVec 1 := Scalar.cmpi .ne (s_v221 t) (s_v226 t)
def s_v620 : BitVec 1 := Scalar.ori (s_v619 t) (s_v219 t)
def s_v621 : BitVec 1 := Scalar.cmpi .sge (s_arg10 t) 0#32
def s_v622 : BitVec 1 := Scalar.andi (s_v620 t) (s_v621 t)
def s_v623 : BitVec 32 := Scalar.extui (s_v622 t)
def s_v624 : BitVec 1 := Scalar.cmpi .ne (s_v623 t) 0#32
def s_v629 : BitVec 32 := Scalar.remui (con 16 t.val) 2#32
def s_v630 : BitVec 32 := Scalar.remui (con 16 t.val) 2#32
def s_v631 : BitVec 32 := Scalar.remui (con 16 t.val) 2#32
def s_v632 : BitVec 32 := Scalar.remui (con 11 t.val) 2#32
def s_v633 : BitVec 32 := Scalar.remui (con 16 t.val) 2#32
def s_v634 : BitVec 32 := Scalar.remui (con 16 t.val) 2#32
def s_v635 : BitVec 32 := Scalar.remui (con 16 t.val) 2#32
def s_v636 : BitVec 32 := Scalar.remui (con 16 t.val) 2#32
def s_v637 : BitVec 32 := Scalar.remui (con 16 t.val) 2#32
def s_v638 : BitVec 32 := Scalar.remui (con 16 t.val) 2#32
def s_v639 : BitVec 32 := Scalar.remui (con 16 t.val) 2#32
def s_v640 : BitVec 32 := Scalar.remui (con 11 t.val) 2#32
def s_v642 : BitVec 32 := Scalar.remui (iv32 t.val) 2#32
def s_v643 : BitVec 32 := Scalar.remui (iv32 t.val) 2#32
def s_v731 : BitVec 1 := Scalar.cmpi .ne (s_v238 t) (s_v240 t)
def s_v732 : BitVec 1 := Scalar.ori (s_v731 t) (s_v220 t)
def s_v733 : BitVec 32 := Scalar.extui (s_v732 t)
def s_v734 : BitVec 1 := Scalar.cmpi .ne (s_v733 t) 0#32
def s_v736 : BitVec 1 := Scalar.cmpi .ne (s_v252 t) (s_v254 t)
def s_v737 : BitVec 1 := Scalar.ori (s_v736 t) (s_v220 t)
def s_v738 : BitVec 32 := Scalar.extui (s_v737 t)
def s_v739 : BitVec 1 := Scalar.cmpi .ne (s_v738 t) 0#32
def s_v741 : BitVec 1 := Scalar.cmpi .ne (s_v266 t) (s_v268 t)
def s_v742 : BitVec 1 := Scalar.ori (s_v741 t) (s_v220 t)
def s_v743 : BitVec 32 := Scalar.extui (s_v742 t)
def s_v744 : BitVec 1 := Scalar.cmpi .ne (s_v743 t) 0#32
def s_v746 : BitVec 1 := Scalar.cmpi .ne (s_v280 t) (s_v282 t)
def s_v747 : BitVec 1 := Scalar.ori (s_v746 t) (s_v220 t)
def s_v748 : BitVec 32 := Scalar.extui (s_v747 t)
def s_v749 : BitVec 1 := Scalar.cmpi .ne (s_v748 t) 0#32
def s_v751 : BitVec 1 := Scalar.cmpi .ne (s_v294 t) (s_v296 t)
def s_v752 : BitVec 1 := Scalar.ori (s_v751 t) (s_v220 t)
def s_v753 : BitVec 32 := Scalar.extui (s_v752 t)
def s_v754 : BitVec 1 := Scalar.cmpi .ne (s_v753 t) 0#32
def s_v756 : BitVec 1 := Scalar.cmpi .ne (s_v308 t) (s_v310 t)
def s_v757 : BitVec 1 := Scalar.ori (s_v756 t) (s_v220 t)
def s_v758 : BitVec 32 := Scalar.extui (s_v757 t)
def s_v759 : BitVec 1 := Scalar.cmpi .ne (s_v758 t) 0#32
def s_v761 : BitVec 1 := Scalar.cmpi .ne (s_v322 t) (s_v324 t)
def s_v762 : BitVec 1 := Scalar.ori (s_v761 t) (s_v220 t)
def s_v763 : BitVec 32 := Scalar.extui (s_v762 t)
def s_v764 : BitVec 1 := Scalar.cmpi .ne (s_v763 t) 0#32
def s_v766 : BitVec 1 := Scalar.cmpi .ne (s_v336 t) (s_v338 t)
def s_v767 : BitVec 1 := Scalar.ori (s_v766 t) (s_v220 t)
def s_v768 : BitVec 32 := Scalar.extui (s_v767 t)
def s_v769 : BitVec 1 := Scalar.cmpi .ne (s_v768 t) 0#32
def s_v771 : BitVec 1 := Scalar.cmpi .ne (s_v350 t) (s_v352 t)
def s_v772 : BitVec 1 := Scalar.ori (s_v771 t) (s_v220 t)
def s_v773 : BitVec 32 := Scalar.extui (s_v772 t)
def s_v774 : BitVec 1 := Scalar.cmpi .ne (s_v773 t) 0#32
def s_v776 : BitVec 1 := Scalar.cmpi .ne (s_v364 t) (s_v366 t)
def s_v777 : BitVec 1 := Scalar.ori (s_v776 t) (s_v220 t)
def s_v778 : BitVec 32 := Scalar.extui (s_v777 t)
def s_v779 : BitVec 1 := Scalar.cmpi .ne (s_v778 t) 0#32
def s_v781 : BitVec 1 := Scalar.cmpi .ne (s_v378 t) (s_v380 t)
def s_v782 : BitVec 1 := Scalar.ori (s_v781 t) (s_v220 t)
def s_v783 : BitVec 32 := Scalar.extui (s_v782 t)
def s_v784 : BitVec 1 := Scalar.cmpi .ne (s_v783 t) 0#32
def s_v786 : BitVec 1 := Scalar.cmpi .ne (s_v392 t) (s_v394 t)
def s_v787 : BitVec 1 := Scalar.ori (s_v786 t) (s_v220 t)
def s_v788 : BitVec 32 := Scalar.extui (s_v787 t)
def s_v789 : BitVec 1 := Scalar.cmpi .ne (s_v788 t) 0#32
def s_v791 : BitVec 1 := Scalar.cmpi .ne (s_v406 t) (s_v408 t)
def s_v792 : BitVec 1 := Scalar.ori (s_v791 t) (s_v220 t)
def s_v793 : BitVec 32 := Scalar.extui (s_v792 t)
def s_v794 : BitVec 1 := Scalar.cmpi .ne (s_v793 t) 0#32
def s_v796 : BitVec 1 := Scalar.cmpi .ne (s_v420 t) (s_v422 t)
def s_v797 : BitVec 1 := Scalar.ori (s_v796 t) (s_v220 t)
def s_v798 : BitVec 32 := Scalar.extui (s_v797 t)
def s_v799 : BitVec 1 := Scalar.cmpi .ne (s_v798 t) 0#32
def s_v801 : BitVec 1 := Scalar.cmpi .ne (s_v434 t) (s_v436 t)
def s_v802 : BitVec 1 := Scalar.ori (s_v801 t) (s_v220 t)
def s_v803 : BitVec 32 := Scalar.extui (s_v802 t)
def s_v804 : BitVec 1 := Scalar.cmpi .ne (s_v803 t) 0#32
def s_v806 : BitVec 1 := Scalar.cmpi .ne (s_v448 t) (s_v450 t)
def s_v807 : BitVec 1 := Scalar.ori (s_v806 t) (s_v220 t)
def s_v808 : BitVec 32 := Scalar.extui (s_v807 t)
def s_v809 : BitVec 1 := Scalar.cmpi .ne (s_v808 t) 0#32
def s_v811 : BitVec 1 := Scalar.cmpi .ne (s_v221 t) (s_v231 t)
def s_v812 : BitVec 1 := Scalar.ori (s_v811 t) (s_v220 t)
def s_v813 : BitVec 32 := Scalar.extui (s_v812 t)
def s_v814 : BitVec 1 := Scalar.cmpi .ne (s_v813 t) 0#32
def s_v816 : BitVec 1 := Scalar.cmpi .ne (s_v221 t) (s_v231 t)
def s_v817 : BitVec 1 := Scalar.ori (s_v816 t) (s_v220 t)
def s_v820 : BitVec 1 := Scalar.andi (s_v817 t) 1#1
def s_v821 : BitVec 32 := Scalar.addi (iv32 t.val) 1#32
def s_v822 : BitVec 32 := Scalar.select (s_v820 t) (s_v821 t) (iv32 t.val)
def s_v823 : BitVec 1 := Scalar.cmpi .ne (s_v221 t) (s_v231 t)
def s_v824 : BitVec 1 := Scalar.ori (s_v823 t) (s_v220 t)
def s_v827 : BitVec 1 := Scalar.andi (s_v824 t) 1#1
def s_v828 : BitVec 32 := Scalar.addi (iv32 t.val) 1#32
def s_v829 : BitVec 32 := Scalar.select (s_v827 t) (s_v828 t) (iv32 t.val)
def s_v830 : BitVec 1 := Scalar.cmpi .ne (s_v238 t) (s_v480 t)
def s_v831 : BitVec 1 := Scalar.xori (s_v219 t) 1#1
def s_v832 : BitVec 1 := Scalar.andi (s_v830 t) (s_v831 t)
def s_v833 : BitVec 32 := Scalar.extui (s_v832 t)
def s_v834 : BitVec 1 := Scalar.cmpi .ne (s_v833 t) 0#32
def s_v836 : BitVec 1 := Scalar.cmpi .ne (s_v252 t) (s_v488 t)
def s_v837 : BitVec 1 := Scalar.xori (s_v219 t) 1#1
def s_v838 : BitVec 1 := Scalar.andi (s_v836 t) (s_v837 t)
def s_v839 : BitVec 32 := Scalar.extui (s_v838 t)
def s_v840 : BitVec 1 := Scalar.cmpi .ne (s_v839 t) 0#32
def s_v842 : BitVec 1 := Scalar.cmpi .ne (s_v266 t) (s_v496 t)
def s_v843 : BitVec 1 := Scalar.xori (s_v219 t) 1#1
def s_v844 : BitVec 1 := Scalar.andi (s_v842 t) (s_v843 t)
def s_v845 : BitVec 32 := Scalar.extui (s_v844 t)
def s_v846 : BitVec 1 := Scalar.cmpi .ne (s_v845 t) 0#32
def s_v848 : BitVec 1 := Scalar.cmpi .ne (s_v280 t) (s_v504 t)
def s_v849 : BitVec 1 := Scalar.xori (s_v219 t) 1#1
def s_v850 : BitVec 1 := Scalar.andi (s_v848 t) (s_v849 t)
def s_v851 : BitVec 32 := Scalar.extui (s_v850 t)
def s_v852 : BitVec 1 := Scalar.cmpi .ne (s_v851 t) 0#32
def s_v854 : BitVec 1 := Scalar.cmpi .ne (s_v294 t) (s_v512 t)
def s_v855 : BitVec 1 := Scalar.xori (s_v219 t) 1#1
def s_v856 : BitVec 1 := Scalar.andi (s_v854 t) (s_v855 t)
def s_v857 : BitVec 32 := Scalar.extui (s_v856 t)
def s_v858 : BitVec 1 := Scalar.cmpi .ne (s_v857 t) 0#32
def s_v860 : BitVec 1 := Scalar.cmpi .ne (s_v308 t) (s_v520 t)
def s_v861 : BitVec 1 := Scalar.xori (s_v219 t) 1#1
def s_v862 : BitVec 1 := Scalar.andi (s_v860 t) (s_v861 t)
def s_v863 : BitVec 32 := Scalar.extui (s_v862 t)
def s_v864 : BitVec 1 := Scalar.cmpi .ne (s_v863 t) 0#32
def s_v866 : BitVec 1 := Scalar.cmpi .ne (s_v322 t) (s_v528 t)
def s_v867 : BitVec 1 := Scalar.xori (s_v219 t) 1#1
def s_v868 : BitVec 1 := Scalar.andi (s_v866 t) (s_v867 t)
def s_v869 : BitVec 32 := Scalar.extui (s_v868 t)
def s_v870 : BitVec 1 := Scalar.cmpi .ne (s_v869 t) 0#32
def s_v872 : BitVec 1 := Scalar.cmpi .ne (s_v336 t) (s_v536 t)
def s_v873 : BitVec 1 := Scalar.xori (s_v219 t) 1#1
def s_v874 : BitVec 1 := Scalar.andi (s_v872 t) (s_v873 t)
def s_v875 : BitVec 32 := Scalar.extui (s_v874 t)
def s_v876 : BitVec 1 := Scalar.cmpi .ne (s_v875 t) 0#32
def s_v878 : BitVec 1 := Scalar.cmpi .ne (s_v350 t) (s_v544 t)
def s_v879 : BitVec 1 := Scalar.xori (s_v219 t) 1#1
def s_v880 : BitVec 1 := Scalar.andi (s_v878 t) (s_v879 t)
def s_v881 : BitVec 32 := Scalar.extui (s_v880 t)
def s_v882 : BitVec 1 := Scalar.cmpi .ne (s_v881 t) 0#32
def s_v884 : BitVec 1 := Scalar.cmpi .ne (s_v364 t) (s_v552 t)
def s_v885 : BitVec 1 := Scalar.xori (s_v219 t) 1#1
def s_v886 : BitVec 1 := Scalar.andi (s_v884 t) (s_v885 t)
def s_v887 : BitVec 32 := Scalar.extui (s_v886 t)
def s_v888 : BitVec 1 := Scalar.cmpi .ne (s_v887 t) 0#32
def s_v890 : BitVec 1 := Scalar.cmpi .ne (s_v378 t) (s_v560 t)
def s_v891 : BitVec 1 := Scalar.xori (s_v219 t) 1#1
def s_v892 : BitVec 1 := Scalar.andi (s_v890 t) (s_v891 t)
def s_v893 : BitVec 32 := Scalar.extui (s_v892 t)
def s_v894 : BitVec 1 := Scalar.cmpi .ne (s_v893 t) 0#32
def s_v896 : BitVec 1 := Scalar.cmpi .ne (s_v392 t) (s_v568 t)
def s_v897 : BitVec 1 := Scalar.xori (s_v219 t) 1#1
def s_v898 : BitVec 1 := Scalar.andi (s_v896 t) (s_v897 t)
def s_v899 : BitVec 32 := Scalar.extui (s_v898 t)
def s_v900 : BitVec 1 := Scalar.cmpi .ne (s_v899 t) 0#32
def s_v902 : BitVec 1 := Scalar.cmpi .ne (s_v406 t) (s_v576 t)
def s_v903 : BitVec 1 := Scalar.xori (s_v219 t) 1#1
def s_v904 : BitVec 1 := Scalar.andi (s_v902 t) (s_v903 t)
def s_v905 : BitVec 32 := Scalar.extui (s_v904 t)
def s_v906 : BitVec 1 := Scalar.cmpi .ne (s_v905 t) 0#32
def s_v908 : BitVec 1 := Scalar.cmpi .ne (s_v420 t) (s_v584 t)
def s_v909 : BitVec 1 := Scalar.xori (s_v219 t) 1#1
def s_v910 : BitVec 1 := Scalar.andi (s_v908 t) (s_v909 t)
def s_v911 : BitVec 32 := Scalar.extui (s_v910 t)
def s_v912 : BitVec 1 := Scalar.cmpi .ne (s_v911 t) 0#32
def s_v914 : BitVec 1 := Scalar.cmpi .ne (s_v434 t) (s_v592 t)
def s_v915 : BitVec 1 := Scalar.xori (s_v219 t) 1#1
def s_v916 : BitVec 1 := Scalar.andi (s_v914 t) (s_v915 t)
def s_v917 : BitVec 32 := Scalar.extui (s_v916 t)
def s_v918 : BitVec 1 := Scalar.cmpi .ne (s_v917 t) 0#32
def s_v920 : BitVec 1 := Scalar.cmpi .ne (s_v448 t) (s_v600 t)
def s_v921 : BitVec 1 := Scalar.xori (s_v219 t) 1#1
def s_v922 : BitVec 1 := Scalar.andi (s_v920 t) (s_v921 t)
def s_v923 : BitVec 32 := Scalar.extui (s_v922 t)
def s_v924 : BitVec 1 := Scalar.cmpi .ne (s_v923 t) 0#32
def s_v926 : BitVec 1 := Scalar.cmpi .ne (s_v221 t) (s_v226 t)
def s_v927 : BitVec 1 := Scalar.xori (s_v219 t) 1#1
def s_v928 : BitVec 1 := Scalar.andi (s_v926 t) (s_v927 t)
def s_v929 : BitVec 32 := Scalar.extui (s_v928 t)
def s_v930 : BitVec 1 := Scalar.cmpi .ne (s_v929 t) 0#32
def s_v932 : BitVec 1 := Scalar.cmpi .ne (s_v221 t) (s_v226 t)
def s_v933 : BitVec 1 := Scalar.xori (s_v219 t) 1#1
def s_v934 : BitVec 1 := Scalar.andi (s_v932 t) (s_v933 t)
def s_v937 : BitVec 1 := Scalar.andi (s_v934 t) 1#1
def s_v938 : BitVec 32 := Scalar.addi (prv t.val) 1#32
def s_v939 : BitVec 32 := Scalar.select (s_v937 t) (s_v938 t) (prv t.val)
def s_v940 : BitVec 1 := Scalar.cmpi .ne (s_v221 t) (s_v226 t)
def s_v941 : BitVec 1 := Scalar.xori (s_v219 t) 1#1
def s_v942 : BitVec 1 := Scalar.andi (s_v940 t) (s_v941 t)
def s_v945 : BitVec 1 := Scalar.andi (s_v942 t) 1#1
def s_v946 : BitVec 32 := Scalar.addi (prv t.val) 1#32
def s_v947 : BitVec 32 := Scalar.select (s_v945 t) (s_v946 t) (prv t.val)
def s_v948 : BitVec 1 := Scalar.cmpi .ne (s_v238 t) (s_v240 t)
def s_v949 : BitVec 1 := Scalar.ori (s_v948 t) (s_v220 t)
def s_v950 : BitVec 32 := Scalar.addi (con 16 t.val) 1#32
def s_v951 : BitVec 32 := Scalar.select (s_v949 t) (s_v950 t) (con 16 t.val)
def s_v952 : BitVec 1 := Scalar.cmpi .ne (s_v252 t) (s_v254 t)
def s_v953 : BitVec 1 := Scalar.ori (s_v952 t) (s_v220 t)
def s_v954 : BitVec 32 := Scalar.addi (con 16 t.val) 1#32
def s_v955 : BitVec 32 := Scalar.select (s_v953 t) (s_v954 t) (con 16 t.val)
def s_v956 : BitVec 1 := Scalar.cmpi .ne (s_v266 t) (s_v268 t)
def s_v957 : BitVec 1 := Scalar.ori (s_v956 t) (s_v220 t)
def s_v958 : BitVec 32 := Scalar.addi (con 16 t.val) 1#32
def s_v959 : BitVec 32 := Scalar.select (s_v957 t) (s_v958 t) (con 16 t.val)
def s_v960 : BitVec 1 := Scalar.cmpi .ne (s_v280 t) (s_v282 t)
def s_v961 : BitVec 1 := Scalar.ori (s_v960 t) (s_v220 t)
def s_v962 : BitVec 32 := Scalar.addi (con 16 t.val) 1#32
def s_v963 : BitVec 32 := Scalar.select (s_v961 t) (s_v962 t) (con 16 t.val)
def s_v964 : BitVec 1 := Scalar.cmpi .ne (s_v294 t) (s_v296 t)
def s_v965 : BitVec 1 := Scalar.ori (s_v964 t) (s_v220 t)
def s_v966 : BitVec 32 := Scalar.addi (con 16 t.val) 1#32
def s_v967 : BitVec 32 := Scalar.select (s_v965 t) (s_v966 t) (con 16 t.val)
def s_v968 : BitVec 1 := Scalar.cmpi .ne (s_v308 t) (s_v310 t)
def s_v969 : BitVec 1 := Scalar.ori (s_v968 t) (s_v220 t)
def s_v970 : BitVec 32 := Scalar.addi (con 16 t.val) 1#32
def s_v971 : BitVec 32 := Scalar.select (s_v969 t) (s_v970 t) (con 16 t.val)
def s_v972 : BitVec 1 := Scalar.cmpi .ne (s_v322 t) (s_v324 t)
def s_v973 : BitVec 1 := Scalar.ori (s_v972 t) (s_v220 t)
def s_v974 : BitVec 32 := Scalar.addi (con 16 t.val) 1#32
def s_v975 : BitVec 32 := Scalar.select (s_v973 t) (s_v974 t) (con 16 t.val)
def s_v976 : BitVec 1 := Scalar.cmpi .ne (s_v336 t) (s_v338 t)
def s_v977 : BitVec 1 := Scalar.ori (s_v976 t) (s_v220 t)
def s_v978 : BitVec 32 := Scalar.addi (con 11 t.val) 1#32
def s_v979 : BitVec 32 := Scalar.select (s_v977 t) (s_v978 t) (con 11 t.val)
def s_v980 : BitVec 1 := Scalar.cmpi .ne (s_v350 t) (s_v352 t)
def s_v981 : BitVec 1 := Scalar.ori (s_v980 t) (s_v220 t)
def s_v982 : BitVec 32 := Scalar.addi (con 16 t.val) 1#32
def s_v983 : BitVec 32 := Scalar.select (s_v981 t) (s_v982 t) (con 16 t.val)
def s_v984 : BitVec 1 := Scalar.cmpi .ne (s_v364 t) (s_v366 t)
def s_v985 : BitVec 1 := Scalar.ori (s_v984 t) (s_v220 t)
def s_v986 : BitVec 32 := Scalar.addi (con 16 t.val) 1#32
def s_v987 : BitVec 32 := Scalar.select (s_v985 t) (s_v986 t) (con 16 t.val)
def s_v988 : BitVec 1 := Scalar.cmpi .ne (s_v378 t) (s_v380 t)
def s_v989 : BitVec 1 := Scalar.ori (s_v988 t) (s_v220 t)
def s_v990 : BitVec 32 := Scalar.addi (con 16 t.val) 1#32
def s_v991 : BitVec 32 := Scalar.select (s_v989 t) (s_v990 t) (con 16 t.val)
def s_v992 : BitVec 1 := Scalar.cmpi .ne (s_v392 t) (s_v394 t)
def s_v993 : BitVec 1 := Scalar.ori (s_v992 t) (s_v220 t)
def s_v994 : BitVec 32 := Scalar.addi (con 16 t.val) 1#32
def s_v995 : BitVec 32 := Scalar.select (s_v993 t) (s_v994 t) (con 16 t.val)
def s_v996 : BitVec 1 := Scalar.cmpi .ne (s_v406 t) (s_v408 t)
def s_v997 : BitVec 1 := Scalar.ori (s_v996 t) (s_v220 t)
def s_v998 : BitVec 32 := Scalar.addi (con 16 t.val) 1#32
def s_v999 : BitVec 32 := Scalar.select (s_v997 t) (s_v998 t) (con 16 t.val)
def s_v1000 : BitVec 1 := Scalar.cmpi .ne (s_v420 t) (s_v422 t)
def s_v1001 : BitVec 1 := Scalar.ori (s_v1000 t) (s_v220 t)

end

end Cert.Proof

end
-- ==== Proof.ScanFacts.lean ====
/-
  What the scan computes for its slots and blocks at each trip.
-/
module

public import proofs.«01_k».proof.Proof.ScanDefs

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem cond1_iff : ∀ t : Fin k0_t1_loop.trips, (k0_cond1 t (cyc t) = 1#1 ↔ t.val + 1 < 16) := by decide +kernel
theorem off5_at : ∀ t : Fin k0_t1_loop.trips, t.val + 1 < 16 → k0_off5 (iss 16 t.val) = ![(sl (t.val + 1)).val] := by decide +kernel
theorem off6_at : ∀ t : Fin k0_t1_loop.trips, t.val + 1 < 16 → k0_off6 (iss 16 t.val) = ![(sl (t.val + 1)).val, 0, 0] := by decide +kernel
theorem off7_at : ∀ t : Fin k0_t1_loop.trips, t.val + 1 < 16 → k0_off7 (cyc t.val) = ![0, 8192 * min (0 + (t.val + 1)) 122] := by decide +kernel
theorem cond2_iff : ∀ t : Fin k0_t1_loop.trips, (k0_cond2 t (cyc t) = 1#1 ↔ t.val + 1 < 16) := by decide +kernel
theorem off8_at : ∀ t : Fin k0_t1_loop.trips, t.val + 1 < 16 → k0_off8 (iss 16 t.val) = ![(sl (t.val + 1)).val] := by decide +kernel
theorem off9_at : ∀ t : Fin k0_t1_loop.trips, t.val + 1 < 16 → k0_off9 (iss 16 t.val) = ![(sl (t.val + 1)).val, 0, 0] := by decide +kernel
theorem off10_at : ∀ t : Fin k0_t1_loop.trips, t.val + 1 < 16 → k0_off10 (cyc t.val) = ![0, 8192 * min (16 + (t.val + 1)) 122] := by decide +kernel
theorem cond3_iff : ∀ t : Fin k0_t1_loop.trips, (k0_cond3 t (cyc t) = 1#1 ↔ t.val + 1 < 16) := by decide +kernel
theorem off11_at : ∀ t : Fin k0_t1_loop.trips, t.val + 1 < 16 → k0_off11 (iss 16 t.val) = ![(sl (t.val + 1)).val] := by decide +kernel
theorem off12_at : ∀ t : Fin k0_t1_loop.trips, t.val + 1 < 16 → k0_off12 (iss 16 t.val) = ![(sl (t.val + 1)).val, 0, 0] := by decide +kernel
theorem off13_at : ∀ t : Fin k0_t1_loop.trips, t.val + 1 < 16 → k0_off13 (cyc t.val) = ![0, 8192 * min (32 + (t.val + 1)) 122] := by decide +kernel
theorem cond4_iff : ∀ t : Fin k0_t1_loop.trips, (k0_cond4 t (cyc t) = 1#1 ↔ t.val + 1 < 16) := by decide +kernel
theorem off14_at : ∀ t : Fin k0_t1_loop.trips, t.val + 1 < 16 → k0_off14 (iss 16 t.val) = ![(sl (t.val + 1)).val] := by decide +kernel
theorem off15_at : ∀ t : Fin k0_t1_loop.trips, t.val + 1 < 16 → k0_off15 (iss 16 t.val) = ![(sl (t.val + 1)).val, 0, 0] := by decide +kernel
theorem off16_at : ∀ t : Fin k0_t1_loop.trips, t.val + 1 < 16 → k0_off16 (cyc t.val) = ![0, 8192 * min (48 + (t.val + 1)) 122] := by decide +kernel
theorem cond5_iff : ∀ t : Fin k0_t1_loop.trips, (k0_cond5 t (cyc t) = 1#1 ↔ t.val + 1 < 16) := by decide +kernel
theorem off17_at : ∀ t : Fin k0_t1_loop.trips, t.val + 1 < 16 → k0_off17 (iss 16 t.val) = ![(sl (t.val + 1)).val] := by decide +kernel
theorem off18_at : ∀ t : Fin k0_t1_loop.trips, t.val + 1 < 16 → k0_off18 (iss 16 t.val) = ![(sl (t.val + 1)).val, 0, 0] := by decide +kernel
theorem off19_at : ∀ t : Fin k0_t1_loop.trips, t.val + 1 < 16 → k0_off19 (cyc t.val) = ![0, 8192 * min (64 + (t.val + 1)) 122] := by decide +kernel
theorem cond6_iff : ∀ t : Fin k0_t1_loop.trips, (k0_cond6 t (cyc t) = 1#1 ↔ t.val + 1 < 16) := by decide +kernel
theorem off20_at : ∀ t : Fin k0_t1_loop.trips, t.val + 1 < 16 → k0_off20 (iss 16 t.val) = ![(sl (t.val + 1)).val] := by decide +kernel
theorem off21_at : ∀ t : Fin k0_t1_loop.trips, t.val + 1 < 16 → k0_off21 (iss 16 t.val) = ![(sl (t.val + 1)).val, 0, 0] := by decide +kernel
theorem off22_at : ∀ t : Fin k0_t1_loop.trips, t.val + 1 < 16 → k0_off22 (cyc t.val) = ![0, 8192 * min (80 + (t.val + 1)) 122] := by decide +kernel
theorem cond7_iff : ∀ t : Fin k0_t1_loop.trips, (k0_cond7 t (cyc t) = 1#1 ↔ t.val + 1 < 16) := by decide +kernel
theorem off23_at : ∀ t : Fin k0_t1_loop.trips, t.val + 1 < 16 → k0_off23 (iss 16 t.val) = ![(sl (t.val + 1)).val] := by decide +kernel
theorem off24_at : ∀ t : Fin k0_t1_loop.trips, t.val + 1 < 16 → k0_off24 (iss 16 t.val) = ![(sl (t.val + 1)).val, 0, 0] := by decide +kernel
theorem off25_at : ∀ t : Fin k0_t1_loop.trips, t.val + 1 < 16 → k0_off25 (cyc t.val) = ![0, 8192 * min (96 + (t.val + 1)) 122] := by decide +kernel
theorem cond8_iff : ∀ t : Fin k0_t1_loop.trips, (k0_cond8 t (cyc t) = 1#1 ↔ t.val + 1 < 11) := by decide +kernel
theorem off26_at : ∀ t : Fin k0_t1_loop.trips, t.val + 1 < 11 → k0_off26 (iss 11 t.val) = ![(sl (t.val + 1)).val] := by decide +kernel
theorem off27_at : ∀ t : Fin k0_t1_loop.trips, t.val + 1 < 11 → k0_off27 (iss 11 t.val) = ![(sl (t.val + 1)).val, 0, 0] := by decide +kernel
theorem off28_at : ∀ t : Fin k0_t1_loop.trips, t.val + 1 < 11 → k0_off28 (cyc t.val) = ![0, 8192 * min (112 + (t.val + 1)) 122] := by decide +kernel
theorem cond9_iff : ∀ t : Fin k0_t1_loop.trips, (k0_cond9 t (cyc t) = 1#1 ↔ t.val + 1 < 16) := by decide +kernel
theorem off29_at : ∀ t : Fin k0_t1_loop.trips, t.val + 1 < 16 → k0_off29 (iss 16 t.val) = ![(sl (t.val + 1)).val] := by decide +kernel
theorem off30_at : ∀ t : Fin k0_t1_loop.trips, t.val + 1 < 16 → k0_off30 (iss 16 t.val) = ![(sl (t.val + 1)).val, 0, 0] := by decide +kernel
theorem off31_at : ∀ t : Fin k0_t1_loop.trips, t.val + 1 < 16 → k0_off31 (cyc t.val) = ![0, 8192 * min (0 + (t.val + 1)) 122] := by decide +kernel
theorem cond10_iff : ∀ t : Fin k0_t1_loop.trips, (k0_cond10 t (cyc t) = 1#1 ↔ t.val + 1 < 16) := by decide +kernel
theorem off32_at : ∀ t : Fin k0_t1_loop.trips, t.val + 1 < 16 → k0_off32 (iss 16 t.val) = ![(sl (t.val + 1)).val] := by decide +kernel
theorem off33_at : ∀ t : Fin k0_t1_loop.trips, t.val + 1 < 16 → k0_off33 (iss 16 t.val) = ![(sl (t.val + 1)).val, 0, 0] := by decide +kernel
theorem off34_at : ∀ t : Fin k0_t1_loop.trips, t.val + 1 < 16 → k0_off34 (cyc t.val) = ![0, 8192 * min (16 + (t.val + 1)) 122] := by decide +kernel
theorem cond11_iff : ∀ t : Fin k0_t1_loop.trips, (k0_cond11 t (cyc t) = 1#1 ↔ t.val + 1 < 16) := by decide +kernel
theorem off35_at : ∀ t : Fin k0_t1_loop.trips, t.val + 1 < 16 → k0_off35 (iss 16 t.val) = ![(sl (t.val + 1)).val] := by decide +kernel
theorem off36_at : ∀ t : Fin k0_t1_loop.trips, t.val + 1 < 16 → k0_off36 (iss 16 t.val) = ![(sl (t.val + 1)).val, 0, 0] := by decide +kernel
theorem off37_at : ∀ t : Fin k0_t1_loop.trips, t.val + 1 < 16 → k0_off37 (cyc t.val) = ![0, 8192 * min (32 + (t.val + 1)) 122] := by decide +kernel
theorem cond12_iff : ∀ t : Fin k0_t1_loop.trips, (k0_cond12 t (cyc t) = 1#1 ↔ t.val + 1 < 16) := by decide +kernel
theorem off38_at : ∀ t : Fin k0_t1_loop.trips, t.val + 1 < 16 → k0_off38 (iss 16 t.val) = ![(sl (t.val + 1)).val] := by decide +kernel
theorem off39_at : ∀ t : Fin k0_t1_loop.trips, t.val + 1 < 16 → k0_off39 (iss 16 t.val) = ![(sl (t.val + 1)).val, 0, 0] := by decide +kernel
theorem off40_at : ∀ t : Fin k0_t1_loop.trips, t.val + 1 < 16 → k0_off40 (cyc t.val) = ![0, 8192 * min (48 + (t.val + 1)) 122] := by decide +kernel
theorem cond13_iff : ∀ t : Fin k0_t1_loop.trips, (k0_cond13 t (cyc t) = 1#1 ↔ t.val + 1 < 16) := by decide +kernel
theorem off41_at : ∀ t : Fin k0_t1_loop.trips, t.val + 1 < 16 → k0_off41 (iss 16 t.val) = ![(sl (t.val + 1)).val] := by decide +kernel
theorem off42_at : ∀ t : Fin k0_t1_loop.trips, t.val + 1 < 16 → k0_off42 (iss 16 t.val) = ![(sl (t.val + 1)).val, 0, 0] := by decide +kernel
theorem off43_at : ∀ t : Fin k0_t1_loop.trips, t.val + 1 < 16 → k0_off43 (cyc t.val) = ![0, 8192 * min (64 + (t.val + 1)) 122] := by decide +kernel
theorem cond14_iff : ∀ t : Fin k0_t1_loop.trips, (k0_cond14 t (cyc t) = 1#1 ↔ t.val + 1 < 16) := by decide +kernel
theorem off44_at : ∀ t : Fin k0_t1_loop.trips, t.val + 1 < 16 → k0_off44 (iss 16 t.val) = ![(sl (t.val + 1)).val] := by decide +kernel
theorem off45_at : ∀ t : Fin k0_t1_loop.trips, t.val + 1 < 16 → k0_off45 (iss 16 t.val) = ![(sl (t.val + 1)).val, 0, 0] := by decide +kernel
theorem off46_at : ∀ t : Fin k0_t1_loop.trips, t.val + 1 < 16 → k0_off46 (cyc t.val) = ![0, 8192 * min (80 + (t.val + 1)) 122] := by decide +kernel
theorem cond15_iff : ∀ t : Fin k0_t1_loop.trips, (k0_cond15 t (cyc t) = 1#1 ↔ t.val + 1 < 16) := by decide +kernel
theorem off47_at : ∀ t : Fin k0_t1_loop.trips, t.val + 1 < 16 → k0_off47 (iss 16 t.val) = ![(sl (t.val + 1)).val] := by decide +kernel
theorem off48_at : ∀ t : Fin k0_t1_loop.trips, t.val + 1 < 16 → k0_off48 (iss 16 t.val) = ![(sl (t.val + 1)).val, 0, 0] := by decide +kernel
theorem off49_at : ∀ t : Fin k0_t1_loop.trips, t.val + 1 < 16 → k0_off49 (cyc t.val) = ![0, 8192 * min (96 + (t.val + 1)) 122] := by decide +kernel
theorem cond16_iff : ∀ t : Fin k0_t1_loop.trips, (k0_cond16 t (cyc t) = 1#1 ↔ t.val + 1 < 11) := by decide +kernel
theorem off50_at : ∀ t : Fin k0_t1_loop.trips, t.val + 1 < 11 → k0_off50 (iss 11 t.val) = ![(sl (t.val + 1)).val] := by decide +kernel
theorem off51_at : ∀ t : Fin k0_t1_loop.trips, t.val + 1 < 11 → k0_off51 (iss 11 t.val) = ![(sl (t.val + 1)).val, 0, 0] := by decide +kernel
theorem off52_at : ∀ t : Fin k0_t1_loop.trips, t.val + 1 < 11 → k0_off52 (cyc t.val) = ![0, 8192 * min (112 + (t.val + 1)) 122] := by decide +kernel
theorem cond17_iff : ∀ t : Fin k0_t1_loop.trips, (k0_cond17 t (cyc t) = 1#1 ↔ t.val + 1 < 16) := by decide +kernel
theorem off53_at : ∀ t : Fin k0_t1_loop.trips, t.val + 1 < 16 → k0_off53 (iss 16 t.val) = ![(sl (t.val + 1)).val] := by decide +kernel
theorem off54_at : ∀ t : Fin k0_t1_loop.trips, t.val + 1 < 16 → k0_off54 (iss 16 t.val) = ![(sl (t.val + 1)).val, 0, 0] := by decide +kernel
theorem off55_at : ∀ t : Fin k0_t1_loop.trips, t.val + 1 < 16 → k0_off55 (cyc t.val) = ![min (t.val + 1) 15, 0] := by decide +kernel
theorem cond18_iff : ∀ t : Fin k0_t1_loop.trips, (k0_cond18 t (cyc t) = 1#1 ↔ t.val < 16) := by decide +kernel
theorem off56_at : ∀ t : Fin k0_t1_loop.trips, t.val < 16 → k0_off56 (con 16 t.val) = ![(sl t.val).val] := by decide +kernel
theorem off57_at : ∀ t : Fin k0_t1_loop.trips, t.val < 16 → k0_off57 (con 16 t.val) = ![(sl t.val).val, 0, 0] := by decide +kernel
theorem cond19_iff : ∀ t : Fin k0_t1_loop.trips, (k0_cond19 t (cyc t) = 1#1 ↔ t.val < 16) := by decide +kernel
theorem off59_at : ∀ t : Fin k0_t1_loop.trips, t.val < 16 → k0_off59 (con 16 t.val) = ![(sl t.val).val] := by decide +kernel
theorem off60_at : ∀ t : Fin k0_t1_loop.trips, t.val < 16 → k0_off60 (con 16 t.val) = ![(sl t.val).val, 0, 0] := by decide +kernel
theorem cond20_iff : ∀ t : Fin k0_t1_loop.trips, (k0_cond20 t (cyc t) = 1#1 ↔ t.val < 16) := by decide +kernel
theorem off62_at : ∀ t : Fin k0_t1_loop.trips, t.val < 16 → k0_off62 (con 16 t.val) = ![(sl t.val).val] := by decide +kernel
theorem off63_at : ∀ t : Fin k0_t1_loop.trips, t.val < 16 → k0_off63 (con 16 t.val) = ![(sl t.val).val, 0, 0] := by decide +kernel
theorem cond21_iff : ∀ t : Fin k0_t1_loop.trips, (k0_cond21 t (cyc t) = 1#1 ↔ t.val < 16) := by decide +kernel
theorem off65_at : ∀ t : Fin k0_t1_loop.trips, t.val < 16 → k0_off65 (con 16 t.val) = ![(sl t.val).val] := by decide +kernel
theorem off66_at : ∀ t : Fin k0_t1_loop.trips, t.val < 16 → k0_off66 (con 16 t.val) = ![(sl t.val).val, 0, 0] := by decide +kernel
theorem cond22_iff : ∀ t : Fin k0_t1_loop.trips, (k0_cond22 t (cyc t) = 1#1 ↔ t.val < 16) := by decide +kernel
theorem off68_at : ∀ t : Fin k0_t1_loop.trips, t.val < 16 → k0_off68 (con 16 t.val) = ![(sl t.val).val] := by decide +kernel
theorem off69_at : ∀ t : Fin k0_t1_loop.trips, t.val < 16 → k0_off69 (con 16 t.val) = ![(sl t.val).val, 0, 0] := by decide +kernel
theorem cond23_iff : ∀ t : Fin k0_t1_loop.trips, (k0_cond23 t (cyc t) = 1#1 ↔ t.val < 16) := by decide +kernel
theorem off71_at : ∀ t : Fin k0_t1_loop.trips, t.val < 16 → k0_off71 (con 16 t.val) = ![(sl t.val).val] := by decide +kernel
theorem off72_at : ∀ t : Fin k0_t1_loop.trips, t.val < 16 → k0_off72 (con 16 t.val) = ![(sl t.val).val, 0, 0] := by decide +kernel
theorem cond24_iff : ∀ t : Fin k0_t1_loop.trips, (k0_cond24 t (cyc t) = 1#1 ↔ t.val < 16) := by decide +kernel
theorem off74_at : ∀ t : Fin k0_t1_loop.trips, t.val < 16 → k0_off74 (con 16 t.val) = ![(sl t.val).val] := by decide +kernel
theorem off75_at : ∀ t : Fin k0_t1_loop.trips, t.val < 16 → k0_off75 (con 16 t.val) = ![(sl t.val).val, 0, 0] := by decide +kernel
theorem cond25_iff : ∀ t : Fin k0_t1_loop.trips, (k0_cond25 t (cyc t) = 1#1 ↔ t.val < 11) := by decide +kernel
theorem off77_at : ∀ t : Fin k0_t1_loop.trips, t.val < 11 → k0_off77 (con 11 t.val) = ![(sl t.val).val] := by decide +kernel
theorem off78_at : ∀ t : Fin k0_t1_loop.trips, t.val < 11 → k0_off78 (con 11 t.val) = ![(sl t.val).val, 0, 0] := by decide +kernel
theorem cond26_iff : ∀ t : Fin k0_t1_loop.trips, (k0_cond26 t (cyc t) = 1#1 ↔ t.val < 16) := by decide +kernel
theorem off80_at : ∀ t : Fin k0_t1_loop.trips, t.val < 16 → k0_off80 (con 16 t.val) = ![(sl t.val).val] := by decide +kernel
theorem off81_at : ∀ t : Fin k0_t1_loop.trips, t.val < 16 → k0_off81 (con 16 t.val) = ![(sl t.val).val, 0, 0] := by decide +kernel
theorem cond27_iff : ∀ t : Fin k0_t1_loop.trips, (k0_cond27 t (cyc t) = 1#1 ↔ t.val < 16) := by decide +kernel
theorem off83_at : ∀ t : Fin k0_t1_loop.trips, t.val < 16 → k0_off83 (con 16 t.val) = ![(sl t.val).val] := by decide +kernel
theorem off84_at : ∀ t : Fin k0_t1_loop.trips, t.val < 16 → k0_off84 (con 16 t.val) = ![(sl t.val).val, 0, 0] := by decide +kernel
theorem cond28_iff : ∀ t : Fin k0_t1_loop.trips, (k0_cond28 t (cyc t) = 1#1 ↔ t.val < 16) := by decide +kernel
theorem off86_at : ∀ t : Fin k0_t1_loop.trips, t.val < 16 → k0_off86 (con 16 t.val) = ![(sl t.val).val] := by decide +kernel
theorem off87_at : ∀ t : Fin k0_t1_loop.trips, t.val < 16 → k0_off87 (con 16 t.val) = ![(sl t.val).val, 0, 0] := by decide +kernel
theorem cond29_iff : ∀ t : Fin k0_t1_loop.trips, (k0_cond29 t (cyc t) = 1#1 ↔ t.val < 16) := by decide +kernel
theorem off89_at : ∀ t : Fin k0_t1_loop.trips, t.val < 16 → k0_off89 (con 16 t.val) = ![(sl t.val).val] := by decide +kernel
theorem off90_at : ∀ t : Fin k0_t1_loop.trips, t.val < 16 → k0_off90 (con 16 t.val) = ![(sl t.val).val, 0, 0] := by decide +kernel
theorem cond30_iff : ∀ t : Fin k0_t1_loop.trips, (k0_cond30 t (cyc t) = 1#1 ↔ t.val < 16) := by decide +kernel
theorem off92_at : ∀ t : Fin k0_t1_loop.trips, t.val < 16 → k0_off92 (con 16 t.val) = ![(sl t.val).val] := by decide +kernel
theorem off93_at : ∀ t : Fin k0_t1_loop.trips, t.val < 16 → k0_off93 (con 16 t.val) = ![(sl t.val).val, 0, 0] := by decide +kernel
theorem cond31_iff : ∀ t : Fin k0_t1_loop.trips, (k0_cond31 t (cyc t) = 1#1 ↔ t.val < 16) := by decide +kernel
theorem off95_at : ∀ t : Fin k0_t1_loop.trips, t.val < 16 → k0_off95 (con 16 t.val) = ![(sl t.val).val] := by decide +kernel
theorem off96_at : ∀ t : Fin k0_t1_loop.trips, t.val < 16 → k0_off96 (con 16 t.val) = ![(sl t.val).val, 0, 0] := by decide +kernel
theorem cond32_iff : ∀ t : Fin k0_t1_loop.trips, (k0_cond32 t (cyc t) = 1#1 ↔ t.val < 16) := by decide +kernel
theorem off98_at : ∀ t : Fin k0_t1_loop.trips, t.val < 16 → k0_off98 (con 16 t.val) = ![(sl t.val).val] := by decide +kernel
theorem off99_at : ∀ t : Fin k0_t1_loop.trips, t.val < 16 → k0_off99 (con 16 t.val) = ![(sl t.val).val, 0, 0] := by decide +kernel
theorem cond33_iff : ∀ t : Fin k0_t1_loop.trips, (k0_cond33 t (cyc t) = 1#1 ↔ t.val < 11) := by decide +kernel
theorem off101_at : ∀ t : Fin k0_t1_loop.trips, t.val < 11 → k0_off101 (con 11 t.val) = ![(sl t.val).val] := by decide +kernel
theorem off102_at : ∀ t : Fin k0_t1_loop.trips, t.val < 11 → k0_off102 (con 11 t.val) = ![(sl t.val).val, 0, 0] := by decide +kernel
theorem cond34_iff : ∀ t : Fin k0_t1_loop.trips, (k0_cond34 t (cyc t) = 1#1 ↔ t.val < 16) := by decide +kernel
theorem off104_at : ∀ t : Fin k0_t1_loop.trips, t.val < 16 → k0_off104 (con 16 t.val) = ![(sl t.val).val] := by decide +kernel
theorem off105_at : ∀ t : Fin k0_t1_loop.trips, t.val < 16 → k0_off105 (con 16 t.val) = ![(sl t.val).val, 0, 0] := by decide +kernel
theorem off107_at : ∀ t : Fin k0_t1_loop.trips, k0_off107 (con 16 t.val) = ![(sl (min t.val (16 - 1))).val, 0, 0] := by decide +kernel
theorem off108_at : ∀ t : Fin k0_t1_loop.trips, k0_off108 (con 16 t.val) = ![(sl (min t.val (16 - 1))).val, 0, 0] := by decide +kernel
theorem off109_at : ∀ t : Fin k0_t1_loop.trips, k0_off109 (con 16 t.val) = ![(sl (min t.val (16 - 1))).val, 0, 0] := by decide +kernel
theorem off110_at : ∀ t : Fin k0_t1_loop.trips, k0_off110 (con 16 t.val) = ![(sl (min t.val (16 - 1))).val, 0, 0] := by decide +kernel
theorem off111_at : ∀ t : Fin k0_t1_loop.trips, k0_off111 (con 16 t.val) = ![(sl (min t.val (16 - 1))).val, 0, 0] := by decide +kernel
theorem off112_at : ∀ t : Fin k0_t1_loop.trips, k0_off112 (con 16 t.val) = ![(sl (min t.val (16 - 1))).val, 0, 0] := by decide +kernel
theorem off113_at : ∀ t : Fin k0_t1_loop.trips, k0_off113 (con 16 t.val) = ![(sl (min t.val (16 - 1))).val, 0, 0] := by decide +kernel
theorem off114_at : ∀ t : Fin k0_t1_loop.trips, k0_off114 (con 16 t.val) = ![(sl (min t.val (16 - 1))).val, 0, 0] := by decide +kernel
theorem off115_at : ∀ t : Fin k0_t1_loop.trips, k0_off115 (con 11 t.val) = ![(sl (min t.val (11 - 1))).val, 0, 0] := by decide +kernel
theorem off116_at : ∀ t : Fin k0_t1_loop.trips, k0_off116 (con 16 t.val) = ![(sl (min t.val (16 - 1))).val, 0, 0] := by decide +kernel
theorem off117_at : ∀ t : Fin k0_t1_loop.trips, k0_off117 (con 16 t.val) = ![(sl (min t.val (16 - 1))).val, 0, 0] := by decide +kernel
theorem off118_at : ∀ t : Fin k0_t1_loop.trips, k0_off118 (con 16 t.val) = ![(sl (min t.val (16 - 1))).val, 0, 0] := by decide +kernel
theorem off119_at : ∀ t : Fin k0_t1_loop.trips, k0_off119 (con 16 t.val) = ![(sl (min t.val (16 - 1))).val, 0, 0] := by decide +kernel
theorem off120_at : ∀ t : Fin k0_t1_loop.trips, k0_off120 (con 16 t.val) = ![(sl (min t.val (16 - 1))).val, 0, 0] := by decide +kernel
theorem off121_at : ∀ t : Fin k0_t1_loop.trips, k0_off121 (con 16 t.val) = ![(sl (min t.val (16 - 1))).val, 0, 0] := by decide +kernel
theorem off122_at : ∀ t : Fin k0_t1_loop.trips, k0_off122 (con 16 t.val) = ![(sl (min t.val (16 - 1))).val, 0, 0] := by decide +kernel
theorem off123_at : ∀ t : Fin k0_t1_loop.trips, k0_off123 (con 11 t.val) = ![(sl (min t.val (11 - 1))).val, 0, 0] := by decide +kernel
theorem off124_at : ∀ t : Fin k0_t1_loop.trips, k0_off124 (iv32 t.val) = ![(sl t.val).val, 0, 0] := by decide +kernel
theorem off125_at : ∀ t : Fin k0_t1_loop.trips, k0_off125 (iv32 t.val) = ![(sl t.val).val, 0, 0] := by decide +kernel
theorem cond54_iff : ∀ t : Fin k0_t1_loop.trips, k0_cond54 t (cyc t) = 1#1 := by decide +kernel
theorem off126_at : ∀ t : Fin k0_t1_loop.trips, k0_off126 (iv32 t.val) = ![(sl t.val).val] := by decide +kernel
theorem off128_at : ∀ t : Fin k0_t1_loop.trips, k0_off128 (iv32 t.val) = ![(sl t.val).val, 0, 0] := by decide +kernel
theorem off127_at : ∀ t : Fin k0_t1_loop.trips, k0_off127 (cyc t.val) = ![8192 * min t.val 15, 0] := by decide +kernel
theorem cond55_iff : ∀ t : Fin k0_t1_loop.trips, k0_cond55 t (cyc t) = 1#1 := by decide +kernel
theorem off129_at : ∀ t : Fin k0_t1_loop.trips, k0_off129 (iv32 t.val) = ![(sl t.val).val] := by decide +kernel
theorem off131_at : ∀ t : Fin k0_t1_loop.trips, k0_off131 (iv32 t.val) = ![(sl t.val).val, 0, 0] := by decide +kernel
theorem off130_at : ∀ t : Fin k0_t1_loop.trips, k0_off130 (cyc t.val) = ![8192 * min t.val 15, 0] := by decide +kernel
theorem cond73_iff : ∀ t : Fin k0_t1_loop.trips, (k0_cond73 t (cyc t) = 1#1 ↔ 0 < t.val) := by decide +kernel
theorem off132_at : ∀ t : Fin k0_t1_loop.trips, 0 < t.val → k0_off132 (prv t.val) = ![(sl (t.val - 1)).val] := by decide +kernel
theorem off133_at : ∀ t : Fin k0_t1_loop.trips, 0 < t.val → k0_off133 (cyc t.val) = ![8192 * min (t.val - 1) 15, 0] := by decide +kernel
theorem cond74_iff : ∀ t : Fin k0_t1_loop.trips, (k0_cond74 t (cyc t) = 1#1 ↔ 0 < t.val) := by decide +kernel
theorem off135_at : ∀ t : Fin k0_t1_loop.trips, 0 < t.val → k0_off135 (prv t.val) = ![(sl (t.val - 1)).val] := by decide +kernel
theorem off136_at : ∀ t : Fin k0_t1_loop.trips, 0 < t.val → k0_off136 (cyc t.val) = ![8192 * min (t.val - 1) 15, 0] := by decide +kernel

end Cert.Proof

end
-- ==== Proof.ScanParts.lean ====
/-
  The pieces of one trip of the scan.
-/
module

public import proofs.«01_k».proof.Proof.ScanFacts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (d : Dev nD) (bd : Option 𝒱₀.V) [FloatOps F]

set_option maxRecDepth 20000

/-- A weight buffer holding `x`. -/
def wt {s : Shape} (al : Memref sig .tc .vmem s .f32) (x : s.Idx → Elt F .f32) : sProp (𝕄 F) :=
  iprop(∃ g, (al.view.loc (d.tc : Thread nD τ) ↦[al.view.set]{fullShare} g) ∗ ⌜al.view.read (Elt F) g = x⌝)

/-- A whole load of a weight buffer. -/
theorem wp_readW {α : Type} {Q : α → sProp (𝕄 F)} {n m : ℕ} {al : Memref sig .tc .vmem (⟨2, ![n, m]⟩ : Shape) .f32} {x}
    {p : ∀ a, (![0, 0] : Fin 2 → ℕ) a + (⟨2, ![n, m]⟩ : Shape).size a ≤ (⟨2, ![n, m]⟩ : Shape).size a}
    {hl : al.view.LoadsAt (Rect.unit (s := (⟨2, ![n, m]⟩ : Shape)) ![0, 0] (⟨2, ![n, m]⟩ : Shape).size p).toLoadRect}
    {J : ((⟨2, ![n, m]⟩ : Shape).Idx → Elt F .f32) → Prog (TpuEff nD τ sig (Elt F) Λ₀ .tc) α} :
    wt d al x ⊢ iprop((wt d al x -∗ wp frame (wpE (defs₀ (F := F)) 𝒱₀ (d.tc : Thread nD τ) bd) Set.univ (J x) Q)
        -∗ wp frame (wpE (defs₀ (F := F)) 𝒱₀ (d.tc : Thread nD τ) bd) Set.univ
          (Prog.lift (.load al (Rect.unit (s := (⟨2, ![n, m]⟩ : Shape)) ![0, 0] (⟨2, ![n, m]⟩ : Shape).size p).toLoadRect hl) >>= J) Q) := by
  unfold wt
  iintro ⟨%f, Hf, %hf⟩ HJ
  have hS : (al.access (Rect.unit (s := (⟨2, ![n, m]⟩ : Shape)) ![0, 0] (⟨2, ![n, m]⟩ : Shape).size p)).set ⊆ al.view.set := View.set_slice_subset _ _
  iapply (wp_load_rect 𝒱₀ (d.tc : Thread nD τ) bd Set.univ (m := al) (r := Rect.unit (s := (⟨2, ![n, m]⟩ : Shape)) ![0, 0] (⟨2, ![n, m]⟩ : Shape).size p) (hl := hl) (k := J) hS) $$ Hf
  iintro Hf
  have e : (al.access (Rect.unit (s := (⟨2, ![n, m]⟩ : Shape)) ![0, 0] (⟨2, ![n, m]⟩ : Shape).size p)).read (Elt F) f = x := by
    rw [← hf]
    funext i
    show al.view.read (Elt F) f ((Rect.unit (s := (⟨2, ![n, m]⟩ : Shape)) ![0, 0] (⟨2, ![n, m]⟩ : Shape).size p).emb i) = al.view.read (Elt F) f i
    congr 1
    funext a
    apply Fin.ext
    show (![0, 0] : Fin 2 → ℕ) a + 1 * (i a).val = (i a).val
    fin_cases a <;> simp
  rw [e]
  iapply HJ
  iexists f
  isplitl [Hf]; · iexact Hf
  ipureintro; exact hf

theorem wp_chk {α : Type} {Q : α → sProp (𝕄 F)} {P : Prop} {dec : Decidable P} {J : PLift P → Prog (TpuEff nD τ sig (Elt F) Λ₀ .tc) α} (h : P) :
    wp frame (wpE (defs₀ (F := F)) 𝒱₀ (d.tc : Thread nD τ) bd) Set.univ (J ⟨h⟩) Q
      ⊢ wp frame (wpE (defs₀ (F := F)) 𝒱₀ (d.tc : Thread nD τ) bd) Set.univ (Prog.lift (.assume P dec) >>= J) Q :=
  wp_assume 𝒱₀ (d.tc : Thread nD τ) bd Set.univ (k := J) h

variable {O : CellTallies nD τ sig (HIx 1)} {𝔹 : Set (SemLoc sig × HIx 1)} (hB : ∀ sm, (sm, none) ∈ 𝔹)
variable {B : Bufs} (C : Ctn F d B)

include hB

theorem part1 (i : grid0.Coords) (t : Fin k0_t1_loop.trips) {Φ : _ → sProp (𝕄 F)} :
    iprop(Φ ⟨(chk20_ok t), (chk19_ok t), (chk18_ok t), (chk17_ok t), (chk16_ok t), (chk15_ok t), (chk14_ok t), (chk13_ok t), (chk12_ok t), (chk11_ok t), (chk10_ok t), (chk9_ok t), (chk8_ok t), (chk7_ok t), (chk6_ok t), (chk5_ok t), (chk4_ok t), (chk3_ok t), (chk2_ok t), (chk1_ok t), (s_arg10 t), (s_v219 t), (s_v220 t), (s_v221 t), (s_v226 t), (s_v231 t), (s_v237 t), 122#32⟩)
      ⊢ wp frame (wpE (defs₀ (F := F)) 𝒱₀ (d.tc : Thread nD τ) bd) Set.univ (k0_part1 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32 1#32 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val)) Φ := by
  rw [k0_part1_eq_skeleton]
  unfold k0_part1_skel
  dsimp only [s_arg10, s_v219, s_v220, s_v221, s_v222, s_v223, s_v224, s_v225, s_v226, s_v227, s_v228, s_v229, s_v230, s_v231, s_v237]
  iintro HΦ
  iapply (wp_chk d bd (chk20_ok t))
  iapply (wp_chk d bd (chk19_ok t))
  iapply (wp_chk d bd (chk18_ok t))
  iapply (wp_chk d bd (chk17_ok t))
  iapply (wp_chk d bd (chk16_ok t))
  iapply (wp_chk d bd (chk15_ok t))
  iapply (wp_chk d bd (chk14_ok t))
  iapply (wp_chk d bd (chk13_ok t))
  iapply (wp_chk d bd (chk12_ok t))
  iapply (wp_chk d bd (chk11_ok t))
  iapply (wp_chk d bd (chk10_ok t))
  iapply (wp_chk d bd (chk9_ok t))
  iapply (wp_chk d bd (chk8_ok t))
  iapply (wp_chk d bd (chk7_ok t))
  iapply (wp_chk d bd (chk6_ok t))
  iapply (wp_chk d bd (chk5_ok t))
  iapply (wp_chk d bd (chk4_ok t))
  iapply (wp_chk d bd (chk3_ok t))
  iapply (wp_chk d bd (chk2_ok t))
  iapply (wp_chk d bd (chk1_ok t))
  rw [wp_pure]
  imodintro
  iexact HΦ

theorem part2 (i : grid0.Coords) (t : Fin k0_t1_loop.trips) {Φ : _ → sProp (𝕄 F)} :
    iprop((w0 C).W0 t.val ∗ (w1 C).W0 t.val ∗ (((w0 C).W1 t.val ∗ (w1 C).W1 t.val) -∗ Φ ⟨(s_v238 t), (s_v240 t), (s_v250 t), (s_v252 t), (s_v254 t), (s_v264 t), (s_v266 t), (s_v268 t), (s_v269 t), (s_v271 t)⟩))
      ⊢ wp frame (wpE (defs₀ (F := F)) 𝒱₀ (d.tc : Thread nD τ) bd) Set.univ (k0_part2 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v237 t) 122#32) Φ := by
  rw [k0_part2_eq_skeleton]
  unfold k0_part2_skel
  dsimp only [s_v238, s_v239, s_v240, s_v241, s_v242, s_v243, s_v244, s_v248, s_v249, s_v250, s_v251, s_v252, s_v253, s_v254, s_v255, s_v256, s_v257, s_v258, s_v262, s_v263, s_v264, s_v265, s_v266, s_v267, s_v268, s_v269, s_v270, s_v271]
  iintro ⟨H0, H1, HΦ⟩
  iapply ((w0 C).wp_issue bd t.val (cond1_iff t)
    (fun h => (srcB_eq _ _ (off7_at t ((cond1_iff t).mp h)) _).symm) (fun h => (slot3_eq _ _ (off6_at t ((cond1_iff t).mp h)) _).symm)
    (fun h => (semOf_eq _ _ (off5_at t ((cond1_iff t).mp h)) _).symm) rfl) $$ H0
  iintro H0
  iapply ((w1 C).wp_issue bd t.val (cond2_iff t)
    (fun h => (srcB_eq _ _ (off10_at t ((cond2_iff t).mp h)) _).symm) (fun h => (slot3_eq _ _ (off9_at t ((cond2_iff t).mp h)) _).symm)
    (fun h => (semOf_eq _ _ (off8_at t ((cond2_iff t).mp h)) _).symm) rfl) $$ H1
  iintro H1
  rw [wp_pure]
  imodintro
  iapply HΦ
  isplitl [H0]; · iexact H0
  iexact H1

theorem part3 (i : grid0.Coords) (t : Fin k0_t1_loop.trips) {Φ : _ → sProp (𝕄 F)} :
    iprop((w2 C).W0 t.val ∗ (w3 C).W0 t.val ∗ (w4 C).W0 t.val ∗ (((w2 C).W1 t.val ∗ (w3 C).W1 t.val ∗ (w4 C).W1 t.val) -∗ Φ ⟨(s_v278 t), (s_v280 t), (s_v282 t), (s_v292 t), (s_v294 t), (s_v296 t), (s_v304 t), 1#32⟩))
      ⊢ wp frame (wpE (defs₀ (F := F)) 𝒱₀ (d.tc : Thread nD τ) bd) Set.univ (k0_part3 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v269 t) (s_v271 t)) Φ := by
  rw [k0_part3_eq_skeleton]
  unfold k0_part3_skel
  dsimp only [s_v272, s_v276, s_v277, s_v278, s_v279, s_v280, s_v281, s_v282, s_v283, s_v284, s_v285, s_v286, s_v290, s_v291, s_v292, s_v293, s_v294, s_v295, s_v296, s_v297, s_v298, s_v299, s_v300, s_v304]
  iintro ⟨H2, H3, H4, HΦ⟩
  iapply ((w2 C).wp_issue bd t.val (cond3_iff t)
    (fun h => (srcB_eq _ _ (off13_at t ((cond3_iff t).mp h)) _).symm) (fun h => (slot3_eq _ _ (off12_at t ((cond3_iff t).mp h)) _).symm)
    (fun h => (semOf_eq _ _ (off11_at t ((cond3_iff t).mp h)) _).symm) rfl) $$ H2
  iintro H2
  iapply ((w3 C).wp_issue bd t.val (cond4_iff t)
    (fun h => (srcB_eq _ _ (off16_at t ((cond4_iff t).mp h)) _).symm) (fun h => (slot3_eq _ _ (off15_at t ((cond4_iff t).mp h)) _).symm)
    (fun h => (semOf_eq _ _ (off14_at t ((cond4_iff t).mp h)) _).symm) rfl) $$ H3
  iintro H3
  iapply ((w4 C).wp_issue bd t.val (cond5_iff t)
    (fun h => (srcB_eq _ _ (off19_at t ((cond5_iff t).mp h)) _).symm) (fun h => (slot3_eq _ _ (off18_at t ((cond5_iff t).mp h)) _).symm)
    (fun h => (semOf_eq _ _ (off17_at t ((cond5_iff t).mp h)) _).symm) rfl) $$ H4
  iintro H4
  rw [wp_pure]
  imodintro
  iapply HΦ
  isplitl [H2]; · iexact H2
  isplitl [H3]; · iexact H3
  iexact H4

theorem part4 (i : grid0.Coords) (t : Fin k0_t1_loop.trips) {Φ : _ → sProp (𝕄 F)} :
    iprop((w5 C).W0 t.val ∗ (w6 C).W0 t.val ∗ (((w5 C).W1 t.val ∗ (w6 C).W1 t.val) -∗ Φ ⟨(s_v306 t), (s_v308 t), (s_v310 t), (s_v320 t), (s_v322 t), (s_v324 t), (s_v334 t), (s_v336 t), (s_v338 t)⟩))
      ⊢ wp frame (wpE (defs₀ (F := F)) 𝒱₀ (d.tc : Thread nD τ) bd) Set.univ (k0_part4 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v304 t) 1#32) Φ := by
  rw [k0_part4_eq_skeleton]
  unfold k0_part4_skel
  dsimp only [s_v305, s_v306, s_v307, s_v308, s_v309, s_v310, s_v311, s_v312, s_v313, s_v314, s_v318, s_v319, s_v320, s_v321, s_v322, s_v323, s_v324, s_v325, s_v326, s_v327, s_v328, s_v332, s_v333, s_v334, s_v335, s_v336, s_v337, s_v338]
  iintro ⟨H5, H6, HΦ⟩
  iapply ((w5 C).wp_issue bd t.val (cond6_iff t)
    (fun h => (srcB_eq _ _ (off22_at t ((cond6_iff t).mp h)) _).symm) (fun h => (slot3_eq _ _ (off21_at t ((cond6_iff t).mp h)) _).symm)
    (fun h => (semOf_eq _ _ (off20_at t ((cond6_iff t).mp h)) _).symm) rfl) $$ H5
  iintro H5
  iapply ((w6 C).wp_issue bd t.val (cond7_iff t)
    (fun h => (srcB_eq _ _ (off25_at t ((cond7_iff t).mp h)) _).symm) (fun h => (slot3_eq _ _ (off24_at t ((cond7_iff t).mp h)) _).symm)
    (fun h => (semOf_eq _ _ (off23_at t ((cond7_iff t).mp h)) _).symm) rfl) $$ H6
  iintro H6
  rw [wp_pure]
  imodintro
  iapply HΦ
  isplitl [H5]; · iexact H5
  iexact H6

theorem part5 (i : grid0.Coords) (t : Fin k0_t1_loop.trips) {Φ : _ → sProp (𝕄 F)} :
    iprop((w7 C).W0 t.val ∗ (w8 C).W0 t.val ∗ (((w7 C).W1 t.val ∗ (w8 C).W1 t.val) -∗ Φ ⟨(s_v348 t), (s_v350 t), (s_v352 t), (s_v362 t), (s_v364 t), (s_v366 t), (s_v370 t), (s_v372 t), 0#32⟩))
      ⊢ wp frame (wpE (defs₀ (F := F)) 𝒱₀ (d.tc : Thread nD τ) bd) Set.univ (k0_part5 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v336 t) (s_v338 t)) Φ := by
  rw [k0_part5_eq_skeleton]
  unfold k0_part5_skel
  dsimp only [s_v339, s_v340, s_v341, s_v342, s_v346, s_v347, s_v348, s_v349, s_v350, s_v351, s_v352, s_v353, s_v354, s_v355, s_v356, s_v360, s_v361, s_v362, s_v363, s_v364, s_v365, s_v366, s_v367, s_v368, s_v369, s_v370, s_v371, s_v372]
  iintro ⟨H7, H8, HΦ⟩
  iapply ((w7 C).wp_issue bd t.val (cond8_iff t)
    (fun h => (srcB_eq _ _ (off28_at t ((cond8_iff t).mp h)) _).symm) (fun h => (slot3_eq _ _ (off27_at t ((cond8_iff t).mp h)) _).symm)
    (fun h => (semOf_eq _ _ (off26_at t ((cond8_iff t).mp h)) _).symm) rfl) $$ H7
  iintro H7
  iapply ((w8 C).wp_issue bd t.val (cond9_iff t)
    (fun h => (srcB_eq _ _ (off31_at t ((cond9_iff t).mp h)) _).symm) (fun h => (slot3_eq _ _ (off30_at t ((cond9_iff t).mp h)) _).symm)
    (fun h => (semOf_eq _ _ (off29_at t ((cond9_iff t).mp h)) _).symm) rfl) $$ H8
  iintro H8
  rw [wp_pure]
  imodintro
  iapply HΦ
  isplitl [H7]; · iexact H7
  iexact H8

theorem part6 (i : grid0.Coords) (t : Fin k0_t1_loop.trips) {Φ : _ → sProp (𝕄 F)} :
    iprop((w9 C).W0 t.val ∗ (w10 C).W0 t.val ∗ (w11 C).W0 t.val ∗ (((w9 C).W1 t.val ∗ (w10 C).W1 t.val ∗ (w11 C).W1 t.val) -∗ Φ ⟨(s_v376 t), (s_v378 t), (s_v380 t), (s_v390 t), (s_v392 t), (s_v394 t), (s_v404 t), (s_v405 t), 122#32⟩))
      ⊢ wp frame (wpE (defs₀ (F := F)) 𝒱₀ (d.tc : Thread nD τ) bd) Set.univ (k0_part6 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v370 t) (s_v372 t) 0#32) Φ := by
  rw [k0_part6_eq_skeleton]
  unfold k0_part6_skel
  dsimp only [s_v374, s_v375, s_v376, s_v377, s_v378, s_v379, s_v380, s_v381, s_v382, s_v383, s_v384, s_v388, s_v389, s_v390, s_v391, s_v392, s_v393, s_v394, s_v395, s_v396, s_v397, s_v398, s_v402, s_v403, s_v404, s_v405]
  iintro ⟨H9, H10, H11, HΦ⟩
  iapply ((w9 C).wp_issue bd t.val (cond10_iff t)
    (fun h => (srcB_eq _ _ (off34_at t ((cond10_iff t).mp h)) _).symm) (fun h => (slot3_eq _ _ (off33_at t ((cond10_iff t).mp h)) _).symm)
    (fun h => (semOf_eq _ _ (off32_at t ((cond10_iff t).mp h)) _).symm) rfl) $$ H9
  iintro H9
  iapply ((w10 C).wp_issue bd t.val (cond11_iff t)
    (fun h => (srcB_eq _ _ (off37_at t ((cond11_iff t).mp h)) _).symm) (fun h => (slot3_eq _ _ (off36_at t ((cond11_iff t).mp h)) _).symm)
    (fun h => (semOf_eq _ _ (off35_at t ((cond11_iff t).mp h)) _).symm) rfl) $$ H10
  iintro H10
  iapply ((w11 C).wp_issue bd t.val (cond12_iff t)
    (fun h => (srcB_eq _ _ (off40_at t ((cond12_iff t).mp h)) _).symm) (fun h => (slot3_eq _ _ (off39_at t ((cond12_iff t).mp h)) _).symm)
    (fun h => (semOf_eq _ _ (off38_at t ((cond12_iff t).mp h)) _).symm) rfl) $$ H11
  iintro H11
  rw [wp_pure]
  imodintro
  iapply HΦ
  isplitl [H9]; · iexact H9
  isplitl [H10]; · iexact H10
  iexact H11

theorem part7 (i : grid0.Coords) (t : Fin k0_t1_loop.trips) {Φ : _ → sProp (𝕄 F)} :
    iprop((w12 C).W0 t.val ∗ (w13 C).W0 t.val ∗ (((w12 C).W1 t.val ∗ (w13 C).W1 t.val) -∗ Φ ⟨(s_v406 t), (s_v408 t), (s_v418 t), (s_v420 t), (s_v422 t), (s_v432 t), (s_v434 t), (s_v436 t), (s_v437 t), (s_v439 t)⟩))
      ⊢ wp frame (wpE (defs₀ (F := F)) 𝒱₀ (d.tc : Thread nD τ) bd) Set.univ (k0_part7 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v405 t) 122#32) Φ := by
  rw [k0_part7_eq_skeleton]
  unfold k0_part7_skel
  dsimp only [s_v406, s_v407, s_v408, s_v409, s_v410, s_v411, s_v412, s_v416, s_v417, s_v418, s_v419, s_v420, s_v421, s_v422, s_v423, s_v424, s_v425, s_v426, s_v430, s_v431, s_v432, s_v433, s_v434, s_v435, s_v436, s_v437, s_v438, s_v439]
  iintro ⟨H12, H13, HΦ⟩
  iapply ((w12 C).wp_issue bd t.val (cond13_iff t)
    (fun h => (srcB_eq _ _ (off43_at t ((cond13_iff t).mp h)) _).symm) (fun h => (slot3_eq _ _ (off42_at t ((cond13_iff t).mp h)) _).symm)
    (fun h => (semOf_eq _ _ (off41_at t ((cond13_iff t).mp h)) _).symm) rfl) $$ H12
  iintro H12
  iapply ((w13 C).wp_issue bd t.val (cond14_iff t)
    (fun h => (srcB_eq _ _ (off46_at t ((cond14_iff t).mp h)) _).symm) (fun h => (slot3_eq _ _ (off45_at t ((cond14_iff t).mp h)) _).symm)
    (fun h => (semOf_eq _ _ (off44_at t ((cond14_iff t).mp h)) _).symm) rfl) $$ H13
  iintro H13
  rw [wp_pure]
  imodintro
  iapply HΦ
  isplitl [H12]; · iexact H12
  iexact H13

theorem part8 (i : grid0.Coords) (t : Fin k0_t1_loop.trips) {Φ : _ → sProp (𝕄 F)} :
    iprop((w14 C).W0 t.val ∗ (w15 C).W0 t.val ∗ (w16 C).W0 t.val ∗ (((w14 C).W1 t.val ∗ (w15 C).W1 t.val ∗ (w16 C).W1 t.val) -∗ Φ ⟨(s_v446 t), (s_v448 t), (s_v450 t), (s_v460 t), (s_v470 t)⟩))
      ⊢ wp frame (wpE (defs₀ (F := F)) 𝒱₀ (d.tc : Thread nD τ) bd) Set.univ (k0_part8 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v221 t) (s_v231 t) (s_v437 t) (s_v439 t)) Φ := by
  rw [k0_part8_eq_skeleton]
  unfold k0_part8_skel
  dsimp only [s_v440, s_v444, s_v445, s_v446, s_v447, s_v448, s_v449, s_v450, s_v451, s_v452, s_v453, s_v454, s_v458, s_v459, s_v460, s_v461, s_v462, s_v463, s_v464, s_v468, s_v469, s_v470]
  iintro ⟨H14, H15, H16, HΦ⟩
  iapply ((w14 C).wp_issue bd t.val (cond15_iff t)
    (fun h => (srcB_eq _ _ (off49_at t ((cond15_iff t).mp h)) _).symm) (fun h => (slot3_eq _ _ (off48_at t ((cond15_iff t).mp h)) _).symm)
    (fun h => (semOf_eq _ _ (off47_at t ((cond15_iff t).mp h)) _).symm) rfl) $$ H14
  iintro H14
  iapply ((w15 C).wp_issue bd t.val (cond16_iff t)
    (fun h => (srcB_eq _ _ (off52_at t ((cond16_iff t).mp h)) _).symm) (fun h => (slot3_eq _ _ (off51_at t ((cond16_iff t).mp h)) _).symm)
    (fun h => (semOf_eq _ _ (off50_at t ((cond16_iff t).mp h)) _).symm) rfl) $$ H15
  iintro H15
  iapply ((w16 C).wp_issue bd t.val (cond17_iff t)
    (fun h => (srcM_eq _ _ (off55_at t ((cond17_iff t).mp h)) _).symm) (fun h => (slotM_eq _ _ (off54_at t ((cond17_iff t).mp h)) _).symm)
    (fun h => (semOf_eq _ _ (off53_at t ((cond17_iff t).mp h)) _).symm) rfl) $$ H16
  iintro H16
  rw [wp_pure]
  imodintro
  iapply HΦ
  isplitl [H14]; · iexact H14
  isplitl [H15]; · iexact H15
  iexact H16

theorem part9 (i : grid0.Coords) (t : Fin k0_t1_loop.trips) {Φ : _ → sProp (𝕄 F)} :
    iprop((w0 C).W1 t.val ∗ (w1 C).W1 t.val ∗ (w2 C).W1 t.val ∗ (w3 C).W1 t.val ∗ Owe F d O 𝔹 ∗ Transfers.MayWaits (d.tc : Thread nD τ) none O ∗ ((((w0 C).W2l t.val ∗ (w0 C).W2r t.val) ∗ ((w1 C).W2l t.val ∗ (w1 C).W2r t.val) ∗ ((w2 C).W2l t.val ∗ (w2 C).W2r t.val) ∗ ((w3 C).W2l t.val ∗ (w3 C).W2r t.val) ∗ Owe F d O 𝔹) -∗ Φ ⟨(s_v480 t), (s_v488 t), (s_v496 t), (s_v504 t), (s_v511 t)⟩))
      ⊢ wp frame (wpE (defs₀ (F := F)) 𝒱₀ (d.tc : Thread nD τ) bd) Set.univ (k0_part9 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v219 t) (s_v221 t) (s_v226 t) (s_v231 t) (s_v238 t) (s_v252 t) (s_v266 t) (s_v280 t)) Φ := by
  rw [k0_part9_eq_skeleton]
  unfold k0_part9_skel
  dsimp only [s_v479, s_v480, s_v487, s_v488, s_v495, s_v496, s_v503, s_v504, s_v511]
  iintro ⟨H0, H1, H2, H3, HO, #HM, HΦ⟩
  iapply ((w0 C).wp_wait bd t.val hB (cond18_iff t)
    (fun h => (slot3_eq _ _ (off57_at t ((cond18_iff t).mp h)) _).symm)
    (fun h => (semOf_eq _ _ (off56_at t ((cond18_iff t).mp h)) _).symm) rfl) $$ [H0 HO]
  · isplitl [H0]; · iexact H0
    isplitl [HO]; · iexact HO
    iexact HM
  iintro ⟨H0, HO⟩
  iapply ((w1 C).wp_wait bd t.val hB (cond19_iff t)
    (fun h => (slot3_eq _ _ (off60_at t ((cond19_iff t).mp h)) _).symm)
    (fun h => (semOf_eq _ _ (off59_at t ((cond19_iff t).mp h)) _).symm) rfl) $$ [H1 HO]
  · isplitl [H1]; · iexact H1
    isplitl [HO]; · iexact HO
    iexact HM
  iintro ⟨H1, HO⟩
  iapply ((w2 C).wp_wait bd t.val hB (cond20_iff t)
    (fun h => (slot3_eq _ _ (off63_at t ((cond20_iff t).mp h)) _).symm)
    (fun h => (semOf_eq _ _ (off62_at t ((cond20_iff t).mp h)) _).symm) rfl) $$ [H2 HO]
  · isplitl [H2]; · iexact H2
    isplitl [HO]; · iexact HO
    iexact HM
  iintro ⟨H2, HO⟩
  iapply ((w3 C).wp_wait bd t.val hB (cond21_iff t)
    (fun h => (slot3_eq _ _ (off66_at t ((cond21_iff t).mp h)) _).symm)
    (fun h => (semOf_eq _ _ (off65_at t ((cond21_iff t).mp h)) _).symm) rfl) $$ [H3 HO]
  · isplitl [H3]; · iexact H3
    isplitl [HO]; · iexact HO
    iexact HM
  iintro ⟨H3, HO⟩
  rw [wp_pure]
  imodintro
  iapply HΦ
  isplitl [H0]; · iexact H0
  isplitl [H1]; · iexact H1
  isplitl [H2]; · iexact H2
  isplitl [H3]; · iexact H3
  iexact HO

theorem part10 (i : grid0.Coords) (t : Fin k0_t1_loop.trips) {Φ : _ → sProp (𝕄 F)} :
    iprop((w4 C).W1 t.val ∗ (w5 C).W1 t.val ∗ (w6 C).W1 t.val ∗ (w7 C).W1 t.val ∗ Owe F d O 𝔹 ∗ Transfers.MayWaits (d.tc : Thread nD τ) none O ∗ ((((w4 C).W2l t.val ∗ (w4 C).W2r t.val) ∗ ((w5 C).W2l t.val ∗ (w5 C).W2r t.val) ∗ ((w6 C).W2l t.val ∗ (w6 C).W2r t.val) ∗ ((w7 C).W2l t.val ∗ (w7 C).W2r t.val) ∗ Owe F d O 𝔹) -∗ Φ ⟨(s_v512 t), (s_v520 t), (s_v528 t), (s_v536 t), (s_v544 t), (s_v549 t)⟩))
      ⊢ wp frame (wpE (defs₀ (F := F)) 𝒱₀ (d.tc : Thread nD τ) bd) Set.univ (k0_part10 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v219 t) (s_v221 t) (s_v226 t) (s_v294 t) (s_v308 t) (s_v322 t) (s_v336 t) (s_v350 t) (s_v511 t)) Φ := by
  rw [k0_part10_eq_skeleton]
  unfold k0_part10_skel
  dsimp only [s_v512, s_v519, s_v520, s_v527, s_v528, s_v535, s_v536, s_v543, s_v544, s_v545, s_v546, s_v547, s_v548, s_v549]
  iintro ⟨H4, H5, H6, H7, HO, #HM, HΦ⟩
  iapply ((w4 C).wp_wait bd t.val hB (cond22_iff t)
    (fun h => (slot3_eq _ _ (off69_at t ((cond22_iff t).mp h)) _).symm)
    (fun h => (semOf_eq _ _ (off68_at t ((cond22_iff t).mp h)) _).symm) rfl) $$ [H4 HO]
  · isplitl [H4]; · iexact H4
    isplitl [HO]; · iexact HO
    iexact HM
  iintro ⟨H4, HO⟩
  iapply ((w5 C).wp_wait bd t.val hB (cond23_iff t)
    (fun h => (slot3_eq _ _ (off72_at t ((cond23_iff t).mp h)) _).symm)
    (fun h => (semOf_eq _ _ (off71_at t ((cond23_iff t).mp h)) _).symm) rfl) $$ [H5 HO]
  · isplitl [H5]; · iexact H5
    isplitl [HO]; · iexact HO
    iexact HM
  iintro ⟨H5, HO⟩
  iapply ((w6 C).wp_wait bd t.val hB (cond24_iff t)
    (fun h => (slot3_eq _ _ (off75_at t ((cond24_iff t).mp h)) _).symm)
    (fun h => (semOf_eq _ _ (off74_at t ((cond24_iff t).mp h)) _).symm) rfl) $$ [H6 HO]
  · isplitl [H6]; · iexact H6
    isplitl [HO]; · iexact HO
    iexact HM
  iintro ⟨H6, HO⟩
  iapply ((w7 C).wp_wait bd t.val hB (cond25_iff t)
    (fun h => (slot3_eq _ _ (off78_at t ((cond25_iff t).mp h)) _).symm)
    (fun h => (semOf_eq _ _ (off77_at t ((cond25_iff t).mp h)) _).symm) rfl) $$ [H7 HO]
  · isplitl [H7]; · iexact H7
    isplitl [HO]; · iexact HO
    iexact HM
  iintro ⟨H7, HO⟩
  rw [wp_pure]
  imodintro
  iapply HΦ
  isplitl [H4]; · iexact H4
  isplitl [H5]; · iexact H5
  isplitl [H6]; · iexact H6
  isplitl [H7]; · iexact H7
  iexact HO

theorem part11 (i : grid0.Coords) (t : Fin k0_t1_loop.trips) {Φ : _ → sProp (𝕄 F)} :
    iprop((w8 C).W1 t.val ∗ (w9 C).W1 t.val ∗ (w10 C).W1 t.val ∗ (w11 C).W1 t.val ∗ (w12 C).W1 t.val ∗ Owe F d O 𝔹 ∗ Transfers.MayWaits (d.tc : Thread nD τ) none O ∗ ((((w8 C).W2l t.val ∗ (w8 C).W2r t.val) ∗ ((w9 C).W2l t.val ∗ (w9 C).W2r t.val) ∗ ((w10 C).W2l t.val ∗ (w10 C).W2r t.val) ∗ ((w11 C).W2l t.val ∗ (w11 C).W2r t.val) ∗ ((w12 C).W2l t.val ∗ (w12 C).W2r t.val) ∗ Owe F d O 𝔹) -∗ Φ ⟨(s_v552 t), (s_v560 t), (s_v568 t), (s_v576 t), (s_v584 t), (s_v585 t)⟩))
      ⊢ wp frame (wpE (defs₀ (F := F)) 𝒱₀ (d.tc : Thread nD τ) bd) Set.univ (k0_part11 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v219 t) (s_v221 t) (s_v226 t) (s_v364 t) (s_v378 t) (s_v392 t) (s_v406 t) (s_v420 t) (s_v549 t)) Φ := by
  rw [k0_part11_eq_skeleton]
  unfold k0_part11_skel
  dsimp only [s_v551, s_v552, s_v559, s_v560, s_v567, s_v568, s_v575, s_v576, s_v583, s_v584, s_v585]
  iintro ⟨H8, H9, H10, H11, H12, HO, #HM, HΦ⟩
  iapply ((w8 C).wp_wait bd t.val hB (cond26_iff t)
    (fun h => (slot3_eq _ _ (off81_at t ((cond26_iff t).mp h)) _).symm)
    (fun h => (semOf_eq _ _ (off80_at t ((cond26_iff t).mp h)) _).symm) rfl) $$ [H8 HO]
  · isplitl [H8]; · iexact H8
    isplitl [HO]; · iexact HO
    iexact HM
  iintro ⟨H8, HO⟩
  iapply ((w9 C).wp_wait bd t.val hB (cond27_iff t)
    (fun h => (slot3_eq _ _ (off84_at t ((cond27_iff t).mp h)) _).symm)
    (fun h => (semOf_eq _ _ (off83_at t ((cond27_iff t).mp h)) _).symm) rfl) $$ [H9 HO]
  · isplitl [H9]; · iexact H9
    isplitl [HO]; · iexact HO
    iexact HM
  iintro ⟨H9, HO⟩
  iapply ((w10 C).wp_wait bd t.val hB (cond28_iff t)
    (fun h => (slot3_eq _ _ (off87_at t ((cond28_iff t).mp h)) _).symm)
    (fun h => (semOf_eq _ _ (off86_at t ((cond28_iff t).mp h)) _).symm) rfl) $$ [H10 HO]
  · isplitl [H10]; · iexact H10
    isplitl [HO]; · iexact HO
    iexact HM
  iintro ⟨H10, HO⟩
  iapply ((w11 C).wp_wait bd t.val hB (cond29_iff t)
    (fun h => (slot3_eq _ _ (off90_at t ((cond29_iff t).mp h)) _).symm)
    (fun h => (semOf_eq _ _ (off89_at t ((cond29_iff t).mp h)) _).symm) rfl) $$ [H11 HO]
  · isplitl [H11]; · iexact H11
    isplitl [HO]; · iexact HO
    iexact HM
  iintro ⟨H11, HO⟩
  iapply ((w12 C).wp_wait bd t.val hB (cond30_iff t)
    (fun h => (slot3_eq _ _ (off93_at t ((cond30_iff t).mp h)) _).symm)
    (fun h => (semOf_eq _ _ (off92_at t ((cond30_iff t).mp h)) _).symm) rfl) $$ [H12 HO]
  · isplitl [H12]; · iexact H12
    isplitl [HO]; · iexact HO
    iexact HM
  iintro ⟨H12, HO⟩
  rw [wp_pure]
  imodintro
  iapply HΦ
  isplitl [H8]; · iexact H8
  isplitl [H9]; · iexact H9
  isplitl [H10]; · iexact H10
  isplitl [H11]; · iexact H11
  isplitl [H12]; · iexact H12
  iexact HO

theorem part12 (i : grid0.Coords) (t : Fin k0_t1_loop.trips) {Φ : _ → sProp (𝕄 F)} :
    iprop((w13 C).W1 t.val ∗ (w14 C).W1 t.val ∗ (w15 C).W1 t.val ∗ (w16 C).W1 t.val ∗ Owe F d O 𝔹 ∗ Transfers.MayWaits (d.tc : Thread nD τ) none O ∗ ((((w13 C).W2l t.val ∗ (w13 C).W2r t.val) ∗ ((w14 C).W2l t.val ∗ (w14 C).W2r t.val) ∗ ((w15 C).W2l t.val ∗ (w15 C).W2r t.val) ∗ ((w16 C).W2l t.val ∗ (w16 C).W2r t.val) ∗ Owe F d O 𝔹) -∗ Φ ⟨(s_v592 t), (s_v600 t), (s_v624 t)⟩))
      ⊢ wp frame (wpE (defs₀ (F := F)) 𝒱₀ (d.tc : Thread nD τ) bd) Set.univ (k0_part12 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_arg10 t) (s_v219 t) (s_v221 t) (s_v226 t) (s_v434 t) (s_v448 t) (s_v585 t)) Φ := by
  rw [k0_part12_eq_skeleton]
  unfold k0_part12_skel
  dsimp only [s_v591, s_v592, s_v599, s_v600, s_v613, s_v614, s_v615, s_v616, s_v617, s_v618, s_v619, s_v620, s_v621, s_v622, s_v623, s_v624]
  simp only [ite_self]
  iintro ⟨H13, H14, H15, H16, HO, #HM, HΦ⟩
  iapply ((w13 C).wp_wait bd t.val hB (cond31_iff t)
    (fun h => (slot3_eq _ _ (off96_at t ((cond31_iff t).mp h)) _).symm)
    (fun h => (semOf_eq _ _ (off95_at t ((cond31_iff t).mp h)) _).symm) rfl) $$ [H13 HO]
  · isplitl [H13]; · iexact H13
    isplitl [HO]; · iexact HO
    iexact HM
  iintro ⟨H13, HO⟩
  iapply ((w14 C).wp_wait bd t.val hB (cond32_iff t)
    (fun h => (slot3_eq _ _ (off99_at t ((cond32_iff t).mp h)) _).symm)
    (fun h => (semOf_eq _ _ (off98_at t ((cond32_iff t).mp h)) _).symm) rfl) $$ [H14 HO]
  · isplitl [H14]; · iexact H14
    isplitl [HO]; · iexact HO
    iexact HM
  iintro ⟨H14, HO⟩
  iapply ((w15 C).wp_wait bd t.val hB (cond33_iff t)
    (fun h => (slot3_eq _ _ (off102_at t ((cond33_iff t).mp h)) _).symm)
    (fun h => (semOf_eq _ _ (off101_at t ((cond33_iff t).mp h)) _).symm) rfl) $$ [H15 HO]
  · isplitl [H15]; · iexact H15
    isplitl [HO]; · iexact HO
    iexact HM
  iintro ⟨H15, HO⟩
  iapply ((w16 C).wp_wait bd t.val hB (cond34_iff t)
    (fun h => (slotM_eq _ _ (off105_at t ((cond34_iff t).mp h)) _).symm)
    (fun h => (semOf_eq _ _ (off104_at t ((cond34_iff t).mp h)) _).symm) rfl) $$ [H16 HO]
  · isplitl [H16]; · iexact H16
    isplitl [HO]; · iexact HO
    iexact HM
  iintro ⟨H16, HO⟩
  rw [wp_pure]
  imodintro
  iapply HΦ
  isplitl [H13]; · iexact H13
  isplitl [H14]; · iexact H14
  isplitl [H15]; · iexact H15
  isplitl [H16]; · iexact H16
  iexact HO

theorem part13 (i : grid0.Coords) (t : Fin k0_t1_loop.trips) {Φ : _ → sProp (𝕄 F)} :
    iprop((w16 C).W2l t.val ∗ (w0 C).W2l t.val ∗ (w1 C).W2l t.val ∗ (w2 C).W2l t.val ∗ (((w16 C).W2l t.val ∗ (w0 C).W2l t.val ∗ (w1 C).W2l t.val ∗ (w2 C).W2l t.val) -∗ Φ ⟨(s_v629 t), (s_v630 t), (s_v631 t), (s_v632 t), (s_v633 t), (s_v634 t), (s_v635 t), (s_v636 t), (s_v637 t), (s_v638 t), (s_v639 t), (s_v640 t), (s_v642 t), (s_v643 t), (p_v646 C t.val), (p_v649 C t.val), (p_v652 C t.val), (p_v655 C t.val)⟩))
      ⊢ wp frame (wpE (defs₀ (F := F)) 𝒱₀ (d.tc : Thread nD τ) bd) Set.univ (k0_part13 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (con 16 t.val) (con 16 t.val) (con 16 t.val) (con 16 t.val) (con 16 t.val) (con 16 t.val) (con 16 t.val) (con 11 t.val) (con 16 t.val) (con 16 t.val) (con 16 t.val) (con 16 t.val) (con 16 t.val) (con 16 t.val) (con 16 t.val) (con 11 t.val) (con 16 t.val) (iv32 t.val) (iv32 t.val) (chk5_ok t) (chk4_ok t) (chk3_ok t) (chk2_ok t) (s_v624 t)) Φ := by
  rw [k0_part13_eq_skeleton]
  unfold k0_part13_skel
  dsimp only
  simp only [ite_self]
  iintro ⟨L16, L0, L1, L2, HΦ⟩
  iapply ((w16 C).wp_read bd t.val (slotM_eq B.alloca_19 _ (off107_at t) _)) $$ L16
  iintro L16
  iapply ((w0 C).wp_read bd t.val (slot3_eq B.alloca _ (off108_at t) _)) $$ L0
  iintro L0
  iapply ((w1 C).wp_read bd t.val (slot3_eq B.alloca_0 _ (off109_at t) _)) $$ L1
  iintro L1
  iapply ((w2 C).wp_read bd t.val (slot3_eq B.alloca_1 _ (off110_at t) _)) $$ L2
  iintro L2
  rw [wp_pure]
  imodintro
  refine Idealize.SL.BI.Entails.trans ?_ (show Φ ⟨(s_v629 t), (s_v630 t), (s_v631 t), (s_v632 t), (s_v633 t), (s_v634 t), (s_v635 t), (s_v636 t), (s_v637 t), (s_v638 t), (s_v639 t), (s_v640 t), (s_v642 t), (s_v643 t), (p_v646 C t.val), (p_v649 C t.val), (p_v652 C t.val), (p_v655 C t.val)⟩ ⊢ _ from .rfl)
  show (_ : sProp (𝕄 F)) ⊢ _
  iintro ⟨⟨⟨⟨HΦ, L16⟩, L0⟩, L1⟩, L2⟩
  iapply HΦ
  isplitl [L16]; · iexact L16
  isplitl [L0]; · iexact L0
  isplitl [L1]; · iexact L1
  iexact L2

theorem part14 (i : grid0.Coords) (t : Fin k0_t1_loop.trips) {Φ : _ → sProp (𝕄 F)} :
    iprop((w3 C).W2l t.val ∗ (w4 C).W2l t.val ∗ (w5 C).W2l t.val ∗ (w6 C).W2l t.val ∗ (w7 C).W2l t.val ∗ (w8 C).W2l t.val ∗ (w9 C).W2l t.val ∗ (w10 C).W2l t.val ∗ (w11 C).W2l t.val ∗ (w12 C).W2l t.val ∗ (w13 C).W2l t.val ∗ (((w3 C).W2l t.val ∗ (w4 C).W2l t.val ∗ (w5 C).W2l t.val ∗ (w6 C).W2l t.val ∗ (w7 C).W2l t.val ∗ (w8 C).W2l t.val ∗ (w9 C).W2l t.val ∗ (w10 C).W2l t.val ∗ (w11 C).W2l t.val ∗ (w12 C).W2l t.val ∗ (w13 C).W2l t.val) -∗ Φ ⟨(p_v673 C t.val), (p_v676 C t.val), (p_v679 C t.val), (p_v682 C t.val), (p_v685 C t.val), (p_v688 C t.val), (p_v691 C t.val)⟩))
      ⊢ wp frame (wpE (defs₀ (F := F)) 𝒱₀ (d.tc : Thread nD τ) bd) Set.univ (k0_part14 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (con 16 t.val) (con 16 t.val) (con 16 t.val) (con 16 t.val) (con 11 t.val) (con 16 t.val) (con 16 t.val) (con 16 t.val) (con 16 t.val) (con 16 t.val) (con 16 t.val) (chk16_ok t) (chk15_ok t) (chk14_ok t) (chk13_ok t) (chk12_ok t) (chk11_ok t) (chk10_ok t) (chk9_ok t) (chk8_ok t) (chk7_ok t) (chk6_ok t) (s_v629 t) (s_v630 t) (s_v631 t) (s_v632 t) (s_v633 t) (s_v634 t) (s_v635 t) (s_v636 t) (s_v637 t) (s_v638 t) (s_v639 t) (p_v646 C t.val) (p_v649 C t.val) (p_v652 C t.val) (p_v655 C t.val)) Φ := by
  rw [k0_part14_eq_skeleton]
  unfold k0_part14_skel
  dsimp only
  iintro ⟨L3, L4, L5, L6, L7, L8, L9, L10, L11, L12, L13, HΦ⟩
  iapply ((w3 C).wp_read bd t.val (slot3_eq B.alloca_2 _ (off111_at t) _)) $$ L3
  iintro L3
  iapply ((w4 C).wp_read bd t.val (slot3_eq B.alloca_3 _ (off112_at t) _)) $$ L4
  iintro L4
  iapply ((w5 C).wp_read bd t.val (slot3_eq B.alloca_4 _ (off113_at t) _)) $$ L5
  iintro L5
  iapply ((w6 C).wp_read bd t.val (slot3_eq B.alloca_5 _ (off114_at t) _)) $$ L6
  iintro L6
  iapply ((w7 C).wp_read bd t.val (slot3_eq B.alloca_6 _ (off115_at t) _)) $$ L7
  iintro L7
  iapply ((w8 C).wp_read bd t.val (slot3_eq B.alloca_7 _ (off116_at t) _)) $$ L8
  iintro L8
  iapply ((w9 C).wp_read bd t.val (slot3_eq B.alloca_8 _ (off117_at t) _)) $$ L9
  iintro L9
  iapply ((w10 C).wp_read bd t.val (slot3_eq B.alloca_9 _ (off118_at t) _)) $$ L10
  iintro L10
  iapply ((w11 C).wp_read bd t.val (slot3_eq B.alloca_10 _ (off119_at t) _)) $$ L11
  iintro L11
  iapply ((w12 C).wp_read bd t.val (slot3_eq B.alloca_11 _ (off120_at t) _)) $$ L12
  iintro L12
  iapply ((w13 C).wp_read bd t.val (slot3_eq B.alloca_12 _ (off121_at t) _)) $$ L13
  iintro L13
  rw [wp_pure]
  imodintro
  refine Idealize.SL.BI.Entails.trans ?_ (show Φ ⟨(p_v673 C t.val), (p_v676 C t.val), (p_v679 C t.val), (p_v682 C t.val), (p_v685 C t.val), (p_v688 C t.val), (p_v691 C t.val)⟩ ⊢ _ from .rfl)
  show (_ : sProp (𝕄 F)) ⊢ _
  iintro ⟨⟨⟨⟨⟨⟨⟨⟨⟨⟨⟨HΦ, L3⟩, L4⟩, L5⟩, L6⟩, L7⟩, L8⟩, L9⟩, L10⟩, L11⟩, L12⟩, L13⟩
  iapply HΦ
  isplitl [L3]; · iexact L3
  isplitl [L4]; · iexact L4
  isplitl [L5]; · iexact L5
  isplitl [L6]; · iexact L6
  isplitl [L7]; · iexact L7
  isplitl [L8]; · iexact L8
  isplitl [L9]; · iexact L9
  isplitl [L10]; · iexact L10
  isplitl [L11]; · iexact L11
  isplitl [L12]; · iexact L12
  iexact L13

theorem part15 (i : grid0.Coords) (t : Fin k0_t1_loop.trips) {Φ : _ → sProp (𝕄 F)} :
    iprop((w14 C).W2l t.val ∗ (w15 C).W2l t.val ∗ wt d B.alloca_15 (B.arg3.view.read (Elt F) C.f3) ∗ wt d B.alloca_17 (B.arg5.view.read (Elt F) C.f5) ∗ wt d B.alloca_16 (B.arg4.view.read (Elt F) C.f4) ∗ (o1 C).slot (sl t.val) ∗ wt d B.alloca_18 (B.arg6.view.read (Elt F) C.f6) ∗ (o2 C).slot (sl t.val) ∗ (((w14 C).W2l t.val ∗ (w15 C).W2l t.val ∗ wt d B.alloca_15 (B.arg3.view.read (Elt F) C.f3) ∗ wt d B.alloca_17 (B.arg5.view.read (Elt F) C.f5) ∗ wt d B.alloca_16 (B.arg4.view.read (Elt F) C.f4) ∗ (o1 C).slotAt (sl t.val) ((o1 C).z t.val) ∗ wt d B.alloca_18 (B.arg6.view.read (Elt F) C.f6) ∗ (o2 C).slotAt (sl t.val) ((o2 C).z t.val)) -∗ Φ (s_v732 t)))
      ⊢ wp frame (wpE (defs₀ (F := F)) 𝒱₀ (d.tc : Thread nD τ) bd) Set.univ (k0_part15 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (con 16 t.val) (con 11 t.val) (iv32 t.val) (iv32 t.val) (chk20_ok t) (chk19_ok t) (chk18_ok t) (chk17_ok t) (s_v220 t) (s_v238 t) (s_v240 t) (s_v640 t) (s_v642 t) (s_v643 t) (p_v646 C t.val) (p_v673 C t.val) (p_v676 C t.val) (p_v679 C t.val) (p_v682 C t.val) (p_v685 C t.val) (p_v688 C t.val) (p_v691 C t.val)) Φ := by
  rw [k0_part15_eq_skeleton]
  unfold k0_part15_skel
  dsimp only [s_v731, s_v732]
  iintro ⟨L14, L15, K3, K5, K4, G1, K6, G2, HΦ⟩
  iapply ((w14 C).wp_read bd t.val (slot3_eq B.alloca_13 _ (off122_at t) _)) $$ L14
  iintro L14
  iapply ((w15 C).wp_read bd t.val (slot3_eq B.alloca_14 _ (off123_at t) _)) $$ L15
  iintro L15
  iapply (wp_readW d bd (al := B.alloca_15)) $$ K3
  iintro K3
  iapply (wp_readW d bd (al := B.alloca_17)) $$ K5
  iintro K5
  iapply (wp_readW d bd (al := B.alloca_16)) $$ K4
  iintro K4
  iapply ((o1 C).wp_peek bd (sl t.val) (slotO_eq B.alloca_20 _ (off124_at t) _) (fun _ => rfl)) $$ G1
  iintro G1
  iapply ((o1 C).wp_fill bd (sl t.val) (slotO_eq B.alloca_20 _ (off124_at t) _)) $$ G1
  iintro G1
  iapply (wp_readW d bd (al := B.alloca_18)) $$ K6
  iintro K6
  iapply ((o2 C).wp_peek bd (sl t.val) (slotO_eq B.alloca_21 _ (off125_at t) _) (fun _ => rfl)) $$ G2
  iintro G2
  iapply ((o2 C).wp_fill bd (sl t.val) (slotO_eq B.alloca_21 _ (off125_at t) _)) $$ G2
  iintro G2
  rw [wp_pure]
  imodintro
  iapply HΦ
  isplitl [L14]; · iexact L14
  isplitl [L15]; · iexact L15
  isplitl [K3]; · iexact K3
  isplitl [K5]; · iexact K5
  isplitl [K4]; · iexact K4
  isplitl [G1]; · iexact G1
  isplitl [K6]; · iexact K6
  iexact G2

theorem part16 (i : grid0.Coords) (t : Fin k0_t1_loop.trips) {Φ : _ → sProp (𝕄 F)} :
    iprop(Φ (s_v767 t))
      ⊢ wp frame (wpE (defs₀ (F := F)) 𝒱₀ (d.tc : Thread nD τ) bd) Set.univ (k0_part16 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (s_v220 t) (s_v252 t) (s_v254 t) (s_v266 t) (s_v268 t) (s_v280 t) (s_v282 t) (s_v294 t) (s_v296 t) (s_v308 t) (s_v310 t) (s_v322 t) (s_v324 t) (s_v336 t) (s_v338 t) (s_v732 t)) Φ := by
  rw [k0_part16_eq_skeleton]
  unfold k0_part16_skel
  dsimp only [s_v733, s_v734, s_v736, s_v737, s_v738, s_v739, s_v741, s_v742, s_v743, s_v744, s_v746, s_v747, s_v748, s_v749, s_v751, s_v752, s_v753, s_v754, s_v756, s_v757, s_v758, s_v759, s_v761, s_v762, s_v763, s_v764, s_v766, s_v767, s_v768, s_v769]
  simp only [ite_self]
  iintro HΦ
  rw [wp_pure]
  imodintro
  iexact HΦ

theorem part17 (i : grid0.Coords) (t : Fin k0_t1_loop.trips) {Φ : _ → sProp (𝕄 F)} :
    iprop(Φ (s_v807 t))
      ⊢ wp frame (wpE (defs₀ (F := F)) 𝒱₀ (d.tc : Thread nD τ) bd) Set.univ (k0_part17 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (s_v220 t) (s_v350 t) (s_v352 t) (s_v364 t) (s_v366 t) (s_v378 t) (s_v380 t) (s_v392 t) (s_v394 t) (s_v406 t) (s_v408 t) (s_v420 t) (s_v422 t) (s_v434 t) (s_v436 t) (s_v448 t) (s_v450 t) (s_v767 t)) Φ := by
  rw [k0_part17_eq_skeleton]
  unfold k0_part17_skel
  dsimp only [s_v771, s_v772, s_v773, s_v774, s_v776, s_v777, s_v778, s_v779, s_v781, s_v782, s_v783, s_v784, s_v786, s_v787, s_v788, s_v789, s_v791, s_v792, s_v793, s_v794, s_v796, s_v797, s_v798, s_v799, s_v801, s_v802, s_v803, s_v804, s_v806, s_v807]
  simp only [ite_self]
  iintro HΦ
  rw [wp_pure]
  imodintro
  iexact HΦ

theorem part18 (i : grid0.Coords) (t : Fin k0_t1_loop.trips) {Φ : _ → sProp (𝕄 F)} :
    iprop(((o1 C).slotAt (sl t.val) ((o1 C).z t.val) ∗ (o1 C).O0r t.val) ∗ ((o2 C).slotAt (sl t.val) ((o2 C).z t.val) ∗ (o2 C).O0r t.val) ∗ (((o1 C).O1 t.val ∗ (o2 C).O1 t.val) -∗ Φ ⟨(s_v822 t), (s_v829 t), (s_v844 t)⟩))
      ⊢ wp frame (wpE (defs₀ (F := F)) 𝒱₀ (d.tc : Thread nD τ) bd) Set.univ (k0_part18 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_v219 t) (s_v220 t) (s_v221 t) (s_v231 t) (s_v238 t) (s_v252 t) (s_v266 t) (s_v480 t) (s_v488 t) (s_v496 t) (s_v807 t)) Φ := by
  rw [k0_part18_eq_skeleton]
  unfold k0_part18_skel
  dsimp only [s_v808, s_v809, s_v811, s_v812, s_v813, s_v814, s_v816, s_v817, s_v820, s_v821, s_v822, s_v823, s_v824, s_v827, s_v828, s_v829, s_v830, s_v831, s_v832, s_v833, s_v834, s_v836, s_v837, s_v838, s_v839, s_v840, s_v842, s_v843, s_v844]
  simp only [ite_self]
  iintro ⟨G1, G2, HΦ⟩
  iapply ((o1 C).wp_issue bd t.val t.isLt (cond54_iff t)
    (fun h => (slotO_eq _ _ (off128_at t) _).symm) (fun h => (outB_eq _ _ (off127_at t) _).symm)
    (fun h => (semOf_eq _ _ (off126_at t) _).symm)) $$ G1
  iintro G1
  iapply ((o2 C).wp_issue bd t.val t.isLt (cond55_iff t)
    (fun h => (slotO_eq _ _ (off131_at t) _).symm) (fun h => (outB_eq _ _ (off130_at t) _).symm)
    (fun h => (semOf_eq _ _ (off129_at t) _).symm)) $$ G2
  iintro G2
  rw [wp_pure]
  imodintro
  iapply HΦ
  isplitl [G1]; · iexact G1
  iexact G2

theorem part19 (i : grid0.Coords) (t : Fin k0_t1_loop.trips) {Φ : _ → sProp (𝕄 F)} :
    iprop(Φ (s_v880 t))
      ⊢ wp frame (wpE (defs₀ (F := F)) 𝒱₀ (d.tc : Thread nD τ) bd) Set.univ (k0_part19 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (s_v219 t) (s_v280 t) (s_v294 t) (s_v308 t) (s_v322 t) (s_v336 t) (s_v350 t) (s_v504 t) (s_v512 t) (s_v520 t) (s_v528 t) (s_v536 t) (s_v544 t) (s_v844 t)) Φ := by
  rw [k0_part19_eq_skeleton]
  unfold k0_part19_skel
  dsimp only [s_v845, s_v846, s_v848, s_v849, s_v850, s_v851, s_v852, s_v854, s_v855, s_v856, s_v857, s_v858, s_v860, s_v861, s_v862, s_v863, s_v864, s_v866, s_v867, s_v868, s_v869, s_v870, s_v872, s_v873, s_v874, s_v875, s_v876, s_v878, s_v879, s_v880]
  simp only [ite_self]
  iintro HΦ
  rw [wp_pure]
  imodintro
  iexact HΦ

theorem part20 (i : grid0.Coords) (t : Fin k0_t1_loop.trips) {Φ : _ → sProp (𝕄 F)} :
    iprop(Φ (s_v916 t))
      ⊢ wp frame (wpE (defs₀ (F := F)) 𝒱₀ (d.tc : Thread nD τ) bd) Set.univ (k0_part20 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (s_v219 t) (s_v364 t) (s_v378 t) (s_v392 t) (s_v406 t) (s_v420 t) (s_v434 t) (s_v552 t) (s_v560 t) (s_v568 t) (s_v576 t) (s_v584 t) (s_v592 t) (s_v880 t)) Φ := by
  rw [k0_part20_eq_skeleton]
  unfold k0_part20_skel
  dsimp only [s_v881, s_v882, s_v884, s_v885, s_v886, s_v887, s_v888, s_v890, s_v891, s_v892, s_v893, s_v894, s_v896, s_v897, s_v898, s_v899, s_v900, s_v902, s_v903, s_v904, s_v905, s_v906, s_v908, s_v909, s_v910, s_v911, s_v912, s_v914, s_v915, s_v916]
  simp only [ite_self]
  iintro HΦ
  rw [wp_pure]
  imodintro
  iexact HΦ

theorem part21 (i : grid0.Coords) (t : Fin k0_t1_loop.trips) {Φ : _ → sProp (𝕄 F)} :
    iprop((o1 C).O1 t.val ∗ (o2 C).O1 t.val ∗ Owe F d O 𝔹 ∗ Transfers.MayWaits (d.tc : Thread nD τ) none O ∗ (((o1 C).O0 (t.val + 1) ∗ (o2 C).O0 (t.val + 1) ∗ Owe F d O 𝔹) -∗ Φ ⟨(s_v939 t), (s_v947 t), (s_v951 t), (s_v953 t), 1#32⟩))
      ⊢ wp frame (wpE (defs₀ (F := F)) 𝒱₀ (d.tc : Thread nD τ) bd) Set.univ (k0_part21 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iv32 t.val) (prv t.val) (iv32 t.val) (prv t.val) (cyc t.val) (chk1_ok t) (s_v219 t) (s_v220 t) (s_v221 t) (s_v226 t) (s_v238 t) (s_v240 t) (s_v252 t) (s_v254 t) (s_v448 t) (s_v600 t) (s_v916 t)) Φ := by
  rw [k0_part21_eq_skeleton]
  unfold k0_part21_skel
  dsimp only [s_v917, s_v918, s_v920, s_v921, s_v922, s_v923, s_v924, s_v926, s_v927, s_v928, s_v929, s_v930, s_v932, s_v933, s_v934, s_v937, s_v938, s_v939, s_v940, s_v941, s_v942, s_v945, s_v946, s_v947, s_v948, s_v949, s_v950, s_v951, s_v952, s_v953]
  simp only [ite_self]
  iintro ⟨G1, G2, HO, #HM, HΦ⟩
  iapply ((o1 C).wp_wait bd t.val hB (cond73_iff t)
    (fun h => (outB_eq _ _ (off133_at t ((cond73_iff t).mp h)) _).symm)
    (fun h => (semOf_eq _ _ (off132_at t ((cond73_iff t).mp h)) _).symm) rfl) $$ [G1 HO]
  · isplitl [G1]; · iexact G1
    isplitl [HO]; · iexact HO
    iexact HM
  iintro ⟨G1, HO⟩
  iapply ((o2 C).wp_wait bd t.val hB (cond74_iff t)
    (fun h => (outB_eq _ _ (off136_at t ((cond74_iff t).mp h)) _).symm)
    (fun h => (semOf_eq _ _ (off135_at t ((cond74_iff t).mp h)) _).symm) rfl) $$ [G2 HO]
  · isplitl [G2]; · iexact G2
    isplitl [HO]; · iexact HO
    iexact HM
  iintro ⟨G2, HO⟩
  rw [wp_pure]
  imodintro
  iapply HΦ
  isplitl [G1]; · iexact G1
  isplitl [G2]; · iexact G2
  iexact HO

theorem part22 (i : grid0.Coords) (t : Fin k0_t1_loop.trips) {Φ : _ → sProp (𝕄 F)} :
    iprop(Φ ⟨(s_v955 t), (s_v959 t), (s_v963 t), (s_v967 t), (s_v971 t), (s_v975 t), (s_v979 t), (s_v983 t), (s_v987 t), (s_v991 t), (s_v995 t), (s_v999 t), (s_v1001 t), 1#32⟩)
      ⊢ wp frame (wpE (defs₀ (F := F)) 𝒱₀ (d.tc : Thread nD τ) bd) Set.univ (k0_part22 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (con 16 t.val) (con 16 t.val) (con 16 t.val) (con 16 t.val) (con 16 t.val) (con 16 t.val) (con 11 t.val) (con 16 t.val) (con 16 t.val) (con 16 t.val) (con 16 t.val) (con 16 t.val) (s_v220 t) (s_v266 t) (s_v268 t) (s_v280 t) (s_v282 t) (s_v294 t) (s_v296 t) (s_v308 t) (s_v310 t) (s_v322 t) (s_v324 t) (s_v336 t) (s_v338 t) (s_v350 t) (s_v352 t) (s_v364 t) (s_v366 t) (s_v378 t) (s_v380 t) (s_v392 t) (s_v394 t) (s_v406 t) (s_v408 t) (s_v420 t) (s_v422 t) (s_v953 t) 1#32) Φ := by
  rw [k0_part22_eq_skeleton]
  unfold k0_part22_skel
  dsimp only [s_v954, s_v955, s_v956, s_v957, s_v958, s_v959, s_v960, s_v961, s_v962, s_v963, s_v964, s_v965, s_v966, s_v967, s_v968, s_v969, s_v970, s_v971, s_v972, s_v973, s_v974, s_v975, s_v976, s_v977, s_v978, s_v979, s_v980, s_v981, s_v982, s_v983, s_v984, s_v985, s_v986, s_v987, s_v988, s_v989, s_v990, s_v991, s_v992, s_v993, s_v994, s_v995, s_v996, s_v997, s_v998, s_v999, s_v1000, s_v1001]
  iintro HΦ
  rw [wp_pure]
  imodintro
  iexact HΦ

end Cert.Proof

end
-- ==== Proof.ScanBody.lean ====
/-
  One trip of the scan, its first issues and its last waits.
-/
module

public import proofs.«01_k».proof.Proof.ScanParts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! The scalars that end a trip. -/

def s_v1002 (t : Fin k0_t1_loop.trips) : BitVec 32 := Scalar.addi (con 16 t.val) 1#32
def s_v1003 (t : Fin k0_t1_loop.trips) : BitVec 32 := Scalar.select (s_v1001 t) (s_v1002 t) (con 16 t.val)
def s_v1004 (t : Fin k0_t1_loop.trips) : BitVec 1 := Scalar.cmpi .ne (s_v434 t) (s_v436 t)
def s_v1005 (t : Fin k0_t1_loop.trips) : BitVec 1 := Scalar.ori (s_v1004 t) (s_v220 t)
def s_v1006 (t : Fin k0_t1_loop.trips) : BitVec 32 := Scalar.addi (con 16 t.val) 1#32
def s_v1007 (t : Fin k0_t1_loop.trips) : BitVec 32 := Scalar.select (s_v1005 t) (s_v1006 t) (con 16 t.val)
def s_v1008 (t : Fin k0_t1_loop.trips) : BitVec 1 := Scalar.cmpi .ne (s_v448 t) (s_v450 t)
def s_v1009 (t : Fin k0_t1_loop.trips) : BitVec 1 := Scalar.ori (s_v1008 t) (s_v220 t)
def s_v1010 (t : Fin k0_t1_loop.trips) : BitVec 32 := Scalar.addi (con 11 t.val) 1#32
def s_v1011 (t : Fin k0_t1_loop.trips) : BitVec 32 := Scalar.select (s_v1009 t) (s_v1010 t) (con 11 t.val)
def s_v1012 (t : Fin k0_t1_loop.trips) : BitVec 1 := Scalar.ori 0#1 (s_v220 t)
def s_v1013 (t : Fin k0_t1_loop.trips) : BitVec 32 := Scalar.addi (fin1 t.val) 1#32
def s_v1014 (t : Fin k0_t1_loop.trips) : BitVec 32 := Scalar.select (s_v1012 t) (s_v1013 t) (fin1 t.val)
def s_v1015 (t : Fin k0_t1_loop.trips) : BitVec 1 := Scalar.ori 0#1 (s_v220 t)
def s_v1016 (t : Fin k0_t1_loop.trips) : BitVec 32 := Scalar.addi (fin1 t.val) 1#32
def s_v1017 (t : Fin k0_t1_loop.trips) : BitVec 32 := Scalar.select (s_v1015 t) (s_v1016 t) (fin1 t.val)
def s_v1018 (t : Fin k0_t1_loop.trips) : BitVec 1 := Scalar.ori 0#1 (s_v220 t)
def s_v1019 (t : Fin k0_t1_loop.trips) : BitVec 32 := Scalar.addi (fin1 t.val) 1#32
def s_v1020 (t : Fin k0_t1_loop.trips) : BitVec 32 := Scalar.select (s_v1018 t) (s_v1019 t) (fin1 t.val)
def s_v1021 (t : Fin k0_t1_loop.trips) : BitVec 1 := Scalar.ori 0#1 (s_v220 t)
def s_v1022 (t : Fin k0_t1_loop.trips) : BitVec 32 := Scalar.addi (fin1 t.val) 1#32
def s_v1023 (t : Fin k0_t1_loop.trips) : BitVec 32 := Scalar.select (s_v1021 t) (s_v1022 t) (fin1 t.val)
def s_v1024 (t : Fin k0_t1_loop.trips) : BitVec 1 := Scalar.cmpi .ne (s_v221 t) (s_v231 t)
def s_v1025 (t : Fin k0_t1_loop.trips) : BitVec 1 := Scalar.ori (s_v1024 t) (s_v220 t)
def s_v1026 (t : Fin k0_t1_loop.trips) : BitVec 32 := Scalar.addi (con 16 t.val) 1#32
def s_v1027 (t : Fin k0_t1_loop.trips) : BitVec 32 := Scalar.select (s_v1025 t) (s_v1026 t) (con 16 t.val)
def s_v1028 (t : Fin k0_t1_loop.trips) : BitVec 32 := Scalar.addi (cyc t.val) 1#32
def s_v1029 (t : Fin k0_t1_loop.trips) : BitVec 32 := Scalar.select 1#1 (s_v1028 t) (cyc t.val)
def s_v1030 (t : Fin k0_t1_loop.trips) : BitVec 1 := Scalar.cmpi .eq (s_v1029 t) 16#32
def s_v1031 (t : Fin k0_t1_loop.trips) : BitVec 32 := Scalar.select (s_v1030 t) 0#32 (s_v1029 t)

/-! The values of the next trip. -/

theorem next11 : ∀ t : Fin k0_t1_loop.trips, (s_v250 t) = (iss 16 (t.val + 1)) := by decide +kernel
theorem next12 : ∀ t : Fin k0_t1_loop.trips, (s_v951 t) = (con 16 (t.val + 1)) := by decide +kernel
theorem next13 : ∀ t : Fin k0_t1_loop.trips, (s_v264 t) = (iss 16 (t.val + 1)) := by decide +kernel
theorem next14 : ∀ t : Fin k0_t1_loop.trips, (s_v955 t) = (con 16 (t.val + 1)) := by decide +kernel
theorem next15 : ∀ t : Fin k0_t1_loop.trips, (s_v278 t) = (iss 16 (t.val + 1)) := by decide +kernel
theorem next16 : ∀ t : Fin k0_t1_loop.trips, (s_v959 t) = (con 16 (t.val + 1)) := by decide +kernel
theorem next17 : ∀ t : Fin k0_t1_loop.trips, (s_v292 t) = (iss 16 (t.val + 1)) := by decide +kernel
theorem next18 : ∀ t : Fin k0_t1_loop.trips, (s_v963 t) = (con 16 (t.val + 1)) := by decide +kernel
theorem next19 : ∀ t : Fin k0_t1_loop.trips, (s_v306 t) = (iss 16 (t.val + 1)) := by decide +kernel
theorem next20 : ∀ t : Fin k0_t1_loop.trips, (s_v967 t) = (con 16 (t.val + 1)) := by decide +kernel
theorem next21 : ∀ t : Fin k0_t1_loop.trips, (s_v320 t) = (iss 16 (t.val + 1)) := by decide +kernel
theorem next22 : ∀ t : Fin k0_t1_loop.trips, (s_v971 t) = (con 16 (t.val + 1)) := by decide +kernel
theorem next23 : ∀ t : Fin k0_t1_loop.trips, (s_v334 t) = (iss 16 (t.val + 1)) := by decide +kernel
theorem next24 : ∀ t : Fin k0_t1_loop.trips, (s_v975 t) = (con 16 (t.val + 1)) := by decide +kernel
theorem next25 : ∀ t : Fin k0_t1_loop.trips, (s_v348 t) = (iss 11 (t.val + 1)) := by decide +kernel
theorem next26 : ∀ t : Fin k0_t1_loop.trips, (s_v979 t) = (con 11 (t.val + 1)) := by decide +kernel
theorem next27 : ∀ t : Fin k0_t1_loop.trips, (s_v362 t) = (iss 16 (t.val + 1)) := by decide +kernel
theorem next28 : ∀ t : Fin k0_t1_loop.trips, (s_v983 t) = (con 16 (t.val + 1)) := by decide +kernel
theorem next29 : ∀ t : Fin k0_t1_loop.trips, (s_v376 t) = (iss 16 (t.val + 1)) := by decide +kernel
theorem next30 : ∀ t : Fin k0_t1_loop.trips, (s_v987 t) = (con 16 (t.val + 1)) := by decide +kernel
theorem next31 : ∀ t : Fin k0_t1_loop.trips, (s_v390 t) = (iss 16 (t.val + 1)) := by decide +kernel
theorem next32 : ∀ t : Fin k0_t1_loop.trips, (s_v991 t) = (con 16 (t.val + 1)) := by decide +kernel
theorem next33 : ∀ t : Fin k0_t1_loop.trips, (s_v404 t) = (iss 16 (t.val + 1)) := by decide +kernel
theorem next34 : ∀ t : Fin k0_t1_loop.trips, (s_v995 t) = (con 16 (t.val + 1)) := by decide +kernel
theorem next35 : ∀ t : Fin k0_t1_loop.trips, (s_v418 t) = (iss 16 (t.val + 1)) := by decide +kernel
theorem next36 : ∀ t : Fin k0_t1_loop.trips, (s_v999 t) = (con 16 (t.val + 1)) := by decide +kernel
theorem next37 : ∀ t : Fin k0_t1_loop.trips, (s_v432 t) = (iss 16 (t.val + 1)) := by decide +kernel
theorem next38 : ∀ t : Fin k0_t1_loop.trips, (s_v1003 t) = (con 16 (t.val + 1)) := by decide +kernel
theorem next39 : ∀ t : Fin k0_t1_loop.trips, (s_v446 t) = (iss 16 (t.val + 1)) := by decide +kernel
theorem next40 : ∀ t : Fin k0_t1_loop.trips, (s_v1007 t) = (con 16 (t.val + 1)) := by decide +kernel
theorem next41 : ∀ t : Fin k0_t1_loop.trips, (s_v460 t) = (iss 11 (t.val + 1)) := by decide +kernel
theorem next42 : ∀ t : Fin k0_t1_loop.trips, (s_v1011 t) = (con 11 (t.val + 1)) := by decide +kernel
theorem next43 : ∀ t : Fin k0_t1_loop.trips, (s_v1014 t) = (fin1 (t.val + 1)) := by decide +kernel
theorem next44 : ∀ t : Fin k0_t1_loop.trips, (s_v1017 t) = (fin1 (t.val + 1)) := by decide +kernel
theorem next45 : ∀ t : Fin k0_t1_loop.trips, (s_v1020 t) = (fin1 (t.val + 1)) := by decide +kernel
theorem next46 : ∀ t : Fin k0_t1_loop.trips, (s_v1023 t) = (fin1 (t.val + 1)) := by decide +kernel
theorem next47 : ∀ t : Fin k0_t1_loop.trips, (s_v470 t) = (iss 16 (t.val + 1)) := by decide +kernel
theorem next48 : ∀ t : Fin k0_t1_loop.trips, (s_v1027 t) = (con 16 (t.val + 1)) := by decide +kernel
theorem next49 : ∀ t : Fin k0_t1_loop.trips, (s_v822 t) = (iv32 (t.val + 1)) := by decide +kernel
theorem next50 : ∀ t : Fin k0_t1_loop.trips, (s_v939 t) = (prv (t.val + 1)) := by decide +kernel
theorem next51 : ∀ t : Fin k0_t1_loop.trips, (s_v829 t) = (iv32 (t.val + 1)) := by decide +kernel
theorem next52 : ∀ t : Fin k0_t1_loop.trips, (s_v947 t) = (prv (t.val + 1)) := by decide +kernel
theorem next53 : ∀ t : Fin k0_t1_loop.trips, (s_v1031 t) = (cyc (t.val + 1)) := by decide +kernel
theorem off1_at : k0_off1 = ![(0 : Fin 2).val] := by decide +kernel
theorem off2_at : k0_off2 = ![(0 : Fin 2).val, 0, 0] := by decide +kernel
theorem off4_at : k0_off4 = ![(0 : Fin 2).val, 0, 0] := by decide +kernel
theorem off3_at0 : k0_off3 0#32 = ![0, 8192 * min (16 * 0 + 0) 122] := by decide +kernel
theorem off3_at1 : k0_off3 16#32 = ![0, 8192 * min (16 * 1 + 0) 122] := by decide +kernel
theorem off3_at2 : k0_off3 32#32 = ![0, 8192 * min (16 * 2 + 0) 122] := by decide +kernel
theorem off3_at3 : k0_off3 48#32 = ![0, 8192 * min (16 * 3 + 0) 122] := by decide +kernel
theorem off3_at4 : k0_off3 64#32 = ![0, 8192 * min (16 * 4 + 0) 122] := by decide +kernel
theorem off3_at5 : k0_off3 80#32 = ![0, 8192 * min (16 * 5 + 0) 122] := by decide +kernel
theorem off3_at6 : k0_off3 96#32 = ![0, 8192 * min (16 * 6 + 0) 122] := by decide +kernel
theorem off3_at7 : k0_off3 112#32 = ![0, 8192 * min (16 * 7 + 0) 122] := by decide +kernel
theorem chk21_ok : k0_chk21 (prv 16) := by decide +kernel
theorem chk22_ok : k0_chk22 (cyc 16) := by decide +kernel
theorem chk23_ok : k0_chk23 (prv 16) := by decide +kernel
theorem off138_at : k0_off138 (prv 16) = ![(1 : Fin 2).val] := by decide +kernel
theorem off139_at : k0_off139 (cyc 16) = ![8192 * min 15 15, 0] := by decide +kernel
theorem off141_at : k0_off141 (prv 16) = ![(1 : Fin 2).val] := by decide +kernel
theorem off142_at : k0_off142 (cyc 16) = ![8192 * min 15 15, 0] := by decide +kernel

/-- The values the loop carries before trip `k`. -/
def accOf (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  ((iss 16 k), (con 16 k), (iss 16 k), (con 16 k), (iss 16 k), (con 16 k), (iss 16 k), (con 16 k), (iss 16 k), (con 16 k), (iss 16 k), (con 16 k), (iss 16 k), (con 16 k), (iss 11 k), (con 11 k), (iss 16 k), (con 16 k), (iss 16 k), (con 16 k), (iss 16 k), (con 16 k), (iss 16 k), (con 16 k), (iss 16 k), (con 16 k), (iss 16 k), (con 16 k), (iss 16 k), (con 16 k), (iss 11 k), (con 11 k), (fin1 k), (fin1 k), (fin1 k), (fin1 k), (iss 16 k), (con 16 k), (iv32 k), (prv k), (iv32 k), (prv k), (cyc k))
theorem trips_eq : k0_t1_loop.trips = 16 := by decide

variable {d : Dev nD} (bd : Option 𝒱₀.V) [FloatOps F]

theorem wp_seq {α β : Type} {p : Prog (TpuEff nD τ sig (Elt F) Λ₀ .tc) α} {J : α → Prog (TpuEff nD τ sig (Elt F) Λ₀ .tc) β} {Q : β → sProp (𝕄 F)} :
    wp frame (wpE (defs₀ (F := F)) 𝒱₀ (d.tc : Thread nD τ) bd) Set.univ p (fun a => wp frame (wpE (defs₀ (F := F)) 𝒱₀ (d.tc : Thread nD τ) bd) Set.univ (J a) Q)
      ⊢ wp frame (wpE (defs₀ (F := F)) 𝒱₀ (d.tc : Thread nD τ) bd) Set.univ (p >>= J) Q := by
  rw [wp_bind]

/-- The first issue of a window, as printed. -/
theorem wp_first {s : Shape} (w : Win F d s) {α : Type} {Q : α → sProp (𝕄 F)}
    {src : Memref sig .tc .hbm s .f32} {dst : Memref sig .tc .vmem s .f32} {sem : DmaSem sig}
    (hsrcE : src = w.src 0) (hdstE : dst = w.dst 0) (hsemE : sem = w.sem 0)
    {h1 : src.view.WordExact} {h2 : dst.view.WordExact} {h3 : DmaTarget.Typed (nD := nD) .hbm (.dma sem) (DmaTarget.here (τ := τ) (p := (d.tc : Thread nD τ).2) dst)}
    {J : PUnit → Prog (TpuEff nD τ sig (Elt F) Λ₀ .tc) α} :
    iprop(w.free 0 ∗ w.free 1 ∗ w.todo 0)
      ⊢ iprop((w.W0 0 -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (Prog.lift (.enqueueDma src (.here dst) (.dma sem) h1 h2 h3) >>= J) Q) := by
  subst hsrcE hdstE hsemE
  rw [w.todo_cons 0 w.hN]
  iintro ⟨Ha, Hb, Hp, Ht⟩ HJ
  iapply (w.wp_start bd 0 (J := J)) $$ [Ha Hp]
  · isplitl [Ha]; · iexact Ha
    iexact Hp
  iintro Hi
  iapply HJ
  iapply w.W0_zero
  isplitl [Hi]; · iexact Hi
  isplitl [Hb]; · iexact Hb
  iexact Ht

/-- The last wait of a result, as printed. -/
theorem wp_last {s : Shape} (o : Out F d s) (hN : o.N = 16) {α : Type} {Q : α → sProp (𝕄 F)}
    {O : CellTallies nD τ sig (HIx 1)} {𝔹 : Set (SemLoc sig × HIx 1)} (hB : ∀ sm, (sm, none) ∈ 𝔹)
    {src : Memref sig .tc .vmem s .f32} {dst : Memref sig .tc .hbm s .f32} {sem : DmaSem sig}
    (hdstE : dst = o.dst 15) (hsemE : sem = o.sem 1)
    {h1 : src.view.WordExact} {h2 : dst.view.WordExact}
    {J : PUnit → Prog (TpuEff nD τ sig (Elt F) Λ₀ .tc) α} :
    iprop(o.O0 16 ∗ Owe F d O 𝔹 ∗ Transfers.MayWaits (d.tc : Thread nD τ) none O)
      ⊢ iprop((iprop((o.free 0 ∗ o.free 1 ∗ o.done o.N) ∗ Owe F d O 𝔹) -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (Prog.lift (.waitDma2 sem src dst h1 h2) >>= J) Q) := by
  subst hdstE hsemE
  rw [hN]
  unfold Out.O0 Out.O0r Out.prev
  rw [if_neg (by omega), show (16 : ℕ) - 1 = 15 from rfl, show o.done 16 = iprop(o.written 15 ∗ o.done 15) from o.done_succ 15]
  iintro ⟨⟨Hs, Hr, ⟨Hi, Hd⟩, Ht⟩, HO, #HM⟩ HJ
  iapply (o.wp_await bd 15 hB) $$ [Hi HO]
  · isplitl [Hi]; · iexact Hi
    isplitl [HO]; · iexact HO
    iexact HM
  iintro ⟨Hw, Hf, HO⟩
  iapply HJ
  isplitr [HO]
  · isplitl [Hs Hr]
    · unfold Out.free
      isplitl [Hs]; · iexact Hs
      iexact Hr
    isplitl [Hf]; · iexact Hf
    isplitl [Hw]; · iexact Hw
    iexact Hd
  · iexact HO

/-- A result before its first trip. -/
theorem O0_zero {s : Shape} (o : Out F d s) : iprop(o.free 0 ∗ o.free 1 ∗ o.todo 0) ⊢ o.O0 0 := by
  unfold Out.O0 Out.O0r Out.prev
  rw [if_pos rfl, o.done_zero, show o.free 0 = iprop(o.slot 0 ∗ o.rest 0) from rfl]
  iintro ⟨⟨Ha, Hr⟩, Hb, Ht⟩
  isplitl [Ha]; · iexact Ha
  isplitl [Hr]; · iexact Hr
  isplitl [Hb]
  · isplitl [Hb]; · iexact Hb
    iempintro
  · iexact Ht

/-- The window of one weight: its one copy. -/
@[reducible] def oneWin {s : Shape} (hs : 0 < s.numel) (a : Memref sig .tc .hbm s .f32) (al : Memref sig .tc .vmem s .f32) (v : DmaSems sig S_)
    (f : Buf (Elt F) (a.view.loc (d.tc : Thread nD τ))) : Win F d s where
  N := 1
  hN := by decide
  hs := hs
  dst := fun _ => al
  sem := fun _ => v.sem
  src := fun _ => a
  fs := fun _ => f

/-- A weight's copy and its wait. -/
theorem wp_weight {s : Shape} (hs : 0 < s.numel) (a : Memref sig .tc .hbm s .f32) (al : Memref sig .tc .vmem s .f32) (v : DmaSems sig S_)
    (f : Buf (Elt F) (a.view.loc (d.tc : Thread nD τ))) {α : Type} {Q : α → sProp (𝕄 F)}
    {O : CellTallies nD τ sig (HIx 1)} {𝔹 : Set (SemLoc sig × HIx 1)} (hB : ∀ sm, (sm, none) ∈ 𝔹)
    {h1 h2 h3 h4 h5} {J : PUnit → Prog (TpuEff nD τ sig (Elt F) Λ₀ .tc) α} :
    iprop(((oneWin hs a al v f).free 0 ∗ (oneWin hs a al v f).piece 0) ∗ Owe F d O 𝔹 ∗ Transfers.MayWaits (d.tc : Thread nD τ) none O)
      ⊢ iprop((iprop(((oneWin hs a al v f).piece 0 ∗ wt d al (a.view.read (Elt F) f) ∗ (oneWin hs a al v f).rest 0) ∗ Owe F d O 𝔹) -∗ wp frame (wpE (defs₀ (F := F)) 𝒱₀ (d.tc : Thread nD τ) bd) Set.univ (J ⟨⟩) Q)
        -∗ wp frame (wpE (defs₀ (F := F)) 𝒱₀ (d.tc : Thread nD τ) bd) Set.univ
          (Prog.lift (.enqueueDma a (.here al) (.dma v.sem) h1 h2 h3) >>= fun _ => Prog.lift (.waitDma2 v.sem a al h4 h5) >>= J) Q) := by
  rw [show wt d al (a.view.read (Elt F) f) = (oneWin hs a al v f).landed 0 ((oneWin hs a al v f).blk 0) from rfl]
  iintro ⟨⟨Hf, Hp⟩, HO, #HM⟩ HJ
  iapply ((oneWin hs a al v f).wp_start bd 0 (J := fun _ => Prog.lift (.waitDma2 v.sem a al h4 h5) >>= J)) $$ [Hf Hp]
  · isplitl [Hf]; · iexact Hf
    iexact Hp
  iintro Hi
  iapply ((oneWin hs a al v f).wp_await bd 0 hB (J := J)) $$ [Hi HO]
  · isplitl [Hi]; · iexact Hi
    isplitl [HO]; · iexact HO
    iexact HM
  iintro ⟨Hl, Hp, Hv, HO⟩
  iapply HJ
  isplitr [HO]
  · isplitl [Hp]; · iexact Hp
    isplitl [Hl]; · iexact Hl
    iexact Hv
  · iexact HO

variable {O : CellTallies nD τ sig (HIx 1)} {𝔹 : Set (SemLoc sig × HIx 1)} (hB : ∀ sm, (sm, none) ∈ 𝔹)
variable {B : Bufs} (C : Ctn F d B)

set_option maxRecDepth 20000
include hB

theorem part23 (i : grid0.Coords) (t : Fin k0_t1_loop.trips) {Φ : _ → sProp (𝕄 F)} :
    iprop((w0 C).W0 t.val ∗ (w1 C).W0 t.val ∗ (w2 C).W0 t.val ∗ (w3 C).W0 t.val ∗ (w4 C).W0 t.val ∗ (w5 C).W0 t.val ∗ (w6 C).W0 t.val ∗ (w7 C).W0 t.val ∗ (w8 C).W0 t.val ∗ (w9 C).W0 t.val ∗ (w10 C).W0 t.val ∗ (w11 C).W0 t.val ∗ (w12 C).W0 t.val ∗ (w13 C).W0 t.val ∗ (w14 C).W0 t.val ∗ (w15 C).W0 t.val ∗ (w16 C).W0 t.val ∗ (o1 C).O0 t.val ∗ (o2 C).O0 t.val ∗ wt d B.alloca_15 (B.arg3.view.read (Elt F) C.f3) ∗ wt d B.alloca_16 (B.arg4.view.read (Elt F) C.f4) ∗ wt d B.alloca_17 (B.arg5.view.read (Elt F) C.f5) ∗ wt d B.alloca_18 (B.arg6.view.read (Elt F) C.f6) ∗ Owe F d O 𝔹 ∗ Transfers.MayWaits (d.tc : Thread nD τ) none O ∗ (((w0 C).W0 (t.val + 1) ∗ (w1 C).W0 (t.val + 1) ∗ (w2 C).W0 (t.val + 1) ∗ (w3 C).W0 (t.val + 1) ∗ (w4 C).W0 (t.val + 1) ∗ (w5 C).W0 (t.val + 1) ∗ (w6 C).W0 (t.val + 1) ∗ (w7 C).W0 (t.val + 1) ∗ (w8 C).W0 (t.val + 1) ∗ (w9 C).W0 (t.val + 1) ∗ (w10 C).W0 (t.val + 1) ∗ (w11 C).W0 (t.val + 1) ∗ (w12 C).W0 (t.val + 1) ∗ (w13 C).W0 (t.val + 1) ∗ (w14 C).W0 (t.val + 1) ∗ (w15 C).W0 (t.val + 1) ∗ (w16 C).W0 (t.val + 1) ∗ (o1 C).O0 (t.val + 1) ∗ (o2 C).O0 (t.val + 1) ∗ wt d B.alloca_15 (B.arg3.view.read (Elt F) C.f3) ∗ wt d B.alloca_16 (B.arg4.view.read (Elt F) C.f4) ∗ wt d B.alloca_17 (B.arg5.view.read (Elt F) C.f5) ∗ wt d B.alloca_18 (B.arg6.view.read (Elt F) C.f6) ∗ Owe F d O 𝔹) -∗ Φ ⟨(s_v250 t), (s_v264 t), (s_v278 t), (s_v292 t), (s_v306 t), (s_v320 t), (s_v334 t), (s_v348 t), (s_v362 t), (s_v376 t), (s_v390 t), (s_v404 t), (s_v418 t), (s_v432 t), (s_v446 t), (s_v460 t), (s_v470 t), (s_v822 t), (s_v829 t), (s_v939 t), (s_v947 t), (s_v951 t), (s_v955 t), (s_v959 t), (s_v963 t), (s_v967 t), (s_v971 t), (s_v975 t), (s_v979 t), (s_v983 t), (s_v987 t), (s_v991 t), (s_v995 t), (s_v999 t), (s_v1003 t), (s_v1007 t), (s_v1011 t), (s_v1014 t), (s_v1017 t), (s_v1020 t), (s_v1023 t), (s_v1027 t), 1#32⟩))
      ⊢ wp frame (wpE (defs₀ (F := F)) 𝒱₀ (d.tc : Thread nD τ) bd) Set.univ (k0_part23 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32 1#32 t (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (iss 16 t.val) (con 16 t.val) (iss 16 t.val) (con 16 t.val) (iss 16 t.val) (con 16 t.val) (iss 16 t.val) (con 16 t.val) (iss 16 t.val) (con 16 t.val) (iss 16 t.val) (con 16 t.val) (iss 16 t.val) (con 16 t.val) (iss 11 t.val) (con 11 t.val) (fin1 t.val) (fin1 t.val) (fin1 t.val) (fin1 t.val) (iss 16 t.val) (con 16 t.val) (iv32 t.val) (prv t.val) (iv32 t.val) (prv t.val) (cyc t.val)) Φ := by
  dsimp only [s_v1002, s_v1003, s_v1004, s_v1005, s_v1006, s_v1007, s_v1008, s_v1009, s_v1010, s_v1011, s_v1012, s_v1013, s_v1014, s_v1015, s_v1016, s_v1017, s_v1018, s_v1019, s_v1020, s_v1021, s_v1022, s_v1023, s_v1024, s_v1025, s_v1026, s_v1027]
  rw [k0_part23_eq_skeleton]
  unfold k0_part23_skel
  rw [show (o1 C).O0 t.val = iprop((o1 C).slot (sl t.val) ∗ (o1 C).O0r t.val) from rfl,
    show (o2 C).O0 t.val = iprop((o2 C).slot (sl t.val) ∗ (o2 C).O0r t.val) from rfl]
  iintro ⟨H0, H1, H2, H3, H4, H5, H6, H7, H8, H9, H10, H11, H12, H13, H14, H15, H16, G1, G2, K3, K4, K5, K6, HO, #HM, HΦ⟩
  icases G1 with ⟨G1, G1r⟩
  icases G2 with ⟨G2, G2r⟩
  iapply wp_seq
  iapply (part1 (d := d) (bd := bd) (hB := hB) (B := B) (i := i) (t := t))
  iapply wp_seq
  iapply (part2 (d := d) (bd := bd) (hB := hB) (C := C) (i := i) (t := t))
  isplitl [H0]; · iexact H0
  isplitl [H1]; · iexact H1
  iintro ⟨H0, H1⟩
  iapply wp_seq
  iapply (part3 (d := d) (bd := bd) (hB := hB) (C := C) (i := i) (t := t))
  isplitl [H2]; · iexact H2
  isplitl [H3]; · iexact H3
  isplitl [H4]; · iexact H4
  iintro ⟨H2, H3, H4⟩
  iapply wp_seq
  iapply (part4 (d := d) (bd := bd) (hB := hB) (C := C) (i := i) (t := t))
  isplitl [H5]; · iexact H5
  isplitl [H6]; · iexact H6
  iintro ⟨H5, H6⟩
  iapply wp_seq
  iapply (part5 (d := d) (bd := bd) (hB := hB) (C := C) (i := i) (t := t))
  isplitl [H7]; · iexact H7
  isplitl [H8]; · iexact H8
  iintro ⟨H7, H8⟩
  iapply wp_seq
  iapply (part6 (d := d) (bd := bd) (hB := hB) (C := C) (i := i) (t := t))
  isplitl [H9]; · iexact H9
  isplitl [H10]; · iexact H10
  isplitl [H11]; · iexact H11
  iintro ⟨H9, H10, H11⟩
  iapply wp_seq
  iapply (part7 (d := d) (bd := bd) (hB := hB) (C := C) (i := i) (t := t))
  isplitl [H12]; · iexact H12
  isplitl [H13]; · iexact H13
  iintro ⟨H12, H13⟩
  iapply wp_seq
  iapply (part8 (d := d) (bd := bd) (hB := hB) (C := C) (i := i) (t := t))
  isplitl [H14]; · iexact H14
  isplitl [H15]; · iexact H15
  isplitl [H16]; · iexact H16
  iintro ⟨H14, H15, H16⟩
  iapply wp_seq
  iapply (part9 (d := d) (bd := bd) (hB := hB) (C := C) (i := i) (t := t))
  isplitl [H0]; · iexact H0
  isplitl [H1]; · iexact H1
  isplitl [H2]; · iexact H2
  isplitl [H3]; · iexact H3
  isplitl [HO]; · iexact HO
  isplitr; · iexact HM
  iintro ⟨⟨L0, R0⟩, ⟨L1, R1⟩, ⟨L2, R2⟩, ⟨L3, R3⟩, HO⟩
  iapply wp_seq
  iapply (part10 (d := d) (bd := bd) (hB := hB) (C := C) (i := i) (t := t))
  isplitl [H4]; · iexact H4
  isplitl [H5]; · iexact H5
  isplitl [H6]; · iexact H6
  isplitl [H7]; · iexact H7
  isplitl [HO]; · iexact HO
  isplitr; · iexact HM
  iintro ⟨⟨L4, R4⟩, ⟨L5, R5⟩, ⟨L6, R6⟩, ⟨L7, R7⟩, HO⟩
  iapply wp_seq
  iapply (part11 (d := d) (bd := bd) (hB := hB) (C := C) (i := i) (t := t))
  isplitl [H8]; · iexact H8
  isplitl [H9]; · iexact H9
  isplitl [H10]; · iexact H10
  isplitl [H11]; · iexact H11
  isplitl [H12]; · iexact H12
  isplitl [HO]; · iexact HO
  isplitr; · iexact HM
  iintro ⟨⟨L8, R8⟩, ⟨L9, R9⟩, ⟨L10, R10⟩, ⟨L11, R11⟩, ⟨L12, R12⟩, HO⟩
  iapply wp_seq
  iapply (part12 (d := d) (bd := bd) (hB := hB) (C := C) (i := i) (t := t))
  isplitl [H13]; · iexact H13
  isplitl [H14]; · iexact H14
  isplitl [H15]; · iexact H15
  isplitl [H16]; · iexact H16
  isplitl [HO]; · iexact HO
  isplitr; · iexact HM
  iintro ⟨⟨L13, R13⟩, ⟨L14, R14⟩, ⟨L15, R15⟩, ⟨L16, R16⟩, HO⟩
  iapply wp_seq
  iapply (part13 (d := d) (bd := bd) (hB := hB) (C := C) (i := i) (t := t))
  isplitl [L16]; · iexact L16
  isplitl [L0]; · iexact L0
  isplitl [L1]; · iexact L1
  isplitl [L2]; · iexact L2
  iintro ⟨L16, L0, L1, L2⟩
  iapply wp_seq
  iapply (part14 (d := d) (bd := bd) (hB := hB) (C := C) (i := i) (t := t))
  isplitl [L3]; · iexact L3
  isplitl [L4]; · iexact L4
  isplitl [L5]; · iexact L5
  isplitl [L6]; · iexact L6
  isplitl [L7]; · iexact L7
  isplitl [L8]; · iexact L8
  isplitl [L9]; · iexact L9
  isplitl [L10]; · iexact L10
  isplitl [L11]; · iexact L11
  isplitl [L12]; · iexact L12
  isplitl [L13]; · iexact L13
  iintro ⟨L3, L4, L5, L6, L7, L8, L9, L10, L11, L12, L13⟩
  iapply wp_seq
  iapply (part15 (d := d) (bd := bd) (hB := hB) (C := C) (i := i) (t := t))
  isplitl [L14]; · iexact L14
  isplitl [L15]; · iexact L15
  isplitl [K3]; · iexact K3
  isplitl [K5]; · iexact K5
  isplitl [K4]; · iexact K4
  isplitl [G1]; · iexact G1
  isplitl [K6]; · iexact K6
  isplitl [G2]; · iexact G2
  iintro ⟨L14, L15, K3, K5, K4, G1, K6, G2⟩
  iapply wp_seq
  iapply (part16 (d := d) (bd := bd) (hB := hB) (B := B) (i := i) (t := t))
  iapply wp_seq
  iapply (part17 (d := d) (bd := bd) (hB := hB) (B := B) (i := i) (t := t))
  iapply wp_seq
  iapply (part18 (d := d) (bd := bd) (hB := hB) (C := C) (i := i) (t := t))
  isplitl [G1 G1r]
  · isplitl [G1]; · iexact G1
    iexact G1r
  isplitl [G2 G2r]
  · isplitl [G2]; · iexact G2
    iexact G2r
  iintro ⟨G1, G2⟩
  iapply wp_seq
  iapply (part19 (d := d) (bd := bd) (hB := hB) (B := B) (i := i) (t := t))
  iapply wp_seq
  iapply (part20 (d := d) (bd := bd) (hB := hB) (B := B) (i := i) (t := t))
  iapply wp_seq
  iapply (part21 (d := d) (bd := bd) (hB := hB) (C := C) (i := i) (t := t))
  isplitl [G1]; · iexact G1
  isplitl [G2]; · iexact G2
  isplitl [HO]; · iexact HO
  isplitr; · iexact HM
  iintro ⟨G1, G2, HO⟩
  iapply wp_seq
  iapply (part22 (d := d) (bd := bd) (hB := hB) (B := B) (i := i) (t := t))
  rw [wp_pure]
  imodintro
  iapply HΦ
  isplitl [L0 R0]
  · iapply ((w0 C).W2_W0 t.val)
    isplitl [L0]; · iexact L0
    iexact R0
  isplitl [L1 R1]
  · iapply ((w1 C).W2_W0 t.val)
    isplitl [L1]; · iexact L1
    iexact R1
  isplitl [L2 R2]
  · iapply ((w2 C).W2_W0 t.val)
    isplitl [L2]; · iexact L2
    iexact R2
  isplitl [L3 R3]
  · iapply ((w3 C).W2_W0 t.val)
    isplitl [L3]; · iexact L3
    iexact R3
  isplitl [L4 R4]
  · iapply ((w4 C).W2_W0 t.val)
    isplitl [L4]; · iexact L4
    iexact R4
  isplitl [L5 R5]
  · iapply ((w5 C).W2_W0 t.val)
    isplitl [L5]; · iexact L5
    iexact R5
  isplitl [L6 R6]
  · iapply ((w6 C).W2_W0 t.val)
    isplitl [L6]; · iexact L6
    iexact R6
  isplitl [L7 R7]
  · iapply ((w7 C).W2_W0 t.val)
    isplitl [L7]; · iexact L7
    iexact R7
  isplitl [L8 R8]
  · iapply ((w8 C).W2_W0 t.val)
    isplitl [L8]; · iexact L8
    iexact R8
  isplitl [L9 R9]
  · iapply ((w9 C).W2_W0 t.val)
    isplitl [L9]; · iexact L9
    iexact R9
  isplitl [L10 R10]
  · iapply ((w10 C).W2_W0 t.val)
    isplitl [L10]; · iexact L10
    iexact R10
  isplitl [L11 R11]
  · iapply ((w11 C).W2_W0 t.val)
    isplitl [L11]; · iexact L11
    iexact R11
  isplitl [L12 R12]
  · iapply ((w12 C).W2_W0 t.val)
    isplitl [L12]; · iexact L12
    iexact R12
  isplitl [L13 R13]
  · iapply ((w13 C).W2_W0 t.val)
    isplitl [L13]; · iexact L13
    iexact R13
  isplitl [L14 R14]
  · iapply ((w14 C).W2_W0 t.val)
    isplitl [L14]; · iexact L14
    iexact R14
  isplitl [L15 R15]
  · iapply ((w15 C).W2_W0 t.val)
    isplitl [L15]; · iexact L15
    iexact R15
  isplitl [L16 R16]
  · iapply ((w16 C).W2_W0 t.val)
    isplitl [L16]; · iexact L16
    iexact R16
  isplitl [G1]; · iexact G1
  isplitl [G2]; · iexact G2
  isplitl [K3]; · iexact K3
  isplitl [K4]; · iexact K4
  isplitl [K5]; · iexact K5
  isplitl [K6]; · iexact K6
  iexact HO

/-- The scan before trip `k`. -/
def scanI (O : CellTallies nD τ sig (HIx 1)) (𝔹 : Set (SemLoc sig × HIx 1)) (k : ℕ) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : sProp (𝕄 F) :=
  iprop(⌜acc = accOf k⌝ ∗ ((w0 C).W0 k ∗ (w1 C).W0 k ∗ (w2 C).W0 k ∗ (w3 C).W0 k ∗ (w4 C).W0 k ∗ (w5 C).W0 k ∗ (w6 C).W0 k ∗ (w7 C).W0 k ∗ (w8 C).W0 k ∗ (w9 C).W0 k ∗ (w10 C).W0 k ∗ (w11 C).W0 k ∗ (w12 C).W0 k ∗ (w13 C).W0 k ∗ (w14 C).W0 k ∗ (w15 C).W0 k ∗ (w16 C).W0 k ∗ (o1 C).O0 k ∗ (o2 C).O0 k ∗ wt d B.alloca_15 (B.arg3.view.read (Elt F) C.f3) ∗ wt d B.alloca_16 (B.arg4.view.read (Elt F) C.f4) ∗ wt d B.alloca_17 (B.arg5.view.read (Elt F) C.f5) ∗ wt d B.alloca_18 (B.arg6.view.read (Elt F) C.f6) ∗ Owe F d O 𝔹) ∗ Transfers.MayWaits (d.tc : Thread nD τ) none O)

theorem body_step (i : grid0.Coords) (x0 x1 x2 x3 x4 x5 x6 x7 x8 x9 x10 x11 x12 x13 x14 x15 x16 : BitVec 32) (t : Fin k0_t1_loop.trips) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) :
    scanI C O 𝔹 t.val acc ⊢ wp frame (wpE (defs₀ (F := F)) 𝒱₀ (d.tc : Thread nD τ) bd) Set.univ (k0_t1_body (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 x0 x1 x2 x3 x4 x5 x6 x7 x8 x9 x10 x11 x12 x13 x14 x15 x16 t acc) (scanI C O 𝔹 (t.val + 1)) := by
  unfold scanI
  iintro ⟨%h, ⟨H0, H1, H2, H3, H4, H5, H6, H7, H8, H9, H10, H11, H12, H13, H14, H15, H16, G1, G2, K3, K4, K5, K6, HO⟩, #HM⟩
  subst h
  unfold k0_t1_body accOf
  dsimp only
  iapply wp_seq
  iapply (part23 bd hB C i t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [G1]; · iexact G1
  isplitl [G2]; · iexact G2
  isplitl [K3]; · iexact K3
  isplitl [K4]; · iexact K4
  isplitl [K5]; · iexact K5
  isplitl [K6]; · iexact K6
  isplitl [HO]; · iexact HO
  isplitr; · iexact HM
  iintro ⟨H0, H1, H2, H3, H4, H5, H6, H7, H8, H9, H10, H11, H12, H13, H14, H15, H16, G1, G2, K3, K4, K5, K6, HO⟩
  rw [wp_pure]
  imodintro
  isplitr
  · ipureintro
    rw [show (((iss 16 (t.val + 1)), (con 16 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 11 (t.val + 1)), (con 11 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 16 (t.val + 1)), (con 16 (t.val + 1)), (iss 11 (t.val + 1)), (con 11 (t.val + 1)), (fin1 (t.val + 1)), (fin1 (t.val + 1)), (fin1 (t.val + 1)), (fin1 (t.val + 1)), (iss 16 (t.val + 1)), (con 16 (t.val + 1)), (iv32 (t.val + 1)), (prv (t.val + 1)), (iv32 (t.val + 1)), (prv (t.val + 1)), (cyc (t.val + 1))) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) = ((s_v250 t), (s_v951 t), (s_v264 t), (s_v955 t), (s_v278 t), (s_v959 t), (s_v292 t), (s_v963 t), (s_v306 t), (s_v967 t), (s_v320 t), (s_v971 t), (s_v334 t), (s_v975 t), (s_v348 t), (s_v979 t), (s_v362 t), (s_v983 t), (s_v376 t), (s_v987 t), (s_v390 t), (s_v991 t), (s_v404 t), (s_v995 t), (s_v418 t), (s_v999 t), (s_v432 t), (s_v1003 t), (s_v446 t), (s_v1007 t), (s_v460 t), (s_v1011 t), (s_v1014 t), (s_v1017 t), (s_v1020 t), (s_v1023 t), (s_v470 t), (s_v1027 t), (s_v822 t), (s_v939 t), (s_v829 t), (s_v947 t), (s_v1031 t)) from by rw [next11 t, next12 t, next13 t, next14 t, next15 t, next16 t, next17 t, next18 t, next19 t, next20 t, next21 t, next22 t, next23 t, next24 t, next25 t, next26 t, next27 t, next28 t, next29 t, next30 t, next31 t, next32 t, next33 t, next34 t, next35 t, next36 t, next37 t, next38 t, next39 t, next40 t, next41 t, next42 t, next43 t, next44 t, next45 t, next46 t, next47 t, next48 t, next49 t, next50 t, next51 t, next52 t, next53 t]]
    rfl
  isplitl
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [G1]; · iexact G1
    isplitl [G2]; · iexact G2
    isplitl [K3]; · iexact K3
    isplitl [K4]; · iexact K4
    isplitl [K5]; · iexact K5
    isplitl [K6]; · iexact K6
    iexact HO
  · iexact HM

theorem part24 (i : grid0.Coords) {Φ : _ → sProp (𝕄 F)} :
    iprop(((oneWin (by decide) B.arg3 B.alloca_15 B.v219_r1 C.f3).free 0 ∗ (oneWin (by decide) B.arg3 B.alloca_15 B.v219_r1 C.f3).piece 0) ∗ ((oneWin (by decide) B.arg4 B.alloca_16 B.v219_r2 C.f4).free 0 ∗ (oneWin (by decide) B.arg4 B.alloca_16 B.v219_r2 C.f4).piece 0) ∗ ((oneWin (by decide) B.arg5 B.alloca_17 B.v219_r3 C.f5).free 0 ∗ (oneWin (by decide) B.arg5 B.alloca_17 B.v219_r3 C.f5).piece 0) ∗ ((oneWin (by decide) B.arg6 B.alloca_18 B.v219_r4 C.f6).free 0 ∗ (oneWin (by decide) B.arg6 B.alloca_18 B.v219_r4 C.f6).piece 0) ∗ ((w0 C).free 0 ∗ (w0 C).free 1 ∗ (w0 C).todo 0) ∗ Owe F d O 𝔹 ∗ Transfers.MayWaits (d.tc : Thread nD τ) none O ∗ ((((oneWin (by decide) B.arg3 B.alloca_15 B.v219_r1 C.f3).piece 0 ∗ wt d B.alloca_15 (B.arg3.view.read (Elt F) C.f3) ∗ (oneWin (by decide) B.arg3 B.alloca_15 B.v219_r1 C.f3).rest 0) ∗ ((oneWin (by decide) B.arg4 B.alloca_16 B.v219_r2 C.f4).piece 0 ∗ wt d B.alloca_16 (B.arg4.view.read (Elt F) C.f4) ∗ (oneWin (by decide) B.arg4 B.alloca_16 B.v219_r2 C.f4).rest 0) ∗ ((oneWin (by decide) B.arg5 B.alloca_17 B.v219_r3 C.f5).piece 0 ∗ wt d B.alloca_17 (B.arg5.view.read (Elt F) C.f5) ∗ (oneWin (by decide) B.arg5 B.alloca_17 B.v219_r3 C.f5).rest 0) ∗ ((oneWin (by decide) B.arg6 B.alloca_18 B.v219_r4 C.f6).piece 0 ∗ wt d B.alloca_18 (B.arg6.view.read (Elt F) C.f6) ∗ (oneWin (by decide) B.arg6 B.alloca_18 B.v219_r4 C.f6).rest 0) ∗ (w0 C).W0 0 ∗ Owe F d O 𝔹) -∗ Φ ⟨(Scalar.addi 0#32 1#32), 0#32⟩))
      ⊢ wp frame (wpE (defs₀ (F := F)) 𝒱₀ (d.tc : Thread nD τ) bd) Set.univ (k0_part24 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4) Φ := by
  rw [k0_part24_eq_skeleton]
  unfold k0_part24_skel
  dsimp only
  iintro ⟨K3, K4, K5, K6, H0, HO, #HM, HΦ⟩
  iapply (wp_weight bd (by decide) B.arg3 B.alloca_15 B.v219_r1 C.f3 hB) $$ [K3 HO]
  · isplitl [K3]; · iexact K3
    isplitl [HO]; · iexact HO
    iexact HM
  iintro ⟨K3, HO⟩
  iapply (wp_weight bd (by decide) B.arg4 B.alloca_16 B.v219_r2 C.f4 hB) $$ [K4 HO]
  · isplitl [K4]; · iexact K4
    isplitl [HO]; · iexact HO
    iexact HM
  iintro ⟨K4, HO⟩
  iapply (wp_weight bd (by decide) B.arg5 B.alloca_17 B.v219_r3 C.f5 hB) $$ [K5 HO]
  · isplitl [K5]; · iexact K5
    isplitl [HO]; · iexact HO
    iexact HM
  iintro ⟨K5, HO⟩
  iapply (wp_weight bd (by decide) B.arg6 B.alloca_18 B.v219_r4 C.f6 hB) $$ [K6 HO]
  · isplitl [K6]; · iexact K6
    isplitl [HO]; · iexact HO
    iexact HM
  iintro ⟨K6, HO⟩
  iapply (wp_first bd (w0 C) (srcB_eq _ _ off3_at0 _).symm (slot3_eq _ _ off2_at _).symm (semOf_eq _ _ off1_at _).symm) $$ H0
  iintro H0
  rw [wp_pure]
  imodintro
  iapply HΦ
  isplitl [K3]; · iexact K3
  isplitl [K4]; · iexact K4
  isplitl [K5]; · iexact K5
  isplitl [K6]; · iexact K6
  isplitl [H0]; · iexact H0
  iexact HO
theorem part25 (i : grid0.Coords) {Φ : _ → sProp (𝕄 F)} :
    iprop(((w1 C).free 0 ∗ (w1 C).free 1 ∗ (w1 C).todo 0) ∗ ((w2 C).free 0 ∗ (w2 C).free 1 ∗ (w2 C).todo 0) ∗ ((w3 C).free 0 ∗ (w3 C).free 1 ∗ (w3 C).todo 0) ∗ (((w1 C).W0 0 ∗ (w2 C).W0 0 ∗ (w3 C).W0 0) -∗ Φ ⟨(Scalar.addi 0#32 1#32), (Scalar.addi 0#32 1#32), (Scalar.addi 0#32 1#32), 0#32⟩))
      ⊢ wp frame (wpE (defs₀ (F := F)) 𝒱₀ (d.tc : Thread nD τ) bd) Set.univ (k0_part25 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32) Φ := by
  rw [k0_part25_eq_skeleton]
  unfold k0_part25_skel
  dsimp only
  iintro ⟨H1, H2, H3, HΦ⟩
  iapply (wp_first bd (w1 C) (srcB_eq _ _ off3_at1 _).symm (slot3_eq _ _ off2_at _).symm (semOf_eq _ _ off1_at _).symm) $$ H1
  iintro H1
  iapply (wp_first bd (w2 C) (srcB_eq _ _ off3_at2 _).symm (slot3_eq _ _ off2_at _).symm (semOf_eq _ _ off1_at _).symm) $$ H2
  iintro H2
  iapply (wp_first bd (w3 C) (srcB_eq _ _ off3_at3 _).symm (slot3_eq _ _ off2_at _).symm (semOf_eq _ _ off1_at _).symm) $$ H3
  iintro H3
  rw [wp_pure]
  imodintro
  iapply HΦ
  isplitl [H1]; · iexact H1
  isplitl [H2]; · iexact H2
  iexact H3
theorem part26 (i : grid0.Coords) {Φ : _ → sProp (𝕄 F)} :
    iprop(((w4 C).free 0 ∗ (w4 C).free 1 ∗ (w4 C).todo 0) ∗ ((w5 C).free 0 ∗ (w5 C).free 1 ∗ (w5 C).todo 0) ∗ ((w6 C).free 0 ∗ (w6 C).free 1 ∗ (w6 C).todo 0) ∗ (((w4 C).W0 0 ∗ (w5 C).W0 0 ∗ (w6 C).W0 0) -∗ Φ ⟨(Scalar.addi 0#32 1#32), (Scalar.addi 0#32 1#32), (Scalar.addi 0#32 1#32), 0#32⟩))
      ⊢ wp frame (wpE (defs₀ (F := F)) 𝒱₀ (d.tc : Thread nD τ) bd) Set.univ (k0_part26 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32) Φ := by
  rw [k0_part26_eq_skeleton]
  unfold k0_part26_skel
  dsimp only
  iintro ⟨H4, H5, H6, HΦ⟩
  iapply (wp_first bd (w4 C) (srcB_eq _ _ off3_at4 _).symm (slot3_eq _ _ off2_at _).symm (semOf_eq _ _ off1_at _).symm) $$ H4
  iintro H4
  iapply (wp_first bd (w5 C) (srcB_eq _ _ off3_at5 _).symm (slot3_eq _ _ off2_at _).symm (semOf_eq _ _ off1_at _).symm) $$ H5
  iintro H5
  iapply (wp_first bd (w6 C) (srcB_eq _ _ off3_at6 _).symm (slot3_eq _ _ off2_at _).symm (semOf_eq _ _ off1_at _).symm) $$ H6
  iintro H6
  rw [wp_pure]
  imodintro
  iapply HΦ
  isplitl [H4]; · iexact H4
  isplitl [H5]; · iexact H5
  iexact H6
theorem part27 (i : grid0.Coords) {Φ : _ → sProp (𝕄 F)} :
    iprop(((w7 C).free 0 ∗ (w7 C).free 1 ∗ (w7 C).todo 0) ∗ ((w8 C).free 0 ∗ (w8 C).free 1 ∗ (w8 C).todo 0) ∗ ((w9 C).free 0 ∗ (w9 C).free 1 ∗ (w9 C).todo 0) ∗ (((w7 C).W0 0 ∗ (w8 C).W0 0 ∗ (w9 C).W0 0) -∗ Φ ⟨(Scalar.addi 0#32 1#32), (Scalar.addi 0#32 1#32), (Scalar.addi 0#32 1#32), 0#32⟩))
      ⊢ wp frame (wpE (defs₀ (F := F)) 𝒱₀ (d.tc : Thread nD τ) bd) Set.univ (k0_part27 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32) Φ := by
  rw [k0_part27_eq_skeleton]
  unfold k0_part27_skel
  dsimp only
  iintro ⟨H7, H8, H9, HΦ⟩
  iapply (wp_first bd (w7 C) (srcB_eq _ _ off3_at7 _).symm (slot3_eq _ _ off2_at _).symm (semOf_eq _ _ off1_at _).symm) $$ H7
  iintro H7
  iapply (wp_first bd (w8 C) (srcB_eq _ _ off3_at0 _).symm (slot3_eq _ _ off2_at _).symm (semOf_eq _ _ off1_at _).symm) $$ H8
  iintro H8
  iapply (wp_first bd (w9 C) (srcB_eq _ _ off3_at1 _).symm (slot3_eq _ _ off2_at _).symm (semOf_eq _ _ off1_at _).symm) $$ H9
  iintro H9
  rw [wp_pure]
  imodintro
  iapply HΦ
  isplitl [H7]; · iexact H7
  isplitl [H8]; · iexact H8
  iexact H9
theorem part28 (i : grid0.Coords) {Φ : _ → sProp (𝕄 F)} :
    iprop(((w10 C).free 0 ∗ (w10 C).free 1 ∗ (w10 C).todo 0) ∗ ((w11 C).free 0 ∗ (w11 C).free 1 ∗ (w11 C).todo 0) ∗ ((w12 C).free 0 ∗ (w12 C).free 1 ∗ (w12 C).todo 0) ∗ (((w10 C).W0 0 ∗ (w11 C).W0 0 ∗ (w12 C).W0 0) -∗ Φ ⟨(Scalar.addi 0#32 1#32), (Scalar.addi 0#32 1#32), (Scalar.addi 0#32 1#32), 0#32⟩))
      ⊢ wp frame (wpE (defs₀ (F := F)) 𝒱₀ (d.tc : Thread nD τ) bd) Set.univ (k0_part28 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32) Φ := by
  rw [k0_part28_eq_skeleton]
  unfold k0_part28_skel
  dsimp only
  iintro ⟨H10, H11, H12, HΦ⟩
  iapply (wp_first bd (w10 C) (srcB_eq _ _ off3_at2 _).symm (slot3_eq _ _ off2_at _).symm (semOf_eq _ _ off1_at _).symm) $$ H10
  iintro H10
  iapply (wp_first bd (w11 C) (srcB_eq _ _ off3_at3 _).symm (slot3_eq _ _ off2_at _).symm (semOf_eq _ _ off1_at _).symm) $$ H11
  iintro H11
  iapply (wp_first bd (w12 C) (srcB_eq _ _ off3_at4 _).symm (slot3_eq _ _ off2_at _).symm (semOf_eq _ _ off1_at _).symm) $$ H12
  iintro H12
  rw [wp_pure]
  imodintro
  iapply HΦ
  isplitl [H10]; · iexact H10
  isplitl [H11]; · iexact H11
  iexact H12
theorem part29 (i : grid0.Coords) {Φ : _ → sProp (𝕄 F)} :
    iprop(((w13 C).free 0 ∗ (w13 C).free 1 ∗ (w13 C).todo 0) ∗ ((w14 C).free 0 ∗ (w14 C).free 1 ∗ (w14 C).todo 0) ∗ ((w15 C).free 0 ∗ (w15 C).free 1 ∗ (w15 C).todo 0) ∗ (((w13 C).W0 0 ∗ (w14 C).W0 0 ∗ (w15 C).W0 0) -∗ Φ ⟨(Scalar.addi 0#32 1#32), (Scalar.addi 0#32 1#32), (Scalar.addi 0#32 1#32), 0#32⟩))
      ⊢ wp frame (wpE (defs₀ (F := F)) 𝒱₀ (d.tc : Thread nD τ) bd) Set.univ (k0_part29 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 0#32) Φ := by
  rw [k0_part29_eq_skeleton]
  unfold k0_part29_skel
  dsimp only
  iintro ⟨H13, H14, H15, HΦ⟩
  iapply (wp_first bd (w13 C) (srcB_eq _ _ off3_at5 _).symm (slot3_eq _ _ off2_at _).symm (semOf_eq _ _ off1_at _).symm) $$ H13
  iintro H13
  iapply (wp_first bd (w14 C) (srcB_eq _ _ off3_at6 _).symm (slot3_eq _ _ off2_at _).symm (semOf_eq _ _ off1_at _).symm) $$ H14
  iintro H14
  iapply (wp_first bd (w15 C) (srcB_eq _ _ off3_at7 _).symm (slot3_eq _ _ off2_at _).symm (semOf_eq _ _ off1_at _).symm) $$ H15
  iintro H15
  rw [wp_pure]
  imodintro
  iapply HΦ
  isplitl [H13]; · iexact H13
  isplitl [H14]; · iexact H14
  iexact H15
theorem part30 (i : grid0.Coords) {Φ : _ → sProp (𝕄 F)} :
    iprop((w0 C).W0 0 ∗ (w1 C).W0 0 ∗ (w2 C).W0 0 ∗ (w3 C).W0 0 ∗ (w4 C).W0 0 ∗ (w5 C).W0 0 ∗ (w6 C).W0 0 ∗ (w7 C).W0 0 ∗ (w8 C).W0 0 ∗ (w9 C).W0 0 ∗ (w10 C).W0 0 ∗ (w11 C).W0 0 ∗ (w12 C).W0 0 ∗ (w13 C).W0 0 ∗ (w14 C).W0 0 ∗ (w15 C).W0 0 ∗ ((w16 C).free 0 ∗ (w16 C).free 1 ∗ (w16 C).todo 0) ∗ (o1 C).O0 0 ∗ (o2 C).O0 0 ∗ wt d B.alloca_15 (B.arg3.view.read (Elt F) C.f3) ∗ wt d B.alloca_16 (B.arg4.view.read (Elt F) C.f4) ∗ wt d B.alloca_17 (B.arg5.view.read (Elt F) C.f5) ∗ wt d B.alloca_18 (B.arg6.view.read (Elt F) C.f6) ∗ Owe F d O 𝔹 ∗ Transfers.MayWaits (d.tc : Thread nD τ) none O ∗ (((w0 C).W0 16 ∗ (w1 C).W0 16 ∗ (w2 C).W0 16 ∗ (w3 C).W0 16 ∗ (w4 C).W0 16 ∗ (w5 C).W0 16 ∗ (w6 C).W0 16 ∗ (w7 C).W0 16 ∗ (w8 C).W0 16 ∗ (w9 C).W0 16 ∗ (w10 C).W0 16 ∗ (w11 C).W0 16 ∗ (w12 C).W0 16 ∗ (w13 C).W0 16 ∗ (w14 C).W0 16 ∗ (w15 C).W0 16 ∗ (w16 C).W0 16 ∗ (o1 C).O0 16 ∗ (o2 C).O0 16 ∗ wt d B.alloca_15 (B.arg3.view.read (Elt F) C.f3) ∗ wt d B.alloca_16 (B.arg4.view.read (Elt F) C.f4) ∗ wt d B.alloca_17 (B.arg5.view.read (Elt F) C.f5) ∗ wt d B.alloca_18 (B.arg6.view.read (Elt F) C.f6) ∗ Owe F d O 𝔹) -∗ Φ ⟨prv 16, prv 16, cyc 16, chk23_ok, chk22_ok, chk21_ok, Scalar.select 1#1 (Scalar.subi (cyc 16) 1#32) (cyc 16), Scalar.cmpi .eq (Scalar.select 1#1 (Scalar.subi (cyc 16) 1#32) (cyc 16)) 4294967295#32⟩))
      ⊢ wp frame (wpE (defs₀ (F := F)) 𝒱₀ (d.tc : Thread nD τ) bd) Set.univ (k0_part30 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) 0#32) Φ := by
  rw [k0_part30_eq_skeleton]
  unfold k0_part30_skel
  dsimp only
  iintro ⟨H0, H1, H2, H3, H4, H5, H6, H7, H8, H9, H10, H11, H12, H13, H14, H15, H16, G1, G2, K3, K4, K5, K6, HO, #HM, HΦ⟩
  iapply (wp_first bd (w16 C) (srcM_eq _ _ rfl _).symm (slotM_eq _ _ off4_at _).symm (semOf_eq _ _ off1_at _).symm) $$ H16
  iintro H16
  iapply (Scf.wp_for_bind _ _ _ _ _ _ k0_t1_ok _ _ (scanI C O 𝔹) (fun t acc => body_step bd hB C i (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) (Scalar.addi 0#32 1#32) 0#32 t acc)) $$ [H0 H1 H2 H3 H4 H5 H6 H7 H8 H9 H10 H11 H12 H13 H14 H15 H16 G1 G2 K3 K4 K5 K6 HO]
  · unfold scanI
    isplitr
    · ipureintro; rfl
    isplitl
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [G1]; · iexact G1
      isplitl [G2]; · iexact G2
      isplitl [K3]; · iexact K3
      isplitl [K4]; · iexact K4
      isplitl [K5]; · iexact K5
      isplitl [K6]; · iexact K6
      iexact HO
    · iexact HM
  iintro %acc HI
  rw [show Scf.trips k0_t1_loop.lb k0_t1_loop.ub k0_t1_loop.st = 16 from trips_eq]
  unfold scanI
  icases HI with ⟨%h, ⟨H0, H1, H2, H3, H4, H5, H6, H7, H8, H9, H10, H11, H12, H13, H14, H15, H16, G1, G2, K3, K4, K5, K6, HO⟩, -⟩
  subst h
  unfold accOf
  dsimp only
  iapply (wp_chk d bd chk23_ok)
  iapply (wp_chk d bd chk22_ok)
  iapply (wp_chk d bd chk21_ok)
  rw [wp_pure]
  imodintro
  iapply HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [G1]; · iexact G1
  isplitl [G2]; · iexact G2
  isplitl [K3]; · iexact K3
  isplitl [K4]; · iexact K4
  isplitl [K5]; · iexact K5
  isplitl [K6]; · iexact K6
  iexact HO
theorem part31 (i : grid0.Coords) (x : BitVec 32) (y : BitVec 1) {Φ : _ → sProp (𝕄 F)} :
    iprop((o1 C).O0 16 ∗ (o2 C).O0 16 ∗ Owe F d O 𝔹 ∗ Transfers.MayWaits (d.tc : Thread nD τ) none O
      ∗ ((((o1 C).free 0 ∗ (o1 C).free 1 ∗ (o1 C).done 16) ∗ ((o2 C).free 0 ∗ (o2 C).free 1 ∗ (o2 C).done 16) ∗ Owe F d O 𝔹) -∗ Φ ⟨⟩))
      ⊢ wp frame (wpE (defs₀ (F := F)) 𝒱₀ (d.tc : Thread nD τ) bd) Set.univ (k0_part31 (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4 (prv 16) (prv 16) (cyc 16) chk23_ok chk22_ok chk21_ok x y) Φ := by
  rw [k0_part31_eq_skeleton]
  unfold k0_part31_skel
  dsimp only
  iintro ⟨G1, G2, HO, #HM, HΦ⟩
  iapply (wp_last bd (o1 C) rfl hB (outB_eq _ _ off139_at _).symm (semOf_eq _ _ off138_at _).symm) $$ [G1 HO]
  · isplitl [G1]; · iexact G1
    isplitl [HO]; · iexact HO
    iexact HM
  iintro ⟨G1, HO⟩
  iapply (wp_last bd (o2 C) rfl hB (outB_eq _ _ off142_at _).symm (semOf_eq _ _ off141_at _).symm) $$ [G2 HO]
  · isplitl [G2]; · iexact G2
    isplitl [HO]; · iexact HO
    iexact HM
  iintro ⟨G2, HO⟩
  rw [wp_pure]
  imodintro
  iapply HΦ
  isplitl [G1]; · iexact G1
  isplitl [G2]; · iexact G2
  iexact HO

/-- What the scan is handed. -/
def scanPre : sProp (𝕄 F) := iprop(((w0 C).free 0 ∗ (w0 C).free 1 ∗ (w0 C).todo 0) ∗ ((w1 C).free 0 ∗ (w1 C).free 1 ∗ (w1 C).todo 0) ∗ ((w2 C).free 0 ∗ (w2 C).free 1 ∗ (w2 C).todo 0) ∗ ((w3 C).free 0 ∗ (w3 C).free 1 ∗ (w3 C).todo 0) ∗ ((w4 C).free 0 ∗ (w4 C).free 1 ∗ (w4 C).todo 0) ∗ ((w5 C).free 0 ∗ (w5 C).free 1 ∗ (w5 C).todo 0) ∗ ((w6 C).free 0 ∗ (w6 C).free 1 ∗ (w6 C).todo 0) ∗ ((w7 C).free 0 ∗ (w7 C).free 1 ∗ (w7 C).todo 0) ∗ ((w8 C).free 0 ∗ (w8 C).free 1 ∗ (w8 C).todo 0) ∗ ((w9 C).free 0 ∗ (w9 C).free 1 ∗ (w9 C).todo 0) ∗ ((w10 C).free 0 ∗ (w10 C).free 1 ∗ (w10 C).todo 0) ∗ ((w11 C).free 0 ∗ (w11 C).free 1 ∗ (w11 C).todo 0) ∗ ((w12 C).free 0 ∗ (w12 C).free 1 ∗ (w12 C).todo 0) ∗ ((w13 C).free 0 ∗ (w13 C).free 1 ∗ (w13 C).todo 0) ∗ ((w14 C).free 0 ∗ (w14 C).free 1 ∗ (w14 C).todo 0) ∗ ((w15 C).free 0 ∗ (w15 C).free 1 ∗ (w15 C).todo 0) ∗ ((w16 C).free 0 ∗ (w16 C).free 1 ∗ (w16 C).todo 0) ∗ ((o1 C).free 0 ∗ (o1 C).free 1 ∗ (o1 C).todo 0) ∗ ((o2 C).free 0 ∗ (o2 C).free 1 ∗ (o2 C).todo 0) ∗ ((oneWin (by decide) B.arg3 B.alloca_15 B.v219_r1 C.f3).free 0 ∗ (oneWin (by decide) B.arg3 B.alloca_15 B.v219_r1 C.f3).piece 0) ∗ ((oneWin (by decide) B.arg4 B.alloca_16 B.v219_r2 C.f4).free 0 ∗ (oneWin (by decide) B.arg4 B.alloca_16 B.v219_r2 C.f4).piece 0) ∗ ((oneWin (by decide) B.arg5 B.alloca_17 B.v219_r3 C.f5).free 0 ∗ (oneWin (by decide) B.arg5 B.alloca_17 B.v219_r3 C.f5).piece 0) ∗ ((oneWin (by decide) B.arg6 B.alloca_18 B.v219_r4 C.f6).free 0 ∗ (oneWin (by decide) B.arg6 B.alloca_18 B.v219_r4 C.f6).piece 0))
/-- What it gives back. -/
def scanPost : sProp (𝕄 F) := iprop(((w0 C).free 0 ∗ (w0 C).free 1 ∗ (w0 C).done (w0 C).N) ∗ ((w1 C).free 0 ∗ (w1 C).free 1 ∗ (w1 C).done (w1 C).N) ∗ ((w2 C).free 0 ∗ (w2 C).free 1 ∗ (w2 C).done (w2 C).N) ∗ ((w3 C).free 0 ∗ (w3 C).free 1 ∗ (w3 C).done (w3 C).N) ∗ ((w4 C).free 0 ∗ (w4 C).free 1 ∗ (w4 C).done (w4 C).N) ∗ ((w5 C).free 0 ∗ (w5 C).free 1 ∗ (w5 C).done (w5 C).N) ∗ ((w6 C).free 0 ∗ (w6 C).free 1 ∗ (w6 C).done (w6 C).N) ∗ ((w7 C).free 0 ∗ (w7 C).free 1 ∗ (w7 C).done (w7 C).N) ∗ ((w8 C).free 0 ∗ (w8 C).free 1 ∗ (w8 C).done (w8 C).N) ∗ ((w9 C).free 0 ∗ (w9 C).free 1 ∗ (w9 C).done (w9 C).N) ∗ ((w10 C).free 0 ∗ (w10 C).free 1 ∗ (w10 C).done (w10 C).N) ∗ ((w11 C).free 0 ∗ (w11 C).free 1 ∗ (w11 C).done (w11 C).N) ∗ ((w12 C).free 0 ∗ (w12 C).free 1 ∗ (w12 C).done (w12 C).N) ∗ ((w13 C).free 0 ∗ (w13 C).free 1 ∗ (w13 C).done (w13 C).N) ∗ ((w14 C).free 0 ∗ (w14 C).free 1 ∗ (w14 C).done (w14 C).N) ∗ ((w15 C).free 0 ∗ (w15 C).free 1 ∗ (w15 C).done (w15 C).N) ∗ ((w16 C).free 0 ∗ (w16 C).free 1 ∗ (w16 C).done (w16 C).N) ∗ ((o1 C).free 0 ∗ (o1 C).free 1 ∗ (o1 C).done 16) ∗ ((o2 C).free 0 ∗ (o2 C).free 1 ∗ (o2 C).done 16) ∗ ((oneWin (by decide) B.arg3 B.alloca_15 B.v219_r1 C.f3).piece 0 ∗ wt d B.alloca_15 (B.arg3.view.read (Elt F) C.f3) ∗ (oneWin (by decide) B.arg3 B.alloca_15 B.v219_r1 C.f3).rest 0) ∗ ((oneWin (by decide) B.arg4 B.alloca_16 B.v219_r2 C.f4).piece 0 ∗ wt d B.alloca_16 (B.arg4.view.read (Elt F) C.f4) ∗ (oneWin (by decide) B.arg4 B.alloca_16 B.v219_r2 C.f4).rest 0) ∗ ((oneWin (by decide) B.arg5 B.alloca_17 B.v219_r3 C.f5).piece 0 ∗ wt d B.alloca_17 (B.arg5.view.read (Elt F) C.f5) ∗ (oneWin (by decide) B.arg5 B.alloca_17 B.v219_r3 C.f5).rest 0) ∗ ((oneWin (by decide) B.arg6 B.alloca_18 B.v219_r4 C.f6).piece 0 ∗ wt d B.alloca_18 (B.arg6.view.read (Elt F) C.f6) ∗ (oneWin (by decide) B.arg6 B.alloca_18 B.v219_r4 C.f6).rest 0))

/-- The scan: every table block copied in, every block of the two results copied out at its value. -/
theorem scan_k (i : grid0.Coords) {Φ : PUnit → sProp (𝕄 F)} :
    iprop(scanPre C ∗ Owe F d O 𝔹 ∗ Transfers.MayWaits (d.tc : Thread nD τ) none O ∗ ((scanPost C ∗ Owe F d O 𝔹) -∗ Φ ⟨⟩))
      ⊢ wp frame (wpE (defs₀ (F := F)) 𝒱₀ (d.tc : Thread nD τ) bd) Set.univ (cc0_k (F := F) i B.arg1 B.harg1 B.arg2 B.harg2 B.arg3 B.harg3 B.arg4 B.harg4 B.arg5 B.harg5 B.arg6 B.harg6 B.arg7 B.harg7 B.arg8 B.harg8 B.arg9 B.harg9 B.alloca B.halloca B.v0 B.alloca_0 B.halloca_0 B.v1 B.alloca_1 B.halloca_1 B.v2 B.alloca_2 B.halloca_2 B.v3 B.alloca_3 B.halloca_3 B.v4 B.alloca_4 B.halloca_4 B.v5 B.alloca_5 B.halloca_5 B.v6 B.alloca_6 B.halloca_6 B.v7 B.alloca_7 B.halloca_7 B.v8 B.alloca_8 B.halloca_8 B.v9 B.alloca_9 B.halloca_9 B.v10 B.alloca_10 B.halloca_10 B.v11 B.alloca_11 B.halloca_11 B.v12 B.alloca_12 B.halloca_12 B.v13 B.alloca_13 B.halloca_13 B.v14 B.alloca_14 B.halloca_14 B.v15 B.alloca_15 B.halloca_15 B.alloca_16 B.halloca_16 B.alloca_17 B.halloca_17 B.alloca_18 B.halloca_18 B.alloca_19 B.halloca_19 B.v16 B.alloca_20 B.halloca_20 B.v17 B.alloca_21 B.halloca_21 B.v18 B.v219_r1 B.v219_r2 B.v219_r3 B.v219_r4) Φ := by
  rw [cc0_k_eq_skeleton]
  unfold cc0_k_skel
  unfold scanPre scanPost
  iintro ⟨⟨H0, H1, H2, H3, H4, H5, H6, H7, H8, H9, H10, H11, H12, H13, H14, H15, H16, G1, G2, K3, K4, K5, K6⟩, HO, #HM, HΦ⟩
  iapply wp_seq
  iapply (part24 bd hB C i)
  isplitl [K3]; · iexact K3
  isplitl [K4]; · iexact K4
  isplitl [K5]; · iexact K5
  isplitl [K6]; · iexact K6
  isplitl [H0]; · iexact H0
  isplitl [HO]; · iexact HO
  isplitr; · iexact HM
  iintro ⟨⟨K3p, K3, K3r⟩, ⟨K4p, K4, K4r⟩, ⟨K5p, K5, K5r⟩, ⟨K6p, K6, K6r⟩, H0, HO⟩
  iapply wp_seq
  iapply (part25 bd hB C i)
  isplitl [H1]; · iexact H1
  isplitl [H2]; · iexact H2
  isplitl [H3]; · iexact H3
  iintro ⟨H1, H2, H3⟩
  iapply wp_seq
  iapply (part26 bd hB C i)
  isplitl [H4]; · iexact H4
  isplitl [H5]; · iexact H5
  isplitl [H6]; · iexact H6
  iintro ⟨H4, H5, H6⟩
  iapply wp_seq
  iapply (part27 bd hB C i)
  isplitl [H7]; · iexact H7
  isplitl [H8]; · iexact H8
  isplitl [H9]; · iexact H9
  iintro ⟨H7, H8, H9⟩
  iapply wp_seq
  iapply (part28 bd hB C i)
  isplitl [H10]; · iexact H10
  isplitl [H11]; · iexact H11
  isplitl [H12]; · iexact H12
  iintro ⟨H10, H11, H12⟩
  iapply wp_seq
  iapply (part29 bd hB C i)
  isplitl [H13]; · iexact H13
  isplitl [H14]; · iexact H14
  isplitl [H15]; · iexact H15
  iintro ⟨H13, H14, H15⟩
  iapply wp_seq
  iapply (part30 bd hB C i)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [G1]; · iapply (O0_zero (o1 C)); iexact G1
  isplitl [G2]; · iapply (O0_zero (o2 C)); iexact G2
  isplitl [K3]; · iexact K3
  isplitl [K4]; · iexact K4
  isplitl [K5]; · iexact K5
  isplitl [K6]; · iexact K6
  isplitl [HO]; · iexact HO
  isplitr; · iexact HM
  iintro ⟨H0, H1, H2, H3, H4, H5, H6, H7, H8, H9, H10, H11, H12, H13, H14, H15, H16, G1, G2, K3, K4, K5, K6, HO⟩
  iapply wp_seq
  iapply (part31 bd hB C i)
  isplitl [G1]; · iexact G1
  isplitl [G2]; · iexact G2
  isplitl [HO]; · iexact HO
  isplitr; · iexact HM
  iintro ⟨G1, G2, HO⟩
  rw [wp_pure]
  imodintro
  iapply HΦ
  isplitr [HO]
  swap; · iexact HO
  isplitl [H0]; · iapply ((w0 C).W0_end 16 (show 16 ≤ 16 by decide)); iexact H0
  isplitl [H1]; · iapply ((w1 C).W0_end 16 (show 16 ≤ 16 by decide)); iexact H1
  isplitl [H2]; · iapply ((w2 C).W0_end 16 (show 16 ≤ 16 by decide)); iexact H2
  isplitl [H3]; · iapply ((w3 C).W0_end 16 (show 16 ≤ 16 by decide)); iexact H3
  isplitl [H4]; · iapply ((w4 C).W0_end 16 (show 16 ≤ 16 by decide)); iexact H4
  isplitl [H5]; · iapply ((w5 C).W0_end 16 (show 16 ≤ 16 by decide)); iexact H5
  isplitl [H6]; · iapply ((w6 C).W0_end 16 (show 16 ≤ 16 by decide)); iexact H6
  isplitl [H7]; · iapply ((w7 C).W0_end 16 (show 11 ≤ 16 by decide)); iexact H7
  isplitl [H8]; · iapply ((w8 C).W0_end 16 (show 16 ≤ 16 by decide)); iexact H8
  isplitl [H9]; · iapply ((w9 C).W0_end 16 (show 16 ≤ 16 by decide)); iexact H9
  isplitl [H10]; · iapply ((w10 C).W0_end 16 (show 16 ≤ 16 by decide)); iexact H10
  isplitl [H11]; · iapply ((w11 C).W0_end 16 (show 16 ≤ 16 by decide)); iexact H11
  isplitl [H12]; · iapply ((w12 C).W0_end 16 (show 16 ≤ 16 by decide)); iexact H12
  isplitl [H13]; · iapply ((w13 C).W0_end 16 (show 16 ≤ 16 by decide)); iexact H13
  isplitl [H14]; · iapply ((w14 C).W0_end 16 (show 16 ≤ 16 by decide)); iexact H14
  isplitl [H15]; · iapply ((w15 C).W0_end 16 (show 11 ≤ 16 by decide)); iexact H15
  isplitl [H16]; · iapply ((w16 C).W0_end 16 (show 16 ≤ 16 by decide)); iexact H16
  isplitl [G1]; · iexact G1
  isplitl [G2]; · iexact G2
  isplitl [K3p K3 K3r]
  · isplitl [K3p]; · iexact K3p
    isplitl [K3]; · iexact K3
    iexact K3r
  isplitl [K4p K4 K4r]
  · isplitl [K4p]; · iexact K4p
    isplitl [K4]; · iexact K4
    iexact K4r
  isplitl [K5p K5 K5r]
  · isplitl [K5p]; · iexact K5p
    isplitl [K5]; · iexact K5
    iexact K5r
  isplitl [K6p]; · iexact K6p
  isplitl [K6]; · iexact K6
  iexact K6r

end Cert.Proof

end
-- ==== Proof.MlpBody.lean ====
/-
  The two-layer network's kernel: its body on one block of rows.
-/
module

public import proofs.«01_k».proof.Proof.ScanBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (d : Dev nD) [FloatOps F]

/-- A whole load of an owned buffer. -/
theorem wp_readO {α : Type} {Q : α → sProp (𝕄 F)} {n m : ℕ} {e : EltTy} {al : Memref sig .tc .vmem (⟨2, ![n, m]⟩ : Shape) e} {x}
    {p : ∀ a, (![0, 0] : Fin 2 → ℕ) a + (⟨2, ![n, m]⟩ : Shape).size a ≤ (⟨2, ![n, m]⟩ : Shape).size a}
    {hl : al.view.LoadsAt (Rect.unit (s := (⟨2, ![n, m]⟩ : Shape)) ![0, 0] (⟨2, ![n, m]⟩ : Shape).size p).toLoadRect}
    {J : ((⟨2, ![n, m]⟩ : Shape).Idx → Elt F e) → Prog (TpuEff nD τ sig (Elt F) Λ₀ .tc) α} :
    (owns (d.tc : Thread nD τ) al fullShare x : sProp (𝕄 F)) ⊢ iprop((owns (d.tc : Thread nD τ) al fullShare x -∗ wp frame (wpE (defs₀ (F := F)) 𝒱₀ (d.tc : Thread nD τ) none) Set.univ (J x) Q)
        -∗ wp frame (wpE (defs₀ (F := F)) 𝒱₀ (d.tc : Thread nD τ) none) Set.univ
          (Prog.lift (.load al (Rect.unit (s := (⟨2, ![n, m]⟩ : Shape)) ![0, 0] (⟨2, ![n, m]⟩ : Shape).size p).toLoadRect hl) >>= J) Q) := by
  unfold owns
  iintro ⟨%f, %hf, Hf⟩ HJ
  have hS : (al.access (Rect.unit (s := (⟨2, ![n, m]⟩ : Shape)) ![0, 0] (⟨2, ![n, m]⟩ : Shape).size p)).set ⊆ al.view.set := View.set_slice_subset _ _
  iapply (wp_load_rect 𝒱₀ (d.tc : Thread nD τ) none Set.univ (m := al) (r := Rect.unit (s := (⟨2, ![n, m]⟩ : Shape)) ![0, 0] (⟨2, ![n, m]⟩ : Shape).size p) (hl := hl) (k := J) hS) $$ Hf
  iintro Hf
  have e : (al.access (Rect.unit (s := (⟨2, ![n, m]⟩ : Shape)) ![0, 0] (⟨2, ![n, m]⟩ : Shape).size p)).read (Elt F) f = x := by
    rw [← hf]
    funext i
    show al.view.read (Elt F) f ((Rect.unit (s := (⟨2, ![n, m]⟩ : Shape)) ![0, 0] (⟨2, ![n, m]⟩ : Shape).size p).emb i) = al.view.read (Elt F) f i
    congr 1
    funext a
    apply Fin.ext
    show (![0, 0] : Fin 2 → ℕ) a + 1 * (i a).val = (i a).val
    fin_cases a <;> simp
  rw [e]
  iapply HJ
  iexists f
  isplitr; · ipureintro; exact hf
  iexact Hf

/-- A whole store into an owned buffer. -/
theorem wp_writeO {α : Type} {Q : α → sProp (𝕄 F)} {n m : ℕ} {e : EltTy} {al : Memref sig .tc .vmem (⟨2, ![n, m]⟩ : Shape) e} {x}
    {p : ∀ a, (![0, 0] : Fin 2 → ℕ) a + (⟨2, ![n, m]⟩ : Shape).size a ≤ (⟨2, ![n, m]⟩ : Shape).size a}
    {y : (⟨2, ![n, m]⟩ : Shape).Idx → Elt F e} {hx hm}
    {J : PUnit → Prog (TpuEff nD τ sig (Elt F) Λ₀ .tc) α} :
    (owns (d.tc : Thread nD τ) al fullShare x : sProp (𝕄 F)) ⊢ iprop((owns (d.tc : Thread nD τ) al fullShare y -∗ wp frame (wpE (defs₀ (F := F)) 𝒱₀ (d.tc : Thread nD τ) none) Set.univ (J ⟨⟩) Q)
        -∗ wp frame (wpE (defs₀ (F := F)) 𝒱₀ (d.tc : Thread nD τ) none) Set.univ
          (Prog.lift (.store al (Rect.unit (s := (⟨2, ![n, m]⟩ : Shape)) ![0, 0] (⟨2, ![n, m]⟩ : Shape).size p) y Finset.univ hx hm) >>= J) Q) := by
  unfold owns
  iintro ⟨%f, -, Hf⟩ HJ
  have hS : (al.access (Rect.unit (s := (⟨2, ![n, m]⟩ : Shape)) ![0, 0] (⟨2, ![n, m]⟩ : Shape).size p)).setOn Finset.univ ⊆ al.view.set := View.set_slice_subset _ _
  iapply (wp_store 𝒱₀ (d.tc : Thread nD τ) none Set.univ (m := al) (r := Rect.unit (s := (⟨2, ![n, m]⟩ : Shape)) ![0, 0] (⟨2, ![n, m]⟩ : Shape).size p) (w := y) (hx := hx) (hm := hm) (k := J) hS) $$ Hf
  iintro Hf
  iapply HJ
  iexists _
  isplitr; swap; · iexact Hf
  ipureintro
  refine Eq.trans ?_ ((al.access (Rect.unit (s := (⟨2, ![n, m]⟩ : Shape)) ![0, 0] (⟨2, ![n, m]⟩ : Shape).size p)).read_write_univ (Val := Elt F) f y)
  funext i
  show al.view.read (Elt F) _ i = al.view.read (Elt F) _ ((Rect.unit (s := (⟨2, ![n, m]⟩ : Shape)) ![0, 0] (⟨2, ![n, m]⟩ : Shape).size p).emb i)
  congr 1
  funext a
  apply Fin.ext
  show (i a).val = (![0, 0] : Fin 2 → ℕ) a + 1 * (i a).val
  fin_cases a <;> simp

set_option maxRecDepth 20000
set_option maxHeartbeats 1000000 in
/-- The two-layer network's kernel, on one block of rows: its nine inputs back as they were, its result's buffer at the
    payload of what they hold. -/
theorem mlp_body (i : grid2.Coords) {arg1 : Memref sig .tc .vmem S2048x128 .f32} {harg1 : arg1.IsWhole} {arg2 : Memref sig .tc .vmem S2048x128 .f32} {harg2 : arg2.IsWhole} {arg3 : Memref sig .tc .vmem S2048x1 .i32} {harg3 : arg3.IsWhole} {arg4 : Memref sig .tc .vmem S2048x1 .i32} {harg4 : arg4.IsWhole} {arg5 : Memref sig .tc .vmem S128x10 .f32} {harg5 : arg5.IsWhole} {arg6 : Memref sig .tc .vmem S128x10 .f32} {harg6 : arg6.IsWhole} {arg7 : Memref sig .tc .vmem S1x10 .f32} {harg7 : arg7.IsWhole} {arg8 : Memref sig .tc .vmem S10x1 .f32} {harg8 : arg8.IsWhole} {arg9 : Memref sig .tc .vmem S1x1 .f32} {harg9 : arg9.IsWhole} {arg10 : Memref sig .tc .vmem S2048x1 .f32} {harg10 : arg10.IsWhole}
    {x1 : S2048x128.Idx → Elt F .f32} {x2 : S2048x128.Idx → Elt F .f32} {x3 : S2048x1.Idx → Elt F .i32} {x4 : S2048x1.Idx → Elt F .i32} {x5 : S128x10.Idx → Elt F .f32} {x6 : S128x10.Idx → Elt F .f32} {x7 : S1x10.Idx → Elt F .f32} {x8 : S10x1.Idx → Elt F .f32} {x9 : S1x1.Idx → Elt F .f32} {x10 : S2048x1.Idx → Elt F .f32} {Q : PUnit → sProp (𝕄 F)} :
    iprop(owns (d.tc : Thread nD τ) arg1 fullShare x1 ∗ owns (d.tc : Thread nD τ) arg2 fullShare x2 ∗ owns (d.tc : Thread nD τ) arg3 fullShare x3 ∗ owns (d.tc : Thread nD τ) arg4 fullShare x4 ∗ owns (d.tc : Thread nD τ) arg5 fullShare x5 ∗ owns (d.tc : Thread nD τ) arg6 fullShare x6 ∗ owns (d.tc : Thread nD τ) arg7 fullShare x7 ∗ owns (d.tc : Thread nD τ) arg8 fullShare x8 ∗ owns (d.tc : Thread nD τ) arg9 fullShare x9 ∗ owns (d.tc : Thread nD τ) arg10 fullShare x10
      ∗ (iprop(owns (d.tc : Thread nD τ) arg1 fullShare x1 ∗ owns (d.tc : Thread nD τ) arg2 fullShare x2 ∗ owns (d.tc : Thread nD τ) arg3 fullShare x3 ∗ owns (d.tc : Thread nD τ) arg4 fullShare x4 ∗ owns (d.tc : Thread nD τ) arg5 fullShare x5 ∗ owns (d.tc : Thread nD τ) arg6 fullShare x6 ∗ owns (d.tc : Thread nD τ) arg7 fullShare x7 ∗ owns (d.tc : Thread nD τ) arg8 fullShare x8 ∗ owns (d.tc : Thread nD τ) arg9 fullShare x9 ∗ owns (d.tc : Thread nD τ) arg10 fullShare (k2_pay1 (k2_pay3 x1 x3) (k2_pay4 x2) (k2_pay5 x4) x5 x6 x7 x8 x9)) -∗ Q ⟨⟩))
      ⊢ wp frame (wpE (defs₀ (F := F)) 𝒱₀ (d.tc : Thread nD τ) none) Set.univ (cc2__mlp_body (F := F) i arg1 harg1 arg2 harg2 arg3 harg3 arg4 harg4 arg5 harg5 arg6 harg6 arg7 harg7 arg8 harg8 arg9 harg9 arg10 harg10) Q := by
  rw [cc2__mlp_body_eq_skeleton]
  unfold cc2__mlp_body_skel
  rw [k2_part1_eq_skeleton]
  unfold k2_part1_skel
  iintro ⟨H1, H2, H3, H4, H5, H6, H7, H8, H9, H10, Hk⟩
  iapply (wp_seq (d := d) none)
  iapply (wp_readO d (al := arg1)) $$ H1
  iintro H1
  iapply (wp_readO d (al := arg3)) $$ H3
  iintro H3
  iapply (wp_readO d (al := arg2)) $$ H2
  iintro H2
  iapply (wp_readO d (al := arg4)) $$ H4
  iintro H4
  rw [wp_pure]
  imodintro
  iapply (wp_readO d (al := arg5)) $$ H5
  iintro H5
  iapply (wp_readO d (al := arg6)) $$ H6
  iintro H6
  iapply (wp_readO d (al := arg7)) $$ H7
  iintro H7
  iapply (wp_readO d (al := arg8)) $$ H8
  iintro H8
  iapply (wp_readO d (al := arg9)) $$ H9
  iintro H9
  iapply (wp_readO d (al := arg10)) $$ H10
  iintro H10
  iapply (wp_writeO d (al := arg10)) $$ H10
  iintro H10
  rw [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof

end
-- ==== Proof.Mlp.lean ====
/-
  The two-layer network's call: its proof data over a valuation of the TensorCore's buffers, its body obligation, its region.
-/
module

public import proofs.«01_k».proof.Proof.MlpBody
public import Idealize.ShloMosaic.Lib.Pipeline.FrameBody
public import Idealize.ShloMosaic.Lib.Pipeline.RegionsLoop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe
open Idealize.ShloMosaic.Pipeline (Dat BodyObligation cellOf)

variable [FloatOps F]

/-! ## Every unscoped buffer of the TensorCore, at a valuation -/

/-- The TensorCore's unscoped buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp (𝕄 F)) = StableHlo.held (c.tc : Thread nD τ) ucRefs W := by
  unfold unscopedBufs StableHlo.held ucRefs StableHlo.tcRefs
  rw [Finset.filter_map, bigSep_map]
  rfl

/-- The pairs a thread of the TensorCore has waited on before call `n`: at or below the call's level. -/
def recd (c : Dev nD) (n : ℕ) : Set (SemLoc sig × HIx 1) := {p | (K (F := F)).lev ((c.tc : Thread nD τ), p.1) p.2 ≤ 8 * n}

/-- What the TensorCore still owes before call `n`, and the pairs it has waited on. -/
def owing (c : Dev nD) (n : ℕ) : sProp (𝕄 F) :=
  iprop(∃ W, ⌜(K (F := F)).WBelow (c.tc : Thread nD τ) W (8 * n)⌝ ∗ owes (c.tc : Thread nD τ) ((K (F := F)).Otc c n) W)

omit [FloatOps F] in
theorem recd_none (c : Dev nD) (n : ℕ) (sm : SemLoc sig) : (sm, none) ∈ recd (F := F) c n := Nat.zero_le _

omit [FloatOps F] in
theorem Otc_none (c : Dev nD) (n : ℕ) (g : GSem nD τ sig) : (K (F := F)).Otc c n g none = 0 := by
  by_contra h
  have := (K (F := F)).lev_of_Otc_pos (Nat.pos_of_ne_zero h)
  rw [show (K (F := F)).lev g none = 0 from rfl] at this
  omega

/-- A proof data for a pipeline a region does not run: anything. -/
def junkDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-! ## The network's region -/

variable (V : (c : Dev nD) → (b : Ref sig .tc) → Buf (Elt F) ((c.tc : Thread nD τ).loc b))

/-- An input's block at a point. -/
abbrev blkIn (c : Dev nD) (w : Fin 10) (t : Fin cfg2.N) : ((cfg2.win w).xblock (cfg2.grid.coords t)).Idx → Elt F (cfg2.win w).elt :=
  ((cfg2.win w).blk t).view.read (Elt F) (V c (Pipeline.arrRef spec2 w))

/-- What the kernel leaves in the result's buffer at a point. -/
def mlpBlk (c : Dev nD) (t : Fin cfg2.N) : S2048x1.Idx → Elt F .f32 :=
  k2_pay1 (k2_pay3 (F := F) (blkIn V c 0 t) (blkIn V c 2 t)) (k2_pay4 (blkIn V c 1 t)) (k2_pay5 (blkIn V c 3 t)) (blkIn V c 4 t) (blkIn V c 5 t)
    (blkIn V c 6 t) (blkIn V c 7 t) (blkIn V c 8 t)

/-- The region's proof data, from the valuation it is entered at. -/
def mlpDat (c : Dev nD) : Dat τ (Elt F) (HIx 1) ℕ UU ℕ cfg2 c where
  A w := V c (Pipeline.arrRef spec2 w)
  after w t := match w with
    | ⟨0, _⟩ => blkIn V c 0 t
    | ⟨1, _⟩ => blkIn V c 1 t
    | ⟨2, _⟩ => blkIn V c 2 t
    | ⟨3, _⟩ => blkIn V c 3 t
    | ⟨4, _⟩ => blkIn V c 4 t
    | ⟨5, _⟩ => blkIn V c 5 t
    | ⟨6, _⟩ => blkIn V c 6 t
    | ⟨7, _⟩ => blkIn V c 7 t
    | ⟨8, _⟩ => blkIn V c 8 t
    | ⟨9, _⟩ => mlpBlk V c t
  Φ _ := Pipeline.scopedRest spec2 c
  q _ := fullShare
  owed _ := (K (F := F)).Otc c 1
  recorded _ := recd (F := F) c 1

theorem mlp_before0 (c : Dev nD) (t : Fin cfg2.N) (d : (cfg2.win 0).block.Idx → Elt F (cfg2.win 0).elt) :
    (mlpDat V c).before 0 t d = blkIn V c 0 t := (mlpDat V c).before_in_eq_fetched 0 rfl (fun _ => rfl) (fun _ _ _ => rfl) (fun _ => rfl) t d
theorem mlp_before1 (c : Dev nD) (t : Fin cfg2.N) (d : (cfg2.win 1).block.Idx → Elt F (cfg2.win 1).elt) :
    (mlpDat V c).before 1 t d = blkIn V c 1 t := (mlpDat V c).before_in_eq_fetched 1 rfl (fun _ => rfl) (fun _ _ _ => rfl) (fun _ => rfl) t d
theorem mlp_before2 (c : Dev nD) (t : Fin cfg2.N) (d : (cfg2.win 2).block.Idx → Elt F (cfg2.win 2).elt) :
    (mlpDat V c).before 2 t d = blkIn V c 2 t := (mlpDat V c).before_in_eq_fetched 2 rfl (fun _ => rfl) (fun _ _ _ => rfl) (fun _ => rfl) t d
theorem mlp_before3 (c : Dev nD) (t : Fin cfg2.N) (d : (cfg2.win 3).block.Idx → Elt F (cfg2.win 3).elt) :
    (mlpDat V c).before 3 t d = blkIn V c 3 t := (mlpDat V c).before_in_eq_fetched 3 rfl (fun _ => rfl) (fun _ _ _ => rfl) (fun _ => rfl) t d
theorem mlp_before4 (c : Dev nD) (t : Fin cfg2.N) (d : (cfg2.win 4).block.Idx → Elt F (cfg2.win 4).elt) :
    (mlpDat V c).before 4 t d = blkIn V c 4 t := (mlpDat V c).before_in_eq_fetched 4 rfl (fun _ => rfl) (fun _ _ _ => rfl) (fun _ => rfl) t d
theorem mlp_before5 (c : Dev nD) (t : Fin cfg2.N) (d : (cfg2.win 5).block.Idx → Elt F (cfg2.win 5).elt) :
    (mlpDat V c).before 5 t d = blkIn V c 5 t := (mlpDat V c).before_in_eq_fetched 5 rfl (fun _ => rfl) (fun _ _ _ => rfl) (fun _ => rfl) t d
theorem mlp_before6 (c : Dev nD) (t : Fin cfg2.N) (d : (cfg2.win 6).block.Idx → Elt F (cfg2.win 6).elt) :
    (mlpDat V c).before 6 t d = blkIn V c 6 t := (mlpDat V c).before_in_eq_fetched 6 rfl (fun _ => rfl) (fun _ _ _ => rfl) (fun _ => rfl) t d
theorem mlp_before7 (c : Dev nD) (t : Fin cfg2.N) (d : (cfg2.win 7).block.Idx → Elt F (cfg2.win 7).elt) :
    (mlpDat V c).before 7 t d = blkIn V c 7 t := (mlpDat V c).before_in_eq_fetched 7 rfl (fun _ => rfl) (fun _ _ _ => rfl) (fun _ => rfl) t d
theorem mlp_before8 (c : Dev nD) (t : Fin cfg2.N) (d : (cfg2.win 8).block.Idx → Elt F (cfg2.win 8).elt) :
    (mlpDat V c).before 8 t d = blkIn V c 8 t := (mlpDat V c).before_in_eq_fetched 8 rfl (fun _ => rfl) (fun _ _ _ => rfl) (fun _ => rfl) t d

set_option maxHeartbeats 1000000 in
theorem mlp_obligation (c : Dev nD) : BodyObligation (mlpDat V c) (defs₀ (F := F)) 𝒱₀ none Set.univ := fun t => by
  rw [bigSep_W2, bigSep_W2]
  rw [show (mlpDat V c).Φ t.succ = (mlpDat V c).Φ t.castSucc from rfl,
    show (mlpDat V c).owesAt none t.succ = (mlpDat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H0 := (Entails.of_eq (congrArg (owns (c.tc : Thread nD τ) ((cfg2.win 0).stage (cfg2.slots t 0)) fullShare) (mlp_before0 V c t d0))) $$ H0
  ihave H1 := (Entails.of_eq (congrArg (owns (c.tc : Thread nD τ) ((cfg2.win 1).stage (cfg2.slots t 1)) fullShare) (mlp_before1 V c t d1))) $$ H1
  ihave H2 := (Entails.of_eq (congrArg (owns (c.tc : Thread nD τ) ((cfg2.win 2).stage (cfg2.slots t 2)) fullShare) (mlp_before2 V c t d2))) $$ H2
  ihave H3 := (Entails.of_eq (congrArg (owns (c.tc : Thread nD τ) ((cfg2.win 3).stage (cfg2.slots t 3)) fullShare) (mlp_before3 V c t d3))) $$ H3
  ihave H4 := (Entails.of_eq (congrArg (owns (c.tc : Thread nD τ) ((cfg2.win 4).stage (cfg2.slots t 4)) fullShare) (mlp_before4 V c t d4))) $$ H4
  ihave H5 := (Entails.of_eq (congrArg (owns (c.tc : Thread nD τ) ((cfg2.win 5).stage (cfg2.slots t 5)) fullShare) (mlp_before5 V c t d5))) $$ H5
  ihave H6 := (Entails.of_eq (congrArg (owns (c.tc : Thread nD τ) ((cfg2.win 6).stage (cfg2.slots t 6)) fullShare) (mlp_before6 V c t d6))) $$ H6
  ihave H7 := (Entails.of_eq (congrArg (owns (c.tc : Thread nD τ) ((cfg2.win 7).stage (cfg2.slots t 7)) fullShare) (mlp_before7 V c t d7))) $$ H7
  ihave H8 := (Entails.of_eq (congrArg (owns (c.tc : Thread nD τ) ((cfg2.win 8).stage (cfg2.slots t 8)) fullShare) (mlp_before8 V c t d8))) $$ H8
  iapply (mlp_body c (grid2.coords t)
    (arg1 := (cfg2.win 0).stage (cfg2.slots t 0)) (arg2 := (cfg2.win 1).stage (cfg2.slots t 1)) (arg3 := (cfg2.win 2).stage (cfg2.slots t 2)) (arg4 := (cfg2.win 3).stage (cfg2.slots t 3)) (arg5 := (cfg2.win 4).stage (cfg2.slots t 4)) (arg6 := (cfg2.win 5).stage (cfg2.slots t 5)) (arg7 := (cfg2.win 6).stage (cfg2.slots t 6)) (arg8 := (cfg2.win 7).stage (cfg2.slots t 7)) (arg9 := (cfg2.win 8).stage (cfg2.slots t 8)) (arg10 := (cfg2.win 9).stage (cfg2.slots t 9)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

variable (adm : (p : Fin 2) → (pcfgs (F := F) p).Adm)

def mlpDats : (p : Fin 2) → (c : Dev nD) → Dat τ (Elt F) (HIx 1) ℕ UU ℕ (Pipeline.pin (pcfgs (F := F)) adm p) c
  | ⟨0, _⟩ => fun c => junkDat c
  | ⟨1, _⟩ => fun c => mlpDat V c

/-- The result's array after the region. -/
def mlpOut (c : Dev nD) : Buf (Elt F) ((c.tc : Thread nD τ).loc main_v76) := (mlpDat V c).arrAt 9 cfg2.N

variable (Vp : (c : Dev nD) → (b : Ref sig .tc) → Buf (Elt F) ((c.tc : Thread nD τ).loc b))

omit [FloatOps F] in
theorem owing_within (c : Dev nD) (n : ℕ) (X : Set (SemLoc sig × HIx 1)) :
    owing (F := F) c n ⊢ Pipeline.owesWithin c ((K (F := F)).Otc c n) (recd (F := F) c n ∪ X) := by
  unfold owing Pipeline.owesWithin
  iintro ⟨%W, %h, HO⟩
  iexists W
  isplitr; · ipureintro; exact fun p hp => Or.inl (h p hp)
  iexact HO

omit [FloatOps F] in
theorem within_owing (c : Dev nD) (n : ℕ) (X : Set (SemLoc sig × HIx 1)) (hX : ∀ p ∈ X, p.2 = none) :
    Pipeline.owesWithin c ((K (F := F)).Otc c n) (recd (F := F) c n ∪ X) ⊢ owing (F := F) c n := by
  unfold owing Pipeline.owesWithin
  iintro ⟨%W, %h, HO⟩
  iexists W
  isplitr
  · ipureintro
    intro p hp
    rcases h hp with h' | h'
    · exact h'
    · rw [hX p h']; exact Nat.zero_le _
  iexact HO

set_option maxHeartbeats 4000000 in
set_option backward.isDefEq.respectTransparency.types false in
/-- The network's region, over every unscoped buffer of the TensorCore. -/
def mlpReg (hVp_out : ∀ c, Vp c main_v76 = mlpOut V c)
    (hVp_ne : ∀ c (b : Ref sig .tc), b ≠ main_v76 → Vp c b = V c b) :
    Pipeline.RegionSeg (pcfgs (F := F)) adm (mlpDats V adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (mlp_obligation V c).loose
  hwaits c := Pipeline.cellsWaits_intro _ _ _ _ _ fun _ _ _ => (K (F := F)).mayWait_none _ (Otc_none c 1)
  pre c := iprop(unscopedBufs c (V c) ∗ owing (F := F) c 1)
  post c := iprop(unscopedBufs c (Vp c) ∗ owing (F := F) c 1)
  X _ := BI.emp
  Y _ := BI.emp
  Z c := Pipeline.unscopedRest spec2 c (V c)
  hentry c := by
    rw [Pipeline.ownSems0_none]
    have hsplit := Pipeline.arrays_of_unscopedBufs (p := 1) (pcfgs (F := F)) adm (mlpDats V adm) launch2.win launch2.arr_whole c
      ((mlpDats V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owing_within c 1); iexact HO
    isplitr; · iempintro
    iexact Hrest
  hin c := by
    rw [show (mlpDats V adm 1 c).Φ 0 = Pipeline.scopedRest spec2 c from rfl]
    iintro ⟨-, -, Hr⟩; iexact Hr
  hout c := by
    rw [Pipeline.ownSems0_none, show (mlpDats V adm 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (mlpDats V adm) ((mlpDats V adm 1 c).share_full fun _ => rfl) (V c) (Vp c) ((mlpDats V adm 1 c).arrAt · cfg2.N)
      (fun w => by
        fin_cases w
        · exact ((mlpDats V adm 1 c).arrAt_in 0 rfl _).trans (hVp_ne c main_v63_0 (by decide)).symm
        · exact ((mlpDats V adm 1 c).arrAt_in 1 rfl _).trans (hVp_ne c main_v63_1 (by decide)).symm
        · exact ((mlpDats V adm 1 c).arrAt_in 2 rfl _).trans (hVp_ne c main_v59 (by decide)).symm
        · exact ((mlpDats V adm 1 c).arrAt_in 3 rfl _).trans (hVp_ne c main_v62 (by decide)).symm
        · exact ((mlpDats V adm 1 c).arrAt_in 4 rfl _).trans (hVp_ne c main_v68 (by decide)).symm
        · exact ((mlpDats V adm 1 c).arrAt_in 5 rfl _).trans (hVp_ne c main_v73 (by decide)).symm
        · exact ((mlpDats V adm 1 c).arrAt_in 6 rfl _).trans (hVp_ne c main_v74 (by decide)).symm
        · exact ((mlpDats V adm 1 c).arrAt_in 7 rfl _).trans (hVp_ne c main_arg9 (by decide)).symm
        · exact ((mlpDats V adm 1 c).arrAt_in 8 rfl _).trans (hVp_ne c main_v75 (by decide)).symm
        · exact (hVp_out c).symm)
      (fun b hb => hVp_ne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    iapply (within_owing c 1 _ ?_); rotate_left; · iexact HO
    rintro _ ⟨w, s, rfl⟩
    rfl

end Cert.Proof

end
-- ==== Proof.Cut.lean ====
/-
  A buffer cut into slices and put together again.
-/
module

public import proofs.«01_k».proof.Proof.ScanBody

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## A buffer's elements cut into parts -/

section Parts

variable {ℓ : Loc nD τ sig} {ι : Type} [DecidableEq ι] (S : Finset ι) (I : Finset ℓ.ty.Idx) (K : ι → Finset ℓ.ty.Idx)
  (hd : ∀ i ∈ S, ∀ j ∈ S, i ≠ j → Disjoint (K i) (K j)) (hI : ∀ x, x ∈ I ↔ ∃ i ∈ S, x ∈ K i)

include hI in
theorem parts_eq : I = S.biUnion K := by
  ext x
  rw [Finset.mem_biUnion]
  exact hI x

include hd hI in
theorem parts_cut (f : Buf (Elt F) ℓ) :
    (ℓ ↦[I]{fullShare} f : sProp (𝕄 F)) = bigSep S fun i => ℓ ↦[K i]{fullShare} f := by
  rw [parts_eq S I K hI]
  exact pointsTo_biUnion S K hd

/-- Elements of a buffer, at some contents. -/
@[reducible] def anyAt (ℓ : Loc nD τ sig) (I : Finset ℓ.ty.Idx) : sProp (𝕄 F) :=
  iprop(∃ f : Buf (Elt F) ℓ, (ℓ ↦[I]{fullShare} f))

include hd hI in
theorem parts_glue (f₀ : Buf (Elt F) ℓ) (P : ι → Buf (Elt F) ℓ → Prop) :
    (bigSep S fun i => iprop(∃ f : Buf (Elt F) ℓ, ⌜P i f⌝ ∗ (ℓ ↦[K i]{fullShare} f)) : sProp (𝕄 F))
      ⊢ iprop(∃ g : Buf (Elt F) ℓ, ⌜∀ i ∈ S, ∃ f, P i f ∧ ∀ x ∈ K i, g x = f x⌝ ∗ (ℓ ↦[I]{fullShare} g)) := by
  have hne : ∀ _ : ι, Nonempty (Buf (Elt F) ℓ) := fun _ => ⟨f₀⟩
  rw [parts_eq S I K hI]
  iintro H
  ihave H1 := (@BI.bigSep_exists_pi _ _ _ _ (fun _ : ι => Buf (Elt F) ℓ) hne S (fun i (f : Buf (Elt F) ℓ) => iprop(⌜P i f⌝ ∗ (ℓ ↦[K i]{fullShare} f) : sProp (𝕄 F)))) $$ H
  icases H1 with ⟨%fs, H1⟩
  ihave H2 := (BI.bigSep_pure_sep S (fun i => P i (fs i)) (fun i => (ℓ ↦[K i]{fullShare} (fs i) : sProp (𝕄 F)))) $$ H1
  icases H2 with ⟨%hP, H2⟩
  ihave H3 := (pointsTo_biUnion_join S K fs f₀ hd) $$ H2
  icases H3 with ⟨%g, %hg, H3⟩
  iexists g
  isplitr
  · ipureintro
    exact fun i hi => ⟨fs i, hP i hi, hg i hi⟩
  · iexact H3

include hd hI in
theorem parts_any (i₀ : ι) (hi₀ : i₀ ∈ S) :
    (anyAt ℓ I : sProp (𝕄 F)) = bigSep S fun i => anyAt ℓ (K i) := by
  have hA : (anyAt ℓ I : sProp (𝕄 F)) ⊢ bigSep S fun i => anyAt ℓ (K i) := by
    unfold anyAt
    iintro ⟨%f, H⟩
    ihave H := (Entails.of_eq (parts_cut S I K hd hI f)) $$ H
    iapply (show (bigSep S fun i => (ℓ ↦[K i]{fullShare} f : sProp (𝕄 F))) ⊢ bigSep S fun i => iprop(∃ f : Buf (Elt F) ℓ, (ℓ ↦[K i]{fullShare} f)) from bigSep_mono (show ∀ i ∈ S, (ℓ ↦[K i]{fullShare} f : sProp (𝕄 F)) ⊢ iprop(∃ f : Buf (Elt F) ℓ, (ℓ ↦[K i]{fullShare} f)) from fun i _ => by
      iintro H
      iexists f
      iexact H)) $$ H
  have hT : ∀ i ∈ S, (anyAt ℓ (K i) : sProp (𝕄 F)) ⊢ iprop(∃ f : Buf (Elt F) ℓ, ⌜True⌝ ∗ (ℓ ↦[K i]{fullShare} f)) := by
    intro i _
    unfold anyAt
    iintro ⟨%f, H⟩
    iexists f
    isplitr
    · ipureintro; trivial
    · iexact H
  have hB : (bigSep S fun i => anyAt ℓ (K i) : sProp (𝕄 F)) ⊢ anyAt ℓ I := by
    have e : (bigSep S fun i => anyAt ℓ (K i) : sProp (𝕄 F)) = iprop(anyAt ℓ (K i₀) ∗ bigSep (S.erase i₀) fun i => anyAt ℓ (K i)) := by
      conv_lhs => rw [← Finset.insert_erase hi₀]
      exact BI.bigSep_insert (Finset.notMem_erase _ _)
    have e' : (iprop(∃ f : Buf (Elt F) ℓ, (ℓ ↦[K i₀]{fullShare} f)) : sProp (𝕄 F)) = anyAt ℓ (K i₀) := rfl
    iintro H
    ihave H := (Entails.of_eq e) $$ H
    icases H with ⟨H0, H⟩
    ihave H0 := (Entails.of_eq e'.symm) $$ H0
    icases H0 with ⟨%f₀, H0⟩
    ihave H := (Entails.of_eq e.symm) $$ [H0 H]
    · isplitl [H0]
      · iapply (Entails.of_eq e')
        iexists f₀; iexact H0
      · iexact H
    ihave H := (show (bigSep S fun i => anyAt ℓ (K i) : sProp (𝕄 F)) ⊢ bigSep S fun i => iprop(∃ f : Buf (Elt F) ℓ, ⌜True⌝ ∗ (ℓ ↦[K i]{fullShare} f)) from bigSep_mono hT) $$ H
    ihave H := (parts_glue S I K hd hI f₀ (fun _ _ => True)) $$ H
    icases H with ⟨%g, -, H⟩
    unfold anyAt
    iexists g
    iexact H
  exact BI.equiv_iff.mp ⟨hA, hB⟩

include hd hI in
theorem parts_glue' (i₀ : ι) (hi₀ : i₀ ∈ S) (P : ι → Buf (Elt F) ℓ → Prop) :
    (bigSep S fun i => iprop(∃ f : Buf (Elt F) ℓ, ⌜P i f⌝ ∗ (ℓ ↦[K i]{fullShare} f)) : sProp (𝕄 F))
      ⊢ iprop(∃ g : Buf (Elt F) ℓ, ⌜∀ i ∈ S, ∃ f, P i f ∧ ∀ x ∈ K i, g x = f x⌝ ∗ (ℓ ↦[I]{fullShare} g)) := by
  have e : (bigSep S fun i => iprop(∃ f : Buf (Elt F) ℓ, ⌜P i f⌝ ∗ (ℓ ↦[K i]{fullShare} f)) : sProp (𝕄 F)) = iprop((∃ f : Buf (Elt F) ℓ, ⌜P i₀ f⌝ ∗ (ℓ ↦[K i₀]{fullShare} f)) ∗ bigSep (S.erase i₀) fun i => iprop(∃ f : Buf (Elt F) ℓ, ⌜P i f⌝ ∗ (ℓ ↦[K i]{fullShare} f))) := by
    conv_lhs => rw [← Finset.insert_erase hi₀]
    exact BI.bigSep_insert (Finset.notMem_erase _ _)
  iintro H
  ihave H := (Entails.of_eq e) $$ H
  icases H with ⟨⟨%f₀, %h₀, H0⟩, H⟩
  ihave H := (Entails.of_eq e.symm) $$ [H0 H]
  · isplitl [H0]
    · iexists f₀
      isplitr
      · ipureintro; exact h₀
      · iexact H0
    · iexact H
  iapply (parts_glue S I K hd hI f₀ P) $$ H

end Parts

/-! ## A memref's elements cut into slices -/

section Slices

variable {sp : Space} {s : Shape} (m : Memref sig .tc sp s .f32) {ι : Type} (S : Finset ι) (r : ι → Rect s)

theorem slices_mem (hc : ∀ x, ∃ i ∈ S, x ∈ (r i).set) (y) : y ∈ m.view.set ↔ ∃ i ∈ S, y ∈ (m.view.slice (r i)).set := by
  constructor
  · intro hy
    obtain ⟨x, -, rfl⟩ := Finset.mem_map.mp hy
    obtain ⟨i, hi, hx⟩ := hc x
    exact ⟨i, hi, by rw [View.set_slice]; exact Finset.mem_map_of_mem _ hx⟩
  · rintro ⟨i, -, hy⟩
    exact View.set_slice_subset _ _ hy

theorem slices_disj (hd : ∀ i ∈ S, ∀ j ∈ S, i ≠ j → Disjoint (r i).set (r j).set) :
    ∀ i ∈ S, ∀ j ∈ S, i ≠ j → Disjoint (m.view.slice (r i)).set (m.view.slice (r j)).set := by
  intro i hi j hj hij
  rw [View.set_slice, View.set_slice]
  exact (Finset.disjoint_map _).mpr (hd i hi j hj hij)

end Slices

end Cert.Proof

end
-- ==== Proof.ScanEnds.lean ====
/-
  The arrays and buffers of the scan cut into the pieces it copies.
-/
module

public import proofs.«01_k».proof.Proof.Cut
public import Idealize.ShloMosaic.Lib.ValueIdxCore

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {d : Dev nD}

/-! ## The slots of a window -/

def r_slot3 (j : Fin 2) : Rect S2x32x8192 := Rect.unit (s := S2x32x8192) ![j.val, 0, 0] S1x32x8192.size (by revert j; decide)
theorem r_slot3_mem (j : Fin 2) (x : S2x32x8192.Idx) : x ∈ (r_slot3 j).set ↔ (x 0).val = j.val := by
  unfold r_slot3
  rw [Rect.mem_set_unit]
  have h1 : (x 1).val < 32 := (x 1).isLt
  have h2 : (x 2).val < 8192 := (x 2).isLt
  constructor
  · intro h
    have h0 : j.val ≤ (x 0).val ∧ (x 0).val < j.val + 1 := h 0
    omega
  · intro h a
    match a with
    | 0 => exact (show j.val ≤ (x 0).val ∧ (x 0).val < j.val + 1 by omega)
    | 1 => exact (show 0 ≤ (x 1).val ∧ (x 1).val < 0 + 32 by omega)
    | 2 => exact (show 0 ≤ (x 2).val ∧ (x 2).val < 0 + 8192 by omega)
theorem set_slot3 (al : Memref sig .tc .vmem S2x32x8192 .f32) (j : Fin 2) : (slot3 al j).view.set = (al.view.slice (r_slot3 j)).set :=
  View.set_reshape _ _
theorem slot3_parts (al : Memref sig .tc .vmem S2x32x8192 .f32) :
    (anyAt (al.view.loc (d.tc : Thread nD τ)) al.view.set : sProp (𝕄 F))
      = iprop(anyAt ((slot3 al 0).view.loc (d.tc : Thread nD τ)) (slot3 al 0).view.set ∗ anyAt ((slot3 al 1).view.loc (d.tc : Thread nD τ)) (slot3 al 1).view.set) := by
  have h := parts_any (F := F) (ℓ := al.view.loc (d.tc : Thread nD τ)) (Finset.univ : Finset (Fin 2)) al.view.set (fun j => (al.view.slice (r_slot3 j)).set)
    (slices_disj al Finset.univ r_slot3 (by
      intro i _ j _ hij
      rw [Finset.disjoint_left]
      intro x hx hx'
      rw [r_slot3_mem] at hx hx'
      exact hij (Fin.ext (hx.symm.trans hx'))))
    (slices_mem al Finset.univ r_slot3 (fun x => ⟨⟨(x 0).val, (x 0).isLt⟩, Finset.mem_univ _, (r_slot3_mem _ _).mpr rfl⟩)) 0 (Finset.mem_univ _)
  rw [BI.bigSep_univ_two] at h
  refine h.trans ?_
  rw [set_slot3 al 0, set_slot3 al 1]
  rfl

def r_slotM (j : Fin 2) : Rect S2x1x8192 := Rect.unit (s := S2x1x8192) ![j.val, 0, 0] S1x1x8192.size (by revert j; decide)
theorem r_slotM_mem (j : Fin 2) (x : S2x1x8192.Idx) : x ∈ (r_slotM j).set ↔ (x 0).val = j.val := by
  unfold r_slotM
  rw [Rect.mem_set_unit]
  have h1 : (x 1).val < 1 := (x 1).isLt
  have h2 : (x 2).val < 8192 := (x 2).isLt
  constructor
  · intro h
    have h0 : j.val ≤ (x 0).val ∧ (x 0).val < j.val + 1 := h 0
    omega
  · intro h a
    match a with
    | 0 => exact (show j.val ≤ (x 0).val ∧ (x 0).val < j.val + 1 by omega)
    | 1 => exact (show 0 ≤ (x 1).val ∧ (x 1).val < 0 + 1 by omega)
    | 2 => exact (show 0 ≤ (x 2).val ∧ (x 2).val < 0 + 8192 by omega)
theorem set_slotM (al : Memref sig .tc .vmem S2x1x8192 .f32) (j : Fin 2) : (slotM al j).view.set = (al.view.slice (r_slotM j)).set :=
  View.set_reshape _ _
theorem slotM_parts (al : Memref sig .tc .vmem S2x1x8192 .f32) :
    (anyAt (al.view.loc (d.tc : Thread nD τ)) al.view.set : sProp (𝕄 F))
      = iprop(anyAt ((slotM al 0).view.loc (d.tc : Thread nD τ)) (slotM al 0).view.set ∗ anyAt ((slotM al 1).view.loc (d.tc : Thread nD τ)) (slotM al 1).view.set) := by
  have h := parts_any (F := F) (ℓ := al.view.loc (d.tc : Thread nD τ)) (Finset.univ : Finset (Fin 2)) al.view.set (fun j => (al.view.slice (r_slotM j)).set)
    (slices_disj al Finset.univ r_slotM (by
      intro i _ j _ hij
      rw [Finset.disjoint_left]
      intro x hx hx'
      rw [r_slotM_mem] at hx hx'
      exact hij (Fin.ext (hx.symm.trans hx'))))
    (slices_mem al Finset.univ r_slotM (fun x => ⟨⟨(x 0).val, (x 0).isLt⟩, Finset.mem_univ _, (r_slotM_mem _ _).mpr rfl⟩)) 0 (Finset.mem_univ _)
  rw [BI.bigSep_univ_two] at h
  refine h.trans ?_
  rw [set_slotM al 0, set_slotM al 1]
  rfl

def r_slotO (j : Fin 2) : Rect S2x8192x128 := Rect.unit (s := S2x8192x128) ![j.val, 0, 0] S1x8192x128.size (by revert j; decide)
theorem r_slotO_mem (j : Fin 2) (x : S2x8192x128.Idx) : x ∈ (r_slotO j).set ↔ (x 0).val = j.val := by
  unfold r_slotO
  rw [Rect.mem_set_unit]
  have h1 : (x 1).val < 8192 := (x 1).isLt
  have h2 : (x 2).val < 128 := (x 2).isLt
  constructor
  · intro h
    have h0 : j.val ≤ (x 0).val ∧ (x 0).val < j.val + 1 := h 0
    omega
  · intro h a
    match a with
    | 0 => exact (show j.val ≤ (x 0).val ∧ (x 0).val < j.val + 1 by omega)
    | 1 => exact (show 0 ≤ (x 1).val ∧ (x 1).val < 0 + 8192 by omega)
    | 2 => exact (show 0 ≤ (x 2).val ∧ (x 2).val < 0 + 128 by omega)
theorem set_slotO (al : Memref sig .tc .vmem S2x8192x128 .f32) (j : Fin 2) : (slotO al j).view.set = (al.view.slice (r_slotO j)).set :=
  View.set_reshape _ _
theorem slotO_parts (al : Memref sig .tc .vmem S2x8192x128 .f32) :
    (anyAt (al.view.loc (d.tc : Thread nD τ)) al.view.set : sProp (𝕄 F))
      = iprop(anyAt ((slotO al 0).view.loc (d.tc : Thread nD τ)) (slotO al 0).view.set ∗ anyAt ((slotO al 1).view.loc (d.tc : Thread nD τ)) (slotO al 1).view.set) := by
  have h := parts_any (F := F) (ℓ := al.view.loc (d.tc : Thread nD τ)) (Finset.univ : Finset (Fin 2)) al.view.set (fun j => (al.view.slice (r_slotO j)).set)
    (slices_disj al Finset.univ r_slotO (by
      intro i _ j _ hij
      rw [Finset.disjoint_left]
      intro x hx hx'
      rw [r_slotO_mem] at hx hx'
      exact hij (Fin.ext (hx.symm.trans hx'))))
    (slices_mem al Finset.univ r_slotO (fun x => ⟨⟨(x 0).val, (x 0).isLt⟩, Finset.mem_univ _, (r_slotO_mem _ _).mpr rfl⟩)) 0 (Finset.mem_univ _)
  rw [BI.bigSep_univ_two] at h
  refine h.trans ?_
  rw [set_slotO al 0, set_slotO al 1]
  rfl

/-! ## The blocks of the arrays -/

def r_srcB (b : ℕ) : Rect S32x1007616 := Rect.unit (s := S32x1007616) ![0, 8192 * min b 122] S32x8192.size (srcB_inb b)
theorem r_srcB_mem (b : ℕ) (hb : b < 123) (x : S32x1007616.Idx) : x ∈ (r_srcB b).set ↔ (x 1).val / 8192 = b := by
  unfold r_srcB
  rw [Rect.mem_set_unit]
  have h1 : (x 0).val < 32 := (x 0).isLt
  constructor
  · intro h
    have h0 : 8192 * min b 122 ≤ (x 1).val ∧ (x 1).val < 8192 * min b 122 + 8192 := h 1
    omega
  · intro h a
    match a with
    | 0 => exact (show 0 ≤ (x 0).val ∧ (x 0).val < 0 + 32 by omega)
    | 1 => exact (show 8192 * min b 122 ≤ (x 1).val ∧ (x 1).val < 8192 * min b 122 + 8192 by omega)
theorem r_srcB_disj : ∀ i ∈ Finset.range 123, ∀ j ∈ Finset.range 123, i ≠ j → Disjoint (r_srcB i).set (r_srcB j).set := by
  intro i hi j hj hij
  rw [Finset.disjoint_left]
  intro x hx hx'
  rw [r_srcB_mem _ (Finset.mem_range.mp hi)] at hx
  rw [r_srcB_mem _ (Finset.mem_range.mp hj)] at hx'
  exact hij (hx.symm.trans hx')
theorem r_srcB_cover (x : S32x1007616.Idx) : ∃ i ∈ Finset.range 123, x ∈ (r_srcB i).set := by
  have h1 : (x 1).val < 1007616 := (x 1).isLt
  have h2 : (x 1).val / 8192 < 123 := by omega
  exact ⟨(x 1).val / 8192, Finset.mem_range.mpr h2, (r_srcB_mem _ h2 _).mpr rfl⟩

def r_srcM (b : ℕ) : Rect S16x8192 := Rect.unit (s := S16x8192) ![min b 15, 0] S1x8192.size (srcM_inb b)
theorem r_srcM_mem (b : ℕ) (hb : b < 16) (x : S16x8192.Idx) : x ∈ (r_srcM b).set ↔ (x 0).val / 1 = b := by
  unfold r_srcM
  rw [Rect.mem_set_unit]
  have h1 : (x 1).val < 8192 := (x 1).isLt
  constructor
  · intro h
    have h0 : min b 15 ≤ (x 0).val ∧ (x 0).val < min b 15 + 1 := h 0
    omega
  · intro h a
    match a with
    | 0 => exact (show min b 15 ≤ (x 0).val ∧ (x 0).val < min b 15 + 1 by omega)
    | 1 => exact (show 0 ≤ (x 1).val ∧ (x 1).val < 0 + 8192 by omega)
theorem r_srcM_disj : ∀ i ∈ Finset.range 16, ∀ j ∈ Finset.range 16, i ≠ j → Disjoint (r_srcM i).set (r_srcM j).set := by
  intro i hi j hj hij
  rw [Finset.disjoint_left]
  intro x hx hx'
  rw [r_srcM_mem _ (Finset.mem_range.mp hi)] at hx
  rw [r_srcM_mem _ (Finset.mem_range.mp hj)] at hx'
  exact hij (hx.symm.trans hx')
theorem r_srcM_cover (x : S16x8192.Idx) : ∃ i ∈ Finset.range 16, x ∈ (r_srcM i).set := by
  have h1 : (x 0).val < 16 := (x 0).isLt
  have h2 : (x 0).val / 1 < 16 := by omega
  exact ⟨(x 0).val / 1, Finset.mem_range.mpr h2, (r_srcM_mem _ h2 _).mpr rfl⟩

def r_outB (b : ℕ) : Rect S131072x128 := Rect.unit (s := S131072x128) ![8192 * min b 15, 0] S8192x128.size (outB_inb b)
theorem r_outB_mem (b : ℕ) (hb : b < 16) (x : S131072x128.Idx) : x ∈ (r_outB b).set ↔ (x 0).val / 8192 = b := by
  unfold r_outB
  rw [Rect.mem_set_unit]
  have h1 : (x 1).val < 128 := (x 1).isLt
  constructor
  · intro h
    have h0 : 8192 * min b 15 ≤ (x 0).val ∧ (x 0).val < 8192 * min b 15 + 8192 := h 0
    omega
  · intro h a
    match a with
    | 0 => exact (show 8192 * min b 15 ≤ (x 0).val ∧ (x 0).val < 8192 * min b 15 + 8192 by omega)
    | 1 => exact (show 0 ≤ (x 1).val ∧ (x 1).val < 0 + 128 by omega)
theorem r_outB_disj : ∀ i ∈ Finset.range 16, ∀ j ∈ Finset.range 16, i ≠ j → Disjoint (r_outB i).set (r_outB j).set := by
  intro i hi j hj hij
  rw [Finset.disjoint_left]
  intro x hx hx'
  rw [r_outB_mem _ (Finset.mem_range.mp hi)] at hx
  rw [r_outB_mem _ (Finset.mem_range.mp hj)] at hx'
  exact hij (hx.symm.trans hx')
theorem r_outB_cover (x : S131072x128.Idx) : ∃ i ∈ Finset.range 16, x ∈ (r_outB i).set := by
  have h1 : (x 0).val < 131072 := (x 0).isLt
  have h2 : (x 0).val / 8192 < 16 := by omega
  exact ⟨(x 0).val / 8192, Finset.mem_range.mpr h2, (r_outB_mem _ h2 _).mpr rfl⟩

theorem range_split (m n : ℕ) (Φ : ℕ → sProp (𝕄 F)) :
    bigSep (Finset.range (m + n)) Φ = iprop(bigSep (Finset.range m) Φ ∗ bigSep (Finset.range n) fun k => Φ (m + k)) := by
  induction n with
  | zero =>
    rw [Nat.add_zero, Finset.range_zero, BI.bigSep_empty]
    exact (BI.equiv_iff.mp sep_emp).symm
  | succ n ih =>
    rw [← Nat.add_assoc, Finset.range_add_one, BI.bigSep_insert (by simp), ih, Finset.range_add_one (n := n), BI.bigSep_insert (by simp)]
    have e : ∀ A B C : sProp (𝕄 F), iprop(A ∗ B ∗ C) = iprop(B ∗ A ∗ C) := fun A B C =>
      BI.equiv_iff.mp ⟨(show iprop(A ∗ B ∗ C) ⊢ iprop(B ∗ A ∗ C) from sep_left_comm.1), (show iprop(B ∗ A ∗ C) ⊢ iprop(A ∗ B ∗ C) from sep_left_comm.2)⟩
    exact e _ _ _

/-- A table's elements are its blocks', group by group. -/
theorem table_parts (a : Memref sig .tc .hbm S32x1007616 .f32) (f : Buf (Elt F) (a.view.loc (d.tc : Thread nD τ))) :
    (a.view.loc (d.tc : Thread nD τ) ↦[a.view.set]{fullShare} f : sProp (𝕄 F))
      = bigSep (Finset.range 123) fun b => ((srcB a b).view.loc (d.tc : Thread nD τ) ↦[(srcB a b).view.set]{fullShare} (show Buf (Elt F) ((srcB a b).view.loc (d.tc : Thread nD τ)) from f)) :=
  parts_cut (F := F) (ℓ := a.view.loc (d.tc : Thread nD τ)) (Finset.range 123) a.view.set (fun b => (a.view.slice (r_srcB b)).set)
    (slices_disj a _ r_srcB r_srcB_disj) (slices_mem a _ r_srcB r_srcB_cover) f

theorem groups (Φ : ℕ → sProp (𝕄 F)) :
    bigSep (Finset.range 123) Φ = iprop((bigSep (Finset.range 16) fun k => Φ (16 * 0 + k)) ∗ (bigSep (Finset.range 16) fun k => Φ (16 * 1 + k)) ∗ (bigSep (Finset.range 16) fun k => Φ (16 * 2 + k))
      ∗ (bigSep (Finset.range 16) fun k => Φ (16 * 3 + k)) ∗ (bigSep (Finset.range 16) fun k => Φ (16 * 4 + k)) ∗ (bigSep (Finset.range 16) fun k => Φ (16 * 5 + k))
      ∗ (bigSep (Finset.range 16) fun k => Φ (16 * 6 + k)) ∗ (bigSep (Finset.range 11) fun k => Φ (16 * 7 + k))) := by
  have s : ∀ (m n : ℕ) (Φ : ℕ → sProp (𝕄 F)), bigSep (Finset.range (m + n)) Φ = iprop(bigSep (Finset.range m) Φ ∗ bigSep (Finset.range n) fun k => Φ (m + k)) := range_split
  rw [show (123 : ℕ) = 16 + (16 + (16 + (16 + (16 + (16 + (16 + 11)))))) from rfl, s, s, s, s, s, s, s]
  simp only [← Nat.add_assoc, Nat.reduceMul, Nat.reduceAdd, Nat.zero_add]

theorem mask_parts (a : Memref sig .tc .hbm S16x8192 .f32) (f : Buf (Elt F) (a.view.loc (d.tc : Thread nD τ))) :
    (a.view.loc (d.tc : Thread nD τ) ↦[a.view.set]{fullShare} f : sProp (𝕄 F))
      = bigSep (Finset.range 16) fun b => ((srcM a b).view.loc (d.tc : Thread nD τ) ↦[(srcM a b).view.set]{fullShare} (show Buf (Elt F) ((srcM a b).view.loc (d.tc : Thread nD τ)) from f)) :=
  parts_cut (F := F) (ℓ := a.view.loc (d.tc : Thread nD τ)) (Finset.range 16) a.view.set (fun b => (a.view.slice (r_srcM b)).set)
    (slices_disj a _ r_srcM r_srcM_disj) (slices_mem a _ r_srcM r_srcM_cover) f

theorem out_parts (a : Memref sig .tc .hbm S131072x128 .f32) :
    (anyAt (a.view.loc (d.tc : Thread nD τ)) a.view.set : sProp (𝕄 F))
      = bigSep (Finset.range 16) fun b => anyAt ((outB a b).view.loc (d.tc : Thread nD τ)) (outB a b).view.set :=
  parts_any (F := F) (ℓ := a.view.loc (d.tc : Thread nD τ)) (Finset.range 16) a.view.set (fun b => (a.view.slice (r_outB b)).set)
    (slices_disj a _ r_outB r_outB_disj) (slices_mem a _ r_outB r_outB_cover) 0 (by decide)

/-- The rows of sixteen blocks, one after another. -/
def rows (z : ℕ → S8192x128.Idx → Elt F .f32) : S131072x128.Idx → Elt F .f32 := fun x =>
  z ((x 0).val / 8192) (Idealize.ShloMosaic.ValueIdx.ix2 (⟨(x 0).val % 8192, Nat.mod_lt _ (by decide)⟩ : Fin 8192) (x 1))

theorem out_glue (a : Memref sig .tc .hbm S131072x128 .f32) (z : ℕ → S8192x128.Idx → Elt F .f32) :
    (bigSep (Finset.range 16) fun b => iprop(∃ f : Buf (Elt F) ((outB a b).view.loc (d.tc : Thread nD τ)), ((outB a b).view.loc (d.tc : Thread nD τ) ↦[(outB a b).view.set]{fullShare} f) ∗ ⌜(outB a b).view.read (Elt F) f = z b⌝) : sProp (𝕄 F))
      ⊢ iprop(∃ g : Buf (Elt F) (a.view.loc (d.tc : Thread nD τ)), (a.view.loc (d.tc : Thread nD τ) ↦[a.view.set]{fullShare} g) ∗ ⌜a.view.read (Elt F) g = rows z⌝) := by
  have hT : ∀ b ∈ Finset.range 16, (iprop(∃ f : Buf (Elt F) ((outB a b).view.loc (d.tc : Thread nD τ)), ((outB a b).view.loc (d.tc : Thread nD τ) ↦[(outB a b).view.set]{fullShare} f) ∗ ⌜(outB a b).view.read (Elt F) f = z b⌝) : sProp (𝕄 F))
      ⊢ iprop(∃ f : Buf (Elt F) (a.view.loc (d.tc : Thread nD τ)), ⌜(outB a b).view.read (Elt F) (show Buf (Elt F) ((outB a b).view.loc (d.tc : Thread nD τ)) from f) = z b⌝ ∗ (a.view.loc (d.tc : Thread nD τ) ↦[(a.view.slice (r_outB b)).set]{fullShare} f)) := by
    intro b _
    iintro ⟨%f, H, %h⟩
    iexists f
    isplitr
    · ipureintro; exact h
    · iexact H
  iintro H
  ihave H := (show _ ⊢ (bigSep (Finset.range 16) fun b => iprop(∃ f : Buf (Elt F) (a.view.loc (d.tc : Thread nD τ)), ⌜(outB a b).view.read (Elt F) (show Buf (Elt F) ((outB a b).view.loc (d.tc : Thread nD τ)) from f) = z b⌝ ∗ (a.view.loc (d.tc : Thread nD τ) ↦[(a.view.slice (r_outB b)).set]{fullShare} f)) : sProp (𝕄 F)) from bigSep_mono hT) $$ H
  ihave H := (parts_glue' (F := F) (ℓ := a.view.loc (d.tc : Thread nD τ)) (Finset.range 16) a.view.set (fun b => (a.view.slice (r_outB b)).set)
    (slices_disj a _ r_outB r_outB_disj) (slices_mem a _ r_outB r_outB_cover) 0 (by decide) (fun b f => (outB a b).view.read (Elt F) (show Buf (Elt F) ((outB a b).view.loc (d.tc : Thread nD τ)) from f) = z b)) $$ H
  icases H with ⟨%g, %hg, H⟩
  iexists g
  isplitl
  · iexact H
  · ipureintro
    funext x
    have h0 : (x 0).val < 131072 := (x 0).isLt
    have hk : (x 0).val / 8192 < 16 := by omega
    obtain ⟨f, hf, hgf⟩ := hg _ (Finset.mem_range.mpr hk)
    have e : (r_outB ((x 0).val / 8192)).emb (Idealize.ShloMosaic.ValueIdx.ix2 (⟨(x 0).val % 8192, Nat.mod_lt _ (by decide)⟩ : Fin 8192) (x 1)) = x := by
      funext c
      apply Fin.ext
      match c with
      | 0 => exact (show 8192 * min ((x 0).val / 8192) 15 + 1 * ((x 0).val % 8192) = (x 0).val by omega)
      | 1 => exact (show 0 + 1 * (x 1).val = (x 1).val by omega)
    have h1 := congrFun hf (Idealize.ShloMosaic.ValueIdx.ix2 (⟨(x 0).val % 8192, Nat.mod_lt _ (by decide)⟩ : Fin 8192) (x 1))
    unfold rows
    rw [← h1, View.read_apply, View.read_apply]
    congr 1
    have h2 := hgf (a.view.emb x) (by
      rw [View.set_slice]
      exact Finset.mem_map_of_mem _ ((r_outB_mem _ hk x).mpr rfl))
    rw [h2]
    show f (a.view.emb x) = f (a.view.emb ((r_outB ((x 0).val / 8192)).emb _))
    rw [e]

end Cert.Proof

end
-- ==== Proof.ScanMem.lean ====
/-
  What the scan works on: whole arrays and buffers, before and after.
-/
module

public import proofs.«01_k».proof.Proof.ScanEnds

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {d : Dev nD}

/-! ## A window's buffer with its semaphores, and its blocks -/

/-- A buffer of two slots, with the semaphore of each at zero. -/
def ring (d : Dev nD) {s : Shape} (al : Memref sig .tc .vmem s .f32) (v : DmaSems sig S2) : sProp (𝕄 F) :=
  iprop(anyAt (al.view.loc (d.tc : Thread nD τ)) al.view.set ∗ semVal ((d.tc : Thread nD τ), .dma (semOf v 0)) 0 ∗ semVal ((d.tc : Thread nD τ), .dma (semOf v 1)) 0)

/-- A buffer copied into once, with its semaphore at zero. -/
def single (d : Dev nD) {s : Shape} (al : Memref sig .tc .vmem s .f32) (v : DmaSems sig S_) : sProp (𝕄 F) :=
  iprop(anyAt (al.view.loc (d.tc : Thread nD τ)) al.view.set ∗ semVal ((d.tc : Thread nD τ), .dma v.sem) 0)

/-- An array's elements at given contents. -/
def arr (d : Dev nD) {s : Shape} (a : Memref sig .tc .hbm s .f32) (f : Buf (Elt F) (a.view.loc (d.tc : Thread nD τ))) : sProp (𝕄 F) :=
  a.view.loc (d.tc : Thread nD τ) ↦[a.view.set]{fullShare} f

/-- An array that reads as `x`. -/
def reads (d : Dev nD) {s : Shape} (a : Memref sig .tc .hbm s .f32) (x : s.Idx → Elt F .f32) : sProp (𝕄 F) :=
  iprop(∃ g : Buf (Elt F) (a.view.loc (d.tc : Thread nD τ)), (a.view.loc (d.tc : Thread nD τ) ↦[a.view.set]{fullShare} g) ∗ ⌜a.view.read (Elt F) g = x⌝)

/-- The blocks of one group of a table. -/
@[reducible] def group (a : Memref sig .tc .hbm S32x1007616 .f32) (f : Buf (Elt F) (a.view.loc (d.tc : Thread nD τ))) (j N : ℕ) : sProp (𝕄 F) :=
  bigSep (Finset.range N) fun k => ((srcB a (16 * j + k)).view.loc (d.tc : Thread nD τ) ↦[(srcB a (16 * j + k)).view.set]{fullShare} (show Buf (Elt F) ((srcB a (16 * j + k)).view.loc (d.tc : Thread nD τ)) from f))

theorem table_groups (a : Memref sig .tc .hbm S32x1007616 .f32) (f : Buf (Elt F) (a.view.loc (d.tc : Thread nD τ))) :
    (arr d a f : sProp (𝕄 F)) = iprop(group a f 0 16 ∗ group a f 1 16 ∗ group a f 2 16 ∗ group a f 3 16 ∗ group a f 4 16 ∗ group a f 5 16 ∗ group a f 6 16 ∗ group a f 7 11) := by
  unfold arr
  rw [table_parts, groups]

theorem tab_in (al : Memref sig .tc .vmem S2x32x8192 .f32) (v : DmaSems sig S2) (a : Memref sig .tc .hbm S32x1007616 .f32)
    (f : Buf (Elt F) (a.view.loc (d.tc : Thread nD τ))) (j N : ℕ) (hN : 0 < N) :
    (iprop(ring d al v ∗ group a f j N) : sProp (𝕄 F)) ⊢ iprop((tabWin al v a f j N hN).free 0 ∗ (tabWin al v a f j N hN).free 1 ∗ (tabWin al v a f j N hN).todo 0) := by
  unfold ring Win.free Win.rest
  iintro ⟨⟨Ha, H0, H1⟩, Hg⟩
  ihave Ha := (Entails.of_eq (slot3_parts al)) $$ Ha
  icases Ha with ⟨A0, A1⟩
  isplitl [A0 H0]
  · isplitl [A0]; · iexact A0
    iexact H0
  isplitl [A1 H1]
  · isplitl [A1]; · iexact A1
    iexact H1
  unfold Win.todo Win.piece
  rw [← Finset.range_eq_Ico]
  iexact Hg

theorem tab_out (al : Memref sig .tc .vmem S2x32x8192 .f32) (v : DmaSems sig S2) (a : Memref sig .tc .hbm S32x1007616 .f32)
    (f : Buf (Elt F) (a.view.loc (d.tc : Thread nD τ))) (j N : ℕ) (hN : 0 < N) :
    (iprop((tabWin al v a f j N hN).free 0 ∗ (tabWin al v a f j N hN).free 1 ∗ (tabWin al v a f j N hN).done N) : sProp (𝕄 F)) ⊢ iprop(ring d al v ∗ group a f j N) := by
  unfold ring Win.free Win.rest Win.done Win.piece
  iintro ⟨⟨A0, H0⟩, ⟨A1, H1⟩, Hg⟩
  isplitr [Hg]
  · isplitl [A0 A1]
    · iapply (Entails.of_eq (slot3_parts al).symm)
      isplitl [A0]; · iexact A0
      iexact A1
    isplitl [H0]; · iexact H0
    iexact H1
  iexact Hg

theorem mask_in (al : Memref sig .tc .vmem S2x1x8192 .f32) (v : DmaSems sig S2) (a : Memref sig .tc .hbm S16x8192 .f32)
    (f : Buf (Elt F) (a.view.loc (d.tc : Thread nD τ))) :
    (iprop(ring d al v ∗ arr d a f) : sProp (𝕄 F)) ⊢ iprop((maskWin al v a f).free 0 ∗ (maskWin al v a f).free 1 ∗ (maskWin al v a f).todo 0) := by
  unfold ring arr Win.free Win.rest
  iintro ⟨⟨Ha, H0, H1⟩, Hg⟩
  ihave Ha := (Entails.of_eq (slotM_parts al)) $$ Ha
  ihave Hg := (Entails.of_eq (mask_parts a f)) $$ Hg
  icases Ha with ⟨A0, A1⟩
  isplitl [A0 H0]
  · isplitl [A0]; · iexact A0
    iexact H0
  isplitl [A1 H1]
  · isplitl [A1]; · iexact A1
    iexact H1
  unfold Win.todo Win.piece
  rw [← Finset.range_eq_Ico]
  iexact Hg

theorem mask_out (al : Memref sig .tc .vmem S2x1x8192 .f32) (v : DmaSems sig S2) (a : Memref sig .tc .hbm S16x8192 .f32)
    (f : Buf (Elt F) (a.view.loc (d.tc : Thread nD τ))) :
    (iprop((maskWin al v a f).free 0 ∗ (maskWin al v a f).free 1 ∗ (maskWin al v a f).done 16) : sProp (𝕄 F)) ⊢ iprop(ring d al v ∗ arr d a f) := by
  unfold ring arr Win.free Win.rest Win.done Win.piece
  iintro ⟨⟨A0, H0⟩, ⟨A1, H1⟩, Hg⟩
  isplitr [Hg]
  · isplitl [A0 A1]
    · iapply (Entails.of_eq (slotM_parts al).symm)
      isplitl [A0]; · iexact A0
      iexact A1
    isplitl [H0]; · iexact H0
    iexact H1
  iapply (Entails.of_eq (mask_parts a f).symm)
  iexact Hg

theorem one_in {s : Shape} (hs : 0 < s.numel) (al : Memref sig .tc .vmem s .f32) (v : DmaSems sig S_) (a : Memref sig .tc .hbm s .f32)
    (f : Buf (Elt F) (a.view.loc (d.tc : Thread nD τ))) :
    (iprop(single d al v ∗ arr d a f) : sProp (𝕄 F)) ⊢ iprop((oneWin hs a al v f).free 0 ∗ (oneWin hs a al v f).piece 0) := by
  unfold single arr Win.free Win.rest Win.piece anyAt
  iintro ⟨⟨Ha, H0⟩, Hg⟩
  isplitl [Ha H0]
  · isplitl [Ha]; · iexact Ha
    iexact H0
  iexact Hg

theorem one_out {s : Shape} (hs : 0 < s.numel) (al : Memref sig .tc .vmem s .f32) (v : DmaSems sig S_) (a : Memref sig .tc .hbm s .f32)
    (f : Buf (Elt F) (a.view.loc (d.tc : Thread nD τ))) (x) :
    (iprop((oneWin hs a al v f).piece 0 ∗ wt d al x ∗ (oneWin hs a al v f).rest 0) : sProp (𝕄 F)) ⊢ iprop(single d al v ∗ arr d a f) := by
  unfold single arr wt anyAt Win.piece Win.rest
  iintro ⟨Hg, ⟨%g, Ha, -⟩, H0⟩
  isplitr [Hg]
  · isplitl [Ha]
    · iexists g; iexact Ha
    iexact H0
  iexact Hg

variable [FloatOps F] {B : Bufs} (C : Ctn F d B)

/-! ## What the scan works on, before and after -/

theorem out_in1 : (iprop(ring d B.alloca_20 B.v17 ∗ anyAt (B.arg8.view.loc (d.tc : Thread nD τ)) B.arg8.view.set) : sProp (𝕄 F))
    ⊢ iprop((o1 C).free 0 ∗ (o1 C).free 1 ∗ (o1 C).todo 0) := by
  unfold ring Out.free Out.slot Out.rest
  iintro ⟨⟨Ha, H0, H1⟩, Hg⟩
  ihave Ha := (Entails.of_eq (slotO_parts B.alloca_20)) $$ Ha
  ihave Hg := (Entails.of_eq (out_parts B.arg8)) $$ Hg
  icases Ha with ⟨A0, A1⟩
  isplitl [A0 H0]
  · isplitl [A0]; · iexact A0
    iexact H0
  isplitl [A1 H1]
  · isplitl [A1]; · iexact A1
    iexact H1
  unfold Out.todo Out.blank
  rw [← Finset.range_eq_Ico]
  iexact Hg

theorem out_out1 : (iprop((o1 C).free 0 ∗ (o1 C).free 1 ∗ (o1 C).done 16) : sProp (𝕄 F))
    ⊢ iprop(ring d B.alloca_20 B.v17 ∗ reads d B.arg8 (rows (z1 C))) := by
  unfold ring reads Out.free Out.slot Out.rest Out.done Out.written
  iintro ⟨⟨A0, H0⟩, ⟨A1, H1⟩, Hg⟩
  isplitr [Hg]
  · isplitl [A0 A1]
    · iapply (Entails.of_eq (slotO_parts B.alloca_20).symm)
      isplitl [A0]; · iexact A0
      iexact A1
    isplitl [H0]; · iexact H0
    iexact H1
  iapply (out_glue B.arg8 (z1 C))
  iexact Hg

theorem out_in2 : (iprop(ring d B.alloca_21 B.v18 ∗ anyAt (B.arg9.view.loc (d.tc : Thread nD τ)) B.arg9.view.set) : sProp (𝕄 F))
    ⊢ iprop((o2 C).free 0 ∗ (o2 C).free 1 ∗ (o2 C).todo 0) := by
  unfold ring Out.free Out.slot Out.rest
  iintro ⟨⟨Ha, H0, H1⟩, Hg⟩
  ihave Ha := (Entails.of_eq (slotO_parts B.alloca_21)) $$ Ha
  ihave Hg := (Entails.of_eq (out_parts B.arg9)) $$ Hg
  icases Ha with ⟨A0, A1⟩
  isplitl [A0 H0]
  · isplitl [A0]; · iexact A0
    iexact H0
  isplitl [A1 H1]
  · isplitl [A1]; · iexact A1
    iexact H1
  unfold Out.todo Out.blank
  rw [← Finset.range_eq_Ico]
  iexact Hg

theorem out_out2 : (iprop((o2 C).free 0 ∗ (o2 C).free 1 ∗ (o2 C).done 16) : sProp (𝕄 F))
    ⊢ iprop(ring d B.alloca_21 B.v18 ∗ reads d B.arg9 (rows (z2 C))) := by
  unfold ring reads Out.free Out.slot Out.rest Out.done Out.written
  iintro ⟨⟨A0, H0⟩, ⟨A1, H1⟩, Hg⟩
  isplitr [Hg]
  · isplitl [A0 A1]
    · iapply (Entails.of_eq (slotO_parts B.alloca_21).symm)
      isplitl [A0]; · iexact A0
      iexact A1
    isplitl [H0]; · iexact H0
    iexact H1
  iapply (out_glue B.arg9 (z2 C))
  iexact Hg

/-- The scan's own buffers and semaphores. -/
def own (B : Bufs) (d : Dev nD) : sProp (𝕄 F) := iprop(ring d B.alloca B.v0 ∗ ring d B.alloca_0 B.v1 ∗ ring d B.alloca_1 B.v2 ∗ ring d B.alloca_2 B.v3 ∗ ring d B.alloca_3 B.v4 ∗ ring d B.alloca_4 B.v5 ∗ ring d B.alloca_5 B.v6 ∗ ring d B.alloca_6 B.v7 ∗ ring d B.alloca_7 B.v8 ∗ ring d B.alloca_8 B.v9 ∗ ring d B.alloca_9 B.v10 ∗ ring d B.alloca_10 B.v11 ∗ ring d B.alloca_11 B.v12 ∗ ring d B.alloca_12 B.v13 ∗ ring d B.alloca_13 B.v14 ∗ ring d B.alloca_14 B.v15 ∗ ring d B.alloca_19 B.v16 ∗ ring d B.alloca_20 B.v17 ∗ ring d B.alloca_21 B.v18 ∗ single d B.alloca_15 B.v219_r1 ∗ single d B.alloca_16 B.v219_r2 ∗ single d B.alloca_17 B.v219_r3 ∗ single d B.alloca_18 B.v219_r4)

/-- The arrays the scan only reads. -/
def inputs : sProp (𝕄 F) := iprop(arr d B.arg1 C.f1 ∗ arr d B.arg2 C.f2 ∗ arr d B.arg3 C.f3 ∗ arr d B.arg4 C.f4 ∗ arr d B.arg5 C.f5 ∗ arr d B.arg6 C.f6 ∗ arr d B.arg7 C.f7)

theorem scan_enter : (iprop(inputs C ∗ anyAt (B.arg8.view.loc (d.tc : Thread nD τ)) B.arg8.view.set ∗ anyAt (B.arg9.view.loc (d.tc : Thread nD τ)) B.arg9.view.set ∗ own B d) : sProp (𝕄 F)) ⊢ scanPre C := by
  unfold inputs own scanPre
  iintro ⟨⟨A1, A2, A3, A4, A5, A6, A7⟩, A8, A9, g0, g1, g2, g3, g4, g5, g6, g7, g8, g9, g10, g11, g12, g13, g14, g15, g16, G1, G2, k3, k4, k5, k6⟩
  ihave A1 := (Entails.of_eq (table_groups B.arg1 C.f1)) $$ A1
  ihave A2 := (Entails.of_eq (table_groups B.arg2 C.f2)) $$ A2
  icases A1 with ⟨T0, T1, T2, T3, T4, T5, T6, T7⟩
  icases A2 with ⟨T8, T9, T10, T11, T12, T13, T14, T15⟩
  isplitl [g0 T0]
  · iapply (tab_in B.alloca B.v0 B.arg1 C.f1 0 16 _)
    isplitl [g0] <;> iassumption
  isplitl [g1 T1]
  · iapply (tab_in B.alloca_0 B.v1 B.arg1 C.f1 1 16 _)
    isplitl [g1] <;> iassumption
  isplitl [g2 T2]
  · iapply (tab_in B.alloca_1 B.v2 B.arg1 C.f1 2 16 _)
    isplitl [g2] <;> iassumption
  isplitl [g3 T3]
  · iapply (tab_in B.alloca_2 B.v3 B.arg1 C.f1 3 16 _)
    isplitl [g3] <;> iassumption
  isplitl [g4 T4]
  · iapply (tab_in B.alloca_3 B.v4 B.arg1 C.f1 4 16 _)
    isplitl [g4] <;> iassumption
  isplitl [g5 T5]
  · iapply (tab_in B.alloca_4 B.v5 B.arg1 C.f1 5 16 _)
    isplitl [g5] <;> iassumption
  isplitl [g6 T6]
  · iapply (tab_in B.alloca_5 B.v6 B.arg1 C.f1 6 16 _)
    isplitl [g6] <;> iassumption
  isplitl [g7 T7]
  · iapply (tab_in B.alloca_6 B.v7 B.arg1 C.f1 7 11 _)
    isplitl [g7] <;> iassumption
  isplitl [g8 T8]
  · iapply (tab_in B.alloca_7 B.v8 B.arg2 C.f2 0 16 _)
    isplitl [g8] <;> iassumption
  isplitl [g9 T9]
  · iapply (tab_in B.alloca_8 B.v9 B.arg2 C.f2 1 16 _)
    isplitl [g9] <;> iassumption
  isplitl [g10 T10]
  · iapply (tab_in B.alloca_9 B.v10 B.arg2 C.f2 2 16 _)
    isplitl [g10] <;> iassumption
  isplitl [g11 T11]
  · iapply (tab_in B.alloca_10 B.v11 B.arg2 C.f2 3 16 _)
    isplitl [g11] <;> iassumption
  isplitl [g12 T12]
  · iapply (tab_in B.alloca_11 B.v12 B.arg2 C.f2 4 16 _)
    isplitl [g12] <;> iassumption
  isplitl [g13 T13]
  · iapply (tab_in B.alloca_12 B.v13 B.arg2 C.f2 5 16 _)
    isplitl [g13] <;> iassumption
  isplitl [g14 T14]
  · iapply (tab_in B.alloca_13 B.v14 B.arg2 C.f2 6 16 _)
    isplitl [g14] <;> iassumption
  isplitl [g15 T15]
  · iapply (tab_in B.alloca_14 B.v15 B.arg2 C.f2 7 11 _)
    isplitl [g15] <;> iassumption
  isplitl [g16 A7]
  · iapply (mask_in B.alloca_19 B.v16 B.arg7 C.f7)
    isplitl [g16] <;> iassumption
  isplitl [G1 A8]
  · iapply (out_in1 C)
    isplitl [G1] <;> iassumption
  isplitl [G2 A9]
  · iapply (out_in2 C)
    isplitl [G2] <;> iassumption
  isplitl [k3 A3]
  · iapply (one_in _ B.alloca_15 B.v219_r1 B.arg3 C.f3)
    isplitl [k3] <;> iassumption
  isplitl [k4 A4]
  · iapply (one_in _ B.alloca_16 B.v219_r2 B.arg4 C.f4)
    isplitl [k4] <;> iassumption
  isplitl [k5 A5]
  · iapply (one_in _ B.alloca_17 B.v219_r3 B.arg5 C.f5)
    isplitl [k5] <;> iassumption
  iapply (one_in _ B.alloca_18 B.v219_r4 B.arg6 C.f6)
  isplitl [k6] <;> iassumption

theorem scan_leave : (scanPost C : sProp (𝕄 F)) ⊢ iprop(inputs C ∗ reads d B.arg8 (rows (z1 C)) ∗ reads d B.arg9 (rows (z2 C)) ∗ own B d) := by
  unfold inputs own scanPost
  iintro ⟨g0, g1, g2, g3, g4, g5, g6, g7, g8, g9, g10, g11, g12, g13, g14, g15, g16, G1, G2, k3, k4, k5, k6⟩
  ihave g0 := (tab_out B.alloca B.v0 B.arg1 C.f1 0 16 _) $$ g0
  icases g0 with ⟨g0, T0⟩
  ihave g1 := (tab_out B.alloca_0 B.v1 B.arg1 C.f1 1 16 _) $$ g1
  icases g1 with ⟨g1, T1⟩
  ihave g2 := (tab_out B.alloca_1 B.v2 B.arg1 C.f1 2 16 _) $$ g2
  icases g2 with ⟨g2, T2⟩
  ihave g3 := (tab_out B.alloca_2 B.v3 B.arg1 C.f1 3 16 _) $$ g3
  icases g3 with ⟨g3, T3⟩
  ihave g4 := (tab_out B.alloca_3 B.v4 B.arg1 C.f1 4 16 _) $$ g4
  icases g4 with ⟨g4, T4⟩
  ihave g5 := (tab_out B.alloca_4 B.v5 B.arg1 C.f1 5 16 _) $$ g5
  icases g5 with ⟨g5, T5⟩
  ihave g6 := (tab_out B.alloca_5 B.v6 B.arg1 C.f1 6 16 _) $$ g6
  icases g6 with ⟨g6, T6⟩
  ihave g7 := (tab_out B.alloca_6 B.v7 B.arg1 C.f1 7 11 _) $$ g7
  icases g7 with ⟨g7, T7⟩
  ihave g8 := (tab_out B.alloca_7 B.v8 B.arg2 C.f2 0 16 _) $$ g8
  icases g8 with ⟨g8, T8⟩
  ihave g9 := (tab_out B.alloca_8 B.v9 B.arg2 C.f2 1 16 _) $$ g9
  icases g9 with ⟨g9, T9⟩
  ihave g10 := (tab_out B.alloca_9 B.v10 B.arg2 C.f2 2 16 _) $$ g10
  icases g10 with ⟨g10, T10⟩
  ihave g11 := (tab_out B.alloca_10 B.v11 B.arg2 C.f2 3 16 _) $$ g11
  icases g11 with ⟨g11, T11⟩
  ihave g12 := (tab_out B.alloca_11 B.v12 B.arg2 C.f2 4 16 _) $$ g12
  icases g12 with ⟨g12, T12⟩
  ihave g13 := (tab_out B.alloca_12 B.v13 B.arg2 C.f2 5 16 _) $$ g13
  icases g13 with ⟨g13, T13⟩
  ihave g14 := (tab_out B.alloca_13 B.v14 B.arg2 C.f2 6 16 _) $$ g14
  icases g14 with ⟨g14, T14⟩
  ihave g15 := (tab_out B.alloca_14 B.v15 B.arg2 C.f2 7 11 _) $$ g15
  icases g15 with ⟨g15, T15⟩
  ihave g16 := (mask_out B.alloca_19 B.v16 B.arg7 C.f7) $$ g16
  icases g16 with ⟨g16, A7⟩
  ihave G1 := (out_out1 C) $$ G1
  icases G1 with ⟨G1, A8⟩
  ihave G2 := (out_out2 C) $$ G2
  icases G2 with ⟨G2, A9⟩
  ihave k3 := (one_out _ B.alloca_15 B.v219_r1 B.arg3 C.f3 _) $$ k3
  icases k3 with ⟨k3, A3⟩
  ihave k4 := (one_out _ B.alloca_16 B.v219_r2 B.arg4 C.f4 _) $$ k4
  icases k4 with ⟨k4, A4⟩
  ihave k5 := (one_out _ B.alloca_17 B.v219_r3 B.arg5 C.f5 _) $$ k5
  icases k5 with ⟨k5, A5⟩
  ihave k6 := (one_out _ B.alloca_18 B.v219_r4 B.arg6 C.f6 _) $$ k6
  icases k6 with ⟨k6, A6⟩
  isplitl [T0 T1 T2 T3 T4 T5 T6 T7 T8 T9 T10 T11 T12 T13 T14 T15 A3 A4 A5 A6 A7]
  · isplitl [T0 T1 T2 T3 T4 T5 T6 T7]
    · iapply (Entails.of_eq (table_groups B.arg1 C.f1).symm)
      isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    isplitl [T8 T9 T10 T11 T12 T13 T14 T15]
    · iapply (Entails.of_eq (table_groups B.arg2 C.f2).symm)
      isplitl [T8]; · iexact T8
      isplitl [T9]; · iexact T9
      isplitl [T10]; · iexact T10
      isplitl [T11]; · iexact T11
      isplitl [T12]; · iexact T12
      isplitl [T13]; · iexact T13
      isplitl [T14]; · iexact T14
      iexact T15
    isplitl [A3]; · iexact A3
    isplitl [A4]; · iexact A4
    isplitl [A5]; · iexact A5
    isplitl [A6]; · iexact A6
    iexact A7
  isplitl [A8]; · iexact A8
  isplitl [A9]; · iexact A9
  isplitl [g0]; · iexact g0
  isplitl [g1]; · iexact g1
  isplitl [g2]; · iexact g2
  isplitl [g3]; · iexact g3
  isplitl [g4]; · iexact g4
  isplitl [g5]; · iexact g5
  isplitl [g6]; · iexact g6
  isplitl [g7]; · iexact g7
  isplitl [g8]; · iexact g8
  isplitl [g9]; · iexact g9
  isplitl [g10]; · iexact g10
  isplitl [g11]; · iexact g11
  isplitl [g12]; · iexact g12
  isplitl [g13]; · iexact g13
  isplitl [g14]; · iexact g14
  isplitl [g15]; · iexact g15
  isplitl [g16]; · iexact g16
  isplitl [G1]; · iexact G1
  isplitl [G2]; · iexact G2
  isplitl [k3]; · iexact k3
  isplitl [k4]; · iexact k4
  isplitl [k5]; · iexact k5
  iexact k6

end Cert.Proof

end
-- ==== Proof.ScanOwn.lean ====
/-
  The scan's arrays, buffers and semaphores in the program.
-/
module

public import proofs.«01_k».proof.Proof.ScanMem
public import proofs.«01_k».proof.Proof.Mlp

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe
open Idealize.ShloMosaic.Pipeline (Dat BodyObligation cellOf)

/-- The scan's references in the program. -/
@[reducible] def B0 : Bufs where
  arg1 := Memref.whole main_v1
  harg1 := Memref.isWhole_whole _
  arg2 := Memref.whole main_v3
  harg2 := Memref.isWhole_whole _
  arg3 := Memref.whole main_v12
  harg3 := Memref.isWhole_whole _
  arg4 := Memref.whole main_v16
  harg4 := Memref.isWhole_whole _
  arg5 := Memref.whole main_v25
  harg5 := Memref.isWhole_whole _
  arg6 := Memref.whole main_v29
  harg6 := Memref.isWhole_whole _
  arg7 := Memref.whole main_v45
  harg7 := Memref.isWhole_whole _
  arg8 := Memref.whole main_v46_0
  harg8 := Memref.isWhole_whole _
  arg9 := Memref.whole main_v46_1
  harg9 := Memref.isWhole_whole _
  alloca := Memref.whole cc0_scoped0
  halloca := Memref.isWhole_whole _
  v0 := cc0_scoped1
  alloca_0 := Memref.whole cc0_scoped2
  halloca_0 := Memref.isWhole_whole _
  v1 := cc0_scoped3
  alloca_1 := Memref.whole cc0_scoped4
  halloca_1 := Memref.isWhole_whole _
  v2 := cc0_scoped5
  alloca_2 := Memref.whole cc0_scoped6
  halloca_2 := Memref.isWhole_whole _
  v3 := cc0_scoped7
  alloca_3 := Memref.whole cc0_scoped8
  halloca_3 := Memref.isWhole_whole _
  v4 := cc0_scoped9
  alloca_4 := Memref.whole cc0_scoped10
  halloca_4 := Memref.isWhole_whole _
  v5 := cc0_scoped11
  alloca_5 := Memref.whole cc0_scoped12
  halloca_5 := Memref.isWhole_whole _
  v6 := cc0_scoped13
  alloca_6 := Memref.whole cc0_scoped14
  halloca_6 := Memref.isWhole_whole _
  v7 := cc0_scoped15
  alloca_7 := Memref.whole cc0_scoped16
  halloca_7 := Memref.isWhole_whole _
  v8 := cc0_scoped17
  alloca_8 := Memref.whole cc0_scoped18
  halloca_8 := Memref.isWhole_whole _
  v9 := cc0_scoped19
  alloca_9 := Memref.whole cc0_scoped20
  halloca_9 := Memref.isWhole_whole _
  v10 := cc0_scoped21
  alloca_10 := Memref.whole cc0_scoped22
  halloca_10 := Memref.isWhole_whole _
  v11 := cc0_scoped23
  alloca_11 := Memref.whole cc0_scoped24
  halloca_11 := Memref.isWhole_whole _
  v12 := cc0_scoped25
  alloca_12 := Memref.whole cc0_scoped26
  halloca_12 := Memref.isWhole_whole _
  v13 := cc0_scoped27
  alloca_13 := Memref.whole cc0_scoped28
  halloca_13 := Memref.isWhole_whole _
  v14 := cc0_scoped29
  alloca_14 := Memref.whole cc0_scoped30
  halloca_14 := Memref.isWhole_whole _
  v15 := cc0_scoped31
  alloca_15 := Memref.whole cc0_scoped32
  halloca_15 := Memref.isWhole_whole _
  alloca_16 := Memref.whole cc0_scoped33
  halloca_16 := Memref.isWhole_whole _
  alloca_17 := Memref.whole cc0_scoped34
  halloca_17 := Memref.isWhole_whole _
  alloca_18 := Memref.whole cc0_scoped35
  halloca_18 := Memref.isWhole_whole _
  alloca_19 := Memref.whole cc0_scoped36
  halloca_19 := Memref.isWhole_whole _
  v16 := cc0_scoped37
  alloca_20 := Memref.whole cc0_scoped38
  halloca_20 := Memref.isWhole_whole _
  v17 := cc0_scoped39
  alloca_21 := Memref.whole cc0_scoped40
  halloca_21 := Memref.isWhole_whole _
  v18 := cc0_scoped41
  v219_r1 := cc0_scoped42
  v219_r2 := cc0_scoped43
  v219_r3 := cc0_scoped44
  v219_r4 := cc0_scoped45

variable (V : (c : Dev nD) → (b : Ref sig .tc) → Buf (Elt F) ((c.tc : Thread nD τ).loc b))

/-- The contents the scan reads, from a valuation. -/
@[reducible] def C0 (c : Dev nD) : Ctn F c B0 where
  f1 := V c main_v1
  f2 := V c main_v3
  f3 := V c main_v12
  f4 := V c main_v16
  f5 := V c main_v25
  f6 := V c main_v29
  f7 := V c main_v45

/-- The scan's semaphores. -/
def scanSem : Fin 42 → SemLoc sig := ![.dma (semOf B0.v0 0), .dma (semOf B0.v0 1), .dma (semOf B0.v1 0), .dma (semOf B0.v1 1), .dma (semOf B0.v2 0), .dma (semOf B0.v2 1), .dma (semOf B0.v3 0), .dma (semOf B0.v3 1), .dma (semOf B0.v4 0), .dma (semOf B0.v4 1), .dma (semOf B0.v5 0), .dma (semOf B0.v5 1), .dma (semOf B0.v6 0), .dma (semOf B0.v6 1), .dma (semOf B0.v7 0), .dma (semOf B0.v7 1), .dma (semOf B0.v8 0), .dma (semOf B0.v8 1), .dma (semOf B0.v9 0), .dma (semOf B0.v9 1), .dma (semOf B0.v10 0), .dma (semOf B0.v10 1), .dma (semOf B0.v11 0), .dma (semOf B0.v11 1), .dma (semOf B0.v12 0), .dma (semOf B0.v12 1), .dma (semOf B0.v13 0), .dma (semOf B0.v13 1), .dma (semOf B0.v14 0), .dma (semOf B0.v14 1), .dma (semOf B0.v15 0), .dma (semOf B0.v15 1), .dma (semOf B0.v16 0), .dma (semOf B0.v16 1), .dma (semOf B0.v17 0), .dma (semOf B0.v17 1), .dma (semOf B0.v18 0), .dma (semOf B0.v18 1), .dma (B0.v219_r1.sem), .dma (B0.v219_r2.sem), .dma (B0.v219_r3.sem), .dma (B0.v219_r4.sem)]

theorem scanSem_facts : Pipeline.OwnSemFacts spec0 scanSem := ⟨by decide +kernel, by decide +kernel, fun _ w => w.elim0⟩

/-- The scan's buffers. -/
def scanBufs : List (Ref sig .tc) := [cc0_scoped0, cc0_scoped2, cc0_scoped4, cc0_scoped6, cc0_scoped8, cc0_scoped10, cc0_scoped12, cc0_scoped14, cc0_scoped16, cc0_scoped18, cc0_scoped20, cc0_scoped22, cc0_scoped24, cc0_scoped26, cc0_scoped28, cc0_scoped30, cc0_scoped36, cc0_scoped38, cc0_scoped40, cc0_scoped32, cc0_scoped33, cc0_scoped34, cc0_scoped35]

/-- The scan's arrays. -/
def scanArrs : List (Ref sig .tc) := [main_v1, main_v3, main_v12, main_v16, main_v25, main_v29, main_v45, main_v46_0, main_v46_1]

variable (c : Dev nD)

theorem sems_eq : (Pipeline.ownSems0 scanSem c : sProp (𝕄 F)) = iprop(semVal ((c.tc : Thread nD τ), .dma (semOf B0.v0 0)) 0 ∗ semVal ((c.tc : Thread nD τ), .dma (semOf B0.v0 1)) 0 ∗ semVal ((c.tc : Thread nD τ), .dma (semOf B0.v1 0)) 0 ∗ semVal ((c.tc : Thread nD τ), .dma (semOf B0.v1 1)) 0 ∗ semVal ((c.tc : Thread nD τ), .dma (semOf B0.v2 0)) 0 ∗ semVal ((c.tc : Thread nD τ), .dma (semOf B0.v2 1)) 0 ∗ semVal ((c.tc : Thread nD τ), .dma (semOf B0.v3 0)) 0 ∗ semVal ((c.tc : Thread nD τ), .dma (semOf B0.v3 1)) 0 ∗ semVal ((c.tc : Thread nD τ), .dma (semOf B0.v4 0)) 0 ∗ semVal ((c.tc : Thread nD τ), .dma (semOf B0.v4 1)) 0 ∗ semVal ((c.tc : Thread nD τ), .dma (semOf B0.v5 0)) 0 ∗ semVal ((c.tc : Thread nD τ), .dma (semOf B0.v5 1)) 0 ∗ semVal ((c.tc : Thread nD τ), .dma (semOf B0.v6 0)) 0 ∗ semVal ((c.tc : Thread nD τ), .dma (semOf B0.v6 1)) 0 ∗ semVal ((c.tc : Thread nD τ), .dma (semOf B0.v7 0)) 0 ∗ semVal ((c.tc : Thread nD τ), .dma (semOf B0.v7 1)) 0 ∗ semVal ((c.tc : Thread nD τ), .dma (semOf B0.v8 0)) 0 ∗ semVal ((c.tc : Thread nD τ), .dma (semOf B0.v8 1)) 0 ∗ semVal ((c.tc : Thread nD τ), .dma (semOf B0.v9 0)) 0 ∗ semVal ((c.tc : Thread nD τ), .dma (semOf B0.v9 1)) 0 ∗ semVal ((c.tc : Thread nD τ), .dma (semOf B0.v10 0)) 0 ∗ semVal ((c.tc : Thread nD τ), .dma (semOf B0.v10 1)) 0 ∗ semVal ((c.tc : Thread nD τ), .dma (semOf B0.v11 0)) 0 ∗ semVal ((c.tc : Thread nD τ), .dma (semOf B0.v11 1)) 0 ∗ semVal ((c.tc : Thread nD τ), .dma (semOf B0.v12 0)) 0 ∗ semVal ((c.tc : Thread nD τ), .dma (semOf B0.v12 1)) 0 ∗ semVal ((c.tc : Thread nD τ), .dma (semOf B0.v13 0)) 0 ∗ semVal ((c.tc : Thread nD τ), .dma (semOf B0.v13 1)) 0 ∗ semVal ((c.tc : Thread nD τ), .dma (semOf B0.v14 0)) 0 ∗ semVal ((c.tc : Thread nD τ), .dma (semOf B0.v14 1)) 0 ∗ semVal ((c.tc : Thread nD τ), .dma (semOf B0.v15 0)) 0 ∗ semVal ((c.tc : Thread nD τ), .dma (semOf B0.v15 1)) 0 ∗ semVal ((c.tc : Thread nD τ), .dma (semOf B0.v16 0)) 0 ∗ semVal ((c.tc : Thread nD τ), .dma (semOf B0.v16 1)) 0 ∗ semVal ((c.tc : Thread nD τ), .dma (semOf B0.v17 0)) 0 ∗ semVal ((c.tc : Thread nD τ), .dma (semOf B0.v17 1)) 0 ∗ semVal ((c.tc : Thread nD τ), .dma (semOf B0.v18 0)) 0 ∗ semVal ((c.tc : Thread nD τ), .dma (semOf B0.v18 1)) 0 ∗ semVal ((c.tc : Thread nD τ), .dma (B0.v219_r1.sem)) 0 ∗ semVal ((c.tc : Thread nD τ), .dma (B0.v219_r2.sem)) 0 ∗ semVal ((c.tc : Thread nD τ), .dma (B0.v219_r3.sem)) 0 ∗ semVal ((c.tc : Thread nD τ), .dma (B0.v219_r4.sem)) 0) := by
  unfold Pipeline.ownSems0
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41] (by decide) (by decide)]
  rfl

theorem bufs_eq : (Pipeline.scopedRest (Ix := HIx 1) (Name := ℕ) (U := UU) (Lvl := ℕ) (Val := Elt F) spec0 c : sProp (𝕄 F))
    = iprop(((∃ f : Buf (Elt F) ((c.tc : Thread nD τ).loc cc0_scoped0), ((c.tc : Thread nD τ).loc cc0_scoped0) ↦{fullShare} f) ∗ (∃ f : Buf (Elt F) ((c.tc : Thread nD τ).loc cc0_scoped2), ((c.tc : Thread nD τ).loc cc0_scoped2) ↦{fullShare} f) ∗ (∃ f : Buf (Elt F) ((c.tc : Thread nD τ).loc cc0_scoped4), ((c.tc : Thread nD τ).loc cc0_scoped4) ↦{fullShare} f) ∗ (∃ f : Buf (Elt F) ((c.tc : Thread nD τ).loc cc0_scoped6), ((c.tc : Thread nD τ).loc cc0_scoped6) ↦{fullShare} f) ∗ (∃ f : Buf (Elt F) ((c.tc : Thread nD τ).loc cc0_scoped8), ((c.tc : Thread nD τ).loc cc0_scoped8) ↦{fullShare} f) ∗ (∃ f : Buf (Elt F) ((c.tc : Thread nD τ).loc cc0_scoped10), ((c.tc : Thread nD τ).loc cc0_scoped10) ↦{fullShare} f) ∗ (∃ f : Buf (Elt F) ((c.tc : Thread nD τ).loc cc0_scoped12), ((c.tc : Thread nD τ).loc cc0_scoped12) ↦{fullShare} f) ∗ (∃ f : Buf (Elt F) ((c.tc : Thread nD τ).loc cc0_scoped14), ((c.tc : Thread nD τ).loc cc0_scoped14) ↦{fullShare} f) ∗ (∃ f : Buf (Elt F) ((c.tc : Thread nD τ).loc cc0_scoped16), ((c.tc : Thread nD τ).loc cc0_scoped16) ↦{fullShare} f) ∗ (∃ f : Buf (Elt F) ((c.tc : Thread nD τ).loc cc0_scoped18), ((c.tc : Thread nD τ).loc cc0_scoped18) ↦{fullShare} f) ∗ (∃ f : Buf (Elt F) ((c.tc : Thread nD τ).loc cc0_scoped20), ((c.tc : Thread nD τ).loc cc0_scoped20) ↦{fullShare} f) ∗ (∃ f : Buf (Elt F) ((c.tc : Thread nD τ).loc cc0_scoped22), ((c.tc : Thread nD τ).loc cc0_scoped22) ↦{fullShare} f) ∗ (∃ f : Buf (Elt F) ((c.tc : Thread nD τ).loc cc0_scoped24), ((c.tc : Thread nD τ).loc cc0_scoped24) ↦{fullShare} f) ∗ (∃ f : Buf (Elt F) ((c.tc : Thread nD τ).loc cc0_scoped26), ((c.tc : Thread nD τ).loc cc0_scoped26) ↦{fullShare} f) ∗ (∃ f : Buf (Elt F) ((c.tc : Thread nD τ).loc cc0_scoped28), ((c.tc : Thread nD τ).loc cc0_scoped28) ↦{fullShare} f) ∗ (∃ f : Buf (Elt F) ((c.tc : Thread nD τ).loc cc0_scoped30), ((c.tc : Thread nD τ).loc cc0_scoped30) ↦{fullShare} f) ∗ (∃ f : Buf (Elt F) ((c.tc : Thread nD τ).loc cc0_scoped36), ((c.tc : Thread nD τ).loc cc0_scoped36) ↦{fullShare} f) ∗ (∃ f : Buf (Elt F) ((c.tc : Thread nD τ).loc cc0_scoped38), ((c.tc : Thread nD τ).loc cc0_scoped38) ↦{fullShare} f) ∗ (∃ f : Buf (Elt F) ((c.tc : Thread nD τ).loc cc0_scoped40), ((c.tc : Thread nD τ).loc cc0_scoped40) ↦{fullShare} f) ∗ (∃ f : Buf (Elt F) ((c.tc : Thread nD τ).loc cc0_scoped32), ((c.tc : Thread nD τ).loc cc0_scoped32) ↦{fullShare} f) ∗ (∃ f : Buf (Elt F) ((c.tc : Thread nD τ).loc cc0_scoped33), ((c.tc : Thread nD τ).loc cc0_scoped33) ↦{fullShare} f) ∗ (∃ f : Buf (Elt F) ((c.tc : Thread nD τ).loc cc0_scoped34), ((c.tc : Thread nD τ).loc cc0_scoped34) ↦{fullShare} f) ∗ (∃ f : Buf (Elt F) ((c.tc : Thread nD τ).loc cc0_scoped35), ((c.tc : Thread nD τ).loc cc0_scoped35) ↦{fullShare} f)) ∗ Pipeline.scopedRestBut (Ix := HIx 1) (Name := ℕ) (U := UU) (Lvl := ℕ) (Val := Elt F) spec0 c scanBufs) :=
  Pipeline.scopedRest_split_of_list spec0 c scanBufs (by decide) (by decide)

/-- The arrays that are not the scan's. -/
def otherArrs (W : (b : Ref sig .tc) → Buf (Elt F) ((c.tc : Thread nD τ).loc b)) : sProp (𝕄 F) :=
  bigSep ((Finset.univ.filter fun b : Ref sig .tc => ¬ b.isScoped) \ scanArrs.toFinset) fun b => ((c.tc : Thread nD τ).loc b) ↦{fullShare} W b

theorem arrs_eq (W : (b : Ref sig .tc) → Buf (Elt F) ((c.tc : Thread nD τ).loc b)) :
    (unscopedBufs c W : sProp (𝕄 F)) = iprop(((((c.tc : Thread nD τ).loc main_v1) ↦{fullShare} W main_v1) ∗ (((c.tc : Thread nD τ).loc main_v3) ↦{fullShare} W main_v3) ∗ (((c.tc : Thread nD τ).loc main_v12) ↦{fullShare} W main_v12) ∗ (((c.tc : Thread nD τ).loc main_v16) ↦{fullShare} W main_v16) ∗ (((c.tc : Thread nD τ).loc main_v25) ↦{fullShare} W main_v25) ∗ (((c.tc : Thread nD τ).loc main_v29) ↦{fullShare} W main_v29) ∗ (((c.tc : Thread nD τ).loc main_v45) ↦{fullShare} W main_v45) ∗ (((c.tc : Thread nD τ).loc main_v46_0) ↦{fullShare} W main_v46_0) ∗ (((c.tc : Thread nD τ).loc main_v46_1) ↦{fullShare} W main_v46_1)) ∗ otherArrs c W) := by
  have sub : scanArrs.toFinset ⊆ (Finset.univ.filter fun b : Ref sig .tc => ¬ b.isScoped) := by
    intro b hb
    rw [Finset.mem_filter]
    exact ⟨Finset.mem_univ _, List.forall_iff_forall_mem.1 (show scanArrs.Forall fun b => ¬ b.isScoped by decide) b (List.mem_toFinset.1 hb)⟩
  unfold unscopedBufs otherArrs
  rw [SparseCore.bigSep_sdiff_split' sub, bigSep_eq_bigSepL scanArrs (by decide)]
  rfl

theorem anyAt_univ (ℓ : Loc nD τ sig) (I : Finset ℓ.ty.Idx) (h : I = Finset.univ) : (anyAt ℓ I : sProp (𝕄 F)) = iprop(∃ f : Buf (Elt F) ℓ, ℓ ↦{fullShare} f) := by
  subst h; rfl

theorem pt_univ (ℓ : Loc nD τ sig) (I : Finset ℓ.ty.Idx) (h : I = Finset.univ) (f : Buf (Elt F) ℓ) : (ℓ ↦[I]{fullShare} f : sProp (𝕄 F)) = iprop(ℓ ↦{fullShare} f) := by
  subst h; rfl
theorem any_alloca : (anyAt (B0.alloca.view.loc (c.tc : Thread nD τ)) B0.alloca.view.set : sProp (𝕄 F)) = iprop(∃ f : Buf (Elt F) ((c.tc : Thread nD τ).loc cc0_scoped0), ((c.tc : Thread nD τ).loc cc0_scoped0) ↦{fullShare} f) := anyAt_univ _ _ (View.set_whole _)
theorem any_alloca_0 : (anyAt (B0.alloca_0.view.loc (c.tc : Thread nD τ)) B0.alloca_0.view.set : sProp (𝕄 F)) = iprop(∃ f : Buf (Elt F) ((c.tc : Thread nD τ).loc cc0_scoped2), ((c.tc : Thread nD τ).loc cc0_scoped2) ↦{fullShare} f) := anyAt_univ _ _ (View.set_whole _)
theorem any_alloca_1 : (anyAt (B0.alloca_1.view.loc (c.tc : Thread nD τ)) B0.alloca_1.view.set : sProp (𝕄 F)) = iprop(∃ f : Buf (Elt F) ((c.tc : Thread nD τ).loc cc0_scoped4), ((c.tc : Thread nD τ).loc cc0_scoped4) ↦{fullShare} f) := anyAt_univ _ _ (View.set_whole _)
theorem any_alloca_2 : (anyAt (B0.alloca_2.view.loc (c.tc : Thread nD τ)) B0.alloca_2.view.set : sProp (𝕄 F)) = iprop(∃ f : Buf (Elt F) ((c.tc : Thread nD τ).loc cc0_scoped6), ((c.tc : Thread nD τ).loc cc0_scoped6) ↦{fullShare} f) := anyAt_univ _ _ (View.set_whole _)
theorem any_alloca_3 : (anyAt (B0.alloca_3.view.loc (c.tc : Thread nD τ)) B0.alloca_3.view.set : sProp (𝕄 F)) = iprop(∃ f : Buf (Elt F) ((c.tc : Thread nD τ).loc cc0_scoped8), ((c.tc : Thread nD τ).loc cc0_scoped8) ↦{fullShare} f) := anyAt_univ _ _ (View.set_whole _)
theorem any_alloca_4 : (anyAt (B0.alloca_4.view.loc (c.tc : Thread nD τ)) B0.alloca_4.view.set : sProp (𝕄 F)) = iprop(∃ f : Buf (Elt F) ((c.tc : Thread nD τ).loc cc0_scoped10), ((c.tc : Thread nD τ).loc cc0_scoped10) ↦{fullShare} f) := anyAt_univ _ _ (View.set_whole _)
theorem any_alloca_5 : (anyAt (B0.alloca_5.view.loc (c.tc : Thread nD τ)) B0.alloca_5.view.set : sProp (𝕄 F)) = iprop(∃ f : Buf (Elt F) ((c.tc : Thread nD τ).loc cc0_scoped12), ((c.tc : Thread nD τ).loc cc0_scoped12) ↦{fullShare} f) := anyAt_univ _ _ (View.set_whole _)
theorem any_alloca_6 : (anyAt (B0.alloca_6.view.loc (c.tc : Thread nD τ)) B0.alloca_6.view.set : sProp (𝕄 F)) = iprop(∃ f : Buf (Elt F) ((c.tc : Thread nD τ).loc cc0_scoped14), ((c.tc : Thread nD τ).loc cc0_scoped14) ↦{fullShare} f) := anyAt_univ _ _ (View.set_whole _)
theorem any_alloca_7 : (anyAt (B0.alloca_7.view.loc (c.tc : Thread nD τ)) B0.alloca_7.view.set : sProp (𝕄 F)) = iprop(∃ f : Buf (Elt F) ((c.tc : Thread nD τ).loc cc0_scoped16), ((c.tc : Thread nD τ).loc cc0_scoped16) ↦{fullShare} f) := anyAt_univ _ _ (View.set_whole _)
theorem any_alloca_8 : (anyAt (B0.alloca_8.view.loc (c.tc : Thread nD τ)) B0.alloca_8.view.set : sProp (𝕄 F)) = iprop(∃ f : Buf (Elt F) ((c.tc : Thread nD τ).loc cc0_scoped18), ((c.tc : Thread nD τ).loc cc0_scoped18) ↦{fullShare} f) := anyAt_univ _ _ (View.set_whole _)
theorem any_alloca_9 : (anyAt (B0.alloca_9.view.loc (c.tc : Thread nD τ)) B0.alloca_9.view.set : sProp (𝕄 F)) = iprop(∃ f : Buf (Elt F) ((c.tc : Thread nD τ).loc cc0_scoped20), ((c.tc : Thread nD τ).loc cc0_scoped20) ↦{fullShare} f) := anyAt_univ _ _ (View.set_whole _)
theorem any_alloca_10 : (anyAt (B0.alloca_10.view.loc (c.tc : Thread nD τ)) B0.alloca_10.view.set : sProp (𝕄 F)) = iprop(∃ f : Buf (Elt F) ((c.tc : Thread nD τ).loc cc0_scoped22), ((c.tc : Thread nD τ).loc cc0_scoped22) ↦{fullShare} f) := anyAt_univ _ _ (View.set_whole _)
theorem any_alloca_11 : (anyAt (B0.alloca_11.view.loc (c.tc : Thread nD τ)) B0.alloca_11.view.set : sProp (𝕄 F)) = iprop(∃ f : Buf (Elt F) ((c.tc : Thread nD τ).loc cc0_scoped24), ((c.tc : Thread nD τ).loc cc0_scoped24) ↦{fullShare} f) := anyAt_univ _ _ (View.set_whole _)
theorem any_alloca_12 : (anyAt (B0.alloca_12.view.loc (c.tc : Thread nD τ)) B0.alloca_12.view.set : sProp (𝕄 F)) = iprop(∃ f : Buf (Elt F) ((c.tc : Thread nD τ).loc cc0_scoped26), ((c.tc : Thread nD τ).loc cc0_scoped26) ↦{fullShare} f) := anyAt_univ _ _ (View.set_whole _)
theorem any_alloca_13 : (anyAt (B0.alloca_13.view.loc (c.tc : Thread nD τ)) B0.alloca_13.view.set : sProp (𝕄 F)) = iprop(∃ f : Buf (Elt F) ((c.tc : Thread nD τ).loc cc0_scoped28), ((c.tc : Thread nD τ).loc cc0_scoped28) ↦{fullShare} f) := anyAt_univ _ _ (View.set_whole _)
theorem any_alloca_14 : (anyAt (B0.alloca_14.view.loc (c.tc : Thread nD τ)) B0.alloca_14.view.set : sProp (𝕄 F)) = iprop(∃ f : Buf (Elt F) ((c.tc : Thread nD τ).loc cc0_scoped30), ((c.tc : Thread nD τ).loc cc0_scoped30) ↦{fullShare} f) := anyAt_univ _ _ (View.set_whole _)
theorem any_alloca_19 : (anyAt (B0.alloca_19.view.loc (c.tc : Thread nD τ)) B0.alloca_19.view.set : sProp (𝕄 F)) = iprop(∃ f : Buf (Elt F) ((c.tc : Thread nD τ).loc cc0_scoped36), ((c.tc : Thread nD τ).loc cc0_scoped36) ↦{fullShare} f) := anyAt_univ _ _ (View.set_whole _)
theorem any_alloca_20 : (anyAt (B0.alloca_20.view.loc (c.tc : Thread nD τ)) B0.alloca_20.view.set : sProp (𝕄 F)) = iprop(∃ f : Buf (Elt F) ((c.tc : Thread nD τ).loc cc0_scoped38), ((c.tc : Thread nD τ).loc cc0_scoped38) ↦{fullShare} f) := anyAt_univ _ _ (View.set_whole _)
theorem any_alloca_21 : (anyAt (B0.alloca_21.view.loc (c.tc : Thread nD τ)) B0.alloca_21.view.set : sProp (𝕄 F)) = iprop(∃ f : Buf (Elt F) ((c.tc : Thread nD τ).loc cc0_scoped40), ((c.tc : Thread nD τ).loc cc0_scoped40) ↦{fullShare} f) := anyAt_univ _ _ (View.set_whole _)
theorem any_alloca_15 : (anyAt (B0.alloca_15.view.loc (c.tc : Thread nD τ)) B0.alloca_15.view.set : sProp (𝕄 F)) = iprop(∃ f : Buf (Elt F) ((c.tc : Thread nD τ).loc cc0_scoped32), ((c.tc : Thread nD τ).loc cc0_scoped32) ↦{fullShare} f) := anyAt_univ _ _ (View.set_whole _)
theorem any_alloca_16 : (anyAt (B0.alloca_16.view.loc (c.tc : Thread nD τ)) B0.alloca_16.view.set : sProp (𝕄 F)) = iprop(∃ f : Buf (Elt F) ((c.tc : Thread nD τ).loc cc0_scoped33), ((c.tc : Thread nD τ).loc cc0_scoped33) ↦{fullShare} f) := anyAt_univ _ _ (View.set_whole _)
theorem any_alloca_17 : (anyAt (B0.alloca_17.view.loc (c.tc : Thread nD τ)) B0.alloca_17.view.set : sProp (𝕄 F)) = iprop(∃ f : Buf (Elt F) ((c.tc : Thread nD τ).loc cc0_scoped34), ((c.tc : Thread nD τ).loc cc0_scoped34) ↦{fullShare} f) := anyAt_univ _ _ (View.set_whole _)
theorem any_alloca_18 : (anyAt (B0.alloca_18.view.loc (c.tc : Thread nD τ)) B0.alloca_18.view.set : sProp (𝕄 F)) = iprop(∃ f : Buf (Elt F) ((c.tc : Thread nD τ).loc cc0_scoped35), ((c.tc : Thread nD τ).loc cc0_scoped35) ↦{fullShare} f) := anyAt_univ _ _ (View.set_whole _)
theorem any_arg8 : (anyAt (B0.arg8.view.loc (c.tc : Thread nD τ)) B0.arg8.view.set : sProp (𝕄 F)) = iprop(∃ f : Buf (Elt F) ((c.tc : Thread nD τ).loc main_v46_0), ((c.tc : Thread nD τ).loc main_v46_0) ↦{fullShare} f) := anyAt_univ _ _ (View.set_whole _)
theorem reads_arg8 (x : S131072x128.Idx → Elt F .f32) : (reads c B0.arg8 x : sProp (𝕄 F)) ⊢ iprop(((c.tc : Thread nD τ).loc main_v46_0) ↦{fullShare} (show Buf (Elt F) ((c.tc : Thread nD τ).loc main_v46_0) from x)) := by
  unfold reads
  iintro ⟨%g, H, %hg⟩
  subst hg
  have e : (B0.arg8.view.loc (c.tc : Thread nD τ) ↦[B0.arg8.view.set]{fullShare} g : sProp (𝕄 F)) = iprop(((c.tc : Thread nD τ).loc main_v46_0) ↦{fullShare} (show Buf (Elt F) ((c.tc : Thread nD τ).loc main_v46_0) from B0.arg8.view.read (Elt F) g)) :=
    pt_univ _ _ (View.set_whole _) _
  iapply (Entails.of_eq e)
  iexact H
theorem any_arg9 : (anyAt (B0.arg9.view.loc (c.tc : Thread nD τ)) B0.arg9.view.set : sProp (𝕄 F)) = iprop(∃ f : Buf (Elt F) ((c.tc : Thread nD τ).loc main_v46_1), ((c.tc : Thread nD τ).loc main_v46_1) ↦{fullShare} f) := anyAt_univ _ _ (View.set_whole _)
theorem reads_arg9 (x : S131072x128.Idx → Elt F .f32) : (reads c B0.arg9 x : sProp (𝕄 F)) ⊢ iprop(((c.tc : Thread nD τ).loc main_v46_1) ↦{fullShare} (show Buf (Elt F) ((c.tc : Thread nD τ).loc main_v46_1) from x)) := by
  unfold reads
  iintro ⟨%g, H, %hg⟩
  subst hg
  have e : (B0.arg9.view.loc (c.tc : Thread nD τ) ↦[B0.arg9.view.set]{fullShare} g : sProp (𝕄 F)) = iprop(((c.tc : Thread nD τ).loc main_v46_1) ↦{fullShare} (show Buf (Elt F) ((c.tc : Thread nD τ).loc main_v46_1) from B0.arg9.view.read (Elt F) g)) :=
    pt_univ _ _ (View.set_whole _) _
  iapply (Entails.of_eq e)
  iexact H
theorem arr_arg1 : (arr c B0.arg1 (C0 V c).f1 : sProp (𝕄 F)) = iprop(((c.tc : Thread nD τ).loc main_v1) ↦{fullShare} V c main_v1) := pt_univ _ _ (View.set_whole _) _
theorem arr_arg2 : (arr c B0.arg2 (C0 V c).f2 : sProp (𝕄 F)) = iprop(((c.tc : Thread nD τ).loc main_v3) ↦{fullShare} V c main_v3) := pt_univ _ _ (View.set_whole _) _
theorem arr_arg3 : (arr c B0.arg3 (C0 V c).f3 : sProp (𝕄 F)) = iprop(((c.tc : Thread nD τ).loc main_v12) ↦{fullShare} V c main_v12) := pt_univ _ _ (View.set_whole _) _
theorem arr_arg4 : (arr c B0.arg4 (C0 V c).f4 : sProp (𝕄 F)) = iprop(((c.tc : Thread nD τ).loc main_v16) ↦{fullShare} V c main_v16) := pt_univ _ _ (View.set_whole _) _
theorem arr_arg5 : (arr c B0.arg5 (C0 V c).f5 : sProp (𝕄 F)) = iprop(((c.tc : Thread nD τ).loc main_v25) ↦{fullShare} V c main_v25) := pt_univ _ _ (View.set_whole _) _
theorem arr_arg6 : (arr c B0.arg6 (C0 V c).f6 : sProp (𝕄 F)) = iprop(((c.tc : Thread nD τ).loc main_v29) ↦{fullShare} V c main_v29) := pt_univ _ _ (View.set_whole _) _
theorem arr_arg7 : (arr c B0.arg7 (C0 V c).f7 : sProp (𝕄 F)) = iprop(((c.tc : Thread nD τ).loc main_v45) ↦{fullShare} V c main_v45) := pt_univ _ _ (View.set_whole _) _

theorem own_in : (iprop(((∃ f : Buf (Elt F) ((c.tc : Thread nD τ).loc cc0_scoped0), ((c.tc : Thread nD τ).loc cc0_scoped0) ↦{fullShare} f) ∗ (∃ f : Buf (Elt F) ((c.tc : Thread nD τ).loc cc0_scoped2), ((c.tc : Thread nD τ).loc cc0_scoped2) ↦{fullShare} f) ∗ (∃ f : Buf (Elt F) ((c.tc : Thread nD τ).loc cc0_scoped4), ((c.tc : Thread nD τ).loc cc0_scoped4) ↦{fullShare} f) ∗ (∃ f : Buf (Elt F) ((c.tc : Thread nD τ).loc cc0_scoped6), ((c.tc : Thread nD τ).loc cc0_scoped6) ↦{fullShare} f) ∗ (∃ f : Buf (Elt F) ((c.tc : Thread nD τ).loc cc0_scoped8), ((c.tc : Thread nD τ).loc cc0_scoped8) ↦{fullShare} f) ∗ (∃ f : Buf (Elt F) ((c.tc : Thread nD τ).loc cc0_scoped10), ((c.tc : Thread nD τ).loc cc0_scoped10) ↦{fullShare} f) ∗ (∃ f : Buf (Elt F) ((c.tc : Thread nD τ).loc cc0_scoped12), ((c.tc : Thread nD τ).loc cc0_scoped12) ↦{fullShare} f) ∗ (∃ f : Buf (Elt F) ((c.tc : Thread nD τ).loc cc0_scoped14), ((c.tc : Thread nD τ).loc cc0_scoped14) ↦{fullShare} f) ∗ (∃ f : Buf (Elt F) ((c.tc : Thread nD τ).loc cc0_scoped16), ((c.tc : Thread nD τ).loc cc0_scoped16) ↦{fullShare} f) ∗ (∃ f : Buf (Elt F) ((c.tc : Thread nD τ).loc cc0_scoped18), ((c.tc : Thread nD τ).loc cc0_scoped18) ↦{fullShare} f) ∗ (∃ f : Buf (Elt F) ((c.tc : Thread nD τ).loc cc0_scoped20), ((c.tc : Thread nD τ).loc cc0_scoped20) ↦{fullShare} f) ∗ (∃ f : Buf (Elt F) ((c.tc : Thread nD τ).loc cc0_scoped22), ((c.tc : Thread nD τ).loc cc0_scoped22) ↦{fullShare} f) ∗ (∃ f : Buf (Elt F) ((c.tc : Thread nD τ).loc cc0_scoped24), ((c.tc : Thread nD τ).loc cc0_scoped24) ↦{fullShare} f) ∗ (∃ f : Buf (Elt F) ((c.tc : Thread nD τ).loc cc0_scoped26), ((c.tc : Thread nD τ).loc cc0_scoped26) ↦{fullShare} f) ∗ (∃ f : Buf (Elt F) ((c.tc : Thread nD τ).loc cc0_scoped28), ((c.tc : Thread nD τ).loc cc0_scoped28) ↦{fullShare} f) ∗ (∃ f : Buf (Elt F) ((c.tc : Thread nD τ).loc cc0_scoped30), ((c.tc : Thread nD τ).loc cc0_scoped30) ↦{fullShare} f) ∗ (∃ f : Buf (Elt F) ((c.tc : Thread nD τ).loc cc0_scoped36), ((c.tc : Thread nD τ).loc cc0_scoped36) ↦{fullShare} f) ∗ (∃ f : Buf (Elt F) ((c.tc : Thread nD τ).loc cc0_scoped38), ((c.tc : Thread nD τ).loc cc0_scoped38) ↦{fullShare} f) ∗ (∃ f : Buf (Elt F) ((c.tc : Thread nD τ).loc cc0_scoped40), ((c.tc : Thread nD τ).loc cc0_scoped40) ↦{fullShare} f) ∗ (∃ f : Buf (Elt F) ((c.tc : Thread nD τ).loc cc0_scoped32), ((c.tc : Thread nD τ).loc cc0_scoped32) ↦{fullShare} f) ∗ (∃ f : Buf (Elt F) ((c.tc : Thread nD τ).loc cc0_scoped33), ((c.tc : Thread nD τ).loc cc0_scoped33) ↦{fullShare} f) ∗ (∃ f : Buf (Elt F) ((c.tc : Thread nD τ).loc cc0_scoped34), ((c.tc : Thread nD τ).loc cc0_scoped34) ↦{fullShare} f) ∗ (∃ f : Buf (Elt F) ((c.tc : Thread nD τ).loc cc0_scoped35), ((c.tc : Thread nD τ).loc cc0_scoped35) ↦{fullShare} f)) ∗ Pipeline.ownSems0 scanSem c) : sProp (𝕄 F)) ⊢ own B0 c := by
  rw [sems_eq]
  unfold own ring single
  iintro ⟨⟨b0, b1, b2, b3, b4, b5, b6, b7, b8, b9, b10, b11, b12, b13, b14, b15, b16, b17, b18, b19, b20, b21, b22⟩, s0, s1, s2, s3, s4, s5, s6, s7, s8, s9, s10, s11, s12, s13, s14, s15, s16, s17, s18, s19, s20, s21, s22, s23, s24, s25, s26, s27, s28, s29, s30, s31, s32, s33, s34, s35, s36, s37, s38, s39, s40, s41⟩
  isplitl [b0 s0 s1]
  · isplitl [b0]
    · iapply (Entails.of_eq (any_alloca c).symm); iexact b0
    isplitl [s0]; · iexact s0
    iexact s1
  isplitl [b1 s2 s3]
  · isplitl [b1]
    · iapply (Entails.of_eq (any_alloca_0 c).symm); iexact b1
    isplitl [s2]; · iexact s2
    iexact s3
  isplitl [b2 s4 s5]
  · isplitl [b2]
    · iapply (Entails.of_eq (any_alloca_1 c).symm); iexact b2
    isplitl [s4]; · iexact s4
    iexact s5
  isplitl [b3 s6 s7]
  · isplitl [b3]
    · iapply (Entails.of_eq (any_alloca_2 c).symm); iexact b3
    isplitl [s6]; · iexact s6
    iexact s7
  isplitl [b4 s8 s9]
  · isplitl [b4]
    · iapply (Entails.of_eq (any_alloca_3 c).symm); iexact b4
    isplitl [s8]; · iexact s8
    iexact s9
  isplitl [b5 s10 s11]
  · isplitl [b5]
    · iapply (Entails.of_eq (any_alloca_4 c).symm); iexact b5
    isplitl [s10]; · iexact s10
    iexact s11
  isplitl [b6 s12 s13]
  · isplitl [b6]
    · iapply (Entails.of_eq (any_alloca_5 c).symm); iexact b6
    isplitl [s12]; · iexact s12
    iexact s13
  isplitl [b7 s14 s15]
  · isplitl [b7]
    · iapply (Entails.of_eq (any_alloca_6 c).symm); iexact b7
    isplitl [s14]; · iexact s14
    iexact s15
  isplitl [b8 s16 s17]
  · isplitl [b8]
    · iapply (Entails.of_eq (any_alloca_7 c).symm); iexact b8
    isplitl [s16]; · iexact s16
    iexact s17
  isplitl [b9 s18 s19]
  · isplitl [b9]
    · iapply (Entails.of_eq (any_alloca_8 c).symm); iexact b9
    isplitl [s18]; · iexact s18
    iexact s19
  isplitl [b10 s20 s21]
  · isplitl [b10]
    · iapply (Entails.of_eq (any_alloca_9 c).symm); iexact b10
    isplitl [s20]; · iexact s20
    iexact s21
  isplitl [b11 s22 s23]
  · isplitl [b11]
    · iapply (Entails.of_eq (any_alloca_10 c).symm); iexact b11
    isplitl [s22]; · iexact s22
    iexact s23
  isplitl [b12 s24 s25]
  · isplitl [b12]
    · iapply (Entails.of_eq (any_alloca_11 c).symm); iexact b12
    isplitl [s24]; · iexact s24
    iexact s25
  isplitl [b13 s26 s27]
  · isplitl [b13]
    · iapply (Entails.of_eq (any_alloca_12 c).symm); iexact b13
    isplitl [s26]; · iexact s26
    iexact s27
  isplitl [b14 s28 s29]
  · isplitl [b14]
    · iapply (Entails.of_eq (any_alloca_13 c).symm); iexact b14
    isplitl [s28]; · iexact s28
    iexact s29
  isplitl [b15 s30 s31]
  · isplitl [b15]
    · iapply (Entails.of_eq (any_alloca_14 c).symm); iexact b15
    isplitl [s30]; · iexact s30
    iexact s31
  isplitl [b16 s32 s33]
  · isplitl [b16]
    · iapply (Entails.of_eq (any_alloca_19 c).symm); iexact b16
    isplitl [s32]; · iexact s32
    iexact s33
  isplitl [b17 s34 s35]
  · isplitl [b17]
    · iapply (Entails.of_eq (any_alloca_20 c).symm); iexact b17
    isplitl [s34]; · iexact s34
    iexact s35
  isplitl [b18 s36 s37]
  · isplitl [b18]
    · iapply (Entails.of_eq (any_alloca_21 c).symm); iexact b18
    isplitl [s36]; · iexact s36
    iexact s37
  isplitl [b19 s38]
  · isplitl [b19]
    · iapply (Entails.of_eq (any_alloca_15 c).symm); iexact b19
    iexact s38
  isplitl [b20 s39]
  · isplitl [b20]
    · iapply (Entails.of_eq (any_alloca_16 c).symm); iexact b20
    iexact s39
  isplitl [b21 s40]
  · isplitl [b21]
    · iapply (Entails.of_eq (any_alloca_17 c).symm); iexact b21
    iexact s40
  isplitl [b22]
  · iapply (Entails.of_eq (any_alloca_18 c).symm); iexact b22
  iexact s41

theorem own_out : (own B0 c : sProp (𝕄 F)) ⊢ iprop(((∃ f : Buf (Elt F) ((c.tc : Thread nD τ).loc cc0_scoped0), ((c.tc : Thread nD τ).loc cc0_scoped0) ↦{fullShare} f) ∗ (∃ f : Buf (Elt F) ((c.tc : Thread nD τ).loc cc0_scoped2), ((c.tc : Thread nD τ).loc cc0_scoped2) ↦{fullShare} f) ∗ (∃ f : Buf (Elt F) ((c.tc : Thread nD τ).loc cc0_scoped4), ((c.tc : Thread nD τ).loc cc0_scoped4) ↦{fullShare} f) ∗ (∃ f : Buf (Elt F) ((c.tc : Thread nD τ).loc cc0_scoped6), ((c.tc : Thread nD τ).loc cc0_scoped6) ↦{fullShare} f) ∗ (∃ f : Buf (Elt F) ((c.tc : Thread nD τ).loc cc0_scoped8), ((c.tc : Thread nD τ).loc cc0_scoped8) ↦{fullShare} f) ∗ (∃ f : Buf (Elt F) ((c.tc : Thread nD τ).loc cc0_scoped10), ((c.tc : Thread nD τ).loc cc0_scoped10) ↦{fullShare} f) ∗ (∃ f : Buf (Elt F) ((c.tc : Thread nD τ).loc cc0_scoped12), ((c.tc : Thread nD τ).loc cc0_scoped12) ↦{fullShare} f) ∗ (∃ f : Buf (Elt F) ((c.tc : Thread nD τ).loc cc0_scoped14), ((c.tc : Thread nD τ).loc cc0_scoped14) ↦{fullShare} f) ∗ (∃ f : Buf (Elt F) ((c.tc : Thread nD τ).loc cc0_scoped16), ((c.tc : Thread nD τ).loc cc0_scoped16) ↦{fullShare} f) ∗ (∃ f : Buf (Elt F) ((c.tc : Thread nD τ).loc cc0_scoped18), ((c.tc : Thread nD τ).loc cc0_scoped18) ↦{fullShare} f) ∗ (∃ f : Buf (Elt F) ((c.tc : Thread nD τ).loc cc0_scoped20), ((c.tc : Thread nD τ).loc cc0_scoped20) ↦{fullShare} f) ∗ (∃ f : Buf (Elt F) ((c.tc : Thread nD τ).loc cc0_scoped22), ((c.tc : Thread nD τ).loc cc0_scoped22) ↦{fullShare} f) ∗ (∃ f : Buf (Elt F) ((c.tc : Thread nD τ).loc cc0_scoped24), ((c.tc : Thread nD τ).loc cc0_scoped24) ↦{fullShare} f) ∗ (∃ f : Buf (Elt F) ((c.tc : Thread nD τ).loc cc0_scoped26), ((c.tc : Thread nD τ).loc cc0_scoped26) ↦{fullShare} f) ∗ (∃ f : Buf (Elt F) ((c.tc : Thread nD τ).loc cc0_scoped28), ((c.tc : Thread nD τ).loc cc0_scoped28) ↦{fullShare} f) ∗ (∃ f : Buf (Elt F) ((c.tc : Thread nD τ).loc cc0_scoped30), ((c.tc : Thread nD τ).loc cc0_scoped30) ↦{fullShare} f) ∗ (∃ f : Buf (Elt F) ((c.tc : Thread nD τ).loc cc0_scoped36), ((c.tc : Thread nD τ).loc cc0_scoped36) ↦{fullShare} f) ∗ (∃ f : Buf (Elt F) ((c.tc : Thread nD τ).loc cc0_scoped38), ((c.tc : Thread nD τ).loc cc0_scoped38) ↦{fullShare} f) ∗ (∃ f : Buf (Elt F) ((c.tc : Thread nD τ).loc cc0_scoped40), ((c.tc : Thread nD τ).loc cc0_scoped40) ↦{fullShare} f) ∗ (∃ f : Buf (Elt F) ((c.tc : Thread nD τ).loc cc0_scoped32), ((c.tc : Thread nD τ).loc cc0_scoped32) ↦{fullShare} f) ∗ (∃ f : Buf (Elt F) ((c.tc : Thread nD τ).loc cc0_scoped33), ((c.tc : Thread nD τ).loc cc0_scoped33) ↦{fullShare} f) ∗ (∃ f : Buf (Elt F) ((c.tc : Thread nD τ).loc cc0_scoped34), ((c.tc : Thread nD τ).loc cc0_scoped34) ↦{fullShare} f) ∗ (∃ f : Buf (Elt F) ((c.tc : Thread nD τ).loc cc0_scoped35), ((c.tc : Thread nD τ).loc cc0_scoped35) ↦{fullShare} f)) ∗ Pipeline.ownSems0 scanSem c) := by
  rw [sems_eq]
  unfold own ring single
  iintro ⟨⟨b0, s0, s1⟩, ⟨b1, s2, s3⟩, ⟨b2, s4, s5⟩, ⟨b3, s6, s7⟩, ⟨b4, s8, s9⟩, ⟨b5, s10, s11⟩, ⟨b6, s12, s13⟩, ⟨b7, s14, s15⟩, ⟨b8, s16, s17⟩, ⟨b9, s18, s19⟩, ⟨b10, s20, s21⟩, ⟨b11, s22, s23⟩, ⟨b12, s24, s25⟩, ⟨b13, s26, s27⟩, ⟨b14, s28, s29⟩, ⟨b15, s30, s31⟩, ⟨b16, s32, s33⟩, ⟨b17, s34, s35⟩, ⟨b18, s36, s37⟩, ⟨b19, s38⟩, ⟨b20, s39⟩, ⟨b21, s40⟩, ⟨b22, s41⟩⟩
  isplitl [b0 b1 b2 b3 b4 b5 b6 b7 b8 b9 b10 b11 b12 b13 b14 b15 b16 b17 b18 b19 b20 b21 b22]
  · isplitl [b0]
    · iapply (Entails.of_eq (any_alloca c)); iexact b0
    isplitl [b1]
    · iapply (Entails.of_eq (any_alloca_0 c)); iexact b1
    isplitl [b2]
    · iapply (Entails.of_eq (any_alloca_1 c)); iexact b2
    isplitl [b3]
    · iapply (Entails.of_eq (any_alloca_2 c)); iexact b3
    isplitl [b4]
    · iapply (Entails.of_eq (any_alloca_3 c)); iexact b4
    isplitl [b5]
    · iapply (Entails.of_eq (any_alloca_4 c)); iexact b5
    isplitl [b6]
    · iapply (Entails.of_eq (any_alloca_5 c)); iexact b6
    isplitl [b7]
    · iapply (Entails.of_eq (any_alloca_6 c)); iexact b7
    isplitl [b8]
    · iapply (Entails.of_eq (any_alloca_7 c)); iexact b8
    isplitl [b9]
    · iapply (Entails.of_eq (any_alloca_8 c)); iexact b9
    isplitl [b10]
    · iapply (Entails.of_eq (any_alloca_9 c)); iexact b10
    isplitl [b11]
    · iapply (Entails.of_eq (any_alloca_10 c)); iexact b11
    isplitl [b12]
    · iapply (Entails.of_eq (any_alloca_11 c)); iexact b12
    isplitl [b13]
    · iapply (Entails.of_eq (any_alloca_12 c)); iexact b13
    isplitl [b14]
    · iapply (Entails.of_eq (any_alloca_13 c)); iexact b14
    isplitl [b15]
    · iapply (Entails.of_eq (any_alloca_14 c)); iexact b15
    isplitl [b16]
    · iapply (Entails.of_eq (any_alloca_19 c)); iexact b16
    isplitl [b17]
    · iapply (Entails.of_eq (any_alloca_20 c)); iexact b17
    isplitl [b18]
    · iapply (Entails.of_eq (any_alloca_21 c)); iexact b18
    isplitl [b19]
    · iapply (Entails.of_eq (any_alloca_15 c)); iexact b19
    isplitl [b20]
    · iapply (Entails.of_eq (any_alloca_16 c)); iexact b20
    isplitl [b21]
    · iapply (Entails.of_eq (any_alloca_17 c)); iexact b21
    iapply (Entails.of_eq (any_alloca_18 c)); iexact b22
  isplitl [s0]; · iexact s0
  isplitl [s1]; · iexact s1
  isplitl [s2]; · iexact s2
  isplitl [s3]; · iexact s3
  isplitl [s4]; · iexact s4
  isplitl [s5]; · iexact s5
  isplitl [s6]; · iexact s6
  isplitl [s7]; · iexact s7
  isplitl [s8]; · iexact s8
  isplitl [s9]; · iexact s9
  isplitl [s10]; · iexact s10
  isplitl [s11]; · iexact s11
  isplitl [s12]; · iexact s12
  isplitl [s13]; · iexact s13
  isplitl [s14]; · iexact s14
  isplitl [s15]; · iexact s15
  isplitl [s16]; · iexact s16
  isplitl [s17]; · iexact s17
  isplitl [s18]; · iexact s18
  isplitl [s19]; · iexact s19
  isplitl [s20]; · iexact s20
  isplitl [s21]; · iexact s21
  isplitl [s22]; · iexact s22
  isplitl [s23]; · iexact s23
  isplitl [s24]; · iexact s24
  isplitl [s25]; · iexact s25
  isplitl [s26]; · iexact s26
  isplitl [s27]; · iexact s27
  isplitl [s28]; · iexact s28
  isplitl [s29]; · iexact s29
  isplitl [s30]; · iexact s30
  isplitl [s31]; · iexact s31
  isplitl [s32]; · iexact s32
  isplitl [s33]; · iexact s33
  isplitl [s34]; · iexact s34
  isplitl [s35]; · iexact s35
  isplitl [s36]; · iexact s36
  isplitl [s37]; · iexact s37
  isplitl [s38]; · iexact s38
  isplitl [s39]; · iexact s39
  isplitl [s40]; · iexact s40
  iexact s41

theorem inputs_eq : (inputs (C0 V c) : sProp (𝕄 F)) = iprop((((c.tc : Thread nD τ).loc main_v1) ↦{fullShare} V c main_v1) ∗ (((c.tc : Thread nD τ).loc main_v3) ↦{fullShare} V c main_v3) ∗ (((c.tc : Thread nD τ).loc main_v12) ↦{fullShare} V c main_v12) ∗ (((c.tc : Thread nD τ).loc main_v16) ↦{fullShare} V c main_v16) ∗ (((c.tc : Thread nD τ).loc main_v25) ↦{fullShare} V c main_v25) ∗ (((c.tc : Thread nD τ).loc main_v29) ↦{fullShare} V c main_v29) ∗ (((c.tc : Thread nD τ).loc main_v45) ↦{fullShare} V c main_v45)) := by
  unfold inputs
  rw [arr_arg1 V c, arr_arg2 V c, arr_arg3 V c, arr_arg4 V c, arr_arg5 V c, arr_arg6 V c, arr_arg7 V c]

end Cert.Proof

end
-- ==== Proof.ScanReg.lean ====
/-
  The scan as one region of the program.
-/
module

public import proofs.«01_k».proof.Proof.ScanOwn

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe
open Idealize.ShloMosaic.Pipeline (Dat BodyObligation cellOf)

variable [FloatOps F]
variable (V : (c : Dev nD) → (b : Ref sig .tc) → Buf (Elt F) ((c.tc : Thread nD τ).loc b))

/-- The scan's two results. -/
def scanOut1 (c : Dev nD) : Buf (Elt F) ((c.tc : Thread nD τ).loc main_v46_0) := rows (z1 (C0 (V := V) c))
def scanOut2 (c : Dev nD) : Buf (Elt F) ((c.tc : Thread nD τ).loc main_v46_1) := rows (z2 (C0 (V := V) c))

/-- What the scan starts from. -/
def scanP0 (c : Dev nD) : sProp (𝕄 F) :=
  iprop((inputs (C0 (V := V) c) ∗ anyAt (B0.arg8.view.loc (c.tc : Thread nD τ)) B0.arg8.view.set ∗ anyAt (B0.arg9.view.loc (c.tc : Thread nD τ)) B0.arg9.view.set ∗ own B0 c)
    ∗ Transfers.MayWaits (c.tc : Thread nD τ) none ((K (F := F)).Otc c 0)
    ∗ Pipeline.scopedRestBut (Ix := HIx 1) (Name := ℕ) (U := UU) (Lvl := ℕ) (Val := Elt F) spec0 c scanBufs)

/-- What it leaves. -/
def scanP1 (c : Dev nD) : sProp (𝕄 F) :=
  iprop((inputs (C0 (V := V) c) ∗ reads c B0.arg8 (rows (z1 (C0 (V := V) c))) ∗ reads c B0.arg9 (rows (z2 (C0 (V := V) c))) ∗ own B0 c)
    ∗ Pipeline.scopedRestBut (Ix := HIx 1) (Name := ℕ) (U := UU) (Lvl := ℕ) (Val := Elt F) spec0 c scanBufs)

/-- The region's proof data. -/
def scanDat (c : Dev nD) : Dat τ (Elt F) (HIx 1) ℕ UU ℕ cfg0 c where
  A w := w.elim0
  after w _ := w.elim0
  Φ t := match t.val with
    | 0 => scanP0 V c
    | _ + 1 => scanP1 V c
  q _ := fullShare
  owed _ := (K (F := F)).Otc c 0
  recorded _ := recd (F := F) c 0

theorem scan_obligation (c : Dev nD) : BodyObligation (scanDat V c) (defs₀ (F := F)) 𝒱₀ none Set.univ := fun t => by
  obtain rfl := fin_N0 t
  rw [show (scanDat V c).Φ t0_0.succ = scanP1 V c from rfl, show (scanDat V c).Φ t0_0.castSucc = scanP0 V c from rfl,
    show (scanDat V c).owesAt none t0_0.succ = Owe F c ((K (F := F)).Otc c 0) (recd (F := F) c 0 ∪ cfg0.waitPairs none) from rfl,
    show (scanDat V c).owesAt none t0_0.castSucc = Owe F c ((K (F := F)).Otc c 0) (recd (F := F) c 0 ∪ cfg0.waitPairs none) from rfl,
    show (Finset.univ : Finset (Fin cfg0.W)) = ∅ from rfl, BI.bigSep_empty, BI.bigSep_empty]
  unfold scanP0 scanP1
  iintro ⟨⟨HP, HM, Hr⟩, HO, -⟩
  ihave HP := (scan_enter (C0 (V := V) c)) $$ HP
  have hk := scan_k (F := F) (d := c) (O := (K (F := F)).Otc c 0) none (𝔹 := recd (F := F) c 0 ∪ cfg0.waitPairs none) (fun sm => Or.inl (recd_none c 0 sm)) (C0 (V := V) c) (grid0.coords t0_0)
    (Φ := fun _ => iprop(((inputs (C0 (V := V) c) ∗ reads c B0.arg8 (rows (z1 (C0 (V := V) c))) ∗ reads c B0.arg9 (rows (z2 (C0 (V := V) c))) ∗ own B0 c)
      ∗ Pipeline.scopedRestBut (Ix := HIx 1) (Name := ℕ) (U := UU) (Lvl := ℕ) (Val := Elt F) spec0 c scanBufs) ∗ Owe F c ((K (F := F)).Otc c 0) (recd (F := F) c 0 ∪ cfg0.waitPairs none) ∗ BI.emp))
  iapply hk
  isplitl [HP]; · iexact HP
  isplitl [HO]; · iexact HO
  isplitl [HM]; · iexact HM
  iintro ⟨HP, HO⟩
  ihave HP := (scan_leave (C0 (V := V) c)) $$ HP
  isplitl [HP Hr]
  · isplitl [HP]; · iexact HP
    iexact Hr
  isplitl [HO]; · iexact HO
  iempintro

variable (adm : (p : Fin 2) → (pcfgs (F := F) p).Adm)

def scanDats : (p : Fin 2) → (c : Dev nD) → Dat τ (Elt F) (HIx 1) ℕ UU ℕ (Pipeline.pin (pcfgs (F := F)) adm p) c
  | ⟨0, _⟩ => fun c => scanDat V c
  | ⟨1, _⟩ => fun c => junkDat c

variable (Vp : (c : Dev nD) → (b : Ref sig .tc) → Buf (Elt F) ((c.tc : Thread nD τ).loc b))

set_option maxHeartbeats 4000000 in
set_option backward.isDefEq.respectTransparency.types false in
/-- The scan's region, over every unscoped buffer of the TensorCore. -/
def scanReg (h1 : ∀ c, Vp c main_v46_0 = scanOut1 V c) (h2 : ∀ c, Vp c main_v46_1 = scanOut2 V c)
    (hne : ∀ c (b : Ref sig .tc), b ≠ main_v46_0 → b ≠ main_v46_1 → Vp c b = V c b) :
    Pipeline.RegionSeg (pcfgs (F := F)) adm (scanDats V adm) none defs₀ 𝒱₀ (K (F := F)).L (K (F := F)).lev 0 where
  win := launch0.win.to₀
  block_pos := launch0.block_pos
  stage_whole := launch0.stage_whole
  K := Fin 42
  osem := scanSem
  ho := ⟨scanSem_facts.isScoped, scanSem_facts.inj, fun _ w => w.elim0⟩
  hbody c := (scan_obligation V c).loose
  hwaits c := Pipeline.cellsWaits_intro _ _ _ _ _ fun _ _ _ => (K (F := F)).mayWait_none _ (Otc_none c 0)
  pre c := iprop(unscopedBufs c (V c) ∗ owing (F := F) c 0)
  post c := iprop(unscopedBufs c (Vp c) ∗ owing (F := F) c 0)
  X c := iprop((inputs (C0 (V := V) c) ∗ anyAt (B0.arg8.view.loc (c.tc : Thread nD τ)) B0.arg8.view.set ∗ anyAt (B0.arg9.view.loc (c.tc : Thread nD τ)) B0.arg9.view.set)
    ∗ Pipeline.ownSems0 scanSem c ∗ Transfers.MayWaits (c.tc : Thread nD τ) none ((K (F := F)).Otc c 0))
  Y c := iprop(inputs (C0 (V := V) c) ∗ reads c B0.arg8 (rows (z1 (C0 (V := V) c))) ∗ reads c B0.arg9 (rows (z2 (C0 (V := V) c))))
  Z c := otherArrs c (V c)
  hentry c := by
    rw [arrs_eq c (V c), inputs_eq V c, any_arg8, any_arg9]
    iintro ⟨⟨⟨⟨A1, A2, A3, A4, A5, A6, A7, A8, A9⟩, Hrest⟩, HO⟩, Hs, Hl⟩
    imodintro
    isplitr; · unfold Dat.arrays; rw [show (Finset.univ : Finset (Fin 0)) = ∅ from rfl, BI.bigSep_empty]; iempintro
    isplitr; · unfold Pipeline.prefHeld; rw [show (Finset.univ : Finset (Fin 0)) = ∅ from rfl, BI.bigSep_empty]; iempintro
    isplitl [HO]
    · iapply (owing_within c 0); iexact HO
    isplitr [Hrest]
    · isplitr [Hs Hl]
      · isplitr [A8 A9]
        · isplitl [A1]; · iexact A1
          isplitl [A2]; · iexact A2
          isplitl [A3]; · iexact A3
          isplitl [A4]; · iexact A4
          isplitl [A5]; · iexact A5
          isplitl [A6]; · iexact A6
          iexact A7
        isplitl [A8]
        · iexists _; iexact A8
        · iexists _; iexact A9
      isplitl [Hs]; · iexact Hs
      iapply ((K (F := F)).mayWaits_none (Otc_none c 0))
      iexact Hl
    · iexact Hrest
  hin c := by
    rw [show (scanDats V adm 0 c).Φ 0 = scanP0 V c from rfl]
    unfold scanP0
    iintro ⟨⟨⟨HI, A8, A9⟩, Hs, HM⟩, -, Hr⟩
    ihave Hr := (show (Pipeline.scopedRest (Pipeline.pin (pcfgs (F := F)) adm 0).spec c : sProp (𝕄 F)) ⊢ _ from Entails.of_eq (bufs_eq c)) $$ Hr
    icases Hr with ⟨Hb, Hr⟩
    isplitr [HM Hr]
    · isplitl [HI]; · iexact HI
      isplitl [A8]; · iexact A8
      isplitl [A9]; · iexact A9
      iapply (own_in c)
      isplitl [Hb]; · iexact Hb
      iexact Hs
    isplitl [HM]; · iexact HM
    iexact Hr
  hout c := by
    rw [show (scanDats V adm 0 c).Φ (Fin.last _) = scanP1 V c from rfl]
    unfold scanP1
    iintro ⟨⟨HI, A8, A9, Ho⟩, Hr⟩
    ihave Ho := (own_out c) $$ Ho
    icases Ho with ⟨Hb, Hs⟩
    isplitl [HI A8 A9]
    · isplitl [HI]; · iexact HI
      isplitl [A8]; · iexact A8
      iexact A9
    isplitl [Hs]; · iexact Hs
    iapply (show _ ⊢ (Pipeline.scopedRest (Pipeline.pin (pcfgs (F := F)) adm 0).spec c : sProp (𝕄 F)) from Entails.of_eq (bufs_eq c).symm)
    isplitl [Hb]; · iexact Hb
    iexact Hr
  hexit c := by
    have ho : otherArrs c (V c) = (otherArrs c (Vp c) : sProp (𝕄 F)) := by
      unfold otherArrs
      refine bigSep_congr fun b hb => ?_
      rw [hne c b (fun h => (Finset.mem_sdiff.mp hb).2 (h ▸ by decide)) (fun h => (Finset.mem_sdiff.mp hb).2 (h ▸ by decide))]
    have e (b : Ref sig .tc) (h : b ≠ main_v46_0) (h' : b ≠ main_v46_1) := hne c b h h'
    rw [arrs_eq c (Vp c), inputs_eq V c, ho, h1 c, h2 c, e main_v1 (by decide) (by decide), e main_v3 (by decide) (by decide), e main_v12 (by decide) (by decide), e main_v16 (by decide) (by decide),
      e main_v25 (by decide) (by decide), e main_v29 (by decide) (by decide), e main_v45 (by decide) (by decide)]
    iintro ⟨-, HO, ⟨⟨A1, A2, A3, A4, A5, A6, A7⟩, A8, A9⟩, Hrest⟩
    ihave A8 := (reads_arg8 c _) $$ A8
    ihave A9 := (reads_arg9 c _) $$ A9
    imodintro
    isplitr [HO]
    · isplitr [Hrest]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        iexact A9
      · iexact Hrest
    iapply (within_owing c 0 _ ?_); rotate_left; · iexact HO
    rintro _ ⟨w, s, rfl⟩
    exact w.elim0

end Cert.Proof

end
-- ==== Proof.Gather.lean ====
/-
  The gather of one vector subcore: its row numbers fetched, four chunks of 128 rows of each table gathered through two
  buffers in turn, each chunk copied out to its rows of the result.
-/
module

public import proofs.«01_k».proof.Proof.Base
public import Idealize.ShloMosaic.Lib.SparseCore.FromWhole
public import Idealize.ShloMosaic.Lib.ValueLayout

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

section Tile

variable {d : Dev nD} {c : Fin τ.nSC} {s : Fin τ.nSub}

/-- The waits of a vector subcore: those it began with, and waits at level zero. -/
def OweV (F : FTy → Type) (d : Dev nD) (c : Fin τ.nSC) (s : Fin τ.nSub) (O : CellTallies nD τ sig (HIx 1)) (W : Waits sig (HIx 1)) : sProp (𝕄 F) :=
  iprop(∃ W', ⌜∀ p ∈ W', p ∈ W ∨ p.2 = none⌝ ∗ owes (V d c s) O W')

theorem OweV_insert {O : CellTallies nD τ sig (HIx 1)} {W W' : Waits sig (HIx 1)} {sm : SemLoc sig}
    (hW : ∀ p ∈ W', p ∈ W ∨ p.2 = none) :
    (owes (V d c s) O (insert (sm, none) W') : sProp (𝕄 F)) ⊢ OweV F d c s O W := by
  unfold OweV
  iintro H
  iexists (insert (sm, none) W')
  isplitr
  · ipureintro
    intro p hp
    rcases Finset.mem_insert.mp hp with h | h
    · exact .inr (h ▸ rfl)
    · exact hW p h
  · iexact H

/-- A buffer of the tile's own, at some contents. -/
def scr (F : FTy → Type) (d : Dev nD) (c : Fin τ.nSC) (s : Fin τ.nSub) {S : Shape} {e : EltTy} (b : Memref sig .scVector .vmem S e) : sProp (𝕄 F) :=
  iprop(∃ f, b.view.loc (V d c s) ↦{fullShare} f)

/-- A buffer of the tile's own that reads `x`. -/
def scrAt (F : FTy → Type) (d : Dev nD) (c : Fin τ.nSC) (s : Fin τ.nSub) {S : Shape} {e : EltTy} (b : Memref sig .scVector .vmem S e) (x : S.Idx → Elt F e) : sProp (𝕄 F) :=
  iprop(∃ f, (b.view.loc (V d c s) ↦{fullShare} f) ∗ ⌜b.view.read (Elt F) f = x⌝)

/-- A counter of the tile's own, at zero. -/
def sem0 (F : FTy → Type) (d : Dev nD) (c : Fin τ.nSC) (s : Fin τ.nSub) (g : DmaSem sig) : sProp (𝕄 F) :=
  semVal ((V d c s : Thread nD τ), .dma g) 0

theorem scrAt_scr {S : Shape} {e : EltTy} (b : Memref sig .scVector .vmem S e) (x : S.Idx → Elt F e) : scrAt F d c s b x ⊢ scr F d c s b := by
  unfold scrAt scr
  iintro ⟨%f, H, -⟩
  iexists f; iexact H

variable {α : Type} {Q : α → sProp (𝕄 F)} [FloatOps F]

theorem wp_seqV {α β : Type} {p : Prog (TpuEff nD τ sig (Elt F) Λ₀ (.scVector c s)) α} {J : α → Prog (TpuEff nD τ sig (Elt F) Λ₀ (.scVector c s)) β} {Q : β → sProp (𝕄 F)} :
    wp frame (wpE (defs₀ (F := F)) 𝒱₀ (V d c s) none) Set.univ p (fun a => wp frame (wpE (defs₀ (F := F)) 𝒱₀ (V d c s) none) Set.univ (J a) Q)
      ⊢ wp frame (wpE (defs₀ (F := F)) 𝒱₀ (V d c s) none) Set.univ (p >>= J) Q := by
  rw [wp_bind]

/-- The fetch of the tile's row numbers and its wait. -/
theorem wp_fetch {S : Shape} (hS : 0 < S.numel) {O : CellTallies nD τ sig (HIx 1)} {W : Waits sig (HIx 1)} {q : PosShare TreeShare}
    {src : Memref sig .scVector .hbm S .i32} {dst : Memref sig .scVector .vmem S .i32} {sem : DmaSem sig}
    {fs : Buf (Elt F) (src.view.loc (V d c s))} {h1 h2 h3}
    {srcw : Memref sig .scVector .hbm S .i32} {h4 h5} {J : PUnit → Prog (TpuEff nD τ sig (Elt F) Λ₀ (.scVector c s)) α} :
    iprop((src.view.loc (V d c s) ↦[src.view.set]{q} fs) ∗ scr F d c s dst ∗ sem0 F d c s sem ∗ OweV F d c s O W ∗ Transfers.MayWaits (V d c s) none O)
      ⊢ iprop((iprop((src.view.loc (V d c s) ↦[src.view.set]{q} fs) ∗ scrAt F d c s dst (src.view.read (Elt F) fs) ∗ sem0 F d c s sem ∗ OweV F d c s O W)
            -∗ wp frame (wpE (defs₀ (F := F)) 𝒱₀ (V d c s) none) Set.univ (J ⟨⟩) Q)
        -∗ wp frame (wpE (defs₀ (F := F)) 𝒱₀ (V d c s) none) Set.univ
          (Prog.lift (.enqueueDma src (.here dst) (.dma sem) h1 h2 h3) >>= fun _ => Prog.lift (.waitDma2 sem srcw dst h4 h5) >>= J) Q) := by
  unfold scr scrAt sem0 OweV
  iintro ⟨Hs, ⟨%f, Hd⟩, Hv, ⟨%W', %hW, HO⟩, #HM⟩ HJ
  iapply (Transfers.wp_dmaLocal EC 𝒱₀ (V d c s) none (k := fun _ => Prog.lift (.waitDma2 sem srcw dst h4 h5) >>= J) none (dst.view.dmaCredit) rfl
      (View.dmaCredit_pos _ hS) (Finset.subset_univ _)) $$ [Hs Hd Hv]
  · isplitl [Hs]; · iexact Hs
    isplitl [Hd]; · iexact Hd
    iexact Hv
  iintro HF
  iapply (Transfers.wp_waitLocalO EC 𝒱₀ (V d c s) none (k := J) none rfl) $$ [HF HO]
  · isplitl [HF]; · iexact HF
    isplitl [HO]; · iexact HO
    iapply (Transfers.MayWaits.elim (.dma sem)) $$ HM
  iintro ⟨⟨Hd, Hs⟩, Hv, HO⟩
  iapply HJ
  isplitl [Hs]; · iexact Hs
  isplitl [Hd]
  · iexists _
    isplitl [Hd]; · iexact Hd
    ipureintro
    exact View.read_write_univ _ _
  isplitl [Hv]; · iexact Hv
  ihave H := (OweV_insert (sm := .dma sem) hW) $$ HO
  unfold OweV
  iexact H

/-- The copy of a buffer of gathered rows out to its rows of the result, and its wait. -/
theorem wp_out {S : Shape} (hS : 0 < S.numel) {O : CellTallies nD τ sig (HIx 1)} {W : Waits sig (HIx 1)}
    {src : Memref sig .scVector .vmem S .f32} {dst : Memref sig .scVector .hbm S .f32} {sem : DmaSem sig} {x : S.Idx → Elt F .f32} {h1 h2 h3}
    {srcw : Memref sig .scVector .vmem S .f32} {h4 h5} {J : PUnit → Prog (TpuEff nD τ sig (Elt F) Λ₀ (.scVector c s)) α} :
    iprop(scrAt F d c s src x ∗ (∃ f, dst.view.loc (V d c s) ↦[dst.view.set]{fullShare} f) ∗ sem0 F d c s sem ∗ OweV F d c s O W ∗ Transfers.MayWaits (V d c s) none O)
      ⊢ iprop((iprop(scr F d c s src ∗ (∃ f, (dst.view.loc (V d c s) ↦[dst.view.set]{fullShare} f) ∗ ⌜dst.view.read (Elt F) f = x⌝) ∗ sem0 F d c s sem ∗ OweV F d c s O W)
            -∗ wp frame (wpE (defs₀ (F := F)) 𝒱₀ (V d c s) none) Set.univ (J ⟨⟩) Q)
        -∗ wp frame (wpE (defs₀ (F := F)) 𝒱₀ (V d c s) none) Set.univ
          (Prog.lift (.enqueueDma src (.here dst) (.dma sem) h1 h2 h3) >>= fun _ => Prog.lift (.waitDma2 sem srcw dst h4 h5) >>= J) Q) := by
  unfold scr scrAt sem0 OweV
  iintro ⟨⟨%fs, Hs, %hx⟩, ⟨%f, Hd⟩, Hv, ⟨%W', %hW, HO⟩, #HM⟩ HJ
  iapply (Transfers.wp_dmaFromWhole EC 𝒱₀ (V d c s) none (k := fun _ => Prog.lift (.waitDma2 sem srcw dst h4 h5) >>= J) none (dst.view.dmaCredit) rfl
      (View.dmaCredit_pos _ hS) (Finset.Subset.refl _)) $$ [Hs Hd Hv]
  · isplitl [Hs]; · iexact Hs
    isplitl [Hd]; · iexact Hd
    iexact Hv
  iintro HF
  iapply (Transfers.wp_waitLocalO EC 𝒱₀ (V d c s) none (k := J) none rfl) $$ [HF HO]
  · isplitl [HF]; · iexact HF
    isplitl [HO]; · iexact HO
    iapply (Transfers.MayWaits.elim (.dma sem)) $$ HM
  iintro ⟨⟨Hd, Hs⟩, Hv, HO⟩
  iapply HJ
  isplitl [Hs]; · iexists _; iexact Hs
  isplitl [Hd]
  · iexists _
    isplitl [Hd]; · iexact Hd
    ipureintro
    rw [View.read_write_univ]
    exact hx
  isplitl [Hv]; · iexact Hv
  ihave H := (OweV_insert (sm := .dma sem) hW) $$ HO
  unfold OweV
  iexact H

/-! The gathered rows. -/

/-- Row `r` of the result: the table's row whose number is the list's word `r`. -/
def gRows {α : Type} (Z : S131072x128.Idx → α) (I : S32x4x128.Idx → BitVec 32) (r : S16384x128.Idx) : α :=
  Z (ix2 (n0 := 131072) (n1 := 128) ⟨(I (ix3 (n0 := 32) (n1 := 4) (n2 := 128) ⟨(r 0).val / 512, by have : (r 0).val < 16384 := (r 0).isLt; omega⟩
    ⟨(r 0).val / 128 % 4, Nat.mod_lt _ (by decide)⟩ ⟨(r 0).val % 128, Nat.mod_lt _ (by decide)⟩)).toNat % 131072, Nat.mod_lt _ (by decide)⟩ (r 1))

/-- What chunk `ch` of the tile at `L` gathers. -/
def gChunk {α : Type} (Z : S131072x128.Idx → α) (I : S32x4x128.Idx → BitVec 32) (L : grid1.Coords) (ch : Fin 4) (x : S128x128.Idx) : α :=
  gRows Z I ((Rect.unit (s := S16384x128) (k1_off2 L (BitVec.ofNat 32 (128 * ch.val))) S128x128.size (k1_off2_inb L ch)).emb x)

abbrev idsRow (L : grid1.Coords) (ids : Memref sig .scVector .hbm S32x4x128 .i32) : Memref sig .scVector .hbm S4x128 .i32 :=
  (ids.slice (Rect.unit (s := S32x4x128) (k1_off1 L) S1x4x128.size (k1_off1_inb L)) (fun _ => rfl)).squeeze S4x128 squeezes_S1x4x128_S4x128

abbrev lstRow (lst : Memref sig .scVector .vmem S4x128 .i32) (off : Fin 2 → ℕ) (h : ∀ a, off a + S1x128.size a ≤ S4x128.size a) : Memref sig .scVector .vmem S128 .i32 :=
  (lst.slice (Rect.unit (s := S4x128) off S1x128.size h) (fun _ => rfl)).squeeze S128 squeezes_S1x128_S128

abbrev tabAll (tab : Memref sig .scVector .hbm S131072x128 .f32) : Memref sig .scVector .hbm S131072x128 .f32 :=
  tab.slice (Rect.unit (s := S131072x128) ![0, 0] S131072x128.size inb_S131072x128_S131072x128_0_0) (fun _ => rfl)

abbrev outCh (L : grid1.Coords) (out : Memref sig .scVector .hbm S16384x128 .f32) (ch : Fin 4) : Memref sig .scVector .hbm S128x128 .f32 :=
  out.slice (Rect.unit (s := S16384x128) (k1_off2 L (BitVec.ofNat 32 (128 * ch.val))) S128x128.size (k1_off2_inb L ch)) (fun _ => rfl)

omit [FloatOps F] in
/-- The list of chunk `ch` holds the tile's words of chunk `ch`. -/
theorem lstRow_read (L : grid1.Coords) (ids : Memref sig .scVector .hbm S32x4x128 .i32) (lst : Memref sig .scVector .vmem S4x128 .i32)
    (I : Buf (Elt F) (ids.view.loc (V d c s))) (fl : Buf (Elt F) (lst.view.loc (V d c s)))
    (hfl : lst.view.read (Elt F) fl = (idsRow L ids).view.read (Elt F) I) (ch : Fin 4) (h : ∀ a, (![ch.val, 0] : Fin 2 → ℕ) a + S1x128.size a ≤ S4x128.size a) (k : Fin 128) :
    (lstRow lst ![ch.val, 0] h).view.read (Elt F) fl (ix1 k)
      = ids.view.read (Elt F) I (ix3 (n0 := 32) (n1 := 4) (n2 := 128) ⟨2 * (L 1).val + (L 0).val, by have h0 : (L 0).val < 2 := (L 0).isLt; have h1 : (L 1).val < 16 := (L 1).isLt; omega⟩ ch k) := by
  have e1 : (lstRow lst ![ch.val, 0] h).view.read (Elt F) fl (ix1 k)
      = lst.view.read (Elt F) fl ((Rect.unit (s := S4x128) ![ch.val, 0] S1x128.size h).emb (Shape.reshapeEquiv squeezes_S1x128_S128.numel_eq (ix1 k))) := rfl
  rw [e1, show Shape.reshapeEquiv squeezes_S1x128_S128.numel_eq (ix1 (n := 128) k) = ix2 (n0 := 1) (n1 := 128) ⟨0, Nat.one_pos⟩ k from
    Shape.reshapeEquiv_eq_of_rowMajor _ (by
      rw [Shape.rowMajor_val_two, Shape.rowMajor_val_one]
      show 0 * 128 + k.val = k.val
      omega), hfl]
  have e2 : ∀ y : S4x128.Idx, (idsRow L ids).view.read (Elt F) I y
      = ids.view.read (Elt F) I ((Rect.unit (s := S32x4x128) (k1_off1 L) S1x4x128.size (k1_off1_inb L)).emb (Shape.reshapeEquiv squeezes_S1x4x128_S4x128.numel_eq y)) := fun _ => rfl
  rw [e2, show (Rect.unit (s := S4x128) ![ch.val, 0] S1x128.size h).emb (ix2 (n0 := 1) (n1 := 128) ⟨0, Nat.one_pos⟩ k) = ix2 (n0 := 4) (n1 := 128) ch k from by
      funext a; apply Fin.ext
      match a with
      | ⟨0, _⟩ => show ch.val + 1 * 0 = ch.val; omega
      | ⟨1, _⟩ => show 0 + 1 * k.val = k.val; omega,
    show Shape.reshapeEquiv squeezes_S1x4x128_S4x128.numel_eq (ix2 (n0 := 4) (n1 := 128) ch k) = ix3 (n0 := 1) (n1 := 4) (n2 := 128) ⟨0, Nat.one_pos⟩ ch k from
      reshapeEquiv_ix2_1ab _ ch k]
  congr 1
  have ho := k1_off1_eq L
  funext a; apply Fin.ext
  match a with
  | ⟨0, _⟩ => show k1_off1 L 0 + 1 * 0 = 2 * (L 1).val + (L 0).val; rw [ho]; show 2 * (L 1).val + (L 0).val + 1 * 0 = _; omega
  | ⟨1, _⟩ => show k1_off1 L 1 + 1 * ch.val = ch.val; rw [ho]; show 0 + 1 * ch.val = _; omega
  | ⟨2, _⟩ => show k1_off1 L 2 + 1 * k.val = k.val; rw [ho]; show 0 + 1 * k.val = _; omega

omit [FloatOps F] in
theorem lstRow_lt (L : grid1.Coords) (ids : Memref sig .scVector .hbm S32x4x128 .i32) (lst : Memref sig .scVector .vmem S4x128 .i32)
    (I : Buf (Elt F) (ids.view.loc (V d c s))) (fl : Buf (Elt F) (lst.view.loc (V d c s)))
    (hfl : lst.view.read (Elt F) fl = (idsRow L ids).view.read (Elt F) I) (hI : ∀ j, (ids.view.read (Elt F) I j).toNat < 131072)
    (ch : Fin 4) (h : ∀ a, (![ch.val, 0] : Fin 2 → ℕ) a + S1x128.size a ≤ S4x128.size a) (x : S128.Idx) :
    ((lstRow lst ![ch.val, 0] h).view.read (Elt F) fl x).toNat < S131072x128.size gathers_S131072x128_S128x128.axis := by
  obtain ⟨k, rfl⟩ : ∃ k : Fin 128, x = ix1 k := ⟨x 0, eq_ix1 x⟩
  rw [lstRow_read L ids lst I fl hfl ch h]
  exact hI _

omit [FloatOps F] in
theorem gathered (L : grid1.Coords) (tab : Memref sig .scVector .hbm S131072x128 .f32) (ids : Memref sig .scVector .hbm S32x4x128 .i32) (lst : Memref sig .scVector .vmem S4x128 .i32)
    (Z : Buf (Elt F) (tab.view.loc (V d c s))) (I : Buf (Elt F) (ids.view.loc (V d c s))) (fl : Buf (Elt F) (lst.view.loc (V d c s)))
    (hfl : lst.view.read (Elt F) fl = (idsRow L ids).view.read (Elt F) I) (hI : ∀ j, (ids.view.read (Elt F) I j).toNat < 131072)
    (ch : Fin 4) (h : ∀ a, (![ch.val, 0] : Fin 2 → ℕ) a + S1x128.size a ≤ S4x128.size a) {hn} {hin} :
    SparseCore.gatherPayload gathers_S131072x128_S128x128 ((tabAll tab).view.read (Elt F) Z) (SparseCore.rows ((lstRow lst ![ch.val, 0] h).view.read (Elt F) fl) hn hin)
      = gChunk (tab.view.read (Elt F) Z) (ids.view.read (Elt F) I) L ch := by
  funext x
  unfold SparseCore.gatherPayload gChunk gRows
  have e : ∀ y, (tabAll tab).view.read (Elt F) Z y
      = tab.view.read (Elt F) Z ((Rect.unit (s := S131072x128) ![0, 0] S131072x128.size inb_S131072x128_S131072x128_0_0).emb y) := fun _ => rfl
  rw [e]
  have hL0 : (L 0).val < 2 := (L 0).isLt
  have hL1 : (L 1).val < 16 := (L 1).isLt
  have hx0 : (x 0).val < 128 := (x 0).isLt
  have hc : ch.val < 4 := ch.isLt
  have ho := k1_off2_eq L ch
  have e0 : (((Rect.unit (s := S16384x128) (k1_off2 L (BitVec.ofNat 32 (128 * ch.val))) S128x128.size (k1_off2_inb L ch)).emb x) 0).val
      = 1024 * (L 1).val + 512 * (L 0).val + 128 * ch.val + (x 0).val := by
    show k1_off2 L (BitVec.ofNat 32 (128 * ch.val)) 0 + 1 * (x 0).val = _
    rw [ho]
    show 1024 * (L 1).val + 512 * (L 0).val + 128 * ch.val + 1 * (x 0).val = _
    omega
  have e1 : (((Rect.unit (s := S16384x128) (k1_off2 L (BitVec.ofNat 32 (128 * ch.val))) S128x128.size (k1_off2_inb L ch)).emb x) 1).val = (x 1).val := by
    show k1_off2 L (BitVec.ofNat 32 (128 * ch.val)) 1 + 1 * (x 1).val = _
    rw [ho]
    show 0 + 1 * (x 1).val = _
    omega
  congr 1
  funext a; apply Fin.ext
  match a with
  | ⟨0, _⟩ =>
    show 0 + 1 * (gathers_S131072x128_S128x128.idx (SparseCore.rows ((lstRow lst ![ch.val, 0] h).view.read (Elt F) fl) hn hin) x gathers_S131072x128_S128x128.axis).val = BitVec.toNat _ % 131072
    rw [Shape.Gathers.idx_axis, Nat.zero_add, Nat.one_mul]
    show ((lstRow lst ![ch.val, 0] h).view.read (Elt F) fl (S128.rowMajor.symm ((x 0).cast hn.symm))).toNat = _
    rw [show S128.rowMajor.symm ((x 0).cast hn.symm) = ix1 (n := 128) ⟨(x 0).val, hx0⟩ from
      (Equiv.symm_apply_eq _).2 (Fin.ext (by rw [Shape.rowMajor_val_one]; rfl)), lstRow_read L ids lst I fl hfl ch h, Nat.mod_eq_of_lt (hI _)]
    congr 3 <;> apply Fin.ext
    · show 2 * (L 1).val + (L 0).val = (((Rect.unit (s := S16384x128) (k1_off2 L (BitVec.ofNat 32 (128 * ch.val))) S128x128.size (k1_off2_inb L ch)).emb x) 0).val / 512; rw [e0]; omega
    · show ch.val = (((Rect.unit (s := S16384x128) (k1_off2 L (BitVec.ofNat 32 (128 * ch.val))) S128x128.size (k1_off2_inb L ch)).emb x) 0).val / 128 % 4; rw [e0]; omega
    · show (x 0).val = (((Rect.unit (s := S16384x128) (k1_off2 L (BitVec.ofNat 32 (128 * ch.val))) S128x128.size (k1_off2_inb L ch)).emb x) 0).val % 128; rw [e0]; omega
  | ⟨1, _⟩ =>
    show 0 + 1 * (gathers_S131072x128_S128x128.idx (SparseCore.rows ((lstRow lst ![ch.val, 0] h).view.read (Elt F) fl) hn hin) x (1 : Fin 2)).val = (((Rect.unit (s := S16384x128) (k1_off2 L (BitVec.ofNat 32 (128 * ch.val))) S128x128.size (k1_off2_inb L ch)).emb x) 1).val
    rw [Shape.Gathers.idx_of_ne _ _ _ _ (by decide), e1, Nat.zero_add, Nat.one_mul]
    rfl

/-- A gather of a chunk under way: at its wait it delivers the chunk's rows, the table's share, the list's share. -/
def gFl (L : grid1.Coords) (tab : Memref sig .scVector .hbm S131072x128 .f32) (ids : Memref sig .scVector .hbm S32x4x128 .i32) (lst : Memref sig .scVector .vmem S4x128 .i32)
    (Z : Buf (Elt F) (tab.view.loc (V d c s))) (I : Buf (Elt F) (ids.view.loc (V d c s))) (fl : Buf (Elt F) (lst.view.loc (V d c s)))
    (q qo : PosShare TreeShare) (ch : Fin 4) (buf : Memref sig .scVector .vmem S128x128 .f32) (sem : DmaSem sig) : sProp (𝕄 F) :=
  Transfers.Flight EC (V d c s) (.dma sem) none (buf.view.dmaCredit)
    iprop(scrAt F d c s buf (gChunk (tab.view.read (Elt F) Z) (ids.view.read (Elt F) I) L ch) ∗ (tab.view.loc (V d c s) ↦{q} Z) ∗ (lst.view.loc (V d c s) ↦{qo} fl))

/-- A gather's issue. -/
theorem wp_gather (L : grid1.Coords) (tab : Memref sig .scVector .hbm S131072x128 .f32) (ids : Memref sig .scVector .hbm S32x4x128 .i32) (lst : Memref sig .scVector .vmem S4x128 .i32)
    (Z : Buf (Elt F) (tab.view.loc (V d c s))) (I : Buf (Elt F) (ids.view.loc (V d c s))) (fl : Buf (Elt F) (lst.view.loc (V d c s)))
    (hfl : lst.view.read (Elt F) fl = (idsRow L ids).view.read (Elt F) I) (hI : ∀ j, (ids.view.read (Elt F) I j).toNat < 131072)
    (q qo : PosShare TreeShare) (ch : Fin 4) {buf : Memref sig .scVector .vmem S128x128 .f32} {sem : DmaSem sig}
    (hN : ∑ j, (buf.slice (S128x128.rowRect gathers_S131072x128_S128x128.axis' j) (S128x128.stride_rowRect gathers_S131072x128_S128x128.axis' j)).view.dmaCredit = buf.view.dmaCredit)
    {off : Fin 2 → ℕ} (hoff : off = ![ch.val, 0]) {h : ∀ a, off a + S1x128.size a ≤ S4x128.size a} {h1 h2 h3 h4}
    {J : PUnit → Prog (TpuEff nD τ sig (Elt F) Λ₀ (.scVector c s)) α} :
    iprop((tab.view.loc (V d c s) ↦{q} Z) ∗ (lst.view.loc (V d c s) ↦{qo} fl) ∗ scr F d c s buf ∗ sem0 F d c s sem)
      ⊢ iprop((gFl L tab ids lst Z I fl q qo ch buf sem -∗ wp frame (wpE (defs₀ (F := F)) 𝒱₀ (V d c s) none) Set.univ (J ⟨⟩) Q)
        -∗ wp frame (wpE (defs₀ (F := F)) 𝒱₀ (V d c s) none) Set.univ
          (SparseCore.enqueueIndirectGather rfl (tabAll tab) buf gathers_S131072x128_S128x128 (lstRow lst off h) rfl sem h1 h2 h3 h4 >>= J) Q) := by
  subst hoff
  unfold scr sem0
  iintro ⟨Hz, Hl, ⟨%f, Hb⟩, Hv⟩ HJ
  iapply (SparseCore.wp_gatherFromWhole EC 𝒱₀ (V d c s) none (hg := gathers_S131072x128_S128x128) none buf.view.dmaCredit hN (by decide)
    (lstRow_lt L ids lst I fl hfl hI ch h)) $$ [Hz Hl Hb Hv]
  · isplitl [Hz]; · iexact Hz
    isplitl [Hb]; · iexact Hb
    isplitl [Hl]; · iexact Hl
    iexact Hv
  iintro HF
  iapply HJ
  unfold gFl
  iapply (Transfers.Flight_mono EC (V d c s)) $$ HF
  unfold scrAt
  iintro ⟨Hb, Hz, Hl⟩
  isplitl [Hb]
  · iexists _
    isplitl [Hb]; · iexact Hb
    ipureintro
    rw [View.read_write_univ]
    exact gathered L tab ids lst Z I fl hfl hI ch h
  isplitl [Hz]; · iexact Hz
  iexact Hl

/-- A gather's wait. -/
theorem wp_gathered (L : grid1.Coords) (tab : Memref sig .scVector .hbm S131072x128 .f32) (ids : Memref sig .scVector .hbm S32x4x128 .i32) (lst : Memref sig .scVector .vmem S4x128 .i32)
    (Z : Buf (Elt F) (tab.view.loc (V d c s))) (I : Buf (Elt F) (ids.view.loc (V d c s))) (fl : Buf (Elt F) (lst.view.loc (V d c s)))
    (q qo : PosShare TreeShare) (ch : Fin 4) {buf : Memref sig .scVector .vmem S128x128 .f32} {sem : DmaSem sig}
    {O : CellTallies nD τ sig (HIx 1)} {W : Waits sig (HIx 1)} {srcw : Memref sig .scVector .hbm S131072x128 .f32} {h1 : srcw.view.WordExact} {h2 : buf.view.WordExact}
    {J : PUnit → Prog (TpuEff nD τ sig (Elt F) Λ₀ (.scVector c s)) α} :
    iprop(gFl L tab ids lst Z I fl q qo ch buf sem ∗ OweV F d c s O W ∗ Transfers.MayWaits (V d c s) none O)
      ⊢ iprop((iprop(scrAt F d c s buf (gChunk (tab.view.read (Elt F) Z) (ids.view.read (Elt F) I) L ch) ∗ (tab.view.loc (V d c s) ↦{q} Z) ∗ (lst.view.loc (V d c s) ↦{qo} fl)
            ∗ sem0 F d c s sem ∗ OweV F d c s O W) -∗ wp frame (wpE (defs₀ (F := F)) 𝒱₀ (V d c s) none) Set.univ (J ⟨⟩) Q)
        -∗ wp frame (wpE (defs₀ (F := F)) 𝒱₀ (V d c s) none) Set.univ
          (SparseCore.waitIndirectGather sem srcw buf h1 h2 >>= J) Q) := by
  unfold gFl sem0 OweV
  iintro ⟨HF, ⟨%W', %hW, HO⟩, #HM⟩ HJ
  iapply (Transfers.wp_waitLocalO EC 𝒱₀ (V d c s) none (k := J) none rfl) $$ [HF HO]
  · isplitl [HF]; · iexact HF
    isplitl [HO]; · iexact HO
    iapply (Transfers.MayWaits.elim (.dma sem)) $$ HM
  iintro ⟨⟨Hb, Hz, Hl⟩, Hv, HO⟩
  iapply HJ
  isplitl [Hb]; · iexact Hb
  isplitl [Hz]; · iexact Hz
  isplitl [Hl]; · iexact Hl
  isplitl [Hv]; · iexact Hv
  ihave H := (OweV_insert (sm := .dma sem) hW) $$ HO
  unfold OweV
  iexact H

abbrev outC (L : grid1.Coords) (out : Memref sig .scVector .hbm S16384x128 .f32) (b : BitVec 32) (h : ∀ a, k1_off2 L b a + S128x128.size a ≤ S16384x128.size a) :
    Memref sig .scVector .hbm S128x128 .f32 :=
  out.slice (Rect.unit (s := S16384x128) (k1_off2 L b) S128x128.size h) (fun _ => rfl)

/-- The tile's rows of a result before a chunk is written, -/
def outG (F : FTy → Type) (d : Dev nD) (c : Fin τ.nSC) (s : Fin τ.nSub) (o : Memref sig .scVector .hbm S128x128 .f32) : sProp (𝕄 F) :=
  iprop(∃ f, o.view.loc (V d c s) ↦[o.view.set]{fullShare} f)
/-- and after. -/
def outW (F : FTy → Type) (d : Dev nD) (c : Fin τ.nSC) (s : Fin τ.nSub) (o : Memref sig .scVector .hbm S128x128 .f32) (x : S128x128.Idx → Elt F .f32) : sProp (𝕄 F) :=
  iprop(∃ f, (o.view.loc (V d c s) ↦[o.view.set]{fullShare} f) ∗ ⌜o.view.read (Elt F) f = x⌝)

set_option maxHeartbeats 4000000 in
/-- The tile's task. -/
theorem tile_k (L : grid1.Coords) (arg2 : Memref sig .scVector .hbm S131072x128 .f32) (harg2 : arg2.IsWhole) (arg3 : Memref sig .scVector .hbm S131072x128 .f32) (harg3 : arg3.IsWhole) (arg4 : Memref sig .scVector .hbm S32x4x128 .i32) (harg4 : arg4.IsWhole) (arg5 : Memref sig .scVector .hbm S32x4x128 .i32) (harg5 : arg5.IsWhole) (arg6 : Memref sig .scVector .hbm S16384x128 .f32) (harg6 : arg6.IsWhole) (arg7 : Memref sig .scVector .hbm S16384x128 .f32) (harg7 : arg7.IsWhole) (arg8 : Memref sig .scVector .vmem S4x128 .i32) (harg8 : arg8.IsWhole) (arg9 : Memref sig .scVector .vmem S4x128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 arg15 arg16 arg17 : DmaSems sig S_) (v55_r0 v55_r1 v55_r2 v55_r3 v55_r4 v55_r5 v55_r6 v55_r7 v55_r8 v55_r9 : DmaSems sig S_)
    {O : CellTallies nD τ sig (HIx 1)} {W : Waits sig (HIx 1)} (q q' : PosShare TreeShare)
    (Z : Buf (Elt F) (arg2.view.loc (V d ((L 0).castLE hcore1) ((L 1).castLE hsub1)))) (Z' : Buf (Elt F) (arg3.view.loc (V d ((L 0).castLE hcore1) ((L 1).castLE hsub1))))
    (I : Buf (Elt F) (arg4.view.loc (V d ((L 0).castLE hcore1) ((L 1).castLE hsub1)))) (I' : Buf (Elt F) (arg5.view.loc (V d ((L 0).castLE hcore1) ((L 1).castLE hsub1))))
    (hI : ∀ j, (arg4.view.read (Elt F) I j).toNat < 131072) (hI' : ∀ j, (arg5.view.read (Elt F) I' j).toNat < 131072)
    (hN10 : ∑ j, (arg10.slice (S128x128.rowRect gathers_S131072x128_S128x128.axis' j) (S128x128.stride_rowRect gathers_S131072x128_S128x128.axis' j)).view.dmaCredit = arg10.view.dmaCredit)
    (hN11 : ∑ j, (arg11.slice (S128x128.rowRect gathers_S131072x128_S128x128.axis' j) (S128x128.stride_rowRect gathers_S131072x128_S128x128.axis' j)).view.dmaCredit = arg11.view.dmaCredit)
    (hN12 : ∑ j, (arg12.slice (S128x128.rowRect gathers_S131072x128_S128x128.axis' j) (S128x128.stride_rowRect gathers_S131072x128_S128x128.axis' j)).view.dmaCredit = arg12.view.dmaCredit)
    (hN13 : ∑ j, (arg13.slice (S128x128.rowRect gathers_S131072x128_S128x128.axis' j) (S128x128.stride_rowRect gathers_S131072x128_S128x128.axis' j)).view.dmaCredit = arg13.view.dmaCredit)
    :
    iprop(((arg2.view.loc (V d ((L 0).castLE hcore1) ((L 1).castLE hsub1)) ↦{q} Z) ∗ ((idsRow L arg4).view.loc (V d ((L 0).castLE hcore1) ((L 1).castLE hsub1)) ↦[(idsRow L arg4).view.set]{fullShare} I) ∗ scr F d ((L 0).castLE hcore1) ((L 1).castLE hsub1) arg8 ∗ scr F d ((L 0).castLE hcore1) ((L 1).castLE hsub1) arg10 ∗ scr F d ((L 0).castLE hcore1) ((L 1).castLE hsub1) arg11 ∗ sem0 F d ((L 0).castLE hcore1) ((L 1).castLE hsub1) arg14.sem ∗ sem0 F d ((L 0).castLE hcore1) ((L 1).castLE hsub1) arg15.sem ∗ sem0 F d ((L 0).castLE hcore1) ((L 1).castLE hsub1) v55_r0.sem ∗ sem0 F d ((L 0).castLE hcore1) ((L 1).castLE hsub1) v55_r2.sem ∗ sem0 F d ((L 0).castLE hcore1) ((L 1).castLE hsub1) v55_r4.sem ∗ sem0 F d ((L 0).castLE hcore1) ((L 1).castLE hsub1) v55_r6.sem ∗ sem0 F d ((L 0).castLE hcore1) ((L 1).castLE hsub1) v55_r8.sem ∗ outG F d ((L 0).castLE hcore1) ((L 1).castLE hsub1) (outC L arg6 0#32 (k1_off2_inb L 0)) ∗ outG F d ((L 0).castLE hcore1) ((L 1).castLE hsub1) (outC L arg6 128#32 (k1_off2_inb L 1)) ∗ outG F d ((L 0).castLE hcore1) ((L 1).castLE hsub1) (outC L arg6 256#32 (k1_off2_inb L 2)) ∗ outG F d ((L 0).castLE hcore1) ((L 1).castLE hsub1) (outC L arg6 384#32 (k1_off2_inb L 3))) ∗ ((arg3.view.loc (V d ((L 0).castLE hcore1) ((L 1).castLE hsub1)) ↦{q'} Z') ∗ ((idsRow L arg5).view.loc (V d ((L 0).castLE hcore1) ((L 1).castLE hsub1)) ↦[(idsRow L arg5).view.set]{fullShare} I') ∗ scr F d ((L 0).castLE hcore1) ((L 1).castLE hsub1) arg9 ∗ scr F d ((L 0).castLE hcore1) ((L 1).castLE hsub1) arg12 ∗ scr F d ((L 0).castLE hcore1) ((L 1).castLE hsub1) arg13 ∗ sem0 F d ((L 0).castLE hcore1) ((L 1).castLE hsub1) arg16.sem ∗ sem0 F d ((L 0).castLE hcore1) ((L 1).castLE hsub1) arg17.sem ∗ sem0 F d ((L 0).castLE hcore1) ((L 1).castLE hsub1) v55_r1.sem ∗ sem0 F d ((L 0).castLE hcore1) ((L 1).castLE hsub1) v55_r3.sem ∗ sem0 F d ((L 0).castLE hcore1) ((L 1).castLE hsub1) v55_r5.sem ∗ sem0 F d ((L 0).castLE hcore1) ((L 1).castLE hsub1) v55_r7.sem ∗ sem0 F d ((L 0).castLE hcore1) ((L 1).castLE hsub1) v55_r9.sem ∗ outG F d ((L 0).castLE hcore1) ((L 1).castLE hsub1) (outC L arg7 0#32 (k1_off2_inb L 0)) ∗ outG F d ((L 0).castLE hcore1) ((L 1).castLE hsub1) (outC L arg7 128#32 (k1_off2_inb L 1)) ∗ outG F d ((L 0).castLE hcore1) ((L 1).castLE hsub1) (outC L arg7 256#32 (k1_off2_inb L 2)) ∗ outG F d ((L 0).castLE hcore1) ((L 1).castLE hsub1) (outC L arg7 384#32 (k1_off2_inb L 3))) ∗ OweV F d ((L 0).castLE hcore1) ((L 1).castLE hsub1) O W ∗ Transfers.MayWaits (V d ((L 0).castLE hcore1) ((L 1).castLE hsub1)) none O)
      ⊢ wp frame (wpE (defs₀ (F := F)) 𝒱₀ (V d ((L 0).castLE hcore1) ((L 1).castLE hsub1)) none) Set.univ
          (cc1_k (F := F) L arg2 harg2 arg3 harg3 arg4 harg4 arg5 harg5 arg6 harg6 arg7 harg7 arg8 harg8 arg9 harg9 arg10 harg10 arg11 harg11 arg12 harg12 arg13 harg13 arg14 arg15 arg16 arg17 v55_r0 v55_r1 v55_r2 v55_r3 v55_r4 v55_r5 v55_r6 v55_r7 v55_r8 v55_r9)
          fun _ => iprop(((arg2.view.loc (V d ((L 0).castLE hcore1) ((L 1).castLE hsub1)) ↦{q} Z) ∗ ((idsRow L arg4).view.loc (V d ((L 0).castLE hcore1) ((L 1).castLE hsub1)) ↦[(idsRow L arg4).view.set]{fullShare} I) ∗ scr F d ((L 0).castLE hcore1) ((L 1).castLE hsub1) arg8 ∗ scr F d ((L 0).castLE hcore1) ((L 1).castLE hsub1) arg10 ∗ scr F d ((L 0).castLE hcore1) ((L 1).castLE hsub1) arg11 ∗ sem0 F d ((L 0).castLE hcore1) ((L 1).castLE hsub1) arg14.sem ∗ sem0 F d ((L 0).castLE hcore1) ((L 1).castLE hsub1) arg15.sem ∗ sem0 F d ((L 0).castLE hcore1) ((L 1).castLE hsub1) v55_r0.sem ∗ sem0 F d ((L 0).castLE hcore1) ((L 1).castLE hsub1) v55_r2.sem ∗ sem0 F d ((L 0).castLE hcore1) ((L 1).castLE hsub1) v55_r4.sem ∗ sem0 F d ((L 0).castLE hcore1) ((L 1).castLE hsub1) v55_r6.sem ∗ sem0 F d ((L 0).castLE hcore1) ((L 1).castLE hsub1) v55_r8.sem ∗ outW F d ((L 0).castLE hcore1) ((L 1).castLE hsub1) (outC L arg6 0#32 (k1_off2_inb L 0)) (gChunk (arg2.view.read (Elt F) Z) (arg4.view.read (Elt F) I) L 0) ∗ outW F d ((L 0).castLE hcore1) ((L 1).castLE hsub1) (outC L arg6 128#32 (k1_off2_inb L 1)) (gChunk (arg2.view.read (Elt F) Z) (arg4.view.read (Elt F) I) L 1) ∗ outW F d ((L 0).castLE hcore1) ((L 1).castLE hsub1) (outC L arg6 256#32 (k1_off2_inb L 2)) (gChunk (arg2.view.read (Elt F) Z) (arg4.view.read (Elt F) I) L 2) ∗ outW F d ((L 0).castLE hcore1) ((L 1).castLE hsub1) (outC L arg6 384#32 (k1_off2_inb L 3)) (gChunk (arg2.view.read (Elt F) Z) (arg4.view.read (Elt F) I) L 3)) ∗ ((arg3.view.loc (V d ((L 0).castLE hcore1) ((L 1).castLE hsub1)) ↦{q'} Z') ∗ ((idsRow L arg5).view.loc (V d ((L 0).castLE hcore1) ((L 1).castLE hsub1)) ↦[(idsRow L arg5).view.set]{fullShare} I') ∗ scr F d ((L 0).castLE hcore1) ((L 1).castLE hsub1) arg9 ∗ scr F d ((L 0).castLE hcore1) ((L 1).castLE hsub1) arg12 ∗ scr F d ((L 0).castLE hcore1) ((L 1).castLE hsub1) arg13 ∗ sem0 F d ((L 0).castLE hcore1) ((L 1).castLE hsub1) arg16.sem ∗ sem0 F d ((L 0).castLE hcore1) ((L 1).castLE hsub1) arg17.sem ∗ sem0 F d ((L 0).castLE hcore1) ((L 1).castLE hsub1) v55_r1.sem ∗ sem0 F d ((L 0).castLE hcore1) ((L 1).castLE hsub1) v55_r3.sem ∗ sem0 F d ((L 0).castLE hcore1) ((L 1).castLE hsub1) v55_r5.sem ∗ sem0 F d ((L 0).castLE hcore1) ((L 1).castLE hsub1) v55_r7.sem ∗ sem0 F d ((L 0).castLE hcore1) ((L 1).castLE hsub1) v55_r9.sem ∗ outW F d ((L 0).castLE hcore1) ((L 1).castLE hsub1) (outC L arg7 0#32 (k1_off2_inb L 0)) (gChunk (arg3.view.read (Elt F) Z') (arg5.view.read (Elt F) I') L 0) ∗ outW F d ((L 0).castLE hcore1) ((L 1).castLE hsub1) (outC L arg7 128#32 (k1_off2_inb L 1)) (gChunk (arg3.view.read (Elt F) Z') (arg5.view.read (Elt F) I') L 1) ∗ outW F d ((L 0).castLE hcore1) ((L 1).castLE hsub1) (outC L arg7 256#32 (k1_off2_inb L 2)) (gChunk (arg3.view.read (Elt F) Z') (arg5.view.read (Elt F) I') L 2) ∗ outW F d ((L 0).castLE hcore1) ((L 1).castLE hsub1) (outC L arg7 384#32 (k1_off2_inb L 3)) (gChunk (arg3.view.read (Elt F) Z') (arg5.view.read (Elt F) I') L 3)) ∗ OweV F d ((L 0).castLE hcore1) ((L 1).castLE hsub1) O W) := by
  rw [cc1_k_eq_skeleton]
  unfold cc1_k_skel
  iintro ⟨⟨zA, iA, lA, b0A, b1A, g0A, g1A, fA, s0A, s1A, s2A, s3A, o0A, o1A, o2A, o3A⟩, ⟨zB, iB, lB, b0B, b1B, g0B, g1B, fB, s0B, s1B, s2B, s3B, o0B, o1B, o2B, o3B⟩, HO, #HM⟩
  unfold outG
  iapply wp_seqV
  rw [k1_part1_eq_skeleton]
  unfold k1_part1_skel
  iapply (wp_fetch (by decide) (O := O) (W := W)) $$ [iA lA fA HO]
  · isplitl [iA]; · iexact iA
    isplitl [lA]; · iexact lA
    isplitl [fA]; · iexact fA
    isplitl [HO]; · iexact HO
    iexact HM
  iintro ⟨iA, lA, fA, HO⟩
  iapply (wp_fetch (by decide) (O := O) (W := W)) $$ [iB lB fB HO]
  · isplitl [iB]; · iexact iB
    isplitl [lB]; · iexact lB
    isplitl [fB]; · iexact fB
    isplitl [HO]; · iexact HO
    iexact HM
  iintro ⟨iB, lB, fB, HO⟩
  unfold scrAt
  icases lA with ⟨%flA, lA, %hlA⟩
  ihave ⟨l0A, l1A⟩ := (pointsTo_share (PosShare.mem_left_op_right fullShare)).1 $$ lA
  ihave ⟨z0A, z1A⟩ := (pointsTo_share (PosShare.mem_left_op_right q)).1 $$ zA
  icases lB with ⟨%flB, lB, %hlB⟩
  ihave ⟨l0B, l1B⟩ := (pointsTo_share (PosShare.mem_left_op_right fullShare)).1 $$ lB
  ihave ⟨z0B, z1B⟩ := (pointsTo_share (PosShare.mem_left_op_right q')).1 $$ zB
  iapply (wp_gather L arg2 arg4 arg8 Z I flA hlA hI q.left fullShare.left 0 hN10 rfl) $$ [z0A l0A b0A g0A]
  · isplitl [z0A]; · iexact z0A
    isplitl [l0A]; · iexact l0A
    isplitl [b0A]; · iexact b0A
    iexact g0A
  iintro g0A
  iapply (wp_gather L arg3 arg5 arg9 Z' I' flB hlB hI' q'.left fullShare.left 0 hN12 rfl) $$ [z0B l0B b0B g0B]
  · isplitl [z0B]; · iexact z0B
    isplitl [l0B]; · iexact l0B
    isplitl [b0B]; · iexact b0B
    iexact g0B
  iintro g0B
  rw [wp_pure]
  imodintro
  iapply wp_seqV
  rw [k1_part2_eq_skeleton]
  unfold k1_part2_skel
  iapply (wp_gather L arg2 arg4 arg8 Z I flA hlA hI q.right fullShare.right 1 hN11 rfl) $$ [z1A l1A b1A g1A]
  · isplitl [z1A]; · iexact z1A
    isplitl [l1A]; · iexact l1A
    isplitl [b1A]; · iexact b1A
    iexact g1A
  iintro g1A
  iapply (wp_gather L arg3 arg5 arg9 Z' I' flB hlB hI' q'.right fullShare.right 1 hN13 rfl) $$ [z1B l1B b1B g1B]
  · isplitl [z1B]; · iexact z1B
    isplitl [l1B]; · iexact l1B
    isplitl [b1B]; · iexact b1B
    iexact g1B
  iintro g1B
  iapply (wp_gathered L arg2 arg4 arg8 Z I flA q.left fullShare.left 0 (O := O) (W := W)) $$ [g0A HO]
  · isplitl [g0A]; · iexact g0A
    isplitl [HO]; · iexact HO
    iexact HM
  iintro ⟨b0A, z0A, l0A, g0A, HO⟩
  iapply (wp_gathered L arg3 arg5 arg9 Z' I' flB q'.left fullShare.left 0 (O := O) (W := W)) $$ [g0B HO]
  · isplitl [g0B]; · iexact g0B
    isplitl [HO]; · iexact HO
    iexact HM
  iintro ⟨b0B, z0B, l0B, g0B, HO⟩
  iapply (wp_out (by decide) (O := O) (W := W)) $$ [b0A o0A s0A HO]
  · isplitl [b0A]; · iexact b0A
    isplitl [o0A]; · iexact o0A
    isplitl [s0A]; · iexact s0A
    isplitl [HO]; · iexact HO
    iexact HM
  iintro ⟨b0A, o0A, s0A, HO⟩
  iapply (wp_out (by decide) (O := O) (W := W)) $$ [b0B o0B s0B HO]
  · isplitl [b0B]; · iexact b0B
    isplitl [o0B]; · iexact o0B
    isplitl [s0B]; · iexact s0B
    isplitl [HO]; · iexact HO
    iexact HM
  iintro ⟨b0B, o0B, s0B, HO⟩
  rw [wp_pure]
  imodintro
  iapply wp_seqV
  rw [k1_part3_eq_skeleton]
  unfold k1_part3_skel
  iapply (wp_gather L arg2 arg4 arg8 Z I flA hlA hI q.left fullShare.left 2 hN10 rfl) $$ [z0A l0A b0A g0A]
  · isplitl [z0A]; · iexact z0A
    isplitl [l0A]; · iexact l0A
    isplitl [b0A]; · iexact b0A
    iexact g0A
  iintro g0A
  iapply (wp_gather L arg3 arg5 arg9 Z' I' flB hlB hI' q'.left fullShare.left 2 hN12 rfl) $$ [z0B l0B b0B g0B]
  · isplitl [z0B]; · iexact z0B
    isplitl [l0B]; · iexact l0B
    isplitl [b0B]; · iexact b0B
    iexact g0B
  iintro g0B
  iapply (wp_gathered L arg2 arg4 arg8 Z I flA q.right fullShare.right 1 (O := O) (W := W)) $$ [g1A HO]
  · isplitl [g1A]; · iexact g1A
    isplitl [HO]; · iexact HO
    iexact HM
  iintro ⟨b1A, z1A, l1A, g1A, HO⟩
  iapply (wp_gathered L arg3 arg5 arg9 Z' I' flB q'.right fullShare.right 1 (O := O) (W := W)) $$ [g1B HO]
  · isplitl [g1B]; · iexact g1B
    isplitl [HO]; · iexact HO
    iexact HM
  iintro ⟨b1B, z1B, l1B, g1B, HO⟩
  iapply (wp_out (by decide) (O := O) (W := W)) $$ [b1A o1A s1A HO]
  · isplitl [b1A]; · iexact b1A
    isplitl [o1A]; · iexact o1A
    isplitl [s1A]; · iexact s1A
    isplitl [HO]; · iexact HO
    iexact HM
  iintro ⟨b1A, o1A, s1A, HO⟩
  iapply (wp_out (by decide) (O := O) (W := W)) $$ [b1B o1B s1B HO]
  · isplitl [b1B]; · iexact b1B
    isplitl [o1B]; · iexact o1B
    isplitl [s1B]; · iexact s1B
    isplitl [HO]; · iexact HO
    iexact HM
  iintro ⟨b1B, o1B, s1B, HO⟩
  iapply (wp_gather L arg2 arg4 arg8 Z I flA hlA hI q.right fullShare.right 3 hN11 rfl) $$ [z1A l1A b1A g1A]
  · isplitl [z1A]; · iexact z1A
    isplitl [l1A]; · iexact l1A
    isplitl [b1A]; · iexact b1A
    iexact g1A
  iintro g1A
  rw [wp_pure]
  imodintro
  iapply wp_seqV
  rw [k1_part4_eq_skeleton]
  unfold k1_part4_skel
  iapply (wp_gather L arg3 arg5 arg9 Z' I' flB hlB hI' q'.right fullShare.right 3 hN13 rfl) $$ [z1B l1B b1B g1B]
  · isplitl [z1B]; · iexact z1B
    isplitl [l1B]; · iexact l1B
    isplitl [b1B]; · iexact b1B
    iexact g1B
  iintro g1B
  iapply (wp_gathered L arg2 arg4 arg8 Z I flA q.left fullShare.left 2 (O := O) (W := W)) $$ [g0A HO]
  · isplitl [g0A]; · iexact g0A
    isplitl [HO]; · iexact HO
    iexact HM
  iintro ⟨b0A, z0A, l0A, g0A, HO⟩
  iapply (wp_gathered L arg3 arg5 arg9 Z' I' flB q'.left fullShare.left 2 (O := O) (W := W)) $$ [g0B HO]
  · isplitl [g0B]; · iexact g0B
    isplitl [HO]; · iexact HO
    iexact HM
  iintro ⟨b0B, z0B, l0B, g0B, HO⟩
  iapply (wp_out (by decide) (O := O) (W := W)) $$ [b0A o2A s2A HO]
  · isplitl [b0A]; · iexact b0A
    isplitl [o2A]; · iexact o2A
    isplitl [s2A]; · iexact s2A
    isplitl [HO]; · iexact HO
    iexact HM
  iintro ⟨b0A, o2A, s2A, HO⟩
  iapply (wp_out (by decide) (O := O) (W := W)) $$ [b0B o2B s2B HO]
  · isplitl [b0B]; · iexact b0B
    isplitl [o2B]; · iexact o2B
    isplitl [s2B]; · iexact s2B
    isplitl [HO]; · iexact HO
    iexact HM
  iintro ⟨b0B, o2B, s2B, HO⟩
  iapply (wp_gathered L arg2 arg4 arg8 Z I flA q.right fullShare.right 3 (O := O) (W := W)) $$ [g1A HO]
  · isplitl [g1A]; · iexact g1A
    isplitl [HO]; · iexact HO
    iexact HM
  iintro ⟨b1A, z1A, l1A, g1A, HO⟩
  iapply (wp_gathered L arg3 arg5 arg9 Z' I' flB q'.right fullShare.right 3 (O := O) (W := W)) $$ [g1B HO]
  · isplitl [g1B]; · iexact g1B
    isplitl [HO]; · iexact HO
    iexact HM
  iintro ⟨b1B, z1B, l1B, g1B, HO⟩
  rw [wp_pure]
  imodintro
  iapply (wp_out (by decide) (O := O) (W := W)) $$ [b1A o3A s3A HO]
  · isplitl [b1A]; · iexact b1A
    isplitl [o3A]; · iexact o3A
    isplitl [s3A]; · iexact s3A
    isplitl [HO]; · iexact HO
    iexact HM
  iintro ⟨b1A, o3A, s3A, HO⟩
  iapply (wp_out (by decide) (O := O) (W := W)) $$ [b1B o3B s3B HO]
  · isplitl [b1B]; · iexact b1B
    isplitl [o3B]; · iexact o3B
    isplitl [s3B]; · iexact s3B
    isplitl [HO]; · iexact HO
    iexact HM
  iintro ⟨b1B, o3B, s3B, HO⟩
  rw [wp_pure]
  imodintro
  ihave zA := (pointsTo_share (PosShare.mem_left_op_right q)).2 $$ [z0A z1A]
  · isplitl [z0A] <;> iassumption
  ihave lA := (pointsTo_share (PosShare.mem_left_op_right fullShare)).2 $$ [l0A l1A]
  · isplitl [l0A] <;> iassumption
  ihave zB := (pointsTo_share (PosShare.mem_left_op_right q')).2 $$ [z0B z1B]
  · isplitl [z0B] <;> iassumption
  ihave lB := (pointsTo_share (PosShare.mem_left_op_right fullShare)).2 $$ [l0B l1B]
  · isplitl [l0B] <;> iassumption
  unfold outW
  isplitl [zA iA lA b0A b1A g0A g1A fA s0A s1A s2A s3A o0A o1A o2A o3A]
  · isplitl [zA]; · iexact zA
    isplitl [iA]; · iexact iA
    isplitl [lA]; · unfold scr; iexists _; iexact lA
    isplitl [b0A]; · iexact b0A
    isplitl [b1A]; · iexact b1A
    isplitl [g0A]; · iexact g0A
    isplitl [g1A]; · iexact g1A
    isplitl [fA]; · iexact fA
    isplitl [s0A]; · iexact s0A
    isplitl [s1A]; · iexact s1A
    isplitl [s2A]; · iexact s2A
    isplitl [s3A]; · iexact s3A
    isplitl [o0A]; · iexact o0A
    isplitl [o1A]; · iexact o1A
    isplitl [o2A]; · iexact o2A
    iexact o3A
  isplitl [zB iB lB b0B b1B g0B g1B fB s0B s1B s2B s3B o0B o1B o2B o3B]
  · isplitl [zB]; · iexact zB
    isplitl [iB]; · iexact iB
    isplitl [lB]; · unfold scr; iexists _; iexact lB
    isplitl [b0B]; · iexact b0B
    isplitl [b1B]; · iexact b1B
    isplitl [g0B]; · iexact g0B
    isplitl [g1B]; · iexact g1B
    isplitl [fB]; · iexact fB
    isplitl [s0B]; · iexact s0B
    isplitl [s1B]; · iexact s1B
    isplitl [s2B]; · iexact s2B
    isplitl [s3B]; · iexact s3B
    isplitl [o0B]; · iexact o0B
    isplitl [o1B]; · iexact o1B
    isplitl [o2B]; · iexact o2B
    iexact o3B
  iexact HO

end Tile

end Cert.Proof

end
-- ==== Proof.Lanes.lean ====
/-
  The SparseCore call's hand-over: what each tile takes (a share of the two tables, its row of each list of row numbers,
  its blocks of the two results) and what it gives back, and that the tiles' parts make the whole arrays.
-/
module

public import proofs.«01_k».proof.Proof.Gather

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {F : FTy → Type}

/-! ## A lane of the call: one table, one list of row numbers, one result -/

section Lane

variable (ℓz ℓi ℓo : Loc nD τ sig) (z : Buf (Elt F) ℓz) (I : Buf (Elt F) ℓi) (o : Buf (Elt F) ℓo)

/-- What a tile takes of a lane: a share of the table, its row of the list, its four blocks of the result. -/
def laneIn (q : PosShare TreeShare) (is : Finset (Idx ℓi)) (os : Fin 4 → Finset (Idx ℓo)) : sProp (𝕄 F) :=
  iprop((ℓz ↦{q} z) ∗ (ℓi ↦[is]{fullShare} I) ∗ bigSep Finset.univ fun ch => iprop(∃ f, ℓo ↦[os ch]{fullShare} f))

/-- What it gives back. -/
def laneOut (q : PosShare TreeShare) (is : Finset (Idx ℓi)) (os : Fin 4 → Finset (Idx ℓo)) : sProp (𝕄 F) :=
  iprop((ℓz ↦{q} z) ∗ (ℓi ↦[is]{fullShare} I) ∗ bigSep Finset.univ fun ch => (ℓo ↦[os ch]{fullShare} o))

/-- The share of the table a tile reads at. -/
def tShare (x : Fin 2 × Fin 16) : PosShare TreeShare := piece fullShare 31 (finProdFinEquiv x)

theorem table_shares : (ℓz ↦{fullShare} z : sProp (𝕄 F)) = bigSep Finset.univ fun c : Fin 2 => bigSep Finset.univ fun s : Fin 16 => (ℓz ↦{tShare (c, s)} z) := by
  rw [pointsTo_pieces Finset.univ z 31 fullShare,
    bigSep_univ_equiv (finProdFinEquiv : Fin 2 × Fin 16 ≃ Fin 32), bigSep_univ_prod]
  rfl

variable (is : Fin 2 → Fin 16 → Finset (Idx ℓi)) (os : Fin 2 → Fin 16 → Fin 4 → Finset (Idx ℓo))
  (hi : ∀ c s c' s', (c, s) ≠ (c', s') → Disjoint (is c s) (is c' s')) (hic : ∀ i, ∃ c s, i ∈ is c s)
  (ho : ∀ c s h c' s' h', (c, s, h) ≠ (c', s', h') → Disjoint (os c s h) (os c' s' h')) (hoc : ∀ i, ∃ c s h, i ∈ os c s h)

include hi hic in
theorem list_rows : (ℓi ↦{fullShare} I : sProp (𝕄 F)) = bigSep Finset.univ fun c : Fin 2 => bigSep Finset.univ fun s : Fin 16 => (ℓi ↦[is c s]{fullShare} I) := by
  have h : (Finset.univ : Finset (Idx ℓi)) = Finset.univ.biUnion fun x : Fin 2 × Fin 16 => is x.1 x.2 := by
    ext i; simp only [Finset.mem_univ, Finset.mem_biUnion, true_and, true_iff]
    obtain ⟨c, s, h⟩ := hic i; exact ⟨(c, s), h⟩
  rw [h, pointsTo_biUnion Finset.univ (fun x : Fin 2 × Fin 16 => is x.1 x.2) (fun x _ y _ hxy => hi _ _ _ _ hxy), bigSep_univ_prod]

include ho hoc in
theorem out_rows : (ℓo ↦{fullShare} o : sProp (𝕄 F))
    = bigSep Finset.univ fun c : Fin 2 => bigSep Finset.univ fun s : Fin 16 => bigSep Finset.univ fun h : Fin 4 => (ℓo ↦[os c s h]{fullShare} o) := by
  have h : (Finset.univ : Finset (Idx ℓo)) = Finset.univ.biUnion fun x : Fin 2 × Fin 16 × Fin 4 => os x.1 x.2.1 x.2.2 := by
    ext i; simp only [Finset.mem_univ, Finset.mem_biUnion, true_and, true_iff]
    obtain ⟨c, s, h, hh⟩ := hoc i; exact ⟨(c, s, h), hh⟩
  rw [h, pointsTo_biUnion Finset.univ (fun x : Fin 2 × Fin 16 × Fin 4 => os x.1 x.2.1 x.2.2) (fun x _ y _ hxy => ho _ _ _ _ _ _ hxy), bigSep_univ_prod]
  refine bigSep_congr fun c _ => ?_
  rw [bigSep_univ_prod]

theorem exist_rows (f : Buf (Elt F) ℓo) :
    (bigSep Finset.univ fun c : Fin 2 => bigSep Finset.univ fun s : Fin 16 => bigSep Finset.univ fun h : Fin 4 => (ℓo ↦[os c s h]{fullShare} f : sProp (𝕄 F)))
      ⊢ bigSep Finset.univ fun c : Fin 2 => bigSep Finset.univ fun s : Fin 16 => bigSep Finset.univ fun h : Fin 4 => iprop(∃ f, ℓo ↦[os c s h]{fullShare} f) :=
  bigSep_mono fun c _ => bigSep_mono fun s _ => bigSep_mono fun h _ => exists_intro (Φ := fun f => (ℓo ↦[os c s h]{fullShare} f : sProp (𝕄 F))) f

include hi hic ho hoc in
theorem lane_split : iprop((ℓz ↦{fullShare} z) ∗ (ℓi ↦{fullShare} I) ∗ ∃ f, ℓo ↦{fullShare} f)
    ⊢ bigSep Finset.univ fun c : Fin 2 => bigSep Finset.univ fun s : Fin 16 => laneIn ℓz ℓi ℓo z I (tShare (c, s)) (is c s) (os c s) := by
  unfold laneIn
  simp only [bigSep_sep']
  rw [table_shares ℓz z, list_rows ℓi I is hi hic]
  iintro ⟨Hz, Hi, %f, Ho⟩
  isplitl [Hz]; · iexact Hz
  isplitl [Hi]; · iexact Hi
  ihave Ho := (Entails.of_eq (out_rows ℓo f os ho hoc)) $$ Ho
  iapply (exist_rows ℓo os f); iexact Ho

include hi hic ho hoc in
theorem lane_join : (bigSep Finset.univ fun c : Fin 2 => bigSep Finset.univ fun s : Fin 16 => laneOut ℓz ℓi ℓo z I o (tShare (c, s)) (is c s) (os c s))
    = (iprop((ℓz ↦{fullShare} z) ∗ (ℓi ↦{fullShare} I) ∗ ℓo ↦{fullShare} o) : sProp (𝕄 F)) := by
  rw [table_shares ℓz z, list_rows ℓi I is hi hic, out_rows ℓo o os ho hoc]
  unfold laneOut
  simp only [bigSep_sep']

end Lane

/-! ## The blocks of the call -/

/-- Row `2 s + c` of a list of row numbers. -/
def iSet (c : Fin 2) (s : Fin 16) : Finset S32x4x128.Idx := Finset.univ.filter fun i => (i 0).val = 2 * s.val + c.val
/-- Rows `1024 s + 512 c + 128 h …` of a result. -/
def oSet (c : Fin 2) (s : Fin 16) (h : Fin 4) : Finset S16384x128.Idx := Finset.univ.filter fun i => (i 0).val / 128 = 8 * s.val + 4 * c.val + h.val

theorem iSet_disj : ∀ c s c' s', (c, s) ≠ (c', s') → Disjoint (iSet c s) (iSet c' s') := by
  intro c s c' s' hne
  rw [Finset.disjoint_left]
  intro i h h'
  simp only [iSet, Finset.mem_filter, Finset.mem_univ, true_and] at h h'
  exact hne (by ext <;> simp <;> omega)
theorem iSet_cover : ∀ i, ∃ c s, i ∈ iSet c s := by
  intro i
  have : (i 0).val < 32 := (i 0).isLt
  exact ⟨⟨(i 0).val % 2, by omega⟩, ⟨(i 0).val / 2, by omega⟩, by simp only [iSet, Finset.mem_filter, Finset.mem_univ, true_and]; omega⟩
theorem oSet_disj : ∀ c s h c' s' h', (c, s, h) ≠ (c', s', h') → Disjoint (oSet c s h) (oSet c' s' h') := by
  intro c s h c' s' h' hne
  rw [Finset.disjoint_left]
  intro i hi hi'
  simp only [oSet, Finset.mem_filter, Finset.mem_univ, true_and] at hi hi'
  exact hne (by ext <;> simp <;> omega)
theorem oSet_cover : ∀ i, ∃ c s h, i ∈ oSet c s h := by
  intro i
  have : (i 0).val < 16384 := (i 0).isLt
  exact ⟨⟨(i 0).val / 128 / 4 % 2, by omega⟩, ⟨(i 0).val / 128 / 8, by omega⟩, ⟨(i 0).val / 128 % 4, by omega⟩,
    by simp only [oSet, Finset.mem_filter, Finset.mem_univ, true_and]; omega⟩

variable (d : Dev nD)

abbrev zLoc1 : Loc nD τ sig := (T d : Thread nD τ).loc main_v46_0
abbrev zLoc2 : Loc nD τ sig := (T d : Thread nD τ).loc main_v46_1
abbrev iLoc1 : Loc nD τ sig := (T d : Thread nD τ).loc main_v53
abbrev iLoc2 : Loc nD τ sig := (T d : Thread nD τ).loc main_v56
abbrev oLoc1 : Loc nD τ sig := (T d : Thread nD τ).loc main_v63_0
abbrev oLoc2 : Loc nD τ sig := (T d : Thread nD τ).loc main_v63_1

/-- What the call is given: the two tables, the two lists of row numbers. -/
structure Gin (F : FTy → Type) where
  z1 : (d : Dev nD) → Buf (Elt F) (zLoc1 d)
  z2 : (d : Dev nD) → Buf (Elt F) (zLoc2 d)
  i1 : (d : Dev nD) → Buf (Elt F) (iLoc1 d)
  i2 : (d : Dev nD) → Buf (Elt F) (iLoc2 d)

/-- What the call leaves. -/
def Gin.o1 (Y : Gin F) (d : Dev nD) : Buf (Elt F) (oLoc1 d) := gRows (α := Elt F .f32) (Y.z1 d) (Y.i1 d)
def Gin.o2 (Y : Gin F) (d : Dev nD) : Buf (Elt F) (oLoc2 d) := gRows (α := Elt F .f32) (Y.z2 d) (Y.i2 d)

def goTile (Y : Gin F) (c : Fin 2) (s : Fin 16) : sProp (𝕄 F) :=
  iprop(laneIn (zLoc1 d) (iLoc1 d) (oLoc1 d) (Y.z1 d) (Y.i1 d) (tShare (c, s)) (iSet c s) (oSet c s)
    ∗ laneIn (zLoc2 d) (iLoc2 d) (oLoc2 d) (Y.z2 d) (Y.i2 d) (tShare (c, s)) (iSet c s) (oSet c s))
def tdTile (Y : Gin F) (c : Fin 2) (s : Fin 16) : sProp (𝕄 F) :=
  iprop(laneOut (zLoc1 d) (iLoc1 d) (oLoc1 d) (Y.z1 d) (Y.i1 d) (Y.o1 d) (tShare (c, s)) (iSet c s) (oSet c s)
    ∗ laneOut (zLoc2 d) (iLoc2 d) (oLoc2 d) (Y.z2 d) (Y.i2 d) (Y.o2 d) (tShare (c, s)) (iSet c s) (oSet c s))

/-- What the call takes whole, and what it gives back. -/
def goAll (Y : Gin F) : sProp (𝕄 F) :=
  iprop(((zLoc1 d ↦{fullShare} Y.z1 d) ∗ (iLoc1 d ↦{fullShare} Y.i1 d) ∗ ∃ f, oLoc1 d ↦{fullShare} f)
    ∗ ((zLoc2 d ↦{fullShare} Y.z2 d) ∗ (iLoc2 d ↦{fullShare} Y.i2 d) ∗ ∃ f, oLoc2 d ↦{fullShare} f))
def tdAll (Y : Gin F) : sProp (𝕄 F) :=
  iprop(((zLoc1 d ↦{fullShare} Y.z1 d) ∗ (iLoc1 d ↦{fullShare} Y.i1 d) ∗ oLoc1 d ↦{fullShare} Y.o1 d)
    ∗ ((zLoc2 d ↦{fullShare} Y.z2 d) ∗ (iLoc2 d ↦{fullShare} Y.i2 d) ∗ oLoc2 d ↦{fullShare} Y.o2 d))

theorem goAll_split (Y : Gin F) : goAll d Y ⊢ bigSep Finset.univ fun c : Fin 2 => bigSep Finset.univ fun s : Fin 16 => goTile d Y c s := by
  unfold goAll goTile
  simp only [bigSep_sep']
  iintro ⟨H1, H2⟩
  isplitl [H1]
  · iapply (lane_split (zLoc1 d) (iLoc1 d) (oLoc1 d) (Y.z1 d) (Y.i1 d) iSet oSet iSet_disj iSet_cover oSet_disj oSet_cover); iexact H1
  · iapply (lane_split (zLoc2 d) (iLoc2 d) (oLoc2 d) (Y.z2 d) (Y.i2 d) iSet oSet iSet_disj iSet_cover oSet_disj oSet_cover); iexact H2

theorem tdAll_join (Y : Gin F) : (bigSep Finset.univ fun c : Fin 2 => bigSep Finset.univ fun s : Fin 16 => tdTile d Y c s) = tdAll d Y := by
  unfold tdAll tdTile
  rw [← lane_join (zLoc1 d) (iLoc1 d) (oLoc1 d) (Y.z1 d) (Y.i1 d) (Y.o1 d) iSet oSet iSet_disj iSet_cover oSet_disj oSet_cover,
    ← lane_join (zLoc2 d) (iLoc2 d) (oLoc2 d) (Y.z2 d) (Y.i2 d) (Y.o2 d) iSet oSet iSet_disj iSet_cover oSet_disj oSet_cover]
  simp only [bigSep_sep']

/-! ## What the handshakes carry -/

def toC (c : Fin ((K (F := F)).nCore 0)) : Fin 2 := ⟨c.val, c.isLt⟩
def toS (s : Fin ((K (F := F)).nSub 0)) : Fin 16 := ⟨s.val, s.isLt⟩

def stCore (Y : Gin F) (c : Fin 2) : sProp (𝕄 F) := bigSep Finset.univ fun s : Fin 16 => goTile d Y c s
def dnCore (Y : Gin F) (c : Fin 2) : sProp (𝕄 F) := bigSep Finset.univ fun s : Fin 16 => tdTile d Y c s

/-- The call takes a core its tiles' parts; each tile brings its own back. -/
def P (Y : Gin F) : (K (F := F)).Pay (nD := nD) (Val := Elt F) (Name := ℕ) (U := UU) where
  st := fun q d c => match q with | 0 => stCore d Y (toC c)
  dn := fun q d c => match q with | 0 => dnCore d Y (toC c)
  go := fun q d c i => match q with | 0 => goTile d Y (toC c) (toS i)
  td := fun q d c i => match q with | 0 => tdTile d Y (toC c) (toS i)
  x := fun _ _ => iprop(emp)

instance laneIn_storable {ℓz ℓi ℓo : Loc nD τ sig} {z : Buf (Elt F) ℓz} {I : Buf (Elt F) ℓi} {q is os} :
    BI.Storable (upEmb : UEmb _ (𝕄 F)) (laneIn ℓz ℓi ℓo z I q is os) := by unfold laneIn; infer_instance
instance laneOut_storable {ℓz ℓi ℓo : Loc nD τ sig} {z : Buf (Elt F) ℓz} {I : Buf (Elt F) ℓi} {o : Buf (Elt F) ℓo} {q is os} :
    BI.Storable (upEmb : UEmb _ (𝕄 F)) (laneOut ℓz ℓi ℓo z I o q is os) := by unfold laneOut; infer_instance
instance goTile_storable (Y : Gin F) (c s) : BI.Storable (upEmb : UEmb _ (𝕄 F)) (goTile d Y c s) := by
  unfold goTile; infer_instance
instance tdTile_storable (Y : Gin F) (c s) : BI.Storable (upEmb : UEmb _ (𝕄 F)) (tdTile d Y c s) := by
  unfold tdTile; infer_instance

instance P_storable (Y : Gin F) : (P Y).IsStorable where
  st q d c := match q with | 0 => (by show BI.Storable _ (stCore d Y (toC c)); unfold stCore; infer_instance)
  dn q d c := match q with | 0 => (by show BI.Storable _ (dnCore d Y (toC c)); unfold dnCore; infer_instance)
  go q d c i := match q with | 0 => goTile_storable d Y (toC c) (toS i)
  td q d c i := match q with | 0 => tdTile_storable d Y (toC c) (toS i)

theorem bigSep_toS (Φ : Fin 16 → sProp (𝕄 F)) : (bigSep Finset.univ fun i : Fin ((K (F := F)).nSub 0) => Φ (toS i)) = bigSep Finset.univ Φ :=
  bigSep_congr fun _ _ => congrArg Φ (Fin.ext rfl)
theorem bigSep_toC (Φ : Fin 2 → sProp (𝕄 F)) : (bigSep Finset.univ fun i : Fin ((K (F := F)).nCore 0) => Φ (toC i)) = bigSep Finset.univ Φ :=
  bigSep_congr fun _ _ => congrArg Φ (Fin.ext rfl)

theorem vecSplit [FloatOps F] (Y : Gin F) : (K (F := F)).VecSplit' (P Y) 0 := by
  intro d c
  show stCore d Y (toC c) ⊢ |={Set.univ}=> iprop(
      (bigSep Finset.univ fun i : Fin ((K (F := F)).nSub 0) => goTile d Y (toC c) (toS i))
      ∗ ((bigSep Finset.univ fun i : Fin ((K (F := F)).nSub 0) => tdTile d Y (toC c) (toS i)) -∗ dnCore d Y (toC c)))
  rw [bigSep_toS (F := F) (fun i => goTile d Y (toC c) i), bigSep_toS (F := F) (fun i => tdTile d Y (toC c) i)]
  unfold stCore dnCore
  iintro H; imodintro
  isplitl [H]; · iexact H
  iintro H; iexact H

theorem st_all (Y : Gin F) : goAll d Y ⊢ bigSep Finset.univ fun c : Fin ((K (F := F)).nCore 0) => (P Y).st 0 d c := by
  refine (goAll_split d Y).trans (Entails.of_eq ?_)
  exact (bigSep_toC (F := F) (fun c => stCore d Y c)).symm
theorem dn_all (Y : Gin F) : (bigSep Finset.univ fun c : Fin ((K (F := F)).nCore 0) => (P Y).dn 0 d c) = tdAll d Y := by
  rw [← tdAll_join]
  exact bigSep_toC (F := F) (fun c => dnCore d Y c)

end Cert.Proof

end
-- ==== Proof.Tile.lean ====
/-
  The SparseCore call's tile obligation: what a vector subcore is handed — its buffers, its counters, its parts of the
  arrays — is what the tile's task needs, and what the task leaves is what the tile gives back.
-/
module

public import proofs.«01_k».proof.Proof.Lanes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {F : FTy → Type}

section Tile

variable (d : Dev nD) (c : Fin τ.nSC) (s : Fin τ.nSub)

def tileSems : Finset (SemLoc sig) := {.dma cc1_scratch6.sem, .dma cc1_scratch7.sem, .dma cc1_scratch8.sem, .dma cc1_scratch9.sem, .dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem}
def tileRefs : Finset (Ref sig .scVector) := {cc1_scratch0, cc1_scratch1, cc1_scratch2, cc1_scratch3, cc1_scratch4, cc1_scratch5}

theorem tileSems_scoped : ∀ sm ∈ tileSems, sm.isScoped .scVector = true := by decide

/-- The cells of a vector subcore's own. -/
def cellEmb : SemLoc sig ↪ GSem nD τ sig := ⟨fun sm => ((V d c s : Thread nD τ), sm), fun _ _ h => (Prod.mk.inj h).2⟩
def refEmb : Ref sig .scVector ↪ DevRef τ sig := ⟨fun b => (Proc.scVector c s).devRef b, Proc.devRef_injective (Proc.scVector c s)⟩

theorem ownSems_tile : (SparseCore.Cfg.ownSems0 (V d c s) : sProp (𝕄 F))
    = iprop((sem0 F d c s cc1_scratch6.sem ∗ sem0 F d c s cc1_scratch7.sem ∗ sem0 F d c s cc1_scratch8.sem ∗ sem0 F d c s cc1_scratch9.sem ∗ sem0 F d c s cc1_scoped0.sem ∗ sem0 F d c s cc1_scoped1.sem ∗ sem0 F d c s cc1_scoped2.sem ∗ sem0 F d c s cc1_scoped3.sem ∗ sem0 F d c s cc1_scoped4.sem ∗ sem0 F d c s cc1_scoped5.sem ∗ sem0 F d c s cc1_scoped6.sem ∗ sem0 F d c s cc1_scoped7.sem ∗ sem0 F d c s cc1_scoped8.sem ∗ sem0 F d c s cc1_scoped9.sem) ∗ bigSep (SparseCore.Cfg.ownCells (V d c s) \ tileSems.map (cellEmb d c s)) fun g => semVal g 0) := by
  have hsub : tileSems.map (cellEmb d c s) ⊆ SparseCore.Cfg.ownCells (V d c s) := by
    intro g hg
    obtain ⟨sm, hsm, rfl⟩ := Finset.mem_map.mp hg
    exact SparseCore.Cfg.mem_ownCells.mpr ⟨rfl, tileSems_scoped sm hsm⟩
  unfold SparseCore.Cfg.ownSems0
  rw [SparseCore.bigSep_sdiff_split' hsub, BI.bigSep_map]
  congr 1
  unfold tileSems
  rw [BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), BI.bigSep_insert (by decide), bigSep_singleton]
  rfl

theorem ownBufs_tile : (SparseCore.Cfg.ownBufs (V d c s) : sProp (𝕄 F))
    = iprop((scr F d c s (Memref.whole cc1_scratch0) ∗ scr F d c s (Memref.whole cc1_scratch1) ∗ scr F d c s (Memref.whole cc1_scratch2) ∗ scr F d c s (Memref.whole cc1_scratch3) ∗ scr F d c s (Memref.whole cc1_scratch4) ∗ scr F d c s (Memref.whole cc1_scratch5)) ∗ bigSep (SparseCore.Cfg.ownRefs (τ := τ) (sig := sig) (.scVector c s) \ tileRefs.map (refEmb c s))
        fun b => iprop(∃ f, ((d, b) : Loc nD τ sig) ↦{fullShare} f)) := by
  have hsub : tileRefs.map (refEmb c s) ⊆ SparseCore.Cfg.ownRefs (τ := τ) (.scVector c s) := by
    intro b hb
    obtain ⟨r, hr, rfl⟩ := Finset.mem_map.mp hb
    simp only [tileRefs, Finset.mem_insert, Finset.mem_singleton] at hr
    rcases hr with rfl | rfl | rfl | rfl | rfl | rfl <;> exact SparseCore.Cfg.mem_ownRefs_of_owner rfl
  unfold SparseCore.Cfg.ownBufs
  refine (SparseCore.bigSep_sdiff_split' hsub).trans ?_
  rw [BI.bigSep_map]
  congr 1
  unfold tileRefs
  rw [BI.bigSep_insert (by decide), BI.bigSep_insert (by decide), BI.bigSep_insert (by decide), BI.bigSep_insert (by decide), BI.bigSep_insert (by decide), bigSep_singleton]
  rfl

end Tile

/-! ## A tile's rows as the body addresses them -/

section Rows

variable (L : grid1.Coords)

def cL : Fin 2 := ⟨(L 0).val, (L 0).isLt⟩
def sL : Fin 16 := ⟨(L 1).val, (L 1).isLt⟩

theorem mem_iSet {c : Fin 2} {s : Fin 16} {i : S32x4x128.Idx} : i ∈ iSet c s ↔ (i 0).val = 2 * s.val + c.val := by
  simp only [iSet, Finset.mem_filter, Finset.mem_univ, true_and]
theorem mem_oSet {c : Fin 2} {s : Fin 16} {h : Fin 4} {i : S16384x128.Idx} : i ∈ oSet c s h ↔ (i 0).val / 128 = 8 * s.val + 4 * c.val + h.val := by
  simp only [oSet, Finset.mem_filter, Finset.mem_univ, true_and]

theorem unit_iSet : (Rect.unit (s := S32x4x128) (k1_off1 L) S1x4x128.size (k1_off1_inb L)).set = iSet (cL L) (sL L) := by
  ext i
  rw [Rect.mem_set_unit, k1_off1_eq]
  refine Iff.trans ?_ mem_iSet.symm
  constructor
  · intro h
    show (i 0).val = 2 * (L 1).val + (L 0).val
    have h0 : 2 * (L 1).val + (L 0).val ≤ (i 0).val ∧ (i 0).val < 2 * (L 1).val + (L 0).val + 1 := h 0
    omega
  · intro (h : (i 0).val = 2 * (L 1).val + (L 0).val) a
    have h1 := (i 1).isLt; have h2 := (i 2).isLt
    match a with
    | 0 => exact ⟨show 2 * (L 1).val + (L 0).val ≤ (i 0).val by omega, show (i 0).val < 2 * (L 1).val + (L 0).val + 1 by omega⟩
    | 1 => exact ⟨Nat.zero_le _, (show (i 1).val < 0 + 4 by have : (i 1).val < 4 := h1; omega)⟩
    | 2 => exact ⟨Nat.zero_le _, (show (i 2).val < 0 + 128 by have : (i 2).val < 128 := h2; omega)⟩

theorem unit_oSet (h' : Fin 4) :
    (Rect.unit (s := S16384x128) (k1_off2 L (BitVec.ofNat 32 (128 * h'.val))) S128x128.size (k1_off2_inb L h')).set = oSet (cL L) (sL L) h' := by
  ext i
  rw [Rect.mem_set_unit, k1_off2_eq]
  refine Iff.trans ?_ mem_oSet.symm
  constructor
  · intro h
    show (i 0).val / 128 = 8 * (L 1).val + 4 * (L 0).val + h'.val
    have h0 : 1024 * (L 1).val + 512 * (L 0).val + 128 * h'.val ≤ (i 0).val ∧ (i 0).val < 1024 * (L 1).val + 512 * (L 0).val + 128 * h'.val + 128 := h 0
    omega
  · intro (h : (i 0).val / 128 = 8 * (L 1).val + 4 * (L 0).val + h'.val) a
    have h1 := (i 1).isLt
    match a with
    | 0 => exact ⟨show 1024 * (L 1).val + 512 * (L 0).val + 128 * h'.val ≤ (i 0).val by omega, show (i 0).val < 1024 * (L 1).val + 512 * (L 0).val + 128 * h'.val + 128 by omega⟩
    | 1 => exact ⟨Nat.zero_le _, (show (i 1).val < 0 + 128 by have : (i 1).val < 128 := h1; omega)⟩

theorem ids_set1 : (idsRow L (Memref.whole main_v53_scv)).view.set = iSet (cL L) (sL L) := by
  rw [← unit_iSet]
  show (((View.whole (main_v53_scv : Ref sig .scVector)).slice _).reshape _ _).set = _
  rw [View.set_reshape, View.set_slice]; exact Finset.map_refl
theorem ids_set2 : (idsRow L (Memref.whole main_v56_scv)).view.set = iSet (cL L) (sL L) := by
  rw [← unit_iSet]
  show (((View.whole (main_v56_scv : Ref sig .scVector)).slice _).reshape _ _).set = _
  rw [View.set_reshape, View.set_slice]; exact Finset.map_refl
theorem out_set1 (h : Fin 4) : (outC L (Memref.whole main_v63_0_scv) (BitVec.ofNat 32 (128 * h.val)) (k1_off2_inb L h)).view.set = oSet (cL L) (sL L) h := by
  rw [← unit_oSet]
  show ((View.whole (main_v63_0_scv : Ref sig .scVector)).slice _).set = _
  rw [View.set_slice]; exact Finset.map_refl
theorem out_set2 (h : Fin 4) : (outC L (Memref.whole main_v63_1_scv) (BitVec.ofNat 32 (128 * h.val)) (k1_off2_inb L h)).view.set = oSet (cL L) (sL L) h := by
  rw [← unit_oSet]
  show ((View.whole (main_v63_1_scv : Ref sig .scVector)).slice _).set = _
  rw [View.set_slice]; exact Finset.map_refl

variable (d : Dev nD)

theorem gout_in1 (h : Fin 4) : (iprop(∃ f, oLoc1 d ↦[oSet (cL L) (sL L) h]{fullShare} f) : sProp (𝕄 F))
    ⊢ outG F d ((L 0).castLE hcore1) ((L 1).castLE hsub1) (outC L (Memref.whole main_v63_0_scv) (BitVec.ofNat 32 (128 * h.val)) (k1_off2_inb L h)) := by
  unfold outG; rw [out_set1]
theorem gout_in2 (h : Fin 4) : (iprop(∃ f, oLoc2 d ↦[oSet (cL L) (sL L) h]{fullShare} f) : sProp (𝕄 F))
    ⊢ outG F d ((L 0).castLE hcore1) ((L 1).castLE hsub1) (outC L (Memref.whole main_v63_1_scv) (BitVec.ofNat 32 (128 * h.val)) (k1_off2_inb L h)) := by
  unfold outG; rw [out_set2]

theorem gout_out1 (h : Fin 4) (Z : S131072x128.Idx → Elt F .f32) (I : S32x4x128.Idx → BitVec 32) :
    outW F d ((L 0).castLE hcore1) ((L 1).castLE hsub1) (outC L (Memref.whole main_v63_0_scv) (BitVec.ofNat 32 (128 * h.val)) (k1_off2_inb L h)) (gChunk Z I L h)
      ⊢ (oLoc1 d ↦[oSet (cL L) (sL L) h]{fullShare} (gRows Z I) : sProp (𝕄 F)) := by
  unfold outW
  iintro ⟨%f, Hf, %hf⟩
  have e : (oLoc1 d ↦[oSet (cL L) (sL L) h]{fullShare} (gRows Z I) : sProp (𝕄 F)) = (oLoc1 d ↦[oSet (cL L) (sL L) h]{fullShare} f) := by
    refine pointsTo_congr fun i hi => ?_
    rw [← out_set1] at hi
    obtain ⟨y, -, rfl⟩ := Finset.mem_map.mp hi
    have := congrFun hf y
    rw [View.read_apply, cast_eq] at this
    exact this.symm
  rw [e, ← out_set1]
  iexact Hf
theorem gout_out2 (h : Fin 4) (Z : S131072x128.Idx → Elt F .f32) (I : S32x4x128.Idx → BitVec 32) :
    outW F d ((L 0).castLE hcore1) ((L 1).castLE hsub1) (outC L (Memref.whole main_v63_1_scv) (BitVec.ofNat 32 (128 * h.val)) (k1_off2_inb L h)) (gChunk Z I L h)
      ⊢ (oLoc2 d ↦[oSet (cL L) (sL L) h]{fullShare} (gRows Z I) : sProp (𝕄 F)) := by
  unfold outW
  iintro ⟨%f, Hf, %hf⟩
  have e : (oLoc2 d ↦[oSet (cL L) (sL L) h]{fullShare} (gRows Z I) : sProp (𝕄 F)) = (oLoc2 d ↦[oSet (cL L) (sL L) h]{fullShare} f) := by
    refine pointsTo_congr fun i hi => ?_
    rw [← out_set2] at hi
    obtain ⟨y, -, rfl⟩ := Finset.mem_map.mp hi
    have := congrFun hf y
    rw [View.read_apply, cast_eq] at this
    exact this.symm
  rw [e, ← out_set2]
  iexact Hf

end Rows

theorem bigSep_four (Φ : Fin 4 → sProp (𝕄 F)) : bigSep Finset.univ Φ = iprop(Φ 0 ∗ Φ 1 ∗ Φ 2 ∗ Φ 3) := by
  rw [show (Finset.univ : Finset (Fin 4)) = {0, 1, 2, 3} by decide, BI.bigSep_insert (by decide), BI.bigSep_insert (by decide), BI.bigSep_insert (by decide), bigSep_singleton]
  rfl

/-! ## The tile's task from what the call hands it -/

variable [FloatOps F]

set_option maxHeartbeats 4000000 in
theorem tile_body (Y : Gin F) (h1 : ∀ d j, (Y.i1 d j).toNat < 131072) (h2 : ∀ d j, (Y.i2 d j).toNat < 131072) (d : Dev nD) (L : grid1.Coords)
    (hF : (K (F := F)).Facts) (O : CellTallies nD τ sig (HIx 1)) (W : Waits sig (HIx 1)) (hO : ∀ g, O g none = 0) :
    iprop(levAts (K (F := F)).L (K (F := F)).lev ∗ emp ∗ goTile d Y (cL L) (sL L)
        ∗ scopedBufs (V d ((L 0).castLE hcore1) ((L 1).castLE hsub1)) ∗ scopedSems0 (V d ((L 0).castLE hcore1) ((L 1).castLE hsub1)) ∗ owes (V d ((L 0).castLE hcore1) ((L 1).castLE hsub1)) O W)
      ⊢ wp frame (wpE (defs₀ (F := F)) 𝒱₀ (V d ((L 0).castLE hcore1) ((L 1).castLE hsub1)) none) Set.univ
          (cc1_k (F := F) L (Memref.whole main_v46_0_scv) (Memref.isWhole_whole _) (Memref.whole main_v46_1_scv) (Memref.isWhole_whole _) (Memref.whole main_v53_scv) (Memref.isWhole_whole _) (Memref.whole main_v56_scv) (Memref.isWhole_whole _) (Memref.whole main_v63_0_scv) (Memref.isWhole_whole _) (Memref.whole main_v63_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9)
          fun _ => iprop(tdTile d Y (cL L) (sL L) ∗ scopedBufs (V d ((L 0).castLE hcore1) ((L 1).castLE hsub1)) ∗ scopedSems0 (V d ((L 0).castLE hcore1) ((L 1).castLE hsub1))
            ∗ ∃ W', ⌜∀ p ∈ W', p ∈ W ∨ p.2 = none⌝ ∗ owes (V d ((L 0).castLE hcore1) ((L 1).castLE hsub1)) O W') := by
  rw [(K (F := F)).scopedBufs_V hF d ((L 0).castLE hcore1) ((L 1).castLE hsub1), SparseCore.Cfg.scopedSems0_V (Val := Elt F) d ((L 0).castLE hcore1) ((L 1).castLE hsub1), ownSems_tile, ownBufs_tile]
  unfold goTile tdTile laneIn laneOut
  simp only [bigSep_four]
  iintro ⟨#Hlv, -, ⟨⟨z0, i0, o00, o01, o02, o03⟩, z1, i1, o10, o11, o12, o13⟩, ⟨⟨B0, B1, B2, B3, B4, B5⟩, HB⟩,
    ⟨⟨S0, S1, S2, S3, S4, S5, S6, S7, S8, S9, S10, S11, S12, S13⟩, HS⟩, HO⟩
  ihave #HM := (show levAts (K (F := F)).L (K (F := F)).lev ⊢ Transfers.MayWaits (V d ((L 0).castLE hcore1) ((L 1).castLE hsub1)) (none : HIx 1) O from
    (K (F := F)).mayWaits_none (thr := V d ((L 0).castLE hcore1) ((L 1).castLE hsub1)) hO) $$ Hlv
  ihave o00 := (show (iprop(∃ f, oLoc1 d ↦[oSet (cL L) (sL L) 0]{fullShare} f) : sProp (𝕄 F)) ⊢ outG F d ((L 0).castLE hcore1) ((L 1).castLE hsub1) (outC L (Memref.whole main_v63_0_scv) 0#32 (k1_off2_inb L 0)) from gout_in1 L d 0) $$ o00
  ihave o01 := (show (iprop(∃ f, oLoc1 d ↦[oSet (cL L) (sL L) 1]{fullShare} f) : sProp (𝕄 F)) ⊢ outG F d ((L 0).castLE hcore1) ((L 1).castLE hsub1) (outC L (Memref.whole main_v63_0_scv) 128#32 (k1_off2_inb L 1)) from gout_in1 L d 1) $$ o01
  ihave o02 := (show (iprop(∃ f, oLoc1 d ↦[oSet (cL L) (sL L) 2]{fullShare} f) : sProp (𝕄 F)) ⊢ outG F d ((L 0).castLE hcore1) ((L 1).castLE hsub1) (outC L (Memref.whole main_v63_0_scv) 256#32 (k1_off2_inb L 2)) from gout_in1 L d 2) $$ o02
  ihave o03 := (show (iprop(∃ f, oLoc1 d ↦[oSet (cL L) (sL L) 3]{fullShare} f) : sProp (𝕄 F)) ⊢ outG F d ((L 0).castLE hcore1) ((L 1).castLE hsub1) (outC L (Memref.whole main_v63_0_scv) 384#32 (k1_off2_inb L 3)) from gout_in1 L d 3) $$ o03
  ihave o10 := (show (iprop(∃ f, oLoc2 d ↦[oSet (cL L) (sL L) 0]{fullShare} f) : sProp (𝕄 F)) ⊢ outG F d ((L 0).castLE hcore1) ((L 1).castLE hsub1) (outC L (Memref.whole main_v63_1_scv) 0#32 (k1_off2_inb L 0)) from gout_in2 L d 0) $$ o10
  ihave o11 := (show (iprop(∃ f, oLoc2 d ↦[oSet (cL L) (sL L) 1]{fullShare} f) : sProp (𝕄 F)) ⊢ outG F d ((L 0).castLE hcore1) ((L 1).castLE hsub1) (outC L (Memref.whole main_v63_1_scv) 128#32 (k1_off2_inb L 1)) from gout_in2 L d 1) $$ o11
  ihave o12 := (show (iprop(∃ f, oLoc2 d ↦[oSet (cL L) (sL L) 2]{fullShare} f) : sProp (𝕄 F)) ⊢ outG F d ((L 0).castLE hcore1) ((L 1).castLE hsub1) (outC L (Memref.whole main_v63_1_scv) 256#32 (k1_off2_inb L 2)) from gout_in2 L d 2) $$ o12
  ihave o13 := (show (iprop(∃ f, oLoc2 d ↦[oSet (cL L) (sL L) 3]{fullShare} f) : sProp (𝕄 F)) ⊢ outG F d ((L 0).castLE hcore1) ((L 1).castLE hsub1) (outC L (Memref.whole main_v63_1_scv) 384#32 (k1_off2_inb L 3)) from gout_in2 L d 3) $$ o13
  ihave i0 := (Entails.of_eq (show (iLoc1 d ↦[iSet (cL L) (sL L)]{fullShare} Y.i1 d : sProp (𝕄 F))
    = ((idsRow L (Memref.whole main_v53_scv)).view.loc (V d ((L 0).castLE hcore1) ((L 1).castLE hsub1)) ↦[(idsRow L (Memref.whole main_v53_scv)).view.set]{fullShare} Y.i1 d) by rw [ids_set1])) $$ i0
  ihave i1 := (Entails.of_eq (show (iLoc2 d ↦[iSet (cL L) (sL L)]{fullShare} Y.i2 d : sProp (𝕄 F))
    = ((idsRow L (Memref.whole main_v56_scv)).view.loc (V d ((L 0).castLE hcore1) ((L 1).castLE hsub1)) ↦[(idsRow L (Memref.whole main_v56_scv)).view.set]{fullShare} Y.i2 d) by rw [ids_set2])) $$ i1
  iapply (BIBase.Entails.trans (tile_k (F := F) (d := d) L (Memref.whole main_v46_0_scv) (Memref.isWhole_whole _) (Memref.whole main_v46_1_scv) (Memref.isWhole_whole _) (Memref.whole main_v53_scv) (Memref.isWhole_whole _) (Memref.whole main_v56_scv) (Memref.isWhole_whole _) (Memref.whole main_v63_0_scv) (Memref.isWhole_whole _) (Memref.whole main_v63_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 (O := O) (W := W) (tShare (cL L, sL L)) (tShare (cL L, sL L)) (Y.z1 d) (Y.z2 d) (Y.i1 d) (Y.i2 d)
    (h1 d) (h2 d) (by decide) (by decide) (by decide) (by decide)) (wp_wand frame _ _)) $$ [z0 i0 B0 B2 B3 S0 S1 S4 S6 S8 S10 S12 o00 o01 o02 o03 z1 i1 B1 B4 B5 S2 S3 S5 S7 S9 S11 S13 o10 o11 o12 o13 HO]
  · isplitl [z0 i0 B0 B2 B3 S0 S1 S4 S6 S8 S10 S12 o00 o01 o02 o03]
    · isplitl [z0]; · iexact z0
      isplitl [i0]; · iexact i0
      isplitl [B0]; · iexact B0
      isplitl [B2]; · iexact B2
      isplitl [B3]; · iexact B3
      isplitl [S0]; · iexact S0
      isplitl [S1]; · iexact S1
      isplitl [S4]; · iexact S4
      isplitl [S6]; · iexact S6
      isplitl [S8]; · iexact S8
      isplitl [S10]; · iexact S10
      isplitl [S12]; · iexact S12
      isplitl [o00]; · iexact o00
      isplitl [o01]; · iexact o01
      isplitl [o02]; · iexact o02
      iexact o03
    isplitl [z1 i1 B1 B4 B5 S2 S3 S5 S7 S9 S11 S13 o10 o11 o12 o13]
    · isplitl [z1]; · iexact z1
      isplitl [i1]; · iexact i1
      isplitl [B1]; · iexact B1
      isplitl [B4]; · iexact B4
      isplitl [B5]; · iexact B5
      isplitl [S2]; · iexact S2
      isplitl [S3]; · iexact S3
      isplitl [S5]; · iexact S5
      isplitl [S7]; · iexact S7
      isplitl [S9]; · iexact S9
      isplitl [S11]; · iexact S11
      isplitl [S13]; · iexact S13
      isplitl [o10]; · iexact o10
      isplitl [o11]; · iexact o11
      isplitl [o12]; · iexact o12
      iexact o13
    isplitl [HO]
    · unfold OweV
      iexists W; isplitr
      · ipureintro; exact fun p hp => .inl hp
      · iexact HO
    iexact HM
  iintro %_ ⟨⟨z0, i0, B0, B2, B3, S0, S1, S4, S6, S8, S10, S12, o00, o01, o02, o03⟩, ⟨z1, i1, B1, B4, B5, S2, S3, S5, S7, S9, S11, S13, o10, o11, o12, o13⟩, HO⟩
  ihave o00 := (show outW F d ((L 0).castLE hcore1) ((L 1).castLE hsub1) (outC L (Memref.whole main_v63_0_scv) 0#32 (k1_off2_inb L 0)) (gChunk ((Memref.whole main_v46_0_scv).view.read (Elt F) (Y.z1 d)) ((Memref.whole main_v53_scv).view.read (Elt F) (Y.i1 d)) L 0) ⊢ (oLoc1 d ↦[oSet (cL L) (sL L) 0]{fullShare} (Y.o1 d) : sProp (𝕄 F)) from gout_out1 L d 0 _ _) $$ o00
  ihave o01 := (show outW F d ((L 0).castLE hcore1) ((L 1).castLE hsub1) (outC L (Memref.whole main_v63_0_scv) 128#32 (k1_off2_inb L 1)) (gChunk ((Memref.whole main_v46_0_scv).view.read (Elt F) (Y.z1 d)) ((Memref.whole main_v53_scv).view.read (Elt F) (Y.i1 d)) L 1) ⊢ (oLoc1 d ↦[oSet (cL L) (sL L) 1]{fullShare} (Y.o1 d) : sProp (𝕄 F)) from gout_out1 L d 1 _ _) $$ o01
  ihave o02 := (show outW F d ((L 0).castLE hcore1) ((L 1).castLE hsub1) (outC L (Memref.whole main_v63_0_scv) 256#32 (k1_off2_inb L 2)) (gChunk ((Memref.whole main_v46_0_scv).view.read (Elt F) (Y.z1 d)) ((Memref.whole main_v53_scv).view.read (Elt F) (Y.i1 d)) L 2) ⊢ (oLoc1 d ↦[oSet (cL L) (sL L) 2]{fullShare} (Y.o1 d) : sProp (𝕄 F)) from gout_out1 L d 2 _ _) $$ o02
  ihave o03 := (show outW F d ((L 0).castLE hcore1) ((L 1).castLE hsub1) (outC L (Memref.whole main_v63_0_scv) 384#32 (k1_off2_inb L 3)) (gChunk ((Memref.whole main_v46_0_scv).view.read (Elt F) (Y.z1 d)) ((Memref.whole main_v53_scv).view.read (Elt F) (Y.i1 d)) L 3) ⊢ (oLoc1 d ↦[oSet (cL L) (sL L) 3]{fullShare} (Y.o1 d) : sProp (𝕄 F)) from gout_out1 L d 3 _ _) $$ o03
  ihave o10 := (show outW F d ((L 0).castLE hcore1) ((L 1).castLE hsub1) (outC L (Memref.whole main_v63_1_scv) 0#32 (k1_off2_inb L 0)) (gChunk ((Memref.whole main_v46_1_scv).view.read (Elt F) (Y.z2 d)) ((Memref.whole main_v56_scv).view.read (Elt F) (Y.i2 d)) L 0) ⊢ (oLoc2 d ↦[oSet (cL L) (sL L) 0]{fullShare} (Y.o2 d) : sProp (𝕄 F)) from gout_out2 L d 0 _ _) $$ o10
  ihave o11 := (show outW F d ((L 0).castLE hcore1) ((L 1).castLE hsub1) (outC L (Memref.whole main_v63_1_scv) 128#32 (k1_off2_inb L 1)) (gChunk ((Memref.whole main_v46_1_scv).view.read (Elt F) (Y.z2 d)) ((Memref.whole main_v56_scv).view.read (Elt F) (Y.i2 d)) L 1) ⊢ (oLoc2 d ↦[oSet (cL L) (sL L) 1]{fullShare} (Y.o2 d) : sProp (𝕄 F)) from gout_out2 L d 1 _ _) $$ o11
  ihave o12 := (show outW F d ((L 0).castLE hcore1) ((L 1).castLE hsub1) (outC L (Memref.whole main_v63_1_scv) 256#32 (k1_off2_inb L 2)) (gChunk ((Memref.whole main_v46_1_scv).view.read (Elt F) (Y.z2 d)) ((Memref.whole main_v56_scv).view.read (Elt F) (Y.i2 d)) L 2) ⊢ (oLoc2 d ↦[oSet (cL L) (sL L) 2]{fullShare} (Y.o2 d) : sProp (𝕄 F)) from gout_out2 L d 2 _ _) $$ o12
  ihave o13 := (show outW F d ((L 0).castLE hcore1) ((L 1).castLE hsub1) (outC L (Memref.whole main_v63_1_scv) 384#32 (k1_off2_inb L 3)) (gChunk ((Memref.whole main_v46_1_scv).view.read (Elt F) (Y.z2 d)) ((Memref.whole main_v56_scv).view.read (Elt F) (Y.i2 d)) L 3) ⊢ (oLoc2 d ↦[oSet (cL L) (sL L) 3]{fullShare} (Y.o2 d) : sProp (𝕄 F)) from gout_out2 L d 3 _ _) $$ o13
  ihave i0 := (Entails.of_eq (show (iLoc1 d ↦[iSet (cL L) (sL L)]{fullShare} Y.i1 d : sProp (𝕄 F))
    = ((idsRow L (Memref.whole main_v53_scv)).view.loc (V d ((L 0).castLE hcore1) ((L 1).castLE hsub1)) ↦[(idsRow L (Memref.whole main_v53_scv)).view.set]{fullShare} Y.i1 d) by rw [ids_set1]).symm) $$ i0
  ihave i1 := (Entails.of_eq (show (iLoc2 d ↦[iSet (cL L) (sL L)]{fullShare} Y.i2 d : sProp (𝕄 F))
    = ((idsRow L (Memref.whole main_v56_scv)).view.loc (V d ((L 0).castLE hcore1) ((L 1).castLE hsub1)) ↦[(idsRow L (Memref.whole main_v56_scv)).view.set]{fullShare} Y.i2 d) by rw [ids_set2]).symm) $$ i1
  isplitl [z0 i0 o00 o01 o02 o03 z1 i1 o10 o11 o12 o13]
  · isplitl [z0 i0 o00 o01 o02 o03]
    · isplitl [z0]; · iexact z0
      isplitl [i0]; · iexact i0
      isplitl [o00]; · iexact o00
      isplitl [o01]; · iexact o01
      isplitl [o02]; · iexact o02
      iexact o03
    isplitl [z1]; · iexact z1
    isplitl [i1]; · iexact i1
    isplitl [o10]; · iexact o10
    isplitl [o11]; · iexact o11
    isplitl [o12]; · iexact o12
    iexact o13
  isplitl [B0 B1 B2 B3 B4 B5 HB]
  · isplitl [B0 B1 B2 B3 B4 B5]
    · isplitl [B0]; · iexact B0
      isplitl [B1]; · iexact B1
      isplitl [B2]; · iexact B2
      isplitl [B3]; · iexact B3
      isplitl [B4]; · iexact B4
      iexact B5
    iexact HB
  isplitl [S0 S1 S2 S3 S4 S5 S6 S7 S8 S9 S10 S11 S12 S13 HS]
  · isplitl [S0 S1 S2 S3 S4 S5 S6 S7 S8 S9 S10 S11 S12 S13]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    iexact HS
  unfold OweV
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => cc1_k (F := F) (coordsV c s) (Memref.whole main_v46_0_scv) (Memref.isWhole_whole _) (Memref.whole main_v46_1_scv) (Memref.isWhole_whole _) (Memref.whole main_v53_scv) (Memref.isWhole_whole _) (Memref.whole main_v56_scv) (Memref.isWhole_whole _) (Memref.whole main_v63_0_scv) (Memref.isWhole_whole _) (Memref.whole main_v63_1_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9) ⟨⟩ c s := rfl

theorem obl_post {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    intro p hp
    rcases hW' p hp with h | h
    · exact .inl h
    · exact .inr (.inl h)
  · iexact HO

set_option maxRecDepth 16384 in
theorem tileObl (Y : Gin F) (h1 : ∀ d j, (Y.i1 d j).toNat < 131072) (h2 : ∀ d j, (Y.i2 d j).toNat < 131072)
    (hF : (K (F := F)).Facts) : (K (F := F)).TileObl (D (F := F)) 𝒱 (P Y) v₀ 0 := by
  intro d c i O W hO _ _
  simp only [show (P Y).ox = fun _ _ => 0 from rfl, add_zero]
  have hc : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hc, and_self, ↓reduceDIte]
  exact (tile_body Y h1 h2 d (coordsV ⟨_, hc.1⟩ ⟨_, hc.2⟩) hF O W hO).trans (wp_mono frame _ _ fun _ => obl_post)

end Cert.Proof

end
-- ==== Proof.State.lean ====
/-
  What @main's host lines touch, and what every buffer holds at each of @main's stages.
-/
module

public import proofs.«01_k».proof.Proof.HostOps
public import proofs.«01_k».proof.Proof.Mlp
public import proofs.«01_k».proof.Proof.ScanReg
public import proofs.«01_k».proof.Proof.Tile

@[expose] public section

noncomputable section

namespace Cert.Proof

open Cert.KernelIdeal Cert.KernelIdeal.Gen

open Idealize.ShloMosaic
open Idealize.ShloMosaic.SparseCore (S V T)
open Idealize.SL.Sem

variable {F : FTy → Type} [FloatOps F]

/-! ## The references the lines touch -/

omit [FloatOps F] in
theorem uc_mem (r : Ref sig .tc) (h : r.isScoped = false) : Proc.devRef (τ := τ) .tc r ∈ ucRefs :=
  Finset.mem_filter.mpr ⟨StableHlo.devRef_mem_tcRefs r, by
    have e : (Proc.devRef (τ := τ) .tc r).isScoped = r.isScoped := rfl
    rw [e, h]; exact Bool.false_ne_true⟩

theorem touch1 (y : Ref sig .tc) (hy : y.isScoped = false) : ({Proc.devRef (τ := τ) .tc y} : Finset (DevRef τ sig)) ⊆ ucRefs :=
  Finset.singleton_subset_iff.mpr (uc_mem y hy)
theorem touch2 (x y : Ref sig .tc) (hx : x.isScoped = false) (hy : y.isScoped = false) :
    ({Proc.devRef (τ := τ) .tc x, Proc.devRef .tc y} : Finset (DevRef τ sig)) ⊆ ucRefs :=
  Finset.insert_subset (uc_mem x hx) (touch1 y hy)
theorem touch3 (a b y : Ref sig .tc) (ha : a.isScoped = false) (hb : b.isScoped = false) (hy : y.isScoped = false) :
    ({Proc.devRef (τ := τ) .tc a, Proc.devRef .tc b, Proc.devRef .tc y} : Finset (DevRef τ sig)) ⊆ ucRefs :=
  Finset.insert_subset (uc_mem a ha) (touch2 b y hb hy)

/-- What line A writes, in order. -/
abbrev wrA : List (Ref sig .tc) := [main_c, main_call0_v0, main_v0, main_v1, main_c_0, main_call1_v0, main_v2, main_v3, main_c_1, main_call2_v0, main_v4, main_c_2, main_call3_v0, main_v5, main_v6, main_v7, main_c_3, main_v8, main_v9, main_v10, main_v11, main_call4_v0, main_call4_v1, main_call4_v2, main_call4_v3, main_call4_v4, main_v12, main_v13, main_v14, main_v15, main_v16, main_c_4, main_call5_v0, main_v17, main_c_5, main_call6_v0, main_v18, main_v19, main_v20, main_c_6, main_v21, main_v22, main_v23, main_v24, main_call7_v0, main_call7_v1, main_call7_v2, main_call7_v3, main_call7_v4, main_v25, main_v26, main_v27, main_v28, main_v29, main_v30, main_c_7, main_v31, main_v32, main_c_8, main_v33, main_v34, main_v35, main_c_9, main_v36, main_v37, main_v38, main_v39, main_v40, main_v41, main_v42, main_c_10, main_v43, main_v44, main_v45]

set_option maxRecDepth 16384 in
theorem writesA : (opsA (F := F)).map HloOp.writes = wrA.map fun w => {Proc.devRef (τ := τ) .tc w} := rfl

set_option maxRecDepth 16384 in
theorem freshA : ∀ op ∈ opsA (F := F), op.fresh = ∅ :=
  List.forall_iff_forall_mem.mp (StableHlo.forall_fresh_of_map rfl)

set_option maxHeartbeats 4000000 in
set_option maxRecDepth 16384 in
theorem touchA : ∀ op ∈ opsA (F := F), op.bufs ⊆ ucRefs :=
  List.forall_iff_forall_mem.mp (show List.Forall _ (opsA (F := F)) from
    ⟨touch1 main_c rfl,
     touch2 main_c main_call0_v0 rfl rfl,
     touch3 main_arg1 main_call0_v0 main_v0 rfl rfl rfl,
     touch2 main_v0 main_v1 rfl rfl,
     touch1 main_c_0 rfl,
     touch2 main_c_0 main_call1_v0 rfl rfl,
     touch3 main_arg2 main_call1_v0 main_v2 rfl rfl rfl,
     touch2 main_v2 main_v3 rfl rfl,
     touch1 main_c_1 rfl,
     touch2 main_c_1 main_call2_v0 rfl rfl,
     touch3 main_arg3 main_call2_v0 main_v4 rfl rfl rfl,
     touch1 main_c_2 rfl,
     touch2 main_c_2 main_call3_v0 rfl rfl,
     touch3 main_arg4 main_call3_v0 main_v5 rfl rfl rfl,
     touch1 main_v6 rfl,
     touch1 main_v7 rfl,
     touch1 main_c_3 rfl,
     touch2 main_c_3 main_v8 rfl rfl,
     touch3 main_v6 main_v8 main_v9 rfl rfl rfl,
     touch3 main_v9 main_v7 main_v10 rfl rfl rfl,
     touch2 main_v10 main_v11 rfl rfl,
     touch2 main_v11 main_call4_v0 rfl rfl,
     touch2 main_v4 main_call4_v1 rfl rfl,
     touch2 main_call4_v0 main_call4_v2 rfl rfl,
     touch2 main_call4_v1 main_call4_v3 rfl rfl,
     touch3 main_call4_v2 main_call4_v3 main_call4_v4 rfl rfl rfl,
     touch2 main_call4_v4 main_v12 rfl rfl,
     touch2 main_v5 main_v13 rfl rfl,
     touch2 main_v13 main_v14 rfl rfl,
     touch2 main_v14 main_v15 rfl rfl,
     touch2 main_v15 main_v16 rfl rfl,
     touch1 main_c_4 rfl,
     touch2 main_c_4 main_call5_v0 rfl rfl,
     touch3 main_arg5 main_call5_v0 main_v17 rfl rfl rfl,
     touch1 main_c_5 rfl,
     touch2 main_c_5 main_call6_v0 rfl rfl,
     touch3 main_arg6 main_call6_v0 main_v18 rfl rfl rfl,
     touch1 main_v19 rfl,
     touch1 main_v20 rfl,
     touch1 main_c_6 rfl,
     touch2 main_c_6 main_v21 rfl rfl,
     touch3 main_v19 main_v21 main_v22 rfl rfl rfl,
     touch3 main_v22 main_v20 main_v23 rfl rfl rfl,
     touch2 main_v23 main_v24 rfl rfl,
     touch2 main_v24 main_call7_v0 rfl rfl,
     touch2 main_v17 main_call7_v1 rfl rfl,
     touch2 main_call7_v0 main_call7_v2 rfl rfl,
     touch2 main_call7_v1 main_call7_v3 rfl rfl,
     touch3 main_call7_v2 main_call7_v3 main_call7_v4 rfl rfl rfl,
     touch2 main_call7_v4 main_v25 rfl rfl,
     touch2 main_v18 main_v26 rfl rfl,
     touch2 main_v26 main_v27 rfl rfl,
     touch2 main_v27 main_v28 rfl rfl,
     touch2 main_v28 main_v29 rfl rfl,
     touch1 main_v30 rfl,
     touch1 main_c_7 rfl,
     touch2 main_c_7 main_v31 rfl rfl,
     touch3 main_v31 main_v30 main_v32 rfl rfl rfl,
     touch1 main_c_8 rfl,
     touch2 main_c_8 main_v33 rfl rfl,
     touch3 main_v32 main_v33 main_v34 rfl rfl rfl,
     touch2 main_v34 main_v35 rfl rfl,
     touch1 main_c_9 rfl,
     touch2 main_c_9 main_v36 rfl rfl,
     touch3 main_v35 main_v36 main_v37 rfl rfl rfl,
     touch1 main_v38 rfl,
     touch2 main_v38 main_v39 rfl rfl,
     touch2 main_v37 main_v40 rfl rfl,
     touch2 main_v39 main_v41 rfl rfl,
     touch3 main_v40 main_v41 main_v42 rfl rfl rfl,
     touch1 main_c_10 rfl,
     touch2 main_c_10 main_v43 rfl rfl,
     touch3 main_v42 main_v43 main_v44 rfl rfl rfl,
     touch2 main_v44 main_v45 rfl rfl⟩)

theorem keptA {r : Ref sig .tc} (h : r ∉ wrA) (V : Valuation τ sig (Elt F)) :
    StableHlo.after (opsA (F := F)) V (Proc.devRef .tc r) = V (Proc.devRef .tc r) :=
  StableHlo.after_unwritten wrA writesA h V

/-- What line B writes, in order. -/
abbrev wrB : List (Ref sig .tc) := [main_v47, main_v48, main_v49, main_v50, main_c_11, main_v51, main_v52, main_v53, main_c_12, main_v54, main_v55, main_v56, main_c_13, main_v57, main_v58, main_v59, main_c_14, main_v60, main_v61, main_v62]

set_option maxRecDepth 16384 in
theorem writesB : (opsB (F := F)).map HloOp.writes = wrB.map fun w => {Proc.devRef (τ := τ) .tc w} := rfl

set_option maxRecDepth 16384 in
theorem freshB : ∀ op ∈ opsB (F := F), op.fresh = ∅ :=
  List.forall_iff_forall_mem.mp (StableHlo.forall_fresh_of_map rfl)

set_option maxHeartbeats 4000000 in
set_option maxRecDepth 16384 in
theorem touchB : ∀ op ∈ opsB (F := F), op.bufs ⊆ ucRefs :=
  List.forall_iff_forall_mem.mp (show List.Forall _ (opsB (F := F)) from
    ⟨touch2 main_arg0 main_v47 rfl rfl,
     touch2 main_v47 main_v48 rfl rfl,
     touch2 main_arg0 main_v49 rfl rfl,
     touch2 main_v49 main_v50 rfl rfl,
     touch1 main_c_11 rfl,
     touch2 main_c_11 main_v51 rfl rfl,
     touch3 main_v48 main_v51 main_v52 rfl rfl rfl,
     touch2 main_v52 main_v53 rfl rfl,
     touch1 main_c_12 rfl,
     touch2 main_c_12 main_v54 rfl rfl,
     touch3 main_v50 main_v54 main_v55 rfl rfl rfl,
     touch2 main_v55 main_v56 rfl rfl,
     touch1 main_c_13 rfl,
     touch2 main_c_13 main_v57 rfl rfl,
     touch3 main_v48 main_v57 main_v58 rfl rfl rfl,
     touch2 main_v58 main_v59 rfl rfl,
     touch1 main_c_14 rfl,
     touch2 main_c_14 main_v60 rfl rfl,
     touch3 main_v50 main_v60 main_v61 rfl rfl rfl,
     touch2 main_v61 main_v62 rfl rfl⟩)

theorem keptB {r : Ref sig .tc} (h : r ∉ wrB) (V : Valuation τ sig (Elt F)) :
    StableHlo.after (opsB (F := F)) V (Proc.devRef .tc r) = V (Proc.devRef .tc r) :=
  StableHlo.after_unwritten wrB writesB h V

/-- What line C writes, in order. -/
abbrev wrC : List (Ref sig .tc) := [main_v64, main_c_15, main_call8_v0, main_v65, main_v66, main_v67, main_v68, main_v69, main_c_16, main_call9_v0, main_v70, main_v71, main_v72, main_v73, main_v74, main_v75]

set_option maxRecDepth 16384 in
theorem writesC : (opsC (F := F)).map HloOp.writes = wrC.map fun w => {Proc.devRef (τ := τ) .tc w} := rfl

set_option maxRecDepth 16384 in
theorem freshC : ∀ op ∈ opsC (F := F), op.fresh = ∅ :=
  List.forall_iff_forall_mem.mp (StableHlo.forall_fresh_of_map rfl)

set_option maxHeartbeats 4000000 in
set_option maxRecDepth 16384 in
theorem touchC : ∀ op ∈ opsC (F := F), op.bufs ⊆ ucRefs :=
  List.forall_iff_forall_mem.mp (show List.Forall _ (opsC (F := F)) from
    ⟨touch2 main_arg7 main_v64 rfl rfl,
     touch1 main_c_15 rfl,
     touch2 main_c_15 main_call8_v0 rfl rfl,
     touch3 main_v64 main_call8_v0 main_v65 rfl rfl rfl,
     touch2 main_v65 main_v66 rfl rfl,
     touch2 main_v66 main_v67 rfl rfl,
     touch2 main_v67 main_v68 rfl rfl,
     touch2 main_arg7 main_v69 rfl rfl,
     touch1 main_c_16 rfl,
     touch2 main_c_16 main_call9_v0 rfl rfl,
     touch3 main_v69 main_call9_v0 main_v70 rfl rfl rfl,
     touch2 main_v70 main_v71 rfl rfl,
     touch2 main_v71 main_v72 rfl rfl,
     touch2 main_v72 main_v73 rfl rfl,
     touch2 main_arg8 main_v74 rfl rfl,
     touch2 main_arg10 main_v75 rfl rfl⟩)

theorem keptC {r : Ref sig .tc} (h : r ∉ wrC) (V : Valuation τ sig (Elt F)) :
    StableHlo.after (opsC (F := F)) V (Proc.devRef .tc r) = V (Proc.devRef .tc r) :=
  StableHlo.after_unwritten wrC writesC h V

/-! ## The stages -/

variable (m : (ℓ : Loc nD τ sig) → Buf (Elt F) ℓ)

/-- At launch. -/
abbrev W0 (c : Dev nD) : Valuation τ sig (Elt F) := fun b => m (c, b)
/-- Before the scan. -/
def W1 (c : Dev nD) : Valuation τ sig (Elt F) := StableHlo.after opsA (W0 m c)
/-- After the scan. -/
def W2 (c : Dev nD) : Valuation τ sig (Elt F) :=
  Function.update (Function.update (W1 m c) (Proc.devRef .tc main_v46_0) (scanOut1 (fun c b => W1 m c (Proc.devRef .tc b)) c))
    (Proc.devRef .tc main_v46_1) (scanOut2 (fun c b => W1 m c (Proc.devRef .tc b)) c)
/-- Before the gather. -/
def W3 (c : Dev nD) : Valuation τ sig (Elt F) := StableHlo.after opsB (W2 m c)
/-- What the gather reads. -/
def gin : Gin F where
  z1 d := W3 m d (Proc.devRef .tc main_v46_0)
  z2 d := W3 m d (Proc.devRef .tc main_v46_1)
  i1 d := W3 m d (Proc.devRef .tc main_v53)
  i2 d := W3 m d (Proc.devRef .tc main_v56)
/-- After the gather. -/
def W4 (c : Dev nD) : Valuation τ sig (Elt F) :=
  Function.update (Function.update (W3 m c) (Proc.devRef .tc main_v63_0) ((gin m).o1 c))
    (Proc.devRef .tc main_v63_1) ((gin m).o2 c)
/-- Before the network. -/
def W5 (c : Dev nD) : Valuation τ sig (Elt F) := StableHlo.after opsC (W4 m c)
/-- At the end. -/
def W6 (c : Dev nD) : Valuation τ sig (Elt F) :=
  Function.update (W5 m c) (Proc.devRef .tc main_v76) (mlpOut (fun c b => W5 m c (Proc.devRef .tc b)) c)

theorem W2_out1 (c : Dev nD) : W2 m c (Proc.devRef .tc main_v46_0) = scanOut1 (fun c b => W1 m c (Proc.devRef .tc b)) c := by
  unfold W2
  rw [Function.update_of_ne (StableHlo.devRef_ne_of_ne (by decide)), Function.update_self]
theorem W2_out2 (c : Dev nD) : W2 m c (Proc.devRef .tc main_v46_1) = scanOut2 (fun c b => W1 m c (Proc.devRef .tc b)) c := by
  unfold W2; rw [Function.update_self]
theorem W2_ne (c : Dev nD) (b : Ref sig .tc) (h0 : b ≠ main_v46_0) (h1 : b ≠ main_v46_1) :
    W2 m c (Proc.devRef .tc b) = W1 m c (Proc.devRef .tc b) := by
  unfold W2
  rw [Function.update_of_ne (StableHlo.devRef_ne_of_ne h1), Function.update_of_ne (StableHlo.devRef_ne_of_ne h0)]

theorem W4_out1 (c : Dev nD) : W4 m c (Proc.devRef .tc main_v63_0) = (gin m).o1 c := by
  unfold W4
  rw [Function.update_of_ne (StableHlo.devRef_ne_of_ne (by decide)), Function.update_self]
theorem W4_out2 (c : Dev nD) : W4 m c (Proc.devRef .tc main_v63_1) = (gin m).o2 c := by
  unfold W4; rw [Function.update_self]
theorem W4_ne (c : Dev nD) (b : DevRef τ sig) (h0 : b ≠ Proc.devRef .tc main_v63_0) (h1 : b ≠ Proc.devRef .tc main_v63_1) :
    W4 m c b = W3 m c b := by
  unfold W4
  rw [Function.update_of_ne h1, Function.update_of_ne h0]

theorem W6_out (c : Dev nD) : W6 m c (Proc.devRef .tc main_v76) = mlpOut (fun c b => W5 m c (Proc.devRef .tc b)) c := by
  unfold W6; rw [Function.update_self]
theorem W6_ne (c : Dev nD) (b : Ref sig .tc) (h : b ≠ main_v76) : W6 m c (Proc.devRef .tc b) = W5 m c (Proc.devRef .tc b) := by
  unfold W6; rw [Function.update_of_ne (StableHlo.devRef_ne_of_ne h)]

/-- A buffer no stage writes keeps its launch contents. -/
theorem W6_kept (c : Dev nD) (b : Ref sig .tc) (hA : b ∉ wrA) (hB : b ∉ wrB) (hC : b ∉ wrC) (h0 : b ≠ main_v46_0) (h1 : b ≠ main_v46_1)
    (h2 : b ≠ main_v63_0) (h3 : b ≠ main_v63_1) (h4 : b ≠ main_v76) : W6 m c (Proc.devRef .tc b) = m (c, Proc.devRef .tc b) := by
  rw [W6_ne m c b h4, W5, keptC hC, W4_ne m c _ (StableHlo.devRef_ne_of_ne h2) (StableHlo.devRef_ne_of_ne h3), W3, keptB hB,
    W2_ne m c b h0 h1, W1, keptA hA]

/-! ## The rows the gather fetches are in range -/

theorem and_mask (x : BitVec 32) : (IntOp.andi x 131071#32).toNat < 131072 := by
  show (x &&& 131071#32).toNat < 131072
  rw [BitVec.toNat_and]
  exact Nat.lt_of_le_of_lt Nat.and_le_right (by decide)

set_option maxHeartbeats 4000000 in
set_option maxRecDepth 16384 in
theorem ids1 (d : Dev nD) (j) : ((gin m).i1 d j).toNat < 131072 := by
  have e : (gin m).i1 d = (StableHlo.after opsB (W2 m d) (Proc.devRef .tc main_v53)) := rfl
  rw [e]
  unfold opsB
  after_reads_simp
  exact and_mask _

set_option maxHeartbeats 4000000 in
set_option maxRecDepth 16384 in
theorem ids2 (d : Dev nD) (j) : ((gin m).i2 d j).toNat < 131072 := by
  have e : (gin m).i2 d = (StableHlo.after opsB (W2 m d) (Proc.devRef .tc main_v56)) := rfl
  rw [e]
  unfold opsB
  after_reads_simp
  exact and_mask _

end Cert.Proof

end
-- ==== Proof.Main.lean ====
/-
  The program's run: the launch's ghost state, @main on the TensorCore stage by stage, what the final memory holds.
-/
module

public import proofs.«01_k».proof.Proof.State

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state of the launch -/

/-- The pipelines' rounds, in the certificate's ghost state. -/
def EP : Emb UP (𝕄 F) := (Emb.inl : Emb UP (UP × Counters)).trans (embR : Emb (UP × Counters) (𝕄 F))

instance EP_landsIn : (EP (F := F)).LandsIn (upEmb : UEmb _ (𝕄 F)) := by
  unfold EP; infer_instance

/-- The pipelines' tables: none. -/
def adm : (p : Fin 2) → (pcfgs (F := F) p).Adm := fun p => (cfgs p).toPCfg_adm

theorem pinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- One pipeline's share of the ghost state on core `d`. -/
def ghost (p : Fin 2) (d : Dev nD) : sProp (𝕄 F) :=
  iprop(Pipeline.cellsGhost (Pipeline.pin (pcfgs (F := F)) adm) EP p d ∗ Pipeline.toksInit (Pipeline.pin (pcfgs (F := F)) adm) EP p d)

def ghosts (d : Dev nD) : sProp (𝕄 F) := bigSep Finset.univ fun p => ghost p d

variable [FloatOps F]
variable (m : (ℓ : Loc nD τ sig) → Buf (Elt F) ℓ)

theorem hu₀ : (ownU (u₀ (F := F)) : sProp (𝕄 F))
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (gin m)).x q thr) := by
  have hg : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp (𝕄 F))))
      ⊢ bigSep Finset.univ fun d : Dev nD => ghosts d := by
    unfold ghosts ghost
    simp only [bigSep_sep']
    exact BI.Entails.refl _
  unfold u₀
  iintro Hu
  ihave H := (ownU_pair (initOf (K (F := F)).hsCells (K (F := F)).hsToks) _) $$ Hu
  icases H with ⟨HH, HR⟩
  ihave H := (own_pair_emb (embR : Emb (UP × Counters) (𝕄 F)) _ (1 : Counters)) $$ HR
  icases H with ⟨HP, -⟩
  imod ((show BI.own (((Emb.inl : Emb UP (UP × Counters)).trans (embR : Emb (UP × Counters) (𝕄 F))) _) ⊢ _ from Pipeline.fund_ghost (Pipeline.pin (pcfgs (F := F)) adm) EP pinj)) $$ HP with HG
  imodintro
  isplitl [HH]; · iexact HH
  isplitl [HG]; · iapply hg; iexact HG
  rw [show (bigSep Finset.univ fun thr : Thread nD τ => bigSep Finset.univ fun q : Fin 1 => (P (gin m)).x q thr) = bigSep Finset.univ fun _ => (BI.emp : sProp (𝕄 F)) from
    bigSep_congr fun _ _ => bigSep_univ_of_subsingleton (0 : Fin 1), bigSep_emp_const]
  iempintro

/-! ## A region's step in @main -/

theorem region_step {p : Fin 2} {pdats : (p : Fin 2) → (c : Dev nD) → Pipeline.Dat τ (Elt F) (HIx 1) ℕ UU ℕ (Pipeline.pin (pcfgs (F := F)) adm p) c}
    (R : Pipeline.RegionSeg (pcfgs (F := F)) adm pdats none defs₀ 𝒱₀ (K (F := F)).L (K (F := F)).lev p) (c : Dev nD)
    (A B : sProp (𝕄 F)) (hA : A ⊢ R.pre c) (hB : R.post c ⊢ B) (Q : PUnit → sProp (𝕄 F)) :
    iprop((iprop(boundary (c.tc : Thread nD τ) ∗ B) -∗ Q ⟨⟩)
        ∗ boundary (c.tc : Thread nD τ) ∗ A ∗ levAts (K (F := F)).L (K (F := F)).lev ∗ ghost p c)
      ⊢ wp frame (wpE ((K (F := F)).defs (D (F := F))) 𝒱 (T c) none) Set.univ (enter p) Q := by
  have h1 := (K (F := F)).wp_liftProg (D (F := F)) 𝒱 (T c) Set.univ none (.op (.customCall (Pipeline.entry p) ()) fun x => .ret x) Q
  have h2 := Pipeline.RegionSeg.wp (pcfgs (F := F)) adm pdats none pinj EP defs₀ 𝒱₀ (K (F := F)).L (K (F := F)).lev R c none (fun _ h => absurd h (Option.not_mem_none _)) (fun x => .ret x) Q
  unfold ghost
  iintro ⟨Hk, Hb, Hpre, Hl, Hg, Ht⟩
  iapply h1
  iapply h2
  isplitl [Hk]
  · iintro H
    rw [wp_ret]; imodintro
    icases H with ⟨Hb, Hp⟩
    iapply Hk
    isplitl [Hb]; · iexact Hb
    iapply hB; iexact Hp
  isplitl [Hb]; · iexact Hb
  isplitl [Hpre]; · iapply hA; iexact Hpre
  isplitl [Hl]; · iexact Hl
  isplitl [Hg] <;> iassumption

/-! ## The TensorCore's handshake state: what it owes, and the rest -/

/-- The TensorCore's handshake state but what it owes. -/
def tcRest (d : Dev nD) (n : ℕ) : sProp (𝕄 F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

omit [FloatOps F] in
theorem tcSt_eq (d : Dev nD) (n : ℕ) : ((K (F := F)).tcSt EH d n : sProp (𝕄 F)) = iprop(owing d n ∗ tcRest d n) := rfl

/-! ## The call's operands among the TensorCore's buffers -/

/-- The buffers the call reads and writes. -/
abbrev callRefs : List (Ref sig .tc) := [main_v46_0, main_v53, main_v63_0, main_v46_1, main_v56, main_v63_1]
def callSet : Finset (DevRef τ sig) := (callRefs.map (Proc.devRef (τ := τ) .tc)).toFinset

omit [FloatOps F] in
theorem callSet_sub : callSet ⊆ ucRefs := by
  intro b hb
  obtain ⟨r, hr, rfl⟩ := List.mem_map.mp (List.mem_toFinset.mp hb)
  refine uc_mem r ?_
  revert r
  decide

omit [FloatOps F] in
theorem held_call (c : Dev nD) (W : Valuation τ sig (Elt F)) : (StableHlo.held (c.tc : Thread nD τ) callSet W : sProp (𝕄 F)) =
    iprop((zLoc1 c ↦{fullShare} W (Proc.devRef .tc main_v46_0)) ∗ (iLoc1 c ↦{fullShare} W (Proc.devRef .tc main_v53))
      ∗ (oLoc1 c ↦{fullShare} W (Proc.devRef .tc main_v63_0))
      ∗ (zLoc2 c ↦{fullShare} W (Proc.devRef .tc main_v46_1)) ∗ (iLoc2 c ↦{fullShare} W (Proc.devRef .tc main_v56))
      ∗ oLoc2 c ↦{fullShare} W (Proc.devRef .tc main_v63_1)) := by
  unfold StableHlo.held callSet
  have hnd : (callRefs.map (Proc.devRef (τ := τ) .tc)).Nodup :=
    List.Nodup.map (Proc.devRef_injective _) (by decide)
  rw [bigSep_eq_bigSepL _ hnd]
  rfl

set_option maxHeartbeats 4000000 in
/-- @main on the TensorCore of device `d`. -/
theorem hmain (g : Dev nD → PrngReg) (κ : GSem nD τ sig → ℕ) (d : Dev nD) :
    iprop((K (F := F)).ctx EH (P (gin m)) κ ∗ (K (F := F)).tcSt EH d 0 ∗ (K (F := F)).tcRes m g d ∗ ghosts d)
      ⊢ wp frame (wpE ((K (F := F)).defs (D (F := F))) 𝒱 (T d) none) Set.univ (main d)
          fun _ => iprop((K (F := F)).tcSt EH d 1 ∗ StableHlo.held (d.tc : Thread nD τ) ucRefs (W6 m d) ∗ (K (F := F)).tcEnd d) := by
  unfold SparseCore.Cfg.tcRes SparseCore.Cfg.tcEnd ghosts
  rw [main_eq, tcSt_eq, bigSep_univ_two]
  iintro ⟨#Hctx, ⟨HO, HT⟩, ⟨Hb, Hu, Hts, -⟩, Hg0, Hg1⟩
  ihave #Hlev := ((K (F := F)).ctx_levAts κ) $$ Hctx
  ihave Hu := (Entails.of_eq (unscopedBufs_held d (W0 m d))) $$ Hu
  -- the first line
  iapply (StableHlo.wp_seq (defs := (K (F := F)).defs (D (F := F))) 𝒱 none Set.univ d ucRefs _ opsA touchA freshA (W0 m d)) $$ [Hb Hu]
  · isplitl [Hb] <;> iassumption
  iintro ⟨Hb, Hu⟩
  ihave Hu := (show (StableHlo.held (d.tc : Thread nD τ) ucRefs (StableHlo.after opsA (W0 m d)) : sProp (𝕄 F))
      ⊢ StableHlo.held (d.tc : Thread nD τ) ucRefs (W1 m d) from BI.Entails.refl _) $$ Hu
  -- the scan
  rw [wp_bind]
  iapply (region_step (scanReg (fun c b => W1 m c (Proc.devRef .tc b)) adm (fun c b => W2 m c (Proc.devRef .tc b)) (W2_out1 m) (W2_out2 m) (W2_ne m)) d
    iprop(StableHlo.held (d.tc : Thread nD τ) ucRefs (W1 m d) ∗ owing (F := F) d 0)
    iprop(StableHlo.held (d.tc : Thread nD τ) ucRefs (W2 m d) ∗ owing (F := F) d 0)
    (sep_mono (Entails.of_eq (unscopedBufs_held d (W1 m d)).symm) (Entails.of_eq rfl))
    (sep_mono (Entails.of_eq (unscopedBufs_held d (W2 m d))) (Entails.of_eq rfl)) _)
  isplitr [HO Hb Hu Hg0]
  swap
  · isplitl [Hb]; · iexact Hb
    isplitl [HO Hu]
    · isplitl [Hu]; · iexact Hu
      iexact HO
    isplitr; · iexact Hlev
    iexact Hg0
  iintro ⟨Hb, Hpost⟩
  icases Hpost with ⟨Hu, HO⟩
  -- the second line
  iapply (StableHlo.wp_seq (defs := (K (F := F)).defs (D (F := F))) 𝒱 none Set.univ d ucRefs _ opsB touchB freshB (W2 m d)) $$ [Hb Hu]
  · isplitl [Hb] <;> iassumption
  iintro ⟨Hb, Hu⟩
  ihave Hu := (show (StableHlo.held (d.tc : Thread nD τ) ucRefs (StableHlo.after opsB (W2 m d)) : sProp (𝕄 F))
      ⊢ iprop(goAll d (gin m) ∗ StableHlo.held (d.tc : Thread nD τ) (ucRefs \ callSet) (W4 m d)) from by
    rw [show StableHlo.after opsB (W2 m d) = W3 m d from rfl, StableHlo.held_sub_split _ callSet_sub, held_call]
    refine sep_mono ?_ (Entails.of_eq ?_)
    · unfold goAll
      iintro ⟨H1, H2, H3, H4, H5, H6⟩
      isplitl [H1 H2 H3]
      · isplitl [H1]; · iexact H1
        isplitl [H2]; · iexact H2
        iexists _; iexact H3
      · isplitl [H4]; · iexact H4
        isplitl [H5]; · iexact H5
        iexists _; iexact H6
    · unfold StableHlo.held
      refine bigSep_congr fun b hb => ?_
      have hn : ∀ r ∈ callRefs, b ≠ Proc.devRef .tc r := fun r hr e =>
        (Finset.mem_sdiff.mp hb).2 (List.mem_toFinset.mpr (List.mem_map.mpr ⟨r, hr, e.symm⟩))
      rw [W4_ne m d b (hn _ (by decide)) (hn _ (by decide))]) $$ Hu
  icases Hu with ⟨Hgo, Hu⟩
  -- the gather
  rw [wp_bind]
  iapply ((K (F := F)).wp_run (D (F := F)) 𝒱 (EH := EH) (P := P (gin m)) κ d 0)
  isplitr; · iexact Hctx
  isplitl [HO HT]
  · iapply (Entails.of_eq (tcSt_eq d 0).symm)
    isplitl [HO] <;> iassumption
  isplitl [Hgo]
  · iapply (st_all d (gin m)); iexact Hgo
  iintro ⟨Hst, Hdn⟩
  ihave Hdn := (Entails.of_eq (dn_all d (gin m))) $$ Hdn
  ihave Hst := (show (K (F := F)).tcSt EH d ((0 : Fin 1).val + 1) ⊢ iprop(owing (F := F) d 1 ∗ tcRest d 1) from Entails.of_eq (tcSt_eq d 1)) $$ Hst
  icases Hst with ⟨HO, HT⟩
  ihave Hu := (show iprop(tdAll d (gin m) ∗ StableHlo.held (d.tc : Thread nD τ) (ucRefs \ callSet) (W4 m d))
      ⊢ (StableHlo.held (d.tc : Thread nD τ) ucRefs (W4 m d) : sProp (𝕄 F)) from by
    rw [StableHlo.held_sub_split _ callSet_sub (W4 m d), held_call, W4_out1, W4_out2,
      W4_ne m d _ (StableHlo.devRef_ne_of_ne (show main_v46_0 ≠ main_v63_0 by decide)) (StableHlo.devRef_ne_of_ne (show main_v46_0 ≠ main_v63_1 by decide)),
      W4_ne m d _ (StableHlo.devRef_ne_of_ne (show main_v53 ≠ main_v63_0 by decide)) (StableHlo.devRef_ne_of_ne (show main_v53 ≠ main_v63_1 by decide)),
      W4_ne m d _ (StableHlo.devRef_ne_of_ne (show main_v46_1 ≠ main_v63_0 by decide)) (StableHlo.devRef_ne_of_ne (show main_v46_1 ≠ main_v63_1 by decide)),
      W4_ne m d _ (StableHlo.devRef_ne_of_ne (show main_v56 ≠ main_v63_0 by decide)) (StableHlo.devRef_ne_of_ne (show main_v56 ≠ main_v63_1 by decide))]
    refine sep_mono ?_ (Entails.of_eq rfl)
    unfold tdAll
    iintro ⟨⟨H1, H2, H3⟩, H4, H5, H6⟩
    isplitl [H1]; · iexact H1
    isplitl [H2]; · iexact H2
    isplitl [H3]; · iexact H3
    isplitl [H4]; · iexact H4
    isplitl [H5]; · iexact H5
    iexact H6) $$ [Hdn Hu]
  · isplitl [Hdn] <;> iassumption
  -- the third line
  iapply (StableHlo.wp_seq (defs := (K (F := F)).defs (D (F := F))) 𝒱 none Set.univ d ucRefs _ opsC touchC freshC (W4 m d)) $$ [Hb Hu]
  · isplitl [Hb] <;> iassumption
  iintro ⟨Hb, Hu⟩
  ihave Hu := (show (StableHlo.held (d.tc : Thread nD τ) ucRefs (StableHlo.after opsC (W4 m d)) : sProp (𝕄 F))
      ⊢ StableHlo.held (d.tc : Thread nD τ) ucRefs (W5 m d) from BI.Entails.refl _) $$ Hu
  -- the network
  iapply (region_step (mlpReg (fun c b => W5 m c (Proc.devRef .tc b)) adm (fun c b => W6 m c (Proc.devRef .tc b)) (W6_out m) (W6_ne m)) d
    iprop(StableHlo.held (d.tc : Thread nD τ) ucRefs (W5 m d) ∗ owing (F := F) d 1)
    iprop(StableHlo.held (d.tc : Thread nD τ) ucRefs (W6 m d) ∗ owing (F := F) d 1)
    (sep_mono (Entails.of_eq (unscopedBufs_held d (W5 m d)).symm) (Entails.of_eq rfl))
    (sep_mono (Entails.of_eq (unscopedBufs_held d (W6 m d))) (Entails.of_eq rfl)) _)
  isplitr [HO Hb Hu Hg1]
  swap
  · isplitl [Hb]; · iexact Hb
    isplitl [HO Hu]
    · isplitl [Hu]; · iexact Hu
      iexact HO
    isplitr; · iexact Hlev
    iexact Hg1
  iintro ⟨Hb, Hpost⟩
  icases Hpost with ⟨Hu, HO⟩
  isplitl [HO HT]
  · iapply (Entails.of_eq (tcSt_eq d 1).symm)
    isplitl [HO] <;> iassumption
  isplitl [Hu]; · iexact Hu
  isplitl [Hb] <;> iassumption

/-! ## The final memory -/

/-- Every unscoped buffer of device `d`'s TensorCore at its last stage. -/
def fq (d : Dev nD) (s' : Phys nD τ sig (Elt F)) : Prop := ∀ b ∈ ucRefs, s'.mem.mem (d, b) = W6 m d b

theorem hfin (d : Dev nD) (s' : Phys nD τ sig (Elt F)) :
    iprop(StableHlo.held (d.tc : Thread nD τ) ucRefs (W6 m d) ∗ SI s') ⊢ (⌜fq m d s'⌝ : sProp (𝕄 F)) := by
  have h : ∀ b (hb : b ∈ ucRefs), iprop(StableHlo.held (d.tc : Thread nD τ) ucRefs (W6 m d) ∗ SI s')
      ⊢ (⌜s'.mem.mem (d, b) = W6 m d b⌝ : sProp (𝕄 F)) := by
    intro b hb
    unfold StableHlo.held
    rw [SparseCore.bigSep_erase' hb]
    iintro ⟨⟨H, -⟩, HSI⟩
    ihave H := (SI_pointsTo_agree (st := s') (ℓ := (d, b)) (I := Finset.univ) (q := fullShare) (f := W6 m d b)) $$ [HSI H]
    · isplitl [HSI] <;> iassumption
    icases H with %h
    ipureintro; exact funext fun i => h i (Finset.mem_univ i)
  unfold fq
  refine (BI.Laws.forall_intro fun b => ?_).trans Laws.pure_forall.2
  exact (BI.Laws.forall_intro fun hb => h b hb).trans Laws.pure_forall.2

/-- What a run of the program leaves. -/
def QC : PUnit × MemSt nD τ sig (Elt F) → Prop := fun r =>
  (∀ (d : Dev nD), ∀ b ∈ ucRefs, r.2.mem (d, b) = W6 m d b) ∧ r.2.sem = fun _ => 0

theorem facts : (K (F := F)).Facts := ⟨show sc_start ≠ sc_taskDone by decide, show (SemLoc.reg sc_start : SemLoc sig).isScoped .scScalar = false by decide,
  show (SemLoc.reg sc_taskDone : SemLoc sig).isScoped .scScalar = false by decide, show (SemLoc.reg sc_go : SemLoc sig).isScoped .scVector = false by decide,
  show (SemLoc.reg sc_done : SemLoc sig).isScoped .tc = false by decide,
  show ∀ (b : DevRef τ sig) (c : Fin τ.nSC), b.owner = .sc c → sig.taskShared b.table b.idx = false by decide, fun _ => rfl⟩

/-- The program runs to its end from any memory; its TensorCore's buffers are then at the last stage, its semaphores at zero. -/
theorem run_main [∀ e, Nonempty (Elt F e)] (g : Dev nD → PrngReg) :
    θ_run (Cert.KernelIdeal.defs (F := F)) (Cert.KernelIdeal.threads (F := F)) ⟨m, fun _ => 0, g⟩ (QC m) :=
  SparseCore.Cfg.θ_run_sc_quiescent (K := K (F := F)) (D := D (F := F)) (𝒱 := 𝒱) (EH := EH) (P := P (gin m)) (A := ∅) facts v₀
    (fun q hq => match q with | 0 => nomatch hq)
    (fun q _ => match q with | 0 => tileObl (gin m) (ids1 m) (ids2 m) facts)
    (fun q _ => match q with | 0 => SparseCore.Cfg.VecSplit.of_plain (vecSplit (gin m)))
    m g main (fun d => ghosts d) (fun d => StableHlo.held (d.tc : Thread nD τ) ucRefs (W6 m d)) (u₀ (F := F)) (sep_elim_left.trans (hu₀ m)) (hmain m g)
    (fq m) (hfin m) (QC m) (fun _ h hz => ⟨h, hz⟩)

end Cert.Proof

end
-- ==== Proof.Ref.lean ====
/-
  The reference's run: host operations only, as three straight lines (the customers' rows, the products' rows, the
  network).
-/
module

public import proofs.«01_k».proof.Defs
public import proofs.«01_k».proof.Proof.Gen.ReferenceIdeal
public import Idealize.ShloMosaic.Lib.StableHlo.RunRead
public import Idealize.ShloMosaic.Lib.Quiescent

@[expose] public section

noncomputable section

namespace Cert.Proof.R

open Cert.ReferenceIdeal Cert.ReferenceIdeal.Gen

open Idealize.ShloMosaic
open Idealize.SL.Sem

variable {F : FTy → Type} [FloatOps F]

/-- The customers' rows. -/
def ops1 : List (HloOp τ sig (Elt F)) :=
  [StableHlo.unary main_arg0 main_v0 ((extractStridedSlice S16384x1 ![0, 0] · slices_S16384x2_S16384x1_0_0) : (⟨S16384x2, .i32⟩ : BufTy).Contents (Elt F) → (⟨S16384x1, .i32⟩ : BufTy).Contents (Elt F)),
   StableHlo.reshape main_v0 main_v1 (rfl : (.i32 : EltTy) = .i32) shapeCasts_S16384x1_S16384,
   StableHlo.TRef.nullary main_call0.c (constantI S_ 32 0#32),
   StableHlo.TRef.unary main_call0.c main_call0.v0 (broadcastInDim S16384 ![] bcast_S_S16384),
   StableHlo.TRef.binary (.of main_v1 : StableHlo.TRef sig ⟨S16384, .i32⟩) main_call0.v0 main_call0.v1 (cmpi .slt),
   StableHlo.TRef.nullary main_call0.c_0 (constantI S_ 32 1000000#32),
   StableHlo.TRef.unary main_call0.c_0 main_call0.v2 (broadcastInDim S16384 ![] bcast_S_S16384),
   StableHlo.TRef.binary (.of main_v1 : StableHlo.TRef sig ⟨S16384, .i32⟩) main_call0.v2 main_call0.v3 addi,
   StableHlo.TRef.ternary main_call0.v1 main_call0.v3 (.of main_v1 : StableHlo.TRef sig ⟨S16384, .i32⟩) main_call0_call0.v0 select,
   StableHlo.TRef.unary main_call0.call0.v0 main_call0.v5 (broadcastInDim S16384x1 ![0] bcast_S16384_S16384x1_0),
   StableHlo.TRef.nullary main_call0.c_1 (constantI S1 32 999999#32),
   StableHlo.TRef.nullary main_call0.c_2 (constantI S_ 32 0#32),
   StableHlo.TRef.unary main_call0.c_2 main_call0.v6 (broadcastInDim S16384x1 ![] bcast_S_S16384x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S16384x1 ![0, 1] bcast_S1x1_S16384x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S16384x1_S16384_d1 h_S_),
   StableHlo.TRef.binary (.of main_arg1 : StableHlo.TRef sig ⟨S1000000x32, .f32⟩) main_call0.v5 main_call0.v13 (fun x i => Host.gather gather_S1000000x32_S16384x1_S16384x32_1_0_n_n_0_1_132 x i),
   StableHlo.TRef.unary main_call0.v12 main_call0.v14 (broadcastInDim S16384x32 ![0] bcast_S16384_S16384x32_0),
   StableHlo.TRef.nullary main_call0.cst (constant S_ .f32 0x7FC00000#32),
   StableHlo.TRef.unary main_call0.cst main_call0.v15 (broadcastInDim S16384x32 ![] bcast_S_S16384x32),
   StableHlo.TRef.ternary main_call0.v14 main_call0.v13 main_call0.v15 main_call0.v16 select]

/-- The products' rows. -/
def ops2 : List (HloOp τ sig (Elt F)) :=
  [StableHlo.unary main_arg0 main_v3 ((extractStridedSlice S16384x1 ![0, 1] · slices_S16384x2_S16384x1_0_1) : (⟨S16384x2, .i32⟩ : BufTy).Contents (Elt F) → (⟨S16384x1, .i32⟩ : BufTy).Contents (Elt F)),
   StableHlo.reshape main_v3 main_v4 (rfl : (.i32 : EltTy) = .i32) shapeCasts_S16384x1_S16384,
   StableHlo.TRef.nullary main_call1.c (constantI S_ 32 0#32),
   StableHlo.TRef.unary main_call1.c main_call1.v0 (broadcastInDim S16384 ![] bcast_S_S16384),
   StableHlo.TRef.binary (.of main_v4 : StableHlo.TRef sig ⟨S16384, .i32⟩) main_call1.v0 main_call1.v1 (cmpi .slt),
   StableHlo.TRef.nullary main_call1.c_0 (constantI S_ 32 1000000#32),
   StableHlo.TRef.unary main_call1.c_0 main_call1.v2 (broadcastInDim S16384 ![] bcast_S_S16384),
   StableHlo.TRef.binary (.of main_v4 : StableHlo.TRef sig ⟨S16384, .i32⟩) main_call1.v2 main_call1.v3 addi,
   StableHlo.TRef.ternary main_call1.v1 main_call1.v3 (.of main_v4 : StableHlo.TRef sig ⟨S16384, .i32⟩) main_call1_call0.v0 select,
   StableHlo.TRef.unary main_call1.call0.v0 main_call1.v5 (broadcastInDim S16384x1 ![0] bcast_S16384_S16384x1_0),
   StableHlo.TRef.nullary main_call1.c_1 (constantI S1 32 999999#32),
   StableHlo.TRef.nullary main_call1.c_2 (constantI S_ 32 0#32),
   StableHlo.TRef.unary main_call1.c_2 main_call1.v6 (broadcastInDim S16384x1 ![] bcast_S_S16384x1),
   StableHlo.TRef.binary main_call1.v5 main_call1.v6 main_call1.v7 (cmpi .sge),
   StableHlo.TRef.unary main_call1.c_1 main_call1.v8 (broadcastInDim S1x1 ![1] bcast_S1_S1x1_1),
   StableHlo.TRef.unary main_call1.v8 main_call1.v9 (broadcastInDim S16384x1 ![0, 1] bcast_S1x1_S16384x1_0_1),
   StableHlo.TRef.binary main_call1.v5 main_call1.v9 main_call1.v10 (cmpi .sle),
   StableHlo.TRef.binary main_call1.v7 main_call1.v10 main_call1.v11 andi,
   StableHlo.TRef.nullary main_call1.c_3 (constantI S_ 1 1#1),
   StableHlo.TRef.binary main_call1.v11 main_call1.c_3 main_call1.v12 (fun x v => Host.reduce IntOp.andi x v reducesTo_S16384x1_S16384_d1 h_S_),
   StableHlo.TRef.binary (.of main_arg2 : StableHlo.TRef sig ⟨S1000000x32, .f32⟩) main_call1.v5 main_call1.v13 (fun x i => Host.gather gather_S1000000x32_S16384x1_S16384x32_1_0_n_n_0_1_132 x i),
   StableHlo.TRef.unary main_call1.v12 main_call1.v14 (broadcastInDim S16384x32 ![0] bcast_S16384_S16384x32_0),
   StableHlo.TRef.nullary main_call1.cst (constant S_ .f32 0x7FC00000#32),
   StableHlo.TRef.unary main_call1.cst main_call1.v15 (broadcastInDim S16384x32 ![] bcast_S_S16384x32),
   StableHlo.TRef.ternary main_call1.v14 main_call1.v13 main_call1.v15 main_call1.v16 select]

/-- The network. -/
def ops3 : List (HloOp τ sig (Elt F)) :=
  [StableHlo.binary main_v2 main_arg3 main_v6 ((fun l r => Host.dotGeneral dot_S16384x32_S32x10_S16384x10_1_0_0_1_n_n none l r) : (⟨S16384x32, .f32⟩ : BufTy).Contents (Elt F) → (⟨S32x10, .f32⟩ : BufTy).Contents (Elt F) → (⟨S16384x10, .f32⟩ : BufTy).Contents (Elt F)),
   StableHlo.unary main_arg4 main_v7 (broadcastInDim S1x10 ![1] bcast_S10_S1x10_1 : (⟨S10, .f32⟩ : BufTy).Contents (Elt F) → (⟨S1x10, .f32⟩ : BufTy).Contents (Elt F)),
   StableHlo.unary main_v7 main_v8 (broadcastInDim S16384x10 ![0, 1] bcast_S1x10_S16384x10_0_1 : (⟨S1x10, .f32⟩ : BufTy).Contents (Elt F) → (⟨S16384x10, .f32⟩ : BufTy).Contents (Elt F)),
   StableHlo.binary main_v6 main_v8 main_v9 (addf : (⟨S16384x10, .f32⟩ : BufTy).Contents (Elt F) → (⟨S16384x10, .f32⟩ : BufTy).Contents (Elt F) → (⟨S16384x10, .f32⟩ : BufTy).Contents (Elt F)),
   StableHlo.TRef.nullary main_call2.cst (constant S_ .f32 0x00000000#32),
   StableHlo.TRef.unary main_call2.cst main_call2.v0 (broadcastInDim S16384x10 ![] bcast_S_S16384x10),
   StableHlo.TRef.binary (.of main_v9 : StableHlo.TRef sig ⟨S16384x10, .f32⟩) main_call2.v0 main_call2.v1 maximumf,
   StableHlo.binary main_v5 main_arg5 main_v11 ((fun l r => Host.dotGeneral dot_S16384x32_S32x10_S16384x10_1_0_0_1_n_n none l r) : (⟨S16384x32, .f32⟩ : BufTy).Contents (Elt F) → (⟨S32x10, .f32⟩ : BufTy).Contents (Elt F) → (⟨S16384x10, .f32⟩ : BufTy).Contents (Elt F)),
   StableHlo.unary main_arg6 main_v12 (broadcastInDim S1x10 ![1] bcast_S10_S1x10_1 : (⟨S10, .f32⟩ : BufTy).Contents (Elt F) → (⟨S1x10, .f32⟩ : BufTy).Contents (Elt F)),
   StableHlo.unary main_v12 main_v13 (broadcastInDim S16384x10 ![0, 1] bcast_S1x10_S16384x10_0_1 : (⟨S1x10, .f32⟩ : BufTy).Contents (Elt F) → (⟨S16384x10, .f32⟩ : BufTy).Contents (Elt F)),
   StableHlo.binary main_v11 main_v13 main_v14 (addf : (⟨S16384x10, .f32⟩ : BufTy).Contents (Elt F) → (⟨S16384x10, .f32⟩ : BufTy).Contents (Elt F) → (⟨S16384x10, .f32⟩ : BufTy).Contents (Elt F)),
   StableHlo.TRef.nullary main_call3.cst (constant S_ .f32 0x00000000#32),
   StableHlo.TRef.unary main_call3.cst main_call3.v0 (broadcastInDim S16384x10 ![] bcast_S_S16384x10),
   StableHlo.TRef.binary (.of main_v14 : StableHlo.TRef sig ⟨S16384x10, .f32⟩) main_call3.v0 main_call3.v1 maximumf,
   StableHlo.binary main_v10 main_v15 main_v16 ((fun a b => concatenate S16384x20 1 [⟨S16384x10, a⟩, ⟨S16384x10, b⟩] concatenates_S16384x10_S16384x10_S16384x20_d1) : (⟨S16384x10, .f32⟩ : BufTy).Contents (Elt F) → (⟨S16384x10, .f32⟩ : BufTy).Contents (Elt F) → (⟨S16384x20, .f32⟩ : BufTy).Contents (Elt F)),
   StableHlo.binary main_v16 main_arg7 main_v17 ((fun l r => Host.dotGeneral dot_S16384x20_S20x10_S16384x10_1_0_0_1_n_n none l r) : (⟨S16384x20, .f32⟩ : BufTy).Contents (Elt F) → (⟨S20x10, .f32⟩ : BufTy).Contents (Elt F) → (⟨S16384x10, .f32⟩ : BufTy).Contents (Elt F)),
   StableHlo.unary main_arg8 main_v18 (broadcastInDim S1x10 ![1] bcast_S10_S1x10_1 : (⟨S10, .f32⟩ : BufTy).Contents (Elt F) → (⟨S1x10, .f32⟩ : BufTy).Contents (Elt F)),
   StableHlo.unary main_v18 main_v19 (broadcastInDim S16384x10 ![0, 1] bcast_S1x10_S16384x10_0_1 : (⟨S1x10, .f32⟩ : BufTy).Contents (Elt F) → (⟨S16384x10, .f32⟩ : BufTy).Contents (Elt F)),
   StableHlo.binary main_v17 main_v19 main_v20 (addf : (⟨S16384x10, .f32⟩ : BufTy).Contents (Elt F) → (⟨S16384x10, .f32⟩ : BufTy).Contents (Elt F) → (⟨S16384x10, .f32⟩ : BufTy).Contents (Elt F)),
   StableHlo.TRef.nullary main_call4.cst (constant S_ .f32 0x00000000#32),
   StableHlo.TRef.unary main_call4.cst main_call4.v0 (broadcastInDim S16384x10 ![] bcast_S_S16384x10),
   StableHlo.TRef.binary (.of main_v20 : StableHlo.TRef sig ⟨S16384x10, .f32⟩) main_call4.v0 main_call4.v1 maximumf,
   StableHlo.binary main_v21 main_arg9 main_v22 ((fun l r => Host.dotGeneral dot_S16384x10_S10x1_S16384x1_1_0_0_1_n_n none l r) : (⟨S16384x10, .f32⟩ : BufTy).Contents (Elt F) → (⟨S10x1, .f32⟩ : BufTy).Contents (Elt F) → (⟨S16384x1, .f32⟩ : BufTy).Contents (Elt F)),
   StableHlo.unary main_arg10 main_v23 (broadcastInDim S1x1 ![1] bcast_S1_S1x1_1 : (⟨S1, .f32⟩ : BufTy).Contents (Elt F) → (⟨S1x1, .f32⟩ : BufTy).Contents (Elt F)),
   StableHlo.unary main_v23 main_v24 (broadcastInDim S16384x1 ![0, 1] bcast_S1x1_S16384x1_0_1 : (⟨S1x1, .f32⟩ : BufTy).Contents (Elt F) → (⟨S16384x1, .f32⟩ : BufTy).Contents (Elt F)),
   StableHlo.binary main_v22 main_v24 main_v25 (addf : (⟨S16384x1, .f32⟩ : BufTy).Contents (Elt F) → (⟨S16384x1, .f32⟩ : BufTy).Contents (Elt F) → (⟨S16384x1, .f32⟩ : BufTy).Contents (Elt F)),
   StableHlo.unary main_v25 main_v26 (Host.negf : (⟨S16384x1, .f32⟩ : BufTy).Contents (Elt F) → (⟨S16384x1, .f32⟩ : BufTy).Contents (Elt F)),
   StableHlo.unary main_v26 main_v27 (Host.exp : (⟨S16384x1, .f32⟩ : BufTy).Contents (Elt F) → (⟨S16384x1, .f32⟩ : BufTy).Contents (Elt F)),
   StableHlo.nullary main_cst (constant S_ .f32 0x3F800000#32),
   StableHlo.unary main_cst main_v28 (broadcastInDim S16384x1 ![] bcast_S_S16384x1 : (⟨S_, .f32⟩ : BufTy).Contents (Elt F) → (⟨S16384x1, .f32⟩ : BufTy).Contents (Elt F)),
   StableHlo.binary main_v28 main_v27 main_v29 (addf : (⟨S16384x1, .f32⟩ : BufTy).Contents (Elt F) → (⟨S16384x1, .f32⟩ : BufTy).Contents (Elt F) → (⟨S16384x1, .f32⟩ : BufTy).Contents (Elt F)),
   StableHlo.nullary main_cst_0 (constant S_ .f32 0x3F800000#32),
   StableHlo.unary main_cst_0 main_v30 (broadcastInDim S16384x1 ![] bcast_S_S16384x1 : (⟨S_, .f32⟩ : BufTy).Contents (Elt F) → (⟨S16384x1, .f32⟩ : BufTy).Contents (Elt F)),
   StableHlo.binary main_v30 main_v29 main_v31 (Host.divf : (⟨S16384x1, .f32⟩ : BufTy).Contents (Elt F) → (⟨S16384x1, .f32⟩ : BufTy).Contents (Elt F) → (⟨S16384x1, .f32⟩ : BufTy).Contents (Elt F))]

/-- The whole program. -/
def ops : List (HloOp τ sig (Elt F)) := ops1 ++ (ops2 ++ ops3)

set_option maxHeartbeats 4000000 in
set_option maxRecDepth 65536 in
theorem main_eq (d : Dev nD) : main (F := F) d = StableHlo.seq ops := by
  rfl

theorem scoped_refs : (Finset.univ.filter fun b : Ref sig .tc => b.isScoped) = ∅ := by decide
theorem scoped_sems : (Finset.univ.filter fun sm : SemLoc sig => sm.isScoped .tc) = ∅ := by decide

abbrev tcs : Finset (DevRef τ sig) := StableHlo.tcRefs τ sig

theorem touch1 (y : Ref sig .tc) : ({Proc.devRef (τ := τ) .tc y} : Finset (DevRef τ sig)) ⊆ tcs :=
  Finset.singleton_subset_iff.mpr (StableHlo.devRef_mem_tcRefs y)
theorem touch2 (x y : Ref sig .tc) : ({Proc.devRef (τ := τ) .tc x, Proc.devRef .tc y} : Finset (DevRef τ sig)) ⊆ tcs :=
  Finset.insert_subset (StableHlo.devRef_mem_tcRefs x) (touch1 y)
theorem touch3 (a b y : Ref sig .tc) :
    ({Proc.devRef (τ := τ) .tc a, Proc.devRef .tc b, Proc.devRef .tc y} : Finset (DevRef τ sig)) ⊆ tcs :=
  Finset.insert_subset (StableHlo.devRef_mem_tcRefs a) (touch2 b y)
theorem touch4 (a b c y : Ref sig .tc) :
    ({Proc.devRef (τ := τ) .tc a, Proc.devRef .tc b, Proc.devRef .tc c, Proc.devRef .tc y} : Finset (DevRef τ sig)) ⊆ tcs :=
  Finset.insert_subset (StableHlo.devRef_mem_tcRefs a) (touch3 b c y)

/-- What line 1 writes, in order. -/
abbrev wr1 : List (Ref sig .tc) := [main_v0, main_v1, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v2]

set_option maxRecDepth 16384 in
theorem writes1 : (ops1 (F := F)).map HloOp.writes = wr1.map fun w => {Proc.devRef (τ := τ) .tc w} := rfl

set_option maxRecDepth 16384 in
theorem fresh1 : ∀ op ∈ ops1 (F := F), op.fresh = ∅ :=
  List.forall_iff_forall_mem.mp (StableHlo.forall_fresh_of_map rfl)

set_option maxHeartbeats 4000000 in
set_option maxRecDepth 16384 in
theorem touched1 : ∀ op ∈ ops1 (F := F), op.bufs ⊆ tcs :=
  List.forall_iff_forall_mem.mp (show List.Forall _ (ops1 (F := F)) from
    ⟨touch2 main_arg0 main_v0,
     touch2 main_v0 main_v1,
     touch1 main_call0_c,
     touch2 main_call0_c main_call0_v0,
     touch3 main_v1 main_call0_v0 main_call0_v1,
     touch1 main_call0_c_0,
     touch2 main_call0_c_0 main_call0_v2,
     touch3 main_v1 main_call0_v2 main_call0_v3,
     touch4 main_call0_v1 main_call0_v3 main_v1 main_call0_v4,
     touch2 main_call0_v4 main_call0_v5,
     touch1 main_call0_c_1,
     touch1 main_call0_c_2,
     touch2 main_call0_c_2 main_call0_v6,
     touch3 main_call0_v5 main_call0_v6 main_call0_v7,
     touch2 main_call0_c_1 main_call0_v8,
     touch2 main_call0_v8 main_call0_v9,
     touch3 main_call0_v5 main_call0_v9 main_call0_v10,
     touch3 main_call0_v7 main_call0_v10 main_call0_v11,
     touch1 main_call0_c_3,
     touch3 main_call0_v11 main_call0_c_3 main_call0_v12,
     touch3 main_arg1 main_call0_v5 main_call0_v13,
     touch2 main_call0_v12 main_call0_v14,
     touch1 main_call0_cst,
     touch2 main_call0_cst main_call0_v15,
     touch4 main_call0_v14 main_call0_v13 main_call0_v15 main_v2⟩)

theorem kept1 {r : Ref sig .tc} (h : r ∉ wr1) (V : Valuation τ sig (Elt F)) :
    StableHlo.after (ops1 (F := F)) V (Proc.devRef .tc r) = V (Proc.devRef .tc r) :=
  StableHlo.after_unwritten wr1 writes1 h V

/-- What line 2 writes, in order. -/
abbrev wr2 : List (Ref sig .tc) := [main_v3, main_v4, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]

set_option maxRecDepth 16384 in
theorem writes2 : (ops2 (F := F)).map HloOp.writes = wr2.map fun w => {Proc.devRef (τ := τ) .tc w} := rfl

set_option maxRecDepth 16384 in
theorem fresh2 : ∀ op ∈ ops2 (F := F), op.fresh = ∅ :=
  List.forall_iff_forall_mem.mp (StableHlo.forall_fresh_of_map rfl)

set_option maxHeartbeats 4000000 in
set_option maxRecDepth 16384 in
theorem touched2 : ∀ op ∈ ops2 (F := F), op.bufs ⊆ tcs :=
  List.forall_iff_forall_mem.mp (show List.Forall _ (ops2 (F := F)) from
    ⟨touch2 main_arg0 main_v3,
     touch2 main_v3 main_v4,
     touch1 main_call1_c,
     touch2 main_call1_c main_call1_v0,
     touch3 main_v4 main_call1_v0 main_call1_v1,
     touch1 main_call1_c_0,
     touch2 main_call1_c_0 main_call1_v2,
     touch3 main_v4 main_call1_v2 main_call1_v3,
     touch4 main_call1_v1 main_call1_v3 main_v4 main_call1_v4,
     touch2 main_call1_v4 main_call1_v5,
     touch1 main_call1_c_1,
     touch1 main_call1_c_2,
     touch2 main_call1_c_2 main_call1_v6,
     touch3 main_call1_v5 main_call1_v6 main_call1_v7,
     touch2 main_call1_c_1 main_call1_v8,
     touch2 main_call1_v8 main_call1_v9,
     touch3 main_call1_v5 main_call1_v9 main_call1_v10,
     touch3 main_call1_v7 main_call1_v10 main_call1_v11,
     touch1 main_call1_c_3,
     touch3 main_call1_v11 main_call1_c_3 main_call1_v12,
     touch3 main_arg2 main_call1_v5 main_call1_v13,
     touch2 main_call1_v12 main_call1_v14,
     touch1 main_call1_cst,
     touch2 main_call1_cst main_call1_v15,
     touch4 main_call1_v14 main_call1_v13 main_call1_v15 main_v5⟩)

theorem kept2 {r : Ref sig .tc} (h : r ∉ wr2) (V : Valuation τ sig (Elt F)) :
    StableHlo.after (ops2 (F := F)) V (Proc.devRef .tc r) = V (Proc.devRef .tc r) :=
  StableHlo.after_unwritten wr2 writes2 h V

/-- What line 3 writes, in order. -/
abbrev wr3 : List (Ref sig .tc) := [main_v6, main_v7, main_v8, main_v9, main_call2_cst, main_call2_v0, main_v10, main_v11, main_v12, main_v13, main_v14, main_call3_cst, main_call3_v0, main_v15, main_v16, main_v17, main_v18, main_v19, main_v20, main_call4_cst, main_call4_v0, main_v21, main_v22, main_v23, main_v24, main_v25, main_v26, main_v27, main_cst, main_v28, main_v29, main_cst_0, main_v30, main_v31]

set_option maxRecDepth 16384 in
theorem writes3 : (ops3 (F := F)).map HloOp.writes = wr3.map fun w => {Proc.devRef (τ := τ) .tc w} := rfl

set_option maxRecDepth 16384 in
theorem fresh3 : ∀ op ∈ ops3 (F := F), op.fresh = ∅ :=
  List.forall_iff_forall_mem.mp (StableHlo.forall_fresh_of_map rfl)

set_option maxHeartbeats 4000000 in
set_option maxRecDepth 16384 in
theorem touched3 : ∀ op ∈ ops3 (F := F), op.bufs ⊆ tcs :=
  List.forall_iff_forall_mem.mp (show List.Forall _ (ops3 (F := F)) from
    ⟨touch3 main_v2 main_arg3 main_v6,
     touch2 main_arg4 main_v7,
     touch2 main_v7 main_v8,
     touch3 main_v6 main_v8 main_v9,
     touch1 main_call2_cst,
     touch2 main_call2_cst main_call2_v0,
     touch3 main_v9 main_call2_v0 main_v10,
     touch3 main_v5 main_arg5 main_v11,
     touch2 main_arg6 main_v12,
     touch2 main_v12 main_v13,
     touch3 main_v11 main_v13 main_v14,
     touch1 main_call3_cst,
     touch2 main_call3_cst main_call3_v0,
     touch3 main_v14 main_call3_v0 main_v15,
     touch3 main_v10 main_v15 main_v16,
     touch3 main_v16 main_arg7 main_v17,
     touch2 main_arg8 main_v18,
     touch2 main_v18 main_v19,
     touch3 main_v17 main_v19 main_v20,
     touch1 main_call4_cst,
     touch2 main_call4_cst main_call4_v0,
     touch3 main_v20 main_call4_v0 main_v21,
     touch3 main_v21 main_arg9 main_v22,
     touch2 main_arg10 main_v23,
     touch2 main_v23 main_v24,
     touch3 main_v22 main_v24 main_v25,
     touch2 main_v25 main_v26,
     touch2 main_v26 main_v27,
     touch1 main_cst,
     touch2 main_cst main_v28,
     touch3 main_v28 main_v27 main_v29,
     touch1 main_cst_0,
     touch2 main_cst_0 main_v30,
     touch3 main_v30 main_v29 main_v31⟩)

theorem kept3 {r : Ref sig .tc} (h : r ∉ wr3) (V : Valuation τ sig (Elt F)) :
    StableHlo.after (ops3 (F := F)) V (Proc.devRef .tc r) = V (Proc.devRef .tc r) :=
  StableHlo.after_unwritten wr3 writes3 h V

theorem mem_ops {Q : HloOp τ sig (Elt F) → Prop} (h1 : ∀ op ∈ ops1 (F := F), Q op) (h2 : ∀ op ∈ ops2 (F := F), Q op)
    (h3 : ∀ op ∈ ops3 (F := F), Q op) : ∀ op ∈ ops (F := F), Q op := by
  intro op h
  rcases List.mem_append.mp h with h | h
  · exact h1 op h
  · rcases List.mem_append.mp h with h | h
    · exact h2 op h
    · exact h3 op h

theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem after_ops (V : Valuation τ sig (Elt F)) :
    StableHlo.after ops V = StableHlo.after ops3 (StableHlo.after ops2 (StableHlo.after ops1 V)) := by
  unfold ops; rw [after_two, after_two]

theorem kept {r : Ref sig .tc} (h1 : r ∉ wr1) (h2 : r ∉ wr2) (h3 : r ∉ wr3) (V : Valuation τ sig (Elt F)) :
    StableHlo.after ops V (Proc.devRef .tc r) = V (Proc.devRef .tc r) := by
  rw [after_ops, kept3 h3, kept2 h2, kept1 h1]

/-- The reference's run: every buffer ends at the three lines' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) =
        StableHlo.after ops (StableHlo.launchContents m d) (Proc.devRef .tc b) :=
  StableHlo.run_seq scoped_refs scoped_sems defs main (fun _ => ops) main_eq
    (fun _ => List.forall_iff_forall_mem.mpr (mem_ops touched1 touched2 touched3)) m ρ
    (fun _ => mem_ops fresh1 fresh2 fresh3)

theorem no_sems (s : MemSt nD τ sig (Elt F)) : s.sem = fun _ => 0 := sem_eq_zero_of_no_sems (by decide) s

end Cert.Proof.R

end
-- ==== Proof.Same.lean ====
/-
  The kernel and the program read at the ideal instance have one text: their body tables are equal, at any float values.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxHeartbeats 8000000
set_option maxRecDepth 65536

theorem scan_body_eq (t : Fin Cert.KernelIdeal.grid0.N) (s) : Cert.Kernel.defs₀ (F := F) .tc 0 (t, s) = Cert.KernelIdeal.defs₀ (F := F) .tc 0 (t, s) := by
  with_unfolding_all rfl

theorem mlp_body_eq (t : Fin Cert.KernelIdeal.grid2.N) (s) : Cert.Kernel.defs₀ (F := F) .tc 2 (t, s) = Cert.KernelIdeal.defs₀ (F := F) .tc 2 (t, s) := by
  with_unfolding_all rfl

theorem gather_body_eq (c s a) : Cert.Kernel.defs₀ (F := F) (.scVector c s) 1 a = Cert.KernelIdeal.defs₀ (F := F) (.scVector c s) 1 a := by
  with_unfolding_all rfl

theorem defs₀_eq : Cert.Kernel.defs₀ (F := F) = Cert.KernelIdeal.defs₀ (F := F) := by
  refine funext fun p => funext fun l => funext fun a => ?_
  match p, l, a with
  | .tc, ⟨0, _⟩, (t, s) => exact scan_body_eq t s
  | .tc, ⟨1, _⟩, a => with_unfolding_all rfl
  | .tc, ⟨2, _⟩, (t, s) => exact mlp_body_eq t s
  | .scScalar _, ⟨0, _⟩, _ => with_unfolding_all rfl
  | .scScalar _, ⟨1, _⟩, _ => with_unfolding_all rfl
  | .scScalar _, ⟨2, _⟩, _ => with_unfolding_all rfl
  | .scVector _ _, ⟨0, _⟩, _ => with_unfolding_all rfl
  | .scVector c s, ⟨1, _⟩, a => exact gather_body_eq c s a
  | .scVector _ _, ⟨2, _⟩, _ => with_unfolding_all rfl

theorem defs_eq : Cert.Kernel.defs (F := F) = Cert.KernelIdeal.defs (F := F) :=
  (show Cert.Kernel.defs (F := F) = Cert.KernelIdeal.sc.defs (Pipeline.defs Cert.KernelIdeal.pcfgs Cert.Kernel.defs₀) by with_unfolding_all rfl).trans
    (congrArg (fun D => Cert.KernelIdeal.sc.defs (Pipeline.defs Cert.KernelIdeal.pcfgs D)) defs₀_eq)

set_option maxHeartbeats 8000000 in
theorem threads_eq : Cert.Kernel.threads (F := F) = Cert.KernelIdeal.threads (F := F) := rfl

end Cert.Proof

end
-- ==== Proof.Frames.lean ====
/-
  The frames: the kernel's run and the reference's leave their arguments as they were, and every counter at zero.
-/
module

public import proofs.«01_k».proof.Proof.Main
public import proofs.«01_k».proof.Proof.Ref
public import proofs.«01_k».proof.Proof.Same

@[expose] public section

noncomputable section

namespace Cert.Proof

open Idealize.ShloMosaic Idealize.SL.Sem

variable {F : FTy → Type} [FloatOps F]

section kernel

open Cert.KernelIdeal Cert.KernelIdeal.Gen

/-- The arguments, unchanged between two memories. -/
abbrev ArgsSame (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)

set_option maxHeartbeats 4000000 in
theorem args_same [∀ e, Nonempty (Elt F e)] (m : (ℓ : Loc nD τ sig) → Buf (Elt F) ℓ) (m' : (ℓ : Loc nD τ sig) → Buf (Elt F) ℓ)
    (h : ∀ d, ∀ b ∈ ucRefs, m' (d, b) = W6 m d b) (c : Dev nD) : ArgsSame m m' c :=
  ⟨(h c _ (uc_mem main_arg0 rfl)).trans (W6_kept m c main_arg0 (by decide) (by decide) (by decide) (by decide) (by decide) (by decide) (by decide) (by decide)),
   (h c _ (uc_mem main_arg1 rfl)).trans (W6_kept m c main_arg1 (by decide) (by decide) (by decide) (by decide) (by decide) (by decide) (by decide) (by decide)),
   (h c _ (uc_mem main_arg2 rfl)).trans (W6_kept m c main_arg2 (by decide) (by decide) (by decide) (by decide) (by decide) (by decide) (by decide) (by decide)),
   (h c _ (uc_mem main_arg3 rfl)).trans (W6_kept m c main_arg3 (by decide) (by decide) (by decide) (by decide) (by decide) (by decide) (by decide) (by decide)),
   (h c _ (uc_mem main_arg4 rfl)).trans (W6_kept m c main_arg4 (by decide) (by decide) (by decide) (by decide) (by decide) (by decide) (by decide) (by decide)),
   (h c _ (uc_mem main_arg5 rfl)).trans (W6_kept m c main_arg5 (by decide) (by decide) (by decide) (by decide) (by decide) (by decide) (by decide) (by decide)),
   (h c _ (uc_mem main_arg6 rfl)).trans (W6_kept m c main_arg6 (by decide) (by decide) (by decide) (by decide) (by decide) (by decide) (by decide) (by decide)),
   (h c _ (uc_mem main_arg7 rfl)).trans (W6_kept m c main_arg7 (by decide) (by decide) (by decide) (by decide) (by decide) (by decide) (by decide) (by decide)),
   (h c _ (uc_mem main_arg8 rfl)).trans (W6_kept m c main_arg8 (by decide) (by decide) (by decide) (by decide) (by decide) (by decide) (by decide) (by decide)),
   (h c _ (uc_mem main_arg9 rfl)).trans (W6_kept m c main_arg9 (by decide) (by decide) (by decide) (by decide) (by decide) (by decide) (by decide) (by decide)),
   (h c _ (uc_mem main_arg10 rfl)).trans (W6_kept m c main_arg10 (by decide) (by decide) (by decide) (by decide) (by decide) (by decide) (by decide) (by decide))⟩

end kernel

theorem frame_ideal : Cert.quiescent_KernelIdeal := fun m ρ _ =>
  (θ_run Cert.KernelIdeal.defs _ _).mono (fun r h => ⟨args_same m r.2.mem h.1, h.2⟩) (run_main (F := Ideal) m ρ)

set_option maxHeartbeats 4000000 in
set_option maxRecDepth 16384 in
theorem frame_kernel : Cert.quiescent_Kernel := fun m ρ _ => by
  have h : θ_run Cert.KernelIdeal.defs Cert.KernelIdeal.threads ⟨m, fun _ => 0, ρ⟩
      (fun r => (∀ c, ArgsSame (F := Bits) m r.2.mem c) ∧ r.2.sem = fun _ => 0) :=
    (θ_run Cert.KernelIdeal.defs _ _).mono (fun r h => ⟨args_same m r.2.mem h.1, h.2⟩) (run_main (F := Bits) m ρ)
  rw [← defs_eq, ← threads_eq] at h
  exact h

section reference

open Cert.ReferenceIdeal Cert.ReferenceIdeal.Gen

/-- The reference's arguments, unchanged between two memories. -/
abbrev R.ArgsSame (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)

theorem R.args_same (m : (ℓ : Loc nD τ sig) → Buf (Elt F) ℓ) (m' : (ℓ : Loc nD τ sig) → Buf (Elt F) ℓ) (c : Dev nD)
    (h : ∀ b : Ref sig .tc, m' ((c.tc : Thread nD τ).loc b) = StableHlo.after R.ops (StableHlo.launchContents m c) (Proc.devRef .tc b)) :
    R.ArgsSame m m' c :=
  ⟨(h main_arg0).trans (R.kept (by decide) (by decide) (by decide) _),
   (h main_arg1).trans (R.kept (by decide) (by decide) (by decide) _),
   (h main_arg2).trans (R.kept (by decide) (by decide) (by decide) _),
   (h main_arg3).trans (R.kept (by decide) (by decide) (by decide) _),
   (h main_arg4).trans (R.kept (by decide) (by decide) (by decide) _),
   (h main_arg5).trans (R.kept (by decide) (by decide) (by decide) _),
   (h main_arg6).trans (R.kept (by decide) (by decide) (by decide) _),
   (h main_arg7).trans (R.kept (by decide) (by decide) (by decide) _),
   (h main_arg8).trans (R.kept (by decide) (by decide) (by decide) _),
   (h main_arg9).trans (R.kept (by decide) (by decide) (by decide) _),
   (h main_arg10).trans (R.kept (by decide) (by decide) (by decide) _)⟩

end reference

theorem frame_reference : Cert.quiescent_ReferenceIdeal := fun m ρ _ =>
  (θ_run Cert.ReferenceIdeal.defs _ _).mono (fun r h => ⟨fun c => R.args_same m r.2.mem c (h c), R.no_sems r.2⟩)
    (R.run_main (F := Ideal) m ρ)

end Cert.Proof

end
-- ==== Proof.MathBits.lean ====
/-
  Words and bits, as the host's lines and the kernels read them at the ideal instance.
-/
module

public import proofs.«01_k».proof.Proof.State
public import Idealize.ShloMosaic.Lib.Pointwise

@[expose] public section

noncomputable section

namespace Cert.Proof

open Idealize.ShloMosaic

theorem sitofp_zero' : (FloatOps.sitofp (F := Ideal) .f32 (0#32) : EReal) = 0 := by
  show (((0#32).toInt : ℝ) : EReal) = 0
  simp

theorem uitofp_bool (b : Bool) : (FloatOps.uitofp (F := Ideal) .f32 (BitVec.ofBool b) : EReal) = if b then 1 else 0 := by
  cases b
  · show (((BitVec.ofBool false).toNat : ℝ) : EReal) = 0
    simp
  · show (((BitVec.ofBool true).toNat : ℝ) : EReal) = 1
    simp

theorem eq_bit : ∀ a b : Fin 8, IntOp.cmpi .eq (IntOp.addi (BitVec.ofNat 32 a.val) 0#32) (BitVec.ofNat 32 b.val) =
    BitVec.ofBool (decide (a.val = b.val)) := by decide

theorem toInt_small {n : ℕ} (h : n < 2147483648) : (BitVec.ofNat 32 n).toInt = n := by
  rw [BitVec.toInt_eq_toNat_of_lt (by rw [BitVec.toNat_ofNat]; omega), BitVec.toNat_ofNat]; omega

theorem slt_small {a b : ℕ} (ha : a < 2147483648) (hb : b < 2147483648) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt, toInt_small ha, toInt_small hb]
  congr 1
  simp

theorem mask_base : ∀ i : Fin 16, IntOp.muli (IntOp.minsi (IntOp.addi (112#32) (BitVec.ofNat 32 i.val)) 122#32) 8192#32 =
    BitVec.ofNat 32 ((min (112 + i.val) 122) * 8192) := by decide

theorem mask_bit (i : Fin 16) (l : Fin 8192) :
    IntOp.cmpi .slt (IntOp.addi (IntOp.muli (IntOp.minsi (IntOp.addi (112#32) (BitVec.ofNat 32 i.val)) 122#32) 8192#32)
      (BitVec.ofNat 32 l.val)) 1000000#32 = BitVec.ofBool (decide ((min (112 + i.val) 122) * 8192 + l.val < 1000000)) := by
  rw [mask_base]
  have e : IntOp.addi (BitVec.ofNat 32 ((min (112 + i.val) 122) * 8192)) (BitVec.ofNat 32 l.val) =
      BitVec.ofNat 32 ((min (112 + i.val) 122) * 8192 + l.val) := (BitVec.ofNat_add _ _).symm
  rw [e]
  have := l.isLt
  exact slt_small (by omega) (by omega)

theorem and_low (x : BitVec 32) : (IntOp.andi x 131071#32).toNat = x.toNat % 131072 := by
  show (x &&& 131071#32).toNat = _
  rw [BitVec.toNat_and]
  exact Nat.and_two_pow_sub_one_eq_mod x.toNat 17

theorem nonneg_toNat {x : BitVec 32} (h0 : 0 ≤ x.toInt) (h1 : x.toInt < 1000000) : x.toNat < 1000000 := by
  rw [BitVec.toInt_eq_toNat_cond] at h0 h1
  split at h1 <;> omega

theorem shift_high {x : BitVec 32} (h : x.toNat < 1000000) : IntOp.shrsi .host x 17#32 = BitVec.ofNat 32 (x.toNat / 131072) := by
  show (if (17#32).toNat < 32 then x.sshiftRight' 17#32 else _) = _
  rw [if_pos (by decide)]
  apply BitVec.eq_of_toNat_eq
  have hm : x.msb = false := by rw [BitVec.msb_eq_decide]; simp; omega
  rw [BitVec.sshiftRight', BitVec.sshiftRight_eq_of_msb_false hm, BitVec.toNat_ushiftRight,
    Nat.shiftRight_eq_div_pow, BitVec.toNat_ofNat (x := x.toNat / 131072)]
  show x.toNat / 2 ^ 17 = _
  omega

end Cert.Proof

end
-- ==== Proof.MathA.lean ====
/-
  What the host's lines before the scan leave, element by element, at the ideal instance.
-/
module

public import proofs.«01_k».proof.Proof.MathBits
public import Idealize.ShloMosaic.Lib.StableHlo.RunRead

@[expose] public section

noncomputable section

namespace Cert.Proof

open Cert.KernelIdeal Cert.KernelIdeal.Gen

open Idealize.ShloMosaic
open Idealize.SL.Sem

variable (W : Valuation τ sig (Elt Ideal))

set_option maxHeartbeats 4000000 in
set_option maxRecDepth 16384 in
theorem v1_at (e : Fin 32) (r : Fin 1007616) :
    @Eq EReal ((StableHlo.after opsA W (Proc.devRef .tc main_v1) : S32x1007616.Idx → EReal) (ix2 e r))
      (@dite EReal (r.val < 1000000) _ (fun h => (W (Proc.devRef .tc main_arg1) : S1000000x32.Idx → EReal) (ix2 ⟨r.val, h⟩ e)) (fun _ => 0)) := by
  unfold opsA
  after_reads_simp
  simp -implicitDefEqProofs only [StableHlo.TRef.toBuf, StableHlo.TRef.ofBuf, cast_cast, cast_eq]
  pointwise
  refine dite_congr rfl (fun _ => rfl) (fun _ => sitofp_zero')

set_option maxHeartbeats 4000000 in
set_option maxRecDepth 16384 in
theorem v3_at (e : Fin 32) (r : Fin 1007616) :
    @Eq EReal ((StableHlo.after opsA W (Proc.devRef .tc main_v3) : S32x1007616.Idx → EReal) (ix2 e r))
      (@dite EReal (r.val < 1000000) _ (fun h => (W (Proc.devRef .tc main_arg2) : S1000000x32.Idx → EReal) (ix2 ⟨r.val, h⟩ e)) (fun _ => 0)) := by
  unfold opsA
  after_reads_simp
  simp -implicitDefEqProofs only [StableHlo.TRef.toBuf, StableHlo.TRef.ofBuf, cast_cast, cast_eq]
  pointwise
  refine dite_congr rfl (fun _ => rfl) (fun _ => sitofp_zero')

set_option maxHeartbeats 4000000 in
set_option maxRecDepth 16384 in
theorem v12_at (x : Fin 256) (y : Fin 128) :
    @Eq EReal ((StableHlo.after opsA W (Proc.devRef .tc main_v12) : S256x128.Idx → EReal) (ix2 x y))
      ((if x.val / 32 = y.val / 16 then (1 : EReal) else 0) *
        (@dite EReal (y.val % 16 < 10) _ (fun h => (W (Proc.devRef .tc main_arg3) : S32x10.Idx → EReal) (ix2 ⟨x.val % 32, Nat.mod_lt _ (by decide)⟩ ⟨y.val % 16, h⟩)) (fun _ => 0))) := by
  unfold opsA
  after_reads_simp
  simp -implicitDefEqProofs only [StableHlo.TRef.toBuf, StableHlo.TRef.ofBuf, cast_cast, cast_eq]
  pointwise
  rw [eq_bit ⟨x.val / 32, by omega⟩ ⟨y.val / 16, by omega⟩, uitofp_bool]
  refine congrArg₂ (fun a b : EReal => a * b) (by simp) ?_
  by_cases h : y.val % 16 < 10
  · rw [dif_pos ⟨Nat.mod_lt _ (by decide), h⟩, dif_pos h]
  · rw [dif_neg (fun hh => h hh.2), dif_neg h]; exact sitofp_zero'

set_option maxHeartbeats 4000000 in
set_option maxRecDepth 16384 in
theorem v25_at (x : Fin 256) (y : Fin 128) :
    @Eq EReal ((StableHlo.after opsA W (Proc.devRef .tc main_v25) : S256x128.Idx → EReal) (ix2 x y))
      ((if x.val / 32 = y.val / 16 then (1 : EReal) else 0) *
        (@dite EReal (y.val % 16 < 10) _ (fun h => (W (Proc.devRef .tc main_arg5) : S32x10.Idx → EReal) (ix2 ⟨x.val % 32, Nat.mod_lt _ (by decide)⟩ ⟨y.val % 16, h⟩)) (fun _ => 0))) := by
  unfold opsA
  after_reads_simp
  simp -implicitDefEqProofs only [StableHlo.TRef.toBuf, StableHlo.TRef.ofBuf, cast_cast, cast_eq]
  pointwise
  rw [eq_bit ⟨x.val / 32, by omega⟩ ⟨y.val / 16, by omega⟩, uitofp_bool]
  refine congrArg₂ (fun a b : EReal => a * b) (by simp) ?_
  by_cases h : y.val % 16 < 10
  · rw [dif_pos ⟨Nat.mod_lt _ (by decide), h⟩, dif_pos h]
  · rw [dif_neg (fun hh => h hh.2), dif_neg h]; exact sitofp_zero'

set_option maxHeartbeats 4000000 in
set_option maxRecDepth 16384 in
theorem v16_at (y : Fin 128) :
    @Eq EReal ((StableHlo.after opsA W (Proc.devRef .tc main_v16) : S1x128.Idx → EReal) (ix2 0 y))
      (@dite EReal (y.val % 16 < 10) _ (fun h => (W (Proc.devRef .tc main_arg4) : S10.Idx → EReal) (ix1 ⟨y.val % 16, h⟩)) (fun _ => 0)) := by
  unfold opsA
  after_reads_simp
  simp -implicitDefEqProofs only [StableHlo.TRef.toBuf, StableHlo.TRef.ofBuf, cast_cast, cast_eq]
  pointwise
  refine dite_congr (by simp) (fun _ => rfl) (fun _ => sitofp_zero')

set_option maxHeartbeats 4000000 in
set_option maxRecDepth 16384 in
theorem v29_at (y : Fin 128) :
    @Eq EReal ((StableHlo.after opsA W (Proc.devRef .tc main_v29) : S1x128.Idx → EReal) (ix2 0 y))
      (@dite EReal (y.val % 16 < 10) _ (fun h => (W (Proc.devRef .tc main_arg6) : S10.Idx → EReal) (ix1 ⟨y.val % 16, h⟩)) (fun _ => 0)) := by
  unfold opsA
  after_reads_simp
  simp -implicitDefEqProofs only [StableHlo.TRef.toBuf, StableHlo.TRef.ofBuf, cast_cast, cast_eq]
  pointwise
  refine dite_congr (by simp) (fun _ => rfl) (fun _ => sitofp_zero')

set_option maxHeartbeats 4000000 in
set_option maxRecDepth 16384 in
theorem v45_at (i : Fin 16) (l : Fin 8192) :
    @Eq EReal ((StableHlo.after opsA W (Proc.devRef .tc main_v45) : S16x8192.Idx → EReal) (ix2 i l))
      (if (min (112 + i.val) 122) * 8192 + l.val < 1000000 then 1 else 0) := by
  unfold opsA
  after_reads_simp
  pointwise
  rw [mask_bit i l, uitofp_bool]
  simp

end Cert.Proof

end
-- ==== Proof.MathScan.lean ====
/-
  What the scan leaves in its two arrays, element by element, at the ideal instance.
-/
module

public import proofs.«01_k».proof.Proof.MathA

@[expose] public section

noncomputable section

namespace Cert.Proof

open Cert.KernelIdeal Cert.KernelIdeal.Gen

open Idealize.ShloMosaic
open Idealize.SL.Sem

/-! ## A loaded slot, cast back -/

theorem cast_slot {r s : Shape} (h : r.Squeezes s) (hc : r.ShapeCasts s) (x : s.Idx → Elt Ideal .f32) :
    (shapeCast s (Win.asSlot h x : FVec Ideal r .f32) hc : FVec Ideal s .f32) = x := by
  funext i
  exact congrArg x (Equiv.symm_apply_apply _ i)

theorem slot_at (x : S32x8192.Idx → Elt Ideal .f32) (e : Fin 32) (l : Fin 8192) :
    @Eq EReal (Win.asSlot squeezes_S1x32x8192_S32x8192 x (ix3 0 e l)) (x (ix2 e l)) := by
  have h : Shape.reshapeEquiv squeezes_S1x32x8192_S32x8192.numel_eq (ix2 e l) = ix3 0 e l :=
    Shape.reshapeEquiv_eq_of_rowMajor _ (by
      rw [Shape.rowMajor_val_three, Shape.rowMajor_val_two]
      show (0 * 32 + e.val) * 8192 + l.val = e.val * 8192 + l.val
      omega)
  exact congrArg x ((Equiv.symm_apply_eq _).mpr h.symm)

theorem out_at (f : S1x8192x128.Idx → EReal) (l : Fin 8192) (y : Fin 128) :
    f (Shape.reshapeEquiv squeezes_S1x8192x128_S8192x128.numel_eq (ix2 l y)) = f (ix3 0 l y) := by
  have h : Shape.reshapeEquiv squeezes_S1x8192x128_S8192x128.numel_eq (ix2 l y) = ix3 0 l y :=
    Shape.reshapeEquiv_eq_of_rowMajor _ (by
      rw [Shape.rowMajor_val_three, Shape.rowMajor_val_two]
      show (0 * 8192 + l.val) * 128 + y.val = l.val * 128 + y.val
      omega)
  rw [h]

/-! ## The blocks of the windows -/

section
variable {d : Dev nD}

theorem tab_blk1 (al : Memref sig .tc .vmem S2x32x8192 .f32) (v : DmaSems sig S2) (f : Buf (Elt Ideal) ((d.tc : Thread nD τ).loc main_v1)) (j N : ℕ) (hN : 0 < N) (k : ℕ) (e : Fin 32) (l : Fin 8192) :
    @Eq EReal ((tabWin (F := Ideal) (d := d) al v B0.arg1 f j N hN).blk k (ix2 e l))
      ((f : S32x1007616.Idx → EReal) (ix2 e ⟨8192 * min (16 * j + k) 122 + l.val, by have := l.isLt; have := Nat.min_le_right (16 * j + k) 122; omega⟩)) := by
  refine congrArg (f : S32x1007616.Idx → EReal) ?_
  funext a
  match a with
  | ⟨0, _⟩ => apply Fin.ext; show 0 + 1 * e.val = e.val; omega
  | ⟨1, _⟩ => apply Fin.ext; show 8192 * min (16 * j + k) 122 + 1 * l.val = _; simp

theorem tab_blk2 (al : Memref sig .tc .vmem S2x32x8192 .f32) (v : DmaSems sig S2) (f : Buf (Elt Ideal) ((d.tc : Thread nD τ).loc main_v3)) (j N : ℕ) (hN : 0 < N) (k : ℕ) (e : Fin 32) (l : Fin 8192) :
    @Eq EReal ((tabWin (F := Ideal) (d := d) al v B0.arg2 f j N hN).blk k (ix2 e l))
      ((f : S32x1007616.Idx → EReal) (ix2 e ⟨8192 * min (16 * j + k) 122 + l.val, by have := l.isLt; have := Nat.min_le_right (16 * j + k) 122; omega⟩)) := by
  refine congrArg (f : S32x1007616.Idx → EReal) ?_
  funext a
  match a with
  | ⟨0, _⟩ => apply Fin.ext; show 0 + 1 * e.val = e.val; omega
  | ⟨1, _⟩ => apply Fin.ext; show 8192 * min (16 * j + k) 122 + 1 * l.val = _; simp

theorem mask_blk (al : Memref sig .tc .vmem S2x1x8192 .f32) (v : DmaSems sig S2) (f : Buf (Elt Ideal) ((d.tc : Thread nD τ).loc main_v45)) (k : ℕ) (l : Fin 8192) :
    @Eq EReal ((maskWin (F := Ideal) (d := d) al v B0.arg7 f).blk k (ix2 0 l))
      ((f : S16x8192.Idx → EReal) (ix2 ⟨min k 15, by omega⟩ l)) := by
  refine congrArg (f : S16x8192.Idx → EReal) ?_
  funext a
  match a with
  | ⟨0, _⟩ => apply Fin.ext; show min k 15 + 1 * 0 = _; simp
  | ⟨1, _⟩ => apply Fin.ext; show 0 + 1 * l.val = _; simp
end

/-! ## The arithmetic of a trip -/

theorem dite_ite {c c' : Prop} [Decidable c] [Decidable c'] {a : c → EReal} {b : ¬ c → EReal} {a' b' : EReal} (h : c ↔ c')
    (ha : ∀ x, a x = a') (hb : ∀ x, b x = b') : (if x : c then a x else b x) = if c' then a' else b' := by
  by_cases x : c
  · rw [dif_pos x, if_pos (h.mp x), ha]
  · rw [dif_neg x, if_neg (fun y => x (h.mpr y)), hb]

theorem fin_arg (f : S32x8192.Idx → EReal) (l : Fin 8192) {a b : ℕ} {ha : a < 32} {hb : b < 32} (h : a = b) : f (ix2 ⟨a, ha⟩ l) = f (ix2 ⟨b, hb⟩ l) := by
  subst h; rfl

set_option maxHeartbeats 1000000 in
set_option maxRecDepth 16384 in
theorem pay12_at (X : FVec Ideal S256x8192 .f32) (Y : Vec Ideal S256x128 .f32) (bb : Vec Ideal S1x128 .f32) (l : Fin 8192) (y : Fin 128) :
    @Eq EReal (k0_pay12 X Y bb (ix3 0 l y))
      (max ((∑ x : Fin 256, (show EReal from X (ix2 x l)) * (show EReal from Y (ix2 x y))) + (show EReal from bb (ix2 0 y))) 0) := by
  unfold k0_pay12
  pointwise

/-- The eight blocks of a trip, one under another, the last one masked. -/
def stack (m : S1x8192.Idx → EReal) (x0 x1 x2 x3 x4 x5 x6 x7 : S32x8192.Idx → EReal) (x : Fin 256) (l : Fin 8192) : EReal :=
  let e : Fin 32 := ⟨x.val % 32, Nat.mod_lt _ (by decide)⟩
  if x.val / 32 = 0 then x0 (ix2 e l) else
  if x.val / 32 = 1 then x1 (ix2 e l) else
  if x.val / 32 = 2 then x2 (ix2 e l) else
  if x.val / 32 = 3 then x3 (ix2 e l) else
  if x.val / 32 = 4 then x4 (ix2 e l) else
  if x.val / 32 = 5 then x5 (ix2 e l) else
  if x.val / 32 = 6 then x6 (ix2 e l) else
  x7 (ix2 e l) * m (ix2 0 l)

set_option maxHeartbeats 1000000 in
set_option maxRecDepth 16384 in
theorem pay5_at (m : FVec Ideal S1x8192 .f32) (x0 x1 x2 : FVec Ideal S32x8192 .f32) (x3 x4 x5 x6 x7 : S32x8192.Idx → Elt Ideal .f32) (x : Fin 256) (l : Fin 8192) :
    @Eq EReal (k0_pay5 m x0 x1 x2 (Win.asSlot squeezes_S1x32x8192_S32x8192 x3) (Win.asSlot squeezes_S1x32x8192_S32x8192 x4) (Win.asSlot squeezes_S1x32x8192_S32x8192 x5) (Win.asSlot squeezes_S1x32x8192_S32x8192 x6) (Win.asSlot squeezes_S1x32x8192_S32x8192 x7) (ix2 x l))
      (stack m x0 x1 x2 x3 x4 x5 x6 x7 x l) := by
  unfold k0_pay5 stack
  simp only [cast_slot]
  pointwise
  refine dite_ite (by omega) (fun _ => fin_arg x0 l (by omega)) fun _ => ?_
  refine dite_ite (by omega) (fun _ => fin_arg x1 l (by omega)) fun _ => ?_
  refine dite_ite (by omega) (fun _ => fin_arg x2 l (by omega)) fun _ => ?_
  refine dite_ite (by omega) (fun _ => fin_arg x3 l (by omega)) fun _ => ?_
  refine dite_ite (by omega) (fun _ => fin_arg x4 l (by omega)) fun _ => ?_
  refine dite_ite (by omega) (fun _ => fin_arg x5 l (by omega)) fun _ => ?_
  refine dite_ite (by omega) (fun _ => fin_arg x6 l (by omega)) fun _ => ?_
  exact congrArg (fun a : EReal => a * (m (ix2 0 l) : EReal)) (fin_arg x7 l (by omega))

set_option maxHeartbeats 1000000 in
set_option maxRecDepth 16384 in
theorem pay13_at (m : FVec Ideal S1x8192 .f32) (x0 x1 x2 x3 x4 x5 : FVec Ideal S32x8192 .f32) (x6 x7 : S32x8192.Idx → Elt Ideal .f32)
    (Y : Vec Ideal S256x128 .f32) (bb : Vec Ideal S1x128 .f32) (l : Fin 8192) (y : Fin 128) :
    @Eq EReal (k0_pay13 m x0 x1 x2 x3 x4 x5 (Win.asSlot squeezes_S1x32x8192_S32x8192 x6) (Win.asSlot squeezes_S1x32x8192_S32x8192 x7) Y bb (ix3 0 l y))
      (max ((∑ x : Fin 256, stack m x0 x1 x2 x3 x4 x5 x6 x7 x l * (show EReal from Y (ix2 x y))) + (show EReal from bb (ix2 0 y))) 0) := by
  unfold k0_pay13 stack
  simp only [cast_slot]
  pointwise
  refine congrArg (fun a : EReal => max (a + (show EReal from bb (ix2 0 y))) 0) (Finset.sum_congr rfl fun x _ => congrArg (fun a : EReal => a * (show EReal from Y (ix2 x y))) ?_)
  refine dite_ite (by omega) (fun _ => fin_arg x0 l (by omega)) fun _ => ?_
  refine dite_ite (by omega) (fun _ => fin_arg x1 l (by omega)) fun _ => ?_
  refine dite_ite (by omega) (fun _ => fin_arg x2 l (by omega)) fun _ => ?_
  refine dite_ite (by omega) (fun _ => fin_arg x3 l (by omega)) fun _ => ?_
  refine dite_ite (by omega) (fun _ => fin_arg x4 l (by omega)) fun _ => ?_
  refine dite_ite (by omega) (fun _ => fin_arg x5 l (by omega)) fun _ => ?_
  refine dite_ite (by omega) (fun _ => (slot_at x6 _ l).trans (fin_arg x6 l (by omega))) fun _ => ?_
  exact congrArg (fun a : EReal => a * (m (ix2 0 l) : EReal)) ((slot_at x7 _ l).trans (fin_arg x7 l (by omega)))

/-- The stack at a row of one block. -/
theorem stack_at {m : S1x8192.Idx → EReal} {x0 x1 x2 x3 x4 x5 x6 x7 : S32x8192.Idx → EReal} (g : Fin 8) (e : Fin 32) (l : Fin 8192) {t : EReal}
    (h0 : g.val = 0 → x0 (ix2 e l) = t) (h1 : g.val = 1 → x1 (ix2 e l) = t) (h2 : g.val = 2 → x2 (ix2 e l) = t) (h3 : g.val = 3 → x3 (ix2 e l) = t)
    (h4 : g.val = 4 → x4 (ix2 e l) = t) (h5 : g.val = 5 → x5 (ix2 e l) = t) (h6 : g.val = 6 → x6 (ix2 e l) = t)
    (h7 : g.val = 7 → x7 (ix2 e l) * m (ix2 0 l) = t) (x : Fin 256) (hx : x.val = 32 * g.val + e.val) :
    stack m x0 x1 x2 x3 x4 x5 x6 x7 x l = t := by
  have hg := g.isLt
  have he := e.isLt
  have ee : (⟨x.val % 32, Nat.mod_lt _ (by decide)⟩ : Fin 32) = e := Fin.ext (by show x.val % 32 = e.val; omega)
  have eg : x.val / 32 = g.val := by omega
  unfold stack
  simp only [ee, eg]
  by_cases c0 : g.val = 0; · rw [if_pos c0]; exact h0 c0
  rw [if_neg c0]
  by_cases c1 : g.val = 1; · rw [if_pos c1]; exact h1 c1
  rw [if_neg c1]
  by_cases c2 : g.val = 2; · rw [if_pos c2]; exact h2 c2
  rw [if_neg c2]
  by_cases c3 : g.val = 3; · rw [if_pos c3]; exact h3 c3
  rw [if_neg c3]
  by_cases c4 : g.val = 4; · rw [if_pos c4]; exact h4 c4
  rw [if_neg c4]
  by_cases c5 : g.val = 5; · rw [if_pos c5]; exact h5 c5
  rw [if_neg c5]
  by_cases c6 : g.val = 6; · rw [if_pos c6]; exact h6 c6
  rw [if_neg c6]
  exact h7 (by omega)

/-- A sum against a block-diagonal weight is the sum over one block. -/
theorem block_sum (X : Fin 256 → EReal) (w : Fin 32 → EReal) (g : Fin 8) (Y : Fin 256 → EReal)
    (hY : ∀ x : Fin 256, Y x = (if x.val / 32 = g.val then (1 : EReal) else 0) * w ⟨x.val % 32, Nat.mod_lt _ (by decide)⟩) :
    (∑ x : Fin 256, X x * Y x) = ∑ e : Fin 32, X ⟨32 * g.val + e.val, by have := g.isLt; have := e.isLt; omega⟩ * w e := by
  symm
  have hg := g.isLt
  refine Finset.sum_of_injOn (fun e : Fin 32 => (⟨32 * g.val + e.val, by have := e.isLt; omega⟩ : Fin 256)) ?_ (fun _ _ => Finset.mem_coe.mpr (Finset.mem_univ _)) ?_ ?_
  · intro a _ b _ h
    have := congrArg Fin.val h
    exact Fin.ext (by simpa using this)
  · intro x _ hx
    have hn : ¬ x.val / 32 = g.val := fun h => hx ⟨⟨x.val % 32, Nat.mod_lt _ (by decide)⟩, Finset.mem_coe.mpr (Finset.mem_univ _), Fin.ext (by show 32 * g.val + x.val % 32 = x.val; omega)⟩
    rw [hY, if_neg hn, zero_mul, mul_zero]
  · intro e _
    have he := e.isLt
    rw [hY, if_pos (by show (32 * g.val + e.val) / 32 = g.val; omega), one_mul]
    refine congrArg (fun a => X ⟨32 * g.val + e.val, by omega⟩ * w a) (Fin.ext ?_)
    show e.val = (32 * g.val + e.val) % 32
    omega

/-! ## The two arrays -/

/-- Unit `h` of a table's layer at row `r`. -/
def layer (T : S1000000x32.Idx → EReal) (w : S32x10.Idx → EReal) (b : S10.Idx → EReal) (r : Fin 1000000) (h : Fin 10) : EReal :=
  max ((∑ e : Fin 32, T (ix2 r e) * w (ix2 e h)) + b (ix1 h)) 0

variable (m : (ℓ : Loc nD τ sig) → Buf (Elt Ideal) ℓ) (c : Dev nD)

/-- The scan's windows over the contents it meets. -/
abbrev Cs := C0 (V := fun c b => W1 m c (Proc.devRef .tc b)) c

theorem cust_blk (al : Memref sig .tc .vmem S2x32x8192 .f32) (v : DmaSems sig S2) (j N : ℕ) (hN : 0 < N) (k : ℕ) (e : Fin 32) (l : Fin 8192)
    (h : (16 * j + k) * 8192 + l.val < 1000000) :
    @Eq EReal ((tabWin (F := Ideal) (d := c) al v B0.arg1 (W1 m c (Proc.devRef .tc main_v1)) j N hN).blk k (ix2 e l))
      ((W0 m c (Proc.devRef .tc main_arg1) : S1000000x32.Idx → EReal) (ix2 ⟨(16 * j + k) * 8192 + l.val, h⟩ e)) := by
  have hl := l.isLt
  have hb : 16 * j + k ≤ 122 := by omega
  have hi : 8192 * min (16 * j + k) 122 + l.val = (16 * j + k) * 8192 + l.val := by rw [Nat.min_eq_left hb, Nat.mul_comm]
  refine (tab_blk1 al v (W1 m c (Proc.devRef .tc main_v1)) j N hN k e l).trans ?_
  refine (v1_at (W0 m c) e _).trans ?_
  rw [dif_pos (show 8192 * min (16 * j + k) 122 + l.val < 1000000 by rw [hi]; exact h)]
  exact congrArg (fun r => (W0 m c (Proc.devRef .tc main_arg1) : S1000000x32.Idx → EReal) (ix2 r e)) (Fin.ext hi)

theorem prod_blk (al : Memref sig .tc .vmem S2x32x8192 .f32) (v : DmaSems sig S2) (j N : ℕ) (hN : 0 < N) (k : ℕ) (e : Fin 32) (l : Fin 8192)
    (h : (16 * j + k) * 8192 + l.val < 1000000) :
    @Eq EReal ((tabWin (F := Ideal) (d := c) al v B0.arg2 (W1 m c (Proc.devRef .tc main_v3)) j N hN).blk k (ix2 e l))
      ((W0 m c (Proc.devRef .tc main_arg2) : S1000000x32.Idx → EReal) (ix2 ⟨(16 * j + k) * 8192 + l.val, h⟩ e)) := by
  have hl := l.isLt
  have hb : 16 * j + k ≤ 122 := by omega
  have hi : 8192 * min (16 * j + k) 122 + l.val = (16 * j + k) * 8192 + l.val := by rw [Nat.min_eq_left hb, Nat.mul_comm]
  refine (tab_blk2 al v (W1 m c (Proc.devRef .tc main_v3)) j N hN k e l).trans ?_
  refine (v3_at (W0 m c) e _).trans ?_
  rw [dif_pos (show 8192 * min (16 * j + k) 122 + l.val < 1000000 by rw [hi]; exact h)]
  exact congrArg (fun r => (W0 m c (Proc.devRef .tc main_arg2) : S1000000x32.Idx → EReal) (ix2 r e)) (Fin.ext hi)

/-- In group `j`, the block `x` holds row `(16 j + k) 8192 + l` of the table at lane `l`. -/
def Holds (x : S32x8192.Idx → EReal) (T : S1000000x32.Idx → EReal) (k j : ℕ) (g : Fin 8) (e : Fin 32) (l : Fin 8192) : Prop :=
  g.val = j → ∀ h : (16 * g.val + k) * 8192 + l.val < 1000000, x (ix2 e l) = T (ix2 ⟨(16 * g.val + k) * 8192 + l.val, h⟩ e)

theorem cust_win (al : Memref sig .tc .vmem S2x32x8192 .f32) (v : DmaSems sig S2) (j N : ℕ) (hN : 0 < N) (k : ℕ) (hk : k ≤ N - 1) (g : Fin 8) (e : Fin 32) (l : Fin 8192) :
    Holds ((tabWin (F := Ideal) (d := c) al v B0.arg1 (W1 m c (Proc.devRef .tc main_v1)) j N hN).blk (min k (N - 1))) (W0 m c (Proc.devRef .tc main_arg1)) k j g e l := by
  intro hj h
  subst hj
  rw [Nat.min_eq_left hk]
  exact cust_blk m c al v g.val N hN k e l h

theorem prod_win (al : Memref sig .tc .vmem S2x32x8192 .f32) (v : DmaSems sig S2) (j N : ℕ) (hN : 0 < N) (k : ℕ) (hk : k ≤ N - 1) (g : Fin 8) (e : Fin 32) (l : Fin 8192) :
    Holds ((tabWin (F := Ideal) (d := c) al v B0.arg2 (W1 m c (Proc.devRef .tc main_v3)) j N hN).blk (min k (N - 1))) (W0 m c (Proc.devRef .tc main_arg2)) k j g e l := by
  intro hj h
  subst hj
  rw [Nat.min_eq_left hk]
  exact prod_blk m c al v g.val N hN k e l h

theorem mask_one (al : Memref sig .tc .vmem S2x1x8192 .f32) (v : DmaSems sig S2) (k : ℕ) (l : Fin 8192)
    (h : (112 + k) * 8192 + l.val < 1000000) :
    @Eq EReal ((maskWin (F := Ideal) (d := c) al v B0.arg7 (W1 m c (Proc.devRef .tc main_v45))).blk k (ix2 0 l)) 1 := by
  have hl := l.isLt
  refine (mask_blk al v (W1 m c (Proc.devRef .tc main_v45)) k l).trans ?_
  refine (v45_at (W0 m c) _ l).trans ?_
  rw [if_pos]
  show min (112 + min k 15) 122 * 8192 + l.val < 1000000
  rw [Nat.min_eq_left (show k ≤ 15 by omega), Nat.min_eq_left (show 112 + k ≤ 122 by omega)]
  exact h

theorem pay1_at (x : S1x8192.Idx → Elt Ideal .f32) : k0_pay1 (F := Ideal) (Win.asSlot squeezes_S1x1x8192_S1x8192 x) = x :=
  cast_slot squeezes_S1x1x8192_S1x8192 _ x

theorem pay2_at (x : S32x8192.Idx → Elt Ideal .f32) : k0_pay2 (F := Ideal) (Win.asSlot squeezes_S1x32x8192_S32x8192 x) = x :=
  cast_slot squeezes_S1x32x8192_S32x8192 _ x

theorem pay3_at (x : S32x8192.Idx → Elt Ideal .f32) : k0_pay3 (F := Ideal) (Win.asSlot squeezes_S1x32x8192_S32x8192 x) = x :=
  cast_slot squeezes_S1x32x8192_S32x8192 _ x

theorem pay4_at (x : S32x8192.Idx → Elt Ideal .f32) : k0_pay4 (F := Ideal) (Win.asSlot squeezes_S1x32x8192_S32x8192 x) = x :=
  cast_slot squeezes_S1x32x8192_S32x8192 _ x

theorem pay6_at (x : S32x8192.Idx → Elt Ideal .f32) : k0_pay6 (F := Ideal) (Win.asSlot squeezes_S1x32x8192_S32x8192 x) = x :=
  cast_slot squeezes_S1x32x8192_S32x8192 _ x

theorem pay7_at (x : S32x8192.Idx → Elt Ideal .f32) : k0_pay7 (F := Ideal) (Win.asSlot squeezes_S1x32x8192_S32x8192 x) = x :=
  cast_slot squeezes_S1x32x8192_S32x8192 _ x

theorem pay8_at (x : S32x8192.Idx → Elt Ideal .f32) : k0_pay8 (F := Ideal) (Win.asSlot squeezes_S1x32x8192_S32x8192 x) = x :=
  cast_slot squeezes_S1x32x8192_S32x8192 _ x

theorem pay9_at (x : S32x8192.Idx → Elt Ideal .f32) : k0_pay9 (F := Ideal) (Win.asSlot squeezes_S1x32x8192_S32x8192 x) = x :=
  cast_slot squeezes_S1x32x8192_S32x8192 _ x

theorem pay10_at (x : S32x8192.Idx → Elt Ideal .f32) : k0_pay10 (F := Ideal) (Win.asSlot squeezes_S1x32x8192_S32x8192 x) = x :=
  cast_slot squeezes_S1x32x8192_S32x8192 _ x

theorem pay11_at (x : S32x8192.Idx → Elt Ideal .f32) : k0_pay11 (F := Ideal) (Win.asSlot squeezes_S1x32x8192_S32x8192 x) = x :=
  cast_slot squeezes_S1x32x8192_S32x8192 _ x

set_option maxHeartbeats 1000000 in
theorem z1_pay (k : ℕ) (l : Fin 8192) (y : Fin 128) :
    @Eq EReal (z1 (Cs m c) k (ix2 l y))
      (max ((∑ x : Fin 256, stack ((w16 (Cs m c)).blk (min k ((w16 (Cs m c)).N - 1))) ((w0 (Cs m c)).blk (min k ((w0 (Cs m c)).N - 1))) ((w1 (Cs m c)).blk (min k ((w1 (Cs m c)).N - 1))) ((w2 (Cs m c)).blk (min k ((w2 (Cs m c)).N - 1))) ((w3 (Cs m c)).blk (min k ((w3 (Cs m c)).N - 1))) ((w4 (Cs m c)).blk (min k ((w4 (Cs m c)).N - 1))) ((w5 (Cs m c)).blk (min k ((w5 (Cs m c)).N - 1))) ((w6 (Cs m c)).blk (min k ((w6 (Cs m c)).N - 1))) ((w7 (Cs m c)).blk (min k ((w7 (Cs m c)).N - 1))) x l
          * (W1 m c (Proc.devRef .tc main_v12) : S256x128.Idx → EReal) (ix2 x y)) + (W1 m c (Proc.devRef .tc main_v16) : S1x128.Idx → EReal) (ix2 0 y)) 0) := by
  refine (out_at _ l y).trans ?_
  refine (pay12_at _ _ _ l y).trans ?_
  refine congrArg (fun a : EReal => max (a + _) 0) (Finset.sum_congr rfl fun x _ => congrArg (fun a : EReal => a * _) ?_)
  unfold p_v673 p_v646 p_v649 p_v652 p_v655 p_v645 p_v648 p_v651 p_v654
  rw [pay1_at, pay2_at, pay3_at, pay4_at]
  exact pay5_at _ _ _ _ _ _ _ _ _ x l

theorem w0_holds (k : ℕ) (hk : k ≤ 15) (g : Fin 8) (e : Fin 32) (l : Fin 8192) :
    Holds ((w0 (Cs m c)).blk (min k ((w0 (Cs m c)).N - 1))) (W0 m c (Proc.devRef .tc main_arg1)) k 0 g e l :=
  cust_win m c B0.alloca B0.v0 0 16 (by decide) k hk g e l

theorem w1_holds (k : ℕ) (hk : k ≤ 15) (g : Fin 8) (e : Fin 32) (l : Fin 8192) :
    Holds ((w1 (Cs m c)).blk (min k ((w1 (Cs m c)).N - 1))) (W0 m c (Proc.devRef .tc main_arg1)) k 1 g e l :=
  cust_win m c B0.alloca_0 B0.v1 1 16 (by decide) k hk g e l

theorem w2_holds (k : ℕ) (hk : k ≤ 15) (g : Fin 8) (e : Fin 32) (l : Fin 8192) :
    Holds ((w2 (Cs m c)).blk (min k ((w2 (Cs m c)).N - 1))) (W0 m c (Proc.devRef .tc main_arg1)) k 2 g e l :=
  cust_win m c B0.alloca_1 B0.v2 2 16 (by decide) k hk g e l

theorem w3_holds (k : ℕ) (hk : k ≤ 15) (g : Fin 8) (e : Fin 32) (l : Fin 8192) :
    Holds ((w3 (Cs m c)).blk (min k ((w3 (Cs m c)).N - 1))) (W0 m c (Proc.devRef .tc main_arg1)) k 3 g e l :=
  cust_win m c B0.alloca_2 B0.v3 3 16 (by decide) k hk g e l

theorem w4_holds (k : ℕ) (hk : k ≤ 15) (g : Fin 8) (e : Fin 32) (l : Fin 8192) :
    Holds ((w4 (Cs m c)).blk (min k ((w4 (Cs m c)).N - 1))) (W0 m c (Proc.devRef .tc main_arg1)) k 4 g e l :=
  cust_win m c B0.alloca_3 B0.v4 4 16 (by decide) k hk g e l

theorem w5_holds (k : ℕ) (hk : k ≤ 15) (g : Fin 8) (e : Fin 32) (l : Fin 8192) :
    Holds ((w5 (Cs m c)).blk (min k ((w5 (Cs m c)).N - 1))) (W0 m c (Proc.devRef .tc main_arg1)) k 5 g e l :=
  cust_win m c B0.alloca_4 B0.v5 5 16 (by decide) k hk g e l

theorem w6_holds (k : ℕ) (hk : k ≤ 15) (g : Fin 8) (e : Fin 32) (l : Fin 8192) :
    Holds ((w6 (Cs m c)).blk (min k ((w6 (Cs m c)).N - 1))) (W0 m c (Proc.devRef .tc main_arg1)) k 6 g e l :=
  cust_win m c B0.alloca_5 B0.v6 6 16 (by decide) k hk g e l

theorem w7_holds (k : ℕ) (hk : k ≤ 10) (g : Fin 8) (e : Fin 32) (l : Fin 8192) :
    Holds ((w7 (Cs m c)).blk (min k ((w7 (Cs m c)).N - 1))) (W0 m c (Proc.devRef .tc main_arg1)) k 7 g e l :=
  cust_win m c B0.alloca_6 B0.v7 7 11 (by decide) k hk g e l

theorem w16_one (k : ℕ) (hk : k ≤ 15) (l : Fin 8192) (h : (112 + k) * 8192 + l.val < 1000000) :
    @Eq EReal ((w16 (Cs m c)).blk (min k ((w16 (Cs m c)).N - 1)) (ix2 0 l)) 1 :=
  mask_one m c B0.alloca_19 B0.v16 (min k (16 - 1)) l (by rw [Nat.min_eq_left (show k ≤ 16 - 1 from hk)]; exact h)

theorem z1_stack (k : ℕ) (hk : k < 16) (e : Fin 32) (l : Fin 8192) (g : Fin 8) (h : (16 * g.val + k) * 8192 + l.val < 1000000) (x : Fin 256) (hx : x.val = 32 * g.val + e.val) :
    stack ((w16 (Cs m c)).blk (min k ((w16 (Cs m c)).N - 1))) ((w0 (Cs m c)).blk (min k ((w0 (Cs m c)).N - 1))) ((w1 (Cs m c)).blk (min k ((w1 (Cs m c)).N - 1))) ((w2 (Cs m c)).blk (min k ((w2 (Cs m c)).N - 1))) ((w3 (Cs m c)).blk (min k ((w3 (Cs m c)).N - 1))) ((w4 (Cs m c)).blk (min k ((w4 (Cs m c)).N - 1))) ((w5 (Cs m c)).blk (min k ((w5 (Cs m c)).N - 1))) ((w6 (Cs m c)).blk (min k ((w6 (Cs m c)).N - 1))) ((w7 (Cs m c)).blk (min k ((w7 (Cs m c)).N - 1))) x l
      = (W0 m c (Proc.devRef .tc main_arg1) : S1000000x32.Idx → EReal) (ix2 ⟨(16 * g.val + k) * 8192 + l.val, h⟩ e) := by
  have hk5 : k ≤ 15 := by omega
  refine stack_at g e l (fun j => w0_holds m c k hk5 g e l j h) (fun j => w1_holds m c k hk5 g e l j h) (fun j => w2_holds m c k hk5 g e l j h) (fun j => w3_holds m c k hk5 g e l j h) (fun j => w4_holds m c k hk5 g e l j h) (fun j => w5_holds m c k hk5 g e l j h) (fun j => w6_holds m c k hk5 g e l j h) (fun j => ?_) x hx
  have hm : (112 + k) * 8192 + l.val < 1000000 := by
    have h' := h
    rw [j] at h'
    exact h'
  have e1 := w7_holds m c k (by omega) g e l j h
  have e2 := w16_one m c k hk5 l hm
  exact (congrArg₂ (fun a b : EReal => a * b) e1 e2).trans (mul_one _)

set_option maxHeartbeats 1000000 in
/-- Row `k, l` of the scan's array at a lane of group `g`: the row of the table that group holds there, through the layer. -/
theorem z1_val (k : ℕ) (hk : k < 16) (l : Fin 8192) (g : Fin 8) (h : Fin 10) (hid : (16 * g.val + k) * 8192 + l.val < 1000000) (y : Fin 128)
    (hy : y.val = 16 * g.val + h.val) :
    @Eq EReal (z1 (Cs m c) k (ix2 l y))
      (layer (W0 m c (Proc.devRef .tc main_arg1)) (W0 m c (Proc.devRef .tc main_arg3)) (W0 m c (Proc.devRef .tc main_arg4))
        ⟨(16 * g.val + k) * 8192 + l.val, hid⟩ h) := by
  unfold layer
  have hl := l.isLt
  have hg := g.isLt
  have hh := h.isLt
  have hy1 : y.val / 16 = g.val := by omega
  have hy2 : y.val % 16 = h.val := by omega
  refine (z1_pay m c k l y).trans ?_
  refine congrArg₂ (fun a b : EReal => max (a + b) 0) ?_ ?_
  · refine (block_sum _ (fun e => (W0 m c (Proc.devRef .tc main_arg3) : S32x10.Idx → EReal) (ix2 e h)) g _ fun x => ?_).trans ?_
    · refine (v12_at (W0 m c) x y).trans ?_
      rw [hy1, dif_pos (show y.val % 16 < 10 by omega)]
      refine congrArg (fun q => (if x.val / 32 = g.val then (1 : EReal) else 0) * (W0 m c (Proc.devRef .tc main_arg3) : S32x10.Idx → EReal) (ix2 ⟨x.val % 32, Nat.mod_lt _ (by decide)⟩ q)) (Fin.ext hy2)
    · refine Finset.sum_congr rfl fun e _ => congrArg (fun a : EReal => a * _) ?_
      exact z1_stack m c k hk e l g hid _ rfl
  · refine (v16_at (W0 m c) y).trans ?_
    rw [dif_pos (show y.val % 16 < 10 by omega)]
    exact congrArg (fun q => (W0 m c (Proc.devRef .tc main_arg4) : S10.Idx → EReal) (ix1 q)) (Fin.ext hy2)

set_option maxHeartbeats 1000000 in
theorem z2_pay (k : ℕ) (l : Fin 8192) (y : Fin 128) :
    @Eq EReal (z2 (Cs m c) k (ix2 l y))
      (max ((∑ x : Fin 256, stack ((w16 (Cs m c)).blk (min k ((w16 (Cs m c)).N - 1))) ((w8 (Cs m c)).blk (min k ((w8 (Cs m c)).N - 1))) ((w9 (Cs m c)).blk (min k ((w9 (Cs m c)).N - 1))) ((w10 (Cs m c)).blk (min k ((w10 (Cs m c)).N - 1))) ((w11 (Cs m c)).blk (min k ((w11 (Cs m c)).N - 1))) ((w12 (Cs m c)).blk (min k ((w12 (Cs m c)).N - 1))) ((w13 (Cs m c)).blk (min k ((w13 (Cs m c)).N - 1))) ((w14 (Cs m c)).blk (min k ((w14 (Cs m c)).N - 1))) ((w15 (Cs m c)).blk (min k ((w15 (Cs m c)).N - 1))) x l
          * (W1 m c (Proc.devRef .tc main_v25) : S256x128.Idx → EReal) (ix2 x y)) + (W1 m c (Proc.devRef .tc main_v29) : S1x128.Idx → EReal) (ix2 0 y)) 0) := by
  refine (out_at _ l y).trans ?_
  unfold p_v646 p_v676 p_v679 p_v682 p_v685 p_v688 p_v691 p_v645 p_v675 p_v678 p_v681 p_v684 p_v687 p_v690
  rw [pay1_at, pay6_at, pay7_at, pay8_at, pay9_at, pay10_at, pay11_at]
  exact pay13_at _ _ _ _ _ _ _ _ _ _ _ l y

theorem w8_holds (k : ℕ) (hk : k ≤ 15) (g : Fin 8) (e : Fin 32) (l : Fin 8192) :
    Holds ((w8 (Cs m c)).blk (min k ((w8 (Cs m c)).N - 1))) (W0 m c (Proc.devRef .tc main_arg2)) k 0 g e l :=
  prod_win m c B0.alloca_7 B0.v8 0 16 (by decide) k hk g e l

theorem w9_holds (k : ℕ) (hk : k ≤ 15) (g : Fin 8) (e : Fin 32) (l : Fin 8192) :
    Holds ((w9 (Cs m c)).blk (min k ((w9 (Cs m c)).N - 1))) (W0 m c (Proc.devRef .tc main_arg2)) k 1 g e l :=
  prod_win m c B0.alloca_8 B0.v9 1 16 (by decide) k hk g e l

theorem w10_holds (k : ℕ) (hk : k ≤ 15) (g : Fin 8) (e : Fin 32) (l : Fin 8192) :
    Holds ((w10 (Cs m c)).blk (min k ((w10 (Cs m c)).N - 1))) (W0 m c (Proc.devRef .tc main_arg2)) k 2 g e l :=
  prod_win m c B0.alloca_9 B0.v10 2 16 (by decide) k hk g e l

theorem w11_holds (k : ℕ) (hk : k ≤ 15) (g : Fin 8) (e : Fin 32) (l : Fin 8192) :
    Holds ((w11 (Cs m c)).blk (min k ((w11 (Cs m c)).N - 1))) (W0 m c (Proc.devRef .tc main_arg2)) k 3 g e l :=
  prod_win m c B0.alloca_10 B0.v11 3 16 (by decide) k hk g e l

theorem w12_holds (k : ℕ) (hk : k ≤ 15) (g : Fin 8) (e : Fin 32) (l : Fin 8192) :
    Holds ((w12 (Cs m c)).blk (min k ((w12 (Cs m c)).N - 1))) (W0 m c (Proc.devRef .tc main_arg2)) k 4 g e l :=
  prod_win m c B0.alloca_11 B0.v12 4 16 (by decide) k hk g e l

theorem w13_holds (k : ℕ) (hk : k ≤ 15) (g : Fin 8) (e : Fin 32) (l : Fin 8192) :
    Holds ((w13 (Cs m c)).blk (min k ((w13 (Cs m c)).N - 1))) (W0 m c (Proc.devRef .tc main_arg2)) k 5 g e l :=
  prod_win m c B0.alloca_12 B0.v13 5 16 (by decide) k hk g e l

theorem w14_holds (k : ℕ) (hk : k ≤ 15) (g : Fin 8) (e : Fin 32) (l : Fin 8192) :
    Holds ((w14 (Cs m c)).blk (min k ((w14 (Cs m c)).N - 1))) (W0 m c (Proc.devRef .tc main_arg2)) k 6 g e l :=
  prod_win m c B0.alloca_13 B0.v14 6 16 (by decide) k hk g e l

theorem w15_holds (k : ℕ) (hk : k ≤ 10) (g : Fin 8) (e : Fin 32) (l : Fin 8192) :
    Holds ((w15 (Cs m c)).blk (min k ((w15 (Cs m c)).N - 1))) (W0 m c (Proc.devRef .tc main_arg2)) k 7 g e l :=
  prod_win m c B0.alloca_14 B0.v15 7 11 (by decide) k hk g e l

theorem z2_stack (k : ℕ) (hk : k < 16) (e : Fin 32) (l : Fin 8192) (g : Fin 8) (h : (16 * g.val + k) * 8192 + l.val < 1000000) (x : Fin 256) (hx : x.val = 32 * g.val + e.val) :
    stack ((w16 (Cs m c)).blk (min k ((w16 (Cs m c)).N - 1))) ((w8 (Cs m c)).blk (min k ((w8 (Cs m c)).N - 1))) ((w9 (Cs m c)).blk (min k ((w9 (Cs m c)).N - 1))) ((w10 (Cs m c)).blk (min k ((w10 (Cs m c)).N - 1))) ((w11 (Cs m c)).blk (min k ((w11 (Cs m c)).N - 1))) ((w12 (Cs m c)).blk (min k ((w12 (Cs m c)).N - 1))) ((w13 (Cs m c)).blk (min k ((w13 (Cs m c)).N - 1))) ((w14 (Cs m c)).blk (min k ((w14 (Cs m c)).N - 1))) ((w15 (Cs m c)).blk (min k ((w15 (Cs m c)).N - 1))) x l
      = (W0 m c (Proc.devRef .tc main_arg2) : S1000000x32.Idx → EReal) (ix2 ⟨(16 * g.val + k) * 8192 + l.val, h⟩ e) := by
  have hk5 : k ≤ 15 := by omega
  refine stack_at g e l (fun j => w8_holds m c k hk5 g e l j h) (fun j => w9_holds m c k hk5 g e l j h) (fun j => w10_holds m c k hk5 g e l j h) (fun j => w11_holds m c k hk5 g e l j h) (fun j => w12_holds m c k hk5 g e l j h) (fun j => w13_holds m c k hk5 g e l j h) (fun j => w14_holds m c k hk5 g e l j h) (fun j => ?_) x hx
  have hm : (112 + k) * 8192 + l.val < 1000000 := by
    have h' := h
    rw [j] at h'
    exact h'
  have e1 := w15_holds m c k (by omega) g e l j h
  have e2 := w16_one m c k hk5 l hm
  exact (congrArg₂ (fun a b : EReal => a * b) e1 e2).trans (mul_one _)

set_option maxHeartbeats 1000000 in
/-- Row `k, l` of the scan's array at a lane of group `g`: the row of the table that group holds there, through the layer. -/
theorem z2_val (k : ℕ) (hk : k < 16) (l : Fin 8192) (g : Fin 8) (h : Fin 10) (hid : (16 * g.val + k) * 8192 + l.val < 1000000) (y : Fin 128)
    (hy : y.val = 16 * g.val + h.val) :
    @Eq EReal (z2 (Cs m c) k (ix2 l y))
      (layer (W0 m c (Proc.devRef .tc main_arg2)) (W0 m c (Proc.devRef .tc main_arg5)) (W0 m c (Proc.devRef .tc main_arg6))
        ⟨(16 * g.val + k) * 8192 + l.val, hid⟩ h) := by
  unfold layer
  have hl := l.isLt
  have hg := g.isLt
  have hh := h.isLt
  have hy1 : y.val / 16 = g.val := by omega
  have hy2 : y.val % 16 = h.val := by omega
  refine (z2_pay m c k l y).trans ?_
  refine congrArg₂ (fun a b : EReal => max (a + b) 0) ?_ ?_
  · refine (block_sum _ (fun e => (W0 m c (Proc.devRef .tc main_arg5) : S32x10.Idx → EReal) (ix2 e h)) g _ fun x => ?_).trans ?_
    · refine (v25_at (W0 m c) x y).trans ?_
      rw [hy1, dif_pos (show y.val % 16 < 10 by omega)]
      refine congrArg (fun q => (if x.val / 32 = g.val then (1 : EReal) else 0) * (W0 m c (Proc.devRef .tc main_arg5) : S32x10.Idx → EReal) (ix2 ⟨x.val % 32, Nat.mod_lt _ (by decide)⟩ q)) (Fin.ext hy2)
    · refine Finset.sum_congr rfl fun e _ => congrArg (fun a : EReal => a * _) ?_
      exact z2_stack m c k hk e l g hid _ rfl
  · refine (v29_at (W0 m c) y).trans ?_
    rw [dif_pos (show y.val % 16 < 10 by omega)]
    exact congrArg (fun q => (W0 m c (Proc.devRef .tc main_arg6) : S10.Idx → EReal) (ix1 q)) (Fin.ext hy2)

end Cert.Proof

end
-- ==== Proof.MathB.lean ====
/-
  What the host's lines around the gather leave, element by element, at the ideal instance.
-/
module

public import proofs.«01_k».proof.Proof.MathA

@[expose] public section

noncomputable section

namespace Cert.Proof

open Cert.KernelIdeal Cert.KernelIdeal.Gen

open Idealize.ShloMosaic
open Idealize.SL.Sem

variable (W : Valuation τ sig (Elt Ideal))

set_option maxHeartbeats 1000000 in
set_option maxRecDepth 16384 in
theorem v53_at (a : Fin 32) (b : Fin 4) (k : Fin 128) :
    (StableHlo.after opsB W (Proc.devRef .tc main_v53) : S32x4x128.Idx → BitVec 32) (ix3 a b k)
      = IntOp.andi ((W (Proc.devRef .tc main_arg0) : S16384x2.Idx → BitVec 32) (ix2 ⟨a.val * 512 + b.val * 128 + k.val, by omega⟩ 0)) 131071#32 := by
  unfold opsB
  after_reads_simp
  try simp -implicitDefEqProofs only [StableHlo.TRef.toBuf, StableHlo.TRef.ofBuf, cast_cast, cast_eq]
  pointwise

set_option maxHeartbeats 1000000 in
set_option maxRecDepth 16384 in
theorem v56_at (a : Fin 32) (b : Fin 4) (k : Fin 128) :
    (StableHlo.after opsB W (Proc.devRef .tc main_v56) : S32x4x128.Idx → BitVec 32) (ix3 a b k)
      = IntOp.andi ((W (Proc.devRef .tc main_arg0) : S16384x2.Idx → BitVec 32) (ix2 ⟨a.val * 512 + b.val * 128 + k.val, by omega⟩ 1)) 131071#32 := by
  unfold opsB
  after_reads_simp
  try simp -implicitDefEqProofs only [StableHlo.TRef.toBuf, StableHlo.TRef.ofBuf, cast_cast, cast_eq]
  pointwise

set_option maxHeartbeats 1000000 in
set_option maxRecDepth 16384 in
theorem v59_at (a : Fin 16384) :
    (StableHlo.after opsB W (Proc.devRef .tc main_v59) : S16384x1.Idx → BitVec 32) (ix2 a 0)
      = IntOp.shrsi .host ((W (Proc.devRef .tc main_arg0) : S16384x2.Idx → BitVec 32) (ix2 a 0)) 17#32 := by
  unfold opsB
  after_reads_simp
  try simp -implicitDefEqProofs only [StableHlo.TRef.toBuf, StableHlo.TRef.ofBuf, cast_cast, cast_eq]
  pointwise

set_option maxHeartbeats 1000000 in
set_option maxRecDepth 16384 in
theorem v62_at (a : Fin 16384) :
    (StableHlo.after opsB W (Proc.devRef .tc main_v62) : S16384x1.Idx → BitVec 32) (ix2 a 0)
      = IntOp.shrsi .host ((W (Proc.devRef .tc main_arg0) : S16384x2.Idx → BitVec 32) (ix2 a 1)) 17#32 := by
  unfold opsB
  after_reads_simp
  try simp -implicitDefEqProofs only [StableHlo.TRef.toBuf, StableHlo.TRef.ofBuf, cast_cast, cast_eq]
  pointwise

set_option maxHeartbeats 1000000 in
set_option maxRecDepth 16384 in
theorem v68_at (y : Fin 128) (k : Fin 10) :
    @Eq EReal ((StableHlo.after opsC W (Proc.devRef .tc main_v68) : S128x10.Idx → EReal) (ix2 y k))
      (@dite EReal (y.val % 16 < 10) _ (fun h => (W (Proc.devRef .tc main_arg7) : S20x10.Idx → EReal) (ix2 ⟨0 + y.val % 16, by omega⟩ k)) (fun _ => 0)) := by
  unfold opsC
  after_reads_simp
  try simp -implicitDefEqProofs only [StableHlo.TRef.toBuf, StableHlo.TRef.ofBuf, cast_cast, cast_eq]
  pointwise
  exact dite_congr rfl (fun _ => rfl) (fun _ => sitofp_zero')

set_option maxHeartbeats 1000000 in
set_option maxRecDepth 16384 in
theorem v73_at (y : Fin 128) (k : Fin 10) :
    @Eq EReal ((StableHlo.after opsC W (Proc.devRef .tc main_v73) : S128x10.Idx → EReal) (ix2 y k))
      (@dite EReal (y.val % 16 < 10) _ (fun h => (W (Proc.devRef .tc main_arg7) : S20x10.Idx → EReal) (ix2 ⟨10 + y.val % 16, by omega⟩ k)) (fun _ => 0)) := by
  unfold opsC
  after_reads_simp
  try simp -implicitDefEqProofs only [StableHlo.TRef.toBuf, StableHlo.TRef.ofBuf, cast_cast, cast_eq]
  pointwise
  exact dite_congr rfl (fun _ => rfl) (fun _ => sitofp_zero')

set_option maxHeartbeats 1000000 in
set_option maxRecDepth 16384 in
theorem v74_at (k : Fin 10) :
    @Eq EReal ((StableHlo.after opsC W (Proc.devRef .tc main_v74) : S1x10.Idx → EReal) (ix2 0 k))
      ((W (Proc.devRef .tc main_arg8) : S10.Idx → EReal) (ix1 k)) := by
  unfold opsC
  after_reads_simp
  try simp -implicitDefEqProofs only [StableHlo.TRef.toBuf, StableHlo.TRef.ofBuf, cast_cast, cast_eq]
  pointwise

set_option maxHeartbeats 1000000 in
set_option maxRecDepth 16384 in
theorem v75_at :
    @Eq EReal ((StableHlo.after opsC W (Proc.devRef .tc main_v75) : S1x1.Idx → EReal) (ix2 0 0))
      ((W (Proc.devRef .tc main_arg10) : S1.Idx → EReal) (ix1 0)) := by
  unfold opsC
  after_reads_simp
  try simp -implicitDefEqProofs only [StableHlo.TRef.toBuf, StableHlo.TRef.ofBuf, cast_cast, cast_eq]
  pointwise

end Cert.Proof

end
-- ==== Proof.MathMlp.lean ====
/-
  What the network's kernel leaves in the result, element by element, at the ideal instance.
-/
module

public import proofs.«01_k».proof.Proof.MathBits
public import Idealize.ShloMosaic.Lib.Pipeline.ValueKit.Geometry

@[expose] public section

noncomputable section

namespace Cert.Proof

open Cert.KernelIdeal Cert.KernelIdeal.Gen

open Idealize.ShloMosaic
open Idealize.SL.Sem

/-! ## The arithmetic of a block -/

theorem pay2_word (y : Fin 128) : k2_pay2 (ix2 0 y) = BitVec.ofNat 32 (y.val / 16) := by
  have key : ∀ y : Fin 128, Scalar.select
      (IntOp.andi
        (IntOp.cmpi CmpIPredicate.ne
          (IntOp.subi (BitVec.setWidth 32 (IntOp.cmpi CmpIPredicate.sgt (BitVec.ofNat 32 y.val) 0#32))
            (BitVec.setWidth 32 (IntOp.cmpi CmpIPredicate.slt (BitVec.ofNat 32 y.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 y.val) 16#32) 0#32))
      (IntOp.subi (IntOp.divsi ArithUnit.vector (BitVec.ofNat 32 y.val) 16#32) 1#32)
      (IntOp.divsi ArithUnit.vector (BitVec.ofNat 32 y.val) 16#32) =
    BitVec.ofNat 32 (y.val / 16) := by decide +kernel
  unfold k2_pay2
  pointwise
  exact key y

/-- Whether lane `y` is of the group the word names. -/
def lane (y : Fin 128) (g : BitVec 32) : EReal := if BitVec.ofNat 32 (y.val / 16) = g then 1 else 0

theorem sitofp_bool (b : Bool) : (FloatOps.sitofp (F := Ideal) .f32 (BitVec.setWidth 32 (BitVec.ofBool b)) : EReal) = if b then 1 else 0 := by
  cases b
  · show (((BitVec.setWidth 32 (BitVec.ofBool false)).toInt : ℝ) : EReal) = 0
    simp
  · show (((BitVec.setWidth 32 (BitVec.ofBool true)).toInt : ℝ) : EReal) = 1
    have : (BitVec.setWidth 32 (BitVec.ofBool true)).toInt = 1 := by decide
    rw [this]; simp

theorem lane_eq (y : Fin 128) (g : BitVec 32) :
    @Eq EReal (FloatOps.sitofp (F := Ideal) .f32 (BitVec.setWidth 32 (IntOp.cmpi .eq (k2_pay2 (ix2 0 y)) g))) (lane y g) := by
  rw [pay2_word]
  refine (sitofp_bool (BitVec.ofNat 32 (y.val / 16) == g)).trans ?_
  unfold lane
  simp

theorem mlp_pay3_at (z : S2048x128.Idx → Elt Ideal .f32) (g : S2048x1.Idx → BitVec 32) (r : Fin 2048) (y : Fin 128) :
    @Eq EReal (k2_pay3 (F := Ideal) z g (ix2 r y)) ((z (ix2 r y) : EReal) * lane y (g (ix2 r 0))) := by
  refine Eq.trans ?_ (congrArg (fun a : EReal => (z (ix2 r y) : EReal) * a) (lane_eq y (g (ix2 r 0))))
  unfold k2_pay3
  pointwise

theorem mlp_pay4_at (z : S2048x128.Idx → Elt Ideal .f32) (r : Fin 2048) (y : Fin 128) :
    @Eq EReal (k2_pay4 (F := Ideal) z (ix2 r y)) (z (ix2 r y)) := by
  unfold k2_pay4
  pointwise

theorem mlp_pay5_at (g : S2048x1.Idx → BitVec 32) (r : Fin 2048) (y : Fin 128) :
    @Eq EReal (k2_pay5 (F := Ideal) g (ix2 r y)) (lane y (g (ix2 r 0))) := by
  refine Eq.trans ?_ (lane_eq y (g (ix2 r 0)))
  unfold k2_pay5
  pointwise

theorem mlp_pay1_at (A B C : FVec Ideal S2048x128 .f32) (w1 w2 : Vec Ideal S128x10 .f32) (bb : Vec Ideal S1x10 .f32) (wo : Vec Ideal S10x1 .f32) (bo : Vec Ideal S1x1 .f32) (r : Fin 2048) :
    @Eq EReal (k2_pay1 A B C w1 w2 bb wo bo (ix2 r 0)) (Ideal.logistic ((∑ k : Fin 10, max ((∑ y : Fin 128, @HMul.hMul EReal EReal EReal _ (A (ix2 r y)) (w1 (ix2 y k)))
      + (∑ y : Fin 128, @HMul.hMul EReal EReal EReal _ (@HMul.hMul EReal EReal EReal _ (B (ix2 r y)) (C (ix2 r y))) (w2 (ix2 y k))) + (show EReal from bb (ix2 0 k))) 0
        * (show EReal from wo (ix2 k 0))) + (show EReal from bo (ix2 0 0)))) := by
  unfold k2_pay1
  pointwise

/-- The network at one row, from that row's lanes and group words. -/
def net (x1 x2 : Fin 128 → EReal) (g1 g2 : BitVec 32) (w1 w2 : S128x10.Idx → EReal) (b : S1x10.Idx → EReal) (wo : S10x1.Idx → EReal) (bo : S1x1.Idx → EReal) : EReal :=
  Ideal.logistic ((∑ k : Fin 10, max ((∑ y : Fin 128, x1 y * lane y g1 * w1 (ix2 y k)) + (∑ y : Fin 128, x2 y * lane y g2 * w2 (ix2 y k)) + b (ix2 0 k)) 0
    * wo (ix2 k 0)) + bo (ix2 0 0))

theorem mlp_blk_at (z1 z2 : S2048x128.Idx → Elt Ideal .f32) (g1 g2 : S2048x1.Idx → BitVec 32) (w1 w2 : Vec Ideal S128x10 .f32) (bb : Vec Ideal S1x10 .f32) (wo : Vec Ideal S10x1 .f32) (bo : Vec Ideal S1x1 .f32) (r : Fin 2048) :
    @Eq EReal (k2_pay1 (k2_pay3 (F := Ideal) z1 g1) (k2_pay4 z2) (k2_pay5 g2) w1 w2 bb wo bo (ix2 r 0))
      (net (fun y => z1 (ix2 r y)) (fun y => z2 (ix2 r y)) (g1 (ix2 r 0)) (g2 (ix2 r 0)) w1 w2 bb wo bo) := by
  refine (mlp_pay1_at _ _ _ w1 w2 bb wo bo r).trans ?_
  unfold net
  refine congrArg (fun a : EReal => Ideal.logistic (a + (show EReal from bo (ix2 0 0)))) (Finset.sum_congr rfl fun k _ => ?_)
  refine congrArg (fun a : EReal => max (a + (show EReal from bb (ix2 0 k))) 0 * (show EReal from wo (ix2 k 0))) ?_
  refine congrArg₂ (fun a b : EReal => a + b) (Finset.sum_congr rfl fun y _ => ?_) (Finset.sum_congr rfl fun y _ => ?_)
  · exact congrArg (fun a : EReal => a * (show EReal from w1 (ix2 y k))) (mlp_pay3_at z1 g1 r y)
  · refine congrArg (fun a : EReal => a * (show EReal from w2 (ix2 y k))) ?_
    exact congrArg₂ (fun a b : EReal => a * b) (mlp_pay4_at z2 r y) (mlp_pay5_at g2 r y)

/-- A sum over the lanes against one group's lanes and a weight with zero rows in the gaps is the sum over the group's ten. -/
theorem lane_sum (x w : Fin 128 → EReal) (g : Fin 8) (u : Fin 10 → EReal)
    (hw : ∀ y : Fin 128, w y = @dite EReal (y.val % 16 < 10) _ (fun h => u ⟨y.val % 16, h⟩) (fun _ => 0)) :
    (∑ y : Fin 128, x y * lane y (BitVec.ofNat 32 g.val) * w y) = ∑ h : Fin 10, x ⟨16 * g.val + h.val, by have := g.isLt; have := h.isLt; omega⟩ * u h := by
  symm
  have hg := g.isLt
  refine Finset.sum_of_injOn (fun h : Fin 10 => (⟨16 * g.val + h.val, by have := h.isLt; omega⟩ : Fin 128)) ?_ (fun _ _ => Finset.mem_coe.mpr (Finset.mem_univ _)) ?_ ?_
  · intro a _ b _ h
    have := congrArg Fin.val h
    exact Fin.ext (by simpa using this)
  · intro y _ hy
    by_cases c : y.val % 16 < 10
    · have hn : ¬ y.val / 16 = g.val := fun h => hy ⟨⟨y.val % 16, c⟩, Finset.mem_coe.mpr (Finset.mem_univ _), Fin.ext (by show 16 * g.val + y.val % 16 = y.val; omega)⟩
      have hl : lane y (BitVec.ofNat 32 g.val) = 0 := by
        unfold lane
        rw [if_neg]
        intro e
        have e' := congrArg BitVec.toNat e
        rw [BitVec.toNat_ofNat, BitVec.toNat_ofNat] at e'
        have := y.isLt
        omega
      rw [hl, mul_zero, zero_mul]
    · rw [hw, dif_neg c, mul_zero]
  · intro h _
    have hh := h.isLt
    have hl : lane ⟨16 * g.val + h.val, by omega⟩ (BitVec.ofNat 32 g.val) = 1 := by
      unfold lane
      rw [if_pos]
      show BitVec.ofNat 32 ((16 * g.val + h.val) / 16) = _
      rw [show (16 * g.val + h.val) / 16 = g.val by omega]
    rw [hl, mul_one, hw, dif_pos (by show (16 * g.val + h.val) % 16 < 10; omega)]
    refine congrArg (fun a => x ⟨16 * g.val + h.val, by omega⟩ * u a) (Fin.ext ?_)
    show h.val = (16 * g.val + h.val) % 16
    omega

/-! ## The array -/

variable (V : (c : Dev nD) → (b : Ref sig .tc) → Buf (Elt Ideal) ((c.tc : Thread nD τ).loc b)) (c : Dev nD)

theorem idx2_rows : ∀ t : Fin grid2.N, (grid2.coords t 0).val = t.val := by decide +kernel

/-- The network at row `n` of the arrays. -/
def netAt (n : Fin 16384) : EReal :=
  net (fun y => (V c main_v63_0 : S16384x128.Idx → EReal) (ix2 n y)) (fun y => (V c main_v63_1 : S16384x128.Idx → EReal) (ix2 n y))
    ((V c main_v59 : S16384x1.Idx → BitVec 32) (ix2 n 0)) ((V c main_v62 : S16384x1.Idx → BitVec 32) (ix2 n 0))
    (V c main_v68) (V c main_v73) (V c main_v74) (V c main_arg9) (V c main_v75)

theorem index2_0 : ∀ t : Fin cfg2.N, win2_0.index t = ![t.val, 0] := by decide +kernel

theorem index2_1 : ∀ t : Fin cfg2.N, win2_1.index t = ![t.val, 0] := by decide +kernel

theorem index2_2 : ∀ t : Fin cfg2.N, win2_2.index t = ![t.val, 0] := by decide +kernel

theorem index2_3 : ∀ t : Fin cfg2.N, win2_3.index t = ![t.val, 0] := by decide +kernel

theorem index2_9 : ∀ t : Fin cfg2.N, win2_9.index t = ![t.val, 0] := by decide +kernel

theorem index2_4 : ∀ t : Fin cfg2.N, win2_4.index t = ![0, 0] := by decide +kernel

theorem index2_5 : ∀ t : Fin cfg2.N, win2_5.index t = ![0, 0] := by decide +kernel

theorem index2_6 : ∀ t : Fin cfg2.N, win2_6.index t = ![0, 0] := by decide +kernel

theorem index2_7 : ∀ t : Fin cfg2.N, win2_7.index t = ![0, 0] := by decide +kernel

theorem index2_8 : ∀ t : Fin cfg2.N, win2_8.index t = ![0, 0] := by decide +kernel

theorem blk2_0 (t : Fin cfg2.N) (r : Fin 2048) (y : Fin 128) (n : Fin 16384) (hn : n.val = 2048 * t.val + r.val) :
    @Eq EReal (blkIn V c 0 t (ix2 r y)) ((V c main_v63_0 : S16384x128.Idx → EReal) (ix2 n y)) := by
  refine congrArg (V c main_v63_0 : S16384x128.Idx → EReal) ?_
  funext a
  match a with
  | ⟨0, _⟩ => apply Fin.ext; show (((cfg2.win 0).blk t).view.emb (ix2 r y) 0 : ℕ) = n.val; blk_simp [index2_0]; rw [hn, Nat.mul_comm]
  | ⟨1, _⟩ => apply Fin.ext; show (((cfg2.win 0).blk t).view.emb (ix2 r y) 1 : ℕ) = y.val; blk_simp [index2_0]

theorem blk2_1 (t : Fin cfg2.N) (r : Fin 2048) (y : Fin 128) (n : Fin 16384) (hn : n.val = 2048 * t.val + r.val) :
    @Eq EReal (blkIn V c 1 t (ix2 r y)) ((V c main_v63_1 : S16384x128.Idx → EReal) (ix2 n y)) := by
  refine congrArg (V c main_v63_1 : S16384x128.Idx → EReal) ?_
  funext a
  match a with
  | ⟨0, _⟩ => apply Fin.ext; show (((cfg2.win 1).blk t).view.emb (ix2 r y) 0 : ℕ) = n.val; blk_simp [index2_1]; rw [hn, Nat.mul_comm]
  | ⟨1, _⟩ => apply Fin.ext; show (((cfg2.win 1).blk t).view.emb (ix2 r y) 1 : ℕ) = y.val; blk_simp [index2_1]

theorem blk2_2 (t : Fin cfg2.N) (r : Fin 2048) (y : Fin 1) (n : Fin 16384) (hn : n.val = 2048 * t.val + r.val) :
    @Eq (BitVec 32) (blkIn V c 2 t (ix2 r y)) ((V c main_v59 : S16384x1.Idx → BitVec 32) (ix2 n y)) := by
  refine congrArg (V c main_v59 : S16384x1.Idx → BitVec 32) ?_
  funext a
  match a with
  | ⟨0, _⟩ => apply Fin.ext; show (((cfg2.win 2).blk t).view.emb (ix2 r y) 0 : ℕ) = n.val; blk_simp [index2_2]; rw [hn, Nat.mul_comm]
  | ⟨1, _⟩ => apply Fin.ext; show (((cfg2.win 2).blk t).view.emb (ix2 r y) 1 : ℕ) = y.val; blk_simp [index2_2]

theorem blk2_3 (t : Fin cfg2.N) (r : Fin 2048) (y : Fin 1) (n : Fin 16384) (hn : n.val = 2048 * t.val + r.val) :
    @Eq (BitVec 32) (blkIn V c 3 t (ix2 r y)) ((V c main_v62 : S16384x1.Idx → BitVec 32) (ix2 n y)) := by
  refine congrArg (V c main_v62 : S16384x1.Idx → BitVec 32) ?_
  funext a
  match a with
  | ⟨0, _⟩ => apply Fin.ext; show (((cfg2.win 3).blk t).view.emb (ix2 r y) 0 : ℕ) = n.val; blk_simp [index2_3]; rw [hn, Nat.mul_comm]
  | ⟨1, _⟩ => apply Fin.ext; show (((cfg2.win 3).blk t).view.emb (ix2 r y) 1 : ℕ) = y.val; blk_simp [index2_3]

theorem blk2_4 (t : Fin cfg2.N) : @Eq (S128x10.Idx → EReal) (blkIn V c 4 t) (V c main_v68) := by
  funext x
  refine congrArg (V c main_v68 : S128x10.Idx → EReal) ?_
  funext a
  match a with
  | ⟨0, _⟩ => apply Fin.ext; show (((cfg2.win 4).blk t).view.emb x 0 : ℕ) = (x 0).val; blk_simp [index2_4]
  | ⟨1, _⟩ => apply Fin.ext; show (((cfg2.win 4).blk t).view.emb x 1 : ℕ) = (x 1).val; blk_simp [index2_4]

theorem blk2_5 (t : Fin cfg2.N) : @Eq (S128x10.Idx → EReal) (blkIn V c 5 t) (V c main_v73) := by
  funext x
  refine congrArg (V c main_v73 : S128x10.Idx → EReal) ?_
  funext a
  match a with
  | ⟨0, _⟩ => apply Fin.ext; show (((cfg2.win 5).blk t).view.emb x 0 : ℕ) = (x 0).val; blk_simp [index2_5]
  | ⟨1, _⟩ => apply Fin.ext; show (((cfg2.win 5).blk t).view.emb x 1 : ℕ) = (x 1).val; blk_simp [index2_5]

theorem blk2_6 (t : Fin cfg2.N) : @Eq (S1x10.Idx → EReal) (blkIn V c 6 t) (V c main_v74) := by
  funext x
  refine congrArg (V c main_v74 : S1x10.Idx → EReal) ?_
  funext a
  match a with
  | ⟨0, _⟩ => apply Fin.ext; show (((cfg2.win 6).blk t).view.emb x 0 : ℕ) = (x 0).val; blk_simp [index2_6]
  | ⟨1, _⟩ => apply Fin.ext; show (((cfg2.win 6).blk t).view.emb x 1 : ℕ) = (x 1).val; blk_simp [index2_6]

theorem blk2_7 (t : Fin cfg2.N) : @Eq (S10x1.Idx → EReal) (blkIn V c 7 t) (V c main_arg9) := by
  funext x
  refine congrArg (V c main_arg9 : S10x1.Idx → EReal) ?_
  funext a
  match a with
  | ⟨0, _⟩ => apply Fin.ext; show (((cfg2.win 7).blk t).view.emb x 0 : ℕ) = (x 0).val; blk_simp [index2_7]
  | ⟨1, _⟩ => apply Fin.ext; show (((cfg2.win 7).blk t).view.emb x 1 : ℕ) = (x 1).val; blk_simp [index2_7]

theorem blk2_8 (t : Fin cfg2.N) : @Eq (S1x1.Idx → EReal) (blkIn V c 8 t) (V c main_v75) := by
  funext x
  refine congrArg (V c main_v75 : S1x1.Idx → EReal) ?_
  funext a
  match a with
  | ⟨0, _⟩ => apply Fin.ext; show (((cfg2.win 8).blk t).view.emb x 0 : ℕ) = (x 0).val; blk_simp [index2_8]
  | ⟨1, _⟩ => apply Fin.ext; show (((cfg2.win 8).blk t).view.emb x 1 : ℕ) = (x 1).val; blk_simp [index2_8]

set_option maxHeartbeats 1000000 in
set_option maxRecDepth 16384 in
theorem mlpBlk_at (t : Fin cfg2.N) (r : Fin 2048) (n : Fin 16384) (hn : n.val = 2048 * t.val + r.val) :
    @Eq EReal (mlpBlk V c t (ix2 r 0)) (netAt V c n) := by
  refine (mlp_blk_at (blkIn V c 0 t) (blkIn V c 1 t) (blkIn V c 2 t) (blkIn V c 3 t) (blkIn V c 4 t) (blkIn V c 5 t) (blkIn V c 6 t) (blkIn V c 7 t) (blkIn V c 8 t) r).trans ?_
  have e0 := fun y => blk2_0 V c t r y n hn
  have e1 := fun y => blk2_1 V c t r y n hn
  have e2 := blk2_2 V c t r 0 n hn
  have e3 := blk2_3 V c t r 0 n hn
  have f0 : @Eq (Fin 128 → EReal) (fun y => blkIn V c 0 t (ix2 r y)) (fun y => (V c main_v63_0 : S16384x128.Idx → EReal) (ix2 n y)) := funext e0
  have f1 : @Eq (Fin 128 → EReal) (fun y => blkIn V c 1 t (ix2 r y)) (fun y => (V c main_v63_1 : S16384x128.Idx → EReal) (ix2 n y)) := funext e1
  have key : ∀ {x1 x1' x2 x2' : Fin 128 → EReal} {g1 g1' g2 g2' : BitVec 32} {w1 w1' w2 w2' : S128x10.Idx → EReal} {b b' : S1x10.Idx → EReal}
      {wo wo' : S10x1.Idx → EReal} {bo bo' : S1x1.Idx → EReal}, x1 = x1' → x2 = x2' → g1 = g1' → g2 = g2' → w1 = w1' → w2 = w2' → b = b' → wo = wo' → bo = bo' →
      net x1 x2 g1 g2 w1 w2 b wo bo = net x1' x2' g1' g2' w1' w2' b' wo' bo' := by
    intros; subst_vars; rfl
  exact key f0 f1 e2 e3 (blk2_4 V c t) (blk2_5 V c t) (blk2_6 V c t) (blk2_7 V c t) (blk2_8 V c t)

set_option maxHeartbeats 1000000 in
set_option maxRecDepth 16384 in
theorem mlp_out_eq : mlpOut V c = (show Buf (Elt Ideal) ((c.tc : Thread nD τ).loc main_v76) from fun i : S16384x1.Idx => netAt V c (i 0)) := by
  unfold mlpOut
  refine (mlpDat V c).arrAt_eq_of_covers 9 _ (by decide +kernel) fun t hf y => ?_
  blk_simp
  have hy : (y : S2048x1.Idx) = ix2 (n0 := 2048) (n1 := 1) (y 0) 0 := by
    funext a
    match a with
    | ⟨0, _⟩ => rfl
    | ⟨1, _⟩ => exact Fin.ext (by have : ((y : S2048x1.Idx) 1).val < 1 := ((y : S2048x1.Idx) 1).isLt; show ((y : S2048x1.Idx) 1).val = 0; omega)
  refine (congrArg (mlpBlk V c t) hy).trans ?_
  refine mlpBlk_at V c t _ _ ?_
  show (((cfg2.win 9).blk t).view.emb y 0 : ℕ) = _
  blk_simp [index2_9]
  rw [Nat.mul_comm]

end Cert.Proof

end
-- ==== Proof.MathK.lean ====
/-
  What the kernel leaves in its result, row by row, at the ideal instance.
-/
module

public import proofs.«01_k».proof.Proof.MathScan
public import proofs.«01_k».proof.Proof.MathB
public import proofs.«01_k».proof.Proof.MathMlp

@[expose] public section

noncomputable section

namespace Cert.Proof

open Cert.KernelIdeal Cert.KernelIdeal.Gen

open Idealize.ShloMosaic
open Idealize.SL.Sem

/-- The result's row of two table rows. -/
def answer (T1 T2 : S1000000x32.Idx → EReal) (w1 : S32x10.Idx → EReal) (b1 : S10.Idx → EReal) (w2 : S32x10.Idx → EReal) (b2 : S10.Idx → EReal)
    (wf : S20x10.Idx → EReal) (bf : S10.Idx → EReal) (wo : S10x1.Idx → EReal) (bo : S1.Idx → EReal) (r1 r2 : Fin 1000000) : EReal :=
  Ideal.logistic ((∑ k : Fin 10, max ((∑ h : Fin 10, layer T1 w1 b1 r1 h * wf (ix2 ⟨h.val, by have := h.isLt; omega⟩ k))
    + (∑ h : Fin 10, layer T2 w2 b2 r2 h * wf (ix2 ⟨10 + h.val, by have := h.isLt; omega⟩ k)) + bf (ix1 k)) 0 * wo (ix2 k 0)) + bo (ix1 0))

variable (m : (ℓ : Loc nD τ sig) → Buf (Elt Ideal) ℓ) (c : Dev nD)

theorem W1_kept (b : Ref sig .tc) (hA : b ∉ wrA) : W1 m c (Proc.devRef .tc b) = W0 m c (Proc.devRef .tc b) := by
  rw [W1, keptA hA]

theorem W2_kept (b : Ref sig .tc) (hA : b ∉ wrA) (h0 : b ≠ main_v46_0) (h1 : b ≠ main_v46_1) :
    W2 m c (Proc.devRef .tc b) = W0 m c (Proc.devRef .tc b) := by
  rw [W2_ne m c b h0 h1, W1_kept m c b hA]

theorem W4_kept (b : Ref sig .tc) (hA : b ∉ wrA) (hB : b ∉ wrB) (h0 : b ≠ main_v46_0) (h1 : b ≠ main_v46_1)
    (h2 : b ≠ main_v63_0) (h3 : b ≠ main_v63_1) : W4 m c (Proc.devRef .tc b) = W0 m c (Proc.devRef .tc b) := by
  rw [W4_ne m c _ (StableHlo.devRef_ne_of_ne h2) (StableHlo.devRef_ne_of_ne h3), W3, keptB hB, W2_kept m c b hA h0 h1]

/-- The word of the ids at `(n, j)`. -/
abbrev idAt (n : Fin 16384) (j : Fin 2) : BitVec 32 := (W0 m c (Proc.devRef .tc main_arg0) : S16384x2.Idx → BitVec 32) (ix2 n j)

theorem W2_ids : W2 m c (Proc.devRef .tc main_arg0) = W0 m c (Proc.devRef .tc main_arg0) :=
  W2_kept m c main_arg0 (by decide) (by decide) (by decide)

theorem gRows_at (Z : S131072x128.Idx → EReal) (I : S32x4x128.Idx → BitVec 32) (n : Fin 16384) (y : Fin 128) (q : Fin 131072) (w : BitVec 32)
    (hw : ∀ (a : Fin 32) (b : Fin 4) (k : Fin 128), a.val * 512 + b.val * 128 + k.val = n.val → I (ix3 a b k) = w) (hq : w.toNat = q.val) :
    gRows Z I (ix2 n y) = Z (ix2 q y) := by
  unfold gRows
  have hn := n.isLt
  have e := hw ⟨n.val / 512, by omega⟩ ⟨n.val / 128 % 4, Nat.mod_lt _ (by decide)⟩ ⟨n.val % 128, Nat.mod_lt _ (by decide)⟩
    (by show n.val / 512 * 512 + n.val / 128 % 4 * 128 + n.val % 128 = n.val; omega)
  refine (congrArg Z (ix2_eq_valueIdx (_ : Fin 131072) (_ : Fin 128)).symm).trans ?_
  refine congrArg (fun z : Fin 131072 => Z (ix2 z y)) (Fin.ext ?_)
  show (I _).toNat % 131072 = q.val
  refine (congrArg (fun v => (I v).toNat % 131072) (ix3_eq_valueIdx (_ : Fin 32) (_ : Fin 4) (_ : Fin 128)).symm).trans ?_
  refine (congrArg (fun v : BitVec 32 => v.toNat % 131072) e).trans ?_
  have hq2 := q.isLt
  show w.toNat % 131072 = q.val
  omega

theorem ids1_at (n : Fin 16384) (a : Fin 32) (b : Fin 4) (k : Fin 128) (e : a.val * 512 + b.val * 128 + k.val = n.val) :
    ((gin m).i1 c : S32x4x128.Idx → BitVec 32) (ix3 a b k) = IntOp.andi (idAt m c n 0) 131071#32 := by
  refine (v53_at (W2 m c) a b k).trans ?_
  refine congrArg (fun z => IntOp.andi z 131071#32) ?_
  rw [W2_ids]
  exact congrArg (fun z : Fin 16384 => idAt m c z 0) (Fin.ext e)

theorem tab1_at (q : Fin 131072) (y : Fin 128) :
    @Eq EReal (((gin m).z1 c : S131072x128.Idx → EReal) (ix2 q y))
      (z1 (C0 (V := fun c b => W1 m c (Proc.devRef .tc b)) c) (q.val / 8192) (ix2 ⟨q.val % 8192, Nat.mod_lt _ (by decide)⟩ y)) := by
  have e : (gin m).z1 c = scanOut1 (fun c b => W1 m c (Proc.devRef .tc b)) c := by
    show W3 m c (Proc.devRef .tc main_v46_0) = _
    rw [W3, keptB (by decide), W2_out1]
  rw [e]
  unfold scanOut1 rows
  exact congrArg (z1 (C0 (V := fun c b => W1 m c (Proc.devRef .tc b)) c) (q.val / 8192)) (ix2_eq_valueIdx (_ : Fin 8192) (_ : Fin 128)).symm

theorem out1_at (n : Fin 16384) (r : Fin 1000000) (hr : (idAt m c n 0).toNat = r.val) (g : Fin 8) (hg : g.val = r.val / 131072) (h : Fin 10) (y : Fin 128)
    (hy : y.val = 16 * g.val + h.val) :
    @Eq EReal ((W5 m c (Proc.devRef .tc main_v63_0) : S16384x128.Idx → EReal) (ix2 n y))
      (layer (W0 m c (Proc.devRef .tc main_arg1)) (W0 m c (Proc.devRef .tc main_arg3)) (W0 m c (Proc.devRef .tc main_arg4)) r h) := by
  have hr2 := r.isLt
  have e : W5 m c (Proc.devRef .tc main_v63_0) = (gin m).o1 c := by rw [W5, keptC (by decide), W4_out1]
  rw [e]
  refine (gRows_at _ _ n y ⟨r.val % 131072, Nat.mod_lt _ (by decide)⟩ _ (fun a b k e => ids1_at m c n a b k e) (by rw [and_low, hr])).trans ?_
  refine (tab1_at m c _ y).trans ?_
  have hid : (16 * g.val + r.val % 131072 / 8192) * 8192 + r.val % 131072 % 8192 = r.val := by omega
  refine (z1_val m c (r.val % 131072 / 8192) (by omega) ⟨r.val % 131072 % 8192, Nat.mod_lt _ (by decide)⟩ g h (by show (16 * g.val + r.val % 131072 / 8192) * 8192 + r.val % 131072 % 8192 < 1000000; omega) y hy).trans ?_
  exact congrArg (fun z : Fin 1000000 => layer _ _ _ z h) (Fin.ext hid)

theorem ids2_at (n : Fin 16384) (a : Fin 32) (b : Fin 4) (k : Fin 128) (e : a.val * 512 + b.val * 128 + k.val = n.val) :
    ((gin m).i2 c : S32x4x128.Idx → BitVec 32) (ix3 a b k) = IntOp.andi (idAt m c n 1) 131071#32 := by
  refine (v56_at (W2 m c) a b k).trans ?_
  refine congrArg (fun z => IntOp.andi z 131071#32) ?_
  rw [W2_ids]
  exact congrArg (fun z : Fin 16384 => idAt m c z 1) (Fin.ext e)

theorem tab2_at (q : Fin 131072) (y : Fin 128) :
    @Eq EReal (((gin m).z2 c : S131072x128.Idx → EReal) (ix2 q y))
      (z2 (C0 (V := fun c b => W1 m c (Proc.devRef .tc b)) c) (q.val / 8192) (ix2 ⟨q.val % 8192, Nat.mod_lt _ (by decide)⟩ y)) := by
  have e : (gin m).z2 c = scanOut2 (fun c b => W1 m c (Proc.devRef .tc b)) c := by
    show W3 m c (Proc.devRef .tc main_v46_1) = _
    rw [W3, keptB (by decide), W2_out2]
  rw [e]
  unfold scanOut2 rows
  exact congrArg (z2 (C0 (V := fun c b => W1 m c (Proc.devRef .tc b)) c) (q.val / 8192)) (ix2_eq_valueIdx (_ : Fin 8192) (_ : Fin 128)).symm

theorem out2_at (n : Fin 16384) (r : Fin 1000000) (hr : (idAt m c n 1).toNat = r.val) (g : Fin 8) (hg : g.val = r.val / 131072) (h : Fin 10) (y : Fin 128)
    (hy : y.val = 16 * g.val + h.val) :
    @Eq EReal ((W5 m c (Proc.devRef .tc main_v63_1) : S16384x128.Idx → EReal) (ix2 n y))
      (layer (W0 m c (Proc.devRef .tc main_arg2)) (W0 m c (Proc.devRef .tc main_arg5)) (W0 m c (Proc.devRef .tc main_arg6)) r h) := by
  have hr2 := r.isLt
  have e : W5 m c (Proc.devRef .tc main_v63_1) = (gin m).o2 c := by rw [W5, keptC (by decide), W4_out2]
  rw [e]
  refine (gRows_at _ _ n y ⟨r.val % 131072, Nat.mod_lt _ (by decide)⟩ _ (fun a b k e => ids2_at m c n a b k e) (by rw [and_low, hr])).trans ?_
  refine (tab2_at m c _ y).trans ?_
  have hid : (16 * g.val + r.val % 131072 / 8192) * 8192 + r.val % 131072 % 8192 = r.val := by omega
  refine (z2_val m c (r.val % 131072 / 8192) (by omega) ⟨r.val % 131072 % 8192, Nat.mod_lt _ (by decide)⟩ g h (by show (16 * g.val + r.val % 131072 / 8192) * 8192 + r.val % 131072 % 8192 < 1000000; omega) y hy).trans ?_
  exact congrArg (fun z : Fin 1000000 => layer _ _ _ z h) (Fin.ext hid)

theorem grp1_at (n : Fin 16384) (r : Fin 1000000) (hr : (idAt m c n 0).toNat = r.val) :
    (W5 m c (Proc.devRef .tc main_v59) : S16384x1.Idx → BitVec 32) (ix2 n 0) = BitVec.ofNat 32 (r.val / 131072) := by
  have e : W5 m c (Proc.devRef .tc main_v59) = StableHlo.after opsB (W2 m c) (Proc.devRef .tc main_v59) := by
    rw [W5, keptC (by decide), W4_ne m c _ (StableHlo.devRef_ne_of_ne (by decide)) (StableHlo.devRef_ne_of_ne (by decide)), W3]
  rw [e]
  refine (v59_at (W2 m c) n).trans ?_
  rw [W2_ids, ← hr]
  exact shift_high (hr.trans_lt r.isLt)

theorem grp2_at (n : Fin 16384) (r : Fin 1000000) (hr : (idAt m c n 1).toNat = r.val) :
    (W5 m c (Proc.devRef .tc main_v62) : S16384x1.Idx → BitVec 32) (ix2 n 0) = BitVec.ofNat 32 (r.val / 131072) := by
  have e : W5 m c (Proc.devRef .tc main_v62) = StableHlo.after opsB (W2 m c) (Proc.devRef .tc main_v62) := by
    rw [W5, keptC (by decide), W4_ne m c _ (StableHlo.devRef_ne_of_ne (by decide)) (StableHlo.devRef_ne_of_ne (by decide)), W3]
  rw [e]
  refine (v62_at (W2 m c) n).trans ?_
  rw [W2_ids, ← hr]
  exact shift_high (hr.trans_lt r.isLt)

theorem wf1_at (k : Fin 10) (y : Fin 128) : @Eq EReal ((W5 m c (Proc.devRef .tc main_v68) : S128x10.Idx → EReal) (ix2 y k))
    (@dite EReal (y.val % 16 < 10) _ (fun h => (fun h : Fin 10 => (W0 m c (Proc.devRef .tc main_arg7) : S20x10.Idx → EReal) (ix2 ⟨h.val, by have := h.isLt; omega⟩ k)) ⟨y.val % 16, h⟩) (fun _ => 0)) := by
  refine (v68_at (W4 m c) y k).trans ?_
  rw [W4_kept m c main_arg7 (by decide) (by decide) (by decide) (by decide) (by decide) (by decide)]
  by_cases h : y.val % 16 < 10
  · rw [dif_pos h, dif_pos h]
    exact congrArg (fun z : Fin 20 => (W0 m c (Proc.devRef .tc main_arg7) : S20x10.Idx → EReal) (ix2 z k)) (Fin.ext (Nat.zero_add _))
  · rw [dif_neg h, dif_neg h]

theorem wf2_at (k : Fin 10) (y : Fin 128) : @Eq EReal ((W5 m c (Proc.devRef .tc main_v73) : S128x10.Idx → EReal) (ix2 y k))
    (@dite EReal (y.val % 16 < 10) _ (fun h => (fun h : Fin 10 => (W0 m c (Proc.devRef .tc main_arg7) : S20x10.Idx → EReal) (ix2 ⟨10 + h.val, by have := h.isLt; omega⟩ k)) ⟨y.val % 16, h⟩) (fun _ => 0)) := by
  refine (v73_at (W4 m c) y k).trans ?_
  rw [W4_kept m c main_arg7 (by decide) (by decide) (by decide) (by decide) (by decide) (by decide)]

theorem bf_at (k : Fin 10) : @Eq EReal ((W5 m c (Proc.devRef .tc main_v74) : S1x10.Idx → EReal) (ix2 0 k)) ((W0 m c (Proc.devRef .tc main_arg8) : S10.Idx → EReal) (ix1 k)) := by
  refine (v74_at (W4 m c) k).trans ?_
  rw [W4_kept m c main_arg8 (by decide) (by decide) (by decide) (by decide) (by decide) (by decide)]

theorem bo_at : @Eq EReal ((W5 m c (Proc.devRef .tc main_v75) : S1x1.Idx → EReal) (ix2 0 0)) ((W0 m c (Proc.devRef .tc main_arg10) : S1.Idx → EReal) (ix1 0)) := by
  refine (v75_at (W4 m c)).trans ?_
  rw [W4_kept m c main_arg10 (by decide) (by decide) (by decide) (by decide) (by decide) (by decide)]

theorem wo_eq : W5 m c (Proc.devRef .tc main_arg9) = W0 m c (Proc.devRef .tc main_arg9) := by
  rw [W5, keptC (by decide), W4_kept m c main_arg9 (by decide) (by decide) (by decide) (by decide) (by decide) (by decide)]

/-- The network over lanes, when each operand is known lane by lane. -/
theorem net_eq (x1 x2 : Fin 128 → EReal) (g1 g2 : BitVec 32) (w1 w2 : S128x10.Idx → EReal) (b : S1x10.Idx → EReal) (wo wo' : S10x1.Idx → EReal)
    (bo : S1x1.Idx → EReal) (p1 p2 : Fin 8) (u1 u2 : Fin 10 → EReal) (wf : S20x10.Idx → EReal) (bf : S10.Idx → EReal) (bo' : S1.Idx → EReal)
    (e1 : g1 = BitVec.ofNat 32 p1.val) (e2 : g2 = BitVec.ofNat 32 p2.val)
    (h1 : ∀ (h : Fin 10) (y : Fin 128), y.val = 16 * p1.val + h.val → x1 y = u1 h) (h2 : ∀ (h : Fin 10) (y : Fin 128), y.val = 16 * p2.val + h.val → x2 y = u2 h)
    (hw1 : ∀ (k : Fin 10) (y : Fin 128), w1 (ix2 y k) = @dite EReal (y.val % 16 < 10) _ (fun h => (fun h : Fin 10 => wf (ix2 ⟨h.val, by have := h.isLt; omega⟩ k)) ⟨y.val % 16, h⟩) (fun _ => 0))
    (hw2 : ∀ (k : Fin 10) (y : Fin 128), w2 (ix2 y k) = @dite EReal (y.val % 16 < 10) _ (fun h => (fun h : Fin 10 => wf (ix2 ⟨10 + h.val, by have := h.isLt; omega⟩ k)) ⟨y.val % 16, h⟩) (fun _ => 0))
    (hb : ∀ k : Fin 10, b (ix2 0 k) = bf (ix1 k)) (ho : wo = wo') (hbo : bo (ix2 0 0) = bo' (ix1 0)) :
    net x1 x2 g1 g2 w1 w2 b wo bo = Ideal.logistic ((∑ k : Fin 10, max ((∑ h : Fin 10, u1 h * wf (ix2 ⟨h.val, by have := h.isLt; omega⟩ k))
      + (∑ h : Fin 10, u2 h * wf (ix2 ⟨10 + h.val, by have := h.isLt; omega⟩ k)) + bf (ix1 k)) 0 * wo' (ix2 k 0)) + bo' (ix1 0)) := by
  subst e1 e2 ho
  unfold net
  rw [hbo]
  refine congrArg (fun z : EReal => Ideal.logistic (z + bo' (ix1 0))) (Finset.sum_congr rfl fun k _ => ?_)
  have s1 := lane_sum x1 (fun y => w1 (ix2 y k)) p1 (fun h : Fin 10 => wf (ix2 ⟨h.val, by have := h.isLt; omega⟩ k)) (hw1 k)
  have s2 := lane_sum x2 (fun y => w2 (ix2 y k)) p2 (fun h : Fin 10 => wf (ix2 ⟨10 + h.val, by have := h.isLt; omega⟩ k)) (hw2 k)
  have t1 := Finset.sum_congr (rfl : (Finset.univ : Finset (Fin 10)) = Finset.univ) fun h _ => congrArg (fun z : EReal => z * wf (ix2 ⟨h.val, by have := h.isLt; omega⟩ k)) (h1 h ⟨16 * p1.val + h.val, by have := p1.isLt; have := h.isLt; omega⟩ rfl)
  have t2 := Finset.sum_congr (rfl : (Finset.univ : Finset (Fin 10)) = Finset.univ) fun h _ => congrArg (fun z : EReal => z * wf (ix2 ⟨10 + h.val, by have := h.isLt; omega⟩ k)) (h2 h ⟨16 * p2.val + h.val, by have := p2.isLt; have := h.isLt; omega⟩ rfl)
  rw [hb, s1.trans t1, s2.trans t2]

theorem netAt_eq (n : Fin 16384) (r1 r2 : Fin 1000000) (hr1 : (idAt m c n 0).toNat = r1.val) (hr2 : (idAt m c n 1).toNat = r2.val) :
    @Eq EReal (netAt (fun c b => W5 m c (Proc.devRef .tc b)) c n)
      (answer (W0 m c (Proc.devRef .tc main_arg1)) (W0 m c (Proc.devRef .tc main_arg2)) (W0 m c (Proc.devRef .tc main_arg3)) (W0 m c (Proc.devRef .tc main_arg4))
        (W0 m c (Proc.devRef .tc main_arg5)) (W0 m c (Proc.devRef .tc main_arg6)) (W0 m c (Proc.devRef .tc main_arg7)) (W0 m c (Proc.devRef .tc main_arg8))
        (W0 m c (Proc.devRef .tc main_arg9)) (W0 m c (Proc.devRef .tc main_arg10)) r1 r2) := by
  have l1 := r1.isLt
  have l2 := r2.isLt
  exact net_eq _ _ _ _ _ _ _ _ _ _ ⟨r1.val / 131072, by omega⟩ ⟨r2.val / 131072, by omega⟩ _ _ _ _ _ (grp1_at m c n r1 hr1) (grp2_at m c n r2 hr2)
    (fun h y hy => out1_at m c n r1 hr1 ⟨r1.val / 131072, by omega⟩ rfl h y hy) (fun h y hy => out2_at m c n r2 hr2 ⟨r2.val / 131072, by omega⟩ rfl h y hy)
    (wf1_at m c) (wf2_at m c) (bf_at m c) (wo_eq m c) (bo_at m c)

end Cert.Proof

end
-- ==== Proof.MathRef.lean ====
/-
  What the reference leaves in its result, element by element, at the ideal instance.
-/
module

public import proofs.«01_k».proof.Proof.Ref
public import proofs.«01_k».proof.Proof.MathBits
public import Idealize.ShloMosaic.Lib.Routing.Ops

@[expose] public section

noncomputable section

namespace Cert.Proof.R

open Cert.ReferenceIdeal Cert.ReferenceIdeal.Gen

open Idealize.ShloMosaic
open Idealize.SL.Sem

variable (W : Valuation τ sig (Elt Ideal))

theorem wrap_id {x : BitVec 32} (h : 0 ≤ x.toInt) :
    Scalar.select (IntOp.cmpi .slt x 0#32) (IntOp.addi x 1000000#32) x = x := by
  have e : IntOp.cmpi .slt x 0#32 = 0#1 := by
    show BitVec.ofBool (x.slt 0#32) = 0#1
    rw [BitVec.slt, show (0#32).toInt = 0 from rfl, decide_eq_false (by omega)]
    rfl
  rw [e]; rfl

theorem in_range {x : BitVec 32} (h0 : 0 ≤ x.toInt) (h1 : x.toInt < 1000000) :
    IntOp.andi (IntOp.cmpi .sge x 0#32) (IntOp.cmpi .sle x 999999#32) = 1#1 := by
  have e0 : IntOp.cmpi .sge x 0#32 = 1#1 := by
    show BitVec.ofBool ((0#32).sle x) = 1#1
    rw [BitVec.sle, show (0#32).toInt = 0 from rfl, decide_eq_true h0]
    rfl
  have e1 : IntOp.cmpi .sle x 999999#32 = 1#1 := by
    show BitVec.ofBool (x.sle 999999#32) = 1#1
    rw [BitVec.sle, show (999999#32).toInt = 999999 from by decide, decide_eq_true (by omega)]
    rfl
  rw [e0, e1]; rfl

theorem fold_one : Finset.fold IntOp.andi (1#1) (fun _ : Fin 1 => 1#1) Finset.univ = 1#1 := by decide

set_option maxHeartbeats 1000000 in
set_option maxRecDepth 16384 in
theorem v2_at (n : Fin 16384) (e : Fin 32) (h0 : 0 ≤ ((W (Proc.devRef .tc main_arg0) : S16384x2.Idx → BitVec 32) (ix2 n 0)).toInt)
    (h1 : ((W (Proc.devRef .tc main_arg0) : S16384x2.Idx → BitVec 32) (ix2 n 0)).toInt < 1000000) :
    @Eq EReal ((StableHlo.after ops1 W (Proc.devRef .tc main_v2) : S16384x32.Idx → EReal) (ix2 n e))
      ((W (Proc.devRef .tc main_arg1) : S1000000x32.Idx → EReal) (ix2 ⟨((W (Proc.devRef .tc main_arg0) : S16384x2.Idx → BitVec 32) (ix2 n 0)).toNat, nonneg_toNat h0 h1⟩ e)) := by
  unfold ops1
  after_reads_simp
  try simp -implicitDefEqProofs only [StableHlo.TRef.toBuf, StableHlo.TRef.ofBuf, cast_cast, cast_eq]
  pointwise
  rw [wrap_id h0, in_range h0 h1, fold_one]
  show Host.gather _ _ _ _ = _
  refine Routing.gather_row _ rfl rfl rfl rfl rfl _ _ n e _ ?_ (by decide)
  show _ = BitVec.ofNat 32 (BitVec.toNat _)
  rw [BitVec.ofNat_toNat, BitVec.setWidth_eq]
  pointwise
  exact wrap_id h0

set_option maxHeartbeats 1000000 in
set_option maxRecDepth 16384 in
theorem v5_at (n : Fin 16384) (e : Fin 32) (h0 : 0 ≤ ((W (Proc.devRef .tc main_arg0) : S16384x2.Idx → BitVec 32) (ix2 n 1)).toInt)
    (h1 : ((W (Proc.devRef .tc main_arg0) : S16384x2.Idx → BitVec 32) (ix2 n 1)).toInt < 1000000) :
    @Eq EReal ((StableHlo.after ops2 W (Proc.devRef .tc main_v5) : S16384x32.Idx → EReal) (ix2 n e))
      ((W (Proc.devRef .tc main_arg2) : S1000000x32.Idx → EReal) (ix2 ⟨((W (Proc.devRef .tc main_arg0) : S16384x2.Idx → BitVec 32) (ix2 n 1)).toNat, nonneg_toNat h0 h1⟩ e)) := by
  unfold ops2
  after_reads_simp
  try simp -implicitDefEqProofs only [StableHlo.TRef.toBuf, StableHlo.TRef.ofBuf, cast_cast, cast_eq]
  pointwise
  rw [wrap_id h0, in_range h0 h1, fold_one]
  show Host.gather _ _ _ _ = _
  refine Routing.gather_row _ rfl rfl rfl rfl rfl _ _ n e _ ?_ (by decide)
  show _ = BitVec.ofNat 32 (BitVec.toNat _)
  rw [BitVec.ofNat_toNat, BitVec.setWidth_eq]
  pointwise
  exact wrap_id h0

section
variable {F : FTy → Type} [FloatOps F]

/-- The two layers. -/
def ops3a : List (HloOp τ sig (Elt F)) :=
  [StableHlo.binary main_v2 main_arg3 main_v6 ((fun l r => Host.dotGeneral dot_S16384x32_S32x10_S16384x10_1_0_0_1_n_n none l r) : (⟨S16384x32, .f32⟩ : BufTy).Contents (Elt F) → (⟨S32x10, .f32⟩ : BufTy).Contents (Elt F) → (⟨S16384x10, .f32⟩ : BufTy).Contents (Elt F)),
   StableHlo.unary main_arg4 main_v7 (broadcastInDim S1x10 ![1] bcast_S10_S1x10_1 : (⟨S10, .f32⟩ : BufTy).Contents (Elt F) → (⟨S1x10, .f32⟩ : BufTy).Contents (Elt F)),
   StableHlo.unary main_v7 main_v8 (broadcastInDim S16384x10 ![0, 1] bcast_S1x10_S16384x10_0_1 : (⟨S1x10, .f32⟩ : BufTy).Contents (Elt F) → (⟨S16384x10, .f32⟩ : BufTy).Contents (Elt F)),
   StableHlo.binary main_v6 main_v8 main_v9 (addf : (⟨S16384x10, .f32⟩ : BufTy).Contents (Elt F) → (⟨S16384x10, .f32⟩ : BufTy).Contents (Elt F) → (⟨S16384x10, .f32⟩ : BufTy).Contents (Elt F)),
   StableHlo.TRef.nullary main_call2.cst (constant S_ .f32 0x00000000#32),
   StableHlo.TRef.unary main_call2.cst main_call2.v0 (broadcastInDim S16384x10 ![] bcast_S_S16384x10),
   StableHlo.TRef.binary (.of main_v9 : StableHlo.TRef sig ⟨S16384x10, .f32⟩) main_call2.v0 main_call2.v1 maximumf,
   StableHlo.binary main_v5 main_arg5 main_v11 ((fun l r => Host.dotGeneral dot_S16384x32_S32x10_S16384x10_1_0_0_1_n_n none l r) : (⟨S16384x32, .f32⟩ : BufTy).Contents (Elt F) → (⟨S32x10, .f32⟩ : BufTy).Contents (Elt F) → (⟨S16384x10, .f32⟩ : BufTy).Contents (Elt F)),
   StableHlo.unary main_arg6 main_v12 (broadcastInDim S1x10 ![1] bcast_S10_S1x10_1 : (⟨S10, .f32⟩ : BufTy).Contents (Elt F) → (⟨S1x10, .f32⟩ : BufTy).Contents (Elt F)),
   StableHlo.unary main_v12 main_v13 (broadcastInDim S16384x10 ![0, 1] bcast_S1x10_S16384x10_0_1 : (⟨S1x10, .f32⟩ : BufTy).Contents (Elt F) → (⟨S16384x10, .f32⟩ : BufTy).Contents (Elt F)),
   StableHlo.binary main_v11 main_v13 main_v14 (addf : (⟨S16384x10, .f32⟩ : BufTy).Contents (Elt F) → (⟨S16384x10, .f32⟩ : BufTy).Contents (Elt F) → (⟨S16384x10, .f32⟩ : BufTy).Contents (Elt F)),
   StableHlo.TRef.nullary main_call3.cst (constant S_ .f32 0x00000000#32),
   StableHlo.TRef.unary main_call3.cst main_call3.v0 (broadcastInDim S16384x10 ![] bcast_S_S16384x10),
   StableHlo.TRef.binary (.of main_v14 : StableHlo.TRef sig ⟨S16384x10, .f32⟩) main_call3.v0 main_call3.v1 maximumf]

/-- The two layers side by side. -/
def ops3b : List (HloOp τ sig (Elt F)) :=
  [StableHlo.binary main_v10 main_v15 main_v16 ((fun a b => concatenate S16384x20 1 [⟨S16384x10, a⟩, ⟨S16384x10, b⟩] concatenates_S16384x10_S16384x10_S16384x20_d1) : (⟨S16384x10, .f32⟩ : BufTy).Contents (Elt F) → (⟨S16384x10, .f32⟩ : BufTy).Contents (Elt F) → (⟨S16384x20, .f32⟩ : BufTy).Contents (Elt F))]

/-- The layers after them. -/
def ops3c : List (HloOp τ sig (Elt F)) :=
  [StableHlo.binary main_v16 main_arg7 main_v17 ((fun l r => Host.dotGeneral dot_S16384x20_S20x10_S16384x10_1_0_0_1_n_n none l r) : (⟨S16384x20, .f32⟩ : BufTy).Contents (Elt F) → (⟨S20x10, .f32⟩ : BufTy).Contents (Elt F) → (⟨S16384x10, .f32⟩ : BufTy).Contents (Elt F)),
   StableHlo.unary main_arg8 main_v18 (broadcastInDim S1x10 ![1] bcast_S10_S1x10_1 : (⟨S10, .f32⟩ : BufTy).Contents (Elt F) → (⟨S1x10, .f32⟩ : BufTy).Contents (Elt F)),
   StableHlo.unary main_v18 main_v19 (broadcastInDim S16384x10 ![0, 1] bcast_S1x10_S16384x10_0_1 : (⟨S1x10, .f32⟩ : BufTy).Contents (Elt F) → (⟨S16384x10, .f32⟩ : BufTy).Contents (Elt F)),
   StableHlo.binary main_v17 main_v19 main_v20 (addf : (⟨S16384x10, .f32⟩ : BufTy).Contents (Elt F) → (⟨S16384x10, .f32⟩ : BufTy).Contents (Elt F) → (⟨S16384x10, .f32⟩ : BufTy).Contents (Elt F)),
   StableHlo.TRef.nullary main_call4.cst (constant S_ .f32 0x00000000#32),
   StableHlo.TRef.unary main_call4.cst main_call4.v0 (broadcastInDim S16384x10 ![] bcast_S_S16384x10),
   StableHlo.TRef.binary (.of main_v20 : StableHlo.TRef sig ⟨S16384x10, .f32⟩) main_call4.v0 main_call4.v1 maximumf,
   StableHlo.binary main_v21 main_arg9 main_v22 ((fun l r => Host.dotGeneral dot_S16384x10_S10x1_S16384x1_1_0_0_1_n_n none l r) : (⟨S16384x10, .f32⟩ : BufTy).Contents (Elt F) → (⟨S10x1, .f32⟩ : BufTy).Contents (Elt F) → (⟨S16384x1, .f32⟩ : BufTy).Contents (Elt F)),
   StableHlo.unary main_arg10 main_v23 (broadcastInDim S1x1 ![1] bcast_S1_S1x1_1 : (⟨S1, .f32⟩ : BufTy).Contents (Elt F) → (⟨S1x1, .f32⟩ : BufTy).Contents (Elt F)),
   StableHlo.unary main_v23 main_v24 (broadcastInDim S16384x1 ![0, 1] bcast_S1x1_S16384x1_0_1 : (⟨S1x1, .f32⟩ : BufTy).Contents (Elt F) → (⟨S16384x1, .f32⟩ : BufTy).Contents (Elt F)),
   StableHlo.binary main_v22 main_v24 main_v25 (addf : (⟨S16384x1, .f32⟩ : BufTy).Contents (Elt F) → (⟨S16384x1, .f32⟩ : BufTy).Contents (Elt F) → (⟨S16384x1, .f32⟩ : BufTy).Contents (Elt F)),
   StableHlo.unary main_v25 main_v26 (Host.negf : (⟨S16384x1, .f32⟩ : BufTy).Contents (Elt F) → (⟨S16384x1, .f32⟩ : BufTy).Contents (Elt F)),
   StableHlo.unary main_v26 main_v27 (Host.exp : (⟨S16384x1, .f32⟩ : BufTy).Contents (Elt F) → (⟨S16384x1, .f32⟩ : BufTy).Contents (Elt F)),
   StableHlo.nullary main_cst (constant S_ .f32 0x3F800000#32),
   StableHlo.unary main_cst main_v28 (broadcastInDim S16384x1 ![] bcast_S_S16384x1 : (⟨S_, .f32⟩ : BufTy).Contents (Elt F) → (⟨S16384x1, .f32⟩ : BufTy).Contents (Elt F)),
   StableHlo.binary main_v28 main_v27 main_v29 (addf : (⟨S16384x1, .f32⟩ : BufTy).Contents (Elt F) → (⟨S16384x1, .f32⟩ : BufTy).Contents (Elt F) → (⟨S16384x1, .f32⟩ : BufTy).Contents (Elt F)),
   StableHlo.nullary main_cst_0 (constant S_ .f32 0x3F800000#32),
   StableHlo.unary main_cst_0 main_v30 (broadcastInDim S16384x1 ![] bcast_S_S16384x1 : (⟨S_, .f32⟩ : BufTy).Contents (Elt F) → (⟨S16384x1, .f32⟩ : BufTy).Contents (Elt F)),
   StableHlo.binary main_v30 main_v29 main_v31 (Host.divf : (⟨S16384x1, .f32⟩ : BufTy).Contents (Elt F) → (⟨S16384x1, .f32⟩ : BufTy).Contents (Elt F) → (⟨S16384x1, .f32⟩ : BufTy).Contents (Elt F))]

set_option maxHeartbeats 1000000 in
set_option maxRecDepth 16384 in
theorem ops3_eq : ops3 (F := F) = ops3a ++ (ops3b ++ ops3c) := by rfl

end

set_option maxHeartbeats 1000000 in
set_option maxRecDepth 16384 in
theorem v10_at (n : Fin 16384) (h : Fin 10) :
    @Eq EReal ((StableHlo.after (ops3a (F := Ideal)) W (Proc.devRef .tc main_v10) : S16384x10.Idx → EReal) (ix2 n h))
      (max ((∑ e : Fin 32, @HMul.hMul EReal EReal EReal _ ((W (Proc.devRef .tc main_v2) : S16384x32.Idx → EReal) (ix2 n e)) ((W (Proc.devRef .tc main_arg3) : S32x10.Idx → EReal) (ix2 e h)))
        + (show EReal from (W (Proc.devRef .tc main_arg4) : S10.Idx → EReal) (ix1 h))) 0) := by
  unfold ops3a
  after_reads_simp
  try simp -implicitDefEqProofs only [StableHlo.TRef.toBuf, StableHlo.TRef.ofBuf, cast_cast, cast_eq]
  pointwise

set_option maxHeartbeats 1000000 in
set_option maxRecDepth 16384 in
theorem v15_at (n : Fin 16384) (h : Fin 10) :
    @Eq EReal ((StableHlo.after (ops3a (F := Ideal)) W (Proc.devRef .tc main_v15) : S16384x10.Idx → EReal) (ix2 n h))
      (max ((∑ e : Fin 32, @HMul.hMul EReal EReal EReal _ ((W (Proc.devRef .tc main_v5) : S16384x32.Idx → EReal) (ix2 n e)) ((W (Proc.devRef .tc main_arg5) : S32x10.Idx → EReal) (ix2 e h)))
        + (show EReal from (W (Proc.devRef .tc main_arg6) : S10.Idx → EReal) (ix1 h))) 0) := by
  unfold ops3a
  after_reads_simp
  try simp -implicitDefEqProofs only [StableHlo.TRef.toBuf, StableHlo.TRef.ofBuf, cast_cast, cast_eq]
  pointwise

set_option maxHeartbeats 1000000 in
set_option maxRecDepth 16384 in
theorem v16_eq : StableHlo.after (ops3b (F := Ideal)) W (Proc.devRef .tc main_v16)
    = (concatenate S16384x20 1 [⟨S16384x10, (W (Proc.devRef .tc main_v10) : S16384x10.Idx → EReal)⟩, ⟨S16384x10, (W (Proc.devRef .tc main_v15) : S16384x10.Idx → EReal)⟩] concatenates_S16384x10_S16384x10_S16384x20_d1 : S16384x20.Idx → EReal) := by
  unfold ops3b
  after_reads_simp
  rfl

set_option maxHeartbeats 1000000 in
set_option maxRecDepth 16384 in
theorem v16_lo (n : Fin 16384) (h : Fin 10) :
    @Eq EReal ((StableHlo.after (ops3b (F := Ideal)) W (Proc.devRef .tc main_v16) : S16384x20.Idx → EReal) (ix2 n (Fin.castAdd 10 h)))
      ((W (Proc.devRef .tc main_v10) : S16384x10.Idx → EReal) (ix2 n h)) := by
  rw [v16_eq]
  generalize (W (Proc.devRef .tc main_v10) : S16384x10.Idx → EReal) = A
  generalize (W (Proc.devRef .tc main_v15) : S16384x10.Idx → EReal) = B
  pointwise
  exact dif_pos h.isLt

set_option maxHeartbeats 1000000 in
set_option maxRecDepth 16384 in
theorem v16_hi (n : Fin 16384) (h : Fin 10) :
    @Eq EReal ((StableHlo.after (ops3b (F := Ideal)) W (Proc.devRef .tc main_v16) : S16384x20.Idx → EReal) (ix2 n (Fin.natAdd 10 h)))
      ((W (Proc.devRef .tc main_v15) : S16384x10.Idx → EReal) (ix2 n h)) := by
  rw [v16_eq]
  generalize (W (Proc.devRef .tc main_v10) : S16384x10.Idx → EReal) = A
  generalize (W (Proc.devRef .tc main_v15) : S16384x10.Idx → EReal) = B
  pointwise
  rw [dif_neg (by simp)]
  congr 2
  exact Fin.ext (Nat.add_sub_cancel_left 10 h.val)

set_option maxHeartbeats 1000000 in
set_option maxRecDepth 16384 in
theorem v31_at (n : Fin 16384) :
    @Eq EReal ((StableHlo.after (ops3c (F := Ideal)) W (Proc.devRef .tc main_v31) : S16384x1.Idx → EReal) (ix2 n 0))
      (Ideal.logistic ((∑ k : Fin 10, @HMul.hMul EReal EReal EReal _ (max ((∑ x : Fin 20, @HMul.hMul EReal EReal EReal _ ((W (Proc.devRef .tc main_v16) : S16384x20.Idx → EReal) (ix2 n x)) ((W (Proc.devRef .tc main_arg7) : S20x10.Idx → EReal) (ix2 x k)))
          + (show EReal from (W (Proc.devRef .tc main_arg8) : S10.Idx → EReal) (ix1 k))) 0) ((W (Proc.devRef .tc main_arg9) : S10x1.Idx → EReal) (ix2 k 0)))
        + (show EReal from (W (Proc.devRef .tc main_arg10) : S1.Idx → EReal) (ix1 0)))) := by
  unfold ops3c
  after_reads_simp
  try simp -implicitDefEqProofs only [StableHlo.TRef.toBuf, StableHlo.TRef.ofBuf, cast_cast, cast_eq]
  pointwise
  rfl

end Cert.Proof.R

end
-- ==== Proof.Alg.lean ====
/-
  The value: the kernel's result and the reference's are the same, row by row, when the ids name rows of the tables.
-/
module

public import proofs.«01_k».proof.Proof.Frames
public import proofs.«01_k».proof.Proof.MathK
public import proofs.«01_k».proof.Proof.MathRef
public import proofs.«01_k».proof.Defs

@[expose] public section

noncomputable section

namespace Cert.Proof

open Idealize.ShloMosaic Idealize.SL.Sem

/-- What the precondition's function takes for granted. -/
theorem pre_facts : Cert.Pre_ids_in_tables.Facts := by
  refine ⟨?_⟩
  decide

namespace R

open Cert.ReferenceIdeal Cert.ReferenceIdeal.Gen

variable (V : Valuation τ sig (Elt Ideal))

abbrev wr3a : List (Ref sig .tc) := [main_v6, main_v7, main_v8, main_v9, main_call2_cst, main_call2_v0, main_v10, main_v11, main_v12, main_v13, main_v14, main_call3_cst, main_call3_v0, main_v15]
theorem writes3a : (ops3a (F := Ideal)).map HloOp.writes = wr3a.map fun w => {Proc.devRef (τ := τ) .tc w} := rfl
theorem kept3a {r : Ref sig .tc} (h : r ∉ wr3a) :
    StableHlo.after (ops3a (F := Ideal)) V (Proc.devRef .tc r) = V (Proc.devRef .tc r) :=
  StableHlo.after_unwritten wr3a writes3a h V

abbrev wr3b : List (Ref sig .tc) := [main_v16]
theorem writes3b : (ops3b (F := Ideal)).map HloOp.writes = wr3b.map fun w => {Proc.devRef (τ := τ) .tc w} := rfl
theorem kept3b {r : Ref sig .tc} (h : r ∉ wr3b) :
    StableHlo.after (ops3b (F := Ideal)) V (Proc.devRef .tc r) = V (Proc.devRef .tc r) :=
  StableHlo.after_unwritten wr3b writes3b h V

/-- Before the layers. -/
abbrev V2 : Valuation τ sig (Elt Ideal) := StableHlo.after ops2 (StableHlo.after ops1 V)
/-- Before the layers meet. -/
abbrev V3 : Valuation τ sig (Elt Ideal) := StableHlo.after ops3a (V2 V)
/-- Before the last layers. -/
abbrev V4 : Valuation τ sig (Elt Ideal) := StableHlo.after ops3b (V3 V)

theorem V2_kept {r : Ref sig .tc} (h1 : r ∉ wr1) (h2 : r ∉ wr2) : V2 V (Proc.devRef .tc r) = V (Proc.devRef .tc r) :=
  (kept2 h2 _).trans (kept1 h1 _)
theorem V4_kept {r : Ref sig .tc} (h1 : r ∉ wr1) (h2 : r ∉ wr2) (ha : r ∉ wr3a) (hb : r ∉ wr3b) :
    V4 V (Proc.devRef .tc r) = V (Proc.devRef .tc r) :=
  (kept3b _ hb).trans ((kept3a _ ha).trans (V2_kept V h1 h2))

/-- The word of the ids at `(n, j)`. -/
abbrev idAt (n : Fin 16384) (j : Fin 2) : BitVec 32 := (V (Proc.devRef .tc main_arg0) : S16384x2.Idx → BitVec 32) (ix2 n j)

theorem row1_at (n : Fin 16384) (e' : Fin 32) (r : Fin 1000000) (hr : (idAt V n 0).toNat = r.val) (h0 : 0 ≤ (idAt V n 0).toInt) (h1 : (idAt V n 0).toInt < 1000000) :
    @Eq EReal ((V2 V (Proc.devRef .tc main_v2) : S16384x32.Idx → EReal) (ix2 n e')) ((V (Proc.devRef .tc main_arg1) : S1000000x32.Idx → EReal) (ix2 r e')) := by
  have e : V2 V (Proc.devRef .tc main_v2) = StableHlo.after ops1 V (Proc.devRef .tc main_v2) := kept2 (by decide) _
  rw [e]
  refine (v2_at V n e' h0 h1).trans ?_
  refine congrArg (fun z : Fin 1000000 => (V (Proc.devRef .tc main_arg1) : S1000000x32.Idx → EReal) (ix2 z e')) (Fin.ext ?_)
  exact hr

theorem hid1_at (n : Fin 16384) (h : Fin 10) (r : Fin 1000000) (hr : (idAt V n 0).toNat = r.val) (h0 : 0 ≤ (idAt V n 0).toInt) (h1 : (idAt V n 0).toInt < 1000000) :
    @Eq EReal ((V3 V (Proc.devRef .tc main_v10) : S16384x10.Idx → EReal) (ix2 n h))
      (layer (V (Proc.devRef .tc main_arg1)) (V (Proc.devRef .tc main_arg3)) (V (Proc.devRef .tc main_arg4)) r h) := by
  refine (v10_at (V2 V) n h).trans ?_
  rw [V2_kept V (r := main_arg3) (by decide) (by decide), V2_kept V (r := main_arg4) (by decide) (by decide)]
  unfold layer
  refine congrArg (fun z : EReal => max (z + (V (Proc.devRef .tc main_arg4) : S10.Idx → EReal) (ix1 h)) 0) (Finset.sum_congr rfl fun e' _ => ?_)
  exact congrArg (fun z : EReal => z * (V (Proc.devRef .tc main_arg3) : S32x10.Idx → EReal) (ix2 e' h)) (row1_at V n e' r hr h0 h1)

theorem row2_at (n : Fin 16384) (e' : Fin 32) (r : Fin 1000000) (hr : (idAt V n 1).toNat = r.val) (h0 : 0 ≤ (idAt V n 1).toInt) (h1 : (idAt V n 1).toInt < 1000000) :
    @Eq EReal ((V2 V (Proc.devRef .tc main_v5) : S16384x32.Idx → EReal) (ix2 n e')) ((V (Proc.devRef .tc main_arg2) : S1000000x32.Idx → EReal) (ix2 r e')) := by
  have ea : StableHlo.after ops1 V (Proc.devRef .tc main_arg0) = V (Proc.devRef .tc main_arg0) := kept1 (by decide) _
  have et : StableHlo.after ops1 V (Proc.devRef .tc main_arg2) = V (Proc.devRef .tc main_arg2) := kept1 (by decide) _
  refine (v5_at (StableHlo.after ops1 V) n e' (by rw [ea]; exact h0) (by rw [ea]; exact h1)).trans ?_
  rw [et]
  refine congrArg (fun z : Fin 1000000 => (V (Proc.devRef .tc main_arg2) : S1000000x32.Idx → EReal) (ix2 z e')) (Fin.ext ?_)
  show BitVec.toNat _ = _
  rw [ea]; exact hr

theorem hid2_at (n : Fin 16384) (h : Fin 10) (r : Fin 1000000) (hr : (idAt V n 1).toNat = r.val) (h0 : 0 ≤ (idAt V n 1).toInt) (h1 : (idAt V n 1).toInt < 1000000) :
    @Eq EReal ((V3 V (Proc.devRef .tc main_v15) : S16384x10.Idx → EReal) (ix2 n h))
      (layer (V (Proc.devRef .tc main_arg2)) (V (Proc.devRef .tc main_arg5)) (V (Proc.devRef .tc main_arg6)) r h) := by
  refine (v15_at (V2 V) n h).trans ?_
  rw [V2_kept V (r := main_arg5) (by decide) (by decide), V2_kept V (r := main_arg6) (by decide) (by decide)]
  unfold layer
  refine congrArg (fun z : EReal => max (z + (V (Proc.devRef .tc main_arg6) : S10.Idx → EReal) (ix1 h)) 0) (Finset.sum_congr rfl fun e' _ => ?_)
  exact congrArg (fun z : EReal => z * (V (Proc.devRef .tc main_arg5) : S32x10.Idx → EReal) (ix2 e' h)) (row2_at V n e' r hr h0 h1)

theorem out_at (n : Fin 16384) (r1 r2 : Fin 1000000) (hr1 : (idAt V n 0).toNat = r1.val) (hr2 : (idAt V n 1).toNat = r2.val)
    (h : ∀ j, 0 ≤ (idAt V n j).toInt ∧ (idAt V n j).toInt < 1000000) :
    @Eq EReal ((StableHlo.after ops V (Proc.devRef .tc main_v31) : S16384x1.Idx → EReal) (ix2 n 0))
      (answer (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8))
        (V (Proc.devRef .tc main_arg9)) (V (Proc.devRef .tc main_arg10)) r1 r2) := by
  rw [after_ops, ops3_eq, after_two, after_two]
  refine (v31_at (V4 V) n).trans ?_
  rw [V4_kept V (r := main_arg7) (by decide) (by decide) (by decide) (by decide), V4_kept V (r := main_arg8) (by decide) (by decide) (by decide) (by decide), V4_kept V (r := main_arg9) (by decide) (by decide) (by decide) (by decide),
    V4_kept V (r := main_arg10) (by decide) (by decide) (by decide) (by decide)]
  unfold answer
  refine congrArg (fun z : EReal => Ideal.logistic (z + (V (Proc.devRef .tc main_arg10) : S1.Idx → EReal) (ix1 0))) (Finset.sum_congr rfl fun k _ => ?_)
  refine congrArg (fun z : EReal => max (z + (V (Proc.devRef .tc main_arg8) : S10.Idx → EReal) (ix1 k)) 0 * (V (Proc.devRef .tc main_arg9) : S10x1.Idx → EReal) (ix2 k 0)) ?_
  refine (Fin.sum_univ_add (a := 10) (b := 10) fun x : Fin 20 => @HMul.hMul EReal EReal EReal _ ((V4 V (Proc.devRef .tc main_v16) : S16384x20.Idx → EReal) (ix2 n x)) ((V (Proc.devRef .tc main_arg7) : S20x10.Idx → EReal) (ix2 x k))).trans ?_
  refine congr (congrArg (fun a b : EReal => a + b) (Finset.sum_congr rfl fun x _ => ?_)) (Finset.sum_congr rfl fun x _ => ?_)
  · exact congrArg (fun z : EReal => z * (V (Proc.devRef .tc main_arg7) : S20x10.Idx → EReal) (ix2 (Fin.castAdd 10 x) k)) ((v16_lo (V3 V) n x).trans (hid1_at V n x r1 hr1 (h 0).1 (h 0).2))
  · exact congrArg (fun z : EReal => z * (V (Proc.devRef .tc main_arg7) : S20x10.Idx → EReal) (ix2 (Fin.natAdd 10 x) k)) ((v16_hi (V3 V) n x).trans (hid2_at V n x r2 hr2 (h 1).1 (h 1).2))

end R

/-- What the precondition says of each id. -/
theorem pre_ids [hp : Cert.Pre_ids_in_tables.Facts] (m : (ℓ : Loc Cert.KernelIdeal.nD Cert.KernelIdeal.τ Cert.KernelIdeal.sig) → Buf (Elt Ideal) ℓ)
    (h : Cert.Pre_KernelIdeal_ids_in_tables m) (c : Dev Cert.KernelIdeal.nD) (n : Fin 16384) (j : Fin 2) :
    0 ≤ (idAt m c n j).toInt ∧ (idAt m c n j).toInt < 1000000 := by
  have e := congrFun (h c) (ix2 n j)
  unfold Cert.Pre_ids_in_tables.fn at e
  have e1 : IntOp.andi (IntOp.cmpi .sge (idAt m c n j) 0#32) (IntOp.cmpi .slt (idAt m c n j) 1000000#32) = 1#1 := e
  obtain ⟨a, b⟩ := IntOp.andi_eq_one.1 e1
  exact ⟨IntOp.cmpi_sge.1 a, IntOp.cmpi_slt.1 b⟩

section value

open Cert.KernelIdeal

theorem answer_congr {T1 T1' T2 T2' : S1000000x32.Idx → EReal} {w1 w1' : S32x10.Idx → EReal} {b1 b1' : S10.Idx → EReal} {w2 w2' : S32x10.Idx → EReal} {b2 b2' : S10.Idx → EReal}
    {wf wf' : S20x10.Idx → EReal} {bf bf' : S10.Idx → EReal} {wo wo' : S10x1.Idx → EReal} {bo bo' : S1.Idx → EReal} (r1 r2 : Fin 1000000)
    (e1 : T1 = T1') (e2 : T2 = T2') (e3 : w1 = w1') (e4 : b1 = b1') (e5 : w2 = w2') (e6 : b2 = b2') (e7 : wf = wf') (e8 : bf = bf') (e9 : wo = wo') (e10 : bo = bo') :
    answer T1 T2 w1 b1 w2 b2 wf bf wo bo r1 r2 = answer T1' T2' w1' b1' w2' b2' wf' bf' wo' bo' r1 r2 := by
  subst_vars; rfl

variable (m : (ℓ : Loc nD τ sig) → Buf (Elt Ideal) ℓ) (m' : (ℓ : Loc Cert.ReferenceIdeal.nD Cert.ReferenceIdeal.τ Cert.ReferenceIdeal.sig) → Buf (Elt Ideal) ℓ)

theorem row_eq (c : Dev nD) (p : ∀ (n : Fin 16384) (j : Fin 2), 0 ≤ (idAt m c n j).toInt ∧ (idAt m c n j).toInt < 1000000)
    (a0 : ∀ (n : Fin 16384) (j : Fin 2), R.idAt (StableHlo.launchContents m' c) n j = idAt m c n j)
    (a1 : @Eq (S1000000x32.Idx → EReal) (StableHlo.launchContents m' c (Proc.devRef .tc Cert.ReferenceIdeal.main_arg1)) (W0 m c (Proc.devRef .tc main_arg1)))
    (a2 : @Eq (S1000000x32.Idx → EReal) (StableHlo.launchContents m' c (Proc.devRef .tc Cert.ReferenceIdeal.main_arg2)) (W0 m c (Proc.devRef .tc main_arg2)))
    (a3 : @Eq (S32x10.Idx → EReal) (StableHlo.launchContents m' c (Proc.devRef .tc Cert.ReferenceIdeal.main_arg3)) (W0 m c (Proc.devRef .tc main_arg3)))
    (a4 : @Eq (S10.Idx → EReal) (StableHlo.launchContents m' c (Proc.devRef .tc Cert.ReferenceIdeal.main_arg4)) (W0 m c (Proc.devRef .tc main_arg4)))
    (a5 : @Eq (S32x10.Idx → EReal) (StableHlo.launchContents m' c (Proc.devRef .tc Cert.ReferenceIdeal.main_arg5)) (W0 m c (Proc.devRef .tc main_arg5)))
    (a6 : @Eq (S10.Idx → EReal) (StableHlo.launchContents m' c (Proc.devRef .tc Cert.ReferenceIdeal.main_arg6)) (W0 m c (Proc.devRef .tc main_arg6)))
    (a7 : @Eq (S20x10.Idx → EReal) (StableHlo.launchContents m' c (Proc.devRef .tc Cert.ReferenceIdeal.main_arg7)) (W0 m c (Proc.devRef .tc main_arg7)))
    (a8 : @Eq (S10.Idx → EReal) (StableHlo.launchContents m' c (Proc.devRef .tc Cert.ReferenceIdeal.main_arg8)) (W0 m c (Proc.devRef .tc main_arg8)))
    (a9 : @Eq (S10x1.Idx → EReal) (StableHlo.launchContents m' c (Proc.devRef .tc Cert.ReferenceIdeal.main_arg9)) (W0 m c (Proc.devRef .tc main_arg9)))
    (a10 : @Eq (S1.Idx → EReal) (StableHlo.launchContents m' c (Proc.devRef .tc Cert.ReferenceIdeal.main_arg10)) (W0 m c (Proc.devRef .tc main_arg10)))
    (n : Fin 16384) :
    @Eq EReal ((StableHlo.after R.ops (StableHlo.launchContents m' c) (Proc.devRef .tc Cert.ReferenceIdeal.main_v31) : Cert.ReferenceIdeal.S16384x1.Idx → EReal) (ix2 n 0))
      (netAt (fun c b => W5 m c (Proc.devRef .tc b)) c n) := by
  have r := R.out_at (StableHlo.launchContents m' c) n ⟨_, nonneg_toNat (p n 0).1 (p n 0).2⟩ ⟨_, nonneg_toNat (p n 1).1 (p n 1).2⟩
    (congrArg BitVec.toNat (a0 n 0)) (congrArg BitVec.toNat (a0 n 1)) (fun j => by rw [a0]; exact p n j)
  have k := netAt_eq m c n ⟨_, nonneg_toNat (p n 0).1 (p n 0).2⟩ ⟨_, nonneg_toNat (p n 1).1 (p n 1).2⟩ rfl rfl
  exact r.trans ((answer_congr _ _ a1 a2 a3 a4 a5 a6 a7 a8 a9 a10).trans k.symm)

theorem col_ix (i : S16384x1.Idx) : i = ix2 (n0 := 16384) (n1 := 1) (i 0) 0 := by
  funext a
  match a with
  | ⟨0, _⟩ => rfl
  | ⟨1, _⟩ => exact Fin.ext (by have : (i 1).val < 1 := (i 1).isLt; show (i 1).val = 0; omega)

/-- Two columns that agree row by row are one. -/
theorem col_ext (f : S16384x1.Idx → EReal) (g : Fin 16384 → EReal) (h : ∀ n : Fin 16384, f (ix2 n 0) = g n) : f = fun i => g (i 0) := by
  funext i
  exact (congrArg f (col_ix i)).trans (h (i 0))

set_option maxHeartbeats 1000000 in
set_option maxRecDepth 16384 in
theorem alg [hp : Cert.Pre_ids_in_tables.Facts] : Cert.algebraic_KernelIdeal_ReferenceIdeal_pre_ids_in_tables := by
  intro m g m' g' hpre hargs
  refine ⟨fun c => W6 m c (Proc.devRef .tc main_v76),
    (θ_run Cert.KernelIdeal.defs _ _).mono (fun r h c => ⟨h.1 c _ (uc_mem main_v76 rfl), args_same m r.2.mem h.1 c⟩) (run_main (F := Ideal) m g),
    (θ_run Cert.ReferenceIdeal.defs _ _).mono (fun r h c => ⟨(h c Cert.ReferenceIdeal.main_v31).trans ?_, R.args_same m' r.2.mem c (h c)⟩) (R.run_main (F := Ideal) m' g')⟩
  refine Eq.trans ?_ ((W6_out m c).trans (mlp_out_eq (fun c b => W5 m c (Proc.devRef .tc b)) c)).symm
  obtain ⟨a0, a1, a2, a3, a4, a5, a6, a7, a8, a9, a10⟩ := hargs c
  exact col_ext (StableHlo.after R.ops (StableHlo.launchContents m' c) (Proc.devRef .tc Cert.ReferenceIdeal.main_v31)) _
    (row_eq m m' c (fun n j => pre_ids m hpre c n j) (fun n j => congrFun a0 (ix2 n j)) a1 a2 a3 a4 a5 a6 a7 a8 a9 a10)

end value

/-- The frames under the precondition are the frames. -/
theorem frame_ideal_pre [hp : Cert.Pre_ids_in_tables.Facts] : Cert.quiescent_KernelIdeal_pre_ids_in_tables := fun m ρ _ =>
  frame_ideal m ρ trivial
theorem frame_reference_pre [hp : Cert.Pre_ids_in_tables.Facts] : Cert.quiescent_ReferenceIdeal_pre_ids_in_tables := fun m ρ _ =>
  frame_reference m ρ trivial

end Cert.Proof

end
-- ==== Proof.lean ====
/-
  The certificate: the frames of the kernel, of the kernel read at the ideal instance and of the reference, and that the
  kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, pre_facts,
    frame_kernel, frame_ideal, frame_ideal_pre (hp := pre_facts), frame_reference, frame_reference_pre (hp := pre_facts), trivial,
    alg (hp := pre_facts)⟩

end Cert.Proof

end
